-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Kernel2Ideal_finite3 [hPre_finite3 : Cert.Pre_finite3.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite3.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Reference2Ideal_finite3 [hPre_finite3 : Cert.Pre_finite3.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite3.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite4 [hPre_finite4 : Cert.Pre_finite4.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite4.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite4 [hPre_finite4 : Cert.Pre_finite4.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite4.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite3 [hKernel2Ideal : Cert.Kernel2Ideal.Facts] [hPre_finite3 : Cert.Pre_finite3.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite3 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite3 [hReference2Ideal : Cert.Reference2Ideal.Facts] [hPre_finite3 : Cert.Pre_finite3.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite3 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite4 [hKernel3Ideal : Cert.Kernel3Ideal.Facts] [hPre_finite4 : Cert.Pre_finite4.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite4 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite4 [hReference3Ideal : Cert.Reference3Ideal.Facts] [hPre_finite4 : Cert.Pre_finite4.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite4 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)) (v3 : (c : Dev Cert.KernelIdeal.nD) → Buf (Elt Ideal) ((c.tc : Thread Cert.KernelIdeal.nD Cert.KernelIdeal.τ).loc Cert.KernelIdeal.main_v38_3)) (v4 : (c : Dev Cert.KernelIdeal.nD) → Buf (Elt Ideal) ((c.tc : Thread Cert.KernelIdeal.nD Cert.KernelIdeal.τ).loc Cert.KernelIdeal.main_v38_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_v38_3) = v3 c
          ∧ r.2.mem ((c.tc : Thread Cert.KernelIdeal.nD Cert.KernelIdeal.τ).loc Cert.KernelIdeal.main_v38_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v212) = v1 c
          ∧ r.2.mem ((c.tc : Thread Cert.ReferenceIdeal.nD Cert.ReferenceIdeal.τ).loc Cert.ReferenceIdeal.main_v217) = v2 c
          ∧ r.2.mem ((c.tc : Thread Cert.ReferenceIdeal.nD Cert.ReferenceIdeal.τ).loc Cert.ReferenceIdeal.main_v218) = v3 c
          ∧ r.2.mem ((c.tc : Thread Cert.ReferenceIdeal.nD Cert.ReferenceIdeal.τ).loc Cert.ReferenceIdeal.main_v219) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  IdealRules.named_const.Statement Cert.Kernel2Ideal.κ "ln2" .f32 0x3F317218#32 ((Real.log 2 : ℝ) : EReal)

def algebraic_Kernel2Ideal_Reference2Ideal_on_values_grad_pre_finite2 [hKernel2Ideal : Cert.Kernel2Ideal.Facts] [hReference2Ideal : Cert.Reference2Ideal.Facts] [hPre_finite2 : Cert.Pre_finite2.Facts] [hOn_values_grad : Cert.On_values_grad.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v47_0)) (v1 : (c : Dev Cert.Kernel2Ideal.nD) → Buf (Elt Ideal) ((c.tc : Thread Cert.Kernel2Ideal.nD Cert.Kernel2Ideal.τ).loc Cert.Kernel2Ideal.main_v47_1)) (v2 : (c : Dev Cert.Kernel2Ideal.nD) → Buf (Elt Ideal) ((c.tc : Thread Cert.Kernel2Ideal.nD Cert.Kernel2Ideal.τ).loc Cert.Kernel2Ideal.main_v47_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![8, 128, 8192]⟩ : Shape).Idx, (Cert.On_values_grad.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 i = 1#1 → r.2.mem ((c.tc : Thread Cert.Kernel2Ideal.nD Cert.Kernel2Ideal.τ).loc Cert.Kernel2Ideal.main_v47_0) i = v0 c i)
          ∧ (∀ i : (⟨3, ![8, 8192, 128]⟩ : Shape).Idx, (Cert.On_values_grad.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 i = 1#1 → r.2.mem ((c.tc : Thread Cert.Kernel2Ideal.nD Cert.Kernel2Ideal.τ).loc Cert.Kernel2Ideal.main_v47_1) i = v1 c i)
          ∧ (∀ i : (⟨3, ![8, 8192, 128]⟩ : Shape).Idx, (Cert.On_values_grad.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 i = 1#1 → r.2.mem ((c.tc : Thread Cert.Kernel2Ideal.nD Cert.Kernel2Ideal.τ).loc Cert.Kernel2Ideal.main_v47_2) i = v2 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![8, 128, 8192]⟩ : Shape).Idx, (Cert.On_values_grad.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 i = 1#1 → r.2.mem ((c.tc : Thread Cert.Reference2Ideal.nD Cert.Reference2Ideal.τ).loc Cert.Reference2Ideal.main_v64) i = v0 c i)
          ∧ (∀ i : (⟨3, ![8, 8192, 128]⟩ : Shape).Idx, (Cert.On_values_grad.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 i = 1#1 → r.2.mem ((c.tc : Thread Cert.Reference2Ideal.nD Cert.Reference2Ideal.τ).loc Cert.Reference2Ideal.main_v66) i = v1 c i)
          ∧ (∀ i : (⟨3, ![8, 8192, 128]⟩ : Shape).Idx, (Cert.On_values_grad.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 i = 1#1 → r.2.mem ((c.tc : Thread Cert.Reference2Ideal.nD Cert.Reference2Ideal.τ).loc Cert.Reference2Ideal.main_v68) i = v2 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def algebraic_Kernel2Ideal_Reference2Ideal_pre_finite3 [hKernel2Ideal : Cert.Kernel2Ideal.Facts] [hReference2Ideal : Cert.Reference2Ideal.Facts] [hPre_finite3 : Cert.Pre_finite3.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite3 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v47_0)) (v1 : (c : Dev Cert.Kernel2Ideal.nD) → Buf (Elt Ideal) ((c.tc : Thread Cert.Kernel2Ideal.nD Cert.Kernel2Ideal.τ).loc Cert.Kernel2Ideal.main_v47_1)) (v2 : (c : Dev Cert.Kernel2Ideal.nD) → Buf (Elt Ideal) ((c.tc : Thread Cert.Kernel2Ideal.nD Cert.Kernel2Ideal.τ).loc Cert.Kernel2Ideal.main_v47_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47_0) = v0 c
          ∧ r.2.mem ((c.tc : Thread Cert.Kernel2Ideal.nD Cert.Kernel2Ideal.τ).loc Cert.Kernel2Ideal.main_v47_1) = v1 c
          ∧ r.2.mem ((c.tc : Thread Cert.Kernel2Ideal.nD Cert.Kernel2Ideal.τ).loc Cert.Kernel2Ideal.main_v47_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v68) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "log2e" .f32 0x3FB8AA3B#32 (((Real.log 2)⁻¹ : ℝ) : EReal)

def algebraic_Kernel3Ideal_Reference3Ideal_pre_finite4 [hKernel3Ideal : Cert.Kernel3Ideal.Facts] [hReference3Ideal : Cert.Reference3Ideal.Facts] [hPre_finite4 : Cert.Pre_finite4.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite4 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts) (hPre_finite3 : Cert.Pre_finite3.Facts) (hPre_finite4 : Cert.Pre_finite4.Facts) (hOn_values_grad : Cert.On_values_grad.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Kernel2Ideal_pre_finite3 (hKernel2Ideal := hKernel2Ideal) (hPre_finite3 := hPre_finite3)
    ∧ quiescent_Reference2Ideal (hReference2Ideal := hReference2Ideal)
    ∧ quiescent_Reference2Ideal_pre_finite2 (hReference2Ideal := hReference2Ideal) (hPre_finite2 := hPre_finite2)
    ∧ quiescent_Reference2Ideal_pre_finite3 (hReference2Ideal := hReference2Ideal) (hPre_finite3 := hPre_finite3)
    ∧ quiescent_Kernel3 (hKernel3 := hKernel3)
    ∧ quiescent_Kernel3Ideal (hKernel3Ideal := hKernel3Ideal)
    ∧ quiescent_Kernel3Ideal_pre_finite4 (hKernel3Ideal := hKernel3Ideal) (hPre_finite4 := hPre_finite4)
    ∧ quiescent_Reference3Ideal (hReference3Ideal := hReference3Ideal)
    ∧ quiescent_Reference3Ideal_pre_finite4 (hReference3Ideal := hReference3Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_values_grad_pre_finite2 (hKernel2Ideal := hKernel2Ideal) (hReference2Ideal := hReference2Ideal) (hPre_finite2 := hPre_finite2) (hOn_values_grad := hOn_values_grad)
    ∧ algebraic_Kernel2Ideal_Reference2Ideal_pre_finite3 (hKernel2Ideal := hKernel2Ideal) (hReference2Ideal := hReference2Ideal) (hPre_finite3 := hPre_finite3)
    ∧ preserves_Kernel3_Kernel3Ideal
    ∧ algebraic_Kernel3Ideal_Reference3Ideal_pre_finite4 (hKernel3Ideal := hKernel3Ideal) (hReference3Ideal := hReference3Ideal) (hPre_finite4 := hPre_finite4)
-- ==== On_values_grad.lean ====
abbrev S8192x8x96 : Shape := ⟨3, ![8192, 8, 96]⟩
abbrev S8192x8x64 : Shape := ⟨3, ![8192, 8, 64]⟩
abbrev S_ : Shape := ⟨0, ![]⟩
abbrev S8x128x8192 : Shape := ⟨3, ![8, 128, 8192]⟩
abbrev S8x8192x128 : Shape := ⟨3, ![8, 8192, 128]⟩

class Facts : Prop where
  bcast_S_S8x128x8192 : S_.BroadcastsInDim S8x128x8192 (![] : Fin 0 → Fin S8x128x8192.rank)
  bcast_S_S8x8192x128 : S_.BroadcastsInDim S8x8192x128 (![] : Fin 0 → Fin S8x8192x128.rank)

variable [Facts]

def fn {F : FTy → Type} [FloatOps F] (main_arg0 : FVec F S8192x8x96 .f32) (main_arg1 : FVec F S8192x8x96 .f32) (main_arg2 : FVec F S8192x8x64 .f32) (main_arg3 : FVec F S8192x8x64 .f32) : IVec S8x128x8192 1 × IVec S8x8192x128 1 × IVec S8x8192x128 1 :=
  let main_c : IVec S_ 1 := constantI S_ 1 0#1
  let main_v0 : IVec S8x128x8192 1 := broadcastInDim S8x128x8192 ![] bcast_S_S8x128x8192 main_c
  let main_c_0 : IVec S_ 1 := constantI S_ 1 0#1
  let main_v1 : IVec S8x8192x128 1 := broadcastInDim S8x8192x128 ![] bcast_S_S8x8192x128 main_c_0
  let main_c_1 : IVec S_ 1 := constantI S_ 1 1#1
  let main_v2 : IVec S8x8192x128 1 := broadcastInDim S8x8192x128 ![] bcast_S_S8x8192x128 main_c_1
  (main_v0, main_v1, main_v2)
-- ==== Pre_finite.lean ====
abbrev S8192x1024 : Shape := ⟨2, ![8192, 1024]⟩
abbrev S8192 : Shape := ⟨1, ![8192]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8192x8x96 : Shape := ⟨3, ![8192, 8, 96]⟩
abbrev S8192x8x64 : Shape := ⟨3, ![8192, 8, 64]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2464 : S_.BroadcastsInDim S1024x2464 (![] : Fin 0 → Fin S1024x2464.rank)
  reducesTo_S1024x2464_S_d0_1 : S1024x2464.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S128 : S_.BroadcastsInDim S128 (![] : Fin 0 → Fin S128.rank)
  reducesTo_S128_S_d0 : S128.ReducesTo [0] S_
  bcast_S_S128x1024 : S_.BroadcastsInDim S128x1024 (![] : Fin 0 → Fin S128x1024.rank)
  reducesTo_S128x1024_S_d0_1 : S128x1024.ReducesTo [0, 1] S_
  bcast_S_S8192x8x96 : S_.BroadcastsInDim S8192x8x96 (![] : Fin 0 → Fin S8192x8x96.rank)
  reducesTo_S8192x8x96_S_d0_1_2 : S8192x8x96.ReducesTo [0, 1, 2] S_
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn_part2 {F : FTy → Type} [FloatOps F] (main_arg9 : FVec F S8192x8x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S8192x8x64 .f32 := Host.absf main_arg9
  let main_cst_14 : FVec F S_ .f32 := constant S_ .f32 0x7F800000#32
  let main_v33 : FVec F S8192x8x64 .f32 := broadcastInDim S8192x8x64 ![] bcast_S_S8192x8x64 main_cst_14
  let main_v34 : IVec S8192x8x64 1 := cmpf .olt main_v32 main_v33
  let main_c_15 : IVec S_ 1 := constantI S_ 1 1#1
  let main_v35 : IVec S_ 1 := (fun x v => Host.reduce IntOp.andi x v reducesTo_S8192x8x64_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg5 : FVec F S128 .f32) (main_arg6 : FVec F S128x1024 .f32) (main_arg7 : FVec F S8192x8x96 .f32) (main_arg8 : FVec F S8192x8x96 .f32) (main_arg9 : FVec F S8192x8x64 .f32) (main_v3 : IVec S_ 1) (main_v7 : IVec S_ 1) (main_v11 : IVec S_ 1) (main_v15 : IVec S_ 1) : IVec S_ 1 :=
  let main_v16 : FVec F S128 .f32 := Host.absf main_arg5
  let main_cst_6 : FVec F S_ .f32 := constant S_ .f32 0x7F800000#32
  let main_v17 : FVec F S128 .f32 := broadcastInDim S128 ![] bcast_S_S128 main_cst_6
  let main_v18 : IVec S128 1 := cmpf .olt main_v16 main_v17
  let main_c_7 : IVec S_ 1 := constantI S_ 1 1#1
  let main_v19 : IVec S_ 1 := (fun x v => Host.reduce IntOp.andi x v reducesTo_S128_S_d0 h_S_) main_v18 main_c_7
  let main_v20 : FVec F S128x1024 .f32 := Host.absf main_arg6
  let main_cst_8 : FVec F S_ .f32 := constant S_ .f32 0x7F800000#32
  let main_v21 : FVec F S128x1024 .f32 := broadcastInDim S128x1024 ![] bcast_S_S128x1024 main_cst_8
  let main_v22 : IVec S128x1024 1 := cmpf .olt main_v20 main_v21
  let main_c_9 : IVec S_ 1 := constantI S_ 1 1#1
  let main_v23 : IVec S_ 1 := (fun x v => Host.reduce IntOp.andi x v reducesTo_S128x1024_S_d0_1 h_S_) main_v22 main_c_9
  let main_v24 : FVec F S8192x8x96 .f32 := Host.absf main_arg7
  let main_cst_10 : FVec F S_ .f32 := constant S_ .f32 0x7F800000#32
  let main_v25 : FVec F S8192x8x96 .f32 := broadcastInDim S8192x8x96 ![] bcast_S_S8192x8x96 main_cst_10
  let main_v26 : IVec S8192x8x96 1 := cmpf .olt main_v24 main_v25
  let main_c_11 : IVec S_ 1 := constantI S_ 1 1#1
  let main_v27 : IVec S_ 1 := (fun x v => Host.reduce IntOp.andi x v reducesTo_S8192x8x96_S_d0_1_2 h_S_) main_v26 main_c_11
  let main_v28 : FVec F S8192x8x96 .f32 := Host.absf main_arg8
  let main_cst_12 : FVec F S_ .f32 := constant S_ .f32 0x7F800000#32
  let main_v29 : FVec F S8192x8x96 .f32 := broadcastInDim S8192x8x96 ![] bcast_S_S8192x8x96 main_cst_12
  let main_v30 : IVec S8192x8x96 1 := cmpf .olt main_v28 main_v29
  let main_c_13 : IVec S_ 1 := constantI S_ 1 1#1
  let main_v31 : IVec S_ 1 := (fun x v => Host.reduce IntOp.andi x v reducesTo_S8192x8x96_S_d0_1_2 h_S_) main_v30 main_c_13
  fn_part2 (F := F) main_arg9 main_v3 main_v7 main_v11 main_v15 main_v19 main_v23 main_v27 main_v31

def fn {F : FTy → Type} [FloatOps F] (main_arg0 : FVec F S8192x1024 .f32) (main_arg1 : IVec S8192 32) (main_arg2 : FVec F S1024x2464 .f32) (main_arg3 : FVec F S256 .f32) (main_arg4 : FVec F S256x768 .f32) (main_arg5 : FVec F S128 .f32) (main_arg6 : FVec F S128x1024 .f32) (main_arg7 : FVec F S8192x8x96 .f32) (main_arg8 : FVec F S8192x8x96 .f32) (main_arg9 : FVec F S8192x8x64 .f32) (main_arg10 : FVec F S8192x1024 .f32) (main_arg11 : FVec F S8192x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2464 .f32 := Host.absf main_arg2
  let main_cst_0 : FVec F S_ .f32 := constant S_ .f32 0x7F800000#32
  let main_v5 : FVec F S1024x2464 .f32 := broadcastInDim S1024x2464 ![] bcast_S_S1024x2464 main_cst_0
  let main_v6 : IVec S1024x2464 1 := cmpf .olt main_v4 main_v5
  let main_c_1 : IVec S_ 1 := constantI S_ 1 1#1
  let main_v7 : IVec S_ 1 := (fun x v => Host.reduce IntOp.andi x v reducesTo_S1024x2464_S_d0_1 h_S_) main_v6 main_c_1
  let main_v8 : FVec F S256 .f32 := Host.absf main_arg3
  let main_cst_2 : FVec F S_ .f32 := constant S_ .f32 0x7F800000#32
  let main_v9 : FVec F S256 .f32 := broadcastInDim S256 ![] bcast_S_S256 main_cst_2
  let main_v10 : IVec S256 1 := cmpf .olt main_v8 main_v9
  let main_c_3 : IVec S_ 1 := constantI S_ 1 1#1
  let main_v11 : IVec S_ 1 := (fun x v => Host.reduce IntOp.andi x v reducesTo_S256_S_d0 h_S_) main_v10 main_c_3
  let main_v12 : FVec F S256x768 .f32 := Host.absf main_arg4
  let main_cst_4 : FVec F S_ .f32 := constant S_ .f32 0x7F800000#32
  let main_v13 : FVec F S256x768 .f32 := broadcastInDim S256x768 ![] bcast_S_S256x768 main_cst_4
  let main_v14 : IVec S256x768 1 := cmpf .olt main_v12 main_v13
  let main_c_5 : IVec S_ 1 := constantI S_ 1 1#1
  let main_v15 : IVec S_ 1 := (fun x v => Host.reduce IntOp.andi x v reducesTo_S256x768_S_d0_1 h_S_) main_v14 main_c_5
  fn_part1 (F := F) main_arg5 main_arg6 main_arg7 main_arg8 main_arg9 main_v3 main_v7 main_v11 main_v15
-- ==== Pre_finite2.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel

variable [Facts]

def fn {F : FTy → Type} [FloatOps F] (main_arg0 : FVec F S8192x8x96 .f32) (main_arg1 : FVec F S8192x8x96 .f32) (main_arg2 : FVec F S8192x8x64 .f32) (main_arg3 : FVec F S8192x8x64 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : IVec S_ 1 := andi main_v3 main_v7
  main_v8
-- ==== Pre_finite3.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x8x96 .f32) (main_arg1 : FVec F S8192x8x96 .f32) (main_arg2 : FVec F S8192x8x64 .f32) (main_arg3 : FVec F S8192x8x64 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : FVec F S8192x8x64 .f32 := Host.absf main_arg2
  let main_cst_2 : FVec F S_ .f32 := constant S_ .f32 0x7F800000#32
  let main_v9 : FVec F S8192x8x64 .f32 := broadcastInDim S8192x8x64 ![] bcast_S_S8192x8x64 main_cst_2
  let main_v10 : IVec S8192x8x64 1 := cmpf .olt main_v8 main_v9
  let main_c_3 : IVec S_ 1 := constantI S_ 1 1#1
  let main_v11 : IVec S_ 1 := (fun x v => Host.reduce IntOp.andi x v reducesTo_S8192x8x64_S_d0_1_2 h_S_) main_v10 main_c_3
  let main_v12 : FVec F S8192x8x64 .f32 := Host.absf main_arg3
  let main_cst_4 : FVec F S_ .f32 := constant S_ .f32 0x7F800000#32
  let main_v13 : FVec F S8192x8x64 .f32 := broadcastInDim S8192x8x64 ![] bcast_S_S8192x8x64 main_cst_4
  let main_v14 : IVec S8192x8x64 1 := cmpf .olt main_v12 main_v13
  let main_c_5 : IVec S_ 1 := constantI S_ 1 1#1
  let main_v15 : IVec S_ 1 := (fun x v => Host.reduce IntOp.andi x v reducesTo_S8192x8x64_S_d0_1_2 h_S_) main_v14 main_c_5
  fn_part1 (F := F) main_v3 main_v7 main_v11 main_v15
-- ==== Pre_finite4.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn {F : FTy → Type} [FloatOps F] (main_arg0 : FVec F S8192x8x96 .f32) (main_arg1 : FVec F S8192x8x96 .f32) (main_arg2 : FVec F S8192x8x64 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : FVec F S8192x8x64 .f32 := Host.absf main_arg2
  let main_cst_2 : FVec F S_ .f32 := constant S_ .f32 0x7F800000#32
  let main_v9 : FVec F S8192x8x64 .f32 := broadcastInDim S8192x8x64 ![] bcast_S_S8192x8x64 main_cst_2
  let main_v10 : IVec S8192x8x64 1 := cmpf .olt main_v8 main_v9
  let main_c_3 : IVec S_ 1 := constantI S_ 1 1#1
  let main_v11 : IVec S_ 1 := (fun x v => Host.reduce IntOp.andi x v reducesTo_S8192x8x64_S_d0_1_2 h_S_) main_v10 main_c_3
  let main_v12 : IVec S_ 1 := andi main_v3 main_v7
  let main_v13 : IVec S_ 1 := andi main_v12 main_v11
  main_v13
-- ==== Kernel.lean ====
abbrev S8192x1024 : Shape := ⟨2, ![8192, 1024]⟩
abbrev S8192 : Shape := ⟨1, ![8192]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8192x8x96 : Shape := ⟨3, ![8192, 8, 96]⟩
abbrev S8192x8x64 : Shape := ⟨3, ![8192, 8, 64]⟩
abbrev S8192x2048 : Shape := ⟨2, ![8192, 2048]⟩
abbrev S16 : Shape := ⟨1, ![16]⟩
abbrev S_ : Shape := ⟨0, ![]⟩
abbrev S16x1 : Shape := ⟨2, ![16, 1]⟩
abbrev S1x8192 : Shape := ⟨2, ![1, 8192]⟩
abbrev S1024x384 : Shape := ⟨2, ![1024, 384]⟩
abbrev S1024x64 : Shape := ⟨2, ![1024, 64]⟩
abbrev S1024x32 : Shape := ⟨2, ![1024, 32]⟩
abbrev S1024x2048 : Shape := ⟨2, ![1024, 2048]⟩
abbrev S1024x2560 : Shape := ⟨2, ![1024, 2560]⟩
abbrev S8192x2464 : Shape := ⟨2, ![8192, 2464]⟩
abbrev S8192x384 : Shape := ⟨2, ![8192, 384]⟩
abbrev S8192x64 : Shape := ⟨2, ![8192, 64]⟩
abbrev S8192x32 : Shape := ⟨2, ![8192, 32]⟩
abbrev S8192x2560 : Shape := ⟨2, ![8192, 2560]⟩
abbrev S256x8x96 : Shape := ⟨3, ![256, 8, 96]⟩
abbrev S256x8x128 : Shape := ⟨3, ![256, 8, 128]⟩
abbrev S128x8x128 : Shape := ⟨3, ![128, 8, 128]⟩
abbrev S384x8x128 : Shape := ⟨3, ![384, 8, 128]⟩
abbrev S8x384x128 : Shape := ⟨3, ![8, 384, 128]⟩
abbrev S8192x8x128 : Shape := ⟨3, ![8192, 8, 128]⟩
abbrev S8x128x8192 : Shape := ⟨3, ![8, 128, 8192]⟩
abbrev S8x8192x128 : Shape := ⟨3, ![8, 8192, 128]⟩
abbrev S1x256 : Shape := ⟨2, ![1, 256]⟩
abbrev S1x128 : Shape := ⟨2, ![1, 128]⟩
abbrev S8x128x512 : Shape := ⟨3, ![8, 128, 512]⟩
abbrev S8x512x128 : Shape := ⟨3, ![8, 512, 128]⟩
abbrev S512x512 : Shape := ⟨2, ![512, 512]⟩
abbrev S1x512 : Shape := ⟨2, ![1, 512]⟩
abbrev S512x1024 : Shape := ⟨2, ![512, 1024]⟩
abbrev S512x2048 : Shape := ⟨2, ![512, 2048]⟩
abbrev S16x512 : Shape := ⟨2, ![16, 512]⟩
abbrev S64x512 : Shape := ⟨2, ![64, 512]⟩
abbrev S32x512 : Shape := ⟨2, ![32, 512]⟩
abbrev S128x512 : Shape := ⟨2, ![128, 512]⟩
abbrev S48x512 : Shape := ⟨2, ![48, 512]⟩
abbrev S80x512 : Shape := ⟨2, ![80, 512]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x128x512 : Shape := ⟨3, ![1, 128, 512]⟩
abbrev S1x512x128 : Shape := ⟨3, ![1, 512, 128]⟩
abbrev S256x1024 : Shape := ⟨2, ![256, 1024]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S1024x512 : Shape := ⟨2, ![1024, 512]⟩

abbrev nBuf : Space → Nat
  | .hbm => 70
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1024x2464, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x1024, .f32⟩
  | .hbm, ⟨7, _⟩ => ⟨S8192x8x96, .f32⟩
  | .hbm, ⟨8, _⟩ => ⟨S8192x8x96, .f32⟩
  | .hbm, ⟨9, _⟩ => ⟨S8192x8x64, .f32⟩
  | .hbm, ⟨10, _⟩ => ⟨S8192x1024, .f32⟩
  | .hbm, ⟨11, _⟩ => ⟨S8192x2048, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16x1, .f32⟩
  | .hbm, ⟨23, _⟩ => ⟨S1x8192, .i32⟩
  | .hbm, ⟨24, _⟩ => ⟨S1024x384, .f32⟩
  | .hbm, ⟨25, _⟩ => ⟨S_, .f32⟩
  | .hbm, ⟨26, _⟩ => ⟨S1024x64, .f32⟩
  | .hbm, ⟨27, _⟩ => ⟨S1024x32, .f32⟩
  | .hbm, ⟨28, _⟩ => ⟨S_, .f32⟩
  | .hbm, ⟨29, _⟩ => ⟨S1024x32, .f32⟩
  | .hbm, ⟨30, _⟩ => ⟨S1024x2048, .f32⟩
  | .hbm, ⟨31, _⟩ => ⟨S1024x2560, .f32⟩
  | .hbm, ⟨32, _⟩ => ⟨S1024x2560, .bf16⟩
  | .hbm, ⟨33, _⟩ => ⟨S8192x2464, .f32⟩
  | .hbm, ⟨34, _⟩ => ⟨S8192x384, .f32⟩
  | .hbm, ⟨35, _⟩ => ⟨S_, .f32⟩
  | .hbm, ⟨36, _⟩ => ⟨S8192x64, .f32⟩
  | .hbm, ⟨37, _⟩ => ⟨S8192x32, .f32⟩
  | .hbm, ⟨38, _⟩ => ⟨S_, .f32⟩
  | .hbm, ⟨39, _⟩ => ⟨S8192x32, .f32⟩
  | .hbm, ⟨40, _⟩ => ⟨S8192x2048, .f32⟩
  | .hbm, ⟨41, _⟩ => ⟨S8192x2560, .f32⟩
  | .hbm, ⟨42, _⟩ => ⟨S256x8x96, .f32⟩
  | .hbm, ⟨43, _⟩ => ⟨S_, .i32⟩
  | .hbm, ⟨44, _⟩ => ⟨S_, .f32⟩
  | .hbm, ⟨45, _⟩ => ⟨S256x8x128, .f32⟩
  | .hbm, ⟨46, _⟩ => ⟨S128x8x128, .f32⟩
  | .hbm, ⟨47, _⟩ => ⟨S384x8x128, .f32⟩
  | .hbm, ⟨48, _⟩ => ⟨S8x384x128, .f32⟩
  | .hbm, ⟨49, _⟩ => ⟨S8x384x128, .bf16⟩
  | .hbm, ⟨50, _⟩ => ⟨S_, .i32⟩
  | .hbm, ⟨51, _⟩ => ⟨S_, .f32⟩
  | .hbm, ⟨52, _⟩ => ⟨S8192x8x128, .f32⟩
  | .hbm, ⟨53, _⟩ => ⟨S8x128x8192, .f32⟩
  | .hbm, ⟨54, _⟩ => ⟨S_, .i32⟩
  | .hbm, ⟨55, _⟩ => ⟨S_, .f32⟩
  | .hbm, ⟨56, _⟩ => ⟨S8192x8x128, .f32⟩
  | .hbm, ⟨57, _⟩ => ⟨S8x8192x128, .f32⟩
  | .hbm, ⟨58, _⟩ => ⟨S_, .i32⟩
  | .hbm, ⟨59, _⟩ => ⟨S_, .f32⟩
  | .hbm, ⟨60, _⟩ => ⟨S8192x8x128, .f32⟩
  | .hbm, ⟨61, _⟩ => ⟨S8x8192x128, .f32⟩
  | .hbm, ⟨62, _⟩ => ⟨S1x256, .f32⟩
  | .hbm, ⟨63, _⟩ => ⟨S1x128, .f32⟩
  | .hbm, ⟨64, _⟩ => ⟨S8192x2048, .bf16⟩
  | .hbm, ⟨65, _⟩ => ⟨S8192x1024, .f32⟩
  | .hbm, ⟨66, _⟩ => ⟨S1024x2560, .f32⟩
  | .hbm, ⟨67, _⟩ => ⟨S8x384x128, .f32⟩
  | .hbm, ⟨68, _⟩ => ⟨S1x256, .f32⟩
  | .hbm, ⟨69, _⟩ => ⟨S1x128, .f32⟩
  | .local _ .vmem, ⟨0, _⟩ => ⟨S8x128x512, .f32⟩
  | .local _ .vmem, ⟨1, _⟩ => ⟨S8x128x512, .f32⟩
  | .local _ .vmem, ⟨2, _⟩ => ⟨S8x512x128, .f32⟩
  | .local _ .vmem, ⟨3, _⟩ => ⟨S8x512x128, .f32⟩
  | .local _ .vmem, ⟨4, _⟩ => ⟨S8x512x128, .f32⟩
  | .local _ .vmem, ⟨5, _⟩ => ⟨S8x512x128, .f32⟩
  | .local _ .vmem, ⟨6, _⟩ => ⟨S512x512, .f32⟩
  | .local _ .vmem, ⟨7, _⟩ => ⟨S512x512, .f32⟩
  | .local _ .vmem, ⟨8, _⟩ => ⟨S1x512, .i32⟩
  | .local _ .vmem, ⟨9, _⟩ => ⟨S1x512, .i32⟩
  | .local _ .vmem, ⟨10, _⟩ => ⟨S16x1, .f32⟩
  | .local _ .vmem, ⟨11, _⟩ => ⟨S8x384x128, .bf16⟩
  | .local _ .vmem, ⟨12, _⟩ => ⟨S1x256, .f32⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x2048, .bf16⟩
  | .local _ .vmem, ⟨19, _⟩ => ⟨S512x2048, .bf16⟩
  | .local _ .vmem, ⟨20, _⟩ => ⟨S1024x2560, .bf16⟩
  | .local _ .vmem, ⟨21, _⟩ => ⟨S512x1024, .f32⟩
  | .local _ .vmem, ⟨22, _⟩ => ⟨S512x1024, .f32⟩
  | .local _ .vmem, ⟨23, _⟩ => ⟨S1024x2560, .f32⟩
  | .local _ .vmem, ⟨24, _⟩ => ⟨S8x384x128, .f32⟩
  | .local _ .vmem, ⟨25, _⟩ => ⟨S1x256, .f32⟩
  | .local _ .vmem, ⟨26, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c : Ref sig .tc := ⟨.hbm, 43, rfl⟩
abbrev main_call0_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_call1_v0 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_call2_v0 : Ref sig .tc := ⟨.hbm, 55, rfl⟩
abbrev main_v31 : Ref sig .tc := ⟨.hbm, 56, rfl⟩
abbrev main_v32 : Ref sig .tc := ⟨.hbm, 57, rfl⟩
abbrev main_c_8 : Ref sig .tc := ⟨.hbm, 58, rfl⟩
abbrev main_call3_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38_0 : Ref sig .tc := ⟨.hbm, 65, rfl⟩
abbrev main_v38_1 : Ref sig .tc := ⟨.hbm, 66, rfl⟩
abbrev main_v38_2 : Ref sig .tc := ⟨.hbm, 67, rfl⟩
abbrev main_v38_3 : Ref sig .tc := ⟨.hbm, 68, rfl⟩
abbrev main_v38_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x384x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x2560 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x2560 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x384x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S8192x1024 : Shape := ⟨2, ![8192, 1024]⟩
abbrev S8192 : Shape := ⟨1, ![8192]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8192x8x96 : Shape := ⟨3, ![8192, 8, 96]⟩
abbrev S8192x8x64 : Shape := ⟨3, ![8192, 8, 64]⟩
abbrev S8192x2048 : Shape := ⟨2, ![8192, 2048]⟩
abbrev S8192x2464 : Shape := ⟨2, ![8192, 2464]⟩
abbrev S8192x256 : Shape := ⟨2, ![8192, 256]⟩
abbrev S8192x128 : Shape := ⟨2, ![8192, 128]⟩
abbrev S8192x32 : Shape := ⟨2, ![8192, 32]⟩
abbrev S_ : Shape := ⟨0, ![]⟩
abbrev S8192x1 : Shape := ⟨2, ![8192, 1]⟩
abbrev S1x256 : Shape := ⟨2, ![1, 256]⟩
abbrev S8192x768 : Shape := ⟨2, ![8192, 768]⟩
abbrev S8192x8x32 : Shape := ⟨3, ![8192, 8, 32]⟩
abbrev S16 : Shape := ⟨1, ![16]⟩
abbrev S1x16 : Shape := ⟨2, ![1, 16]⟩
abbrev S8192x16 : Shape := ⟨2, ![8192, 16]⟩
abbrev S8192x1x16 : Shape := ⟨3, ![8192, 1, 16]⟩
abbrev S8192x8x16 : Shape := ⟨3, ![8192, 8, 16]⟩
abbrev S1x128 : Shape := ⟨2, ![1, 128]⟩
abbrev S8192x8x128 : Shape := ⟨3, ![8192, 8, 128]⟩
abbrev S8192x1x32 : Shape := ⟨3, ![8192, 1, 32]⟩
abbrev S1024x128 : Shape := ⟨2, ![1024, 128]⟩
abbrev S768x256 : Shape := ⟨2, ![768, 256]⟩
abbrev S2464x1024 : Shape := ⟨2, ![2464, 1024]⟩
abbrev S1024x384 : Shape := ⟨2, ![1024, 384]⟩
abbrev S1024x64 : Shape := ⟨2, ![1024, 64]⟩
abbrev S1024x32 : Shape := ⟨2, ![1024, 32]⟩
abbrev S1024x2048 : Shape := ⟨2, ![1024, 2048]⟩
abbrev S1024x2560 : Shape := ⟨2, ![1024, 2560]⟩
abbrev S256x8x96 : Shape := ⟨3, ![256, 8, 96]⟩
abbrev S256x8x128 : Shape := ⟨3, ![256, 8, 128]⟩
abbrev S128x8x128 : Shape := ⟨3, ![128, 8, 128]⟩
abbrev S384x8x128 : Shape := ⟨3, ![384, 8, 128]⟩
abbrev S8x384x128 : Shape := ⟨3, ![8, 384, 128]⟩

abbrev nBuf : Space → Nat
  | .hbm => 274
  | .vmem => 0
  | .smem => 0
  | _ => 0

abbrev hbmTy0_0 (i : Nat) : BufTy := match i % 128 with
  | 0 => ⟨S8192x1024, .f32⟩
  | 1 => ⟨S8192, .i32⟩
  | 2 => ⟨S1024x2464, .f32⟩
  | 3 => ⟨S256, .f32⟩
  | 4 => ⟨S256x768, .f32⟩
  | 5 => ⟨S128, .f32⟩
  | 6 => ⟨S128x1024, .f32⟩
  | 7 => ⟨S8192x8x96, .f32⟩
  | 8 => ⟨S8192x8x96, .f32⟩
  | 9 => ⟨S8192x8x64, .f32⟩
  | 10 => ⟨S8192x1024, .f32⟩
  | 11 => ⟨S8192x2048, .f32⟩
  | 12 => ⟨S8192x2464, .f32⟩
  | 13 => ⟨S8192x256, .f32⟩
  | 14 => ⟨S8192x128, .f32⟩
  | 15 => ⟨S8192x32, .f32⟩
  | 16 => ⟨S8192x2048, .f32⟩
  | 17 => ⟨S8192x256, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1, .f32⟩
  | 28 => ⟨S8192x1, .f32⟩
  | 29 => ⟨S_, .f32⟩
  | 30 => ⟨S8192x1, .f32⟩
  | 31 => ⟨S8192x1, .f32⟩
  | 32 => ⟨S8192x256, .f32⟩
  | 33 => ⟨S8192x256, .f32⟩
  | 34 => ⟨S1x256, .f32⟩
  | 35 => ⟨S8192x256, .f32⟩
  | 36 => ⟨S8192x256, .f32⟩
  | 37 => ⟨S8192x768, .f32⟩
  | 38 => ⟨S8192x8x96, .f32⟩
  | 39 => ⟨S8192x8x64, .f32⟩
  | 40 => ⟨S8192x8x32, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S8192, .f32⟩
  | 52 => ⟨S8192x1, .f32⟩
  | 53 => ⟨S1x16, .f32⟩
  | 54 => ⟨S8192x16, .f32⟩
  | 55 => ⟨S8192x16, .f32⟩
  | 56 => ⟨S8192x16, .f32⟩
  | 57 => ⟨S8192x16, .f32⟩
  | 58 => ⟨S8192x1x16, .f32⟩
  | 59 => ⟨S8192x16, .f32⟩
  | 60 => ⟨S8192x1x16, .f32⟩
  | 61 => ⟨S8192x8x16, .f32⟩
  | 62 => ⟨S8192x8x16, .f32⟩
  | 63 => ⟨S8192x8x16, .f32⟩
  | 64 => ⟨S8192x8x16, .f32⟩
  | 65 => ⟨S8192x8x16, .f32⟩
  | 66 => ⟨S8192x8x16, .f32⟩
  | 67 => ⟨S8192x8x16, .f32⟩
  | 68 => ⟨S8192x8x16, .f32⟩
  | 69 => ⟨S8192x8x16, .f32⟩
  | 70 => ⟨S8192x8x16, .f32⟩
  | 71 => ⟨S8192x8x16, .f32⟩
  | 72 => ⟨S8192x8x16, .f32⟩
  | 73 => ⟨S8192x8x32, .f32⟩
  | 74 => ⟨S8192x128, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192x1, .f32⟩
  | 83 => ⟨S8192x1, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x128, .f32⟩
  | 90 => ⟨S8192x128, .f32⟩
  | 91 => ⟨S1x128, .f32⟩
  | 92 => ⟨S8192x128, .f32⟩
  | 93 => ⟨S8192x128, .f32⟩
  | 94 => ⟨S8192x1024, .f32⟩
  | 95 => ⟨S8192x8x128, .f32⟩
  | 96 => ⟨S8192x8x64, .f32⟩
  | 97 => ⟨S8192x8x64, .f32⟩
  | 98 => ⟨S8192x1x32, .f32⟩
  | 99 => ⟨S16, .f32⟩
  | 100 => ⟨S_, .f32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S8192, .f32⟩
  | 110 => ⟨S8192x1, .f32⟩
  | 111 => ⟨S1x16, .f32⟩
  | 112 => ⟨S8192x16, .f32⟩
  | 113 => ⟨S8192x16, .f32⟩
  | 114 => ⟨S8192x16, .f32⟩
  | 115 => ⟨S8192x16, .f32⟩
  | 116 => ⟨S8192x1x16, .f32⟩
  | 117 => ⟨S8192x16, .f32⟩
  | 118 => ⟨S8192x1x16, .f32⟩
  | 119 => ⟨S8192x1x16, .f32⟩
  | 120 => ⟨S8192x1x16, .f32⟩
  | 121 => ⟨S8192x1x16, .f32⟩
  | 122 => ⟨S8192x1x16, .f32⟩
  | 123 => ⟨S8192x1x16, .f32⟩
  | 124 => ⟨S8192x1x16, .f32⟩
  | 125 => ⟨S8192x1x16, .f32⟩
  | 126 => ⟨S8192x1x16, .f32⟩
  | 127 => ⟨S8192x1x32, .f32⟩
  | _ => ⟨S8192x1024, .f32⟩

abbrev hbmTy0_1 (i : Nat) : BufTy := match i % 128 with
  | 0 => ⟨S8192x8x32, .f32⟩
  | 1 => ⟨S8192x8x96, .f32⟩
  | 2 => ⟨S8192x8x96, .f32⟩
  | 3 => ⟨S_, .f32⟩
  | 4 => ⟨S8192x8x96, .f32⟩
  | 5 => ⟨S8192x8x96, .f32⟩
  | 6 => ⟨S_, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S8192x8x96, .f32⟩
  | 14 => ⟨S8192x8x96, .f32⟩
  | 15 => ⟨S8192x8x64, .f32⟩
  | 16 => ⟨S8192x8x32, .f32⟩
  | 17 => ⟨S8192x8x64, .f32⟩
  | 18 => ⟨S8192x8x32, .f32⟩
  | 19 => ⟨S_, .f32⟩
  | 20 => ⟨S8192x32, .f32⟩
  | 21 => ⟨S8192x1x32, .f32⟩
  | 22 => ⟨S8192x1x16, .f32⟩
  | 23 => ⟨S8192x1x16, .f32⟩
  | 24 => ⟨S8192x1x16, .f32⟩
  | 25 => ⟨S8192x1x16, .f32⟩
  | 26 => ⟨S8192x1x16, .f32⟩
  | 27 => ⟨S8192x1x16, .f32⟩
  | 28 => ⟨S8192x1x16, .f32⟩
  | 29 => ⟨S8192x1x16, .f32⟩
  | 30 => ⟨S8192x1x16, .f32⟩
  | 31 => ⟨S_, .f32⟩
  | 32 => ⟨S8192x1x32, .f32⟩
  | 33 => ⟨S_, .f32⟩
  | 34 => ⟨S8192x1x32, .f32⟩
  | 35 => ⟨S8192x1x32, .f32⟩
  | 36 => ⟨S_, .f32⟩
  | 37 => ⟨S8192x32, .f32⟩
  | 38 => ⟨S_, .f32⟩
  | 39 => ⟨S8192x8x128, .f32⟩
  | 40 => ⟨S_, .f32⟩
  | 41 => ⟨S8192x8x128, .f32⟩
  | 42 => ⟨S8192x8x128, .f32⟩
  | 43 => ⟨S8192x1024, .f32⟩
  | 44 => ⟨S1024x128, .f32⟩
  | 45 => ⟨S128x1024, .f32⟩
  | 46 => ⟨S8192x128, .f32⟩
  | 47 => ⟨S8192x128, .f32⟩
  | 48 => ⟨S_, .f32⟩
  | 49 => ⟨S128, .f32⟩
  | 50 => ⟨S1x128, .f32⟩
  | 51 => ⟨S8192x128, .f32⟩
  | 52 => ⟨S8192x128, .f32⟩
  | 53 => ⟨S_, .f32⟩
  | 54 => ⟨S128, .f32⟩
  | 55 => ⟨S8192x128, .f32⟩
  | 56 => ⟨S_, .f32⟩
  | 57 => ⟨S8192, .f32⟩
  | 58 => ⟨S8192x1, .f32⟩
  | 59 => ⟨S8192x128, .f32⟩
  | 60 => ⟨S8192x128, .f32⟩
  | 61 => ⟨S8192x1, .f32⟩
  | 62 => ⟨S_, .f32⟩
  | 63 => ⟨S8192x1, .f32⟩
  | 64 => ⟨S8192x1, .f32⟩
  | 65 => ⟨S_, .f32⟩
  | 66 => ⟨S8192, .f32⟩
  | 67 => ⟨S8192x128, .f32⟩
  | 68 => ⟨S8192x128, .f32⟩
  | 69 => ⟨S8192x128, .f32⟩
  | 70 => ⟨S8192x128, .f32⟩
  | 71 => ⟨S8192x128, .f32⟩
  | 72 => ⟨S8192x8x16, .f32⟩
  | 73 => ⟨S8192x8x16, .f32⟩
  | 74 => ⟨S8192x8x16, .f32⟩
  | 75 => ⟨S8192x8x16, .f32⟩
  | 76 => ⟨S8192x8x16, .f32⟩
  | 77 => ⟨S8192x8x16, .f32⟩
  | 78 => ⟨S8192x8x16, .f32⟩
  | 79 => ⟨S8192x8x16, .f32⟩
  | 80 => ⟨S8192x8x16, .f32⟩
  | 81 => ⟨S8192x8x16, .f32⟩
  | 82 => ⟨S8192x8x16, .f32⟩
  | 83 => ⟨S8192x8x16, .f32⟩
  | 84 => ⟨S8192x8x16, .f32⟩
  | 85 => ⟨S_, .f32⟩
  | 86 => ⟨S8192x8x32, .f32⟩
  | 87 => ⟨S_, .f32⟩
  | 88 => ⟨S8192x8x32, .f32⟩
  | 89 => ⟨S8192x8x32, .f32⟩
  | 90 => ⟨S_, .f32⟩
  | 91 => ⟨S8192x8x96, .f32⟩
  | 92 => ⟨S_, .f32⟩
  | 93 => ⟨S8192x8x96, .f32⟩
  | 94 => ⟨S8192x8x96, .f32⟩
  | 95 => ⟨S8192x768, .f32⟩
  | 96 => ⟨S768x256, .f32⟩
  | 97 => ⟨S256x768, .f32⟩
  | 98 => ⟨S8192x256, .f32⟩
  | 99 => ⟨S8192x256, .f32⟩
  | 100 => ⟨S_, .f32⟩
  | 101 => ⟨S256, .f32⟩
  | 102 => ⟨S1x256, .f32⟩
  | 103 => ⟨S8192x256, .f32⟩
  | 104 => ⟨S8192x256, .f32⟩
  | 105 => ⟨S_, .f32⟩
  | 106 => ⟨S256, .f32⟩
  | 107 => ⟨S8192x256, .f32⟩
  | 108 => ⟨S_, .f32⟩
  | 109 => ⟨S8192, .f32⟩
  | 110 => ⟨S8192x1, .f32⟩
  | 111 => ⟨S8192x256, .f32⟩
  | 112 => ⟨S8192x256, .f32⟩
  | 113 => ⟨S8192x1, .f32⟩
  | 114 => ⟨S_, .f32⟩
  | 115 => ⟨S8192x1, .f32⟩
  | 116 => ⟨S8192x1, .f32⟩
  | 117 => ⟨S_, .f32⟩
  | 118 => ⟨S8192, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S8192x2464, .f32⟩
  | 125 => ⟨S2464x1024, .f32⟩
  | 126 => ⟨S1024x2464, .f32⟩
  | 127 => ⟨S8192x1024, .f32⟩
  | _ => ⟨S8192x1024, .f32⟩

abbrev hbmTy0_2 (i : Nat) : BufTy := match i % 128 with
  | 0 => ⟨S8192x1024, .f32⟩
  | 1 => ⟨S1024x384, .f32⟩
  | 2 => ⟨S_, .f32⟩
  | 3 => ⟨S1024x64, .f32⟩
  | 4 => ⟨S1024x32, .f32⟩
  | 5 => ⟨S_, .f32⟩
  | 6 => ⟨S1024x32, .f32⟩
  | 7 => ⟨S1024x2048, .f32⟩
  | 8 => ⟨S1024x2560, .f32⟩
  | 9 => ⟨S256x8x96, .f32⟩
  | 10 => ⟨S_, .i32⟩
  | 11 => ⟨S_, .f32⟩
  | 12 => ⟨S256x8x128, .f32⟩
  | 13 => ⟨S128x8x128, .f32⟩
  | 14 => ⟨S384x8x128, .f32⟩
  | 15 => ⟨S8x384x128, .f32⟩
  | 16 => ⟨S1x256, .f32⟩
  | 17 => ⟨S1x128, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_9 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_10 : Ref sig .tc := ⟨.hbm, 100, rfl⟩
abbrev main_v77 : Ref sig .tc := ⟨.hbm, 101, rfl⟩
abbrev main_v78 : Ref sig .tc := ⟨.hbm, 102, rfl⟩
abbrev main_cst_11 : Ref sig .tc := ⟨.hbm, 103, rfl⟩
abbrev main_v79 : Ref sig .tc := ⟨.hbm, 104, rfl⟩
abbrev main_v80 : Ref sig .tc := ⟨.hbm, 105, rfl⟩
abbrev main_cst_12 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_13 : Ref sig .tc := ⟨.hbm, 131, rfl⟩
abbrev main_v105 : Ref sig .tc := ⟨.hbm, 132, rfl⟩
abbrev main_v106 : Ref sig .tc := ⟨.hbm, 133, rfl⟩
abbrev main_cst_14 : Ref sig .tc := ⟨.hbm, 134, rfl⟩
abbrev main_v107 : Ref sig .tc := ⟨.hbm, 135, rfl⟩
abbrev main_v108 : Ref sig .tc := ⟨.hbm, 136, rfl⟩
abbrev main_cst_15 : Ref sig .tc := ⟨.hbm, 137, rfl⟩
abbrev main_v109 : Ref sig .tc := ⟨.hbm, 138, rfl⟩
abbrev main_v110 : Ref sig .tc := ⟨.hbm, 139, rfl⟩
abbrev main_cst_16 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_17 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_18 : Ref sig .tc := ⟨.hbm, 159, rfl⟩
abbrev main_v128 : Ref sig .tc := ⟨.hbm, 160, rfl⟩
abbrev main_cst_19 : Ref sig .tc := ⟨.hbm, 161, rfl⟩
abbrev main_v129 : Ref sig .tc := ⟨.hbm, 162, rfl⟩
abbrev main_v130 : Ref sig .tc := ⟨.hbm, 163, rfl⟩
abbrev main_cst_20 : Ref sig .tc := ⟨.hbm, 164, rfl⟩
abbrev main_v131 : Ref sig .tc := ⟨.hbm, 165, rfl⟩
abbrev main_cst_21 : Ref sig .tc := ⟨.hbm, 166, rfl⟩
abbrev main_v132 : Ref sig .tc := ⟨.hbm, 167, rfl⟩
abbrev main_cst_22 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_23 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_24 : Ref sig .tc := ⟨.hbm, 181, rfl⟩
abbrev main_v144 : Ref sig .tc := ⟨.hbm, 182, rfl⟩
abbrev main_v145 : Ref sig .tc := ⟨.hbm, 183, rfl⟩
abbrev main_cst_25 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_cst_26 : Ref sig .tc := ⟨.hbm, 190, rfl⟩
abbrev main_v151 : Ref sig .tc := ⟨.hbm, 191, rfl⟩
abbrev main_v152 : Ref sig .tc := ⟨.hbm, 192, rfl⟩
abbrev main_cst_27 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_cst_28 : Ref sig .tc := ⟨.hbm, 213, rfl⟩
abbrev main_v172 : Ref sig .tc := ⟨.hbm, 214, rfl⟩
abbrev main_cst_29 : Ref sig .tc := ⟨.hbm, 215, rfl⟩
abbrev main_v173 : Ref sig .tc := ⟨.hbm, 216, rfl⟩
abbrev main_v174 : Ref sig .tc := ⟨.hbm, 217, rfl⟩
abbrev main_cst_30 : Ref sig .tc := ⟨.hbm, 218, rfl⟩
abbrev main_v175 : Ref sig .tc := ⟨.hbm, 219, rfl⟩
abbrev main_cst_31 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_cst_32 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_cst_33 : Ref sig .tc := ⟨.hbm, 233, rfl⟩
abbrev main_v187 : Ref sig .tc := ⟨.hbm, 234, rfl⟩
abbrev main_v188 : Ref sig .tc := ⟨.hbm, 235, rfl⟩
abbrev main_cst_34 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_cst_35 : Ref sig .tc := ⟨.hbm, 242, rfl⟩
abbrev main_v194 : Ref sig .tc := ⟨.hbm, 243, rfl⟩
abbrev main_v195 : Ref sig .tc := ⟨.hbm, 244, rfl⟩
abbrev main_cst_36 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_cst_37 : Ref sig .tc := ⟨.hbm, 258, rfl⟩
abbrev main_v208 : Ref sig .tc := ⟨.hbm, 259, rfl⟩
abbrev main_v209 : Ref sig .tc := ⟨.hbm, 260, rfl⟩
abbrev main_cst_38 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_c : Ref sig .tc := ⟨.hbm, 266, rfl⟩
abbrev main_call0_v0 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩

abbrev nD : Nat := 1
abbrev τ : Topo := Topo.v7x

variable {F : FTy → Type} [FloatOps F]
-- ==== Kernel2.lean ====
abbrev S8192x8x96 : Shape := ⟨3, ![8192, 8, 96]⟩
abbrev S8192x8x64 : Shape := ⟨3, ![8192, 8, 64]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8x64x8192 : Shape := ⟨3, ![8, 64, 8192]⟩
abbrev S8192x8 : Shape := ⟨2, ![8192, 8]⟩
abbrev S8192x8x128 : Shape := ⟨3, ![8192, 8, 128]⟩
abbrev S8x8192x128 : Shape := ⟨3, ![8, 8192, 128]⟩
abbrev S8x128x8192 : Shape := ⟨3, ![8, 128, 8192]⟩
abbrev S1x8192x128 : Shape := ⟨3, ![1, 8192, 128]⟩
abbrev S1x2048x128 : Shape := ⟨3, ![1, 2048, 128]⟩
abbrev S1x1x8192 : Shape := ⟨3, ![1, 1, 8192]⟩
abbrev S1x128x8192 : Shape := ⟨3, ![1, 128, 8192]⟩
abbrev S2048x512 : Shape := ⟨2, ![2048, 512]⟩
abbrev S128x2048 : Shape := ⟨2, ![128, 2048]⟩
abbrev S2048x128 : Shape := ⟨2, ![2048, 128]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S256x512 : Shape := ⟨2, ![256, 512]⟩
abbrev S256x256 : Shape := ⟨2, ![256, 256]⟩
abbrev S1x768x128 : Shape := ⟨3, ![1, 768, 128]⟩
abbrev S768x128 : Shape := ⟨2, ![768, 128]⟩
abbrev S768x512 : Shape := ⟨2, ![768, 512]⟩
abbrev S1x1x512 : Shape := ⟨3, ![1, 1, 512]⟩
abbrev S1x512 : Shape := ⟨2, ![1, 512]⟩
abbrev S1x1x256 : Shape := ⟨3, ![1, 1, 256]⟩
abbrev S1x256 : Shape := ⟨2, ![1, 256]⟩
abbrev S1x1280x128 : Shape := ⟨3, ![1, 1280, 128]⟩
abbrev S1280x128 : Shape := ⟨2, ![1280, 128]⟩
abbrev S1280x512 : Shape := ⟨2, ![1280, 512]⟩
abbrev S1x128x512 : Shape := ⟨3, ![1, 128, 512]⟩
abbrev S128x512 : Shape := ⟨2, ![128, 512]⟩
abbrev S128x256 : Shape := ⟨2, ![128, 256]⟩
abbrev S1x128x256 : Shape := ⟨3, ![1, 128, 256]⟩
abbrev S1x1792x128 : Shape := ⟨3, ![1, 1792, 128]⟩
abbrev S1792x128 : Shape := ⟨2, ![1792, 128]⟩
abbrev S1792x512 : Shape := ⟨2, ![1792, 512]⟩
abbrev S128x768 : Shape := ⟨2, ![128, 768]⟩
abbrev S128x1280 : Shape := ⟨2, ![128, 1280]⟩
abbrev S512x512 : Shape := ⟨2, ![512, 512]⟩

abbrev nBuf : Space → Nat
  | .hbm => 71
  | .vmem => 25
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S_, .f32⟩
  | .hbm, ⟨5, _⟩ => ⟨S_, .f32⟩
  | .hbm, ⟨6, _⟩ => ⟨S8192x8x96, .f32⟩
  | .hbm, ⟨7, _⟩ => ⟨S8192x8x96, .f32⟩
  | .hbm, ⟨8, _⟩ => ⟨S_, .f32⟩
  | .hbm, ⟨9, _⟩ => ⟨S_, .f32⟩
  | .hbm, ⟨10, _⟩ => ⟨S8x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x8192x8192, .i1⟩
  | .hbm, ⟨18, _⟩ => ⟨S_, .f32⟩
  | .hbm, ⟨19, _⟩ => ⟨S_, .f32⟩
  | .hbm, ⟨20, _⟩ => ⟨S8x8192x8192, .i1⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S8x8192x1, .f32⟩
  | .hbm, ⟨33, _⟩ => ⟨S8x8192x1, .f32⟩
  | .hbm, ⟨34, _⟩ => ⟨S8x8192x1, .f32⟩
  | .hbm, ⟨35, _⟩ => ⟨S8x8192x1, .f32⟩
  | .hbm, ⟨36, _⟩ => ⟨S8x1x8192, .f32⟩
  | .hbm, ⟨37, _⟩ => ⟨S8x8192x8192, .f32⟩
  | .hbm, ⟨38, _⟩ => ⟨S8x8192x8192, .f32⟩
  | .hbm, ⟨39, _⟩ => ⟨S8x64x8192, .f32⟩
  | .hbm, ⟨40, _⟩ => ⟨S8192x8x64, .f32⟩
  | .hbm, ⟨41, _⟩ => ⟨S8192x8x64, .f32⟩
  | .hbm, ⟨42, _⟩ => ⟨S_, .f32⟩
  | .hbm, ⟨43, _⟩ => ⟨S8192x8, .f32⟩
  | .hbm, ⟨44, _⟩ => ⟨S8x8192, .f32⟩
  | .hbm, ⟨45, _⟩ => ⟨S8x1x8192, .f32⟩
  | .hbm, ⟨46, _⟩ => ⟨S8192x8x96, .f32⟩
  | .hbm, ⟨47, _⟩ => ⟨S8192x8x96, .f32⟩
  | .hbm, ⟨48, _⟩ => ⟨S_, .i32⟩
  | .hbm, ⟨49, _⟩ => ⟨S_, .f32⟩
  | .hbm, ⟨50, _⟩ => ⟨S8192x8x128, .f32⟩
  | .hbm, ⟨51, _⟩ => ⟨S8x8192x128, .f32⟩
  | .hbm, ⟨52, _⟩ => ⟨S8x8192x128, .bf16⟩
  | .hbm, ⟨53, _⟩ => ⟨S_, .i32⟩
  | .hbm, ⟨54, _⟩ => ⟨S_, .f32⟩
  | .hbm, ⟨55, _⟩ => ⟨S8192x8x128, .f32⟩
  | .hbm, ⟨56, _⟩ => ⟨S8x8192x128, .f32⟩
  | .hbm, ⟨57, _⟩ => ⟨S8x8192x128, .bf16⟩
  | .hbm, ⟨58, _⟩ => ⟨S_, .i32⟩
  | .hbm, ⟨59, _⟩ => ⟨S_, .f32⟩
  | .hbm, ⟨60, _⟩ => ⟨S8192x8x128, .f32⟩
  | .hbm, ⟨61, _⟩ => ⟨S8x8192x128, .f32⟩
  | .hbm, ⟨62, _⟩ => ⟨S8x8192x128, .bf16⟩
  | .hbm, ⟨63, _⟩ => ⟨S_, .i32⟩
  | .hbm, ⟨64, _⟩ => ⟨S_, .f32⟩
  | .hbm, ⟨65, _⟩ => ⟨S8192x8x128, .f32⟩
  | .hbm, ⟨66, _⟩ => ⟨S8x8192x128, .f32⟩
  | .hbm, ⟨67, _⟩ => ⟨S8x8192x128, .bf16⟩
  | .hbm, ⟨68, _⟩ => ⟨S8x128x8192, .f32⟩
  | .hbm, ⟨69, _⟩ => ⟨S8x8192x128, .f32⟩
  | .hbm, ⟨70, _⟩ => ⟨S8x8192x128, .f32⟩
  | .local _ .vmem, ⟨0, _⟩ => ⟨S1x8192x128, .bf16⟩
  | .local _ .vmem, ⟨1, _⟩ => ⟨S1x8192x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x1x8192, .f32⟩
  | .local _ .vmem, ⟨9, _⟩ => ⟨S1x1x8192, .f32⟩
  | .local _ .vmem, ⟨10, _⟩ => ⟨S1x128x8192, .f32⟩
  | .local _ .vmem, ⟨11, _⟩ => ⟨S1x128x8192, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S2048x512, .bf16⟩
  | .local _ .vmem, ⟨24, _⟩ => ⟨S128x2048, .bf16⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c : Ref sig .tc := ⟨.hbm, 48, rfl⟩
abbrev main_call1_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_call2_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_6 : Ref sig .tc := ⟨.hbm, 58, rfl⟩
abbrev main_call3_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_call4_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_v47_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c4_i32 : BitVec 32 := 4#32
  let arg1 : BitVec 32 := BitVec.ofNat 32 (i 1).val
  let v15 : BitVec 32 := Scalar.muli c4_i32 arg1
  let c15_i32 : BitVec 32 := 15#32
  let v16 : BitVec 32 := Scalar.minsi v15 c15_i32
  let c512_i32 : BitVec 32 := 512#32
  let v19 : BitVec 32 := Scalar.muli v16 c512_i32
  let c0_i32_15 : BitVec 32 := 0#32
  let v20 : BitVec 32 := Scalar.addi v19 c0_i32_15
  v20
def k0_off1 (i : grid0.Coords) : Fin 3 → Nat :=
  let c0_16 : Index := 0#32
  let c4_i32 : BitVec 32 := 4#32
  let arg1 : BitVec 32 := BitVec.ofNat 32 (i 1).val
  let v15 : BitVec 32 := Scalar.muli c4_i32 arg1
  let c15_i32 : BitVec 32 := 15#32
  let v16 : BitVec 32 := Scalar.minsi v15 c15_i32
  let c512_i32 : BitVec 32 := 512#32
  let v19 : BitVec 32 := Scalar.muli v16 c512_i32
  let c0_i32_15 : BitVec 32 := 0#32
  let v20 : BitVec 32 := Scalar.addi v19 c0_i32_15
  let v21 : BitVec 32 := v20
  let v22 : Index := Scalar.indexCast v21
  let c0_17 : Index := 0#32
  ![0, v22.toNat, 0]
def k0_mult2 (i : grid0.Coords) : BitVec 32 :=
  let c4_i32 : BitVec 32 := 4#32
  let arg1 : BitVec 32 := BitVec.ofNat 32 (i 1).val
  let v15 : BitVec 32 := Scalar.muli c4_i32 arg1
  let c15_i32 : BitVec 32 := 15#32
  let v16 : BitVec 32 := Scalar.minsi v15 c15_i32
  let c512_i32_24 : BitVec 32 := 512#32
  let v31 : BitVec 32 := Scalar.muli v16 c512_i32_24
  let c0_i32_25 : BitVec 32 := 0#32
  let v32 : BitVec 32 := Scalar.addi v31 c0_i32_25
  v32
def k0_mult3 (i : grid0.Coords) : BitVec 32 :=
  let c4_i32 : BitVec 32 := 4#32
  let arg1 : BitVec 32 := BitVec.ofNat 32 (i 1).val
  let v15 : BitVec 32 := Scalar.muli c4_i32 arg1
  let c15_i32 : BitVec 32 := 15#32
  let v16 : BitVec 32 := Scalar.minsi v15 c15_i32
  let c512_i32_33 : BitVec 32 := 512#32
  let v43 : BitVec 32 := Scalar.muli v16 c512_i32_33
  let c256_i32 : BitVec 32 := 256#32
  let v44 : BitVec 32 := Scalar.addi v43 c256_i32
  v44
def k0_off2 (i : grid0.Coords) : Fin 3 → Nat :=
  let c0_34 : Index := 0#32
  let c4_i32 : BitVec 32 := 4#32
  let arg1 : BitVec 32 := BitVec.ofNat 32 (i 1).val
  let v15 : BitVec 32 := Scalar.muli c4_i32 arg1
  let c15_i32 : BitVec 32 := 15#32
  let v16 : BitVec 32 := Scalar.minsi v15 c15_i32
  let c512_i32_33 : BitVec 32 := 512#32
  let v43 : BitVec 32 := Scalar.muli v16 c512_i32_33
  let c256_i32 : BitVec 32 := 256#32
  let v44 : BitVec 32 := Scalar.addi v43 c256_i32
  let v45 : BitVec 32 := v44
  let v46 : Index := Scalar.indexCast v45
  let c0_35 : Index := 0#32
  ![0, v46.toNat, 0]
def k0_mult4 (i : grid0.Coords) : BitVec 32 :=
  let c4_i32 : BitVec 32 := 4#32
  let arg1 : BitVec 32 := BitVec.ofNat 32 (i 1).val
  let v15 : BitVec 32 := Scalar.muli c4_i32 arg1
  let c15_i32 : BitVec 32 := 15#32
  let v16 : BitVec 32 := Scalar.minsi v15 c15_i32
  let c512_i32_42 : BitVec 32 := 512#32
  let v55 : BitVec 32 := Scalar.muli v16 c512_i32_42
  let c256_i32_43 : BitVec 32 := 256#32
  let v56 : BitVec 32 := Scalar.addi v55 c256_i32_43
  v56
def k0_mult5 (i : grid0.Coords) : BitVec 32 :=
  let c4_i32 : BitVec 32 := 4#32
  let arg1 : BitVec 32 := BitVec.ofNat 32 (i 1).val
  let v15 : BitVec 32 := Scalar.muli c4_i32 arg1
  let c1_i32 : BitVec 32 := 1#32
  let v65 : BitVec 32 := Scalar.addi v15 c1_i32
  let c15_i32_49 : BitVec 32 := 15#32
  let v66 : BitVec 32 := Scalar.minsi v65 c15_i32_49
  let c512_i32_53 : BitVec 32 := 512#32
  let v69 : BitVec 32 := Scalar.muli v66 c512_i32_53
  let c0_i32_54 : BitVec 32 := 0#32
  let v70 : BitVec 32 := Scalar.addi v69 c0_i32_54
  v70
def k0_off3 (i : grid0.Coords) : Fin 3 → Nat :=
  let c0_55 : Index := 0#32
  let c4_i32 : BitVec 32 := 4#32
  let arg1 : BitVec 32 := BitVec.ofNat 32 (i 1).val
  let v15 : BitVec 32 := Scalar.muli c4_i32 arg1
  let c1_i32 : BitVec 32 := 1#32
  let v65 : BitVec 32 := Scalar.addi v15 c1_i32
  let c15_i32_49 : BitVec 32 := 15#32
  let v66 : BitVec 32 := Scalar.minsi v65 c15_i32_49
  let c512_i32_53 : BitVec 32 := 512#32
  let v69 : BitVec 32 := Scalar.muli v66 c512_i32_53
  let c0_i32_54 : BitVec 32 := 0#32
  let v70 : BitVec 32 := Scalar.addi v69 c0_i32_54
  let v71 : BitVec 32 := v70
  let v72 : Index := Scalar.indexCast v71
  let c0_56 : Index := 0#32
  ![0, v72.toNat, 0]
def k0_mult6 (i : grid0.Coords) : BitVec 32 :=
  let c4_i32 : BitVec 32 := 4#32
  let arg1 : BitVec 32 := BitVec.ofNat 32 (i 1).val
  let v15 : BitVec 32 := Scalar.muli c4_i32 arg1
  let c1_i32 : BitVec 32 := 1#32
  let v65 : BitVec 32 := Scalar.addi v15 c1_i32
  let c15_i32_49 : BitVec 32 := 15#32
  let v66 : BitVec 32 := Scalar.minsi v65 c15_i32_49
  let c512_i32_63 : BitVec 32 := 512#32
  let v81 : BitVec 32 := Scalar.muli v66 c512_i32_63
  let c0_i32_64 : BitVec 32 := 0#32
  let v82 : BitVec 32 := Scalar.addi v81 c0_i32_64
  v82
def k0_mult7 (i : grid0.Coords) : BitVec 32 :=
  let c4_i32 : BitVec 32 := 4#32
  let arg1 : BitVec 32 := BitVec.ofNat 32 (i 1).val
  let v15 : BitVec 32 := Scalar.muli c4_i32 arg1
  let c1_i32 : BitVec 32 := 1#32
  let v65 : BitVec 32 := Scalar.addi v15 c1_i32
  let c15_i32_49 : BitVec 32 := 15#32
  let v66 : BitVec 32 := Scalar.minsi v65 c15_i32_49
  let c512_i32_72 : BitVec 32 := 512#32
  let v93 : BitVec 32 := Scalar.muli v66 c512_i32_72
  let c256_i32_73 : BitVec 32 := 256#32
  let v94 : BitVec 32 := Scalar.addi v93 c256_i32_73
  v94
def k0_off4 (i : grid0.Coords) : Fin 3 → Nat :=
  let c0_74 : Index := 0#32
  let c4_i32 : BitVec 32 := 4#32
  let arg1 : BitVec 32 := BitVec.ofNat 32 (i 1).val
  let v15 : BitVec 32 := Scalar.muli c4_i32 arg1
  let c1_i32 : BitVec 32 := 1#32
  let v65 : BitVec 32 := Scalar.addi v15 c1_i32
  let c15_i32_49 : BitVec 32 := 15#32
  let v66 : BitVec 32 := Scalar.minsi v65 c15_i32_49
  let c512_i32_72 : BitVec 32 := 512#32
  let v93 : BitVec 32 := Scalar.muli v66 c512_i32_72
  let c256_i32_73 : BitVec 32 := 256#32
  let v94 : BitVec 32 := Scalar.addi v93 c256_i32_73
  let v95 : BitVec 32 := v94
  let v96 : Index := Scalar.indexCast v95
  let c0_75 : Index := 0#32
  ![0, v96.toNat, 0]
def k0_mult8 (i : grid0.Coords) : BitVec 32 :=
  let c4_i32 : BitVec 32 := 4#32
  let arg1 : BitVec 32 := BitVec.ofNat 32 (i 1).val
  let v15 : BitVec 32 := Scalar.muli c4_i32 arg1
  let c1_i32 : BitVec 32 := 1#32
  let v65 : BitVec 32 := Scalar.addi v15 c1_i32
  let c15_i32_49 : BitVec 32 := 15#32
  let v66 : BitVec 32 := Scalar.minsi v65 c15_i32_49
  let c512_i32_82 : BitVec 32 := 512#32
  let v105 : BitVec 32 := Scalar.muli v66 c512_i32_82
  let c256_i32_83 : BitVec 32 := 256#32
  let v106 : BitVec 32 := Scalar.addi v105 c256_i32_83
  v106
def k0_mult9 (i : grid0.Coords) : BitVec 32 :=
  let c4_i32 : BitVec 32 := 4#32
  let arg1 : BitVec 32 := BitVec.ofNat 32 (i 1).val
  let v15 : BitVec 32 := Scalar.muli c4_i32 arg1
  let c512_i32_89 : BitVec 32 := 512#32
  let v115 : BitVec 32 := Scalar.muli v15 c512_i32_89
  let c0_i32_90 : BitVec 32 := 0#32
  let v116 : BitVec 32 := Scalar.addi v115 c0_i32_90
  v116
def k0_off5 (i : grid0.Coords) : Fin 3 → Nat :=
  let c0_91 : Index := 0#32
  let c0_92 : Index := 0#32
  let c4_i32 : BitVec 32 := 4#32
  let arg1 : BitVec 32 := BitVec.ofNat 32 (i 1).val
  let v15 : BitVec 32 := Scalar.muli c4_i32 arg1
  let c512_i32_89 : BitVec 32 := 512#32
  let v115 : BitVec 32 := Scalar.muli v15 c512_i32_89
  let c0_i32_90 : BitVec 32 := 0#32
  let v116 : BitVec 32 := Scalar.addi v115 c0_i32_90
  let v117 : BitVec 32 := v116
  let v118 : Index := Scalar.indexCast v117
  ![0, 0, v118.toNat]
def k0_mult10 (i : grid0.Coords) : BitVec 32 :=
  let c4_i32 : BitVec 32 := 4#32
  let arg1 : BitVec 32 := BitVec.ofNat 32 (i 1).val
  let v15 : BitVec 32 := Scalar.muli c4_i32 arg1
  let c512_i32_93 : BitVec 32 := 512#32
  let v121 : BitVec 32 := Scalar.muli v15 c512_i32_93
  let c0_i32_94 : BitVec 32 := 0#32
  let v122 : BitVec 32 := Scalar.addi v121 c0_i32_94
  v122
def k0_mult11 (i : grid0.Coords) : BitVec 32 :=
  let c4_i32 : BitVec 32 := 4#32
  let arg1 : BitVec 32 := BitVec.ofNat 32 (i 1).val
  let v15 : BitVec 32 := Scalar.muli c4_i32 arg1
  let c512_i32_108 : BitVec 32 := 512#32
  let v152 : BitVec 32 := Scalar.muli v15 c512_i32_108
  let c256_i32_109 : BitVec 32 := 256#32
  let v153 : BitVec 32 := Scalar.addi v152 c256_i32_109
  v153
def k0_off6 (i : grid0.Coords) : Fin 3 → Nat :=
  let c0_110 : Index := 0#32
  let c0_111 : Index := 0#32
  let c4_i32 : BitVec 32 := 4#32
  let arg1 : BitVec 32 := BitVec.ofNat 32 (i 1).val
  let v15 : BitVec 32 := Scalar.muli c4_i32 arg1
  let c512_i32_108 : BitVec 32 := 512#32
  let v152 : BitVec 32 := Scalar.muli v15 c512_i32_108
  let c256_i32_109 : BitVec 32 := 256#32
  let v153 : BitVec 32 := Scalar.addi v152 c256_i32_109
  let v154 : BitVec 32 := v153
  let v155 : Index := Scalar.indexCast v154
  ![0, 0, v155.toNat]
def k0_mult12 (i : grid0.Coords) : BitVec 32 :=
  let c4_i32 : BitVec 32 := 4#32
  let arg1 : BitVec 32 := BitVec.ofNat 32 (i 1).val
  let v15 : BitVec 32 := Scalar.muli c4_i32 arg1
  let c512_i32_112 : BitVec 32 := 512#32
  let v158 : BitVec 32 := Scalar.muli v15 c512_i32_112
  let c256_i32_113 : BitVec 32 := 256#32
  let v159 : BitVec 32 := Scalar.addi v158 c256_i32_113
  v159
def k0_mult13 (i : grid0.Coords) : BitVec 32 :=
  let c4_i32 : BitVec 32 := 4#32
  let arg1 : BitVec 32 := BitVec.ofNat 32 (i 1).val
  let v15 : BitVec 32 := Scalar.muli c4_i32 arg1
  let c1_i32_127 : BitVec 32 := 1#32
  let v189 : BitVec 32 := Scalar.addi v15 c1_i32_127
  let c1_i32_128 : BitVec 32 := 1#32
  let v190 : BitVec 32 := Scalar.addi v189 c1_i32_128
  let c15_i32_129 : BitVec 32 := 15#32
  let v191 : BitVec 32 := Scalar.minsi v190 c15_i32_129
  let c512_i32_133 : BitVec 32 := 512#32
  let v194 : BitVec 32 := Scalar.muli v191 c512_i32_133
  let c0_i32_134 : BitVec 32 := 0#32
  let v195 : BitVec 32 := Scalar.addi v194 c0_i32_134
  v195
def k0_off7 (i : grid0.Coords) (c1_i32_127 : BitVec 32) : Fin 3 → Nat :=
  let c0_135 : Index := 0#32
  let c4_i32 : BitVec 32 := 4#32
  let arg1 : BitVec 32 := BitVec.ofNat 32 (i 1).val
  let v15 : BitVec 32 := Scalar.muli c4_i32 arg1
  let v189 : BitVec 32 := Scalar.addi v15 c1_i32_127
  let c1_i32_128 : BitVec 32 := 1#32
  let v190 : BitVec 32 := Scalar.addi v189 c1_i32_128
  let c15_i32_129 : BitVec 32 := 15#32
  let v191 : BitVec 32 := Scalar.minsi v190 c15_i32_129
  let c512_i32_133 : BitVec 32 := 512#32
  let v194 : BitVec 32 := Scalar.muli v191 c512_i32_133
  let c0_i32_134 : BitVec 32 := 0#32
  let v195 : BitVec 32 := Scalar.addi v194 c0_i32_134
  let v196 : BitVec 32 := v195
  let v197 : Index := Scalar.indexCast v196
  let c0_136 : Index := 0#32
  ![0, v197.toNat, 0]
def k0_mult14 (i : grid0.Coords) : BitVec 32 :=
  let c4_i32 : BitVec 32 := 4#32
  let arg1 : BitVec 32 := BitVec.ofNat 32 (i 1).val
  let v15 : BitVec 32 := Scalar.muli c4_i32 arg1
  let c1_i32_127 : BitVec 32 := 1#32
  let v189 : BitVec 32 := Scalar.addi v15 c1_i32_127
  let c1_i32_128 : BitVec 32 := 1#32
  let v190 : BitVec 32 := Scalar.addi v189 c1_i32_128
  let c15_i32_129 : BitVec 32 := 15#32
  let v191 : BitVec 32 := Scalar.minsi v190 c15_i32_129
  let c512_i32_143 : BitVec 32 := 512#32
  let v206 : BitVec 32 := Scalar.muli v191 c512_i32_143
  let c0_i32_144 : BitVec 32 := 0#32
  let v207 : BitVec 32 := Scalar.addi v206 c0_i32_144
  v207
def k0_mult15 (i : grid0.Coords) : BitVec 32 :=
  let c4_i32 : BitVec 32 := 4#32
  let arg1 : BitVec 32 := BitVec.ofNat 32 (i 1).val
  let v15 : BitVec 32 := Scalar.muli c4_i32 arg1
  let c1_i32_127 : BitVec 32 := 1#32
  let v189 : BitVec 32 := Scalar.addi v15 c1_i32_127
  let c1_i32_128 : BitVec 32 := 1#32
  let v190 : BitVec 32 := Scalar.addi v189 c1_i32_128
  let c15_i32_129 : BitVec 32 := 15#32
  let v191 : BitVec 32 := Scalar.minsi v190 c15_i32_129
  let c512_i32_152 : BitVec 32 := 512#32
  let v218 : BitVec 32 := Scalar.muli v191 c512_i32_152
  let c256_i32_153 : BitVec 32 := 256#32
  let v219 : BitVec 32 := Scalar.addi v218 c256_i32_153
  v219
def k0_off8 (i : grid0.Coords) (c1_i32_127 : BitVec 32) : Fin 3 → Nat :=
  let c0_154 : Index := 0#32
  let c4_i32 : BitVec 32 := 4#32
  let arg1 : BitVec 32 := BitVec.ofNat 32 (i 1).val
  let v15 : BitVec 32 := Scalar.muli c4_i32 arg1
  let v189 : BitVec 32 := Scalar.addi v15 c1_i32_127
  let c1_i32_128 : BitVec 32 := 1#32
  let v190 : BitVec 32 := Scalar.addi v189 c1_i32_128
  let c15_i32_129 : BitVec 32 := 15#32
  let v191 : BitVec 32 := Scalar.minsi v190 c15_i32_129
  let c512_i32_152 : BitVec 32 := 512#32
  let v218 : BitVec 32 := Scalar.muli v191 c512_i32_152
  let c256_i32_153 : BitVec 32 := 256#32
  let v219 : BitVec 32 := Scalar.addi v218 c256_i32_153
  let v220 : BitVec 32 := v219
  let v221 : Index := Scalar.indexCast v220
  let c0_155 : Index := 0#32
  ![0, v221.toNat, 0]
def k0_mult16 (i : grid0.Coords) : BitVec 32 :=
  let c4_i32 : BitVec 32 := 4#32
  let arg1 : BitVec 32 := BitVec.ofNat 32 (i 1).val
  let v15 : BitVec 32 := Scalar.muli c4_i32 arg1
  let c1_i32_127 : BitVec 32 := 1#32
  let v189 : BitVec 32 := Scalar.addi v15 c1_i32_127
  let c1_i32_128 : BitVec 32 := 1#32
  let v190 : BitVec 32 := Scalar.addi v189 c1_i32_128
  let c15_i32_129 : BitVec 32 := 15#32
  let v191 : BitVec 32 := Scalar.minsi v190 c15_i32_129
  let c512_i32_162 : BitVec 32 := 512#32
  let v230 : BitVec 32 := Scalar.muli v191 c512_i32_162
  let c256_i32_163 : BitVec 32 := 256#32
  let v231 : BitVec 32 := Scalar.addi v230 c256_i32_163
  v231
def k0_mult17 (i : grid0.Coords) : BitVec 32 :=
  let c4_i32 : BitVec 32 := 4#32
  let arg1 : BitVec 32 := BitVec.ofNat 32 (i 1).val
  let v15 : BitVec 32 := Scalar.muli c4_i32 arg1
  let c1_i32_169 : BitVec 32 := 1#32
  let v240 : BitVec 32 := Scalar.addi v15 c1_i32_169
  let c1_i32_170 : BitVec 32 := 1#32
  let v241 : BitVec 32 := Scalar.subi v240 c1_i32_170
  let c512_i32_176 : BitVec 32 := 512#32
  let v245 : BitVec 32 := Scalar.muli v241 c512_i32_176
  let c0_i32_177 : BitVec 32 := 0#32
  let v246 : BitVec 32 := Scalar.addi v245 c0_i32_177
  v246
def k0_off9 (i : grid0.Coords) (c1_i32_169 : BitVec 32) : Fin 3 → Nat :=
  let c0_178 : Index := 0#32
  let c4_i32 : BitVec 32 := 4#32
  let arg1 : BitVec 32 := BitVec.ofNat 32 (i 1).val
  let v15 : BitVec 32 := Scalar.muli c4_i32 arg1
  let v240 : BitVec 32 := Scalar.addi v15 c1_i32_169
  let c1_i32_170 : BitVec 32 := 1#32
  let v241 : BitVec 32 := Scalar.subi v240 c1_i32_170
  let c512_i32_176 : BitVec 32 := 512#32
  let v245 : BitVec 32 := Scalar.muli v241 c512_i32_176
  let c0_i32_177 : BitVec 32 := 0#32
  let v246 : BitVec 32 := Scalar.addi v245 c0_i32_177
  let v247 : BitVec 32 := v246
  let v248 : Index := Scalar.indexCast v247
  let c0_179 : Index := 0#32
  ![0, v248.toNat, 0]
def k0_mult18 (i : grid0.Coords) : BitVec 32 :=
  let c4_i32 : BitVec 32 := 4#32
  let arg1 : BitVec 32 := BitVec.ofNat 32 (i 1).val
  let v15 : BitVec 32 := Scalar.muli c4_i32 arg1
  let c1_i32_169 : BitVec 32 := 1#32
  let v240 : BitVec 32 := Scalar.addi v15 c1_i32_169
  let c1_i32_170 : BitVec 32 := 1#32
  let v241 : BitVec 32 := Scalar.subi v240 c1_i32_170
  let c512_i32_189 : BitVec 32 := 512#32
  let v259 : BitVec 32 := Scalar.muli v241 c512_i32_189
  let c0_i32_190 : BitVec 32 := 0#32
  let v260 : BitVec 32 := Scalar.addi v259 c0_i32_190
  v260
def k0_mult19 (i : grid0.Coords) : BitVec 32 :=
  let c4_i32 : BitVec 32 := 4#32
  let arg1 : BitVec 32 := BitVec.ofNat 32 (i 1).val
  let v15 : BitVec 32 := Scalar.muli c4_i32 arg1
  let c1_i32_169 : BitVec 32 := 1#32
  let v240 : BitVec 32 := Scalar.addi v15 c1_i32_169
  let c1_i32_170 : BitVec 32 := 1#32
  let v241 : BitVec 32 := Scalar.subi v240 c1_i32_170
  let c512_i32_197 : BitVec 32 := 512#32
  let v270 : BitVec 32 := Scalar.muli v241 c512_i32_197
  let c0_i32_198 : BitVec 32 := 0#32
  let v271 : BitVec 32 := Scalar.addi v270 c0_i32_198
  v271
def k0_off10 (i : grid0.Coords) (c1_i32_169 : BitVec 32) : Fin 3 → Nat :=
  let c0_199 : Index := 0#32
  let c0_200 : Index := 0#32
  let c4_i32 : BitVec 32 := 4#32
  let arg1 : BitVec 32 := BitVec.ofNat 32 (i 1).val
  let v15 : BitVec 32 := Scalar.muli c4_i32 arg1
  let v240 : BitVec 32 := Scalar.addi v15 c1_i32_169
  let c1_i32_170 : BitVec 32 := 1#32
  let v241 : BitVec 32 := Scalar.subi v240 c1_i32_170
  let c512_i32_197 : BitVec 32 := 512#32
  let v270 : BitVec 32 := Scalar.muli v241 c512_i32_197
  let c0_i32_198 : BitVec 32 := 0#32
  let v271 : BitVec 32 := Scalar.addi v270 c0_i32_198
  let v272 : BitVec 32 := v271
  let v273 : Index := Scalar.indexCast v272
  ![0, 0, v273.toNat]
def k0_mult20 (i : grid0.Coords) : BitVec 32 :=
  let c4_i32 : BitVec 32 := 4#32
  let arg1 : BitVec 32 := BitVec.ofNat 32 (i 1).val
  let v15 : BitVec 32 := Scalar.muli c4_i32 arg1
  let c1_i32_169 : BitVec 32 := 1#32
  let v240 : BitVec 32 := Scalar.addi v15 c1_i32_169
  let c1_i32_170 : BitVec 32 := 1#32
  let v241 : BitVec 32 := Scalar.subi v240 c1_i32_170
  let c512_i32_213 : BitVec 32 := 512#32
  let v287 : BitVec 32 := Scalar.muli v241 c512_i32_213
  let c256_i32_214 : BitVec 32 := 256#32
  let v288 : BitVec 32 := Scalar.addi v287 c256_i32_214
  v288
def k0_off11 (i : grid0.Coords) (c1_i32_169 : BitVec 32) : Fin 3 → Nat :=
  let c0_215 : Index := 0#32
  let c4_i32 : BitVec 32 := 4#32
  let arg1 : BitVec 32 := BitVec.ofNat 32 (i 1).val
  let v15 : BitVec 32 := Scalar.muli c4_i32 arg1
  let v240 : BitVec 32 := Scalar.addi v15 c1_i32_169
  let c1_i32_170 : BitVec 32 := 1#32
  let v241 : BitVec 32 := Scalar.subi v240 c1_i32_170
  let c512_i32_213 : BitVec 32 := 512#32
  let v287 : BitVec 32 := Scalar.muli v241 c512_i32_213
  let c256_i32_214 : BitVec 32 := 256#32
  let v288 : BitVec 32 := Scalar.addi v287 c256_i32_214
  let v289 : BitVec 32 := v288
  let v290 : Index := Scalar.indexCast v289
  let c0_216 : Index := 0#32
  ![0, v290.toNat, 0]
def k0_mult21 (i : grid0.Coords) : BitVec 32 :=
  let c4_i32 : BitVec 32 := 4#32
  let arg1 : BitVec 32 := BitVec.ofNat 32 (i 1).val
  let v15 : BitVec 32 := Scalar.muli c4_i32 arg1
  let c1_i32_169 : BitVec 32 := 1#32
  let v240 : BitVec 32 := Scalar.addi v15 c1_i32_169
  let c1_i32_170 : BitVec 32 := 1#32
  let v241 : BitVec 32 := Scalar.subi v240 c1_i32_170
  let c512_i32_226 : BitVec 32 := 512#32
  let v301 : BitVec 32 := Scalar.muli v241 c512_i32_226
  let c256_i32_227 : BitVec 32 := 256#32
  let v302 : BitVec 32 := Scalar.addi v301 c256_i32_227
  v302
def k0_mult22 (i : grid0.Coords) : BitVec 32 :=
  let c4_i32 : BitVec 32 := 4#32
  let arg1 : BitVec 32 := BitVec.ofNat 32 (i 1).val
  let v15 : BitVec 32 := Scalar.muli c4_i32 arg1
  let c1_i32_169 : BitVec 32 := 1#32
  let v240 : BitVec 32 := Scalar.addi v15 c1_i32_169
  let c1_i32_170 : BitVec 32 := 1#32
  let v241 : BitVec 32 := Scalar.subi v240 c1_i32_170
  let c512_i32_234 : BitVec 32 := 512#32
  let v312 : BitVec 32 := Scalar.muli v241 c512_i32_234
  let c256_i32_235 : BitVec 32 := 256#32
  let v313 : BitVec 32 := Scalar.addi v312 c256_i32_235
  v313
def k0_off12 (i : grid0.Coords) (c1_i32_169 : BitVec 32) : Fin 3 → Nat :=
  let c0_236 : Index := 0#32
  let c0_237 : Index := 0#32
  let c4_i32 : BitVec 32 := 4#32
  let arg1 : BitVec 32 := BitVec.ofNat 32 (i 1).val
  let v15 : BitVec 32 := Scalar.muli c4_i32 arg1
  let v240 : BitVec 32 := Scalar.addi v15 c1_i32_169
  let c1_i32_170 : BitVec 32 := 1#32
  let v241 : BitVec 32 := Scalar.subi v240 c1_i32_170
  let c512_i32_234 : BitVec 32 := 512#32
  let v312 : BitVec 32 := Scalar.muli v241 c512_i32_234
  let c256_i32_235 : BitVec 32 := 256#32
  let v313 : BitVec 32 := Scalar.addi v312 c256_i32_235
  let v314 : BitVec 32 := v313
  let v315 : Index := Scalar.indexCast v314
  ![0, 0, v315.toNat]
def k0_mult23 (i : grid0.Coords) : BitVec 32 :=
  let c4_i32 : BitVec 32 := 4#32
  let arg1 : BitVec 32 := BitVec.ofNat 32 (i 1).val
  let v15 : BitVec 32 := Scalar.muli c4_i32 arg1
  let c1_i32_245 : BitVec 32 := 1#32
  let v326 : BitVec 32 := Scalar.addi v15 c1_i32_245
  let c512_i32_246 : BitVec 32 := 512#32
  let v327 : BitVec 32 := Scalar.muli v326 c512_i32_246
  let c0_i32_247 : BitVec 32 := 0#32
  let v328 : BitVec 32 := Scalar.addi v327 c0_i32_247
  v328
def k0_off13 (i : grid0.Coords) (c1_i32_245 : BitVec 32) : Fin 3 → Nat :=
  let c0_248 : Index := 0#32
  let c0_249 : Index := 0#32
  let c4_i32 : BitVec 32 := 4#32
  let arg1 : BitVec 32 := BitVec.ofNat 32 (i 1).val
  let v15 : BitVec 32 := Scalar.muli c4_i32 arg1
  let v326 : BitVec 32 := Scalar.addi v15 c1_i32_245
  let c512_i32_246 : BitVec 32 := 512#32
  let v327 : BitVec 32 := Scalar.muli v326 c512_i32_246
  let c0_i32_247 : BitVec 32 := 0#32
  let v328 : BitVec 32 := Scalar.addi v327 c0_i32_247
  let v329 : BitVec 32 := v328
  let v330 : Index := Scalar.indexCast v329
  ![0, 0, v330.toNat]
def k0_mult24 (i : grid0.Coords) : BitVec 32 :=
  let c4_i32 : BitVec 32 := 4#32
  let arg1 : BitVec 32 := BitVec.ofNat 32 (i 1).val
  let v15 : BitVec 32 := Scalar.muli c4_i32 arg1
  let c1_i32_245 : BitVec 32 := 1#32
  let v326 : BitVec 32 := Scalar.addi v15 c1_i32_245
  let c512_i32_250 : BitVec 32 := 512#32
  let v333 : BitVec 32 := Scalar.muli v326 c512_i32_250
  let c0_i32_251 : BitVec 32 := 0#32
  let v334 : BitVec 32 := Scalar.addi v333 c0_i32_251
  v334
def k0_mult25 (i : grid0.Coords) : BitVec 32 :=
  let c4_i32 : BitVec 32 := 4#32
  let arg1 : BitVec 32 := BitVec.ofNat 32 (i 1).val
  let v15 : BitVec 32 := Scalar.muli c4_i32 arg1
  let c1_i32_245 : BitVec 32 := 1#32
  let v326 : BitVec 32 := Scalar.addi v15 c1_i32_245
  let c512_i32_286 : BitVec 32 := 512#32
  let v414 : BitVec 32 := Scalar.muli v326 c512_i32_286
  let c256_i32_287 : BitVec 32 := 256#32
  let v415 : BitVec 32 := Scalar.addi v414 c256_i32_287
  v415
def k0_off14 (i : grid0.Coords) (c1_i32_245 : BitVec 32) : Fin 3 → Nat :=
  let c0_288 : Index := 0#32
  let c0_289 : Index := 0#32
  let c4_i32 : BitVec 32 := 4#32
  let arg1 : BitVec 32 := BitVec.ofNat 32 (i 1).val
  let v15 : BitVec 32 := Scalar.muli c4_i32 arg1
  let v326 : BitVec 32 := Scalar.addi v15 c1_i32_245
  let c512_i32_286 : BitVec 32 := 512#32
  let v414 : BitVec 32 := Scalar.muli v326 c512_i32_286
  let c256_i32_287 : BitVec 32 := 256#32
  let v415 : BitVec 32 := Scalar.addi v414 c256_i32_287
  let v416 : BitVec 32 := v415
  let v417 : Index := Scalar.indexCast v416
  ![0, 0, v417.toNat]
def k0_mult26 (i : grid0.Coords) : BitVec 32 :=
  let c4_i32 : BitVec 32 := 4#32
  let arg1 : BitVec 32 := BitVec.ofNat 32 (i 1).val
  let v15 : BitVec 32 := Scalar.muli c4_i32 arg1
  let c1_i32_245 : BitVec 32 := 1#32
  let v326 : BitVec 32 := Scalar.addi v15 c1_i32_245
  let c512_i32_290 : BitVec 32 := 512#32
  let v420 : BitVec 32 := Scalar.muli v326 c512_i32_290
  let c256_i32_291 : BitVec 32 := 256#32
  let v421 : BitVec 32 := Scalar.addi v420 c256_i32_291
  v421
def k0_mult27 (i : grid0.Coords) : BitVec 32 :=
  let c4_i32 : BitVec 32 := 4#32
  let arg1 : BitVec 32 := BitVec.ofNat 32 (i 1).val
  let v15 : BitVec 32 := Scalar.muli c4_i32 arg1
  let c2_i32 : BitVec 32 := 2#32
  let v451 : BitVec 32 := Scalar.addi v15 c2_i32
  let c1_i32_304 : BitVec 32 := 1#32
  let v452 : BitVec 32 := Scalar.addi v451 c1_i32_304
  let c15_i32_305 : BitVec 32 := 15#32
  let v453 : BitVec 32 := Scalar.minsi v452 c15_i32_305
  let c512_i32_309 : BitVec 32 := 512#32
  let v456 : BitVec 32 := Scalar.muli v453 c512_i32_309
  let c0_i32_310 : BitVec 32 := 0#32
  let v457 : BitVec 32 := Scalar.addi v456 c0_i32_310
  v457
def k0_mult28 (i : grid0.Coords) : BitVec 32 :=
  let c4_i32 : BitVec 32 := 4#32
  let arg1 : BitVec 32 := BitVec.ofNat 32 (i 1).val
  let v15 : BitVec 32 := Scalar.muli c4_i32 arg1
  let c2_i32 : BitVec 32 := 2#32
  let v451 : BitVec 32 := Scalar.addi v15 c2_i32
  let c1_i32_304 : BitVec 32 := 1#32
  let v452 : BitVec 32 := Scalar.addi v451 c1_i32_304
  let c15_i32_305 : BitVec 32 := 15#32
  let v453 : BitVec 32 := Scalar.minsi v452 c15_i32_305
  let c512_i32_319 : BitVec 32 := 512#32
  let v468 : BitVec 32 := Scalar.muli v453 c512_i32_319
  let c0_i32_320 : BitVec 32 := 0#32
  let v469 : BitVec 32 := Scalar.addi v468 c0_i32_320
  v469
def k0_mult29 (i : grid0.Coords) : BitVec 32 :=
  let c4_i32 : BitVec 32 := 4#32
  let arg1 : BitVec 32 := BitVec.ofNat 32 (i 1).val
  let v15 : BitVec 32 := Scalar.muli c4_i32 arg1
  let c2_i32 : BitVec 32 := 2#32
  let v451 : BitVec 32 := Scalar.addi v15 c2_i32
  let c1_i32_304 : BitVec 32 := 1#32
  let v452 : BitVec 32 := Scalar.addi v451 c1_i32_304
  let c15_i32_305 : BitVec 32 := 15#32
  let v453 : BitVec 32 := Scalar.minsi v452 c15_i32_305
  let c512_i32_328 : BitVec 32 := 512#32
  let v480 : BitVec 32 := Scalar.muli v453 c512_i32_328
  let c256_i32_329 : BitVec 32 := 256#32
  let v481 : BitVec 32 := Scalar.addi v480 c256_i32_329
  v481
def k0_mult30 (i : grid0.Coords) : BitVec 32 :=
  let c4_i32 : BitVec 32 := 4#32
  let arg1 : BitVec 32 := BitVec.ofNat 32 (i 1).val
  let v15 : BitVec 32 := Scalar.muli c4_i32 arg1
  let c2_i32 : BitVec 32 := 2#32
  let v451 : BitVec 32 := Scalar.addi v15 c2_i32
  let c1_i32_304 : BitVec 32 := 1#32
  let v452 : BitVec 32 := Scalar.addi v451 c1_i32_304
  let c15_i32_305 : BitVec 32 := 15#32
  let v453 : BitVec 32 := Scalar.minsi v452 c15_i32_305
  let c512_i32_338 : BitVec 32 := 512#32
  let v492 : BitVec 32 := Scalar.muli v453 c512_i32_338
  let c256_i32_339 : BitVec 32 := 256#32
  let v493 : BitVec 32 := Scalar.addi v492 c256_i32_339
  v493
def k0_mult31 (i : grid0.Coords) : BitVec 32 :=
  let c4_i32 : BitVec 32 := 4#32
  let arg1 : BitVec 32 := BitVec.ofNat 32 (i 1).val
  let v15 : BitVec 32 := Scalar.muli c4_i32 arg1
  let c2_i32_345 : BitVec 32 := 2#32
  let v502 : BitVec 32 := Scalar.addi v15 c2_i32_345
  let c1_i32_346 : BitVec 32 := 1#32
  let v503 : BitVec 32 := Scalar.subi v502 c1_i32_346
  let c512_i32_352 : BitVec 32 := 512#32
  let v507 : BitVec 32 := Scalar.muli v503 c512_i32_352
  let c0_i32_353 : BitVec 32 := 0#32
  let v508 : BitVec 32 := Scalar.addi v507 c0_i32_353
  v508
def k0_mult32 (i : grid0.Coords) : BitVec 32 :=
  let c4_i32 : BitVec 32 := 4#32
  let arg1 : BitVec 32 := BitVec.ofNat 32 (i 1).val
  let v15 : BitVec 32 := Scalar.muli c4_i32 arg1
  let c2_i32_345 : BitVec 32 := 2#32
  let v502 : BitVec 32 := Scalar.addi v15 c2_i32_345
  let c1_i32_346 : BitVec 32 := 1#32
  let v503 : BitVec 32 := Scalar.subi v502 c1_i32_346
  let c512_i32_365 : BitVec 32 := 512#32
  let v521 : BitVec 32 := Scalar.muli v503 c512_i32_365
  let c0_i32_366 : BitVec 32 := 0#32
  let v522 : BitVec 32 := Scalar.addi v521 c0_i32_366
  v522
def k0_mult33 (i : grid0.Coords) : BitVec 32 :=
  let c4_i32 : BitVec 32 := 4#32
  let arg1 : BitVec 32 := BitVec.ofNat 32 (i 1).val
  let v15 : BitVec 32 := Scalar.muli c4_i32 arg1
  let c2_i32_345 : BitVec 32 := 2#32
  let v502 : BitVec 32 := Scalar.addi v15 c2_i32_345
  let c1_i32_346 : BitVec 32 := 1#32
  let v503 : BitVec 32 := Scalar.subi v502 c1_i32_346
  let c512_i32_373 : BitVec 32 := 512#32
  let v532 : BitVec 32 := Scalar.muli v503 c512_i32_373
  let c0_i32_374 : BitVec 32 := 0#32
  let v533 : BitVec 32 := Scalar.addi v532 c0_i32_374
  v533
def k0_mult34 (i : grid0.Coords) : BitVec 32 :=
  let c4_i32 : BitVec 32 := 4#32
  let arg1 : BitVec 32 := BitVec.ofNat 32 (i 1).val
  let v15 : BitVec 32 := Scalar.muli c4_i32 arg1
  let c2_i32_345 : BitVec 32 := 2#32
  let v502 : BitVec 32 := Scalar.addi v15 c2_i32_345
  let c1_i32_346 : BitVec 32 := 1#32
  let v503 : BitVec 32 := Scalar.subi v502 c1_i32_346
  let c512_i32_389 : BitVec 32 := 512#32
  let v549 : BitVec 32 := Scalar.muli v503 c512_i32_389
  let c256_i32_390 : BitVec 32 := 256#32
  let v550 : BitVec 32 := Scalar.addi v549 c256_i32_390
  v550
def k0_mult35 (i : grid0.Coords) : BitVec 32 :=
  let c4_i32 : BitVec 32 := 4#32
  let arg1 : BitVec 32 := BitVec.ofNat 32 (i 1).val
  let v15 : BitVec 32 := Scalar.muli c4_i32 arg1
  let c2_i32_345 : BitVec 32 := 2#32
  let v502 : BitVec 32 := Scalar.addi v15 c2_i32_345
  let c1_i32_346 : BitVec 32 := 1#32
  let v503 : BitVec 32 := Scalar.subi v502 c1_i32_346
  let c512_i32_402 : BitVec 32 := 512#32
  let v563 : BitVec 32 := Scalar.muli v503 c512_i32_402
  let c256_i32_403 : BitVec 32 := 256#32
  let v564 : BitVec 32 := Scalar.addi v563 c256_i32_403
  v564
def k0_mult36 (i : grid0.Coords) : BitVec 32 :=
  let c4_i32 : BitVec 32 := 4#32
  let arg1 : BitVec 32 := BitVec.ofNat 32 (i 1).val
  let v15 : BitVec 32 := Scalar.muli c4_i32 arg1
  let c2_i32_345 : BitVec 32 := 2#32
  let v502 : BitVec 32 := Scalar.addi v15 c2_i32_345
  let c1_i32_346 : BitVec 32 := 1#32
  let v503 : BitVec 32 := Scalar.subi v502 c1_i32_346
  let c512_i32_410 : BitVec 32 := 512#32
  let v574 : BitVec 32 := Scalar.muli v503 c512_i32_410
  let c256_i32_411 : BitVec 32 := 256#32
  let v575 : BitVec 32 := Scalar.addi v574 c256_i32_411
  v575
def k0_mult37 (i : grid0.Coords) : BitVec 32 :=
  let c4_i32 : BitVec 32 := 4#32
  let arg1 : BitVec 32 := BitVec.ofNat 32 (i 1).val
  let v15 : BitVec 32 := Scalar.muli c4_i32 arg1
  let c2_i32_421 : BitVec 32 := 2#32
  let v588 : BitVec 32 := Scalar.addi v15 c2_i32_421
  let c512_i32_422 : BitVec 32 := 512#32
  let v589 : BitVec 32 := Scalar.muli v588 c512_i32_422
  let c0_i32_423 : BitVec 32 := 0#32
  let v590 : BitVec 32 := Scalar.addi v589 c0_i32_423
  v590
def k0_mult38 (i : grid0.Coords) : BitVec 32 :=
  let c4_i32 : BitVec 32 := 4#32
  let arg1 : BitVec 32 := BitVec.ofNat 32 (i 1).val
  let v15 : BitVec 32 := Scalar.muli c4_i32 arg1
  let c2_i32_421 : BitVec 32 := 2#32
  let v588 : BitVec 32 := Scalar.addi v15 c2_i32_421
  let c512_i32_426 : BitVec 32 := 512#32
  let v595 : BitVec 32 := Scalar.muli v588 c512_i32_426
  let c0_i32_427 : BitVec 32 := 0#32
  let v596 : BitVec 32 := Scalar.addi v595 c0_i32_427
  v596
def k0_mult39 (i : grid0.Coords) : BitVec 32 :=
  let c4_i32 : BitVec 32 := 4#32
  let arg1 : BitVec 32 := BitVec.ofNat 32 (i 1).val
  let v15 : BitVec 32 := Scalar.muli c4_i32 arg1
  let c2_i32_421 : BitVec 32 := 2#32
  let v588 : BitVec 32 := Scalar.addi v15 c2_i32_421
  let c512_i32_483 : BitVec 32 := 512#32
  let v726 : BitVec 32 := Scalar.muli v588 c512_i32_483
  let c256_i32_484 : BitVec 32 := 256#32
  let v727 : BitVec 32 := Scalar.addi v726 c256_i32_484
  v727
def k0_mult40 (i : grid0.Coords) : BitVec 32 :=
  let c4_i32 : BitVec 32 := 4#32
  let arg1 : BitVec 32 := BitVec.ofNat 32 (i 1).val
  let v15 : BitVec 32 := Scalar.muli c4_i32 arg1
  let c2_i32_421 : BitVec 32 := 2#32
  let v588 : BitVec 32 := Scalar.addi v15 c2_i32_421
  let c512_i32_487 : BitVec 32 := 512#32
  let v732 : BitVec 32 := Scalar.muli v588 c512_i32_487
  let c256_i32_488 : BitVec 32 := 256#32
  let v733 : BitVec 32 := Scalar.addi v732 c256_i32_488
  v733
def k0_mult41 (i : grid0.Coords) : BitVec 32 :=
  let c4_i32 : BitVec 32 := 4#32
  let arg1 : BitVec 32 := BitVec.ofNat 32 (i 1).val
  let v15 : BitVec 32 := Scalar.muli c4_i32 arg1
  let c3_i32 : BitVec 32 := 3#32
  let v763 : BitVec 32 := Scalar.addi v15 c3_i32
  let c1_i32_501 : BitVec 32 := 1#32
  let v764 : BitVec 32 := Scalar.addi v763 c1_i32_501
  let c15_i32_502 : BitVec 32 := 15#32
  let v765 : BitVec 32 := Scalar.minsi v764 c15_i32_502
  let c512_i32_506 : BitVec 32 := 512#32
  let v768 : BitVec 32 := Scalar.muli v765 c512_i32_506
  let c0_i32_507 : BitVec 32 := 0#32
  let v769 : BitVec 32 := Scalar.addi v768 c0_i32_507
  v769
def k0_mult42 (i : grid0.Coords) : BitVec 32 :=
  let c4_i32 : BitVec 32 := 4#32
  let arg1 : BitVec 32 := BitVec.ofNat 32 (i 1).val
  let v15 : BitVec 32 := Scalar.muli c4_i32 arg1
  let c3_i32 : BitVec 32 := 3#32
  let v763 : BitVec 32 := Scalar.addi v15 c3_i32
  let c1_i32_501 : BitVec 32 := 1#32
  let v764 : BitVec 32 := Scalar.addi v763 c1_i32_501
  let c15_i32_502 : BitVec 32 := 15#32
  let v765 : BitVec 32 := Scalar.minsi v764 c15_i32_502
  let c512_i32_516 : BitVec 32 := 512#32
  let v780 : BitVec 32 := Scalar.muli v765 c512_i32_516
  let c0_i32_517 : BitVec 32 := 0#32
  let v781 : BitVec 32 := Scalar.addi v780 c0_i32_517
  v781
def k0_mult43 (i : grid0.Coords) : BitVec 32 :=
  let c4_i32 : BitVec 32 := 4#32
  let arg1 : BitVec 32 := BitVec.ofNat 32 (i 1).val
  let v15 : BitVec 32 := Scalar.muli c4_i32 arg1
  let c3_i32_523 : BitVec 32 := 3#32
  let v790 : BitVec 32 := Scalar.addi v15 c3_i32_523
  let c1_i32_524 : BitVec 32 := 1#32
  let v791 : BitVec 32 := Scalar.subi v790 c1_i32_524
  let c512_i32_530 : BitVec 32 := 512#32
  let v795 : BitVec 32 := Scalar.muli v791 c512_i32_530
  let c0_i32_531 : BitVec 32 := 0#32
  let v796 : BitVec 32 := Scalar.addi v795 c0_i32_531
  v796
def k0_mult44 (i : grid0.Coords) : BitVec 32 :=
  let c4_i32 : BitVec 32 := 4#32
  let arg1 : BitVec 32 := BitVec.ofNat 32 (i 1).val
  let v15 : BitVec 32 := Scalar.muli c4_i32 arg1
  let c3_i32_523 : BitVec 32 := 3#32
  let v790 : BitVec 32 := Scalar.addi v15 c3_i32_523
  let c1_i32_524 : BitVec 32 := 1#32
  let v791 : BitVec 32 := Scalar.subi v790 c1_i32_524
  let c512_i32_543 : BitVec 32 := 512#32
  let v809 : BitVec 32 := Scalar.muli v791 c512_i32_543
  let c0_i32_544 : BitVec 32 := 0#32
  let v810 : BitVec 32 := Scalar.addi v809 c0_i32_544
  v810
def k0_mult45 (i : grid0.Coords) : BitVec 32 :=
  let c4_i32 : BitVec 32 := 4#32
  let arg1 : BitVec 32 := BitVec.ofNat 32 (i 1).val
  let v15 : BitVec 32 := Scalar.muli c4_i32 arg1
  let c3_i32_523 : BitVec 32 := 3#32
  let v790 : BitVec 32 := Scalar.addi v15 c3_i32_523
  let c1_i32_524 : BitVec 32 := 1#32
  let v791 : BitVec 32 := Scalar.subi v790 c1_i32_524
  let c512_i32_551 : BitVec 32 := 512#32
  let v820 : BitVec 32 := Scalar.muli v791 c512_i32_551
  let c0_i32_552 : BitVec 32 := 0#32
  let v821 : BitVec 32 := Scalar.addi v820 c0_i32_552
  v821
def k0_mult46 (i : grid0.Coords) : BitVec 32 :=
  let c4_i32 : BitVec 32 := 4#32
  let arg1 : BitVec 32 := BitVec.ofNat 32 (i 1).val
  let v15 : BitVec 32 := Scalar.muli c4_i32 arg1
  let c3_i32_523 : BitVec 32 := 3#32
  let v790 : BitVec 32 := Scalar.addi v15 c3_i32_523
  let c1_i32_524 : BitVec 32 := 1#32
  let v791 : BitVec 32 := Scalar.subi v790 c1_i32_524
  let c512_i32_567 : BitVec 32 := 512#32
  let v837 : BitVec 32 := Scalar.muli v791 c512_i32_567
  let c256_i32_568 : BitVec 32 := 256#32
  let v838 : BitVec 32 := Scalar.addi v837 c256_i32_568
  v838
def k0_mult47 (i : grid0.Coords) : BitVec 32 :=
  let c4_i32 : BitVec 32 := 4#32
  let arg1 : BitVec 32 := BitVec.ofNat 32 (i 1).val
  let v15 : BitVec 32 := Scalar.muli c4_i32 arg1
  let c3_i32_523 : BitVec 32 := 3#32
  let v790 : BitVec 32 := Scalar.addi v15 c3_i32_523
  let c1_i32_524 : BitVec 32 := 1#32
  let v791 : BitVec 32 := Scalar.subi v790 c1_i32_524
  let c512_i32_580 : BitVec 32 := 512#32
  let v851 : BitVec 32 := Scalar.muli v791 c512_i32_580
  let c256_i32_581 : BitVec 32 := 256#32
  let v852 : BitVec 32 := Scalar.addi v851 c256_i32_581
  v852
def k0_mult48 (i : grid0.Coords) : BitVec 32 :=
  let c4_i32 : BitVec 32 := 4#32
  let arg1 : BitVec 32 := BitVec.ofNat 32 (i 1).val
  let v15 : BitVec 32 := Scalar.muli c4_i32 arg1
  let c3_i32_523 : BitVec 32 := 3#32
  let v790 : BitVec 32 := Scalar.addi v15 c3_i32_523
  let c1_i32_524 : BitVec 32 := 1#32
  let v791 : BitVec 32 := Scalar.subi v790 c1_i32_524
  let c512_i32_588 : BitVec 32 := 512#32
  let v862 : BitVec 32 := Scalar.muli v791 c512_i32_588
  let c256_i32_589 : BitVec 32 := 256#32
  let v863 : BitVec 32 := Scalar.addi v862 c256_i32_589
  v863
def k0_mult49 (i : grid0.Coords) : BitVec 32 :=
  let c4_i32 : BitVec 32 := 4#32
  let arg1 : BitVec 32 := BitVec.ofNat 32 (i 1).val
  let v15 : BitVec 32 := Scalar.muli c4_i32 arg1
  let c3_i32_599 : BitVec 32 := 3#32
  let v876 : BitVec 32 := Scalar.addi v15 c3_i32_599
  let c512_i32_600 : BitVec 32 := 512#32
  let v877 : BitVec 32 := Scalar.muli v876 c512_i32_600
  let c0_i32_601 : BitVec 32 := 0#32
  let v878 : BitVec 32 := Scalar.addi v877 c0_i32_601
  v878
def k0_mult50 (i : grid0.Coords) : BitVec 32 :=
  let c4_i32 : BitVec 32 := 4#32
  let arg1 : BitVec 32 := BitVec.ofNat 32 (i 1).val
  let v15 : BitVec 32 := Scalar.muli c4_i32 arg1
  let c3_i32_599 : BitVec 32 := 3#32
  let v876 : BitVec 32 := Scalar.addi v15 c3_i32_599
  let c512_i32_604 : BitVec 32 := 512#32
  let v883 : BitVec 32 := Scalar.muli v876 c512_i32_604
  let c0_i32_605 : BitVec 32 := 0#32
  let v884 : BitVec 32 := Scalar.addi v883 c0_i32_605
  v884
def k0_mult51 (i : grid0.Coords) : BitVec 32 :=
  let c4_i32 : BitVec 32 := 4#32
  let arg1 : BitVec 32 := BitVec.ofNat 32 (i 1).val
  let v15 : BitVec 32 := Scalar.muli c4_i32 arg1
  let c3_i32_599 : BitVec 32 := 3#32
  let v876 : BitVec 32 := Scalar.addi v15 c3_i32_599
  let c512_i32_683 : BitVec 32 := 512#32
  let v1064 : BitVec 32 := Scalar.muli v876 c512_i32_683
  let c256_i32_684 : BitVec 32 := 256#32
  let v1065 : BitVec 32 := Scalar.addi v1064 c256_i32_684
  v1065
def k0_mult52 (i : grid0.Coords) : BitVec 32 :=
  let c4_i32 : BitVec 32 := 4#32
  let arg1 : BitVec 32 := BitVec.ofNat 32 (i 1).val
  let v15 : BitVec 32 := Scalar.muli c4_i32 arg1
  let c3_i32_599 : BitVec 32 := 3#32
  let v876 : BitVec 32 := Scalar.addi v15 c3_i32_599
  let c512_i32_687 : BitVec 32 := 512#32
  let v1070 : BitVec 32 := Scalar.muli v876 c512_i32_687
  let c256_i32_688 : BitVec 32 := 256#32
  let v1071 : BitVec 32 := Scalar.addi v1070 c256_i32_688
  v1071
@[reducible] def k0_t1_loop (i : grid0.Coords) : Scf.Loop 32 :=
  let c0_i32_717 : BitVec 32 := 0#32
  let c15_i32_707 : BitVec 32 := 15#32
  let c4_i32 : BitVec 32 := 4#32
  let arg1 : BitVec 32 := BitVec.ofNat 32 (i 1).val
  let v15 : BitVec 32 := Scalar.muli c4_i32 arg1
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_720 : BitVec 32 := 1#32
  ⟨c0_i32_717, v1133, c1_i32_720⟩
def k0_mult53 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_764 : BitVec 32 := 1#32
  let v1182 : BitVec 32 := Scalar.addi v1181 c1_i32_764
  let c15_i32_765 : BitVec 32 := 15#32
  let v1183 : BitVec 32 := Scalar.minsi v1182 c15_i32_765
  let c512_i32_769 : BitVec 32 := 512#32
  let v1186 : BitVec 32 := Scalar.muli v1183 c512_i32_769
  let c0_i32_770 : BitVec 32 := 0#32
  let v1187 : BitVec 32 := Scalar.addi v1186 c0_i32_770
  v1187
def k0_off15 (i : grid0.Coords) (k0_t1 : Fin (k0_t1_loop i).trips) : Fin 3 → Nat :=
  let c0_771 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_764 : BitVec 32 := 1#32
  let v1182 : BitVec 32 := Scalar.addi v1181 c1_i32_764
  let c15_i32_765 : BitVec 32 := 15#32
  let v1183 : BitVec 32 := Scalar.minsi v1182 c15_i32_765
  let c512_i32_769 : BitVec 32 := 512#32
  let v1186 : BitVec 32 := Scalar.muli v1183 c512_i32_769
  let c0_i32_770 : BitVec 32 := 0#32
  let v1187 : BitVec 32 := Scalar.addi v1186 c0_i32_770
  let v1188 : BitVec 32 := v1187
  let v1189 : Index := Scalar.indexCast v1188
  let c0_772 : Index := 0#32
  ![0, v1189.toNat, 0]
def k0_mult54 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_764 : BitVec 32 := 1#32
  let v1182 : BitVec 32 := Scalar.addi v1181 c1_i32_764
  let c15_i32_765 : BitVec 32 := 15#32
  let v1183 : BitVec 32 := Scalar.minsi v1182 c15_i32_765
  let c512_i32_779 : BitVec 32 := 512#32
  let v1198 : BitVec 32 := Scalar.muli v1183 c512_i32_779
  let c0_i32_780 : BitVec 32 := 0#32
  let v1199 : BitVec 32 := Scalar.addi v1198 c0_i32_780
  v1199
def k0_mult55 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_792 : BitVec 32 := 512#32
  let v1212 : BitVec 32 := Scalar.muli v1208 c512_i32_792
  let c0_i32_793 : BitVec 32 := 0#32
  let v1213 : BitVec 32 := Scalar.addi v1212 c0_i32_793
  v1213
def k0_off16 (i : grid0.Coords) (k0_t1 : Fin (k0_t1_loop i).trips) : Fin 3 → Nat :=
  let c0_794 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_792 : BitVec 32 := 512#32
  let v1212 : BitVec 32 := Scalar.muli v1208 c512_i32_792
  let c0_i32_793 : BitVec 32 := 0#32
  let v1213 : BitVec 32 := Scalar.addi v1212 c0_i32_793
  let v1214 : BitVec 32 := v1213
  let v1215 : Index := Scalar.indexCast v1214
  let c0_795 : Index := 0#32
  ![0, v1215.toNat, 0]
def k0_mult56 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_805 : BitVec 32 := 512#32
  let v1226 : BitVec 32 := Scalar.muli v1208 c512_i32_805
  let c0_i32_806 : BitVec 32 := 0#32
  let v1227 : BitVec 32 := Scalar.addi v1226 c0_i32_806
  v1227
def k0_mult57 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_813 : BitVec 32 := 512#32
  let v1237 : BitVec 32 := Scalar.muli v1208 c512_i32_813
  let c0_i32_814 : BitVec 32 := 0#32
  let v1238 : BitVec 32 := Scalar.addi v1237 c0_i32_814
  v1238
def k0_off17 (i : grid0.Coords) (k0_t1 : Fin (k0_t1_loop i).trips) : Fin 3 → Nat :=
  let c0_815 : Index := 0#32
  let c0_816 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_813 : BitVec 32 := 512#32
  let v1237 : BitVec 32 := Scalar.muli v1208 c512_i32_813
  let c0_i32_814 : BitVec 32 := 0#32
  let v1238 : BitVec 32 := Scalar.addi v1237 c0_i32_814
  let v1239 : BitVec 32 := v1238
  let v1240 : Index := Scalar.indexCast v1239
  ![0, 0, v1240.toNat]
def k0_mult58 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c512_i32_824 : BitVec 32 := 512#32
  let v1251 : BitVec 32 := Scalar.muli v1181 c512_i32_824
  let c0_i32_825 : BitVec 32 := 0#32
  let v1252 : BitVec 32 := Scalar.addi v1251 c0_i32_825
  v1252
def k0_off18 (i : grid0.Coords) (k0_t1 : Fin (k0_t1_loop i).trips) : Fin 3 → Nat :=
  let c0_826 : Index := 0#32
  let c0_827 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c512_i32_824 : BitVec 32 := 512#32
  let v1251 : BitVec 32 := Scalar.muli v1181 c512_i32_824
  let c0_i32_825 : BitVec 32 := 0#32
  let v1252 : BitVec 32 := Scalar.addi v1251 c0_i32_825
  let v1253 : BitVec 32 := v1252
  let v1254 : Index := Scalar.indexCast v1253
  ![0, 0, v1254.toNat]
def k0_mult59 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c512_i32_828 : BitVec 32 := 512#32
  let v1257 : BitVec 32 := Scalar.muli v1181 c512_i32_828
  let c0_i32_829 : BitVec 32 := 0#32
  let v1258 : BitVec 32 := Scalar.addi v1257 c0_i32_829
  v1258
def k0_mult60 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_865 : BitVec 32 := 1#32
  let v1328 : BitVec 32 := Scalar.addi v1327 c1_i32_865
  let c15_i32_866 : BitVec 32 := 15#32
  let v1329 : BitVec 32 := Scalar.minsi v1328 c15_i32_866
  let c512_i32_870 : BitVec 32 := 512#32
  let v1332 : BitVec 32 := Scalar.muli v1329 c512_i32_870
  let c0_i32_871 : BitVec 32 := 0#32
  let v1333 : BitVec 32 := Scalar.addi v1332 c0_i32_871
  v1333
def k0_off19 (i : grid0.Coords) (k0_t1 : Fin (k0_t1_loop i).trips) : Fin 3 → Nat :=
  let c0_872 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_865 : BitVec 32 := 1#32
  let v1328 : BitVec 32 := Scalar.addi v1327 c1_i32_865
  let c15_i32_866 : BitVec 32 := 15#32
  let v1329 : BitVec 32 := Scalar.minsi v1328 c15_i32_866
  let c512_i32_870 : BitVec 32 := 512#32
  let v1332 : BitVec 32 := Scalar.muli v1329 c512_i32_870
  let c0_i32_871 : BitVec 32 := 0#32
  let v1333 : BitVec 32 := Scalar.addi v1332 c0_i32_871
  let v1334 : BitVec 32 := v1333
  let v1335 : Index := Scalar.indexCast v1334
  let c0_873 : Index := 0#32
  ![0, v1335.toNat, 0]
def k0_mult61 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_865 : BitVec 32 := 1#32
  let v1328 : BitVec 32 := Scalar.addi v1327 c1_i32_865
  let c15_i32_866 : BitVec 32 := 15#32
  let v1329 : BitVec 32 := Scalar.minsi v1328 c15_i32_866
  let c512_i32_880 : BitVec 32 := 512#32
  let v1344 : BitVec 32 := Scalar.muli v1329 c512_i32_880
  let c0_i32_881 : BitVec 32 := 0#32
  let v1345 : BitVec 32 := Scalar.addi v1344 c0_i32_881
  v1345
def k0_mult62 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_893 : BitVec 32 := 512#32
  let v1358 : BitVec 32 := Scalar.muli v1354 c512_i32_893
  let c0_i32_894 : BitVec 32 := 0#32
  let v1359 : BitVec 32 := Scalar.addi v1358 c0_i32_894
  v1359
def k0_off20 (i : grid0.Coords) (k0_t1 : Fin (k0_t1_loop i).trips) : Fin 3 → Nat :=
  let c0_895 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_893 : BitVec 32 := 512#32
  let v1358 : BitVec 32 := Scalar.muli v1354 c512_i32_893
  let c0_i32_894 : BitVec 32 := 0#32
  let v1359 : BitVec 32 := Scalar.addi v1358 c0_i32_894
  let v1360 : BitVec 32 := v1359
  let v1361 : Index := Scalar.indexCast v1360
  let c0_896 : Index := 0#32
  ![0, v1361.toNat, 0]
def k0_mult63 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_906 : BitVec 32 := 512#32
  let v1372 : BitVec 32 := Scalar.muli v1354 c512_i32_906
  let c0_i32_907 : BitVec 32 := 0#32
  let v1373 : BitVec 32 := Scalar.addi v1372 c0_i32_907
  v1373
def k0_mult64 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_914 : BitVec 32 := 512#32
  let v1383 : BitVec 32 := Scalar.muli v1354 c512_i32_914
  let c0_i32_915 : BitVec 32 := 0#32
  let v1384 : BitVec 32 := Scalar.addi v1383 c0_i32_915
  v1384
def k0_off21 (i : grid0.Coords) (k0_t1 : Fin (k0_t1_loop i).trips) : Fin 3 → Nat :=
  let c0_916 : Index := 0#32
  let c0_917 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_914 : BitVec 32 := 512#32
  let v1383 : BitVec 32 := Scalar.muli v1354 c512_i32_914
  let c0_i32_915 : BitVec 32 := 0#32
  let v1384 : BitVec 32 := Scalar.addi v1383 c0_i32_915
  let v1385 : BitVec 32 := v1384
  let v1386 : Index := Scalar.indexCast v1385
  ![0, 0, v1386.toNat]
def k0_mult65 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c512_i32_925 : BitVec 32 := 512#32
  let v1397 : BitVec 32 := Scalar.muli v1327 c512_i32_925
  let c0_i32_926 : BitVec 32 := 0#32
  let v1398 : BitVec 32 := Scalar.addi v1397 c0_i32_926
  v1398
def k0_off22 (i : grid0.Coords) (k0_t1 : Fin (k0_t1_loop i).trips) : Fin 3 → Nat :=
  let c0_927 : Index := 0#32
  let c0_928 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c512_i32_925 : BitVec 32 := 512#32
  let v1397 : BitVec 32 := Scalar.muli v1327 c512_i32_925
  let c0_i32_926 : BitVec 32 := 0#32
  let v1398 : BitVec 32 := Scalar.addi v1397 c0_i32_926
  let v1399 : BitVec 32 := v1398
  let v1400 : Index := Scalar.indexCast v1399
  ![0, 0, v1400.toNat]
def k0_mult66 (i : grid0.Coords) (k0_t1 : Fin (k0_t1_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c1_i32_720 : BitVec 32 := 1#32
  let arg20 : BitVec 32 := Scf.iv c0_i32_717 c1_i32_720 k0_t1
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c512_i32_929 : BitVec 32 := 512#32
  let v1403 : BitVec 32 := Scalar.muli v1327 c512_i32_929
  let c0_i32_930 : BitVec 32 := 0#32
  let v1404 : BitVec 32 := Scalar.addi v1403 c0_i32_930
  v1404
@[reducible] def k0_t2_loop (i : grid0.Coords) : Scf.Loop 32 :=
  let c0_i32_717 : BitVec 32 := 0#32
  let c15_i32_707 : BitVec 32 := 15#32
  let c4_i32 : BitVec 32 := 4#32
  let arg1 : BitVec 32 := BitVec.ofNat 32 (i 1).val
  let v15 : BitVec 32 := Scalar.muli c4_i32 arg1
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let v1130 : BitVec 32 := Scalar.addi c0_i32_717 v1129
  let c1_i32_721 : BitVec 32 := 1#32
  ⟨v1133, v1130, c1_i32_721⟩
def k0_mult67 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_764 : BitVec 32 := 1#32
  let v1182 : BitVec 32 := Scalar.addi v1181 c1_i32_764
  let c15_i32_765 : BitVec 32 := 15#32
  let v1183 : BitVec 32 := Scalar.minsi v1182 c15_i32_765
  let c512_i32_769 : BitVec 32 := 512#32
  let v1186 : BitVec 32 := Scalar.muli v1183 c512_i32_769
  let c0_i32_770 : BitVec 32 := 0#32
  let v1187 : BitVec 32 := Scalar.addi v1186 c0_i32_770
  v1187
def k0_off23 (i : grid0.Coords) (k0_t2 : Fin (k0_t2_loop i).trips) : Fin 3 → Nat :=
  let c0_771 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_764 : BitVec 32 := 1#32
  let v1182 : BitVec 32 := Scalar.addi v1181 c1_i32_764
  let c15_i32_765 : BitVec 32 := 15#32
  let v1183 : BitVec 32 := Scalar.minsi v1182 c15_i32_765
  let c512_i32_769 : BitVec 32 := 512#32
  let v1186 : BitVec 32 := Scalar.muli v1183 c512_i32_769
  let c0_i32_770 : BitVec 32 := 0#32
  let v1187 : BitVec 32 := Scalar.addi v1186 c0_i32_770
  let v1188 : BitVec 32 := v1187
  let v1189 : Index := Scalar.indexCast v1188
  let c0_772 : Index := 0#32
  ![0, v1189.toNat, 0]
def k0_mult68 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_764 : BitVec 32 := 1#32
  let v1182 : BitVec 32 := Scalar.addi v1181 c1_i32_764
  let c15_i32_765 : BitVec 32 := 15#32
  let v1183 : BitVec 32 := Scalar.minsi v1182 c15_i32_765
  let c512_i32_779 : BitVec 32 := 512#32
  let v1198 : BitVec 32 := Scalar.muli v1183 c512_i32_779
  let c0_i32_780 : BitVec 32 := 0#32
  let v1199 : BitVec 32 := Scalar.addi v1198 c0_i32_780
  v1199
def k0_mult69 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_792 : BitVec 32 := 512#32
  let v1212 : BitVec 32 := Scalar.muli v1208 c512_i32_792
  let c0_i32_793 : BitVec 32 := 0#32
  let v1213 : BitVec 32 := Scalar.addi v1212 c0_i32_793
  v1213
def k0_off24 (i : grid0.Coords) (k0_t2 : Fin (k0_t2_loop i).trips) : Fin 3 → Nat :=
  let c0_794 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_792 : BitVec 32 := 512#32
  let v1212 : BitVec 32 := Scalar.muli v1208 c512_i32_792
  let c0_i32_793 : BitVec 32 := 0#32
  let v1213 : BitVec 32 := Scalar.addi v1212 c0_i32_793
  let v1214 : BitVec 32 := v1213
  let v1215 : Index := Scalar.indexCast v1214
  let c0_795 : Index := 0#32
  ![0, v1215.toNat, 0]
def k0_mult70 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_805 : BitVec 32 := 512#32
  let v1226 : BitVec 32 := Scalar.muli v1208 c512_i32_805
  let c0_i32_806 : BitVec 32 := 0#32
  let v1227 : BitVec 32 := Scalar.addi v1226 c0_i32_806
  v1227
def k0_mult71 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_813 : BitVec 32 := 512#32
  let v1237 : BitVec 32 := Scalar.muli v1208 c512_i32_813
  let c0_i32_814 : BitVec 32 := 0#32
  let v1238 : BitVec 32 := Scalar.addi v1237 c0_i32_814
  v1238
def k0_off25 (i : grid0.Coords) (k0_t2 : Fin (k0_t2_loop i).trips) : Fin 3 → Nat :=
  let c0_815 : Index := 0#32
  let c0_816 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_786 : BitVec 32 := 1#32
  let v1208 : BitVec 32 := Scalar.subi v1181 c1_i32_786
  let c512_i32_813 : BitVec 32 := 512#32
  let v1237 : BitVec 32 := Scalar.muli v1208 c512_i32_813
  let c0_i32_814 : BitVec 32 := 0#32
  let v1238 : BitVec 32 := Scalar.addi v1237 c0_i32_814
  let v1239 : BitVec 32 := v1238
  let v1240 : Index := Scalar.indexCast v1239
  ![0, 0, v1240.toNat]
def k0_mult72 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c512_i32_824 : BitVec 32 := 512#32
  let v1251 : BitVec 32 := Scalar.muli v1181 c512_i32_824
  let c0_i32_825 : BitVec 32 := 0#32
  let v1252 : BitVec 32 := Scalar.addi v1251 c0_i32_825
  v1252
def k0_off26 (i : grid0.Coords) (k0_t2 : Fin (k0_t2_loop i).trips) : Fin 3 → Nat :=
  let c0_826 : Index := 0#32
  let c0_827 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c512_i32_824 : BitVec 32 := 512#32
  let v1251 : BitVec 32 := Scalar.muli v1181 c512_i32_824
  let c0_i32_825 : BitVec 32 := 0#32
  let v1252 : BitVec 32 := Scalar.addi v1251 c0_i32_825
  let v1253 : BitVec 32 := v1252
  let v1254 : Index := Scalar.indexCast v1253
  ![0, 0, v1254.toNat]
def k0_mult73 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c512_i32_828 : BitVec 32 := 512#32
  let v1257 : BitVec 32 := Scalar.muli v1181 c512_i32_828
  let c0_i32_829 : BitVec 32 := 0#32
  let v1258 : BitVec 32 := Scalar.addi v1257 c0_i32_829
  v1258
def k0_mult74 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_865 : BitVec 32 := 1#32
  let v1328 : BitVec 32 := Scalar.addi v1327 c1_i32_865
  let c15_i32_866 : BitVec 32 := 15#32
  let v1329 : BitVec 32 := Scalar.minsi v1328 c15_i32_866
  let c512_i32_870 : BitVec 32 := 512#32
  let v1332 : BitVec 32 := Scalar.muli v1329 c512_i32_870
  let c0_i32_871 : BitVec 32 := 0#32
  let v1333 : BitVec 32 := Scalar.addi v1332 c0_i32_871
  v1333
def k0_off27 (i : grid0.Coords) (k0_t2 : Fin (k0_t2_loop i).trips) : Fin 3 → Nat :=
  let c0_872 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_865 : BitVec 32 := 1#32
  let v1328 : BitVec 32 := Scalar.addi v1327 c1_i32_865
  let c15_i32_866 : BitVec 32 := 15#32
  let v1329 : BitVec 32 := Scalar.minsi v1328 c15_i32_866
  let c512_i32_870 : BitVec 32 := 512#32
  let v1332 : BitVec 32 := Scalar.muli v1329 c512_i32_870
  let c0_i32_871 : BitVec 32 := 0#32
  let v1333 : BitVec 32 := Scalar.addi v1332 c0_i32_871
  let v1334 : BitVec 32 := v1333
  let v1335 : Index := Scalar.indexCast v1334
  let c0_873 : Index := 0#32
  ![0, v1335.toNat, 0]
def k0_mult75 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_865 : BitVec 32 := 1#32
  let v1328 : BitVec 32 := Scalar.addi v1327 c1_i32_865
  let c15_i32_866 : BitVec 32 := 15#32
  let v1329 : BitVec 32 := Scalar.minsi v1328 c15_i32_866
  let c512_i32_880 : BitVec 32 := 512#32
  let v1344 : BitVec 32 := Scalar.muli v1329 c512_i32_880
  let c0_i32_881 : BitVec 32 := 0#32
  let v1345 : BitVec 32 := Scalar.addi v1344 c0_i32_881
  v1345
def k0_mult76 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_893 : BitVec 32 := 512#32
  let v1358 : BitVec 32 := Scalar.muli v1354 c512_i32_893
  let c0_i32_894 : BitVec 32 := 0#32
  let v1359 : BitVec 32 := Scalar.addi v1358 c0_i32_894
  v1359
def k0_off28 (i : grid0.Coords) (k0_t2 : Fin (k0_t2_loop i).trips) : Fin 3 → Nat :=
  let c0_895 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_893 : BitVec 32 := 512#32
  let v1358 : BitVec 32 := Scalar.muli v1354 c512_i32_893
  let c0_i32_894 : BitVec 32 := 0#32
  let v1359 : BitVec 32 := Scalar.addi v1358 c0_i32_894
  let v1360 : BitVec 32 := v1359
  let v1361 : Index := Scalar.indexCast v1360
  let c0_896 : Index := 0#32
  ![0, v1361.toNat, 0]
def k0_mult77 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_906 : BitVec 32 := 512#32
  let v1372 : BitVec 32 := Scalar.muli v1354 c512_i32_906
  let c0_i32_907 : BitVec 32 := 0#32
  let v1373 : BitVec 32 := Scalar.addi v1372 c0_i32_907
  v1373
def k0_mult78 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_914 : BitVec 32 := 512#32
  let v1383 : BitVec 32 := Scalar.muli v1354 c512_i32_914
  let c0_i32_915 : BitVec 32 := 0#32
  let v1384 : BitVec 32 := Scalar.addi v1383 c0_i32_915
  v1384
def k0_off29 (i : grid0.Coords) (k0_t2 : Fin (k0_t2_loop i).trips) : Fin 3 → Nat :=
  let c0_916 : Index := 0#32
  let c0_917 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c1_i32_887 : BitVec 32 := 1#32
  let v1354 : BitVec 32 := Scalar.subi v1327 c1_i32_887
  let c512_i32_914 : BitVec 32 := 512#32
  let v1383 : BitVec 32 := Scalar.muli v1354 c512_i32_914
  let c0_i32_915 : BitVec 32 := 0#32
  let v1384 : BitVec 32 := Scalar.addi v1383 c0_i32_915
  let v1385 : BitVec 32 := v1384
  let v1386 : Index := Scalar.indexCast v1385
  ![0, 0, v1386.toNat]
def k0_mult79 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c512_i32_925 : BitVec 32 := 512#32
  let v1397 : BitVec 32 := Scalar.muli v1327 c512_i32_925
  let c0_i32_926 : BitVec 32 := 0#32
  let v1398 : BitVec 32 := Scalar.addi v1397 c0_i32_926
  v1398
def k0_off30 (i : grid0.Coords) (k0_t2 : Fin (k0_t2_loop i).trips) : Fin 3 → Nat :=
  let c0_927 : Index := 0#32
  let c0_928 : Index := 0#32
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c512_i32_925 : BitVec 32 := 512#32
  let v1397 : BitVec 32 := Scalar.muli v1327 c512_i32_925
  let c0_i32_926 : BitVec 32 := 0#32
  let v1398 : BitVec 32 := Scalar.addi v1397 c0_i32_926
  let v1399 : BitVec 32 := v1398
  let v1400 : Index := Scalar.indexCast v1399
  ![0, 0, v1400.toNat]
def k0_mult80 (i : grid0.Coords) (k0_t2 : Fin (k0_t2_loop i).trips) : BitVec 32 :=
  let c4_i32 : BitVec 32 := 4#32
  let arg1 : BitVec 32 := BitVec.ofNat 32 (i 1).val
  let v15 : BitVec 32 := Scalar.muli c4_i32 arg1
  let c4_i32_762 : BitVec 32 := 4#32
  let v1179 : BitVec 32 := Scalar.addi v15 c4_i32_762
  let c2_i32_763 : BitVec 32 := 2#32
  let c0_i32_717 : BitVec 32 := 0#32
  let c15_i32_707 : BitVec 32 := 15#32
  let v1109 : BitVec 32 := Scalar.subi c15_i32_707 v15
  let c4_i32_708 : BitVec 32 := 4#32
  let v1110 : BitVec 32 := Scalar.subi v1109 c4_i32_708
  let c1_i32_709 : BitVec 32 := 1#32
  let v1111 : BitVec 32 := Scalar.addi v1110 c1_i32_709
  let c0_i32_711 : BitVec 32 := 0#32
  let v1113 : BitVec 1 := Scalar.cmpi .sgt v1111 c0_i32_711
  let v1114 : BitVec 32 := Scalar.extui v1113
  let c0_i32_712 : BitVec 32 := 0#32
  let v1115 : BitVec 1 := Scalar.cmpi .slt v1111 c0_i32_712
  let v1116 : BitVec 32 := Scalar.extui v1115
  let v1117 : BitVec 32 := Scalar.subi v1114 v1116
  let c2_i32_710 : BitVec 32 := 2#32
  let c0_i32_713 : BitVec 32 := 0#32
  let v1118 : BitVec 1 := Scalar.cmpi .sgt c2_i32_710 c0_i32_713
  let v1119 : BitVec 32 := Scalar.extui v1118
  let c0_i32_714 : BitVec 32 := 0#32
  let v1120 : BitVec 1 := Scalar.cmpi .slt c2_i32_710 c0_i32_714
  let v1121 : BitVec 32 := Scalar.extui v1120
  let v1122 : BitVec 32 := Scalar.subi v1119 v1121
  let v1123 : BitVec 1 := Scalar.cmpi .ne v1117 v1122
  let v1124 : BitVec 32 := Scalar.remsi v1111 c2_i32_710
  let c0_i32_715 : BitVec 32 := 0#32
  let v1125 : BitVec 1 := Scalar.cmpi .ne v1124 c0_i32_715
  let v1126 : BitVec 1 := Scalar.andi v1123 v1125
  let v1112 : BitVec 32 := Scalar.divsi v1111 c2_i32_710
  let c1_i32_716 : BitVec 32 := 1#32
  let v1127 : BitVec 32 := Scalar.subi v1112 c1_i32_716
  let v1128 : BitVec 32 := Scalar.select v1126 v1127 v1112
  let v1129 : BitVec 32 := Scalar.subi v1128 c0_i32_717
  let c1_i32_719 : BitVec 32 := 1#32
  let v1131 : BitVec 32 := Scalar.divsi v1129 c1_i32_719
  let v1132 : BitVec 32 := Scalar.muli v1131 c1_i32_719
  let v1133 : BitVec 32 := Scalar.addi c0_i32_717 v1132
  let c1_i32_721 : BitVec 32 := 1#32
  let arg20 : BitVec 32 := Scf.iv v1133 c1_i32_721 k0_t2
  let v1180 : BitVec 32 := Scalar.muli c2_i32_763 arg20
  let v1181 : BitVec 32 := Scalar.addi v1179 v1180
  let c1_i32_864 : BitVec 32 := 1#32
  let v1327 : BitVec 32 := Scalar.addi v1181 c1_i32_864
  let c512_i32_929 : BitVec 32 := 512#32
  let v1403 : BitVec 32 := Scalar.muli v1327 c512_i32_929
  let c0_i32_930 : BitVec 32 := 0#32
  let v1404 : BitVec 32 := Scalar.addi v1403 c0_i32_930
  v1404
def k0_mult81 : BitVec 32 :=
  let c7680_i32 : BitVec 32 := 7680#32
  c7680_i32
def k0_mult82 : BitVec 32 :=
  let c7680_i32_738 : BitVec 32 := 7680#32
  c7680_i32_738
def k0_mult83 : BitVec 32 :=
  let c7680_i32_745 : BitVec 32 := 7680#32
  c7680_i32_745
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2Ideal.lean ====
variable {F : FTy → Type} [FloatOps F] [Named F]
def κ : String → Option EReal := fun
  | "ln2" => some ((Real.log 2 : ℝ) : EReal)
  | _ => none
-- ==== Reference2Ideal.lean ====
abbrev S8192x8x96 : Shape := ⟨3, ![8192, 8, 96]⟩
abbrev S8192x8x64 : Shape := ⟨3, ![8192, 8, 64]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x128 : Shape := ⟨3, ![8192, 8, 128]⟩
abbrev S8x128x8192 : Shape := ⟨3, ![8, 128, 8192]⟩
abbrev S8x8192x128 : Shape := ⟨3, ![8, 8192, 128]⟩

abbrev nBuf : Space → Nat
  | .hbm => 100
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S_, .f32⟩
  | .hbm, ⟨5, _⟩ => ⟨S_, .f32⟩
  | .hbm, ⟨6, _⟩ => ⟨S8192x8x96, .f32⟩
  | .hbm, ⟨7, _⟩ => ⟨S8192x8x96, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192x8192, .i1⟩
  | .hbm, ⟨16, _⟩ => ⟨S_, .f32⟩
  | .hbm, ⟨17, _⟩ => ⟨S_, .f32⟩
  | .hbm, ⟨18, _⟩ => ⟨S8x8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .i1⟩
  | .hbm, ⟨37, _⟩ => ⟨S_, .f32⟩
  | .hbm, ⟨38, _⟩ => ⟨S8x8192, .f32⟩
  | .hbm, ⟨39, _⟩ => ⟨S8x8192, .i1⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S8x8192x8192, .f32⟩
  | .hbm, ⟨56, _⟩ => ⟨S8x8192x8192, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x64x8192, .f32⟩
  | .hbm, ⟨62, _⟩ => ⟨S8192x8x64, .f32⟩
  | .hbm, ⟨63, _⟩ => ⟨S8x64x8192, .f32⟩
  | .hbm, ⟨64, _⟩ => ⟨S8x8192x8192, .f32⟩
  | .hbm, ⟨65, _⟩ => ⟨S8x64x8192, .f32⟩
  | .hbm, ⟨66, _⟩ => ⟨S8192x8x64, .f32⟩
  | .hbm, ⟨67, _⟩ => ⟨S8x8192x8192, .f32⟩
  | .hbm, ⟨68, _⟩ => ⟨S8x8192x8192, .f32⟩
  | .hbm, ⟨69, _⟩ => ⟨S8x8192x8192, .f32⟩
  | .hbm, ⟨70, _⟩ => ⟨S_, .f32⟩
  | .hbm, ⟨71, _⟩ => ⟨S8x8192, .f32⟩
  | .hbm, ⟨72, _⟩ => ⟨S8x8192x1, .f32⟩
  | .hbm, ⟨73, _⟩ => ⟨S8x8192x1, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S8x8192x8192, .f32⟩
  | .hbm, ⟨83, _⟩ => ⟨S8x8192x8192, .f32⟩
  | .hbm, ⟨84, _⟩ => ⟨S8x8192x96, .f32⟩
  | .hbm, ⟨85, _⟩ => ⟨S8192x8x96, .f32⟩
  | .hbm, ⟨86, _⟩ => ⟨S8x8192x96, .f32⟩
  | .hbm, ⟨87, _⟩ => ⟨S8192x8x96, .f32⟩
  | .hbm, ⟨88, _⟩ => ⟨S_, .i32⟩
  | .hbm, ⟨89, _⟩ => ⟨S_, .f32⟩
  | .hbm, ⟨90, _⟩ => ⟨S8192x8x128, .f32⟩
  | .hbm, ⟨91, _⟩ => ⟨S8x128x8192, .f32⟩
  | .hbm, ⟨92, _⟩ => ⟨S_, .i32⟩
  | .hbm, ⟨93, _⟩ => ⟨S_, .f32⟩
  | .hbm, ⟨94, _⟩ => ⟨S8192x8x128, .f32⟩
  | .hbm, ⟨95, _⟩ => ⟨S8x8192x128, .f32⟩
  | .hbm, ⟨96, _⟩ => ⟨S_, .i32⟩
  | .hbm, ⟨97, _⟩ => ⟨S_, .f32⟩
  | .hbm, ⟨98, _⟩ => ⟨S8192x8x128, .f32⟩
  | .hbm, ⟨99, _⟩ => ⟨S8x8192x128, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c : Ref sig .tc := ⟨.hbm, 88, rfl⟩
abbrev main_call2_v0 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_call3_v0 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_call4_v0 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Kernel3.lean ====
abbrev S8192x8x96 : Shape := ⟨3, ![8192, 8, 96]⟩
abbrev S8192x8x64 : Shape := ⟨3, ![8192, 8, 64]⟩
abbrev S_ : Shape := ⟨0, ![]⟩
abbrev S8192x8x128 : Shape := ⟨3, ![8192, 8, 128]⟩
abbrev S128 : Shape := ⟨1, ![128]⟩
abbrev S8x8192x128 : Shape := ⟨3, ![8, 8192, 128]⟩
abbrev S8x128x8192 : Shape := ⟨3, ![8, 128, 8192]⟩
abbrev S8x1x8192 : Shape := ⟨3, ![8, 1, 8192]⟩
abbrev S1x2048x128 : Shape := ⟨3, ![1, 2048, 128]⟩
abbrev S1x8192x128 : Shape := ⟨3, ![1, 8192, 128]⟩
abbrev S1x128x8192 : Shape := ⟨3, ![1, 128, 8192]⟩
abbrev S1x1x2048 : Shape := ⟨3, ![1, 1, 2048]⟩
abbrev S512x2048 : Shape := ⟨2, ![512, 2048]⟩
abbrev S1x2048 : Shape := ⟨2, ![1, 2048]⟩
abbrev S80x2048 : Shape := ⟨2, ![80, 2048]⟩
abbrev S1x512x128 : Shape := ⟨3, ![1, 512, 128]⟩
abbrev S512x128 : Shape := ⟨2, ![512, 128]⟩
abbrev S2048x128 : Shape := ⟨2, ![2048, 128]⟩
abbrev S2048 : Shape := ⟨1, ![2048]⟩
abbrev S1x80x512 : Shape := ⟨3, ![1, 80, 512]⟩
abbrev S80x512 : Shape := ⟨2, ![80, 512]⟩
abbrev S1x1536x128 : Shape := ⟨3, ![1, 1536, 128]⟩
abbrev S1536x128 : Shape := ⟨2, ![1536, 128]⟩
abbrev S512x1536 : Shape := ⟨2, ![512, 1536]⟩
abbrev S1x1024x128 : Shape := ⟨3, ![1, 1024, 128]⟩
abbrev S1024x128 : Shape := ⟨2, ![1024, 128]⟩
abbrev S512x1024 : Shape := ⟨2, ![512, 1024]⟩
abbrev S1536 : Shape := ⟨1, ![1536]⟩
abbrev S1x1536 : Shape := ⟨2, ![1, 1536]⟩
abbrev S512x512 : Shape := ⟨2, ![512, 512]⟩
abbrev S80x1536 : Shape := ⟨2, ![80, 1536]⟩
abbrev S1024 : Shape := ⟨1, ![1024]⟩
abbrev S1x1024 : Shape := ⟨2, ![1, 1024]⟩
abbrev S80x1024 : Shape := ⟨2, ![80, 1024]⟩
abbrev S512 : Shape := ⟨1, ![512]⟩
abbrev S1x512 : Shape := ⟨2, ![1, 512]⟩
abbrev S64x2048 : Shape := ⟨2, ![64, 2048]⟩
abbrev S2048x64 : Shape := ⟨2, ![2048, 64]⟩

abbrev nBuf : Space → Nat
  | .hbm => 36
  | .vmem => 19
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S_, .f32⟩
  | .hbm, ⟨4, _⟩ => ⟨S_, .f32⟩
  | .hbm, ⟨5, _⟩ => ⟨S8192x8x96, .f32⟩
  | .hbm, ⟨6, _⟩ => ⟨S8192x8x96, .f32⟩
  | .hbm, ⟨7, _⟩ => ⟨S8192x8x64, .f32⟩
  | .hbm, ⟨8, _⟩ => ⟨S8192x8x128, .f32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S_, .f32⟩
  | .hbm, ⟨14, _⟩ => ⟨S_, .f32⟩
  | .hbm, ⟨15, _⟩ => ⟨S8192x8x128, .i1⟩
  | .hbm, ⟨16, _⟩ => ⟨S8192x8x128, .f32⟩
  | .hbm, ⟨17, _⟩ => ⟨S8192x8x128, .f32⟩
  | .hbm, ⟨18, _⟩ => ⟨S_, .f32⟩
  | .hbm, ⟨19, _⟩ => ⟨S_, .f32⟩
  | .hbm, ⟨20, _⟩ => ⟨S8192x8x96, .f32⟩
  | .hbm, ⟨21, _⟩ => ⟨S8192x8x96, .f32⟩
  | .hbm, ⟨22, _⟩ => ⟨S_, .i32⟩
  | .hbm, ⟨23, _⟩ => ⟨S_, .f32⟩
  | .hbm, ⟨24, _⟩ => ⟨S8192x8x128, .f32⟩
  | .hbm, ⟨25, _⟩ => ⟨S8x8192x128, .f32⟩
  | .hbm, ⟨26, _⟩ => ⟨S8x8192x128, .bf16⟩
  | .hbm, ⟨27, _⟩ => ⟨S_, .i32⟩
  | .hbm, ⟨28, _⟩ => ⟨S_, .f32⟩
  | .hbm, ⟨29, _⟩ => ⟨S8192x8x128, .f32⟩
  | .hbm, ⟨30, _⟩ => ⟨S8x8192x128, .f32⟩
  | .hbm, ⟨31, _⟩ => ⟨S8x8192x128, .bf16⟩
  | .hbm, ⟨32, _⟩ => ⟨S8x128x8192, .f32⟩
  | .hbm, ⟨33, _⟩ => ⟨S8x128x8192, .bf16⟩
  | .hbm, ⟨34, _⟩ => ⟨S8x8192x128, .f32⟩
  | .hbm, ⟨35, _⟩ => ⟨S8x1x8192, .f32⟩
  | .local _ .vmem, ⟨0, _⟩ => ⟨S1x2048x128, .bf16⟩
  | .local _ .vmem, ⟨1, _⟩ => ⟨S1x2048x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S1x2048x128, .f32⟩
  | .local _ .vmem, ⟨7, _⟩ => ⟨S1x2048x128, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S80x2048, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_call2_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  c0_i32
@[reducible] def k0_t1_loop (i : grid0.Coords) : Scf.Loop 32 :=
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_23 : BitVec 32 := 1#32
  ⟨c0_i32_21, v36, c1_i32_23⟩
def k0_mult2 (i : grid0.Coords) (k0_t1 : Fin (k0_t1_loop i).trips) : BitVec 32 :=
  let c2_i32_191 : BitVec 32 := 2#32
  let c0_i32_21 : BitVec 32 := 0#32
  let c1_i32_23 : BitVec 32 := 1#32
  let arg16 : BitVec 32 := Scf.iv c0_i32_21 c1_i32_23 k0_t1
  let v311 : BitVec 32 := Scalar.muli c2_i32_191 arg16
  let c1_i32_192 : BitVec 32 := 1#32
  let v312 : BitVec 32 := Scalar.addi v311 c1_i32_192
  let c512_i32_193 : BitVec 32 := 512#32
  let v313 : BitVec 32 := Scalar.muli v312 c512_i32_193
  v313
def k0_off1 (i : grid0.Coords) (k0_t1 : Fin (k0_t1_loop i).trips) : Fin 3 → Nat :=
  let c0_194 : Index := 0#32
  let c2_i32_191 : BitVec 32 := 2#32
  let c0_i32_21 : BitVec 32 := 0#32
  let c1_i32_23 : BitVec 32 := 1#32
  let arg16 : BitVec 32 := Scf.iv c0_i32_21 c1_i32_23 k0_t1
  let v311 : BitVec 32 := Scalar.muli c2_i32_191 arg16
  let c1_i32_192 : BitVec 32 := 1#32
  let v312 : BitVec 32 := Scalar.addi v311 c1_i32_192
  let c512_i32_193 : BitVec 32 := 512#32
  let v313 : BitVec 32 := Scalar.muli v312 c512_i32_193
  let v314 : BitVec 32 := v313
  let v315 : Index := Scalar.indexCast v314
  let c0_195 : Index := 0#32
  ![0, v315.toNat, 0]
def k0_mult3 (i : grid0.Coords) (k0_t1 : Fin (k0_t1_loop i).trips) : BitVec 32 :=
  let c2_i32_191 : BitVec 32 := 2#32
  let c0_i32_21 : BitVec 32 := 0#32
  let c1_i32_23 : BitVec 32 := 1#32
  let arg16 : BitVec 32 := Scf.iv c0_i32_21 c1_i32_23 k0_t1
  let v311 : BitVec 32 := Scalar.muli c2_i32_191 arg16
  let c1_i32_209 : BitVec 32 := 1#32
  let v333 : BitVec 32 := Scalar.subi v311 c1_i32_209
  let c0_i32_210 : BitVec 32 := 0#32
  let v334 : BitVec 32 := Scalar.maxsi v333 c0_i32_210
  let c512_i32_211 : BitVec 32 := 512#32
  let v335 : BitVec 32 := Scalar.muli v334 c512_i32_211
  v335
def k0_off2 (i : grid0.Coords) (k0_t1 : Fin (k0_t1_loop i).trips) : Fin 3 → Nat :=
  let c0_212 : Index := 0#32
  let c48_213 : Index := 48#32
  let c2_i32_191 : BitVec 32 := 2#32
  let c0_i32_21 : BitVec 32 := 0#32
  let c1_i32_23 : BitVec 32 := 1#32
  let arg16 : BitVec 32 := Scf.iv c0_i32_21 c1_i32_23 k0_t1
  let v311 : BitVec 32 := Scalar.muli c2_i32_191 arg16
  let c1_i32_209 : BitVec 32 := 1#32
  let v333 : BitVec 32 := Scalar.subi v311 c1_i32_209
  let c0_i32_210 : BitVec 32 := 0#32
  let v334 : BitVec 32 := Scalar.maxsi v333 c0_i32_210
  let c512_i32_211 : BitVec 32 := 512#32
  let v335 : BitVec 32 := Scalar.muli v334 c512_i32_211
  let v336 : BitVec 32 := v335
  let v337 : Index := Scalar.indexCast v336
  ![0, 48, v337.toNat]
def k0_mult4 (i : grid0.Coords) (k0_t1 : Fin (k0_t1_loop i).trips) : BitVec 32 :=
  let c2_i32_231 : BitVec 32 := 2#32
  let c0_i32_21 : BitVec 32 := 0#32
  let c1_i32_23 : BitVec 32 := 1#32
  let arg16 : BitVec 32 := Scf.iv c0_i32_21 c1_i32_23 k0_t1
  let v365 : BitVec 32 := Scalar.muli c2_i32_231 arg16
  let c1_i32_232 : BitVec 32 := 1#32
  let v366 : BitVec 32 := Scalar.addi v365 c1_i32_232
  let c1_i32_233 : BitVec 32 := 1#32
  let v367 : BitVec 32 := Scalar.addi v366 c1_i32_233
  let c512_i32_234 : BitVec 32 := 512#32
  let v368 : BitVec 32 := Scalar.muli v367 c512_i32_234
  v368
def k0_off3 (i : grid0.Coords) (k0_t1 : Fin (k0_t1_loop i).trips) : Fin 3 → Nat :=
  let c0_235 : Index := 0#32
  let c2_i32_231 : BitVec 32 := 2#32
  let c0_i32_21 : BitVec 32 := 0#32
  let c1_i32_23 : BitVec 32 := 1#32
  let arg16 : BitVec 32 := Scf.iv c0_i32_21 c1_i32_23 k0_t1
  let v365 : BitVec 32 := Scalar.muli c2_i32_231 arg16
  let c1_i32_232 : BitVec 32 := 1#32
  let v366 : BitVec 32 := Scalar.addi v365 c1_i32_232
  let c1_i32_233 : BitVec 32 := 1#32
  let v367 : BitVec 32 := Scalar.addi v366 c1_i32_233
  let c512_i32_234 : BitVec 32 := 512#32
  let v368 : BitVec 32 := Scalar.muli v367 c512_i32_234
  let v369 : BitVec 32 := v368
  let v370 : Index := Scalar.indexCast v369
  let c0_236 : Index := 0#32
  ![0, v370.toNat, 0]
def k0_mult5 (i : grid0.Coords) (k0_t1 : Fin (k0_t1_loop i).trips) : BitVec 32 :=
  let c2_i32_231 : BitVec 32 := 2#32
  let c0_i32_21 : BitVec 32 := 0#32
  let c1_i32_23 : BitVec 32 := 1#32
  let arg16 : BitVec 32 := Scf.iv c0_i32_21 c1_i32_23 k0_t1
  let v365 : BitVec 32 := Scalar.muli c2_i32_231 arg16
  let c1_i32_232 : BitVec 32 := 1#32
  let v366 : BitVec 32 := Scalar.addi v365 c1_i32_232
  let c1_i32_250 : BitVec 32 := 1#32
  let v388 : BitVec 32 := Scalar.subi v366 c1_i32_250
  let c0_i32_251 : BitVec 32 := 0#32
  let v389 : BitVec 32 := Scalar.maxsi v388 c0_i32_251
  let c512_i32_252 : BitVec 32 := 512#32
  let v390 : BitVec 32 := Scalar.muli v389 c512_i32_252
  v390
def k0_off4 (i : grid0.Coords) (k0_t1 : Fin (k0_t1_loop i).trips) : Fin 3 → Nat :=
  let c0_253 : Index := 0#32
  let c48_254 : Index := 48#32
  let c2_i32_231 : BitVec 32 := 2#32
  let c0_i32_21 : BitVec 32 := 0#32
  let c1_i32_23 : BitVec 32 := 1#32
  let arg16 : BitVec 32 := Scf.iv c0_i32_21 c1_i32_23 k0_t1
  let v365 : BitVec 32 := Scalar.muli c2_i32_231 arg16
  let c1_i32_232 : BitVec 32 := 1#32
  let v366 : BitVec 32 := Scalar.addi v365 c1_i32_232
  let c1_i32_250 : BitVec 32 := 1#32
  let v388 : BitVec 32 := Scalar.subi v366 c1_i32_250
  let c0_i32_251 : BitVec 32 := 0#32
  let v389 : BitVec 32 := Scalar.maxsi v388 c0_i32_251
  let c512_i32_252 : BitVec 32 := 512#32
  let v390 : BitVec 32 := Scalar.muli v389 c512_i32_252
  let v391 : BitVec 32 := v390
  let v392 : Index := Scalar.indexCast v391
  ![0, 48, v392.toNat]
@[reducible] def k0_t2_loop (i : grid0.Coords) : Scf.Loop 32 :=
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let v33 : BitVec 32 := Scalar.addi c0_i32_21 v32
  let c1_i32_24 : BitVec 32 := 1#32
  ⟨v36, v33, c1_i32_24⟩
def k0_mult6 (i : grid0.Coords) (k0_t2 : Fin (k0_t2_loop i).trips) : BitVec 32 :=
  let c2_i32_191 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v311 : BitVec 32 := Scalar.muli c2_i32_191 arg16
  let c1_i32_192 : BitVec 32 := 1#32
  let v312 : BitVec 32 := Scalar.addi v311 c1_i32_192
  let c512_i32_193 : BitVec 32 := 512#32
  let v313 : BitVec 32 := Scalar.muli v312 c512_i32_193
  v313
def k0_off5 (i : grid0.Coords) (k0_t2 : Fin (k0_t2_loop i).trips) : Fin 3 → Nat :=
  let c0_194 : Index := 0#32
  let c2_i32_191 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v311 : BitVec 32 := Scalar.muli c2_i32_191 arg16
  let c1_i32_192 : BitVec 32 := 1#32
  let v312 : BitVec 32 := Scalar.addi v311 c1_i32_192
  let c512_i32_193 : BitVec 32 := 512#32
  let v313 : BitVec 32 := Scalar.muli v312 c512_i32_193
  let v314 : BitVec 32 := v313
  let v315 : Index := Scalar.indexCast v314
  let c0_195 : Index := 0#32
  ![0, v315.toNat, 0]
def k0_mult7 (i : grid0.Coords) (k0_t2 : Fin (k0_t2_loop i).trips) : BitVec 32 :=
  let c2_i32_191 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v311 : BitVec 32 := Scalar.muli c2_i32_191 arg16
  let c1_i32_209 : BitVec 32 := 1#32
  let v333 : BitVec 32 := Scalar.subi v311 c1_i32_209
  let c0_i32_210 : BitVec 32 := 0#32
  let v334 : BitVec 32 := Scalar.maxsi v333 c0_i32_210
  let c512_i32_211 : BitVec 32 := 512#32
  let v335 : BitVec 32 := Scalar.muli v334 c512_i32_211
  v335
def k0_off6 (i : grid0.Coords) (k0_t2 : Fin (k0_t2_loop i).trips) : Fin 3 → Nat :=
  let c0_212 : Index := 0#32
  let c48_213 : Index := 48#32
  let c2_i32_191 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v311 : BitVec 32 := Scalar.muli c2_i32_191 arg16
  let c1_i32_209 : BitVec 32 := 1#32
  let v333 : BitVec 32 := Scalar.subi v311 c1_i32_209
  let c0_i32_210 : BitVec 32 := 0#32
  let v334 : BitVec 32 := Scalar.maxsi v333 c0_i32_210
  let c512_i32_211 : BitVec 32 := 512#32
  let v335 : BitVec 32 := Scalar.muli v334 c512_i32_211
  let v336 : BitVec 32 := v335
  let v337 : Index := Scalar.indexCast v336
  ![0, 48, v337.toNat]
def k0_mult8 (i : grid0.Coords) (k0_t2 : Fin (k0_t2_loop i).trips) : BitVec 32 :=
  let c2_i32_231 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v365 : BitVec 32 := Scalar.muli c2_i32_231 arg16
  let c1_i32_232 : BitVec 32 := 1#32
  let v366 : BitVec 32 := Scalar.addi v365 c1_i32_232
  let c1_i32_233 : BitVec 32 := 1#32
  let v367 : BitVec 32 := Scalar.addi v366 c1_i32_233
  let c512_i32_234 : BitVec 32 := 512#32
  let v368 : BitVec 32 := Scalar.muli v367 c512_i32_234
  v368
def k0_off7 (i : grid0.Coords) (k0_t2 : Fin (k0_t2_loop i).trips) : Fin 3 → Nat :=
  let c0_235 : Index := 0#32
  let c2_i32_231 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v365 : BitVec 32 := Scalar.muli c2_i32_231 arg16
  let c1_i32_232 : BitVec 32 := 1#32
  let v366 : BitVec 32 := Scalar.addi v365 c1_i32_232
  let c1_i32_233 : BitVec 32 := 1#32
  let v367 : BitVec 32 := Scalar.addi v366 c1_i32_233
  let c512_i32_234 : BitVec 32 := 512#32
  let v368 : BitVec 32 := Scalar.muli v367 c512_i32_234
  let v369 : BitVec 32 := v368
  let v370 : Index := Scalar.indexCast v369
  let c0_236 : Index := 0#32
  ![0, v370.toNat, 0]
def k0_mult9 (i : grid0.Coords) (k0_t2 : Fin (k0_t2_loop i).trips) : BitVec 32 :=
  let c2_i32_231 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v365 : BitVec 32 := Scalar.muli c2_i32_231 arg16
  let c1_i32_232 : BitVec 32 := 1#32
  let v366 : BitVec 32 := Scalar.addi v365 c1_i32_232
  let c1_i32_250 : BitVec 32 := 1#32
  let v388 : BitVec 32 := Scalar.subi v366 c1_i32_250
  let c0_i32_251 : BitVec 32 := 0#32
  let v389 : BitVec 32 := Scalar.maxsi v388 c0_i32_251
  let c512_i32_252 : BitVec 32 := 512#32
  let v390 : BitVec 32 := Scalar.muli v389 c512_i32_252
  v390
def k0_off8 (i : grid0.Coords) (k0_t2 : Fin (k0_t2_loop i).trips) : Fin 3 → Nat :=
  let c0_253 : Index := 0#32
  let c48_254 : Index := 48#32
  let c2_i32_231 : BitVec 32 := 2#32
  let c0_i32_21 : BitVec 32 := 0#32
  let c2_i32 : BitVec 32 := 2#32
  let arg1 : BitVec 32 := BitVec.ofNat 32 (i 1).val
  let v31 : BitVec 32 := Scalar.muli c2_i32 arg1
  let v32 : BitVec 32 := Scalar.subi v31 c0_i32_21
  let c1_i32 : BitVec 32 := 1#32
  let v34 : BitVec 32 := Scalar.divsi v32 c1_i32
  let v35 : BitVec 32 := Scalar.muli v34 c1_i32
  let v36 : BitVec 32 := Scalar.addi c0_i32_21 v35
  let c1_i32_24 : BitVec 32 := 1#32
  let arg16 : BitVec 32 := Scf.iv v36 c1_i32_24 k0_t2
  let v365 : BitVec 32 := Scalar.muli c2_i32_231 arg16
  let c1_i32_232 : BitVec 32 := 1#32
  let v366 : BitVec 32 := Scalar.addi v365 c1_i32_232
  let c1_i32_250 : BitVec 32 := 1#32
  let v388 : BitVec 32 := Scalar.subi v366 c1_i32_250
  let c0_i32_251 : BitVec 32 := 0#32
  let v389 : BitVec 32 := Scalar.maxsi v388 c0_i32_251
  let c512_i32_252 : BitVec 32 := 512#32
  let v390 : BitVec 32 := Scalar.muli v389 c512_i32_252
  let v391 : BitVec 32 := v390
  let v392 : Index := Scalar.indexCast v391
  ![0, 48, v392.toNat]
def k0_mult10 (i : grid0.Coords) : BitVec 32 :=
  let c4_i32 : BitVec 32 := 4#32
  let arg1 : BitVec 32 := BitVec.ofNat 32 (i 1).val
  let v39 : BitVec 32 := Scalar.muli c4_i32 arg1
  let c0_i32_27 : BitVec 32 := 0#32
  let v41 : BitVec 32 := Scalar.addi v39 c0_i32_27
  let c1_i32_28 : BitVec 32 := 1#32
  let v42 : BitVec 32 := Scalar.addi v41 c1_i32_28
  let c512_i32 : BitVec 32 := 512#32
  let v43 : BitVec 32 := Scalar.muli v42 c512_i32
  v43
def k0_off9 (i : grid0.Coords) (c0_i32_27 : BitVec 32) : Fin 3 → Nat :=
  let c0_29 : Index := 0#32
  let c4_i32 : BitVec 32 := 4#32
  let arg1 : BitVec 32 := BitVec.ofNat 32 (i 1).val
  let v39 : BitVec 32 := Scalar.muli c4_i32 arg1
  let v41 : BitVec 32 := Scalar.addi v39 c0_i32_27
  let c1_i32_28 : BitVec 32 := 1#32
  let v42 : BitVec 32 := Scalar.addi v41 c1_i32_28
  let c512_i32 : BitVec 32 := 512#32
  let v43 : BitVec 32 := Scalar.muli v42 c512_i32
  let v44 : BitVec 32 := v43
  let v45 : Index := Scalar.indexCast v44
  let c0_30 : Index := 0#32
  ![0, v45.toNat, 0]
def k0_mult11 (i : grid0.Coords) : BitVec 32 :=
  let c4_i32 : BitVec 32 := 4#32
  let arg1 : BitVec 32 := BitVec.ofNat 32 (i 1).val
  let v39 : BitVec 32 := Scalar.muli c4_i32 arg1
  let c0_i32_38 : BitVec 32 := 0#32
  let v57 : BitVec 32 := Scalar.addi v39 c0_i32_38
  let c1_i32_39 : BitVec 32 := 1#32
  let v58 : BitVec 32 := Scalar.subi v57 c1_i32_39
  let c0_i32_40 : BitVec 32 := 0#32
  let v59 : BitVec 32 := Scalar.maxsi v58 c0_i32_40
  let c512_i32_41 : BitVec 32 := 512#32
  let v60 : BitVec 32 := Scalar.muli v59 c512_i32_41
  v60
def k0_off10 (i : grid0.Coords) (c0_i32_38 : BitVec 32) : Fin 3 → Nat :=
  let c0_42 : Index := 0#32
  let c48 : Index := 48#32
  let c4_i32 : BitVec 32 := 4#32
  let arg1 : BitVec 32 := BitVec.ofNat 32 (i 1).val
  let v39 : BitVec 32 := Scalar.muli c4_i32 arg1
  let v57 : BitVec 32 := Scalar.addi v39 c0_i32_38
  let c1_i32_39 : BitVec 32 := 1#32
  let v58 : BitVec 32 := Scalar.subi v57 c1_i32_39
  let c0_i32_40 : BitVec 32 := 0#32
  let v59 : BitVec 32 := Scalar.maxsi v58 c0_i32_40
  let c512_i32_41 : BitVec 32 := 512#32
  let v60 : BitVec 32 := Scalar.muli v59 c512_i32_41
  let v61 : BitVec 32 := v60
  let v62 : Index := Scalar.indexCast v61
  ![0, 48, v62.toNat]
def k0_mult12 (i : grid0.Coords) : BitVec 32 :=
  let c4_i32 : BitVec 32 := 4#32
  let arg1 : BitVec 32 := BitVec.ofNat 32 (i 1).val
  let v39 : BitVec 32 := Scalar.muli c4_i32 arg1
  let c1_i32_63 : BitVec 32 := 1#32
  let v103 : BitVec 32 := Scalar.addi v39 c1_i32_63
  let c1_i32_64 : BitVec 32 := 1#32
  let v104 : BitVec 32 := Scalar.addi v103 c1_i32_64
  let c512_i32_65 : BitVec 32 := 512#32
  let v105 : BitVec 32 := Scalar.muli v104 c512_i32_65
  v105
def k0_mult13 (i : grid0.Coords) : BitVec 32 :=
  let c4_i32 : BitVec 32 := 4#32
  let arg1 : BitVec 32 := BitVec.ofNat 32 (i 1).val
  let v39 : BitVec 32 := Scalar.muli c4_i32 arg1
  let c1_i32_75 : BitVec 32 := 1#32
  let v119 : BitVec 32 := Scalar.addi v39 c1_i32_75
  let c1_i32_76 : BitVec 32 := 1#32
  let v120 : BitVec 32 := Scalar.subi v119 c1_i32_76
  let c0_i32_77 : BitVec 32 := 0#32
  let v121 : BitVec 32 := Scalar.maxsi v120 c0_i32_77
  let c512_i32_78 : BitVec 32 := 512#32
  let v122 : BitVec 32 := Scalar.muli v121 c512_i32_78
  v122
def k0_mult14 (i : grid0.Coords) : BitVec 32 :=
  let c4_i32 : BitVec 32 := 4#32
  let arg1 : BitVec 32 := BitVec.ofNat 32 (i 1).val
  let v39 : BitVec 32 := Scalar.muli c4_i32 arg1
  let c2_i32_101 : BitVec 32 := 2#32
  let v165 : BitVec 32 := Scalar.addi v39 c2_i32_101
  let c1_i32_102 : BitVec 32 := 1#32
  let v166 : BitVec 32 := Scalar.addi v165 c1_i32_102
  let c512_i32_103 : BitVec 32 := 512#32
  let v167 : BitVec 32 := Scalar.muli v166 c512_i32_103
  v167
def k0_mult15 (i : grid0.Coords) : BitVec 32 :=
  let c4_i32 : BitVec 32 := 4#32
  let arg1 : BitVec 32 := BitVec.ofNat 32 (i 1).val
  let v39 : BitVec 32 := Scalar.muli c4_i32 arg1
  let c2_i32_113 : BitVec 32 := 2#32
  let v181 : BitVec 32 := Scalar.addi v39 c2_i32_113
  let c1_i32_114 : BitVec 32 := 1#32
  let v182 : BitVec 32 := Scalar.subi v181 c1_i32_114
  let c0_i32_115 : BitVec 32 := 0#32
  let v183 : BitVec 32 := Scalar.maxsi v182 c0_i32_115
  let c512_i32_116 : BitVec 32 := 512#32
  let v184 : BitVec 32 := Scalar.muli v183 c512_i32_116
  v184
def k0_mult16 (i : grid0.Coords) : BitVec 32 :=
  let c4_i32 : BitVec 32 := 4#32
  let arg1 : BitVec 32 := BitVec.ofNat 32 (i 1).val
  let v39 : BitVec 32 := Scalar.muli c4_i32 arg1
  let c3_i32 : BitVec 32 := 3#32
  let v230 : BitVec 32 := Scalar.addi v39 c3_i32
  let c1_i32_141 : BitVec 32 := 1#32
  let v231 : BitVec 32 := Scalar.subi v230 c1_i32_141
  let c0_i32_142 : BitVec 32 := 0#32
  let v232 : BitVec 32 := Scalar.maxsi v231 c0_i32_142
  let c512_i32_143 : BitVec 32 := 512#32
  let v233 : BitVec 32 := Scalar.muli v232 c512_i32_143
  v233
def k0_mult17 (i : grid0.Coords) : BitVec 32 :=
  let c4_i32 : BitVec 32 := 4#32
  let arg1 : BitVec 32 := BitVec.ofNat 32 (i 1).val
  let v39 : BitVec 32 := Scalar.muli c4_i32 arg1
  let c4_i32_168 : BitVec 32 := 4#32
  let v279 : BitVec 32 := Scalar.addi v39 c4_i32_168
  let c1_i32_169 : BitVec 32 := 1#32
  let v280 : BitVec 32 := Scalar.subi v279 c1_i32_169
  let c0_i32_170 : BitVec 32 := 0#32
  let v281 : BitVec 32 := Scalar.maxsi v280 c0_i32_170
  let c512_i32_171 : BitVec 32 := 512#32
  let v282 : BitVec 32 := Scalar.muli v281 c512_i32_171
  v282
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel3Ideal.lean ====
variable {F : FTy → Type} [FloatOps F] [Named F]
def κ : String → Option EReal := fun
  | "log2e" => some (((Real.log 2)⁻¹ : ℝ) : EReal)
  | _ => none
-- ==== Reference3Ideal.lean ====
abbrev S8192x8x96 : Shape := ⟨3, ![8192, 8, 96]⟩
abbrev S8192x8x64 : Shape := ⟨3, ![8192, 8, 64]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x8192x64 : Shape := ⟨3, ![8, 8192, 64]⟩
abbrev S8x8192x128 : Shape := ⟨3, ![8, 8192, 128]⟩
abbrev S8x1x8192 : Shape := ⟨3, ![8, 1, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S_, .f32⟩
  | .hbm, ⟨4, _⟩ => ⟨S_, .f32⟩
  | .hbm, ⟨5, _⟩ => ⟨S8192x8x96, .f32⟩
  | .hbm, ⟨6, _⟩ => ⟨S8192x8x96, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S_, .f32⟩
  | .hbm, ⟨23, _⟩ => ⟨S8x8192, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .f32⟩
  | .hbm, ⟨34, _⟩ => ⟨S8x8192x64, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S8x8192x1, .f32⟩
  | .hbm, ⟨45, _⟩ => ⟨S8x8192x1, .f32⟩
  | .hbm, ⟨46, _⟩ => ⟨S_, .f32⟩
  | .hbm, ⟨47, _⟩ => ⟨S_, .f32⟩
  | .hbm, ⟨48, _⟩ => ⟨S8x8192x1, .f32⟩
  | .hbm, ⟨49, _⟩ => ⟨S8x8192x1, .f32⟩
  | .hbm, ⟨50, _⟩ => ⟨S_, .i32⟩
  | .hbm, ⟨51, _⟩ => ⟨S_, .f32⟩
  | .hbm, ⟨52, _⟩ => ⟨S8x8192x128, .f32⟩
  | .hbm, ⟨53, _⟩ => ⟨S8x1x8192, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c : Ref sig .tc := ⟨.hbm, 50, rfl⟩
abbrev main_call1_v0 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Proof.ITrip.lean ====
/-
  One trip of the pair of passes: what it leaves in each buffer, as found by its run.
-/
module

public import proofs.«01_k».proof.Proof.Gen.Kernel2Ideal.Frame
public import proofs.«01_k».proof.Proof.Gen.Kernel2Ideal.Loops
public import Idealize.ShloMosaic.Lib.LoopRemainder

@[expose] public section

set_option maxRecDepth 16384

noncomputable section

namespace Cert.Kernel2Ideal.Bwd

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A buffer held at some contents is owned at what it reads. -/
theorem owns_read (c : Dev nD) {s : Shape} {e : EltTy} (a : Memref sig .tc .vmem s e) (f : Buf (Elt F) (a.view.loc (c : Thread nD τ))) :
    (a.view.loc (c : Thread nD τ) ↦[a.view.set]{fullShare} f : sProp 𝕄) ⊢ owns (c : Thread nD τ) a fullShare (a.view.read (Elt F) f) := by
  unfold owns
  iintro H
  iexists _
  isplitr
  · ipureintro; rfl
  iexact H

set_option maxHeartbeats 4000000 in
/-- What one trip of the loop leaves in the arrays it adds to and in the tables the next trip reads. The inputs stay.
    The other four tables may hold anything before and after. -/
noncomputable def trip (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole) (v15 : BitVec 32)
    (x2 : Vec F S1x8192x128 .bf16) (x3 : Vec F S1x2048x128 .bf16) (x4 : Vec F S1x2048x128 .bf16) (x5 : Vec F S1x8192x128 .bf16) (x6 : Vec F S1x1x8192 .f32) (x7 : Vec F S1x1x8192 .f32) (x19 : Vec F S128x2048 .bf16) (k : Fin (k0_t1_loop i).trips) (d8 : Vec F S1x128x8192 .f32) (d9 : Vec F S1x2048x128 .f32) (d10 : Vec F S1x2048x128 .f32) (d11 : Vec F S2048x512 .f32) (d13 : Vec F S2048x512 .f32) (d16 : Vec F S2048x512 .bf16) (d18 : Vec F S2048x512 .bf16) :
    Σ' (g8 : Buf (Elt F) (arg8.view.loc (c : Thread nD τ))), Σ' (g9 : Buf (Elt F) (arg9.view.loc (c : Thread nD τ))), Σ' (g10 : Buf (Elt F) (arg10.view.loc (c : Thread nD τ))), Σ' (g11 : Buf (Elt F) (arg11.view.loc (c : Thread nD τ))), Σ' (g13 : Buf (Elt F) (arg13.view.loc (c : Thread nD τ))), Σ' (g16 : Buf (Elt F) (arg16.view.loc (c : Thread nD τ))), { g18 : Buf (Elt F) (arg18.view.loc (c : Thread nD τ)) //
      ∀ (v1105 : FVec F S256x256 .bf16) (acc : BitVec 32) (E : Set ℕ) (K : BitVec 32 → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg19 fullShare x19 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg13 fullShare d13 ∗ owns (c : Thread nD τ) arg16 fullShare d16 ∗ owns (c : Thread nD τ) arg18 fullShare d18 ∗ (∃ f, (arg12.view.loc (c : Thread nD τ) ↦[arg12.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg17.view.loc (c : Thread nD τ) ↦[arg17.view.set]{fullShare} f))
            ∗ (∀ a, iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg19 fullShare x19 ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg13.view.loc (c : Thread nD τ) ↦[arg13.view.set]{fullShare} g13) ∗ (arg16.view.loc (c : Thread nD τ) ↦[arg16.view.set]{fullShare} g16) ∗ (arg18.view.loc (c : Thread nD τ) ↦[arg18.view.set]{fullShare} g18) ∗ (∃ f, (arg12.view.loc (c : Thread nD τ) ↦[arg12.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg17.view.loc (c : Thread nD τ) ↦[arg17.view.set]{fullShare} f))) -∗ K a))
          ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v1105 k acc) K } := by
  refine ⟨?_, ?_, ?_, ?_, ?_, ?_, ?_, fun v1105 acc E K => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f19, %hf19, H19⟩, ⟨%f8, %hf8, H8⟩, ⟨%f9, %hf9, H9⟩, ⟨%f10, %hf10, H10⟩, ⟨%f11, %hf11, H11⟩, ⟨%f13, %hf13, H13⟩, ⟨%f16, %hf16, H16⟩, ⟨%f18, %hf18, H18⟩, ⟨%f12, H12⟩, ⟨%f14, H14⟩, ⟨%f15, H15⟩, ⟨%f17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg19.eq_unread hf19; obtain rfl := harg8.eq_unread hf8; obtain rfl := harg9.eq_unread hf9; obtain rfl := harg10.eq_unread hf10; obtain rfl := harg11.eq_unread hf11; obtain rfl := harg13.eq_unread hf13; obtain rfl := harg16.eq_unread hf16; obtain rfl := harg18.eq_unread hf18
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H19]
    · iexists _; isplitr; · ipureintro; exact harg19.read_unread _
      iexact H19
    isplitl [H8]; · iexact H8
    isplitl [H9]; · iexact H9
    isplitl [H10]; · iexact H10
    isplitl [H11]; · iexact H11
    isplitl [H13]; · iexact H13
    isplitl [H16]; · iexact H16
    isplitl [H18]; · iexact H18
    isplitl [H12]; · iexists _; iexact H12
    isplitl [H14]; · iexists _; iexact H14
    isplitl [H15]; · iexists _; iexact H15
    iexists _; iexact H17

end Cert.Kernel2Ideal.Bwd

end
-- ==== Proof.ILoop.lean ====
/-
  The loop of pairs of passes: its state before each trip, and one trip as a step of that state.
-/
module

public import proofs.«01_k».proof.Proof.ITrip

@[expose] public section

set_option maxRecDepth 16384

noncomputable section

namespace Cert.Kernel2Ideal.Bwd

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a trip finds and leaves: the sums so far and the tables it reads. -/
structure St (F : FTy → Type) where
  d8 : Vec F S1x128x8192 .f32
  d9 : Vec F S1x2048x128 .f32
  d10 : Vec F S1x2048x128 .f32
  d11 : Vec F S2048x512 .f32
  d13 : Vec F S2048x512 .f32
  d16 : Vec F S2048x512 .bf16
  d18 : Vec F S2048x512 .bf16

/-- The state after trip `k`. -/
def nextSt (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole) (v15 : BitVec 32) (x2 : Vec F S1x8192x128 .bf16) (x3 : Vec F S1x2048x128 .bf16) (x4 : Vec F S1x2048x128 .bf16) (x5 : Vec F S1x8192x128 .bf16) (x6 : Vec F S1x1x8192 .f32) (x7 : Vec F S1x1x8192 .f32) (x19 : Vec F S128x2048 .bf16) (k : Fin (k0_t1_loop i).trips) (s : St F) : St F :=
  let r := trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 x2 x3 x4 x5 x6 x7 x19 k s.d8 s.d9 s.d10 s.d11 s.d13 s.d16 s.d18
  ⟨arg8.view.read (Elt F) r.1, arg9.view.read (Elt F) r.2.1, arg10.view.read (Elt F) r.2.2.1, arg11.view.read (Elt F) r.2.2.2.1, arg13.view.read (Elt F) r.2.2.2.2.1, arg16.view.read (Elt F) r.2.2.2.2.2.1, arg18.view.read (Elt F) r.2.2.2.2.2.2.1⟩

/-- The state before trip `n`, from the state before the first. -/
def loopSt (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole) (v15 : BitVec 32) (x2 : Vec F S1x8192x128 .bf16) (x3 : Vec F S1x2048x128 .bf16) (x4 : Vec F S1x2048x128 .bf16) (x5 : Vec F S1x8192x128 .bf16) (x6 : Vec F S1x1x8192 .f32) (x7 : Vec F S1x1x8192 .f32) (x19 : Vec F S128x2048 .bf16) (s : St F) : ℕ → St F
  | 0 => s
  | n + 1 => if h : n < (k0_t1_loop i).trips then nextSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 x2 x3 x4 x5 x6 x7 x19 ⟨n, h⟩ (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 x2 x3 x4 x5 x6 x7 x19 s n) else loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 x2 x3 x4 x5 x6 x7 x19 s n

/-- The buffers at a state: the inputs at their contents, the other tables at anything. -/
def inv (c : Dev nD) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole) (x2 : Vec F S1x8192x128 .bf16) (x3 : Vec F S1x2048x128 .bf16) (x4 : Vec F S1x2048x128 .bf16) (x5 : Vec F S1x8192x128 .bf16) (x6 : Vec F S1x1x8192 .f32) (x7 : Vec F S1x1x8192 .f32) (x19 : Vec F S128x2048 .bf16) (s : St F) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg19 fullShare x19 ∗ owns (c : Thread nD τ) arg8 fullShare s.d8 ∗ owns (c : Thread nD τ) arg9 fullShare s.d9 ∗ owns (c : Thread nD τ) arg10 fullShare s.d10 ∗ owns (c : Thread nD τ) arg11 fullShare s.d11 ∗ owns (c : Thread nD τ) arg13 fullShare s.d13 ∗ owns (c : Thread nD τ) arg16 fullShare s.d16 ∗ owns (c : Thread nD τ) arg18 fullShare s.d18 ∗ (∃ f, (arg12.view.loc (c : Thread nD τ) ↦[arg12.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg17.view.loc (c : Thread nD τ) ↦[arg17.view.set]{fullShare} f)))

set_option maxHeartbeats 1000000 in
/-- One trip takes the buffers from a state to the next. -/
theorem trip_step (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole) (v15 : BitVec 32) (v1105 : FVec F S256x256 .bf16) (x2 : Vec F S1x8192x128 .bf16) (x3 : Vec F S1x2048x128 .bf16) (x4 : Vec F S1x2048x128 .bf16) (x5 : Vec F S1x8192x128 .bf16) (x6 : Vec F S1x1x8192 .f32) (x7 : Vec F S1x1x8192 .f32) (x19 : Vec F S128x2048 .bf16) (k : Fin (k0_t1_loop i).trips) (acc : BitVec 32) (s : St F) (E : Set ℕ) :
    inv c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x19 s ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v1105 k acc)
      (fun _ => inv c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x19 (nextSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 x2 x3 x4 x5 x6 x7 x19 k s)) := by
  refine BIBase.Entails.trans ?_ ((trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 x2 x3 x4 x5 x6 x7 x19 k s.d8 s.d9 s.d10 s.d11 s.d13 s.d16 s.d18).2.2.2.2.2.2.2 v1105 acc E _)
  unfold inv
  iintro ⟨H2, H3, H4, H5, H6, H7, H19, H8, H9, H10, H11, H13, H16, H18, H12, H14, H15, H17⟩
  isplitl [H2]; · iexact H2
  isplitl [H3]; · iexact H3
  isplitl [H4]; · iexact H4
  isplitl [H5]; · iexact H5
  isplitl [H6]; · iexact H6
  isplitl [H7]; · iexact H7
  isplitl [H19]; · iexact H19
  isplitl [H8]; · iexact H8
  isplitl [H9]; · iexact H9
  isplitl [H10]; · iexact H10
  isplitl [H11]; · iexact H11
  isplitl [H13]; · iexact H13
  isplitl [H16]; · iexact H16
  isplitl [H18]; · iexact H18
  isplitl [H12]; · iexact H12
  isplitl [H14]; · iexact H14
  isplitl [H15]; · iexact H15
  isplitl [H17]; · iexact H17
  iintro %a ⟨H2, H3, H4, H5, H6, H7, H19, H8, H9, H10, H11, H13, H16, H18, H12, H14, H15, H17⟩
  isplitl [H2]; · iexact H2
  isplitl [H3]; · iexact H3
  isplitl [H4]; · iexact H4
  isplitl [H5]; · iexact H5
  isplitl [H6]; · iexact H6
  isplitl [H7]; · iexact H7
  isplitl [H19]; · iexact H19
  isplitl [H8]; · iapply (owns_read c arg8 _) $$ H8
  isplitl [H9]; · iapply (owns_read c arg9 _) $$ H9
  isplitl [H10]; · iapply (owns_read c arg10 _) $$ H10
  isplitl [H11]; · iapply (owns_read c arg11 _) $$ H11
  isplitl [H13]; · iapply (owns_read c arg13 _) $$ H13
  isplitl [H16]; · iapply (owns_read c arg16 _) $$ H16
  isplitl [H18]; · iapply (owns_read c arg18 _) $$ H18
  isplitl [H12]; · iexact H12
  isplitl [H14]; · iexact H14
  isplitl [H15]; · iexact H15
  iexact H17

/-- One trip takes the buffers from the state before it to the state after it. -/
theorem loop_step (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole) (v15 : BitVec 32) (v1105 : FVec F S256x256 .bf16) (x2 : Vec F S1x8192x128 .bf16) (x3 : Vec F S1x2048x128 .bf16) (x4 : Vec F S1x2048x128 .bf16) (x5 : Vec F S1x8192x128 .bf16) (x6 : Vec F S1x1x8192 .f32) (x7 : Vec F S1x1x8192 .f32) (x19 : Vec F S128x2048 .bf16) (s : St F) (k : Fin (k0_t1_loop i).trips) (acc : BitVec 32) (E : Set ℕ) :
    inv c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x19 (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 x2 x3 x4 x5 x6 x7 x19 s k.val) ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v1105 k acc)
      (fun _ => inv c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x19 (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 x2 x3 x4 x5 x6 x7 x19 s (k.val + 1))) := by
  have h : loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 x2 x3 x4 x5 x6 x7 x19 s (k.val + 1) = nextSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 x2 x3 x4 x5 x6 x7 x19 k (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 x2 x3 x4 x5 x6 x7 x19 s k.val) := by
    rw [loopSt, dif_pos k.isLt]
  rw [h]
  exact trip_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v15 v1105 x2 x3 x4 x5 x6 x7 x19 k acc _ E

end Cert.Kernel2Ideal.Bwd

end
-- ==== Proof.IPointA.lean ====
/-
  The whole body at a point, as found by its run.
-/
module

public import proofs.«01_k».proof.Proof.ILoop

@[expose] public section

set_option maxRecDepth 16384

noncomputable section

namespace Cert.Kernel2Ideal.Bwd

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body has in the tables before its loop and leaves in the three results at a point. -/
noncomputable def point_A (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole) (hc0 : (Scalar.cmpi .ne (Scalar.extui (Scalar.cmpi .eq (BitVec.ofNat 32 (i 1).val) 0#32)) 0#32) = 1#1)
    (x2 : Vec F S1x8192x128 .bf16) (x3 : Vec F S1x2048x128 .bf16) (x4 : Vec F S1x2048x128 .bf16) (x5 : Vec F S1x8192x128 .bf16) (x6 : Vec F S1x1x8192 .f32) (x7 : Vec F S1x1x8192 .f32) :
    Σ' (p8 : Buf (Elt F) (arg8.view.loc (c : Thread nD τ))), Σ' (p9 : Buf (Elt F) (arg9.view.loc (c : Thread nD τ))), Σ' (p10 : Buf (Elt F) (arg10.view.loc (c : Thread nD τ))), Σ' (p11 : Buf (Elt F) (arg11.view.loc (c : Thread nD τ))), Σ' (p13 : Buf (Elt F) (arg13.view.loc (c : Thread nD τ))), Σ' (p16 : Buf (Elt F) (arg16.view.loc (c : Thread nD τ))), Σ' (p18 : Buf (Elt F) (arg18.view.loc (c : Thread nD τ))), Σ' (p19 : Buf (Elt F) (arg19.view.loc (c : Thread nD τ))), Σ' (g8 : Buf (Elt F) (arg8.view.loc (c : Thread nD τ))), Σ' (g9 : Buf (Elt F) (arg9.view.loc (c : Thread nD τ))), { g10 : Buf (Elt F) (arg10.view.loc (c : Thread nD τ)) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))) -∗ K ⟨⟩))
          ⊢ wp frame (wpE (defs₀ (F := F)) Variants.none c none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?p8, ?p9, ?p10, ?p11, ?p13, ?p16, ?p18, ?p19, ?_, ?_, ?_, fun E K => ?run⟩
  case run =>
    simp only [cc0_attn_bwd_eq_skeleton]; unfold cc0_attn_bwd_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec! (disch := first | sl_exact hc0)
    sl_for (fun n _ => inv c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 (arg19.view.read (Elt F) ?p19) (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli 4#32 (BitVec.ofNat 32 (i 1).val)) x2 x3 x4 x5 x6 x7 (arg19.view.read (Elt F) ?p19) ⟨arg8.view.read (Elt F) ?p8, arg9.view.read (Elt F) ?p9, arg10.view.read (Elt F) ?p10, arg11.view.read (Elt F) ?p11, arg13.view.read (Elt F) ?p13, arg16.view.read (Elt F) ?p16, arg18.view.read (Elt F) ?p18⟩ n)) $$ [H2 H3 H4 H5 H6 H7 H19 H8 H9 H10 H11 H13 H16 H18 H12 H14 H15 H17]
    rotate_left
    · unfold inv
      isplitl [H2]
      · unfold owns; iexists _; isplitr; · ipureintro; exact harg2.read_unread _
        iexact H2
      isplitl [H3]
      · unfold owns; iexists _; isplitr; · ipureintro; exact harg3.read_unread _
        iexact H3
      isplitl [H4]
      · unfold owns; iexists _; isplitr; · ipureintro; exact harg4.read_unread _
        iexact H4
      isplitl [H5]
      · unfold owns; iexists _; isplitr; · ipureintro; exact harg5.read_unread _
        iexact H5
      isplitl [H6]
      · unfold owns; iexists _; isplitr; · ipureintro; exact harg6.read_unread _
        iexact H6
      isplitl [H7]
      · unfold owns; iexists _; isplitr; · ipureintro; exact harg7.read_unread _
        iexact H7
      isplitl [H19]; · iapply (owns_read c arg19 ?p19) $$ H19
      isplitl [H8]; · iapply (owns_read c arg8 ?p8) $$ H8
      isplitl [H9]; · iapply (owns_read c arg9 ?p9) $$ H9
      isplitl [H10]; · iapply (owns_read c arg10 ?p10) $$ H10
      isplitl [H11]; · iapply (owns_read c arg11 ?p11) $$ H11
      isplitl [H13]; · iapply (owns_read c arg13 ?p13) $$ H13
      isplitl [H16]; · iapply (owns_read c arg16 ?p16) $$ H16
      isplitl [H18]; · iapply (owns_read c arg18 ?p18) $$ H18
      isplitl [H12]; · iexists _; iexact H12
      isplitl [H14]; · iexists _; iexact H14
      isplitl [H15]; · iexists _; iexact H15
      iexists _; iexact H17
    · unfold inv owns
      iintro %acc ⟨⟨%y2, %hy2, H2⟩, ⟨%y3, %hy3, H3⟩, ⟨%y4, %hy4, H4⟩, ⟨%y5, %hy5, H5⟩, ⟨%y6, %hy6, H6⟩, ⟨%y7, %hy7, H7⟩, ⟨%y19, %hy19, H19⟩, ⟨%y8, %hy8, H8⟩, ⟨%y9, %hy9, H9⟩, ⟨%y10, %hy10, H10⟩, ⟨%y11, %hy11, H11⟩, ⟨%y13, %hy13, H13⟩, ⟨%y16, %hy16, H16⟩, ⟨%y18, %hy18, H18⟩, ⟨%y12, H12⟩, ⟨%y14, H14⟩, ⟨%y15, H15⟩, ⟨%y17, H17⟩⟩
      obtain rfl := harg2.eq_unread hy2; obtain rfl := harg3.eq_unread hy3; obtain rfl := harg4.eq_unread hy4; obtain rfl := harg5.eq_unread hy5; obtain rfl := harg6.eq_unread hy6; obtain rfl := harg7.eq_unread hy7; obtain rfl := harg19.eq_unread hy19; obtain rfl := harg8.eq_unread hy8; obtain rfl := harg9.eq_unread hy9; obtain rfl := harg10.eq_unread hy10; obtain rfl := harg11.eq_unread hy11; obtain rfl := harg13.eq_unread hy13; obtain rfl := harg16.eq_unread hy16; obtain rfl := harg18.eq_unread hy18
      sl_exec!
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      iexists _; iexact H19
    · intro k acc
      sl_respell []
      exact loop_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ x2 x3 x4 x5 x6 x7 _ _ k acc E

end Cert.Kernel2Ideal.Bwd

end
-- ==== Proof.IPointB.lean ====
/-
  The whole body at a point, as found by its run.
-/
module

public import proofs.«01_k».proof.Proof.IPointA

@[expose] public section

set_option maxRecDepth 16384

noncomputable section

namespace Cert.Kernel2Ideal.Bwd

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body has in the tables before its loop and leaves in the three results at a point. -/
noncomputable def point_B (c : Dev nD) (i : grid0.Coords) (arg2 : Memref sig .tc .vmem S1x8192x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x128x8192 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S2048x512 .f32) (harg11 : arg11.IsWhole) (arg12 : Memref sig .tc .vmem S2048x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S2048x512 .bf16) (harg17 : arg17.IsWhole) (arg18 : Memref sig .tc .vmem S2048x512 .bf16) (harg18 : arg18.IsWhole) (arg19 : Memref sig .tc .vmem S128x2048 .bf16) (harg19 : arg19.IsWhole) (hc0 : ¬ ((Scalar.cmpi .ne (Scalar.extui (Scalar.cmpi .eq (BitVec.ofNat 32 (i 1).val) 0#32)) 0#32) = 1#1))
    (x2 : Vec F S1x8192x128 .bf16) (x3 : Vec F S1x2048x128 .bf16) (x4 : Vec F S1x2048x128 .bf16) (x5 : Vec F S1x8192x128 .bf16) (x6 : Vec F S1x1x8192 .f32) (x7 : Vec F S1x1x8192 .f32) (d8 : Vec F S1x128x8192 .f32) :
    Σ' (p8 : Buf (Elt F) (arg8.view.loc (c : Thread nD τ))), Σ' (p9 : Buf (Elt F) (arg9.view.loc (c : Thread nD τ))), Σ' (p10 : Buf (Elt F) (arg10.view.loc (c : Thread nD τ))), Σ' (p11 : Buf (Elt F) (arg11.view.loc (c : Thread nD τ))), Σ' (p13 : Buf (Elt F) (arg13.view.loc (c : Thread nD τ))), Σ' (p16 : Buf (Elt F) (arg16.view.loc (c : Thread nD τ))), Σ' (p18 : Buf (Elt F) (arg18.view.loc (c : Thread nD τ))), Σ' (p19 : Buf (Elt F) (arg19.view.loc (c : Thread nD τ))), Σ' (g8 : Buf (Elt F) (arg8.view.loc (c : Thread nD τ))), Σ' (g9 : Buf (Elt F) (arg9.view.loc (c : Thread nD τ))), { g10 : Buf (Elt F) (arg10.view.loc (c : Thread nD τ)) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare d8 ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))) -∗ K ⟨⟩))
          ⊢ wp frame (wpE (defs₀ (F := F)) Variants.none c none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?p8, ?p9, ?p10, ?p11, ?p13, ?p16, ?p18, ?p19, ?_, ?_, ?_, fun E K => ?run⟩
  case run =>
    simp only [cc0_attn_bwd_eq_skeleton]; unfold cc0_attn_bwd_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec! (disch := first | sl_exact hc0)
    sl_for (fun n _ => inv c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 (arg19.view.read (Elt F) ?p19) (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli 4#32 (BitVec.ofNat 32 (i 1).val)) x2 x3 x4 x5 x6 x7 (arg19.view.read (Elt F) ?p19) ⟨arg8.view.read (Elt F) ?p8, arg9.view.read (Elt F) ?p9, arg10.view.read (Elt F) ?p10, arg11.view.read (Elt F) ?p11, arg13.view.read (Elt F) ?p13, arg16.view.read (Elt F) ?p16, arg18.view.read (Elt F) ?p18⟩ n)) $$ [H2 H3 H4 H5 H6 H7 H19 H8 H9 H10 H11 H13 H16 H18 H12 H14 H15 H17]
    rotate_left
    · unfold inv
      isplitl [H2]
      · unfold owns; iexists _; isplitr; · ipureintro; exact harg2.read_unread _
        iexact H2
      isplitl [H3]
      · unfold owns; iexists _; isplitr; · ipureintro; exact harg3.read_unread _
        iexact H3
      isplitl [H4]
      · unfold owns; iexists _; isplitr; · ipureintro; exact harg4.read_unread _
        iexact H4
      isplitl [H5]
      · unfold owns; iexists _; isplitr; · ipureintro; exact harg5.read_unread _
        iexact H5
      isplitl [H6]
      · unfold owns; iexists _; isplitr; · ipureintro; exact harg6.read_unread _
        iexact H6
      isplitl [H7]
      · unfold owns; iexists _; isplitr; · ipureintro; exact harg7.read_unread _
        iexact H7
      isplitl [H19]; · iapply (owns_read c arg19 ?p19) $$ H19
      isplitl [H8]; · iapply (owns_read c arg8 ?p8) $$ H8
      isplitl [H9]; · iapply (owns_read c arg9 ?p9) $$ H9
      isplitl [H10]; · iapply (owns_read c arg10 ?p10) $$ H10
      isplitl [H11]; · iapply (owns_read c arg11 ?p11) $$ H11
      isplitl [H13]; · iapply (owns_read c arg13 ?p13) $$ H13
      isplitl [H16]; · iapply (owns_read c arg16 ?p16) $$ H16
      isplitl [H18]; · iapply (owns_read c arg18 ?p18) $$ H18
      isplitl [H12]; · iexists _; iexact H12
      isplitl [H14]; · iexists _; iexact H14
      isplitl [H15]; · iexists _; iexact H15
      iexists _; iexact H17
    · unfold inv owns
      iintro %acc ⟨⟨%y2, %hy2, H2⟩, ⟨%y3, %hy3, H3⟩, ⟨%y4, %hy4, H4⟩, ⟨%y5, %hy5, H5⟩, ⟨%y6, %hy6, H6⟩, ⟨%y7, %hy7, H7⟩, ⟨%y19, %hy19, H19⟩, ⟨%y8, %hy8, H8⟩, ⟨%y9, %hy9, H9⟩, ⟨%y10, %hy10, H10⟩, ⟨%y11, %hy11, H11⟩, ⟨%y13, %hy13, H13⟩, ⟨%y16, %hy16, H16⟩, ⟨%y18, %hy18, H18⟩, ⟨%y12, H12⟩, ⟨%y14, H14⟩, ⟨%y15, H15⟩, ⟨%y17, H17⟩⟩
      obtain rfl := harg2.eq_unread hy2; obtain rfl := harg3.eq_unread hy3; obtain rfl := harg4.eq_unread hy4; obtain rfl := harg5.eq_unread hy5; obtain rfl := harg6.eq_unread hy6; obtain rfl := harg7.eq_unread hy7; obtain rfl := harg19.eq_unread hy19; obtain rfl := harg8.eq_unread hy8; obtain rfl := harg9.eq_unread hy9; obtain rfl := harg10.eq_unread hy10; obtain rfl := harg11.eq_unread hy11; obtain rfl := harg13.eq_unread hy13; obtain rfl := harg16.eq_unread hy16; obtain rfl := harg18.eq_unread hy18
      sl_exec!
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      iexists _; iexact H19
    · intro k acc
      sl_respell []
      exact loop_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ x2 x3 x4 x5 x6 x7 _ _ k acc E

end Cert.Kernel2Ideal.Bwd

end
-- ==== Proof.IFrame.lean ====
/-
  What the results hold point by point, the body obligation, the run and the frame claim.
-/
module

public import proofs.«01_k».proof.Proof.IPointB
public import proofs.«01_k».proof.Proof.Gen.Kernel2Ideal.Frame
public import Idealize.ShloMosaic.Lib.Claim

@[expose] public section

set_option maxRecDepth 16384

noncomputable section

namespace Cert.Kernel2Ideal.Bwd

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1x8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x8192 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x128 .f32 := win0_8.stage (cfg0.slots t 8)
abbrev hs0_8 (t : Fin cfg0.N) : (ms0_8 t).IsWhole := hstage0_8 ((cfg0.slots t 8).cast nbuf0_8)
abbrev scM0_0 : Memref sig .tc .vmem S2048x512 .f32 := Memref.whole cc0_scratch0
abbrev scM0_1 : Memref sig .tc .vmem S2048x512 .f32 := Memref.whole cc0_scratch1
abbrev scM0_2 : Memref sig .tc .vmem S2048x512 .f32 := Memref.whole cc0_scratch2
abbrev scM0_3 : Memref sig .tc .vmem S2048x512 .f32 := Memref.whole cc0_scratch3
abbrev scM0_4 : Memref sig .tc .vmem S2048x512 .bf16 := Memref.whole cc0_scratch4
abbrev scM0_5 : Memref sig .tc .vmem S2048x512 .bf16 := Memref.whole cc0_scratch5
abbrev scM0_6 : Memref sig .tc .vmem S2048x512 .bf16 := Memref.whole cc0_scratch6
abbrev scM0_7 : Memref sig .tc .vmem S2048x512 .bf16 := Memref.whole cc0_scratch7
abbrev scM0_8 : Memref sig .tc .vmem S128x2048 .bf16 := Memref.whole cc0_scratch8

/-- The invariant of the call with each scratch buffer owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- A memref owned at some contents has its elements at some buffer contents. -/
theorem owns_pt {sp : Space} {sh : Shape} {e : EltTy} (c : Dev nD) (M : Memref sig .tc sp sh e) (X : sh.Idx → Elt F e) :
    (owns (c : Thread nD τ) M fullShare X : sProp 𝕄) ⊢ iprop(∃ f, (M.view.loc (c : Thread nD τ) ↦[M.view.set]{fullShare} f)) := by
  unfold owns; iintro ⟨%f, %hf, H⟩; iexists f; iexact H

/-- And back. -/
theorem pt_owns {sp : Space} {sh : Shape} {e : EltTy} (c : Dev nD) (M : Memref sig .tc sp sh e) (f : Buf (Elt F) (M.view.loc (c : Thread nD τ))) :
    ((M.view.loc (c : Thread nD τ) ↦[M.view.set]{fullShare} f) : sProp 𝕄) ⊢ iprop(∃ d, owns (c : Thread nD τ) M fullShare d) := by
  iintro H; iexists _; iapply (owns_intro (c : Thread nD τ) M fullShare f); iexact H

/-- The body's branch is on the key tile being the first of its head. -/
theorem hcond : ∀ t : Fin cfg0.N, (Scalar.cmpi .ne (Scalar.extui (Scalar.cmpi .eq (BitVec.ofNat 32 ((grid0.coords t) 1).val) 0#32)) 0#32) = 1#1 ↔ t.val % 4 = 0 :=
  (fun t => by
    have e1 : (grid0.coords t 1).val = t.val / 1 % 4 := Pipeline.Grid.coords_val t 1 (by decide) rfl
    simp only [e1]
    word_cmp
   : ∀ t : Fin grid0.N, (Scalar.cmpi .ne (Scalar.extui (Scalar.cmpi .eq (BitVec.ofNat 32 ((grid0.coords t) 1).val) 0#32)) 0#32) = 1#1 ↔ t.val % 4 = 0)

/-- The body's run at a point that starts a head's block of dq. -/
noncomputable def runA (c : Dev nD) (t : Fin cfg0.N) (h : t.val % 4 = 0) :=
  point_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond t).mpr h) (iblk m c 0 t) (iblk m c 1 t) (iblk m c 2 t) (iblk m c 3 t) (iblk m c 4 t) (iblk m c 5 t)
/-- The body's run at a point that adds to what the point before left in dq. -/
noncomputable def runB (c : Dev nD) (t : Fin cfg0.N) (h : ¬ t.val % 4 = 0) (d8 : Vec F S1x128x8192 .f32) :=
  point_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun e => h ((hcond t).mp e)) (iblk m c 0 t) (iblk m c 1 t) (iblk m c 2 t) (iblk m c 3 t) (iblk m c 4 t) (iblk m c 5 t) d8
/-- What that run leaves in the three results. -/
noncomputable def outA (c : Dev nD) (t : Fin cfg0.N) (h : t.val % 4 = 0) : Vec F S1x128x8192 .f32 × Vec F S1x2048x128 .f32 × Vec F S1x2048x128 .f32 :=
  ((ms0_6 t).view.read (Elt F) (runA m c t h).2.2.2.2.2.2.2.2.1, (ms0_7 t).view.read (Elt F) (runA m c t h).2.2.2.2.2.2.2.2.2.1,
    (ms0_8 t).view.read (Elt F) (runA m c t h).2.2.2.2.2.2.2.2.2.2.1)
/-- What that run leaves in the three results. -/
noncomputable def outB (c : Dev nD) (t : Fin cfg0.N) (h : ¬ t.val % 4 = 0) (d8 : Vec F S1x128x8192 .f32) : Vec F S1x128x8192 .f32 × Vec F S1x2048x128 .f32 × Vec F S1x2048x128 .f32 :=
  ((ms0_6 t).view.read (Elt F) (runB m c t h d8).2.2.2.2.2.2.2.2.1, (ms0_7 t).view.read (Elt F) (runB m c t h d8).2.2.2.2.2.2.2.2.2.1,
    (ms0_8 t).view.read (Elt F) (runB m c t h d8).2.2.2.2.2.2.2.2.2.2.1)

/-- What the three results hold after each point. -/
noncomputable def outsAt0 (c : Dev nD) : (n : ℕ) → n < cfg0.N → Vec F S1x128x8192 .f32 × Vec F S1x2048x128 .f32 × Vec F S1x2048x128 .f32
  | 0, hn => outA m c ⟨0, hn⟩ (Nat.zero_mod _)
  | n + 1, hn =>
    if h : (n + 1) % 4 = 0 then outA m c ⟨n + 1, hn⟩ h
    else outB m c ⟨n + 1, hn⟩ h (outsAt0 c n (Nat.lt_of_succ_lt hn)).1

theorem outsAt0_A (c : Dev nD) (t : Fin cfg0.N) (h : t.val % 4 = 0) : outsAt0 m c t.val t.isLt = outA m c t h := by
  obtain ⟨n, hn⟩ := t
  cases n with
  | zero => rfl
  | succ n => exact (dif_pos h).trans rfl

theorem outsAt0_B (c : Dev nD) (t : Fin cfg0.N) (h : ¬ t.val % 4 = 0) :
    outsAt0 m c t.val t.isLt = outB m c t h (outsAt0 m c (t.val - 1) (Nat.lt_of_le_of_lt (Nat.sub_le _ _) t.isLt)).1 := by
  obtain ⟨n, hn⟩ := t
  cases n with
  | zero => exact absurd (Nat.zero_mod _) h
  | succ n => exact (dif_neg h).trans rfl

/-- The proof data of the call: each input's buffer at its block, the results' at `outsAt0`. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2
    | ⟨_ + 9, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Between two points of one head the block of dq is kept. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).1 := by
  rw [Dat.before_out_kept _ 6 rfl t (by omega) (Bool.eq_false_iff.mpr fun h => by have := (flush0_6 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    PhiA0_eq, after0_0, after0_1, after0_2, after0_3, after0_4, after0_5, after0_6, after0_7, after0_8]
  by_cases h0 : t.val % 4 = 0
  · rw [outsAt0_A m c t h0]
    unfold outA
    dsimp only
    iintro ⟨⟨⟨⟨%y0, HS0⟩, ⟨%y1, HS1⟩, ⟨%y2, HS2⟩, ⟨%y3, HS3⟩, ⟨%y4, HS4⟩, ⟨%y5, HS5⟩, ⟨%y6, HS6⟩, ⟨%y7, HS7⟩, ⟨%y8, HS8⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA m c t h0).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iapply (owns_pt c (ms0_6 t) _) $$ H6
    isplitl [H7]; · iapply (owns_pt c (ms0_7 t) _) $$ H7
    isplitl [H8]; · iapply (owns_pt c (ms0_8 t) _) $$ H8
    isplitl [HS0]; · iapply (owns_pt c scM0_0 _) $$ HS0
    isplitl [HS1]; · iapply (owns_pt c scM0_1 _) $$ HS1
    isplitl [HS2]; · iapply (owns_pt c scM0_2 _) $$ HS2
    isplitl [HS3]; · iapply (owns_pt c scM0_3 _) $$ HS3
    isplitl [HS4]; · iapply (owns_pt c scM0_4 _) $$ HS4
    isplitl [HS5]; · iapply (owns_pt c scM0_5 _) $$ HS5
    isplitl [HS6]; · iapply (owns_pt c scM0_6 _) $$ HS6
    isplitl [HS7]; · iapply (owns_pt c scM0_7 _) $$ HS7
    isplitl [HS8]; · iapply (owns_pt c scM0_8 _) $$ HS8
    iintro ⟨H0, H1, H2, H3, H4, H5, H6, H7, H8, ⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩⟩
    isplitl [Hr HS0 HS1 HS2 HS3 HS4 HS5 HS6 HS7 HS8]
    · isplitl [HS0 HS1 HS2 HS3 HS4 HS5 HS6 HS7 HS8]
      · isplitl [HS0]; · iapply (pt_owns c scM0_0 _) $$ HS0
        isplitl [HS1]; · iapply (pt_owns c scM0_1 _) $$ HS1
        isplitl [HS2]; · iapply (pt_owns c scM0_2 _) $$ HS2
        isplitl [HS3]; · iapply (pt_owns c scM0_3 _) $$ HS3
        isplitl [HS4]; · iapply (pt_owns c scM0_4 _) $$ HS4
        isplitl [HS5]; · iapply (pt_owns c scM0_5 _) $$ HS5
        isplitl [HS6]; · iapply (pt_owns c scM0_6 _) $$ HS6
        isplitl [HS7]; · iapply (pt_owns c scM0_7 _) $$ HS7
        iapply (pt_owns c scM0_8 _) $$ HS8
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (owns_intro (c : Thread nD τ) (ms0_6 t) fullShare _) $$ H6
    isplitl [H7]; · iapply (owns_intro (c : Thread nD τ) (ms0_7 t) fullShare _) $$ H7
    iapply (owns_intro (c : Thread nD τ) (ms0_8 t) fullShare _) $$ H8
  · rw [outsAt0_B m c t h0]
    simp only [before0_6_B m c t h0]
    unfold outB
    dsimp only
    iintro ⟨⟨⟨⟨%y0, HS0⟩, ⟨%y1, HS1⟩, ⟨%y2, HS2⟩, ⟨%y3, HS3⟩, ⟨%y4, HS4⟩, ⟨%y5, HS5⟩, ⟨%y6, HS6⟩, ⟨%y7, HS7⟩, ⟨%y8, HS8⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB m c t h0 _).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (owns_pt c (ms0_7 t) _) $$ H7
    isplitl [H8]; · iapply (owns_pt c (ms0_8 t) _) $$ H8
    isplitl [HS0]; · iapply (owns_pt c scM0_0 _) $$ HS0
    isplitl [HS1]; · iapply (owns_pt c scM0_1 _) $$ HS1
    isplitl [HS2]; · iapply (owns_pt c scM0_2 _) $$ HS2
    isplitl [HS3]; · iapply (owns_pt c scM0_3 _) $$ HS3
    isplitl [HS4]; · iapply (owns_pt c scM0_4 _) $$ HS4
    isplitl [HS5]; · iapply (owns_pt c scM0_5 _) $$ HS5
    isplitl [HS6]; · iapply (owns_pt c scM0_6 _) $$ HS6
    isplitl [HS7]; · iapply (owns_pt c scM0_7 _) $$ HS7
    isplitl [HS8]; · iapply (owns_pt c scM0_8 _) $$ HS8
    iintro ⟨H0, H1, H2, H3, H4, H5, H6, H7, H8, ⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩⟩
    isplitl [Hr HS0 HS1 HS2 HS3 HS4 HS5 HS6 HS7 HS8]
    · isplitl [HS0 HS1 HS2 HS3 HS4 HS5 HS6 HS7 HS8]
      · isplitl [HS0]; · iapply (pt_owns c scM0_0 _) $$ HS0
        isplitl [HS1]; · iapply (pt_owns c scM0_1 _) $$ HS1
        isplitl [HS2]; · iapply (pt_owns c scM0_2 _) $$ HS2
        isplitl [HS3]; · iapply (pt_owns c scM0_3 _) $$ HS3
        isplitl [HS4]; · iapply (pt_owns c scM0_4 _) $$ HS4
        isplitl [HS5]; · iapply (pt_owns c scM0_5 _) $$ HS5
        isplitl [HS6]; · iapply (pt_owns c scM0_6 _) $$ HS6
        isplitl [HS7]; · iapply (pt_owns c scM0_7 _) $$ HS7
        iapply (pt_owns c scM0_8 _) $$ HS8
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (owns_intro (c : Thread nD τ) (ms0_6 t) fullShare _) $$ H6
    isplitl [H7]; · iapply (owns_intro (c : Thread nD τ) (ms0_7 t) fullShare _) $$ H7
    iapply (owns_intro (c : Thread nD τ) (ms0_8 t) fullShare _) $$ H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: the arrays at what the proof data gives, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim, at any element values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel2Ideal.Bwd

end
-- ==== Proof.BitsFrame.lean ====
module
public import proofs.«01_k».proof.Proof.IFrame
public import proofs.«01_k».proof.Defs
public import proofs.«01_k».proof.Proof.Gen.Kernel2
@[expose] public section
set_option maxRecDepth 65536
noncomputable section
namespace Cert.Kernel2.Bwd
open Idealize.ShloMosaic Idealize.SL.Sem

/-! The frame in the machine's numbers, from the one run over any numbers. -/

/-- A named constant is its word, in the machine's numbers. -/
local instance : Named Bits := ⟨fun _ _ {φ} bits => Scalar.ofBits φ bits⟩

/-- With each named constant read as its word, the two programs are one. -/
theorem run_eq (m : (ℓ : Loc Cert.Kernel2.nD Cert.Kernel2.τ Cert.Kernel2.sig) → Buf (Elt Bits) ℓ) (g : Dev Cert.Kernel2.nD → PrngReg) (Q : _ → Prop) :
    θ_run (Cert.Kernel2.defs (F := Bits)) (onTc (τ := Cert.Kernel2.τ) (Cert.Kernel2.main (F := Bits))) ⟨m, fun _ => 0, g⟩ Q
      = θ_run (Cert.Kernel2Ideal.defs (F := Bits)) (onTc (τ := Cert.Kernel2Ideal.τ) (Cert.Kernel2Ideal.main (F := Bits))) ⟨m, fun _ => 0, g⟩ Q := by
  sl_kernel_rfl

/-- The attention backward call leaves its arguments as they were, in the machine's numbers. -/
theorem frame : Cert.quiescent_Kernel2 := fun m g _ =>
  (run_eq m g _).mpr (Cert.Kernel2Ideal.Bwd.frame (F := Bits) m g)

end Cert.Kernel2.Bwd
-- ==== Proof.Spec.lean ====
module
public import Idealize.ShloMosaic.PureOps.Ideal
public import Idealize.ShloMosaic.Lib.Pointwise
@[expose] public section
noncomputable section
namespace Cert.Tail
open Idealize.ShloMosaic

/-! What the step computes for one row, and the contributions of a row to the summed gradients, over the extended reals. -/

/-- The transpose of the rotation: `C`, `S` the cosines and sines of the row's angles. -/
def rot (C S : Fin 16 → EReal) (t : Fin 128 → EReal) (l : Fin 128) : EReal :=
  if _ : l.val < 64 then t l
  else if _ : l.val - 64 < 16 then t l * C ⟨l.val - 64, by omega⟩ + t ⟨l.val + 16, by omega⟩ * S ⟨l.val - 64, by omega⟩
  else if _ : l.val - 64 - 16 < 16 then
    t l * C ⟨l.val - 64 - 16, by omega⟩ - t ⟨l.val - 16, by omega⟩ * S ⟨l.val - 64 - 16, by omega⟩
  else t l

def scaleC : EReal := Ideal.ofBits FTy.f32 0x3DD105EC#32
def epsC : EReal := Ideal.ofBits FTy.f32 0x3727C5AC#32
def alphaC : EReal := Ideal.ofBits FTy.f32 0x3F9837F0#32
def n256 : EReal := Ideal.ofBits FTy.f32 0x43800000#32
def n128 : EReal := Ideal.ofBits FTy.f32 0x43000000#32

/-- The rotated, scaled cotangent of a query. -/
def dq (C S : Fin 16 → EReal) (tq : Fin 8 → Fin 128 → EReal) (h : Fin 8) (l : Fin 128) : EReal := rot C S (fun l => tq h l * scaleC) l
/-- The cotangent of a key (first 64 lanes) and of a value (the others). -/
def dkv (tk tv : Fin 8 → Fin 128 → EReal) (h : Fin 8) (l : Fin 128) : EReal := if l.val < 64 then tk h l else tv h l
/-- The cotangent of the shared rotated key. -/
def dkr (C S : Fin 16 → EReal) (tk : Fin 8 → Fin 128 → EReal) (l : Fin 128) : EReal :=
  if 64 ≤ l.val ∧ l.val < 96 then rot C S (fun l => ∑ h, tk h l) l else 0

/-- One over the root of the mean square. -/
def rstd {n : ℕ} (N : EReal) (c : Fin n → EReal) : EReal := Ideal.rsqrt (Ideal.div (∑ j, c j * c j) N + epsC)
/-- The normalised row. -/
def hat {n : ℕ} (N : EReal) (c : Fin n → EReal) (j : Fin n) : EReal := c j * rstd N c
/-- The gradient of the normalisation, `d` the cotangent of the scaled normalised row and `g` the scale. -/
def normBack {n : ℕ} (N : EReal) (c g d : Fin n → EReal) (j : Fin n) : EReal :=
  rstd N c * (d j * g j - hat N c j * Ideal.div (∑ i, d i * g i * hat N c i) N)

/-- The cotangent of the scaled normalised queries. -/
def dcq (C S : Fin 16 → EReal) (tq : Fin 8 → Fin 128 → EReal) (W : Fin 8 → Fin 256 → Fin 128 → EReal) (j : Fin 256) : EReal :=
  ∑ h, ∑ l, dq C S tq h l * W h j l
/-- The cotangent of the scaled normalised keys and values. -/
def dckv (tk tv : Fin 8 → Fin 128 → EReal) (W : Fin 8 → Fin 128 → Fin 128 → EReal) (j : Fin 128) : EReal :=
  ∑ h, ∑ l, dkv tk tv h l * W h j l

/-- The cotangent of a row of the projection's first 512 columns. -/
def dh (C S : Fin 16 → EReal) (tq tk tv : Fin 8 → Fin 128 → EReal) (Wq : Fin 8 → Fin 256 → Fin 128 → EReal)
    (Wkv : Fin 8 → Fin 128 → Fin 128 → EReal) (cq gq : Fin 256 → EReal) (ck gk : Fin 128 → EReal) (e : Fin 512) : EReal :=
  if h : e.val < 256 then normBack n256 cq gq (dcq C S tq Wq) ⟨e.val, h⟩
  else if h : e.val - 256 < 128 then normBack n128 ck gk (dckv tk tv Wkv) ⟨e.val - 256, h⟩
  else dkr C S tk ⟨e.val - 256 - 128, by omega⟩

/-- What the call is given, at the width the kernel computes in. -/
structure Data where
  C : Fin 8192 → Fin 16 → EReal
  S : Fin 8192 → Fin 16 → EReal
  tq : Fin 8192 → Fin 8 → Fin 128 → EReal
  tk : Fin 8192 → Fin 8 → Fin 128 → EReal
  tv : Fin 8192 → Fin 8 → Fin 128 → EReal
  Wq : Fin 8 → Fin 256 → Fin 128 → EReal
  Wk : Fin 8 → Fin 128 → Fin 128 → EReal
  cq : Fin 8192 → Fin 256 → EReal
  gq : Fin 256 → EReal
  ck : Fin 8192 → Fin 128 → EReal
  gk : Fin 128 → EReal
  x : Fin 8192 → Fin 1024 → EReal
  dr : Fin 8192 → Fin 1024 → EReal
  rest : Fin 8192 → Fin 2048 → EReal
  w : Fin 1024 → Fin 2560 → EReal

namespace Data
variable (D : Data)
def dhRow (n : Fin 8192) (e : Fin 512) : EReal :=
  dh (D.C n) (D.S n) (D.tq n) (D.tk n) (D.tv n) D.Wq D.Wk (D.cq n) D.gq (D.ck n) D.gk e
/-- A row's cotangent of the whole projection. -/
def dproj (n : Fin 8192) (e : Fin 2560) : EReal :=
  if he : e.val < 512 then D.dhRow n ⟨e.val, he⟩ else D.rest n ⟨e.val - 512, by omega⟩
/-- The gradient of the input. -/
def gx (n : Fin 8192) (d : Fin 1024) : EReal :=
  (alphaC * D.dr n d + ∑ e : Fin 2048, D.rest n e * D.w d ⟨512 + e.val, by omega⟩)
    + ∑ e : Fin 512, D.dhRow n e * D.w d ⟨e.val, by omega⟩
/-- The gradient of the projection's weight. -/
def win (d : Fin 1024) (e : Fin 2560) : EReal := ∑ n, D.x n d * D.dproj n e
/-- The gradient of the heads' weights. -/
def wq (h : Fin 8) (j : Fin 256) (l : Fin 128) : EReal :=
  ∑ n, hat n256 (D.cq n) j * D.gq j * dq (D.C n) (D.S n) (D.tq n) h l
def wkv (h : Fin 8) (j : Fin 128) (l : Fin 128) : EReal :=
  ∑ n, hat n128 (D.ck n) j * D.gk j * dkv (D.tk n) (D.tv n) h l
/-- The gradients of the two scales. -/
def qg (j : Fin 256) : EReal := ∑ n, dcq (D.C n) (D.S n) (D.tq n) D.Wq j * hat n256 (D.cq n) j
def kvg (j : Fin 128) : EReal := ∑ n, dckv (D.tk n) (D.tv n) D.Wk j * hat n128 (D.ck n) j
end Data

theorem ofBits_neg_one : Ideal.ofBits FTy.f32 0xBF800000#32 = -1 := by
  simp [Ideal.ofBits, Ideal.ieee, -EReal.coe_mul]; norm_num

theorem sub_neg_one_mul (a b : EReal) : a - -1 * b = a + b := by
  rw [neg_mul, one_mul, sub_eq_add_neg, neg_neg]
theorem add_neg_one_mul (a b : EReal) : a + -1 * b = a - b := by
  rw [neg_mul, one_mul, sub_eq_add_neg]

end Cert.Tail
-- ==== Proof.Args.lean ====
module
public import proofs.«01_k».proof.Proof.Spec
@[expose] public section
noncomputable section
namespace Cert.Tail
open Idealize.ShloMosaic

/-! The call's data out of the arguments of the function. -/

/-- The arguments, entry by entry. -/
structure Args where
  x : Fin 8192 → Fin 1024 → EReal
  pos : Fin 8192 → EReal
  win : Fin 1024 → Fin 2464 → EReal
  qg : Fin 256 → EReal
  wuq : Fin 256 → Fin 768 → EReal
  kg : Fin 128 → EReal
  wukv : Fin 128 → Fin 1024 → EReal
  ctq : Fin 8192 → Fin 8 → Fin 96 → EReal
  ctk : Fin 8192 → Fin 8 → Fin 96 → EReal
  ctv : Fin 8192 → Fin 8 → Fin 64 → EReal
  dr : Fin 8192 → Fin 1024 → EReal
  rest : Fin 8192 → Fin 2048 → EReal

/-- The frequencies of the rotation. -/
def invf (k : Fin 16) : EReal :=
  Ideal.div 1 (Ideal.pow (Ideal.ofBits FTy.f32 1176256512#32)
    (Ideal.div (FloatOps.sitofp (F := Ideal) FTy.f32 (BitVec.ofNat 32 k.val)) (Ideal.ofBits FTy.f32 1098907648#32)))

namespace Args
variable (A : Args)
/-- The projection of the input. -/
def proj (n : Fin 8192) (e : Fin 2464) : EReal := ∑ d, A.x n d * A.win d e
/-- The data with the columns laid out as the kernel has them. -/
def data : Data where
  C n k := Ideal.cos (A.pos n * invf k)
  S n k := Ideal.sin (A.pos n * invf k)
  tq n h l := if hl : l.val < 96 then A.ctq n h ⟨l.val, hl⟩ else 0
  tk n h l := if hl : l.val < 96 then A.ctk n h ⟨l.val, hl⟩ else 0
  tv n h l := if hl : 64 ≤ l.val then A.ctv n h ⟨l.val - 64, by omega⟩ else 0
  Wq h j l := if hl : l.val < 96 then A.wuq j ⟨h.val * 96 + l.val, by omega⟩ else 0
  Wk h j l := A.wukv j ⟨h.val * 128 + l.val, by omega⟩
  cq n j := A.proj n ⟨j.val, by omega⟩
  gq := A.qg
  ck n j := A.proj n ⟨256 + j.val, by omega⟩
  gk := A.kg
  x := A.x
  dr := A.dr
  rest := A.rest
  w d e := if h1 : e.val < 384 then A.win d ⟨e.val, by omega⟩ else if h2 : 448 ≤ e.val ∧ e.val < 480 then A.win d ⟨e.val - 64, by omega⟩
    else if h3 : 512 ≤ e.val then A.win d ⟨e.val - 96, by omega⟩ else 0
end Args
end Cert.Tail
-- ==== Proof.Ref1.lean ====
module
public import proofs.«01_k».proof.Proof.Gen.ReferenceIdeal.Read
public import proofs.«01_k».proof.Proof.Args
public import Idealize.ShloMosaic.Lib.Pointwise
@[expose] public section
set_option maxRecDepth 16384
noncomputable section
namespace Cert.ReferenceIdeal.Tail
open Cert.ReferenceIdeal Cert.ReferenceIdeal.Gen Cert.ReferenceIdeal.Read Idealize.ShloMosaic Idealize.ShloMosaic.TcCoe Idealize.SL.Sem
/-! The reference's stages, entry by entry. -/
variable (x0 : Vec Ideal S8192x1024 .f32) (x1 : Vec Ideal S8192 .i32) (x2 : Vec Ideal S1024x2464 .f32) (x3 : Vec Ideal S256 .f32) (x4 : Vec Ideal S256x768 .f32)
  (x5 : Vec Ideal S128 .f32) (x6 : Vec Ideal S128x1024 .f32) (x7 x8 : Vec Ideal S8192x8x96 .f32) (x9 : Vec Ideal S8192x8x64 .f32) (x10 : Vec Ideal S8192x1024 .f32)
  (x11 : Vec Ideal S8192x2048 .f32)

/-- The arguments as functions of their entries. -/
def args : Cert.Tail.Args where
  x n d := x0 (ix2 n d)
  pos n := FloatOps.sitofp (F := Ideal) FTy.f32 (x1 (ix1 n))
  win d e := x2 (ix2 d e)
  qg j := x3 (ix1 j)
  wuq j l := x4 (ix2 j l)
  kg j := x5 (ix1 j)
  wukv j l := x6 (ix2 j l)
  ctq n h l := x7 (ix3 n h l)
  ctk n h l := x8 (ix3 n h l)
  ctv n h l := x9 (ix3 n h l)
  dr n d := x10 (ix2 n d)
  rest n e := x11 (ix2 n e)

theorem r1 (n : Fin 8192) (j : Fin 256) : val_main_v1 x0 x2 (ix2 n j) = ∑ d : Fin 1024, x0 (ix2 n d) * x2 (ix2 d ⟨j.val, by omega⟩) := by
  pointwise [val_main_v1, val_main_v0]
theorem r2 (n : Fin 8192) (j : Fin 128) : val_main_v2 x0 x2 (ix2 n j) = ∑ d : Fin 1024, x0 (ix2 n d) * x2 (ix2 d ⟨256 + j.val, by omega⟩) := by
  pointwise [val_main_v2, val_main_v0]
theorem r12 (n : Fin 8192) (z : Fin 1) : val_main_v12 x0 x2 (ix2 n z) = Cert.Tail.rstd Cert.Tail.n256 (fun j => val_main_v1 x0 x2 (ix2 n j)) := by
  pointwise [val_main_v12, val_main_v11, val_main_v10, val_main_cst_1, val_main_v9, val_main_v8, val_main_cst_0, val_main_v7, val_main_v6, val_main_v5, val_main_cst]
  rfl
theorem r62 (n : Fin 8192) (z : Fin 1) : val_main_v62 x0 x2 (ix2 n z) = Cert.Tail.rstd Cert.Tail.n128 (fun j => val_main_v2 x0 x2 (ix2 n j)) := by
  pointwise [val_main_v62, val_main_v61, val_main_v60, val_main_cst_8, val_main_v59, val_main_v58, val_main_cst_7, val_main_v57, val_main_v56, val_main_v55, val_main_cst_6]
  rfl
theorem r15 (n : Fin 8192) (z : Fin 1) : val_main_v15 x0 x2 (ix2 n z) = Ideal.ofBits FTy.f32 0xBF000000#32 * Ideal.div (Cert.Tail.rstd Cert.Tail.n256 (fun j => val_main_v1 x0 x2 (ix2 n j)))
    (Ideal.div (∑ j, val_main_v1 x0 x2 (ix2 n j) * val_main_v1 x0 x2 (ix2 n j)) Cert.Tail.n256 + Cert.Tail.epsC) := by
  pointwise [val_main_v15, val_main_v14, val_main_cst_2, val_main_v13, val_main_v12, val_main_v11, val_main_v10, val_main_cst_1, val_main_v9, val_main_v8, val_main_cst_0, val_main_v7, val_main_v6, val_main_v5, val_main_cst]
  rfl
theorem r65 (n : Fin 8192) (z : Fin 1) : val_main_v65 x0 x2 (ix2 n z) = Ideal.ofBits FTy.f32 0xBF000000#32 * Ideal.div (Cert.Tail.rstd Cert.Tail.n128 (fun j => val_main_v2 x0 x2 (ix2 n j)))
    (Ideal.div (∑ j, val_main_v2 x0 x2 (ix2 n j) * val_main_v2 x0 x2 (ix2 n j)) Cert.Tail.n128 + Cert.Tail.epsC) := by
  pointwise [val_main_v65, val_main_v64, val_main_cst_9, val_main_v63, val_main_v62, val_main_v61, val_main_v60, val_main_cst_8, val_main_v59, val_main_v58, val_main_cst_7, val_main_v57, val_main_v56, val_main_v55, val_main_cst_6]
  rfl
theorem r17 (n : Fin 8192) (j : Fin 256) : val_main_v17 x0 x2 (ix2 n j) = Cert.Tail.hat Cert.Tail.n256 (fun j => val_main_v1 x0 x2 (ix2 n j)) j := by
  pointwise [val_main_v17, val_main_v16]
  rw [r12]; rfl
theorem r67 (n : Fin 8192) (j : Fin 128) : val_main_v67 x0 x2 (ix2 n j) = Cert.Tail.hat Cert.Tail.n128 (fun j => val_main_v2 x0 x2 (ix2 n j)) j := by
  pointwise [val_main_v67, val_main_v66]
  rw [r62]; rfl
theorem r20 (n : Fin 8192) (j : Fin 256) : val_main_v20 x0 x2 x3 (ix2 n j) = Cert.Tail.hat Cert.Tail.n256 (fun j => val_main_v1 x0 x2 (ix2 n j)) j * x3 (ix1 j) := by
  pointwise [val_main_v20, val_main_v19, val_main_v18]
  rw [r17]
theorem r70 (n : Fin 8192) (j : Fin 128) : val_main_v70 x0 x2 x5 (ix2 n j) = Cert.Tail.hat Cert.Tail.n128 (fun j => val_main_v2 x0 x2 (ix2 n j)) j * x5 (ix1 j) := by
  pointwise [val_main_v70, val_main_v69, val_main_v68]
  rw [r67]
theorem r39 (n : Fin 8192) (z : Fin 1) (k : Fin 16) : val_main_v39 x1 (ix3 n z k) = Ideal.cos (FloatOps.sitofp (F := Ideal) FTy.f32 (x1 (ix1 n)) * Cert.Tail.invf k) := by
  pointwise [val_main_v39, val_main_v38, val_main_v37, val_main_v36, val_main_v35, val_main_v34, val_main_v33, val_main_v32, val_main_v31, val_main_v30, val_main_v29, val_main_v28, val_main_v27, val_main_v26, val_main_v25, val_main_cst_3, val_main_cst_4, val_main_cst_5]
  rfl
theorem r41 (n : Fin 8192) (z : Fin 1) (k : Fin 16) : val_main_v41 x1 (ix3 n z k) = Ideal.sin (FloatOps.sitofp (F := Ideal) FTy.f32 (x1 (ix1 n)) * Cert.Tail.invf k) := by
  pointwise [val_main_v41, val_main_v40, val_main_v37, val_main_v36, val_main_v35, val_main_v34, val_main_v33, val_main_v32, val_main_v31, val_main_v30, val_main_v29, val_main_v28, val_main_v27, val_main_v26, val_main_v25, val_main_cst_3, val_main_cst_4, val_main_cst_5]
  rfl
theorem r90 (n : Fin 8192) (z : Fin 1) (k : Fin 16) : val_main_v90 x1 (ix3 n z k) = Ideal.cos (FloatOps.sitofp (F := Ideal) FTy.f32 (x1 (ix1 n)) * Cert.Tail.invf k) := by
  pointwise [val_main_v90, val_main_v89, val_main_v88, val_main_v87, val_main_v86, val_main_v85, val_main_v84, val_main_v83, val_main_v82, val_main_v81, val_main_v80, val_main_v79, val_main_v78, val_main_v77, val_main_v76, val_main_cst_10, val_main_cst_11, val_main_cst_12]
  rfl
theorem r92 (n : Fin 8192) (z : Fin 1) (k : Fin 16) : val_main_v92 x1 (ix3 n z k) = Ideal.sin (FloatOps.sitofp (F := Ideal) FTy.f32 (x1 (ix1 n)) * Cert.Tail.invf k) := by
  pointwise [val_main_v92, val_main_v91, val_main_v88, val_main_v87, val_main_v86, val_main_v85, val_main_v84, val_main_v83, val_main_v82, val_main_v81, val_main_v80, val_main_v79, val_main_v78, val_main_v77, val_main_v76, val_main_cst_10, val_main_cst_11, val_main_cst_12]
  rfl
end Cert.ReferenceIdeal.Tail
-- ==== Proof.Norm.lean ====
module
public import proofs.«01_k».proof.Proof.Args
@[expose] public section
noncomputable section
namespace Cert.Tail
open Idealize.ShloMosaic

/-! The gradient of the normalisation, in its two forms, at finite entries. -/

/-- A finite value. -/
def Fnt (a : EReal) : Prop := ∃ r : ℝ, a = (r : EReal)
theorem Fnt.mul {a b : EReal} : Fnt a → Fnt b → Fnt (a * b) := fun ⟨r, hr⟩ ⟨s, hs⟩ => ⟨r * s, by rw [hr, hs, EReal.coe_mul]⟩
theorem Fnt.add {a b : EReal} : Fnt a → Fnt b → Fnt (a + b) := fun ⟨r, hr⟩ ⟨s, hs⟩ => ⟨r + s, by rw [hr, hs, EReal.coe_add]⟩
theorem Fnt.sub {a b : EReal} : Fnt a → Fnt b → Fnt (a - b) := fun ⟨r, hr⟩ ⟨s, hs⟩ => ⟨r - s, by rw [hr, hs, EReal.coe_sub]⟩
theorem Fnt.zero : Fnt 0 := ⟨0, rfl⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem Fnt.sum {ι : Type} [Fintype ι] {f : ι → EReal} (h : ∀ i, Fnt (f i)) : Fnt (∑ i, f i) := by
  choose g hg using h
  exact ⟨∑ i, g i, by rw [coe_sum]; exact Finset.sum_congr rfl fun i _ => hg i⟩

theorem eps_pos : ∃ r : ℝ, 0 < r ∧ epsC = (r : EReal) := by
  refine ⟨_, ?_, by simp [epsC, Ideal.ofBits, Ideal.ieee, -EReal.coe_mul]; rfl⟩
  norm_num
theorem scale_fnt : Fnt scaleC := ⟨_, by simp [scaleC, Ideal.ofBits, Ideal.ieee, -EReal.coe_mul]; rfl⟩
theorem n256_eq : n256 = ((256 : ℝ) : EReal) := by
  simp [n256, Ideal.ofBits, Ideal.ieee, -EReal.coe_mul]; norm_num
theorem n128_eq : n128 = ((128 : ℝ) : EReal) := by
  simp [n128, Ideal.ofBits, Ideal.ieee, -EReal.coe_mul]; norm_num
theorem half_eq : Ideal.ofBits FTy.f32 0xBF000000#32 = ((-(1 / 2) : ℝ) : EReal) := by
  simp [Ideal.ofBits, Ideal.ieee, -EReal.coe_mul]; norm_num

/-- The factor a reference has for the normalisation's second term, before it is applied twice. -/
def normW {n : ℕ} (N : EReal) (c g d : Fin n → EReal) : EReal :=
  Ideal.div ((∑ i, c i * (d i * g i)) * (Ideal.ofBits FTy.f32 0xBF000000#32 * Ideal.div (rstd N c) (Ideal.div (∑ j, c j * c j) N + epsC))) N

theorem norm_eq {n : ℕ} (N : ℝ) (hN : 0 < N) (c g d : Fin n → EReal) (hc : ∀ j, Fnt (c j)) (hg : ∀ j, Fnt (g j)) (hd : ∀ j, Fnt (d j)) (j : Fin n) :
    (d j * g j) * rstd N c + c j * normW N c g d + normW N c g d * c j = normBack N c g d j := by
  choose c' hc using hc
  choose g' hg using hg
  choose d' hd using hd
  obtain rfl : c = fun j => (c' j : EReal) := funext hc
  obtain rfl : g = fun j => (g' j : EReal) := funext hg
  obtain rfl : d = fun j => (d' j : EReal) := funext hd
  obtain ⟨ε, hε, e⟩ := eps_pos
  have hS : ∑ j, (c' j : EReal) * (c' j : EReal) = ((∑ j, c' j * c' j : ℝ) : EReal) := by
    rw [coe_sum]; exact Finset.sum_congr rfl fun i _ => (EReal.coe_mul _ _).symm
  have hx0 : 0 < (∑ j, c' j * c' j) * (1 / N) + ε := by
    have : 0 ≤ ∑ j, c' j * c' j := Finset.sum_nonneg fun i _ => mul_self_nonneg _
    positivity
  obtain ⟨x, hx, hxe⟩ : ∃ x : ℝ, 0 < x ∧ (∑ j, c' j * c' j) * (1 / N) + ε = x := ⟨_, hx0, rfl⟩
  have hX : Ideal.div (∑ j, (c' j : EReal) * (c' j : EReal)) (N : EReal) + epsC = (x : EReal) := by
    rw [hS, Ideal.div_coe hN.ne', e, ← EReal.coe_mul, ← EReal.coe_add, hxe]
  have hr : rstd (N : EReal) (fun j => (c' j : EReal)) = (((Real.sqrt x)⁻¹ : ℝ) : EReal) := by
    unfold rstd
    rw [hX, Ideal.rsqrt_coe, if_neg hx.not_gt, if_neg hx.ne']
  have hsx : 0 < Real.sqrt x := Real.sqrt_pos.mpr hx
  have hxx : Real.sqrt x * Real.sqrt x = x := Real.mul_self_sqrt hx.le
  generalize Real.sqrt x = s at *
  subst hxx
  have hT : ∑ i, (c' i : EReal) * ((d' i : EReal) * (g' i : EReal)) = ((∑ i, c' i * (d' i * g' i) : ℝ) : EReal) := by
    rw [coe_sum]; exact Finset.sum_congr rfl fun i _ => by rw [EReal.coe_mul, EReal.coe_mul]
  have hU : ∑ i, (d' i : EReal) * (g' i : EReal) * hat (N : EReal) (fun j => (c' j : EReal)) i = (((∑ i, c' i * (d' i * g' i)) * s⁻¹ : ℝ) : EReal) := by
    rw [Finset.sum_mul, coe_sum]
    refine Finset.sum_congr rfl fun i _ => ?_
    unfold hat; rw [hr, ← EReal.coe_mul, ← EReal.coe_mul, ← EReal.coe_mul]; congr 1; ring
  unfold normBack normW
  rw [hU, hT, hX, hr, half_eq, Ideal.div_coe hN.ne', Ideal.div_coe hN.ne', Ideal.div_coe hx.ne']
  unfold hat
  rw [hr]
  simp only [← EReal.coe_mul, ← EReal.coe_add, ← EReal.coe_sub]
  congr 1
  generalize ∑ i, c' i * (d' i * g' i) = T
  field_simp
  ring

/-! The data are finite where the arguments are. -/
theorem rot_fnt {C S : Fin 16 → EReal} {t : Fin 128 → EReal} (hC : ∀ k, Fnt (C k)) (hS : ∀ k, Fnt (S k)) (ht : ∀ l, Fnt (t l)) (l : Fin 128) : Fnt (rot C S t l) := by
  unfold rot
  split_ifs
  · exact ht _
  · exact ((ht _).mul (hC _)).add ((ht _).mul (hS _))
  · exact ((ht _).mul (hC _)).sub ((ht _).mul (hS _))
  · exact ht _
theorem invf_fnt (k : Fin 16) : Fnt (invf k) := by
  have a : Ideal.ofBits FTy.f32 1176256512#32 = ((10000 : ℝ) : EReal) := by
    simp [Ideal.ofBits, Ideal.ieee, -EReal.coe_mul]; norm_num
  have b : Ideal.ofBits FTy.f32 1098907648#32 = ((16 : ℝ) : EReal) := by
    simp [Ideal.ofBits, Ideal.ieee, -EReal.coe_mul]; norm_num
  obtain ⟨r, hr⟩ : Fnt (FloatOps.sitofp (F := Ideal) FTy.f32 (BitVec.ofNat 32 k.val)) := ⟨_, rfl⟩
  have hp : Real.rpow 10000 (r * (1 / 16)) ≠ 0 := (Real.rpow_pos_of_pos (by norm_num) _).ne'
  unfold invf
  rw [a, b, hr, Ideal.div_coe (by norm_num), ← EReal.coe_mul, Ideal.pow_coe_coe, Ideal.div_coe hp]
  exact ⟨_, one_mul _⟩

namespace Args
/-- Finite arguments. -/
structure Ok (A : Args) : Prop where
  x : ∀ n d, Fnt (A.x n d)
  pos : ∀ n, Fnt (A.pos n)
  win : ∀ d e, Fnt (A.win d e)
  qg : ∀ j, Fnt (A.qg j)
  wuq : ∀ j l, Fnt (A.wuq j l)
  kg : ∀ j, Fnt (A.kg j)
  wukv : ∀ j l, Fnt (A.wukv j l)
  ctq : ∀ n h l, Fnt (A.ctq n h l)
  ctk : ∀ n h l, Fnt (A.ctk n h l)
  ctv : ∀ n h l, Fnt (A.ctv n h l)
variable {A : Args} (H : A.Ok)
include H
theorem Ok.proj (n : Fin 8192) (e : Fin 2464) : Fnt (A.proj n e) := Fnt.sum fun d => (H.x n d).mul (H.win d e)
theorem Ok.C (n : Fin 8192) (k : Fin 16) : Fnt (A.data.C n k) := by
  obtain ⟨r, hr⟩ := (H.pos n).mul (invf_fnt k)
  show Fnt (Ideal.cos (A.pos n * invf k))
  rw [hr]; exact ⟨_, rfl⟩
theorem Ok.S (n : Fin 8192) (k : Fin 16) : Fnt (A.data.S n k) := by
  obtain ⟨r, hr⟩ := (H.pos n).mul (invf_fnt k)
  show Fnt (Ideal.sin (A.pos n * invf k))
  rw [hr]; exact ⟨_, rfl⟩
theorem Ok.tq (n : Fin 8192) (h : Fin 8) (l : Fin 128) : Fnt (A.data.tq n h l) := by
  have e : A.data.tq n h l = if hl : l.val < 96 then A.ctq n h ⟨l.val, hl⟩ else 0 := rfl
  rw [e]; split
  · exact H.ctq _ _ _
  · exact Fnt.zero
theorem Ok.tk (n : Fin 8192) (h : Fin 8) (l : Fin 128) : Fnt (A.data.tk n h l) := by
  have e : A.data.tk n h l = if hl : l.val < 96 then A.ctk n h ⟨l.val, hl⟩ else 0 := rfl
  rw [e]; split
  · exact H.ctk _ _ _
  · exact Fnt.zero
theorem Ok.tv (n : Fin 8192) (h : Fin 8) (l : Fin 128) : Fnt (A.data.tv n h l) := by
  have e : A.data.tv n h l = if hl : 64 ≤ l.val then A.ctv n h ⟨l.val - 64, by omega⟩ else 0 := rfl
  rw [e]; split
  · exact H.ctv _ _ _
  · exact Fnt.zero
theorem Ok.Wq (h : Fin 8) (j : Fin 256) (l : Fin 128) : Fnt (A.data.Wq h j l) := by
  have e : A.data.Wq h j l = if hl : l.val < 96 then A.wuq j ⟨h.val * 96 + l.val, by omega⟩ else 0 := rfl
  rw [e]; split
  · exact H.wuq _ _
  · exact Fnt.zero
theorem Ok.dcq (n : Fin 8192) (j : Fin 256) : Fnt (Cert.Tail.dcq (A.data.C n) (A.data.S n) (A.data.tq n) A.data.Wq j) :=
  Fnt.sum fun h => Fnt.sum fun l => (rot_fnt (H.C n) (H.S n) (fun l => (H.tq n h l).mul scale_fnt) l).mul (H.Wq h j l)
theorem Ok.dckv (n : Fin 8192) (j : Fin 128) : Fnt (Cert.Tail.dckv (A.data.tk n) (A.data.tv n) A.data.Wk j) := by
  refine Fnt.sum fun h => Fnt.sum fun l => Fnt.mul ?_ (H.wukv _ _)
  unfold dkv; split_ifs
  · exact H.tk _ _ _
  · exact H.tv _ _ _
end Args
end Cert.Tail
-- ==== Proof.Pre.lean ====
module
public import proofs.«01_k».proof.Defs
public import proofs.«01_k».proof.Proof.Ref1
public import proofs.«01_k».proof.Proof.Norm
public import proofs.«01_k».proof.Proof.Gen.Pre_finite
public import Idealize.ShloMosaic.Lib.ReduceAll
@[expose] public section
set_option maxRecDepth 16384
noncomputable section
namespace Cert.Pre_finite.Tail
open Cert.Pre_finite Idealize.ShloMosaic Idealize.ShloMosaic.TcCoe Idealize.SL.Sem
open Cert.Tail (Fnt)

/-! What the precondition says of the arguments: every entry of nine of them is a real number. -/

instance : Subsingleton S_.Idx := ⟨fun a b => funext fun i => i.elim0⟩

theorem fnt_of_lt (a : EReal) (h : FloatOps.cmpf (F := Ideal) (φ := FTy.f32) .olt (FloatOps.hostAbsf (F := Ideal) (φ := FTy.f32) a) (Ideal.ofBits .f32 0x7F800000#32) = 1#1) : Fnt a := by
  have e : Ideal.ofBits FTy.f32 0x7F800000#32 = (⊤ : EReal) := by simp [Ideal.ofBits, Ideal.ieee]
  rw [e] at h
  have k : max a (-a) < ⊤ := by
    by_contra hn
    have : Ideal.cmp .olt (max a (-a)) ⊤ = 1#1 := h
    simp [Ideal.cmp, hn] at this
  induction a using EReal.rec with
  | bot => simp at k
  | coe r => exact ⟨r, rfl⟩
  | top => simp at k

theorem fnt_of_all {s : Shape} {axes : List (Fin s.rank)} (x : FVec Ideal s .f32) (dims : Fin 0 → Fin s.rank) (hb : S_.BroadcastsInDim s dims) (hr : s.ReducesTo axes S_)
    (hu : 0 < S_.numel) (j : S_.Idx) (h : Host.reduce IntOp.andi (cmpf .olt (Host.absf x) (broadcastInDim s dims hb (constant S_ .f32 0x7F800000#32))) (constantI S_ 1 1#1) hr hu j = 1#1) (i : s.Idx) : Fnt (x i) :=
  fnt_of_lt _ (Host.reduce_andi_all _ _ hr hu j h i)

theorem andi_split (a b : IVec S_ 1) (j : S_.Idx) (h : andi a b j = 1#1) : a j = 1#1 ∧ b j = 1#1 := IntOp.andi_eq_one.1 h

theorem ok (x0 : FVec Ideal S8192x1024 .f32) (x1 : IVec S8192 32) (x2 : FVec Ideal S1024x2464 .f32) (x3 : FVec Ideal S256 .f32) (x4 : FVec Ideal S256x768 .f32)
    (x5 : FVec Ideal S128 .f32) (x6 : FVec Ideal S128x1024 .f32) (x7 x8 : FVec Ideal S8192x8x96 .f32) (x9 : FVec Ideal S8192x8x64 .f32) (x10 : FVec Ideal S8192x1024 .f32)
    (x11 : FVec Ideal S8192x2048 .f32) (h : fn (F := Ideal) x0 x1 x2 x3 x4 x5 x6 x7 x8 x9 x10 x11 = fun _ => 1#1) :
    (Cert.ReferenceIdeal.Tail.args x0 x1 x2 x3 x4 x5 x6 x7 x8 x9 x10 x11).Ok := by
  have j : S_.Idx := fun i => i.elim0
  have h := congrFun h j
  dsimp only [fn, fn_part1, fn_part2] at h
  obtain ⟨h, h9⟩ := andi_split _ _ _ h
  obtain ⟨h, h8⟩ := andi_split _ _ _ h
  obtain ⟨h, h7⟩ := andi_split _ _ _ h
  obtain ⟨h, h6⟩ := andi_split _ _ _ h
  obtain ⟨h, h5⟩ := andi_split _ _ _ h
  obtain ⟨h, h4⟩ := andi_split _ _ _ h
  obtain ⟨h, h3⟩ := andi_split _ _ _ h
  obtain ⟨h0, h2⟩ := andi_split _ _ _ h
  exact
    { x := fun n d => fnt_of_all x0 _ _ _ _ j h0 _
      pos := fun n => ⟨_, rfl⟩
      win := fun d e => fnt_of_all x2 _ _ _ _ j h2 _
      qg := fun k => fnt_of_all x3 _ _ _ _ j h3 _
      wuq := fun k l => fnt_of_all x4 _ _ _ _ j h4 _
      kg := fun k => fnt_of_all x5 _ _ _ _ j h5 _
      wukv := fun k l => fnt_of_all x6 _ _ _ _ j h6 _
      ctq := fun n g l => fnt_of_all x7 _ _ _ _ j h7 _
      ctk := fun n g l => fnt_of_all x8 _ _ _ _ j h8 _
      ctv := fun n g l => fnt_of_all x9 _ _ _ _ j h9 _ }
end Cert.Pre_finite.Tail
-- ==== Proof.Vectors.lean ====
module
public import proofs.«01_k».proof.Proof.Gen.KernelIdeal.Value
public import Idealize.ShloMosaic.PureOps.Ideal
public import Idealize.ShloMosaic.Lib.Pointwise
public import Idealize.ShloMosaic.Lib.WholeRead
@[expose] public section
set_option maxRecDepth 16384
noncomputable section
namespace Cert.KernelIdeal.Tail
open Cert.KernelIdeal Cert.KernelIdeal.Gen Idealize.ShloMosaic Idealize.ShloMosaic.TcCoe Idealize.SL.Sem

/-! Loads of the step's input blocks, as vectors. -/

section Loads
variable {F : FTy → Type} [FloatOps F]
variable {sig : RefSig} {κ : Kind} {sp : Space}

/-- One head of the cotangent of the queries. -/
def slQ (x : Vec F S8x128x512 .f32) (h : Fin 8) : Vec F S1x128x512 .f32 := fun i => x (ix3 h (i 1) (i 2))
/-- One head of the cotangent of the keys or of the values. -/
def slK (x : Vec F S8x512x128 .f32) (h : Fin 8) : Vec F S1x512x128 .f32 := fun i => x (ix3 h (i 1) (i 2))
/-- The query rows of one head's weight. -/
def slWq (x : Vec F S8x384x128 .bf16) (h : Fin 8) : Vec F S1x256x128 .bf16 :=
  fun i => x (ix3 h ⟨(i 1).val, (show (i 1).val < 256 from (i 1).isLt).trans (by decide)⟩ (i 2))
/-- The key and value rows of one head's weight. -/
def slWkv (x : Vec F S8x384x128 .bf16) (h : Fin 8) : Vec F S1x128x128 .bf16 :=
  fun i => x (ix3 h ⟨256 + (i 1).val, by have : (i 1).val < 128 := (i 1).isLt; omega⟩ (i 2))
/-- The query columns of the projection. -/
def slCq (x : Vec F S512x512 .f32) : Vec F S512x256 .f32 :=
  fun i => x (ix2 (i 0) ⟨(i 1).val, (show (i 1).val < 256 from (i 1).isLt).trans (by decide)⟩)
/-- The key and value columns of the projection. -/
def slCkv (x : Vec F S512x512 .f32) : Vec F S512x128 .f32 :=
  fun i => x (ix2 (i 0) ⟨256 + (i 1).val, by have : (i 1).val < 128 := (i 1).isLt; omega⟩)
/-- The columns of the weight that belong to the heads. -/
def slWh (x : Vec F S1024x2560 .bf16) : Vec F S1024x512 .bf16 :=
  fun i => x (ix2 (i 0) ⟨(i 1).val, (show (i 1).val < 512 from (i 1).isLt).trans (by decide)⟩)
/-- The other columns of the weight. -/
def slWr (x : Vec F S1024x2560 .bf16) : Vec F S1024x2048 .bf16 :=
  fun i => x (ix2 (i 0) ⟨512 + (i 1).val, by have : (i 1).val < 2048 := (i 1).isLt; omega⟩)

variable {m0 : Memref sig κ sp S8x128x512 .f32} {m1 : Memref sig κ sp S8x512x128 .f32} {m6 : Memref sig κ sp S8x384x128 .bf16}
  {m3 : Memref sig κ sp S512x512 .f32} {m12 : Memref sig κ sp S1024x2560 .bf16}

theorem rdQ (h : m0.IsWhole) (x : Vec F S8x128x512 .f32) (k : ℕ) (hk : k < 8) (inb) :
    View.readAt (Elt F) m0.view (Rect.unit (s := S8x128x512) ![k, 0, 0] S1x128x512.size inb).toLoadRect (h.unread x) = slQ x ⟨k, hk⟩ := by
  funext i
  refine (Memref.IsWhole.readAt_unread h x _ i).trans (congrArg x (funext fun a => Fin.ext ?_))
  match a with
  | ⟨0, _⟩ => show k + 1 * (i 0).val = k; have : (i 0).val < 1 := (i 0).isLt; omega
  | ⟨1, _⟩ => show 0 + 1 * (i 1).val = (i 1).val; omega
  | ⟨2, _⟩ => show 0 + 1 * (i 2).val = (i 2).val; omega

theorem rdK (h : m1.IsWhole) (x : Vec F S8x512x128 .f32) (k : ℕ) (hk : k < 8) (inb) :
    View.readAt (Elt F) m1.view (Rect.unit (s := S8x512x128) ![k, 0, 0] S1x512x128.size inb).toLoadRect (h.unread x) = slK x ⟨k, hk⟩ := by
  funext i
  refine (Memref.IsWhole.readAt_unread h x _ i).trans (congrArg x (funext fun a => Fin.ext ?_))
  match a with
  | ⟨0, _⟩ => show k + 1 * (i 0).val = k; have : (i 0).val < 1 := (i 0).isLt; omega
  | ⟨1, _⟩ => show 0 + 1 * (i 1).val = (i 1).val; omega
  | ⟨2, _⟩ => show 0 + 1 * (i 2).val = (i 2).val; omega

theorem rdWq (h : m6.IsWhole) (x : Vec F S8x384x128 .bf16) (k : ℕ) (hk : k < 8) (inb) :
    View.readAt (Elt F) m6.view (Rect.unit (s := S8x384x128) ![k, 0, 0] S1x256x128.size inb).toLoadRect (h.unread x) = slWq x ⟨k, hk⟩ := by
  funext i
  refine (Memref.IsWhole.readAt_unread h x _ i).trans (congrArg x (funext fun a => Fin.ext ?_))
  match a with
  | ⟨0, _⟩ => show k + 1 * (i 0).val = k; have : (i 0).val < 1 := (i 0).isLt; omega
  | ⟨1, _⟩ => show 0 + 1 * (i 1).val = (i 1).val; omega
  | ⟨2, _⟩ => show 0 + 1 * (i 2).val = (i 2).val; omega

theorem rdWkv (h : m6.IsWhole) (x : Vec F S8x384x128 .bf16) (k : ℕ) (hk : k < 8) (inb) :
    View.readAt (Elt F) m6.view (Rect.unit (s := S8x384x128) ![k, 256, 0] S1x128x128.size inb).toLoadRect (h.unread x) = slWkv x ⟨k, hk⟩ := by
  funext i
  refine (Memref.IsWhole.readAt_unread h x _ i).trans (congrArg x (funext fun a => Fin.ext ?_))
  match a with
  | ⟨0, _⟩ => show k + 1 * (i 0).val = k; have : (i 0).val < 1 := (i 0).isLt; omega
  | ⟨1, _⟩ => show 256 + 1 * (i 1).val = 256 + (i 1).val; omega
  | ⟨2, _⟩ => show 0 + 1 * (i 2).val = (i 2).val; omega

theorem rdCq (h : m3.IsWhole) (x : Vec F S512x512 .f32) (inb) :
    View.readAt (Elt F) m3.view (Rect.unit (s := S512x512) ![0, 0] S512x256.size inb).toLoadRect (h.unread x) = slCq x := by
  funext i
  refine (Memref.IsWhole.readAt_unread h x _ i).trans (congrArg x (funext fun a => Fin.ext ?_))
  match a with
  | ⟨0, _⟩ => show 0 + 1 * (i 0).val = (i 0).val; omega
  | ⟨1, _⟩ => show 0 + 1 * (i 1).val = (i 1).val; omega

theorem rdCkv (h : m3.IsWhole) (x : Vec F S512x512 .f32) (inb) :
    View.readAt (Elt F) m3.view (Rect.unit (s := S512x512) ![0, 256] S512x128.size inb).toLoadRect (h.unread x) = slCkv x := by
  funext i
  refine (Memref.IsWhole.readAt_unread h x _ i).trans (congrArg x (funext fun a => Fin.ext ?_))
  match a with
  | ⟨0, _⟩ => show 0 + 1 * (i 0).val = (i 0).val; omega
  | ⟨1, _⟩ => show 256 + 1 * (i 1).val = 256 + (i 1).val; omega

theorem rdWh (h : m12.IsWhole) (x : Vec F S1024x2560 .bf16) (inb) :
    View.readAt (Elt F) m12.view (Rect.unit (s := S1024x2560) ![0, 0] S1024x512.size inb).toLoadRect (h.unread x) = slWh x := by
  funext i
  refine (Memref.IsWhole.readAt_unread h x _ i).trans (congrArg x (funext fun a => Fin.ext ?_))
  match a with
  | ⟨0, _⟩ => show 0 + 1 * (i 0).val = (i 0).val; omega
  | ⟨1, _⟩ => show 0 + 1 * (i 1).val = (i 1).val; omega

theorem rdWr (h : m12.IsWhole) (x : Vec F S1024x2560 .bf16) (inb) :
    View.readAt (Elt F) m12.view (Rect.unit (s := S1024x2560) ![0, 512] S1024x2048.size inb).toLoadRect (h.unread x) = slWr x := by
  funext i
  refine (Memref.IsWhole.readAt_unread h x _ i).trans (congrArg x (funext fun a => Fin.ext ?_))
  match a with
  | ⟨0, _⟩ => show 0 + 1 * (i 0).val = (i 0).val; omega
  | ⟨1, _⟩ => show 512 + 1 * (i 1).val = 512 + (i 1).val; omega

/-- A load of all of a rank-two buffer. -/
theorem rdAll {a b : ℕ} {e : EltTy} {m : Memref sig κ sp ⟨2, ![a, b]⟩ e} (h : m.IsWhole)
    (x : (⟨2, ![a, b]⟩ : Shape).Idx → Elt F e) (inb) :
    View.readAt (Elt F) m.view (Rect.unit (s := ⟨2, ![a, b]⟩) ![0, 0] ![a, b] inb).toLoadRect (h.unread x) = x := by
  funext i
  refine (Memref.IsWhole.readAt_unread h x _ i).trans (congrArg x (funext fun d => Fin.ext ?_))
  match d with
  | ⟨0, _⟩ => show 0 + 1 * (i 0).val = (i 0).val; omega
  | ⟨1, _⟩ => show 0 + 1 * (i 1).val = (i 1).val; omega
end Loads

/-! The step's vectors, as functions of its input blocks. -/
section Vectors
variable {F : FTy → Type} [FloatOps F]

def cosV (p : Vec F S1x512 .i32) (w : Vec F S16x1 .f32) : FVec F S512x128 .f32 := k0_pay16 (k0_pay14 p w)
def s1V (p : Vec F S1x512 .i32) (w : Vec F S16x1 .f32) : FVec F S512x128 .f32 := k0_pay17 (k0_pay13 p w) k0_pay15
def s2V (p : Vec F S1x512 .i32) (w : Vec F S16x1 .f32) : FVec F S512x128 .f32 := k0_pay18 (k0_pay13 p w)
/-- The rotated, scaled cotangent of one head's queries. -/
def dqV (x : Vec F S8x128x512 .f32) (p : Vec F S1x512 .i32) (w : Vec F S16x1 .f32) (h : Fin 8) : FVec F S512x128 .bf16 :=
  k0_pay27 (cosV p w) (s1V p w) (s2V p w) (slQ x h)
/-- The cotangent of one head's keys and values. -/
def dkvV (y z : Vec F S8x512x128 .f32) (h : Fin 8) : FVec F S512x128 .bf16 :=
  k0_pay29 kernelRun0_B.sl.v41 (slK y h) (slK z h)
/-- All heads' query cotangents side by side. -/
def dqA (x : Vec F S8x128x512 .f32) (p : Vec F S1x512 .i32) (w : Vec F S16x1 .f32) : FVec F S512x1024 .bf16 :=
  concatenate S512x1024 1 [⟨S512x128, dqV x p w 0⟩, ⟨S512x128, dqV x p w 1⟩, ⟨S512x128, dqV x p w 2⟩, ⟨S512x128, dqV x p w 3⟩,
    ⟨S512x128, dqV x p w 4⟩, ⟨S512x128, dqV x p w 5⟩, ⟨S512x128, dqV x p w 6⟩, ⟨S512x128, dqV x p w 7⟩]
    concatenates_S512x128_S512x128_S512x128_S512x128_S512x128_S512x128_S512x128_S512x128_S512x1024_d1
/-- All heads' key and value cotangents side by side. -/
def dkvA (y z : Vec F S8x512x128 .f32) : FVec F S512x1024 .bf16 :=
  concatenate S512x1024 1 [⟨S512x128, dkvV y z 0⟩, ⟨S512x128, dkvV y z 1⟩, ⟨S512x128, dkvV y z 2⟩, ⟨S512x128, dkvV y z 3⟩,
    ⟨S512x128, dkvV y z 4⟩, ⟨S512x128, dkvV y z 5⟩, ⟨S512x128, dkvV y z 6⟩, ⟨S512x128, dkvV y z 7⟩]
    concatenates_S512x128_S512x128_S512x128_S512x128_S512x128_S512x128_S512x128_S512x128_S512x1024_d1

variable (c : Dev nD) {a1 : Memref sig .tc .vmem S8x128x512 .f32} {h1 : a1.IsWhole}
  {a2 : Memref sig .tc .vmem S8x512x128 .f32} {h2 : a2.IsWhole} {a3 : Memref sig .tc .vmem S8x512x128 .f32} {h3 : a3.IsWhole}
  {a5 : Memref sig .tc .vmem S1x512 .i32} {h5 : a5.IsWhole} {a6 : Memref sig .tc .vmem S16x1 .f32} {h6 : a6.IsWhole}
  (x0 : Vec F S8x128x512 .f32) (x1 x2 : Vec F S8x512x128 .f32) (x4 : Vec F S1x512 .i32) (x5 : Vec F S16x1 .f32)

theorem r_4_eq : kernelRun0_B.sl.r_4 c a5 h5 a6 h6 x4 x5 = cosV x4 x5 := by
  unfold kernelRun0_B.sl.r_4 kernelRun0_B.sl.r_3; rw [rdAll h5, rdAll h6]; rfl
theorem r_5_eq : kernelRun0_B.sl.r_5 c a5 h5 a6 h6 x4 x5 = s1V x4 x5 := by
  unfold kernelRun0_B.sl.r_5 kernelRun0_B.sl.r_2; rw [rdAll h5, rdAll h6]; rfl
theorem r_6_eq : kernelRun0_B.sl.r_6 c a5 h5 a6 h6 x4 x5 = s2V x4 x5 := by
  unfold kernelRun0_B.sl.r_6 kernelRun0_B.sl.r_2; rw [rdAll h5, rdAll h6]; rfl

theorem r_43_eq : kernelRun0_B.sl.r_43 c a1 h1 a5 h5 a6 h6 x0 x4 x5 = dqA x0 x4 x5 := by
  unfold kernelRun0_B.sl.r_43 kernelRun0_B.sl.r_13 kernelRun0_B.sl.r_19 kernelRun0_B.sl.r_22 kernelRun0_B.sl.r_25 kernelRun0_B.sl.r_31
    kernelRun0_B.sl.r_34 kernelRun0_B.sl.r_37 kernelRun0_B.sl.r_40 kernelRun0_B.sl.r_41 kernelRun0_B.sl.r_16 kernelRun0_B.sl.r_17
    kernelRun0_B.sl.r_18 kernelRun0_B.sl.r_28 kernelRun0_B.sl.r_29 kernelRun0_B.sl.r_30
  simp only [r_4_eq, r_5_eq, r_6_eq]
  rw [rdQ h1 x0 0 (by decide), rdQ h1 x0 1 (by decide), rdQ h1 x0 2 (by decide), rdQ h1 x0 3 (by decide), rdQ h1 x0 4 (by decide),
    rdQ h1 x0 5 (by decide), rdQ h1 x0 6 (by decide), rdQ h1 x0 7 (by decide)]
  rfl

theorem r_44_eq : kernelRun0_B.sl.r_44 c a2 h2 a3 h3 x1 x2 = dkvA x1 x2 := by
  unfold kernelRun0_B.sl.r_44 kernelRun0_B.sl.r_14 kernelRun0_B.sl.r_20 kernelRun0_B.sl.r_24 kernelRun0_B.sl.r_23 kernelRun0_B.sl.r_26
    kernelRun0_B.sl.r_32 kernelRun0_B.sl.r_36 kernelRun0_B.sl.r_35 kernelRun0_B.sl.r_38
  rw [rdK h2 x1 0 (by decide), rdK h2 x1 1 (by decide), rdK h2 x1 2 (by decide), rdK h2 x1 3 (by decide), rdK h2 x1 4 (by decide),
    rdK h2 x1 5 (by decide), rdK h2 x1 6 (by decide), rdK h2 x1 7 (by decide), rdK h3 x2 0 (by decide), rdK h3 x2 1 (by decide),
    rdK h3 x2 2 (by decide), rdK h3 x2 3 (by decide), rdK h3 x2 4 (by decide), rdK h3 x2 5 (by decide), rdK h3 x2 6 (by decide),
    rdK h3 x2 7 (by decide)]
  rfl
/-- The rows of the weight of the queries, all heads side by side. -/
def wqA (x : Vec F S8x384x128 .bf16) : FVec F S256x1024 .bf16 :=
  concatenate S256x1024 1 [⟨S256x128, k0_pay90 (slWq x 0)⟩, ⟨S256x128, k0_pay90 (slWq x 1)⟩, ⟨S256x128, k0_pay90 (slWq x 2)⟩,
    ⟨S256x128, k0_pay90 (slWq x 3)⟩, ⟨S256x128, k0_pay90 (slWq x 4)⟩, ⟨S256x128, k0_pay90 (slWq x 5)⟩,
    ⟨S256x128, k0_pay90 (slWq x 6)⟩, ⟨S256x128, k0_pay90 (slWq x 7)⟩]
    concatenates_S256x128_S256x128_S256x128_S256x128_S256x128_S256x128_S256x128_S256x128_S256x1024_d1
/-- The cotangent of the scaled normalised queries. -/
def dcqV (x0 : Vec F S8x128x512 .f32) (p : Vec F S1x512 .i32) (w : Vec F S16x1 .f32) (x6 : Vec F S8x384x128 .bf16) : FVec F S512x256 .f32 :=
  matmul dot_S512x1024_S256x1024_S512x256_1_1_0_0_n_n none (dqA x0 p w) (wqA x6) (constant S512x256 .f32 0x00000000#32)
/-- The cotangent of the scaled normalised keys and values. -/
def dckvV (x1 x2 : Vec F S8x512x128 .f32) (x6 : Vec F S8x384x128 .bf16) : FVec F S512x128 .f32 :=
  k0_pay99 (dkvA x1 x2) (slWkv x6 0) (slWkv x6 1) (slWkv x6 2) (slWkv x6 3) (slWkv x6 4) (slWkv x6 5) (slWkv x6 6) (slWkv x6 7)
/-- The sum over the heads of the cotangent of the keys. -/
def dkS (y : Vec F S8x512x128 .f32) : FVec F S512x128 .f32 :=
  k0_pay39 (k0_pay39 (k0_pay39 (k0_pay39 (k0_pay39 (k0_pay39 (k0_pay39 (k0_pay30 (slK y 0)) (slK y 1)) (slK y 2)) (slK y 3)) (slK y 4))
    (slK y 5)) (slK y 6)) (slK y 7)
/-- The cotangent of the shared rotated key. -/
def dkrV (y : Vec F S8x512x128 .f32) (p : Vec F S1x512 .i32) (w : Vec F S16x1 .f32) : FVec F S512x128 .f32 :=
  k0_pay104 (s2V p w) (k0_pay100 kernelRun0_B.sl.v41) (k0_pay101 (dkS y)) (k0_pay102 (cosV p w) (dkS y)) (k0_pay103 (s1V p w) (dkS y))
    kernelRun0_B.sl.cst_298
/-- The gradient of the queries' projection weights, all heads side by side. -/
def dwqV (x0 : Vec F S8x128x512 .f32) (x3 : Vec F S512x512 .f32) (p : Vec F S1x512 .i32) (w : Vec F S16x1 .f32) (x7 : Vec F S1x256 .f32) :
    FVec F S256x1024 .f32 :=
  matmul dot_S512x256_S512x1024_S256x1024_0_0_1_1_n_n none (k0_pay25 (slCq x3) x7) (dqA x0 p w) (constant S256x1024 .f32 0x00000000#32)
def dwkvV (x1 x2 : Vec F S8x512x128 .f32) (x3 : Vec F S512x512 .f32) (x8 : Vec F S1x128 .f32) : FVec F S128x1024 .f32 :=
  matmul dot_S512x128_S512x1024_S128x1024_0_0_1_1_n_n none (k0_pay26 (slCkv x3) x8) (dkvA x1 x2) (constant S128x1024 .f32 0x00000000#32)
/-- The cotangent of the heads' columns of the projection. -/
def dhV (x0 : Vec F S8x128x512 .f32) (x1 x2 : Vec F S8x512x128 .f32) (x3 : Vec F S512x512 .f32) (p : Vec F S1x512 .i32) (w : Vec F S16x1 .f32)
    (x6 : Vec F S8x384x128 .bf16) (x7 : Vec F S1x256 .f32) (x8 : Vec F S1x128 .f32) : FVec F S512x512 .bf16 :=
  k0_pay1 (k0_pay22 (slCkv x3)) (k0_pay24 (slCkv x3)) (dkrV x1 p w) (k0_pay107 (dckvV x1 x2 x6) x8)
    (k0_pay108 (k0_pay23 (slCq x3)) (dcqV x0 p w x6) x7) (k0_pay109 (k0_pay21 (slCq x3)))

variable {a4 : Memref sig .tc .vmem S512x512 .f32} {h4 : a4.IsWhole} {a7 : Memref sig .tc .vmem S8x384x128 .bf16} {h7 : a7.IsWhole}
  {a8 : Memref sig .tc .vmem S1x256 .f32} {h8 : a8.IsWhole} {a9 : Memref sig .tc .vmem S1x128 .f32} {h9 : a9.IsWhole}
  (x3 : Vec F S512x512 .f32) (x6 : Vec F S8x384x128 .bf16) (x7 : Vec F S1x256 .f32) (x8 : Vec F S1x128 .f32)

theorem r_7_eq : kernelRun0_B.sl.r_7 c a4 h4 x3 = k0_pay21 (slCq x3) := by unfold kernelRun0_B.sl.r_7; rw [rdCq h4]
theorem r_8_eq : kernelRun0_B.sl.r_8 c a4 h4 x3 = k0_pay22 (slCkv x3) := by unfold kernelRun0_B.sl.r_8; rw [rdCkv h4]
theorem r_9_eq : kernelRun0_B.sl.r_9 c a4 h4 x3 = k0_pay23 (slCq x3) := by unfold kernelRun0_B.sl.r_9; rw [rdCq h4]
theorem r_10_eq : kernelRun0_B.sl.r_10 c a4 h4 x3 = k0_pay24 (slCkv x3) := by unfold kernelRun0_B.sl.r_10; rw [rdCkv h4]
theorem r_11_eq : kernelRun0_B.sl.r_11 c a4 h4 a8 h8 x3 x7 = k0_pay25 (slCq x3) x7 := by
  unfold kernelRun0_B.sl.r_11; rw [rdCq h4, rdAll h8]
theorem r_12_eq : kernelRun0_B.sl.r_12 c a4 h4 a9 h9 x3 x8 = k0_pay26 (slCkv x3) x8 := by
  unfold kernelRun0_B.sl.r_12; rw [rdCkv h4, rdAll h9]

theorem r_45_eq : kernelRun0_B.sl.r_45 c a1 h1 a4 h4 a5 h5 a6 h6 a8 h8 x0 x3 x4 x5 x7 = dwqV x0 x3 x4 x5 x7 := by
  refine Eq.trans (b := matmul dot_S512x256_S512x1024_S256x1024_0_0_1_1_n_n none (kernelRun0_B.sl.r_11 c a4 h4 a8 h8 x3 x7)
    (kernelRun0_B.sl.r_43 c a1 h1 a5 h5 a6 h6 x0 x4 x5) (constant S256x1024 .f32 0x00000000#32)) rfl ?_
  rw [r_11_eq, r_43_eq]; rfl
theorem r_46_eq : kernelRun0_B.sl.r_46 c a2 h2 a3 h3 a4 h4 a9 h9 x1 x2 x3 x8 = dwkvV x1 x2 x3 x8 := by
  refine Eq.trans (b := matmul dot_S512x128_S512x1024_S128x1024_0_0_1_1_n_n none (kernelRun0_B.sl.r_12 c a4 h4 a9 h9 x3 x8)
    (kernelRun0_B.sl.r_44 c a2 h2 a3 h3 x1 x2) (constant S128x1024 .f32 0x00000000#32)) rfl ?_
  rw [r_12_eq, r_44_eq]; rfl
theorem r_57_eq : kernelRun0_B.sl.r_57 c a1 h1 a5 h5 a6 h6 a7 h7 x0 x4 x5 x6 = dcqV x0 x4 x5 x6 := by
  unfold kernelRun0_B.sl.r_57 kernelRun0_B.sl.r_49 kernelRun0_B.sl.r_50 kernelRun0_B.sl.r_51 kernelRun0_B.sl.r_52 kernelRun0_B.sl.r_53
    kernelRun0_B.sl.r_54 kernelRun0_B.sl.r_55 kernelRun0_B.sl.r_56
  rw [rdWq h7 x6 0 (by decide), rdWq h7 x6 1 (by decide), rdWq h7 x6 2 (by decide), rdWq h7 x6 3 (by decide), rdWq h7 x6 4 (by decide),
    rdWq h7 x6 5 (by decide), rdWq h7 x6 6 (by decide), rdWq h7 x6 7 (by decide), r_43_eq]
  rfl
theorem r_58_eq : kernelRun0_B.sl.r_58 c a2 h2 a3 h3 a7 h7 x1 x2 x6 = dckvV x1 x2 x6 := by
  unfold kernelRun0_B.sl.r_58
  rw [rdWkv h7 x6 0 (by decide), rdWkv h7 x6 1 (by decide), rdWkv h7 x6 2 (by decide), rdWkv h7 x6 3 (by decide), rdWkv h7 x6 4 (by decide),
    rdWkv h7 x6 5 (by decide), rdWkv h7 x6 6 (by decide), rdWkv h7 x6 7 (by decide), r_44_eq]
  rfl
theorem r_42_eq : kernelRun0_B.sl.r_42 c a2 h2 x1 = dkS x1 := by
  unfold kernelRun0_B.sl.r_42 kernelRun0_B.sl.r_39 kernelRun0_B.sl.r_33 kernelRun0_B.sl.r_35 kernelRun0_B.sl.r_27 kernelRun0_B.sl.r_23
    kernelRun0_B.sl.r_21 kernelRun0_B.sl.r_15
  rw [rdK h2 x1 0 (by decide), rdK h2 x1 1 (by decide), rdK h2 x1 2 (by decide), rdK h2 x1 3 (by decide), rdK h2 x1 4 (by decide),
    rdK h2 x1 5 (by decide), rdK h2 x1 6 (by decide), rdK h2 x1 7 (by decide)]
  rfl
theorem r_62_eq : kernelRun0_B.sl.r_62 c a2 h2 a5 h5 a6 h6 x1 x4 x5 = dkrV x1 x4 x5 := by
  unfold kernelRun0_B.sl.r_62 kernelRun0_B.sl.r_59 kernelRun0_B.sl.r_60 kernelRun0_B.sl.r_61
  rw [r_42_eq, r_4_eq, r_5_eq, r_6_eq]; rfl
theorem dh_eq : k0_pay1 (kernelRun0_B.sl.r_8 c a4 h4 x3) (kernelRun0_B.sl.r_10 c a4 h4 x3) (kernelRun0_B.sl.r_62 c a2 h2 a5 h5 a6 h6 x1 x4 x5)
    (kernelRun0_B.sl.r_63 c a2 h2 a3 h3 a7 h7 a9 h9 x1 x2 x6 x8) (kernelRun0_B.sl.r_64 c a1 h1 a4 h4 a5 h5 a6 h6 a7 h7 a8 h8 x0 x3 x4 x5 x6 x7)
    (kernelRun0_B.sl.r_65 c a4 h4 x3) = dhV x0 x1 x2 x3 x4 x5 x6 x7 x8 := by
  unfold kernelRun0_B.sl.r_63 kernelRun0_B.sl.r_64 kernelRun0_B.sl.r_65
  rw [r_8_eq, r_10_eq, r_62_eq, r_58_eq, r_57_eq, r_9_eq, r_7_eq, rdAll h8, rdAll h9]; rfl
end Vectors
end Cert.KernelIdeal.Tail
-- ==== Proof.Block.lean ====
module
public import proofs.«01_k».proof.Proof.Vectors
public import proofs.«01_k».proof.Proof.Spec
@[expose] public section
set_option maxRecDepth 16384
noncomputable section
namespace Cert.KernelIdeal.Tail
open Cert.KernelIdeal Cert.KernelIdeal.Gen Idealize.ShloMosaic Idealize.ShloMosaic.TcCoe Idealize.SL.Sem

/-! The step's vectors read at an index, over the extended reals. -/

abbrev SI (a b : ℕ) : Shape := ⟨2, ![a, b]⟩

variable (x0 : Vec Ideal S8x128x512 .f32) (x1 x2 : Vec Ideal S8x512x128 .f32) (x3 : Vec Ideal S512x512 .f32) (x4 : Vec Ideal S1x512 .i32)
  (x5 : Vec Ideal S16x1 .f32) (x6 : Vec Ideal S8x384x128 .bf16) (x7 : Vec Ideal S1x256 .f32) (x8 : Vec Ideal S1x128 .f32)

def cosR (r : Fin 512) (k : Fin 16) : EReal := Ideal.cos (FloatOps.sitofp (F := Ideal) FTy.f32 (x4 (ix2 0 r)) * x5 (ix2 k 0))
def sinR (r : Fin 512) (k : Fin 16) : EReal := Ideal.sin (FloatOps.sitofp (F := Ideal) FTy.f32 (x4 (ix2 0 r)) * x5 (ix2 k 0))
def tqR (r : Fin 512) (h : Fin 8) (l : Fin 128) : EReal := x0 (ix3 h l r)
def tkR (r : Fin 512) (h : Fin 8) (l : Fin 128) : EReal := x1 (ix3 h r l)
def cqR (r : Fin 512) (j : Fin 256) : EReal := x3 (ix2 r ⟨j.val, by omega⟩)
def ckR (r : Fin 512) (j : Fin 128) : EReal := x3 (ix2 r ⟨256 + j.val, by omega⟩)
def WqR (h : Fin 8) (j : Fin 256) (l : Fin 128) : EReal := x6 (ix3 h ⟨j.val, by omega⟩ l)
def WkR (h : Fin 8) (j : Fin 128) (l : Fin 128) : EReal := x6 (ix3 h ⟨256 + j.val, by omega⟩ l)

theorem cosV_apply (r : Fin 512) (l : Fin 128) : cosV x4 x5 (ix2 r l) =
    if h : l.val < 64 then 1 else if h : l.val - 64 < 16 then cosR x4 x5 r ⟨l.val - 64, h⟩
      else if h : l.val - 64 - 16 < 16 then cosR x4 x5 r ⟨l.val - 64 - 16, h⟩ else 1 := by
  pointwise [cosV, k0_pay16, k0_pay14, k0_pay12]
  rfl
theorem s1V_apply (r : Fin 512) (l : Fin 128) : s1V x4 x5 (ix2 r l) =
    if h : l.val < 64 then 0 else if h : l.val - 64 < 16 then sinR x4 x5 r ⟨l.val - 64, h⟩ else 0 := by
  pointwise [s1V, k0_pay17, k0_pay13, k0_pay12, k0_pay15]
  rfl
theorem s2V_apply (r : Fin 512) (l : Fin 128) : s2V x4 x5 (ix2 r l) =
    if h : l.val < 80 then 0 else if h : l.val - 80 < 16 then sinR x4 x5 r ⟨l.val - 80, h⟩ else 0 := by
  pointwise [s2V, k0_pay18, k0_pay13, k0_pay12]
  rfl

theorem rot_form (C S : Fin 16 → EReal) (t : Fin 128 → EReal) (l : Fin 128) :
    t l * (if h : l.val < 64 then 1 else if h : l.val - 64 < 16 then C ⟨l.val - 64, h⟩
        else if h : l.val - 64 - 16 < 16 then C ⟨l.val - 64 - 16, h⟩ else 1)
      - -1 * (t ⟨(l.val + 128 - 112) % 128, Nat.mod_lt _ (by decide)⟩
          * (if h : l.val < 64 then 0 else if h : l.val - 64 < 16 then S ⟨l.val - 64, h⟩ else 0))
      + -1 * (t ⟨(l.val + 128 - 16) % 128, Nat.mod_lt _ (by decide)⟩
          * (if h : l.val < 80 then 0 else if h : l.val - 80 < 16 then S ⟨l.val - 80, h⟩ else 0))
      = Cert.Tail.rot C S t l := by
  rw [Cert.Tail.sub_neg_one_mul, Cert.Tail.add_neg_one_mul]
  unfold Cert.Tail.rot
  by_cases h1 : l.val < 64
  · have h2 : l.val < 80 := by omega
    simp only [dif_pos h1, dif_pos h2, mul_one, mul_zero, add_zero, sub_zero]
  · by_cases h3 : l.val - 64 < 16
    · have h2 : l.val < 80 := by omega
      simp only [dif_neg h1, dif_pos h2, dif_pos h3, mul_zero, sub_zero]
      congr 3
      exact Fin.ext (by show (l.val + 128 - 112) % 128 = l.val + 16; omega)
    · have h2 : ¬ l.val < 80 := by omega
      by_cases h4 : l.val - 64 - 16 < 16
      · have h5 : l.val - 80 < 16 := by omega
        simp only [dif_neg h1, dif_neg h2, dif_neg h3, dif_pos h4, dif_pos h5, mul_zero, add_zero]
        congr 3
        exact Fin.ext (by show (l.val + 128 - 16) % 128 = l.val - 16; omega)
      · have h5 : ¬ l.val - 80 < 16 := by omega
        simp only [dif_neg h1, dif_neg h2, dif_neg h3, dif_neg h4, dif_neg h5, mul_zero, add_zero, mul_one, sub_zero]

theorem dqV_apply (h : Fin 8) (r : Fin 512) (l : Fin 128) :
    dqV x0 x4 x5 h (ix2 r l) = Cert.Tail.dq (cosR x4 x5 r) (sinR x4 x5 r) (tqR x0 r) h l := by
  unfold Cert.Tail.dq
  rw [← rot_form]
  pointwise [dqV, k0_pay27]
  rw [cosV_apply, s1V_apply, s2V_apply, Cert.Tail.ofBits_neg_one]
  rfl

theorem slt64 : ∀ l : Fin 128, IntOp.cmpi CmpIPredicate.slt (BitVec.ofNat 32 l.val) 64#32 = if l.val < 64 then 1#1 else 0#1 := by decide
theorem rot_lanes : ∀ l : Fin 128, IntOp.andi (IntOp.cmpi CmpIPredicate.sge (BitVec.ofNat 32 l.val) 64#32)
    (IntOp.cmpi CmpIPredicate.slt (BitVec.ofNat 32 l.val) 96#32) = if 64 ≤ l.val ∧ l.val < 96 then 1#1 else 0#1 := by decide

theorem dkvV_apply (h : Fin 8) (r : Fin 512) (l : Fin 128) :
    dkvV x1 x2 h (ix2 r l) = Cert.Tail.dkv (tkR x1 r) (tkR x2 r) h l := by
  unfold Cert.Tail.dkv
  pointwise [dkvV, k0_pay29, k0_pay28, kernelRun0_B.sl.v41]
  by_cases h1 : l.val < 64
  · rw [if_pos h1, show IntOp.cmpi CmpIPredicate.slt (BitVec.ofNat 32 l.val) 64#32 = 1#1 by rw [slt64, if_pos h1]]; rfl
  · rw [if_neg h1, show IntOp.cmpi CmpIPredicate.slt (BitVec.ofNat 32 l.val) 64#32 = 0#1 by rw [slt64, if_neg h1]]; rfl

theorem dkS_apply (r : Fin 512) (l : Fin 128) : dkS x1 (ix2 r l) = ∑ h, tkR x1 r h l := by
  pointwise [dkS, k0_pay39, k0_pay30, k0_pay28, k0_pay37]
  rw [Fin.sum_univ_eight]
  rfl

theorem dkrV_apply (r : Fin 512) (l : Fin 128) :
    dkrV x1 x4 x5 (ix2 r l) = Cert.Tail.dkr (cosR x4 x5 r) (sinR x4 x5 r) (tkR x1 r) l := by
  unfold Cert.Tail.dkr
  rw [← rot_form]
  pointwise [dkrV, k0_pay104, k0_pay103, k0_pay102, k0_pay101, k0_pay100, kernelRun0_B.sl.v41, kernelRun0_B.sl.cst_298]
  rw [cosV_apply, s1V_apply, s2V_apply, Cert.Tail.ofBits_neg_one]
  simp only [dkS_apply]
  by_cases h1 : 64 ≤ l.val ∧ l.val < 96
  · rw [if_pos h1, rot_lanes, if_pos h1]; rfl
  · rw [if_neg h1, rot_lanes, if_neg h1]; rfl

/-- A choice among eight by the block of an index. -/
theorem pick8 (f : Fin 8 → Fin 128 → EReal) (h : Fin 8) (l : Fin 128) (i : ℕ) (hi : i = h.val * 128 + l.val)
    (h7 : i - 128 - 128 - 128 - 128 - 128 - 128 - 128 < 128) :
    (if h : i < 128 then f 0 ⟨i, h⟩ else if h : i - 128 < 128 then f 1 ⟨i - 128, h⟩ else
      if h : i - 128 - 128 < 128 then f 2 ⟨i - 128 - 128, h⟩ else if h : i - 128 - 128 - 128 < 128 then f 3 ⟨i - 128 - 128 - 128, h⟩ else
      if h : i - 128 - 128 - 128 - 128 < 128 then f 4 ⟨i - 128 - 128 - 128 - 128, h⟩ else
      if h : i - 128 - 128 - 128 - 128 - 128 < 128 then f 5 ⟨i - 128 - 128 - 128 - 128 - 128, h⟩ else
      if h : i - 128 - 128 - 128 - 128 - 128 - 128 < 128 then f 6 ⟨i - 128 - 128 - 128 - 128 - 128 - 128, h⟩ else
      f 7 ⟨i - 128 - 128 - 128 - 128 - 128 - 128 - 128, h7⟩) = f h l := by
  subst hi
  have key : ∀ (k : Fin 8) (c : ℕ) (hc : c < 128), k = h → c = l.val → f k ⟨c, hc⟩ = f h l := by
    rintro k c hc rfl e; exact congrArg (f k) (Fin.ext e)
  have hh : h.val = 0 ∨ h.val = 1 ∨ h.val = 2 ∨ h.val = 3 ∨ h.val = 4 ∨ h.val = 5 ∨ h.val = 6 ∨ h.val = 7 := by omega
  split_ifs <;> refine key _ _ _ (Fin.ext ?_) ?_ <;> first | omega | (show _ = h.val; rcases hh with e | e | e | e | e | e | e | e <;> simp only [e] at * <;> omega)

/-- Eight arrays side by side, read at lane `l` of the `h`-th. -/
theorem concat8_512 (A : Fin 8 → FVec Ideal S512x128 .bf16) (h : Fin 8) (r : Fin 512) (l : Fin 128) :
    concatenate S512x1024 1 [⟨S512x128, A 0⟩, ⟨S512x128, A 1⟩, ⟨S512x128, A 2⟩, ⟨S512x128, A 3⟩, ⟨S512x128, A 4⟩, ⟨S512x128, A 5⟩,
      ⟨S512x128, A 6⟩, ⟨S512x128, A 7⟩] concatenates_S512x128_S512x128_S512x128_S512x128_S512x128_S512x128_S512x128_S512x128_S512x1024_d1
      (ix2 r (⟨h.val * 128 + l.val, by omega⟩ : Fin 1024)) = A h (ix2 r l) := by
  have hi : h.val * 128 + l.val < 1024 := by omega
  generalize hq : (⟨h.val * 128 + l.val, by omega⟩ : Fin 1024) = i
  have hi' : i.val = h.val * 128 + l.val := by rw [← hq]
  pointwise
  exact pick8 (fun k q => A k (ix2 r q)) h l i.val hi' (by omega)

/-- Eight arrays side by side, read at lane `l` of the `h`-th. -/
theorem concat8_256 (A : Fin 8 → FVec Ideal S256x128 .bf16) (h : Fin 8) (r : Fin 256) (l : Fin 128) :
    concatenate S256x1024 1 [⟨S256x128, A 0⟩, ⟨S256x128, A 1⟩, ⟨S256x128, A 2⟩, ⟨S256x128, A 3⟩, ⟨S256x128, A 4⟩, ⟨S256x128, A 5⟩,
      ⟨S256x128, A 6⟩, ⟨S256x128, A 7⟩] concatenates_S256x128_S256x128_S256x128_S256x128_S256x128_S256x128_S256x128_S256x128_S256x1024_d1
      (ix2 r (⟨h.val * 128 + l.val, by omega⟩ : Fin 1024)) = A h (ix2 r l) := by
  have hi : h.val * 128 + l.val < 1024 := by omega
  generalize hq : (⟨h.val * 128 + l.val, by omega⟩ : Fin 1024) = i
  have hi' : i.val = h.val * 128 + l.val := by rw [← hq]
  pointwise
  exact pick8 (fun k q => A k (ix2 r q)) h l i.val hi' (by omega)

/-- Eight arrays side by side, read at lane `l` of the `h`-th. -/
theorem concat8_128 (A : Fin 8 → FVec Ideal S128x128 .bf16) (h : Fin 8) (r : Fin 128) (l : Fin 128) :
    concatenate S128x1024 1 [⟨S128x128, A 0⟩, ⟨S128x128, A 1⟩, ⟨S128x128, A 2⟩, ⟨S128x128, A 3⟩, ⟨S128x128, A 4⟩, ⟨S128x128, A 5⟩,
      ⟨S128x128, A 6⟩, ⟨S128x128, A 7⟩] concatenates_S128x128_S128x128_S128x128_S128x128_S128x128_S128x128_S128x128_S128x128_S128x1024_d1
      (ix2 r (⟨h.val * 128 + l.val, by omega⟩ : Fin 1024)) = A h (ix2 r l) := by
  have hi : h.val * 128 + l.val < 1024 := by omega
  generalize hq : (⟨h.val * 128 + l.val, by omega⟩ : Fin 1024) = i
  have hi' : i.val = h.val * 128 + l.val := by rw [← hq]
  pointwise
  exact pick8 (fun k q => A k (ix2 r q)) h l i.val hi' (by omega)

end Cert.KernelIdeal.Tail
-- ==== Proof.Block2.lean ====
module
public import proofs.«01_k».proof.Proof.Block
@[expose] public section
set_option maxRecDepth 16384
noncomputable section
namespace Cert.KernelIdeal.Tail
open Cert.KernelIdeal Cert.KernelIdeal.Gen Idealize.ShloMosaic Idealize.ShloMosaic.TcCoe Idealize.SL.Sem

/-! The step's products and its normalisation gradients, read at an index over the extended reals. -/

variable (x0 : Vec Ideal S8x128x512 .f32) (x1 x2 : Vec Ideal S8x512x128 .f32) (x3 : Vec Ideal S512x512 .f32) (x4 : Vec Ideal S1x512 .i32)
  (x5 : Vec Ideal S16x1 .f32) (x6 : Vec Ideal S8x384x128 .bf16) (x7 : Vec Ideal S1x256 .f32) (x8 : Vec Ideal S1x128 .f32)

def col (h : Fin 8) (l : Fin 128) : Fin 1024 := ⟨h.val * 128 + l.val, by omega⟩

theorem sum_col (f : Fin 1024 → EReal) : ∑ k, f k = ∑ h, ∑ l, f (col h l) :=
  Fin.sum_univ_tiles 8 128 (by decide) f

theorem dqA_apply (h : Fin 8) (r : Fin 512) (l : Fin 128) :
    dqA x0 x4 x5 (ix2 r (col h l)) = Cert.Tail.dq (cosR x4 x5 r) (sinR x4 x5 r) (tqR x0 r) h l :=
  (concat8_512 (fun h => dqV x0 x4 x5 h) h r l).trans (dqV_apply x0 x4 x5 h r l)
theorem dkvA_apply (h : Fin 8) (r : Fin 512) (l : Fin 128) :
    dkvA x1 x2 (ix2 r (col h l)) = Cert.Tail.dkv (tkR x1 r) (tkR x2 r) h l :=
  (concat8_512 (fun h => dkvV x1 x2 h) h r l).trans (dkvV_apply x1 x2 h r l)
theorem pay90_apply (h : Fin 8) (j : Fin 256) (l : Fin 128) : k0_pay90 (slWq x6 h) (ix2 j l) = WqR x6 h j l := by
  pointwise [k0_pay90]
  rfl
theorem wqA_apply (h : Fin 8) (j : Fin 256) (l : Fin 128) : wqA x6 (ix2 j (col h l)) = WqR x6 h j l :=
  (concat8_256 (fun h => k0_pay90 (slWq x6 h)) h j l).trans (pay90_apply x6 h j l)
def wkC (h : Fin 8) : FVec Ideal S128x128 .bf16 := shapeCast S128x128 (slWkv x6 h) shapeCasts_S1x128x128_S128x128
theorem wkC_apply (h : Fin 8) (j l : Fin 128) : wkC x6 h (ix2 j l) = WkR x6 h j l := by
  pointwise [wkC]
  rfl
def wkA : FVec Ideal S128x1024 .bf16 :=
  concatenate S128x1024 1 [⟨S128x128, wkC x6 0⟩, ⟨S128x128, wkC x6 1⟩, ⟨S128x128, wkC x6 2⟩, ⟨S128x128, wkC x6 3⟩, ⟨S128x128, wkC x6 4⟩,
    ⟨S128x128, wkC x6 5⟩, ⟨S128x128, wkC x6 6⟩, ⟨S128x128, wkC x6 7⟩]
    concatenates_S128x128_S128x128_S128x128_S128x128_S128x128_S128x128_S128x128_S128x128_S128x1024_d1
theorem wkA_apply (h : Fin 8) (j l : Fin 128) : wkA x6 (ix2 j (col h l)) = WkR x6 h j l :=
  (concat8_128 (fun h => wkC x6 h) h j l).trans (wkC_apply x6 h j l)

theorem dcqV_apply (r : Fin 512) (j : Fin 256) :
    dcqV x0 x4 x5 x6 (ix2 r j) = Cert.Tail.dcq (cosR x4 x5 r) (sinR x4 x5 r) (tqR x0 r) (WqR x6) j := by
  pointwise [dcqV]
  rw [sum_col]
  exact Finset.sum_congr rfl fun h _ => Finset.sum_congr rfl fun l _ => by rw [dqA_apply, wqA_apply]

theorem dckvV_apply (r : Fin 512) (j : Fin 128) :
    dckvV x1 x2 x6 (ix2 r j) = Cert.Tail.dckv (tkR x1 r) (tkR x2 r) (WkR x6) j := by
  have e : dckvV x1 x2 x6 = matmul dot_S512x1024_S128x1024_S512x128_1_1_0_0_n_n none (dkvA x1 x2) (wkA x6) (constant S512x128 .f32 0x00000000#32) := rfl
  rw [e]
  pointwise
  rw [sum_col]
  exact Finset.sum_congr rfl fun h _ => Finset.sum_congr rfl fun l _ => by rw [dkvA_apply, wkA_apply]

theorem pay21_apply (r : Fin 512) : k0_pay21 (slCq x3) (ix2 r 0) = Cert.Tail.rstd Cert.Tail.n256 (cqR x3 r) := by
  pointwise [k0_pay21, k0_pay19]
  rfl
theorem pay22_apply (r : Fin 512) : k0_pay22 (slCkv x3) (ix2 r 0) = Cert.Tail.rstd Cert.Tail.n128 (ckR x3 r) := by
  pointwise [k0_pay22, k0_pay20]
  rfl
theorem pay23_apply (r : Fin 512) (j : Fin 256) : k0_pay23 (slCq x3) (ix2 r j) = Cert.Tail.hat Cert.Tail.n256 (cqR x3 r) j := by
  pointwise [k0_pay23, k0_pay21, k0_pay19]
  rfl
theorem pay24_apply (r : Fin 512) (j : Fin 128) : k0_pay24 (slCkv x3) (ix2 r j) = Cert.Tail.hat Cert.Tail.n128 (ckR x3 r) j := by
  pointwise [k0_pay24, k0_pay22, k0_pay20]
  rfl
def gqR (j : Fin 256) : EReal := x7 (ix2 0 j)
def gkR (j : Fin 128) : EReal := x8 (ix2 0 j)

theorem dwqV_apply (h : Fin 8) (j : Fin 256) (l : Fin 128) : dwqV x0 x3 x4 x5 x7 (ix2 j (col h l)) =
    ∑ r, Cert.Tail.hat Cert.Tail.n256 (cqR x3 r) j * gqR x7 j * Cert.Tail.dq (cosR x4 x5 r) (sinR x4 x5 r) (tqR x0 r) h l := by
  pointwise [dwqV, k0_pay25]
  exact Finset.sum_congr rfl fun r _ => by rw [dqA_apply, pay23_apply]; rfl
theorem dwkvV_apply (h : Fin 8) (j : Fin 128) (l : Fin 128) : dwkvV x1 x2 x3 x8 (ix2 j (col h l)) =
    ∑ r, Cert.Tail.hat Cert.Tail.n128 (ckR x3 r) j * gkR x8 j * Cert.Tail.dkv (tkR x1 r) (tkR x2 r) h l := by
  pointwise [dwkvV, k0_pay26]
  exact Finset.sum_congr rfl fun r _ => by rw [dkvA_apply, pay24_apply]; rfl

theorem dhV_apply (r : Fin 512) (e : Fin 512) : dhV x0 x1 x2 x3 x4 x5 x6 x7 x8 (ix2 r e) =
    Cert.Tail.dh (cosR x4 x5 r) (sinR x4 x5 r) (tqR x0 r) (tkR x1 r) (tkR x2 r) (WqR x6) (WkR x6) (cqR x3 r) (gqR x7) (ckR x3 r) (gkR x8) e := by
  unfold Cert.Tail.dh Cert.Tail.normBack
  pointwise [dhV, k0_pay1, k0_pay107, k0_pay108, k0_pay109]
  simp only [pay21_apply, pay22_apply, pay23_apply, pay24_apply, dcqV_apply, dckvV_apply, dkrV_apply]
  rfl

end Cert.KernelIdeal.Tail
-- ==== Proof.Step.lean ====
module
public import proofs.«01_k».proof.Proof.Block2
public import Idealize.ShloMosaic.Lib.Pipeline.ReadBack
@[expose] public section
set_option maxRecDepth 16384
noncomputable section
namespace Cert.KernelIdeal.Tail
open Cert.KernelIdeal Cert.KernelIdeal.Gen Idealize.ShloMosaic Idealize.ShloMosaic.TcCoe Idealize.SL.Sem

/-! The stores of one grid point into the weight gradients, as lists of pieces over the old contents. -/

section Old
variable {F : FTy → Type} [FloatOps F]
variable {sig : RefSig} {κ : Kind} {sp : Space}

/-- The query rows of one head of the accumulated gradient. -/
def slOQ (x : Vec F S8x384x128 .f32) (h : Fin 8) : Vec F S1x256x128 .f32 :=
  fun i => x (ix3 h ⟨(i 1).val, (show (i 1).val < 256 from (i 1).isLt).trans (by decide)⟩ (i 2))
/-- The key and value rows of one head of the accumulated gradient. -/
def slOK (x : Vec F S8x384x128 .f32) (h : Fin 8) : Vec F S1x128x128 .f32 :=
  fun i => x (ix3 h ⟨256 + (i 1).val, by have : (i 1).val < 128 := (i 1).isLt; omega⟩ (i 2))
/-- The heads' columns of the accumulated gradient of the projection. -/
def slOh (x : Vec F S1024x2560 .f32) : Vec F S1024x512 .f32 :=
  fun i => x (ix2 (i 0) ⟨(i 1).val, (show (i 1).val < 512 from (i 1).isLt).trans (by decide)⟩)
/-- Its other columns. -/
def slOr (x : Vec F S1024x2560 .f32) : Vec F S1024x2048 .f32 :=
  fun i => x (ix2 (i 0) ⟨512 + (i 1).val, by have : (i 1).val < 2048 := (i 1).isLt; omega⟩)

variable {m : Memref sig κ sp S8x384x128 .f32} {n : Memref sig κ sp S1024x2560 .f32}

theorem rdOQ (h : m.IsWhole) (x : Vec F S8x384x128 .f32) (k : ℕ) (hk : k < 8) (inb) :
    View.readAt (Elt F) m.view (Rect.unit (s := S8x384x128) ![k, 0, 0] S1x256x128.size inb).toLoadRect (h.unread x) = slOQ x ⟨k, hk⟩ := by
  funext i
  refine (Memref.IsWhole.readAt_unread h x _ i).trans (congrArg x (funext fun a => Fin.ext ?_))
  match a with
  | ⟨0, _⟩ => show k + 1 * (i 0).val = k; have : (i 0).val < 1 := (i 0).isLt; omega
  | ⟨1, _⟩ => show 0 + 1 * (i 1).val = (i 1).val; omega
  | ⟨2, _⟩ => show 0 + 1 * (i 2).val = (i 2).val; omega
theorem rdOK (h : m.IsWhole) (x : Vec F S8x384x128 .f32) (k : ℕ) (hk : k < 8) (inb) :
    View.readAt (Elt F) m.view (Rect.unit (s := S8x384x128) ![k, 256, 0] S1x128x128.size inb).toLoadRect (h.unread x) = slOK x ⟨k, hk⟩ := by
  funext i
  refine (Memref.IsWhole.readAt_unread h x _ i).trans (congrArg x (funext fun a => Fin.ext ?_))
  match a with
  | ⟨0, _⟩ => show k + 1 * (i 0).val = k; have : (i 0).val < 1 := (i 0).isLt; omega
  | ⟨1, _⟩ => show 256 + 1 * (i 1).val = 256 + (i 1).val; omega
  | ⟨2, _⟩ => show 0 + 1 * (i 2).val = (i 2).val; omega
theorem rdOh (h : n.IsWhole) (x : Vec F S1024x2560 .f32) (inb) :
    View.readAt (Elt F) n.view (Rect.unit (s := S1024x2560) ![0, 0] S1024x512.size inb).toLoadRect (h.unread x) = slOh x := by
  funext i
  refine (Memref.IsWhole.readAt_unread h x _ i).trans (congrArg x (funext fun a => Fin.ext ?_))
  match a with
  | ⟨0, _⟩ => show 0 + 1 * (i 0).val = (i 0).val; omega
  | ⟨1, _⟩ => show 0 + 1 * (i 1).val = (i 1).val; omega
theorem rdOr (h : n.IsWhole) (x : Vec F S1024x2560 .f32) (inb) :
    View.readAt (Elt F) n.view (Rect.unit (s := S1024x2560) ![0, 512] S1024x2048.size inb).toLoadRect (h.unread x) = slOr x := by
  funext i
  refine (Memref.IsWhole.readAt_unread h x _ i).trans (congrArg x (funext fun a => Fin.ext ?_))
  match a with
  | ⟨0, _⟩ => show 0 + 1 * (i 0).val = (i 0).val; omega
  | ⟨1, _⟩ => show 512 + 1 * (i 1).val = 512 + (i 1).val; omega

/-- The first head's query rows after the point. -/
def payQ0 (D : FVec F S256x1024 .f32) (v : Vec F S1x256x128 .f32) : FVec F S1x256x128 .f32 :=
  shapeCast S1x256x128 (addf (shapeCast S256x128 v shapeCasts_S1x256x128_S256x128)
    (extractStridedSlice S256x128 ![0, 0] D slices_S256x1024_o0_0_S256x128)) shapeCasts_S256x128_S1x256x128
/-- The first head's key and value rows after the point. -/
def payK0 (D : FVec F S128x1024 .f32) (v : Vec F S1x128x128 .f32) : FVec F S1x128x128 .f32 :=
  k0_pay74 (addf (shapeCast S128x128 v shapeCasts_S1x128x128_S128x128)
    (extractStridedSlice S128x128 ![0, 0] D slices_S128x1024_o0_0_S128x128))

/-- The sixteen stores into the gradient of the heads' weights. -/
def pieces15 (D : FVec F S256x1024 .f32) (K : FVec F S128x1024 .f32) (o : Vec F S8x384x128 .f32) : List (View.Piece (Elt F) S8x384x128 .f32) :=
  [⟨Rect.unit ![7, 256, 0] S1x128x128.size inb_S8x384x128_S1x128x128_7_256_0, k0_pay89 K (slOK o 7)⟩,
   ⟨Rect.unit ![7, 0, 0] S1x256x128.size inb_S8x384x128_S1x256x128_7_0_0, k0_pay88 (k0_pay87 D (slOQ o 7))⟩,
   ⟨Rect.unit ![6, 256, 0] S1x128x128.size inb_S8x384x128_S1x128x128_6_256_0, k0_pay86 K (slOK o 6)⟩,
   ⟨Rect.unit ![6, 0, 0] S1x256x128.size inb_S8x384x128_S1x256x128_6_0_0, k0_pay85 D (slOQ o 6)⟩,
   ⟨Rect.unit ![5, 256, 0] S1x128x128.size inb_S8x384x128_S1x128x128_5_256_0, k0_pay84 K (slOK o 5)⟩,
   ⟨Rect.unit ![5, 0, 0] S1x256x128.size inb_S8x384x128_S1x256x128_5_0_0, k0_pay83 D (slOQ o 5)⟩,
   ⟨Rect.unit ![4, 256, 0] S1x128x128.size inb_S8x384x128_S1x128x128_4_256_0, k0_pay82 K (slOK o 4)⟩,
   ⟨Rect.unit ![4, 0, 0] S1x256x128.size inb_S8x384x128_S1x256x128_4_0_0, k0_pay81 D (slOQ o 4)⟩,
   ⟨Rect.unit ![3, 256, 0] S1x128x128.size inb_S8x384x128_S1x128x128_3_256_0, k0_pay80 K (slOK o 3)⟩,
   ⟨Rect.unit ![3, 0, 0] S1x256x128.size inb_S8x384x128_S1x256x128_3_0_0, k0_pay79 D (slOQ o 3)⟩,
   ⟨Rect.unit ![2, 256, 0] S1x128x128.size inb_S8x384x128_S1x128x128_2_256_0, k0_pay78 K (slOK o 2)⟩,
   ⟨Rect.unit ![2, 0, 0] S1x256x128.size inb_S8x384x128_S1x256x128_2_0_0, k0_pay77 D (slOQ o 2)⟩,
   ⟨Rect.unit ![1, 256, 0] S1x128x128.size inb_S8x384x128_S1x128x128_1_256_0, k0_pay76 K (slOK o 1)⟩,
   ⟨Rect.unit ![1, 0, 0] S1x256x128.size inb_S8x384x128_S1x256x128_1_0_0, k0_pay75 D (slOQ o 1)⟩,
   ⟨Rect.unit ![0, 256, 0] S1x128x128.size inb_S8x384x128_S1x128x128_0_256_0, payK0 K (slOK o 0)⟩,
   ⟨Rect.unit ![0, 0, 0] S1x256x128.size inb_S8x384x128_S1x256x128_0_0_0, payQ0 D (slOQ o 0)⟩]

theorem cover15 (D : FVec F S256x1024 .f32) (K : FVec F S128x1024 .f32) (o : Vec F S8x384x128 .f32) :
    ∀ y : S8x384x128.Idx, ∃ p ∈ pieces15 D K o, y ∈ p.1.set :=
  View.cover_of_tiledBy (pieces15 D K o) ![1, 128, 128] (by sl_kernel_rfl)
end Old

/-- The gradient of the heads' weights after the point. -/
def G15 (D : FVec Ideal S256x1024 .f32) (K : FVec Ideal S128x1024 .f32) (o : Vec Ideal S8x384x128 .f32) (h : Fin 8) (j : Fin 384) (l : Fin 128) : EReal :=
  o (ix3 h j l) + if hj : j.val < 256 then D (ix2 ⟨j.val, hj⟩ (col h l)) else K (ix2 ⟨j.val - 256, by omega⟩ (col h l))

variable (D : FVec Ideal S256x1024 .f32) (K : FVec Ideal S128x1024 .f32) (o : Vec Ideal S8x384x128 .f32)

theorem G15_q (h : Fin 8) (j : Fin 256) (l : Fin 128) (m : Fin 1024) (hm : m.val = h.val * 128 + l.val) (i : S8x384x128.Idx)
    (h0 : (i 0).val = h.val) (h1 : (i 1).val = j.val) (h2 : (i 2).val = l.val) :
    slOQ o h (ix3 0 j l) + D (ix2 j m) = G15 D K o (i 0) (i 1) (i 2) := by
  obtain rfl : i 0 = h := Fin.ext h0
  obtain rfl : i 2 = l := Fin.ext h2
  obtain rfl : m = col (i 0) (i 2) := Fin.ext hm
  have h3 : (i 1).val < 256 := h1 ▸ j.isLt
  obtain rfl : (⟨(i 1).val, h3⟩ : Fin 256) = j := Fin.ext h1
  unfold G15
  rw [dif_pos h3]
  rfl
theorem G15_k (h : Fin 8) (j : Fin 128) (l : Fin 128) (m : Fin 1024) (hm : m.val = h.val * 128 + l.val) (i : S8x384x128.Idx)
    (h0 : (i 0).val = h.val) (h1 : (i 1).val = 256 + j.val) (h2 : (i 2).val = l.val) :
    slOK o h (ix3 0 j l) + K (ix2 j m) = G15 D K o (i 0) (i 1) (i 2) := by
  obtain rfl : i 0 = h := Fin.ext h0
  obtain rfl : i 2 = l := Fin.ext h2
  obtain rfl : m = col (i 0) (i 2) := Fin.ext hm
  have h3 : ¬ (i 1).val < 256 := by omega
  have h4 : (i 1).val - 256 < 128 := by omega
  obtain rfl : (⟨(i 1).val - 256, h4⟩ : Fin 128) = j := Fin.ext (by show (i 1).val - 256 = j.val; omega)
  unfold G15
  rw [dif_neg h3]
  refine congrArg (· + _) (congrArg o (funext fun a => Fin.ext ?_))
  match a with
  | ⟨0, _⟩ => rfl
  | ⟨1, _⟩ => show 256 + ((i 1).val - 256) = (i 1).val; omega
  | ⟨2, _⟩ => rfl

theorem pay15_q0 (v : Vec Ideal S1x256x128 .f32) (a : Fin 1) (j : Fin 256) (l : Fin 128) :
    payQ0 D v (ix3 a j l) = v (ix3 0 j l) + D (ix2 j ⟨l.val, by omega⟩) := by
  pointwise [payQ0]
theorem pay15_k0 (v : Vec Ideal S1x128x128 .f32) (a : Fin 1) (j : Fin 128) (l : Fin 128) :
    payK0 K v (ix3 a j l) = v (ix3 0 j l) + K (ix2 j ⟨l.val, by omega⟩) := by
  pointwise [payK0, k0_pay74]
theorem pay15_q1 (v : Vec Ideal S1x256x128 .f32) (a : Fin 1) (j : Fin 256) (l : Fin 128) :
    k0_pay75 D v (ix3 a j l) = v (ix3 0 j l) + D (ix2 j ⟨128 + l.val, by omega⟩) := by
  pointwise [k0_pay75]
theorem pay15_k1 (v : Vec Ideal S1x128x128 .f32) (a : Fin 1) (j : Fin 128) (l : Fin 128) :
    k0_pay76 K v (ix3 a j l) = v (ix3 0 j l) + K (ix2 j ⟨128 + l.val, by omega⟩) := by
  pointwise [k0_pay76]
theorem pay15_q2 (v : Vec Ideal S1x256x128 .f32) (a : Fin 1) (j : Fin 256) (l : Fin 128) :
    k0_pay77 D v (ix3 a j l) = v (ix3 0 j l) + D (ix2 j ⟨256 + l.val, by omega⟩) := by
  pointwise [k0_pay77]
theorem pay15_k2 (v : Vec Ideal S1x128x128 .f32) (a : Fin 1) (j : Fin 128) (l : Fin 128) :
    k0_pay78 K v (ix3 a j l) = v (ix3 0 j l) + K (ix2 j ⟨256 + l.val, by omega⟩) := by
  pointwise [k0_pay78]
theorem pay15_q3 (v : Vec Ideal S1x256x128 .f32) (a : Fin 1) (j : Fin 256) (l : Fin 128) :
    k0_pay79 D v (ix3 a j l) = v (ix3 0 j l) + D (ix2 j ⟨384 + l.val, by omega⟩) := by
  pointwise [k0_pay79]
theorem pay15_k3 (v : Vec Ideal S1x128x128 .f32) (a : Fin 1) (j : Fin 128) (l : Fin 128) :
    k0_pay80 K v (ix3 a j l) = v (ix3 0 j l) + K (ix2 j ⟨384 + l.val, by omega⟩) := by
  pointwise [k0_pay80]
theorem pay15_q4 (v : Vec Ideal S1x256x128 .f32) (a : Fin 1) (j : Fin 256) (l : Fin 128) :
    k0_pay81 D v (ix3 a j l) = v (ix3 0 j l) + D (ix2 j ⟨512 + l.val, by omega⟩) := by
  pointwise [k0_pay81]
theorem pay15_k4 (v : Vec Ideal S1x128x128 .f32) (a : Fin 1) (j : Fin 128) (l : Fin 128) :
    k0_pay82 K v (ix3 a j l) = v (ix3 0 j l) + K (ix2 j ⟨512 + l.val, by omega⟩) := by
  pointwise [k0_pay82]
theorem pay15_q5 (v : Vec Ideal S1x256x128 .f32) (a : Fin 1) (j : Fin 256) (l : Fin 128) :
    k0_pay83 D v (ix3 a j l) = v (ix3 0 j l) + D (ix2 j ⟨640 + l.val, by omega⟩) := by
  pointwise [k0_pay83]
theorem pay15_k5 (v : Vec Ideal S1x128x128 .f32) (a : Fin 1) (j : Fin 128) (l : Fin 128) :
    k0_pay84 K v (ix3 a j l) = v (ix3 0 j l) + K (ix2 j ⟨640 + l.val, by omega⟩) := by
  pointwise [k0_pay84]
theorem pay15_q6 (v : Vec Ideal S1x256x128 .f32) (a : Fin 1) (j : Fin 256) (l : Fin 128) :
    k0_pay85 D v (ix3 a j l) = v (ix3 0 j l) + D (ix2 j ⟨768 + l.val, by omega⟩) := by
  pointwise [k0_pay85]
theorem pay15_k6 (v : Vec Ideal S1x128x128 .f32) (a : Fin 1) (j : Fin 128) (l : Fin 128) :
    k0_pay86 K v (ix3 a j l) = v (ix3 0 j l) + K (ix2 j ⟨768 + l.val, by omega⟩) := by
  pointwise [k0_pay86]
theorem pay15_q7 (v : Vec Ideal S1x256x128 .f32) (a : Fin 1) (j : Fin 256) (l : Fin 128) :
    k0_pay88 (k0_pay87 D v) (ix3 a j l) = v (ix3 0 j l) + D (ix2 j ⟨896 + l.val, by omega⟩) := by
  pointwise [k0_pay88, k0_pay87]
theorem pay15_k7 (v : Vec Ideal S1x128x128 .f32) (a : Fin 1) (j : Fin 128) (l : Fin 128) :
    k0_pay89 K v (ix3 a j l) = v (ix3 0 j l) + K (ix2 j ⟨896 + l.val, by omega⟩) := by
  pointwise [k0_pay89]

theorem piecesOf15 : View.PiecesOf (Val := Elt Ideal) (e := .f32) (fun i : S8x384x128.Idx => G15 D K o (i 0) (i 1) (i 2)) (pieces15 D K o) := by
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · idx_vars x
    refine (pay15_k7 _ _ _ _ _).trans (G15_k D K o 7 x1 x2 _ (by show 896 + x2.val = 7 * 128 + x2.val; omega) _ ?_ ?_ ?_)
    · show 7 + 1 * x0.val = 7; omega
    · show 256 + 1 * x1.val = 256 + x1.val; omega
    · show 0 + 1 * x2.val = x2.val; omega
  · idx_vars x
    refine (pay15_q7 _ _ _ _ _).trans (G15_q D K o 7 x1 x2 _ (by show 896 + x2.val = 7 * 128 + x2.val; omega) _ ?_ ?_ ?_)
    · show 7 + 1 * x0.val = 7; omega
    · show 0 + 1 * x1.val = x1.val; omega
    · show 0 + 1 * x2.val = x2.val; omega
  · idx_vars x
    refine (pay15_k6 _ _ _ _ _).trans (G15_k D K o 6 x1 x2 _ (by show 768 + x2.val = 6 * 128 + x2.val; omega) _ ?_ ?_ ?_)
    · show 6 + 1 * x0.val = 6; omega
    · show 256 + 1 * x1.val = 256 + x1.val; omega
    · show 0 + 1 * x2.val = x2.val; omega
  · idx_vars x
    refine (pay15_q6 _ _ _ _ _).trans (G15_q D K o 6 x1 x2 _ (by show 768 + x2.val = 6 * 128 + x2.val; omega) _ ?_ ?_ ?_)
    · show 6 + 1 * x0.val = 6; omega
    · show 0 + 1 * x1.val = x1.val; omega
    · show 0 + 1 * x2.val = x2.val; omega
  · idx_vars x
    refine (pay15_k5 _ _ _ _ _).trans (G15_k D K o 5 x1 x2 _ (by show 640 + x2.val = 5 * 128 + x2.val; omega) _ ?_ ?_ ?_)
    · show 5 + 1 * x0.val = 5; omega
    · show 256 + 1 * x1.val = 256 + x1.val; omega
    · show 0 + 1 * x2.val = x2.val; omega
  · idx_vars x
    refine (pay15_q5 _ _ _ _ _).trans (G15_q D K o 5 x1 x2 _ (by show 640 + x2.val = 5 * 128 + x2.val; omega) _ ?_ ?_ ?_)
    · show 5 + 1 * x0.val = 5; omega
    · show 0 + 1 * x1.val = x1.val; omega
    · show 0 + 1 * x2.val = x2.val; omega
  · idx_vars x
    refine (pay15_k4 _ _ _ _ _).trans (G15_k D K o 4 x1 x2 _ (by show 512 + x2.val = 4 * 128 + x2.val; omega) _ ?_ ?_ ?_)
    · show 4 + 1 * x0.val = 4; omega
    · show 256 + 1 * x1.val = 256 + x1.val; omega
    · show 0 + 1 * x2.val = x2.val; omega
  · idx_vars x
    refine (pay15_q4 _ _ _ _ _).trans (G15_q D K o 4 x1 x2 _ (by show 512 + x2.val = 4 * 128 + x2.val; omega) _ ?_ ?_ ?_)
    · show 4 + 1 * x0.val = 4; omega
    · show 0 + 1 * x1.val = x1.val; omega
    · show 0 + 1 * x2.val = x2.val; omega
  · idx_vars x
    refine (pay15_k3 _ _ _ _ _).trans (G15_k D K o 3 x1 x2 _ (by show 384 + x2.val = 3 * 128 + x2.val; omega) _ ?_ ?_ ?_)
    · show 3 + 1 * x0.val = 3; omega
    · show 256 + 1 * x1.val = 256 + x1.val; omega
    · show 0 + 1 * x2.val = x2.val; omega
  · idx_vars x
    refine (pay15_q3 _ _ _ _ _).trans (G15_q D K o 3 x1 x2 _ (by show 384 + x2.val = 3 * 128 + x2.val; omega) _ ?_ ?_ ?_)
    · show 3 + 1 * x0.val = 3; omega
    · show 0 + 1 * x1.val = x1.val; omega
    · show 0 + 1 * x2.val = x2.val; omega
  · idx_vars x
    refine (pay15_k2 _ _ _ _ _).trans (G15_k D K o 2 x1 x2 _ (by show 256 + x2.val = 2 * 128 + x2.val; omega) _ ?_ ?_ ?_)
    · show 2 + 1 * x0.val = 2; omega
    · show 256 + 1 * x1.val = 256 + x1.val; omega
    · show 0 + 1 * x2.val = x2.val; omega
  · idx_vars x
    refine (pay15_q2 _ _ _ _ _).trans (G15_q D K o 2 x1 x2 _ (by show 256 + x2.val = 2 * 128 + x2.val; omega) _ ?_ ?_ ?_)
    · show 2 + 1 * x0.val = 2; omega
    · show 0 + 1 * x1.val = x1.val; omega
    · show 0 + 1 * x2.val = x2.val; omega
  · idx_vars x
    refine (pay15_k1 _ _ _ _ _).trans (G15_k D K o 1 x1 x2 _ (by show 128 + x2.val = 1 * 128 + x2.val; omega) _ ?_ ?_ ?_)
    · show 1 + 1 * x0.val = 1; omega
    · show 256 + 1 * x1.val = 256 + x1.val; omega
    · show 0 + 1 * x2.val = x2.val; omega
  · idx_vars x
    refine (pay15_q1 _ _ _ _ _).trans (G15_q D K o 1 x1 x2 _ (by show 128 + x2.val = 1 * 128 + x2.val; omega) _ ?_ ?_ ?_)
    · show 1 + 1 * x0.val = 1; omega
    · show 0 + 1 * x1.val = x1.val; omega
    · show 0 + 1 * x2.val = x2.val; omega
  · idx_vars x
    refine (pay15_k0 _ _ _ _ _).trans (G15_k D K o 0 x1 x2 _ (by show x2.val = 0 * 128 + x2.val; omega) _ ?_ ?_ ?_)
    · show 0 + 1 * x0.val = 0; omega
    · show 256 + 1 * x1.val = 256 + x1.val; omega
    · show 0 + 1 * x2.val = x2.val; omega
  · idx_vars x
    refine (pay15_q0 _ _ _ _ _).trans (G15_q D K o 0 x1 x2 _ (by show x2.val = 0 * 128 + x2.val; omega) _ ?_ ?_ ?_)
    · show 0 + 1 * x0.val = 0; omega
    · show 0 + 1 * x1.val = x1.val; omega
    · show 0 + 1 * x2.val = x2.val; omega
end Cert.KernelIdeal.Tail
-- ==== Proof.Step2.lean ====
module
public import proofs.«01_k».proof.Proof.Step
public import Idealize.ShloMosaic.Lib.VecWindow
@[expose] public section
set_option maxRecDepth 16384
noncomputable section
namespace Cert.KernelIdeal.Tail
open Cert.KernelIdeal Cert.KernelIdeal.Gen Idealize.ShloMosaic Idealize.ShloMosaic.TcCoe Idealize.SL.Sem

/-! What one grid point leaves in the five outputs, read at an index over the extended reals. -/

variable (c : Dev nD) (i : grid0.Coords)
  (a1 : Memref sig .tc .vmem S8x128x512 .f32) (h1 : a1.IsWhole)
  (a2 : Memref sig .tc .vmem S8x512x128 .f32) (h2 : a2.IsWhole)
  (a3 : Memref sig .tc .vmem S8x512x128 .f32) (h3 : a3.IsWhole)
  (a4 : Memref sig .tc .vmem S512x512 .f32) (h4 : a4.IsWhole)
  (a5 : Memref sig .tc .vmem S1x512 .i32) (h5 : a5.IsWhole)
  (a6 : Memref sig .tc .vmem S16x1 .f32) (h6 : a6.IsWhole)
  (a7 : Memref sig .tc .vmem S8x384x128 .bf16) (h7 : a7.IsWhole)
  (a8 : Memref sig .tc .vmem S1x256 .f32) (h8 : a8.IsWhole)
  (a9 : Memref sig .tc .vmem S1x128 .f32) (h9 : a9.IsWhole)
  (a10 : Memref sig .tc .vmem S512x1024 .f32) (h10 : a10.IsWhole)
  (a11 : Memref sig .tc .vmem S512x1024 .f32) (h11 : a11.IsWhole)
  (a12 : Memref sig .tc .vmem S512x2048 .bf16) (h12 : a12.IsWhole)
  (a13 : Memref sig .tc .vmem S1024x2560 .bf16) (h13 : a13.IsWhole)
  (a14 : Memref sig .tc .vmem S512x1024 .f32) (h14 : a14.IsWhole)
  (a15 : Memref sig .tc .vmem S1024x2560 .f32) (h15 : a15.IsWhole)
  (a16 : Memref sig .tc .vmem S8x384x128 .f32) (h16 : a16.IsWhole)
  (a17 : Memref sig .tc .vmem S1x256 .f32) (h17 : a17.IsWhole)
  (a18 : Memref sig .tc .vmem S1x128 .f32) (h18 : a18.IsWhole)
  (hA : cond0_0 i) (hB : ¬cond0_0 i)
  (x0 : Vec Ideal S8x128x512 .f32)
  (x1 : Vec Ideal S8x512x128 .f32)
  (x2 : Vec Ideal S8x512x128 .f32)
  (x3 : Vec Ideal S512x512 .f32)
  (x4 : Vec Ideal S1x512 .i32)
  (x5 : Vec Ideal S16x1 .f32)
  (x6 : Vec Ideal S8x384x128 .bf16)
  (x7 : Vec Ideal S1x256 .f32)
  (x8 : Vec Ideal S1x128 .f32)
  (x9 : Vec Ideal S512x1024 .f32)
  (x10 : Vec Ideal S512x1024 .f32)
  (x11 : Vec Ideal S512x2048 .bf16)
  (x12 : Vec Ideal S1024x2560 .bf16)
  (xo14 : Vec Ideal S1024x2560 .f32) (xo15 : Vec Ideal S8x384x128 .f32) (xo16 : Vec Ideal S1x256 .f32) (xo17 : Vec Ideal S1x128 .f32)

/-! The names the two cases share. -/
theorem A_r : @kernelRun0_A.sl.r = @kernelRun0_B.sl.r := rfl
theorem A_r_1 : @kernelRun0_A.sl.r_1 = @kernelRun0_B.sl.r_1 := rfl
theorem A_r_9 : @kernelRun0_A.sl.r_9 = @kernelRun0_B.sl.r_9 := rfl
theorem A_r_10 : @kernelRun0_A.sl.r_10 = @kernelRun0_B.sl.r_10 := rfl
theorem A_r_45 : @kernelRun0_A.sl.r_45 = @kernelRun0_B.sl.r_45 := rfl
theorem A_r_46 : @kernelRun0_A.sl.r_46 = @kernelRun0_B.sl.r_46 := rfl
theorem A_r_57 : @kernelRun0_A.sl.r_57 = @kernelRun0_B.sl.r_57 := rfl
theorem A_r_58 : @kernelRun0_A.sl.r_58 = @kernelRun0_B.sl.r_58 := rfl

theorem r_eq : kernelRun0_B.sl.r c a10 h10 x9 = k0_pay8 x9 := by unfold kernelRun0_B.sl.r; rw [rdAll h10]
theorem r_1_eq : kernelRun0_B.sl.r_1 c a11 h11 a12 h12 a13 h13 x10 x11 x12 = k0_pay11 x11 x10 (slWr x12) := by
  unfold kernelRun0_B.sl.r_1; rw [rdAll h11, rdAll h12, rdWr h13]

/-- The kernel's row of gradients of the input. -/
def gxV (x0 : Vec Ideal S8x128x512 .f32) (x1 x2 : Vec Ideal S8x512x128 .f32) (x3 : Vec Ideal S512x512 .f32) (p : Vec Ideal S1x512 .i32)
    (w : Vec Ideal S16x1 .f32) (x6 : Vec Ideal S8x384x128 .bf16) (x7 : Vec Ideal S1x256 .f32) (x8 : Vec Ideal S1x128 .f32)
    (x10 : Vec Ideal S512x1024 .f32) (x11 : Vec Ideal S512x2048 .bf16) (x12 : Vec Ideal S1024x2560 .bf16) : FVec Ideal S512x1024 .f32 :=
  addf (k0_pay11 x11 x10 (slWr x12)) (matmul dot_S512x512_S1024x512_S512x1024_1_1_0_0_n_n none (dhV x0 x1 x2 x3 p w x6 x7 x8)
    (shapeCast S1024x512 (slWh x12) shapeCasts_S1024x512_S1024x512 : FVec Ideal S1024x512 .bf16) (constant S512x1024 .f32 0x00000000#32))
/-- The heads' columns of the projection's gradient after the point. -/
def winV (dh : FVec Ideal S512x512 .bf16) (x9 : Vec Ideal S512x1024 .f32) (v : Vec Ideal S1024x512 .f32) : FVec Ideal S1024x512 .f32 :=
  addf (shapeCast S1024x512 v shapeCasts_S1024x512_S1024x512)
    (matmul dot_S512x1024_S512x512_S1024x512_0_0_1_1_n_n none (k0_pay8 x9) dh (constant S1024x512 .f32 0x00000000#32))

theorem pay3_eq (v : FVec Ideal S512x1024 .f32) (b : FVec Ideal S512x1 .f32) (d e f : FVec Ideal S512x128 .f32) (g h : FVec Ideal S512x256 .f32)
    (u : Vec Ideal S1024x512 .bf16) : k0_pay3 v b d e f g h u = addf v (matmul dot_S512x512_S1024x512_S512x1024_1_1_0_0_n_n none
      (k0_pay1 b d e f g h) (shapeCast S1024x512 u shapeCasts_S1024x512_S1024x512 : FVec Ideal S1024x512 .bf16) (constant S512x1024 .f32 0x00000000#32)) := rfl
theorem pay2_eq (v : FVec Ideal S512x1024 .bf16) (b : FVec Ideal S512x1 .f32) (d e f : FVec Ideal S512x128 .f32) (g h : FVec Ideal S512x256 .f32)
    (u : Vec Ideal S1024x512 .f32) : k0_pay2 v b d e f g h u = addf (shapeCast S1024x512 u shapeCasts_S1024x512_S1024x512)
      (matmul dot_S512x1024_S512x512_S1024x512_0_0_1_1_n_n none v (k0_pay1 b d e f g h) (constant S1024x512 .f32 0x00000000#32)) := rfl

theorem out13_A : out0_A_13 c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9 x10 x11 x12 = gxV x0 x1 x2 x3 x4 x5 x6 x7 x8 x10 x11 x12 := by
  unfold out0_A_13
  refine (View.read_writes_full _ _ _ _ _).trans ?_
  refine (pay3_eq _ _ _ _ _ _ _ _).trans ?_
  exact congrArg₂ addf (r_1_eq c a11 h11 a12 h12 a13 h13 x10 x11 x12)
    (congrArg₂ (fun (p : FVec Ideal S512x512 .bf16) (q : Vec Ideal S1024x512 .bf16) => matmul dot_S512x512_S1024x512_S512x1024_1_1_0_0_n_n none p
      (shapeCast S1024x512 q shapeCasts_S1024x512_S1024x512 : FVec Ideal S1024x512 .bf16) (constant S512x1024 .f32 0x00000000#32))
      (dh_eq c x0 x1 x2 x4 x5 x3 x6 x7 x8) (rdWh h13 x12 _))

theorem out13_B : out0_B_13 c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 x10 x11 x12 xo14 xo15 xo16 xo17 = gxV x0 x1 x2 x3 x4 x5 x6 x7 x8 x10 x11 x12 := by
  unfold out0_B_13
  refine (View.read_writes_full _ _ _ _ _).trans ?_
  refine (pay3_eq _ _ _ _ _ _ _ _).trans ?_
  exact congrArg₂ addf (r_1_eq c a11 h11 a12 h12 a13 h13 x10 x11 x12)
    (congrArg₂ (fun (p : FVec Ideal S512x512 .bf16) (q : Vec Ideal S1024x512 .bf16) => matmul dot_S512x512_S1024x512_S512x1024_1_1_0_0_n_n none p
      (shapeCast S1024x512 q shapeCasts_S1024x512_S1024x512 : FVec Ideal S1024x512 .bf16) (constant S512x1024 .f32 0x00000000#32))
      (dh_eq c x0 x1 x2 x4 x5 x3 x6 x7 x8) (rdWh h13 x12 _))

/-- The two stores into the projection's gradient. -/
def pieces14 (dh : FVec Ideal S512x512 .bf16) (x9 : Vec Ideal S512x1024 .f32) (x11 : Vec Ideal S512x2048 .bf16) (o : Vec Ideal S1024x2560 .f32) :
    List (View.Piece (Elt Ideal) S1024x2560 .f32) :=
  [⟨Rect.unit ![0, 0] ![1024, 512] inb_S1024x2560_S1024x512_0_0, winV dh x9 (slOh o)⟩,
   ⟨Rect.unit ![0, 512] S1024x2048.size inb_S1024x2560_S1024x2048_0_512, k0_pay10 x9 x11 (slOr o)⟩]
theorem cover14 (dh : FVec Ideal S512x512 .bf16) (o : Vec Ideal S1024x2560 .f32) :
    ∀ y : S1024x2560.Idx, ∃ p ∈ pieces14 dh x9 x11 o, y ∈ p.1.set :=
  View.cover_of_tiledBy (pieces14 dh x9 x11 o) ![1024, 512] (by sl_kernel_rfl)
/-- The projection's gradient after the point. -/
def G14 (dh : FVec Ideal S512x512 .bf16) (x9 : Vec Ideal S512x1024 .f32) (x11 : Vec Ideal S512x2048 .bf16) (o : Vec Ideal S1024x2560 .f32)
    (d : Fin 1024) (e : Fin 2560) : EReal :=
  o (ix2 d e) + if he : e.val < 512 then ∑ r : Fin 512, x9 (ix2 r d) * dh (ix2 r ⟨e.val, he⟩)
    else ∑ r : Fin 512, x9 (ix2 r d) * x11 (ix2 r ⟨e.val - 512, by omega⟩)
theorem winV_apply (dh : FVec Ideal S512x512 .bf16) (v : Vec Ideal S1024x512 .f32) (d : Fin 1024) (e : Fin 512) :
    winV dh x9 v (ix2 d e) = v (ix2 d e) + ∑ r : Fin 512, x9 (ix2 r d) * dh (ix2 r e) := by
  pointwise [winV, k0_pay8]
theorem pay10_apply (v : Vec Ideal S1024x2048 .f32) (d : Fin 1024) (e : Fin 2048) :
    k0_pay10 x9 x11 v (ix2 d e) = v (ix2 d e) + ∑ r : Fin 512, x9 (ix2 r d) * x11 (ix2 r e) := by
  pointwise [k0_pay10, k0_pay8, k0_pay9]
theorem piecesOf14 (dh : FVec Ideal S512x512 .bf16) (o : Vec Ideal S1024x2560 .f32) :
    View.PiecesOf (Val := Elt Ideal) (e := .f32) (fun i : S1024x2560.Idx => G14 dh x9 x11 o (i 0) (i 1)) (pieces14 dh x9 x11 o) := by
  refine ⟨fun x => ?_, fun x => ?_, trivial⟩
  · idx_vars x
    have e0 : ((Rect.unit (s := S1024x2560) ![0, 0] ![1024, 512] inb_S1024x2560_S1024x512_0_0).emb (ix2 x0 x1)) 0 = x0 :=
      Fin.ext (by show 0 + 1 * x0.val = _; omega)
    have e1 : ((Rect.unit (s := S1024x2560) ![0, 0] ![1024, 512] inb_S1024x2560_S1024x512_0_0).emb (ix2 x0 x1)) 1 = (⟨x1.val, by omega⟩ : Fin 2560) :=
      Fin.ext (by show 0 + 1 * x1.val = x1.val; omega)
    refine (winV_apply x9 _ _ _ _).trans ?_
    show _ = G14 dh x9 x11 o _ _
    rw [e0, e1]
    unfold G14
    rw [dif_pos (show x1.val < 512 from x1.isLt)]
    rfl
  · idx_vars x
    have e0 : ((Rect.unit (s := S1024x2560) ![0, 512] S1024x2048.size inb_S1024x2560_S1024x2048_0_512).emb (ix2 x0 x1)) 0 = x0 :=
      Fin.ext (by show 0 + 1 * x0.val = _; omega)
    have e1 : ((Rect.unit (s := S1024x2560) ![0, 512] S1024x2048.size inb_S1024x2560_S1024x2048_0_512).emb (ix2 x0 x1)) 1 = (⟨512 + x1.val, by omega⟩ : Fin 2560) :=
      Fin.ext (by show 512 + 1 * x1.val = 512 + x1.val; omega)
    refine (pay10_apply x9 x11 _ _ _).trans ?_
    show _ = G14 dh x9 x11 o _ _
    rw [e0, e1]
    unfold G14
    rw [dif_neg (show ¬ 512 + x1.val < 512 by omega)]
    refine congrArg (o (ix2 x0 ⟨512 + x1.val, by omega⟩) + ·) (Finset.sum_congr rfl fun r _ => congrArg (fun q => x9 (ix2 r x0) * x11 (ix2 r q)) (Fin.ext ?_))
    show x1.val = 512 + x1.val - 512
    omega

theorem out14_B : out0_B_14 c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 x10 x11 x12 xo14 xo15 xo16 xo17 = fun i => G14 (dhV x0 x1 x2 x3 x4 x5 x6 x7 x8) x9 x11 xo14 (i 0) (i 1) := by
  have hL : (kernelRun0_B c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 x10 x11 x12 xo14 xo15 xo16 xo17).2.1 = pieces14 (dhV x0 x1 x2 x3 x4 x5 x6 x7 x8) x9 x11 xo14 := by
    refine congrArg₂ List.cons (Sigma.ext rfl (heq_of_eq ?_)) (congrArg₂ List.cons (Sigma.ext rfl (heq_of_eq ?_)) rfl)
    · refine (pay2_eq _ _ _ _ _ _ _ _).trans ?_
      exact congrArg₂ _ (congrArg (fun u => shapeCast S1024x512 u shapeCasts_S1024x512_S1024x512) (rdOh h15 xo14 _)) (congrArg₂ (fun p q => matmul _ none p q _) (r_eq c a10 h10 x9) (dh_eq c x0 x1 x2 x4 x5 x3 x6 x7 x8))
    · exact congr (congrArg₂ k0_pay10 (rdAll h10 x9 _) (rdAll h12 x11 _)) (rdOr h15 xo14 _)
  unfold out0_B_14
  rw [hL]
  funext y
  exact View.read_writes_apply_of_pieces _ _ (fun i : S1024x2560.Idx => G14 (dhV x0 x1 x2 x3 x4 x5 x6 x7 x8) x9 x11 xo14 (i 0) (i 1)) _ (piecesOf14 x9 x11 (dhV x0 x1 x2 x3 x4 x5 x6 x7 x8) xo14).mem y (cover14 x9 x11 (dhV x0 x1 x2 x3 x4 x5 x6 x7 x8) xo14 y)

theorem vA_499 : kernelRun0_A.sl.v499 c a10 h10 a12 h12 a15 x9 x11 = slOh (F := Ideal) (k0_pay4 (F := Ideal)) := by
  unfold kernelRun0_A.sl.v499 kernelRun0_A.sl.H14_2
  rw [View.readCov_skip _ _ _ _ _ (by decide)]
  unfold kernelRun0_A.sl.H14_1
  exact View.readCov_fill _ _ _ _ _ (by decide)
theorem vA_w7 : kernelRun0_A.sl.v7 c a15 = slOr (F := Ideal) (k0_pay4 (F := Ideal)) := by
  unfold kernelRun0_A.sl.v7 kernelRun0_A.sl.H14_1
  exact View.readCov_fill _ _ _ _ _ (by decide)

theorem out14_A : out0_A_14 c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9 x10 x11 x12 = fun i => G14 (dhV x0 x1 x2 x3 x4 x5 x6 x7 x8) x9 x11 (k0_pay4 (F := Ideal)) (i 0) (i 1) := by
  have hL : (kernelRun0_A c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9 x10 x11 x12).2.1 = pieces14 (dhV x0 x1 x2 x3 x4 x5 x6 x7 x8) x9 x11 (k0_pay4 (F := Ideal)) ++ kernelRun0_A.sl.H14_1 := by
    refine congrArg₂ List.cons (Sigma.ext rfl (heq_of_eq ?_)) (congrArg₂ List.cons (Sigma.ext rfl (heq_of_eq ?_)) rfl)
    · refine (pay2_eq _ _ _ _ _ _ _ _).trans ?_
      exact congrArg₂ _ (congrArg (fun u => shapeCast S1024x512 u shapeCasts_S1024x512_S1024x512) (vA_499 c a10 h10 a12 h12 a15 x9 x11))
        (congrArg₂ (fun p q => matmul _ none p q _) (r_eq c a10 h10 x9) (dh_eq c x0 x1 x2 x4 x5 x3 x6 x7 x8))
    · exact congr (congrArg₂ k0_pay10 (rdAll h10 x9 _) (rdAll h12 x11 _)) (vA_w7 c a15)
  unfold out0_A_14
  rw [hL, View.read_writes_junk_eq_canon]
  funext y
  exact View.canon_append_of_piecesOf _ _ _ (piecesOf14 x9 x11 (dhV x0 x1 x2 x3 x4 x5 x6 x7 x8) (k0_pay4 (F := Ideal))) y (cover14 x9 x11 (dhV x0 x1 x2 x3 x4 x5 x6 x7 x8) (k0_pay4 (F := Ideal)) y)

theorem pay105_apply (e d : FVec Ideal S512x256 .f32) (v : Vec Ideal S1x256 .f32) (j : Fin 256) :
    k0_pay105 e d v (ix2 0 j) = v (ix2 0 j) + ∑ r : Fin 512, d (ix2 r j) * e (ix2 r j) := by
  pointwise [k0_pay105]
theorem pay106_apply (e d : FVec Ideal S512x128 .f32) (v : Vec Ideal S1x128 .f32) (j : Fin 128) :
    k0_pay106 e d v (ix2 0 j) = v (ix2 0 j) + ∑ r : Fin 512, d (ix2 r j) * e (ix2 r j) := by
  pointwise [k0_pay106]

theorem out16_B : out0_B_16 c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 x10 x11 x12 xo14 xo15 xo16 xo17 = k0_pay105 (k0_pay23 (slCq x3)) (dcqV x0 x4 x5 x6) xo16 := by
  unfold out0_B_16
  refine (View.read_writes_full _ _ _ _ _).trans ?_
  rw [r_9_eq, r_57_eq]
  exact congrArg _ (rdAll h17 xo16 _)
theorem out16_A : out0_A_16 c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9 x10 x11 x12 = k0_pay105 (k0_pay23 (slCq x3)) (dcqV x0 x4 x5 x6) (k0_pay6 (F := Ideal)) := by
  unfold out0_A_16
  refine (View.read_writes_full _ _ _ _ _).trans ?_
  rw [A_r_9, A_r_57, r_9_eq, r_57_eq]
  unfold kernelRun0_A.sl.v455 kernelRun0_A.sl.H16_1
  rw [View.readCov_fill _ _ _ _ _ (by decide)]
  rfl
theorem out17_B : out0_B_17 c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 x10 x11 x12 xo14 xo15 xo16 xo17 = k0_pay106 (k0_pay24 (slCkv x3)) (dckvV x1 x2 x6) xo17 := by
  unfold out0_B_17
  refine (View.read_writes_full _ _ _ _ _).trans ?_
  rw [r_10_eq, r_58_eq]
  exact congrArg _ (rdAll h18 xo17 _)
theorem out17_A : out0_A_17 c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9 x10 x11 x12 = k0_pay106 (k0_pay24 (slCkv x3)) (dckvV x1 x2 x6) (k0_pay7 (F := Ideal)) := by
  unfold out0_A_17
  refine (View.read_writes_full _ _ _ _ _).trans ?_
  rw [A_r_10, A_r_58, r_10_eq, r_58_eq]
  unfold kernelRun0_A.sl.v462 kernelRun0_A.sl.H17_1
  rw [View.readCov_fill _ _ _ _ _ (by decide)]
  rfl

theorem vA_0 : kernelRun0_A.sl.v289 c a16 = slOQ (F := Ideal) (k0_pay5 (F := Ideal)) 0 := by
  unfold kernelRun0_A.sl.v289
  unfold kernelRun0_A.sl.H15_1
  exact View.readCov_fill _ _ _ _ _ (by decide)

theorem vA_1 : kernelRun0_A.sl.v296 c a1 h1 a4 h4 a5 h5 a6 h6 a8 h8 a16 x0 x3 x4 x5 x7 = slOK (F := Ideal) (k0_pay5 (F := Ideal)) 0 := by
  unfold kernelRun0_A.sl.v296
  unfold kernelRun0_A.sl.H15_2
  rw [View.readCov_skip _ _ _ _ _ (by decide)]
  unfold kernelRun0_A.sl.H15_1
  exact View.readCov_fill _ _ _ _ _ (by decide)

theorem vA_2 : kernelRun0_A.sl.v303 c a1 h1 a2 h2 a3 h3 a4 h4 a5 h5 a6 h6 a8 h8 a9 h9 a16 x0 x1 x2 x3 x4 x5 x7 x8 = slOQ (F := Ideal) (k0_pay5 (F := Ideal)) 1 := by
  unfold kernelRun0_A.sl.v303
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem vA_3 : kernelRun0_A.sl.v310 c a1 h1 a2 h2 a3 h3 a4 h4 a5 h5 a6 h6 a8 h8 a9 h9 a16 x0 x1 x2 x3 x4 x5 x7 x8 = slOK (F := Ideal) (k0_pay5 (F := Ideal)) 1 := by
  unfold kernelRun0_A.sl.v310
  unfold kernelRun0_A.sl.H15_4
  rw [View.readCov_skip _ _ _ _ _ (by decide)]
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem vA_4 : kernelRun0_A.sl.v317 c a1 h1 a2 h2 a3 h3 a4 h4 a5 h5 a6 h6 a8 h8 a9 h9 a16 x0 x1 x2 x3 x4 x5 x7 x8 = slOQ (F := Ideal) (k0_pay5 (F := Ideal)) 2 := by
  unfold kernelRun0_A.sl.v317
  unfold kernelRun0_A.sl.H15_5
  rw [View.readCov_skip _ _ _ _ _ (by decide)]
  unfold kernelRun0_A.sl.H15_4
  rw [View.readCov_skip _ _ _ _ _ (by decide)]
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem vA_5 : kernelRun0_A.sl.v324 c a1 h1 a2 h2 a3 h3 a4 h4 a5 h5 a6 h6 a8 h8 a9 h9 a16 x0 x1 x2 x3 x4 x5 x7 x8 = slOK (F := Ideal) (k0_pay5 (F := Ideal)) 2 := by
  unfold kernelRun0_A.sl.v324
  unfold kernelRun0_A.sl.H15_6
  rw [View.readCov_skip _ _ _ _ _ (by decide)]
  unfold kernelRun0_A.sl.H15_5
  rw [View.readCov_skip _ _ _ _ _ (by decide)]
  unfold kernelRun0_A.sl.H15_4
  rw [View.readCov_skip _ _ _ _ _ (by decide)]
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem vA_6 : kernelRun0_A.sl.v331 c a1 h1 a2 h2 a3 h3 a4 h4 a5 h5 a6 h6 a8 h8 a9 h9 a16 x0 x1 x2 x3 x4 x5 x7 x8 = slOQ (F := Ideal) (k0_pay5 (F := Ideal)) 3 := by
  unfold kernelRun0_A.sl.v331
  unfold kernelRun0_A.sl.H15_7
  rw [View.readCov_skip _ _ _ _ _ (by decide)]
  unfold kernelRun0_A.sl.H15_6
  rw [View.readCov_skip _ _ _ _ _ (by decide)]
  unfold kernelRun0_A.sl.H15_5
  rw [View.readCov_skip _ _ _ _ _ (by decide)]
  unfold kernelRun0_A.sl.H15_4
  rw [View.readCov_skip _ _ _ _ _ (by decide)]
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem vA_7 : kernelRun0_A.sl.v338 c a1 h1 a2 h2 a3 h3 a4 h4 a5 h5 a6 h6 a8 h8 a9 h9 a16 x0 x1 x2 x3 x4 x5 x7 x8 = slOK (F := Ideal) (k0_pay5 (F := Ideal)) 3 := by
  unfold kernelRun0_A.sl.v338
  unfold kernelRun0_A.sl.H15_8
  rw [View.readCov_skip _ _ _ _ _ (by decide)]
  unfold kernelRun0_A.sl.H15_7
  rw [View.readCov_skip _ _ _ _ _ (by decide)]
  unfold kernelRun0_A.sl.H15_6
  rw [View.readCov_skip _ _ _ _ _ (by decide)]
  unfold kernelRun0_A.sl.H15_5
  rw [View.readCov_skip _ _ _ _ _ (by decide)]
  unfold kernelRun0_A.sl.H15_4
  rw [View.readCov_skip _ _ _ _ _ (by decide)]
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem vA_8 : kernelRun0_A.sl.v345 c a1 h1 a2 h2 a3 h3 a4 h4 a5 h5 a6 h6 a8 h8 a9 h9 a16 x0 x1 x2 x3 x4 x5 x7 x8 = slOQ (F := Ideal) (k0_pay5 (F := Ideal)) 4 := by
  unfold kernelRun0_A.sl.v345
  unfold kernelRun0_A.sl.H15_9
  rw [View.readCov_skip _ _ _ _ _ (by decide)]
  unfold kernelRun0_A.sl.H15_8
  rw [View.readCov_skip _ _ _ _ _ (by decide)]
  unfold kernelRun0_A.sl.H15_7
  rw [View.readCov_skip _ _ _ _ _ (by decide)]
  unfold kernelRun0_A.sl.H15_6
  rw [View.readCov_skip _ _ _ _ _ (by decide)]
  unfold kernelRun0_A.sl.H15_5
  rw [View.readCov_skip _ _ _ _ _ (by decide)]
  unfold kernelRun0_A.sl.H15_4
  rw [View.readCov_skip _ _ _ _ _ (by decide)]
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem vA_9 : kernelRun0_A.sl.v352 c a1 h1 a2 h2 a3 h3 a4 h4 a5 h5 a6 h6 a8 h8 a9 h9 a16 x0 x1 x2 x3 x4 x5 x7 x8 = slOK (F := Ideal) (k0_pay5 (F := Ideal)) 4 := by
  unfold kernelRun0_A.sl.v352
  unfold kernelRun0_A.sl.H15_10
  rw [View.readCov_skip _ _ _ _ _ (by decide)]
  unfold kernelRun0_A.sl.H15_9
  rw [View.readCov_skip _ _ _ _ _ (by decide)]
  unfold kernelRun0_A.sl.H15_8
  rw [View.readCov_skip _ _ _ _ _ (by decide)]
  unfold kernelRun0_A.sl.H15_7
  rw [View.readCov_skip _ _ _ _ _ (by decide)]
  unfold kernelRun0_A.sl.H15_6
  rw [View.readCov_skip _ _ _ _ _ (by decide)]
  unfold kernelRun0_A.sl.H15_5
  rw [View.readCov_skip _ _ _ _ _ (by decide)]
  unfold kernelRun0_A.sl.H15_4
  rw [View.readCov_skip _ _ _ _ _ (by decide)]
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem vA_10 : kernelRun0_A.sl.v c a1 h1 a2 h2 a3 h3 a4 h4 a5 h5 a6 h6 a8 h8 a9 h9 a16 x0 x1 x2 x3 x4 x5 x7 x8 = slOQ (F := Ideal) (k0_pay5 (F := Ideal)) 5 := by
  unfold kernelRun0_A.sl.v
  unfold kernelRun0_A.sl.H15_11
  rw [View.readCov_skip _ _ _ _ _ (by decide)]
  unfold kernelRun0_A.sl.H15_10
  rw [View.readCov_skip _ _ _ _ _ (by decide)]
  unfold kernelRun0_A.sl.H15_9
  rw [View.readCov_skip _ _ _ _ _ (by decide)]
  unfold kernelRun0_A.sl.H15_8
  rw [View.readCov_skip _ _ _ _ _ (by decide)]
  unfold kernelRun0_A.sl.H15_7
  rw [View.readCov_skip _ _ _ _ _ (by decide)]
  unfold kernelRun0_A.sl.H15_6
  rw [View.readCov_skip _ _ _ _ _ (by decide)]
  unfold kernelRun0_A.sl.H15_5
  rw [View.readCov_skip _ _ _ _ _ (by decide)]
  unfold kernelRun0_A.sl.H15_4
  rw [View.readCov_skip _ _ _ _ _ (by decide)]
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem vA_11 : kernelRun0_A.sl.v366 c a1 h1 a2 h2 a3 h3 a4 h4 a5 h5 a6 h6 a8 h8 a9 h9 a16 x0 x1 x2 x3 x4 x5 x7 x8 = slOK (F := Ideal) (k0_pay5 (F := Ideal)) 5 := by
  unfold kernelRun0_A.sl.v366
  unfold kernelRun0_A.sl.H15_12
  rw [View.readCov_skip _ _ _ _ _ (by decide)]
  unfold kernelRun0_A.sl.H15_11
  rw [View.readCov_skip _ _ _ _ _ (by decide)]
  unfold kernelRun0_A.sl.H15_10
  rw [View.readCov_skip _ _ _ _ _ (by decide)]
  unfold kernelRun0_A.sl.H15_9
  rw [View.readCov_skip _ _ _ _ _ (by decide)]
  unfold kernelRun0_A.sl.H15_8
  rw [View.readCov_skip _ _ _ _ _ (by decide)]
  unfold kernelRun0_A.sl.H15_7
  rw [View.readCov_skip _ _ _ _ _ (by decide)]
  unfold kernelRun0_A.sl.H15_6
  rw [View.readCov_skip _ _ _ _ _ (by decide)]
  unfold kernelRun0_A.sl.H15_5
  rw [View.readCov_skip _ _ _ _ _ (by decide)]
  unfold kernelRun0_A.sl.H15_4
  rw [View.readCov_skip _ _ _ _ _ (by decide)]
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem vA_12 : kernelRun0_A.sl.v373 c a1 h1 a2 h2 a3 h3 a4 h4 a5 h5 a6 h6 a8 h8 a9 h9 a16 x0 x1 x2 x3 x4 x5 x7 x8 = slOQ (F := Ideal) (k0_pay5 (F := Ideal)) 6 := by
  unfold kernelRun0_A.sl.v373
  unfold kernelRun0_A.sl.H15_13
  rw [View.readCov_skip _ _ _ _ _ (by decide)]
  unfold kernelRun0_A.sl.H15_12
  rw [View.readCov_skip _ _ _ _ _ (by decide)]
  unfold kernelRun0_A.sl.H15_11
  rw [View.readCov_skip _ _ _ _ _ (by decide)]
  unfold kernelRun0_A.sl.H15_10
  rw [View.readCov_skip _ _ _ _ _ (by decide)]
  unfold kernelRun0_A.sl.H15_9
  rw [View.readCov_skip _ _ _ _ _ (by decide)]
  unfold kernelRun0_A.sl.H15_8
  rw [View.readCov_skip _ _ _ _ _ (by decide)]
  unfold kernelRun0_A.sl.H15_7
  rw [View.readCov_skip _ _ _ _ _ (by decide)]
  unfold kernelRun0_A.sl.H15_6
  rw [View.readCov_skip _ _ _ _ _ (by decide)]
  unfold kernelRun0_A.sl.H15_5
  rw [View.readCov_skip _ _ _ _ _ (by decide)]
  unfold kernelRun0_A.sl.H15_4
  rw [View.readCov_skip _ _ _ _ _ (by decide)]
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem vA_13 : kernelRun0_A.sl.v380 c a1 h1 a2 h2 a3 h3 a4 h4 a5 h5 a6 h6 a8 h8 a9 h9 a16 x0 x1 x2 x3 x4 x5 x7 x8 = slOK (F := Ideal) (k0_pay5 (F := Ideal)) 6 := by
  unfold kernelRun0_A.sl.v380
  unfold kernelRun0_A.sl.H15_14
  rw [View.readCov_skip _ _ _ _ _ (by decide)]
  unfold kernelRun0_A.sl.H15_13
  rw [View.readCov_skip _ _ _ _ _ (by decide)]
  unfold kernelRun0_A.sl.H15_12
  rw [View.readCov_skip _ _ _ _ _ (by decide)]
  unfold kernelRun0_A.sl.H15_11
  rw [View.readCov_skip _ _ _ _ _ (by decide)]
  unfold kernelRun0_A.sl.H15_10
  rw [View.readCov_skip _ _ _ _ _ (by decide)]
  unfold kernelRun0_A.sl.H15_9
  rw [View.readCov_skip _ _ _ _ _ (by decide)]
  unfold kernelRun0_A.sl.H15_8
  rw [View.readCov_skip _ _ _ _ _ (by decide)]
  unfold kernelRun0_A.sl.H15_7
  rw [View.readCov_skip _ _ _ _ _ (by decide)]
  unfold kernelRun0_A.sl.H15_6
  rw [View.readCov_skip _ _ _ _ _ (by decide)]
  unfold kernelRun0_A.sl.H15_5
  rw [View.readCov_skip _ _ _ _ _ (by decide)]
  unfold kernelRun0_A.sl.H15_4
  rw [View.readCov_skip _ _ _ _ _ (by decide)]
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem vA_14 : kernelRun0_A.sl.v387 c a1 h1 a2 h2 a3 h3 a4 h4 a5 h5 a6 h6 a8 h8 a9 h9 a16 x0 x1 x2 x3 x4 x5 x7 x8 = slOQ (F := Ideal) (k0_pay5 (F := Ideal)) 7 := by
  unfold kernelRun0_A.sl.v387
  unfold kernelRun0_A.sl.H15_15
  rw [View.readCov_skip _ _ _ _ _ (by decide)]
  unfold kernelRun0_A.sl.H15_14
  rw [View.readCov_skip _ _ _ _ _ (by decide)]
  unfold kernelRun0_A.sl.H15_13
  rw [View.readCov_skip _ _ _ _ _ (by decide)]
  unfold kernelRun0_A.sl.H15_12
  rw [View.readCov_skip _ _ _ _ _ (by decide)]
  unfold kernelRun0_A.sl.H15_11
  rw [View.readCov_skip _ _ _ _ _ (by decide)]
  unfold kernelRun0_A.sl.H15_10
  rw [View.readCov_skip _ _ _ _ _ (by decide)]
  unfold kernelRun0_A.sl.H15_9
  rw [View.readCov_skip _ _ _ _ _ (by decide)]
  unfold kernelRun0_A.sl.H15_8
  rw [View.readCov_skip _ _ _ _ _ (by decide)]
  unfold kernelRun0_A.sl.H15_7
  rw [View.readCov_skip _ _ _ _ _ (by decide)]
  unfold kernelRun0_A.sl.H15_6
  rw [View.readCov_skip _ _ _ _ _ (by decide)]
  unfold kernelRun0_A.sl.H15_5
  rw [View.readCov_skip _ _ _ _ _ (by decide)]
  unfold kernelRun0_A.sl.H15_4
  rw [View.readCov_skip _ _ _ _ _ (by decide)]
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem vA_15 : kernelRun0_A.sl.v394 c a1 h1 a2 h2 a3 h3 a4 h4 a5 h5 a6 h6 a8 h8 a9 h9 a16 x0 x1 x2 x3 x4 x5 x7 x8 = slOK (F := Ideal) (k0_pay5 (F := Ideal)) 7 := by
  unfold kernelRun0_A.sl.v394
  unfold kernelRun0_A.sl.H15_16
  rw [View.readCov_skip _ _ _ _ _ (by decide)]
  unfold kernelRun0_A.sl.H15_15
  rw [View.readCov_skip _ _ _ _ _ (by decide)]
  unfold kernelRun0_A.sl.H15_14
  rw [View.readCov_skip _ _ _ _ _ (by decide)]
  unfold kernelRun0_A.sl.H15_13
  rw [View.readCov_skip _ _ _ _ _ (by decide)]
  unfold kernelRun0_A.sl.H15_12
  rw [View.readCov_skip _ _ _ _ _ (by decide)]
  unfold kernelRun0_A.sl.H15_11
  rw [View.readCov_skip _ _ _ _ _ (by decide)]
  unfold kernelRun0_A.sl.H15_10
  rw [View.readCov_skip _ _ _ _ _ (by decide)]
  unfold kernelRun0_A.sl.H15_9
  rw [View.readCov_skip _ _ _ _ _ (by decide)]
  unfold kernelRun0_A.sl.H15_8
  rw [View.readCov_skip _ _ _ _ _ (by decide)]
  unfold kernelRun0_A.sl.H15_7
  rw [View.readCov_skip _ _ _ _ _ (by decide)]
  unfold kernelRun0_A.sl.H15_6
  rw [View.readCov_skip _ _ _ _ _ (by decide)]
  unfold kernelRun0_A.sl.H15_5
  rw [View.readCov_skip _ _ _ _ _ (by decide)]
  unfold kernelRun0_A.sl.H15_4
  rw [View.readCov_skip _ _ _ _ _ (by decide)]
  unfold kernelRun0_A.sl.H15_3
  rw [View.readCov_skip _ _ _ _ _ (by decide)]
  unfold kernelRun0_A.sl.H15_2
  rw [View.readCov_skip _ _ _ _ _ (by decide)]
  unfold kernelRun0_A.sl.H15_1
  exact View.readCov_fill _ _ _ _ _ (by decide)

theorem out15_B : out0_B_15 c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 x10 x11 x12 xo14 xo15 xo16 xo17 = fun i => G15 (dwqV x0 x3 x4 x5 x7) (dwkvV x1 x2 x3 x8) xo15 (i 0) (i 1) (i 2) := by
  have hL : (kernelRun0_B c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 x10 x11 x12 xo14 xo15 xo16 xo17).2.2.1 = pieces15 (dwqV x0 x3 x4 x5 x7) (dwkvV x1 x2 x3 x8) xo15 := by
    refine congrArg₂ List.cons (Sigma.ext rfl (heq_of_eq ?_)) ?_
    · exact congrArg₂ k0_pay89 (r_46_eq c x1 x2 x3 x8) (rdOK h16 xo15 7 (by decide) _)
    refine congrArg₂ List.cons (Sigma.ext rfl (heq_of_eq ?_)) ?_
    · exact congrArg k0_pay88 (congrArg₂ k0_pay87 (r_45_eq c x0 x4 x5 x3 x7) (rdOQ h16 xo15 7 (by decide) _))
    refine congrArg₂ List.cons (Sigma.ext rfl (heq_of_eq ?_)) ?_
    · exact congrArg₂ k0_pay86 (r_46_eq c x1 x2 x3 x8) (rdOK h16 xo15 6 (by decide) _)
    refine congrArg₂ List.cons (Sigma.ext rfl (heq_of_eq ?_)) ?_
    · exact congrArg₂ k0_pay85 (r_45_eq c x0 x4 x5 x3 x7) (rdOQ h16 xo15 6 (by decide) _)
    refine congrArg₂ List.cons (Sigma.ext rfl (heq_of_eq ?_)) ?_
    · exact congrArg₂ k0_pay84 (r_46_eq c x1 x2 x3 x8) (rdOK h16 xo15 5 (by decide) _)
    refine congrArg₂ List.cons (Sigma.ext rfl (heq_of_eq ?_)) ?_
    · exact congrArg₂ k0_pay83 (r_45_eq c x0 x4 x5 x3 x7) (rdOQ h16 xo15 5 (by decide) _)
    refine congrArg₂ List.cons (Sigma.ext rfl (heq_of_eq ?_)) ?_
    · exact congrArg₂ k0_pay82 (r_46_eq c x1 x2 x3 x8) (rdOK h16 xo15 4 (by decide) _)
    refine congrArg₂ List.cons (Sigma.ext rfl (heq_of_eq ?_)) ?_
    · exact congrArg₂ k0_pay81 (r_45_eq c x0 x4 x5 x3 x7) (rdOQ h16 xo15 4 (by decide) _)
    refine congrArg₂ List.cons (Sigma.ext rfl (heq_of_eq ?_)) ?_
    · exact congrArg₂ k0_pay80 (r_46_eq c x1 x2 x3 x8) (rdOK h16 xo15 3 (by decide) _)
    refine congrArg₂ List.cons (Sigma.ext rfl (heq_of_eq ?_)) ?_
    · exact congrArg₂ k0_pay79 (r_45_eq c x0 x4 x5 x3 x7) (rdOQ h16 xo15 3 (by decide) _)
    refine congrArg₂ List.cons (Sigma.ext rfl (heq_of_eq ?_)) ?_
    · exact congrArg₂ k0_pay78 (r_46_eq c x1 x2 x3 x8) (rdOK h16 xo15 2 (by decide) _)
    refine congrArg₂ List.cons (Sigma.ext rfl (heq_of_eq ?_)) ?_
    · exact congrArg₂ k0_pay77 (r_45_eq c x0 x4 x5 x3 x7) (rdOQ h16 xo15 2 (by decide) _)
    refine congrArg₂ List.cons (Sigma.ext rfl (heq_of_eq ?_)) ?_
    · exact congrArg₂ k0_pay76 (r_46_eq c x1 x2 x3 x8) (rdOK h16 xo15 1 (by decide) _)
    refine congrArg₂ List.cons (Sigma.ext rfl (heq_of_eq ?_)) ?_
    · exact congrArg₂ k0_pay75 (r_45_eq c x0 x4 x5 x3 x7) (rdOQ h16 xo15 1 (by decide) _)
    refine congrArg₂ List.cons (Sigma.ext rfl (heq_of_eq ?_)) ?_
    · exact congrArg₂ payK0 (r_46_eq c x1 x2 x3 x8) (rdOK h16 xo15 0 (by decide) _)
    refine congrArg₂ List.cons (Sigma.ext rfl (heq_of_eq ?_)) ?_
    · exact congrArg₂ payQ0 (r_45_eq c x0 x4 x5 x3 x7) (rdOQ h16 xo15 0 (by decide) _)
    rfl
  unfold out0_B_15
  rw [hL]
  funext y
  exact View.read_writes_apply_of_pieces _ _ (fun i : S8x384x128.Idx => G15 (dwqV x0 x3 x4 x5 x7) (dwkvV x1 x2 x3 x8) xo15 (i 0) (i 1) (i 2)) _ (piecesOf15 (dwqV x0 x3 x4 x5 x7) (dwkvV x1 x2 x3 x8) xo15).mem y (cover15 (dwqV x0 x3 x4 x5 x7) (dwkvV x1 x2 x3 x8) xo15 y)
theorem out15_A : out0_A_15 c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9 x10 x11 x12 = fun i => G15 (dwqV x0 x3 x4 x5 x7) (dwkvV x1 x2 x3 x8) (k0_pay5 (F := Ideal)) (i 0) (i 1) (i 2) := by
  have hL : (kernelRun0_A c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9 x10 x11 x12).2.2.1 = pieces15 (dwqV x0 x3 x4 x5 x7) (dwkvV x1 x2 x3 x8) (k0_pay5 (F := Ideal)) ++ kernelRun0_A.sl.H15_1 := by
    refine congrArg₂ List.cons (Sigma.ext rfl (heq_of_eq ?_)) ?_
    · exact congrArg₂ k0_pay89 (r_46_eq c x1 x2 x3 x8) (vA_15 c a1 h1 a2 h2 a3 h3 a4 h4 a5 h5 a6 h6 a8 h8 a9 h9 a16 x0 x1 x2 x3 x4 x5 x7 x8)
    refine congrArg₂ List.cons (Sigma.ext rfl (heq_of_eq ?_)) ?_
    · exact congrArg k0_pay88 (congrArg₂ k0_pay87 (r_45_eq c x0 x4 x5 x3 x7) (vA_14 c a1 h1 a2 h2 a3 h3 a4 h4 a5 h5 a6 h6 a8 h8 a9 h9 a16 x0 x1 x2 x3 x4 x5 x7 x8))
    refine congrArg₂ List.cons (Sigma.ext rfl (heq_of_eq ?_)) ?_
    · exact congrArg₂ k0_pay86 (r_46_eq c x1 x2 x3 x8) (vA_13 c a1 h1 a2 h2 a3 h3 a4 h4 a5 h5 a6 h6 a8 h8 a9 h9 a16 x0 x1 x2 x3 x4 x5 x7 x8)
    refine congrArg₂ List.cons (Sigma.ext rfl (heq_of_eq ?_)) ?_
    · exact congrArg₂ k0_pay85 (r_45_eq c x0 x4 x5 x3 x7) (vA_12 c a1 h1 a2 h2 a3 h3 a4 h4 a5 h5 a6 h6 a8 h8 a9 h9 a16 x0 x1 x2 x3 x4 x5 x7 x8)
    refine congrArg₂ List.cons (Sigma.ext rfl (heq_of_eq ?_)) ?_
    · exact congrArg₂ k0_pay84 (r_46_eq c x1 x2 x3 x8) (vA_11 c a1 h1 a2 h2 a3 h3 a4 h4 a5 h5 a6 h6 a8 h8 a9 h9 a16 x0 x1 x2 x3 x4 x5 x7 x8)
    refine congrArg₂ List.cons (Sigma.ext rfl (heq_of_eq ?_)) ?_
    · exact congrArg₂ k0_pay83 (r_45_eq c x0 x4 x5 x3 x7) (vA_10 c a1 h1 a2 h2 a3 h3 a4 h4 a5 h5 a6 h6 a8 h8 a9 h9 a16 x0 x1 x2 x3 x4 x5 x7 x8)
    refine congrArg₂ List.cons (Sigma.ext rfl (heq_of_eq ?_)) ?_
    · exact congrArg₂ k0_pay82 (r_46_eq c x1 x2 x3 x8) (vA_9 c a1 h1 a2 h2 a3 h3 a4 h4 a5 h5 a6 h6 a8 h8 a9 h9 a16 x0 x1 x2 x3 x4 x5 x7 x8)
    refine congrArg₂ List.cons (Sigma.ext rfl (heq_of_eq ?_)) ?_
    · exact congrArg₂ k0_pay81 (r_45_eq c x0 x4 x5 x3 x7) (vA_8 c a1 h1 a2 h2 a3 h3 a4 h4 a5 h5 a6 h6 a8 h8 a9 h9 a16 x0 x1 x2 x3 x4 x5 x7 x8)
    refine congrArg₂ List.cons (Sigma.ext rfl (heq_of_eq ?_)) ?_
    · exact congrArg₂ k0_pay80 (r_46_eq c x1 x2 x3 x8) (vA_7 c a1 h1 a2 h2 a3 h3 a4 h4 a5 h5 a6 h6 a8 h8 a9 h9 a16 x0 x1 x2 x3 x4 x5 x7 x8)
    refine congrArg₂ List.cons (Sigma.ext rfl (heq_of_eq ?_)) ?_
    · exact congrArg₂ k0_pay79 (r_45_eq c x0 x4 x5 x3 x7) (vA_6 c a1 h1 a2 h2 a3 h3 a4 h4 a5 h5 a6 h6 a8 h8 a9 h9 a16 x0 x1 x2 x3 x4 x5 x7 x8)
    refine congrArg₂ List.cons (Sigma.ext rfl (heq_of_eq ?_)) ?_
    · exact congrArg₂ k0_pay78 (r_46_eq c x1 x2 x3 x8) (vA_5 c a1 h1 a2 h2 a3 h3 a4 h4 a5 h5 a6 h6 a8 h8 a9 h9 a16 x0 x1 x2 x3 x4 x5 x7 x8)
    refine congrArg₂ List.cons (Sigma.ext rfl (heq_of_eq ?_)) ?_
    · exact congrArg₂ k0_pay77 (r_45_eq c x0 x4 x5 x3 x7) (vA_4 c a1 h1 a2 h2 a3 h3 a4 h4 a5 h5 a6 h6 a8 h8 a9 h9 a16 x0 x1 x2 x3 x4 x5 x7 x8)
    refine congrArg₂ List.cons (Sigma.ext rfl (heq_of_eq ?_)) ?_
    · exact congrArg₂ k0_pay76 (r_46_eq c x1 x2 x3 x8) (vA_3 c a1 h1 a2 h2 a3 h3 a4 h4 a5 h5 a6 h6 a8 h8 a9 h9 a16 x0 x1 x2 x3 x4 x5 x7 x8)
    refine congrArg₂ List.cons (Sigma.ext rfl (heq_of_eq ?_)) ?_
    · exact congrArg₂ k0_pay75 (r_45_eq c x0 x4 x5 x3 x7) (vA_2 c a1 h1 a2 h2 a3 h3 a4 h4 a5 h5 a6 h6 a8 h8 a9 h9 a16 x0 x1 x2 x3 x4 x5 x7 x8)
    refine congrArg₂ List.cons (Sigma.ext rfl (heq_of_eq ?_)) ?_
    · exact congrArg₂ payK0 (r_46_eq c x1 x2 x3 x8) (vA_1 c a1 h1 a4 h4 a5 h5 a6 h6 a8 h8 a16 x0 x3 x4 x5 x7)
    refine congrArg₂ List.cons (Sigma.ext rfl (heq_of_eq ?_)) ?_
    · exact congrArg₂ payQ0 (r_45_eq c x0 x4 x5 x3 x7) (vA_0 c a16)
    rfl
  unfold out0_A_15
  rw [hL, View.read_writes_junk_eq_canon]
  funext y
  exact View.canon_append_of_piecesOf _ _ _ (piecesOf15 (dwqV x0 x3 x4 x5 x7) (dwkvV x1 x2 x3 x8) (k0_pay5 (F := Ideal))) y (cover15 (dwqV x0 x3 x4 x5 x7) (dwkvV x1 x2 x3 x8) (k0_pay5 (F := Ideal)) y)
end Cert.KernelIdeal.Tail
-- ==== Proof.Blocks.lean ====
module
public import proofs.«01_k».proof.Proof.Step2
public import Idealize.ShloMosaic.Lib.Pipeline.ValueKit.Geometry
@[expose] public section
set_option maxRecDepth 16384
noncomputable section
namespace Cert.KernelIdeal.Tail
open Cert.KernelIdeal Cert.KernelIdeal.Gen Idealize.ShloMosaic Idealize.ShloMosaic.TcCoe Idealize.SL.Sem
variable (m : (ℓ : Loc nD τ sig) → Buf (Elt Ideal) ℓ) (c : Dev nD)

/-! The blocks of the operands, read off the arrays the call finds. -/

/-- The row of the whole array of a row of a tile. -/
def grow (t : Fin 16) (r : Fin 512) : Fin 8192 := ⟨t.val * 512 + r.val, by omega⟩
theorem idx_t : ∀ t : Fin cfg0.N,
    win0_0.index t = ![0, 0, t.val] ∧ win0_1.index t = ![0, t.val, 0] ∧ win0_2.index t = ![0, t.val, 0] ∧ win0_3.index t = ![t.val, 0]
    ∧ win0_4.index t = ![0, t.val] ∧ win0_5.index t = ![0, 0] ∧ win0_6.index t = ![0, 0, 0] ∧ win0_7.index t = ![0, 0]
    ∧ win0_8.index t = ![0, 0] ∧ win0_9.index t = ![t.val, 0] ∧ win0_10.index t = ![t.val, 0] ∧ win0_11.index t = ![t.val, 0]
    ∧ win0_12.index t = ![0, 0] ∧ win0_13.index t = ![t.val, 0] ∧ win0_14.index t = ![0, 0] ∧ win0_15.index t = ![0, 0, 0]
    ∧ win0_16.index t = ![0, 0] ∧ win0_17.index t = ![0, 0] :=
  (by decide +kernel : ∀ t : Fin grid0.N, _)
theorem blk0 (t : Fin cfg0.N) (h : Fin 8) (l : Fin 128) (r : Fin 512) : iblk m c 0 t (ix3 h l r) = V m c main_v30 (ix3 h l (grow t r)) := by
  blk_ext [iblk, grow, idx_t t]
theorem blk1 (t : Fin cfg0.N) (h : Fin 8) (l : Fin 128) (r : Fin 512) : iblk m c 1 t (ix3 h r l) = V m c main_v32 (ix3 h (grow t r) l) := by
  blk_ext [iblk, grow, idx_t t]
theorem blk2 (t : Fin cfg0.N) (h : Fin 8) (l : Fin 128) (r : Fin 512) : iblk m c 2 t (ix3 h r l) = V m c main_v34 (ix3 h (grow t r) l) := by
  blk_ext [iblk, grow, idx_t t]
theorem blk3 (t : Fin cfg0.N) (r : Fin 512) (j : Fin 512) : iblk m c 3 t (ix2 r j) = V m c main_v22 (ix2 (grow t r) ⟨j.val, by omega⟩) := by
  blk_ext [iblk, grow, idx_t t]
theorem blk4 (t : Fin cfg0.N) (r : Fin 512) : iblk m c 4 t (ix2 0 r) = V m c main_v8 (ix2 0 (grow t r)) := by
  blk_ext [iblk, grow, idx_t t]
theorem blk5 (t : Fin cfg0.N) (k : Fin 16) : iblk m c 5 t (ix2 k 0) = V m c main_v7 (ix2 k 0) := by
  blk_ext [iblk, idx_t t]
theorem blk6 (t : Fin cfg0.N) (h : Fin 8) (j : Fin 384) (l : Fin 128) : iblk m c 6 t (ix3 h j l) = V m c main_v28 (ix3 h j l) := by
  blk_ext [iblk, idx_t t]
theorem blk7 (t : Fin cfg0.N) (j : Fin 256) : iblk m c 7 t (ix2 0 j) = V m c main_v35 (ix2 0 j) := by
  blk_ext [iblk, idx_t t]
theorem blk8 (t : Fin cfg0.N) (j : Fin 128) : iblk m c 8 t (ix2 0 j) = V m c main_v36 (ix2 0 j) := by
  blk_ext [iblk, idx_t t]
theorem blk9 (t : Fin cfg0.N) (r : Fin 512) (d : Fin 1024) : iblk m c 9 t (ix2 r d) = V m c main_arg0 (ix2 (grow t r) d) := by
  blk_ext [iblk, grow, idx_t t]
theorem blk10 (t : Fin cfg0.N) (r : Fin 512) (d : Fin 1024) : iblk m c 10 t (ix2 r d) = V m c main_arg10 (ix2 (grow t r) d) := by
  blk_ext [iblk, grow, idx_t t]
theorem blk11 (t : Fin cfg0.N) (r : Fin 512) (e : Fin 2048) : iblk m c 11 t (ix2 r e) = V m c main_v37 (ix2 (grow t r) e) := by
  blk_ext [iblk, grow, idx_t t]
theorem blk12 (t : Fin cfg0.N) (d : Fin 1024) (e : Fin 2560) : iblk m c 12 t (ix2 d e) = V m c main_v15 (ix2 d e) := by
  blk_ext [iblk, idx_t t]
end Cert.KernelIdeal.Tail
-- ==== Proof.Accum.lean ====
module
public import proofs.«01_k».proof.Proof.Blocks
@[expose] public section
set_option maxRecDepth 16384
noncomputable section
namespace Cert.KernelIdeal.Tail
open Cert.KernelIdeal Cert.KernelIdeal.Gen Idealize.ShloMosaic Idealize.ShloMosaic.TcCoe Idealize.SL.Sem
variable (m : (ℓ : Loc nD τ sig) → Buf (Elt Ideal) ℓ) (c : Dev nD)

/-! The outputs of the sixteen points, added up. -/

/-- The call's data, as the arrays it finds hold them. -/
def data : Cert.Tail.Data where
  C n k := Ideal.cos (FloatOps.sitofp (F := Ideal) FTy.f32 (V m c main_v8 (ix2 0 n)) * V m c main_v7 (ix2 k 0))
  S n k := Ideal.sin (FloatOps.sitofp (F := Ideal) FTy.f32 (V m c main_v8 (ix2 0 n)) * V m c main_v7 (ix2 k 0))
  tq n h l := V m c main_v30 (ix3 h l n)
  tk n h l := V m c main_v32 (ix3 h n l)
  tv n h l := V m c main_v34 (ix3 h n l)
  Wq h j l := V m c main_v28 (ix3 h ⟨j.val, by omega⟩ l)
  Wk h j l := V m c main_v28 (ix3 h ⟨256 + j.val, by omega⟩ l)
  cq n j := V m c main_v22 (ix2 n ⟨j.val, by omega⟩)
  gq j := V m c main_v35 (ix2 0 j)
  ck n j := V m c main_v22 (ix2 n ⟨256 + j.val, by omega⟩)
  gk j := V m c main_v36 (ix2 0 j)
  x n d := V m c main_arg0 (ix2 n d)
  dr n d := V m c main_arg10 (ix2 n d)
  rest n e := V m c main_v37 (ix2 n e)
  w d e := V m c main_v15 (ix2 d e)

section Rows
variable (t : Fin cfg0.N) (r : Fin 512)
theorem row_C : cosR (iblk m c 4 t) (iblk m c 5 t) r = (data m c).C (grow t r) :=
  funext fun k => by unfold cosR; rw [blk4, blk5]; rfl
theorem row_S : sinR (iblk m c 4 t) (iblk m c 5 t) r = (data m c).S (grow t r) :=
  funext fun k => by unfold sinR; rw [blk4, blk5]; rfl
theorem row_tq : tqR (iblk m c 0 t) r = (data m c).tq (grow t r) := funext fun h => funext fun l => blk0 m c t h l r
theorem row_tk : tkR (iblk m c 1 t) r = (data m c).tk (grow t r) := funext fun h => funext fun l => blk1 m c t h l r
theorem row_tv : tkR (iblk m c 2 t) r = (data m c).tv (grow t r) := funext fun h => funext fun l => blk2 m c t h l r
theorem row_cq : cqR (iblk m c 3 t) r = (data m c).cq (grow t r) := funext fun j => blk3 m c t r _
theorem row_ck : ckR (iblk m c 3 t) r = (data m c).ck (grow t r) := funext fun j => blk3 m c t r _
theorem row_Wq : WqR (iblk m c 6 t) = (data m c).Wq := funext fun h => funext fun j => funext fun l => blk6 m c t h _ l
theorem row_Wk : WkR (iblk m c 6 t) = (data m c).Wk := funext fun h => funext fun j => funext fun l => blk6 m c t h _ l
theorem row_gq : gqR (iblk m c 7 t) = (data m c).gq := funext fun j => blk7 m c t j
theorem row_gk : gkR (iblk m c 8 t) = (data m c).gk := funext fun j => blk8 m c t j

theorem row_dh (e : Fin 512) : dhV (iblk m c 0 t) (iblk m c 1 t) (iblk m c 2 t) (iblk m c 3 t) (iblk m c 4 t) (iblk m c 5 t) (iblk m c 6 t)
    (iblk m c 7 t) (iblk m c 8 t) (ix2 r e) = (data m c).dhRow (grow t r) e := by
  rw [dhV_apply, row_C, row_S, row_tq, row_tk, row_tv, row_cq, row_ck, row_Wq, row_Wk, row_gq, row_gk]; rfl
end Rows

/-- Sixteen steps of a running sum. -/
theorem acc16 (f : (n : ℕ) → n < 16 → EReal) (g : Fin 16 → EReal) (h0 : f 0 (by decide) = 0 + g 0)
    (hs : ∀ n (h : n + 1 < 16), f (n + 1) h = f n (Nat.lt_of_succ_lt h) + g ⟨n + 1, h⟩) : f 15 (by decide) = ∑ t, g t := by
  have key : ∀ n (h : n < 16), f n h = ∑ t ∈ Finset.range (n + 1), if h : t < 16 then g ⟨t, h⟩ else 0 := by
    intro n
    induction n with
    | zero => intro h; rw [h0, zero_add, Finset.sum_range_one]; rfl
    | succ n ih => intro h; rw [hs n h, ih, Finset.sum_range_succ _ (n + 1), dif_pos h]
  rw [key, Finset.sum_range]
  exact Finset.sum_congr rfl fun t _ => by rw [dif_pos t.isLt]

/-- A sum over the tiles and their rows is the sum over all rows. -/
theorem sum_rows (f : Fin 8192 → EReal) : ∑ t : Fin 16, ∑ r : Fin 512, f (grow t r) = ∑ n, f n :=
  (Fin.sum_univ_tiles 16 512 (by decide) f).symm

/-! The contributions of one point. -/
section Points
variable (t : Fin cfg0.N)
theorem g14 (o : Vec Ideal S1024x2560 .f32) (d : Fin 1024) (e : Fin 2560) :
    G14 (dhV (iblk m c 0 t) (iblk m c 1 t) (iblk m c 2 t) (iblk m c 3 t) (iblk m c 4 t) (iblk m c 5 t) (iblk m c 6 t) (iblk m c 7 t) (iblk m c 8 t))
      (iblk m c 9 t) (iblk m c 11 t) o d e = o (ix2 d e) + ∑ r : Fin 512, (data m c).x (grow t r) d * (data m c).dproj (grow t r) e := by
  unfold G14 Cert.Tail.Data.dproj
  by_cases he : e.val < 512
  · simp only [dif_pos he]
    exact congrArg _ (Finset.sum_congr rfl fun r _ => by rw [row_dh, blk9]; rfl)
  · simp only [dif_neg he]
    exact congrArg _ (Finset.sum_congr rfl fun r _ => by rw [blk9, blk11]; rfl)
theorem g15_q (o : Vec Ideal S8x384x128 .f32) (h : Fin 8) (j : Fin 256) (l : Fin 128) :
    G15 (dwqV (iblk m c 0 t) (iblk m c 3 t) (iblk m c 4 t) (iblk m c 5 t) (iblk m c 7 t))
      (dwkvV (iblk m c 1 t) (iblk m c 2 t) (iblk m c 3 t) (iblk m c 8 t)) o h ⟨j.val, by omega⟩ l = o (ix3 h ⟨j.val, by omega⟩ l)
      + ∑ r : Fin 512, Cert.Tail.hat Cert.Tail.n256 ((data m c).cq (grow t r)) j * (data m c).gq j
          * Cert.Tail.dq ((data m c).C (grow t r)) ((data m c).S (grow t r)) ((data m c).tq (grow t r)) h l := by
  unfold G15
  rw [dif_pos j.isLt]
  exact congrArg _ ((dwqV_apply _ _ _ _ _ h j l).trans (Finset.sum_congr rfl fun r _ => by rw [row_cq, row_gq, row_C, row_S, row_tq]))
theorem g15_k (o : Vec Ideal S8x384x128 .f32) (h : Fin 8) (j : Fin 128) (l : Fin 128) :
    G15 (dwqV (iblk m c 0 t) (iblk m c 3 t) (iblk m c 4 t) (iblk m c 5 t) (iblk m c 7 t))
      (dwkvV (iblk m c 1 t) (iblk m c 2 t) (iblk m c 3 t) (iblk m c 8 t)) o h ⟨256 + j.val, by omega⟩ l = o (ix3 h ⟨256 + j.val, by omega⟩ l)
      + ∑ r : Fin 512, Cert.Tail.hat Cert.Tail.n128 ((data m c).ck (grow t r)) j * (data m c).gk j
          * Cert.Tail.dkv ((data m c).tk (grow t r)) ((data m c).tv (grow t r)) h l := by
  unfold G15
  rw [dif_neg (by show ¬ 256 + j.val < 256; omega)]
  have hj : (⟨256 + j.val - 256, by omega⟩ : Fin 128) = j := Fin.ext (by show 256 + j.val - 256 = j.val; omega)
  simp only [hj]
  exact congrArg _ ((dwkvV_apply _ _ _ _ h j l).trans (Finset.sum_congr rfl fun r _ => by rw [row_ck, row_gk, row_tk, row_tv]))
theorem g16 (o : Vec Ideal S1x256 .f32) (j : Fin 256) :
    k0_pay105 (k0_pay23 (slCq (iblk m c 3 t))) (dcqV (iblk m c 0 t) (iblk m c 4 t) (iblk m c 5 t) (iblk m c 6 t)) o (ix2 0 j) = o (ix2 0 j)
      + ∑ r : Fin 512, Cert.Tail.dcq ((data m c).C (grow t r)) ((data m c).S (grow t r)) ((data m c).tq (grow t r)) (data m c).Wq j
          * Cert.Tail.hat Cert.Tail.n256 ((data m c).cq (grow t r)) j := by
  rw [pay105_apply]
  exact congrArg _ (Finset.sum_congr rfl fun r _ => by rw [dcqV_apply, pay23_apply, row_cq, row_C, row_S, row_tq, row_Wq])
theorem g17 (o : Vec Ideal S1x128 .f32) (j : Fin 128) :
    k0_pay106 (k0_pay24 (slCkv (iblk m c 3 t))) (dckvV (iblk m c 1 t) (iblk m c 2 t) (iblk m c 6 t)) o (ix2 0 j) = o (ix2 0 j)
      + ∑ r : Fin 512, Cert.Tail.dckv ((data m c).tk (grow t r)) ((data m c).tv (grow t r)) (data m c).Wk j
          * Cert.Tail.hat Cert.Tail.n128 ((data m c).ck (grow t r)) j := by
  rw [pay106_apply]
  exact congrArg _ (Finset.sum_congr rfl fun r _ => by rw [dckvV_apply, pay24_apply, row_ck, row_tk, row_tv, row_Wk])
theorem gxV_apply (x0 : Vec Ideal S8x128x512 .f32) (x1 x2 : Vec Ideal S8x512x128 .f32) (x3 : Vec Ideal S512x512 .f32) (p : Vec Ideal S1x512 .i32)
    (w : Vec Ideal S16x1 .f32) (x6 : Vec Ideal S8x384x128 .bf16) (x7 : Vec Ideal S1x256 .f32) (x8 : Vec Ideal S1x128 .f32)
    (x10 : Vec Ideal S512x1024 .f32) (x11 : Vec Ideal S512x2048 .bf16) (x12 : Vec Ideal S1024x2560 .bf16) (r : Fin 512) (d : Fin 1024) :
    gxV x0 x1 x2 x3 p w x6 x7 x8 x10 x11 x12 (ix2 r d) =
      (Cert.Tail.alphaC * x10 (ix2 r d) + ∑ e : Fin 2048, x11 (ix2 r e) * x12 (ix2 d ⟨512 + e.val, by omega⟩))
        + ∑ e : Fin 512, dhV x0 x1 x2 x3 p w x6 x7 x8 (ix2 r e) * x12 (ix2 d ⟨e.val, by omega⟩) := by
  pointwise [gxV, k0_pay11, k0_pay9]
  rfl
theorem g13 (r : Fin 512) (d : Fin 1024) :
    gxV (iblk m c 0 t) (iblk m c 1 t) (iblk m c 2 t) (iblk m c 3 t) (iblk m c 4 t) (iblk m c 5 t) (iblk m c 6 t) (iblk m c 7 t) (iblk m c 8 t)
      (iblk m c 10 t) (iblk m c 11 t) (iblk m c 12 t) (ix2 r d) = (data m c).gx (grow t r) d := by
  rw [gxV_apply, blk10]
  refine congrArg₂ _ (congrArg _ (Finset.sum_congr rfl fun e _ => ?_)) (Finset.sum_congr rfl fun e _ => ?_)
  · rw [blk11, blk12]; rfl
  · rw [row_dh, blk12]; rfl
theorem pt13 (r : Fin 512) (d : Fin 1024) : (outsAt0 m c t.val t.isLt).1 (ix2 r d) = (data m c).gx (grow t r) d := by
  by_cases h0 : t.val % 16 = 0
  · rw [outsAt0_A m c t h0]; dsimp only; rw [out13_A]; exact g13 m c t r d
  · rw [outsAt0_B m c t h0]; dsimp only; rw [out13_B]; exact g13 m c t r d
end Points

theorem zero4 (i : S1024x2560.Idx) : k0_pay4 (F := Ideal) i = 0 := by
  idx_vars i; pointwise [k0_pay4]
theorem zero5 (i : S8x384x128.Idx) : k0_pay5 (F := Ideal) i = 0 := by
  idx_vars i; pointwise [k0_pay5]
theorem zero6 (i : S1x256.Idx) : k0_pay6 (F := Ideal) i = 0 := by
  idx_vars i; pointwise [k0_pay6]
theorem zero7 (i : S1x128.Idx) : k0_pay7 (F := Ideal) i = 0 := by
  idx_vars i; pointwise [k0_pay7]

theorem last14 (d : Fin 1024) (e : Fin 2560) : (outsAt0 m c 15 (by decide)).2.1 (ix2 d e) = (data m c).win d e := by
  refine (acc16 (fun n h => (outsAt0 m c n h).2.1 (ix2 d e)) (fun t => ∑ r : Fin 512, (data m c).x (grow t r) d * (data m c).dproj (grow t r) e) ?_ ?_).trans
    (sum_rows fun n => (data m c).x n d * (data m c).dproj n e)
  · show (outsAt0 m c (⟨0, by decide⟩ : Fin cfg0.N).val _).2.1 (ix2 d e) = _
    rw [outsAt0_A m c ⟨0, by decide⟩ rfl]; dsimp only; rw [out14_A]
    refine (g14 m c ⟨0, by decide⟩ _ d e).trans ?_
    rw [zero4]; rfl
  · intro n h
    show (outsAt0 m c (⟨n + 1, h⟩ : Fin cfg0.N).val _).2.1 (ix2 d e) = _
    rw [outsAt0_B m c ⟨n + 1, h⟩ (by show ¬ (n + 1) % 16 = 0; omega)]; dsimp only; rw [out14_B]
    exact g14 m c ⟨n + 1, h⟩ _ d e
theorem last15_q (h : Fin 8) (j : Fin 256) (l : Fin 128) : (outsAt0 m c 15 (by decide)).2.2.1 (ix3 h ⟨j.val, by omega⟩ l) = (data m c).wq h j l := by
  refine (acc16 (fun n hn => (outsAt0 m c n hn).2.2.1 (ix3 h ⟨j.val, by omega⟩ l)) (fun t => ∑ r : Fin 512,
      Cert.Tail.hat Cert.Tail.n256 ((data m c).cq (grow t r)) j * (data m c).gq j
          * Cert.Tail.dq ((data m c).C (grow t r)) ((data m c).S (grow t r)) ((data m c).tq (grow t r)) h l) ?_ ?_).trans
    (sum_rows fun n => Cert.Tail.hat Cert.Tail.n256 ((data m c).cq n) j * (data m c).gq j
          * Cert.Tail.dq ((data m c).C n) ((data m c).S n) ((data m c).tq n) h l)
  · show (outsAt0 m c (⟨0, by decide⟩ : Fin cfg0.N).val _).2.2.1 _ = _
    rw [outsAt0_A m c ⟨0, by decide⟩ rfl]; dsimp only; rw [out15_A]
    refine (g15_q m c ⟨0, by decide⟩ _ h j l).trans ?_
    rw [zero5]; rfl
  · intro n hn
    show (outsAt0 m c (⟨n + 1, hn⟩ : Fin cfg0.N).val _).2.2.1 _ = _
    rw [outsAt0_B m c ⟨n + 1, hn⟩ (by show ¬ (n + 1) % 16 = 0; omega)]; dsimp only; rw [out15_B]
    exact g15_q m c ⟨n + 1, hn⟩ _ h j l
theorem last15_k (h : Fin 8) (j : Fin 128) (l : Fin 128) :
    (outsAt0 m c 15 (by decide)).2.2.1 (ix3 h ⟨256 + j.val, by omega⟩ l) = (data m c).wkv h j l := by
  refine (acc16 (fun n hn => (outsAt0 m c n hn).2.2.1 (ix3 h ⟨256 + j.val, by omega⟩ l)) (fun t => ∑ r : Fin 512,
      Cert.Tail.hat Cert.Tail.n128 ((data m c).ck (grow t r)) j * (data m c).gk j
          * Cert.Tail.dkv ((data m c).tk (grow t r)) ((data m c).tv (grow t r)) h l) ?_ ?_).trans
    (sum_rows fun n => Cert.Tail.hat Cert.Tail.n128 ((data m c).ck n) j * (data m c).gk j
          * Cert.Tail.dkv ((data m c).tk n) ((data m c).tv n) h l)
  · show (outsAt0 m c (⟨0, by decide⟩ : Fin cfg0.N).val _).2.2.1 _ = _
    rw [outsAt0_A m c ⟨0, by decide⟩ rfl]; dsimp only; rw [out15_A]
    refine (g15_k m c ⟨0, by decide⟩ _ h j l).trans ?_
    rw [zero5]; rfl
  · intro n hn
    show (outsAt0 m c (⟨n + 1, hn⟩ : Fin cfg0.N).val _).2.2.1 _ = _
    rw [outsAt0_B m c ⟨n + 1, hn⟩ (by show ¬ (n + 1) % 16 = 0; omega)]; dsimp only; rw [out15_B]
    exact g15_k m c ⟨n + 1, hn⟩ _ h j l
theorem last16 (j : Fin 256) : (outsAt0 m c 15 (by decide)).2.2.2.1 (ix2 0 j) = (data m c).qg j := by
  refine (acc16 (fun n hn => (outsAt0 m c n hn).2.2.2.1 (ix2 0 j)) (fun t => ∑ r : Fin 512,
      Cert.Tail.dcq ((data m c).C (grow t r)) ((data m c).S (grow t r)) ((data m c).tq (grow t r)) (data m c).Wq j
          * Cert.Tail.hat Cert.Tail.n256 ((data m c).cq (grow t r)) j) ?_ ?_).trans
    (sum_rows fun n => Cert.Tail.dcq ((data m c).C n) ((data m c).S n) ((data m c).tq n) (data m c).Wq j
          * Cert.Tail.hat Cert.Tail.n256 ((data m c).cq n) j)
  · show (outsAt0 m c (⟨0, by decide⟩ : Fin cfg0.N).val _).2.2.2.1 _ = _
    rw [outsAt0_A m c ⟨0, by decide⟩ rfl]; dsimp only; rw [out16_A]
    refine (g16 m c ⟨0, by decide⟩ _ j).trans ?_
    rw [zero6]; rfl
  · intro n hn
    show (outsAt0 m c (⟨n + 1, hn⟩ : Fin cfg0.N).val _).2.2.2.1 _ = _
    rw [outsAt0_B m c ⟨n + 1, hn⟩ (by show ¬ (n + 1) % 16 = 0; omega)]; dsimp only; rw [out16_B]
    exact g16 m c ⟨n + 1, hn⟩ _ j
theorem last17 (j : Fin 128) : (outsAt0 m c 15 (by decide)).2.2.2.2 (ix2 0 j) = (data m c).kvg j := by
  refine (acc16 (fun n hn => (outsAt0 m c n hn).2.2.2.2 (ix2 0 j)) (fun t => ∑ r : Fin 512,
      Cert.Tail.dckv ((data m c).tk (grow t r)) ((data m c).tv (grow t r)) (data m c).Wk j
          * Cert.Tail.hat Cert.Tail.n128 ((data m c).ck (grow t r)) j) ?_ ?_).trans
    (sum_rows fun n => Cert.Tail.dckv ((data m c).tk n) ((data m c).tv n) (data m c).Wk j
          * Cert.Tail.hat Cert.Tail.n128 ((data m c).ck n) j)
  · show (outsAt0 m c (⟨0, by decide⟩ : Fin cfg0.N).val _).2.2.2.2 _ = _
    rw [outsAt0_A m c ⟨0, by decide⟩ rfl]; dsimp only; rw [out17_A]
    refine (g17 m c ⟨0, by decide⟩ _ j).trans ?_
    rw [zero7]; rfl
  · intro n hn
    show (outsAt0 m c (⟨n + 1, hn⟩ : Fin cfg0.N).val _).2.2.2.2 _ = _
    rw [outsAt0_B m c ⟨n + 1, hn⟩ (by show ¬ (n + 1) % 16 = 0; omega)]; dsimp only; rw [out17_B]
    exact g17 m c ⟨n + 1, hn⟩ _ j
end Cert.KernelIdeal.Tail
-- ==== Proof.Host.lean ====
module
public import proofs.«01_k».proof.Proof.Gen.KernelIdeal.Frame
public import proofs.«01_k».proof.Proof.Args
public import proofs.«01_k».proof.Proof.Accum
public import Idealize.ShloMosaic.Lib.Pointwise
public import Idealize.ShloMosaic.Lib.Claim
public import Idealize.ShloMosaic.Lib.Pipeline.ValueKit.Geometry
@[expose] public section
set_option maxRecDepth 16384
noncomputable section
namespace Cert.KernelIdeal.Tail
open Cert.KernelIdeal Cert.KernelIdeal.Gen Idealize.ShloMosaic Idealize.ShloMosaic.TcCoe Idealize.SL.Sem
/-! What the host makes of the arguments before the call. -/
variable (m : (ℓ : Loc nD τ sig) → Buf (Elt Ideal) ℓ) (c : Dev nD)

/-- A buffer read after a stretch of operations is what the operation that wrote it left. -/
theorem after_append (l r : List (HloOp τ sig (Elt Ideal))) (σ : Valuation τ sig (Elt Ideal)) :
    StableHlo.after (l ++ r) σ = StableHlo.after r (StableHlo.after l σ) := by
  induction l generalizing σ with
  | nil => rfl
  | cons op l ih => exact ih _
theorem after_split (l : List (HloOp τ sig (Elt Ideal))) (n : Nat) (op : HloOp τ sig (Elt Ideal)) (r : List (HloOp τ sig (Elt Ideal)))
    (hl : l.drop n = op :: r) (σ : Valuation τ sig (Elt Ideal)) (b : DevRef τ sig) (hr : ∀ o ∈ r, b ∉ o.writes) :
    StableHlo.after l σ b = op.result (StableHlo.after (l.take n) σ) b := by
  conv_lhs => rw [← List.take_append_drop n l, hl, after_append, StableHlo.after_cons]
  exact StableHlo.after_of_forall_not_mem _ _ hr
/-- Five pieces side by side. -/
def cat1024 (u0 : Vec Ideal S1024x384 .f32) (u1 : Vec Ideal S1024x64 .f32) (u2 : Vec Ideal S1024x32 .f32) (u3 : Vec Ideal S1024x32 .f32) (u4 : Vec Ideal S1024x2048 .f32) : Vec Ideal S1024x2560 .f32 :=
  concatenate S1024x2560 1 [⟨S1024x384, u0⟩, ⟨S1024x64, u1⟩, ⟨S1024x32, u2⟩, ⟨S1024x32, u3⟩, ⟨S1024x2048, u4⟩] concatenates_S1024x384_S1024x64_S1024x32_S1024x32_S1024x2048_S1024x2560_d1
theorem cat1024_apply (u0 : Vec Ideal S1024x384 .f32) (u1 : Vec Ideal S1024x64 .f32) (u2 : Vec Ideal S1024x32 .f32) (u3 : Vec Ideal S1024x32 .f32) (u4 : Vec Ideal S1024x2048 .f32) (d : Fin 1024) (e : Fin 2560) : cat1024 u0 u1 u2 u3 u4 (ix2 d e) =
    if h : e.val < 384 then u0 (ix2 d ⟨e.val, h⟩) else if h : e.val - 384 < 64 then u1 (ix2 d ⟨e.val - 384, h⟩)
    else if h : e.val - 384 - 64 < 32 then u2 (ix2 d ⟨e.val - 384 - 64, h⟩) else if h : e.val - 384 - 64 - 32 < 32 then u3 (ix2 d ⟨e.val - 384 - 64 - 32, h⟩)
    else u4 (ix2 d ⟨e.val - 384 - 64 - 32 - 32, by omega⟩) := by
  pointwise [cat1024]
/-- Five pieces side by side. -/
def cat8192 (u0 : Vec Ideal S8192x384 .f32) (u1 : Vec Ideal S8192x64 .f32) (u2 : Vec Ideal S8192x32 .f32) (u3 : Vec Ideal S8192x32 .f32) (u4 : Vec Ideal S8192x2048 .f32) : Vec Ideal S8192x2560 .f32 :=
  concatenate S8192x2560 1 [⟨S8192x384, u0⟩, ⟨S8192x64, u1⟩, ⟨S8192x32, u2⟩, ⟨S8192x32, u3⟩, ⟨S8192x2048, u4⟩] concatenates_S8192x384_S8192x64_S8192x32_S8192x32_S8192x2048_S8192x2560_d1
theorem cat8192_apply (u0 : Vec Ideal S8192x384 .f32) (u1 : Vec Ideal S8192x64 .f32) (u2 : Vec Ideal S8192x32 .f32) (u3 : Vec Ideal S8192x32 .f32) (u4 : Vec Ideal S8192x2048 .f32) (d : Fin 8192) (e : Fin 2560) : cat8192 u0 u1 u2 u3 u4 (ix2 d e) =
    if h : e.val < 384 then u0 (ix2 d ⟨e.val, h⟩) else if h : e.val - 384 < 64 then u1 (ix2 d ⟨e.val - 384, h⟩)
    else if h : e.val - 384 - 64 < 32 then u2 (ix2 d ⟨e.val - 384 - 64, h⟩) else if h : e.val - 384 - 64 - 32 < 32 then u3 (ix2 d ⟨e.val - 384 - 64 - 32, h⟩)
    else u4 (ix2 d ⟨e.val - 384 - 64 - 32 - 32, by omega⟩) := by
  pointwise [cat8192]

theorem Vv15 (d : Fin 1024) (e : Fin 2560) : V m c main_v15 (ix2 d e) = cat1024 (StableHlo.after (hostOps0.take 19) (fun b => m (c, b)) (Proc.devRef .tc main_v9)) (StableHlo.after (hostOps0.take 19) (fun b => m (c, b)) (Proc.devRef .tc main_v10)) (StableHlo.after (hostOps0.take 19) (fun b => m (c, b)) (Proc.devRef .tc main_v11)) (StableHlo.after (hostOps0.take 19) (fun b => m (c, b)) (Proc.devRef .tc main_v12)) (StableHlo.after (hostOps0.take 19) (fun b => m (c, b)) (Proc.devRef .tc main_v13)) (ix2 d e) := by
  refine congrFun (f := V m c main_v15) ((after_split (List.flatten [hostOps0, hostOps0_1, hostOps0_2, hostOps0_3, hostOps0_4, hostOps0_5, hostOps0_6, hostOps0_7, hostOps0_8]) 20 _ (List.drop 21 (List.flatten [hostOps0, hostOps0_1, hostOps0_2, hostOps0_3, hostOps0_4, hostOps0_5, hostOps0_6, hostOps0_7, hostOps0_8])) rfl _ (Proc.devRef .tc main_v15) ?_).trans ?_) (ix2 d e)
  · refine List.forall_iff_forall_mem.mp ?_
    simp only [hostOps0, hostOps0_1, hostOps0_2, hostOps0_3, hostOps0_4, hostOps0_5, hostOps0_6, hostOps0_7, hostOps0_8, List.flatten_cons, List.flatten_nil, List.append_nil, List.cons_append, List.nil_append, List.drop_succ_cons, List.drop_zero, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
  · refine (StableHlo.unary_result ..).trans ?_
    refine (after_split (List.take 20 (List.flatten [hostOps0, hostOps0_1, hostOps0_2, hostOps0_3, hostOps0_4, hostOps0_5, hostOps0_6, hostOps0_7, hostOps0_8])) 19 _ [] rfl _ (Proc.devRef .tc main_v14) (fun o h => nomatch h)).trans ?_
    exact StableHlo.nary_result ..
theorem Vv22 (d : Fin 8192) (e : Fin 2560) : V m c main_v22 (ix2 d e) = cat8192 (StableHlo.after (hostOps0.take 29) (fun b => m (c, b)) (Proc.devRef .tc main_v17)) (StableHlo.after (hostOps0.take 29) (fun b => m (c, b)) (Proc.devRef .tc main_v18)) (StableHlo.after (hostOps0.take 29) (fun b => m (c, b)) (Proc.devRef .tc main_v19)) (StableHlo.after (hostOps0.take 29) (fun b => m (c, b)) (Proc.devRef .tc main_v20)) (StableHlo.after (hostOps0.take 29) (fun b => m (c, b)) (Proc.devRef .tc main_v21)) (ix2 d e) := by
  refine congrFun (f := V m c main_v22) ((after_split (List.flatten [hostOps0, hostOps0_1, hostOps0_2, hostOps0_3, hostOps0_4, hostOps0_5, hostOps0_6, hostOps0_7, hostOps0_8]) 29 _ (List.drop 30 (List.flatten [hostOps0, hostOps0_1, hostOps0_2, hostOps0_3, hostOps0_4, hostOps0_5, hostOps0_6, hostOps0_7, hostOps0_8])) rfl _ (Proc.devRef .tc main_v22) ?_).trans ?_) (ix2 d e)
  · refine List.forall_iff_forall_mem.mp ?_
    simp only [hostOps0, hostOps0_1, hostOps0_2, hostOps0_3, hostOps0_4, hostOps0_5, hostOps0_6, hostOps0_7, hostOps0_8, List.flatten_cons, List.flatten_nil, List.append_nil, List.cons_append, List.nil_append, List.drop_succ_cons, List.drop_zero, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
  · exact StableHlo.nary_result ..

/-- The arguments the launch finds, entry by entry. -/
def args : Cert.Tail.Args where
  x n d := (m (c, Proc.tc.devRef main_arg0) : Vec Ideal S8192x1024 .f32) (ix2 n d)
  pos n := FloatOps.sitofp (F := Ideal) FTy.f32 ((m (c, Proc.tc.devRef main_arg1) : Vec Ideal S8192 .i32) (ix1 n))
  win d e := (m (c, Proc.tc.devRef main_arg2) : Vec Ideal S1024x2464 .f32) (ix2 d e)
  qg j := (m (c, Proc.tc.devRef main_arg3) : Vec Ideal S256 .f32) (ix1 j)
  wuq j e := (m (c, Proc.tc.devRef main_arg4) : Vec Ideal S256x768 .f32) (ix2 j e)
  kg j := (m (c, Proc.tc.devRef main_arg5) : Vec Ideal S128 .f32) (ix1 j)
  wukv j e := (m (c, Proc.tc.devRef main_arg6) : Vec Ideal S128x1024 .f32) (ix2 j e)
  ctq n h l := (m (c, Proc.tc.devRef main_arg7) : Vec Ideal S8192x8x96 .f32) (ix3 n h l)
  ctk n h l := (m (c, Proc.tc.devRef main_arg8) : Vec Ideal S8192x8x96 .f32) (ix3 n h l)
  ctv n h l := (m (c, Proc.tc.devRef main_arg9) : Vec Ideal S8192x8x64 .f32) (ix3 n h l)
  dr n d := (m (c, Proc.tc.devRef main_arg10) : Vec Ideal S8192x1024 .f32) (ix2 n d)
  rest n e := (m (c, Proc.tc.devRef main_arg11) : Vec Ideal S8192x2048 .f32) (ix2 n e)

theorem sitofp_zero : FloatOps.sitofp (F := Ideal) FTy.f32 0#32 = (0 : EReal) := by
  show ((((0#32 : BitVec 32).toInt : ℤ) : ℝ) : EReal) = 0
  simp
theorem h_v8 (n : Fin 8192) : V m c main_v8 (ix2 0 n) = (m (c, Proc.tc.devRef main_arg1) : Vec Ideal S8192 .i32) (ix1 n) := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  try simp only [StableHlo.TRef.toBuf, StableHlo.TRef.ofBuf, cast_eq]
  pointwise
theorem h_v7 (k : Fin 16) : V m c main_v7 (ix2 k 0) = Cert.Tail.invf k := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  try simp only [StableHlo.TRef.toBuf, StableHlo.TRef.ofBuf, cast_eq]
  pointwise
  rfl
theorem h_v30 (h : Fin 8) (l : Fin 128) (n : Fin 8192) : V m c main_v30 (ix3 h l n) = (args m c).data.tq n h l := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  try simp only [StableHlo.TRef.toBuf, StableHlo.TRef.ofBuf, cast_eq]
  pointwise
  rw [sitofp_zero]; rfl
theorem h_v32 (h : Fin 8) (l : Fin 128) (n : Fin 8192) : V m c main_v32 (ix3 h n l) = (args m c).data.tk n h l := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  try simp only [StableHlo.TRef.toBuf, StableHlo.TRef.ofBuf, cast_eq]
  pointwise
  rw [sitofp_zero]; rfl
theorem h_v34 (h : Fin 8) (l : Fin 128) (n : Fin 8192) : V m c main_v34 (ix3 h n l) = (args m c).data.tv n h l := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  try simp only [StableHlo.TRef.toBuf, StableHlo.TRef.ofBuf, cast_eq]
  pointwise
  rw [sitofp_zero]
  have hp : (64 ≤ l.val ∧ l.val - 64 < 64) = (64 ≤ l.val) := propext ⟨And.left, fun h => ⟨h, by omega⟩⟩
  simp only [hp]; rfl
theorem h_v28q (h : Fin 8) (j : Fin 256) (l : Fin 128) : V m c main_v28 (ix3 h ⟨j.val, by omega⟩ l) = (args m c).data.Wq h j l := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  try simp only [StableHlo.TRef.toBuf, StableHlo.TRef.ofBuf, cast_eq]
  pointwise
  rw [sitofp_zero]; rfl
theorem h_v28k (h : Fin 8) (j : Fin 128) (l : Fin 128) : V m c main_v28 (ix3 h ⟨256 + j.val, by omega⟩ l) = (args m c).data.Wk h j l := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  try simp only [StableHlo.TRef.toBuf, StableHlo.TRef.ofBuf, cast_eq]
  pointwise
  rfl
theorem h_v35 (j : Fin 256) : V m c main_v35 (ix2 0 j) = (args m c).qg j := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  try simp only [StableHlo.TRef.toBuf, StableHlo.TRef.ofBuf, cast_eq]
  pointwise
  rfl
theorem h_v36 (j : Fin 128) : V m c main_v36 (ix2 0 j) = (args m c).kg j := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  try simp only [StableHlo.TRef.toBuf, StableHlo.TRef.ofBuf, cast_eq]
  pointwise
  rfl
theorem h_v37 (n : Fin 8192) (e : Fin 2048) : V m c main_v37 (ix2 n e) = (args m c).rest n e := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  try simp only [StableHlo.TRef.toBuf, StableHlo.TRef.ofBuf, cast_eq]
  pointwise
  rfl

theorem u_v9 (d : Fin 1024) (e : Fin 384) : (StableHlo.after (hostOps0.take 19) (fun b => m (c, b)) (Proc.devRef .tc main_v9) : Vec Ideal S1024x384 .f32) (ix2 d e) = (args m c).win d ⟨e.val, by omega⟩ := by
  simp only [hostOps0, List.take_succ_cons, List.take_zero]
  entry_read
  pointwise
  rfl
theorem u_v10 (d : Fin 1024) (e : Fin 64) : (StableHlo.after (hostOps0.take 19) (fun b => m (c, b)) (Proc.devRef .tc main_v10) : Vec Ideal S1024x64 .f32) (ix2 d e) = (0 : EReal) := by
  simp only [hostOps0, List.take_succ_cons, List.take_zero]
  entry_read
  pointwise
  try rfl
theorem u_v11 (d : Fin 1024) (e : Fin 32) : (StableHlo.after (hostOps0.take 19) (fun b => m (c, b)) (Proc.devRef .tc main_v11) : Vec Ideal S1024x32 .f32) (ix2 d e) = (args m c).win d ⟨384 + e.val, by omega⟩ := by
  simp only [hostOps0, List.take_succ_cons, List.take_zero]
  entry_read
  pointwise
  rfl
theorem u_v12 (d : Fin 1024) (e : Fin 32) : (StableHlo.after (hostOps0.take 19) (fun b => m (c, b)) (Proc.devRef .tc main_v12) : Vec Ideal S1024x32 .f32) (ix2 d e) = (0 : EReal) := by
  simp only [hostOps0, List.take_succ_cons, List.take_zero]
  entry_read
  pointwise
  try rfl
theorem u_v13 (d : Fin 1024) (e : Fin 2048) : (StableHlo.after (hostOps0.take 19) (fun b => m (c, b)) (Proc.devRef .tc main_v13) : Vec Ideal S1024x2048 .f32) (ix2 d e) = (args m c).win d ⟨416 + e.val, by omega⟩ := by
  simp only [hostOps0, List.take_succ_cons, List.take_zero]
  entry_read
  pointwise
  rfl
theorem u_v17 (d : Fin 8192) (e : Fin 384) : (StableHlo.after (hostOps0.take 29) (fun b => m (c, b)) (Proc.devRef .tc main_v17) : Vec Ideal S8192x384 .f32) (ix2 d e) = (args m c).proj d ⟨e.val, by omega⟩ := by
  simp only [hostOps0, List.take_succ_cons, List.take_zero]
  entry_read
  pointwise
  rfl
theorem h_v15 (d : Fin 1024) (e : Fin 2560) : V m c main_v15 (ix2 d e) = (args m c).data.w d e := by
  rw [Vv15]
  rw [cat1024_apply]
  show _ = if h1 : e.val < 384 then (args m c).win d ⟨e.val, by omega⟩ else if h2 : 448 ≤ e.val ∧ e.val < 480 then (args m c).win d ⟨e.val - 64, by omega⟩
    else if h3 : 512 ≤ e.val then (args m c).win d ⟨e.val - 96, by omega⟩ else 0
  by_cases h1 : e.val < 384
  · rw [dif_pos h1, dif_pos h1]; exact u_v9 m c d _
  rw [dif_neg h1, dif_neg h1]
  by_cases h2 : e.val - 384 < 64
  · rw [dif_pos h2, dif_neg (by omega), dif_neg (by omega)]; exact u_v10 m c d _
  rw [dif_neg h2]
  by_cases h3 : e.val - 384 - 64 < 32
  · rw [dif_pos h3, dif_pos (show 448 ≤ e.val ∧ e.val < 480 by omega)]; refine (u_v11 m c d _).trans (congrArg ((args m c).win d) (Fin.ext (by dsimp only; omega)))
  rw [dif_neg h3, dif_neg (show ¬(448 ≤ e.val ∧ e.val < 480) by omega)]
  by_cases h4 : e.val - 384 - 64 - 32 < 32
  · rw [dif_pos h4, dif_neg (by omega)]; exact u_v12 m c d _
  rw [dif_neg h4, dif_pos (by omega)]
  exact (u_v13 m c d _).trans (congrArg ((args m c).win d) (Fin.ext (by dsimp only; omega)))
theorem h_v22 (d : Fin 8192) (e : Fin 2560) (he : e.val < 384) : V m c main_v22 (ix2 d e) = (args m c).proj d ⟨e.val, by omega⟩ := by
  rw [Vv22]
  rw [cat8192_apply, dif_pos he]; exact u_v17 m c d _

theorem h_C (n : Fin 8192) (k : Fin 16) : (data m c).C n k = (args m c).data.C n k := by
  have a := h_v8 m c n
  have b := h_v7 m c k
  have e : (data m c).C n k = Ideal.cos (FloatOps.sitofp (F := Ideal) FTy.f32 (w := 32) (V m c main_v8 (ix2 0 n)) * V m c main_v7 (ix2 k 0)) := rfl
  rw [e]
  clear e
  generalize V m c main_v8 (ix2 0 n) = p at *
  generalize V m c main_v7 (ix2 k 0) = q at *
  subst a b
  rfl
theorem h_S (n : Fin 8192) (k : Fin 16) : (data m c).S n k = (args m c).data.S n k := by
  have a := h_v8 m c n
  have b := h_v7 m c k
  have e : (data m c).S n k = Ideal.sin (FloatOps.sitofp (F := Ideal) FTy.f32 (w := 32) (V m c main_v8 (ix2 0 n)) * V m c main_v7 (ix2 k 0)) := rfl
  rw [e]
  clear e
  generalize V m c main_v8 (ix2 0 n) = p at *
  generalize V m c main_v7 (ix2 k 0) = q at *
  subst a b
  rfl
theorem h_x (n : Fin 8192) (d : Fin 1024) : (data m c).x n d = (args m c).data.x n d := by
  have e : (data m c).x n d = (V m c main_arg0 : Vec Ideal S8192x1024 .f32) (ix2 n d) := rfl
  rw [e, V_main_arg0]
  rfl
theorem h_dr (n : Fin 8192) (d : Fin 1024) : (data m c).dr n d = (args m c).data.dr n d := by
  have e : (data m c).dr n d = (V m c main_arg10 : Vec Ideal S8192x1024 .f32) (ix2 n d) := rfl
  rw [e, V_main_arg10]
  rfl
theorem h_Wq (h : Fin 8) (j : Fin 256) (l : Fin 128) : (data m c).Wq h j l = (args m c).data.Wq h j l := by
  have e : (data m c).Wq h j l = (V m c main_v28 : Vec Ideal S8x384x128 .bf16) (ix3 h ⟨j.val, by omega⟩ l) := rfl
  rw [e]
  exact h_v28q m c h j l
theorem h_Wk (h : Fin 8) (j : Fin 128) (l : Fin 128) : (data m c).Wk h j l = (args m c).data.Wk h j l := by
  have e : (data m c).Wk h j l = (V m c main_v28 : Vec Ideal S8x384x128 .bf16) (ix3 h ⟨256 + j.val, by omega⟩ l) := rfl
  rw [e]
  exact h_v28k m c h j l
theorem h_cq (n : Fin 8192) (j : Fin 256) : (data m c).cq n j = (args m c).data.cq n j := by
  have e : (data m c).cq n j = (V m c main_v22 : Vec Ideal S8192x2560 .f32) (ix2 n ⟨j.val, by omega⟩) := rfl
  rw [e]
  exact h_v22 m c n ⟨j.val, by omega⟩ (by show j.val < 384; omega)
theorem h_ck (n : Fin 8192) (j : Fin 128) : (data m c).ck n j = (args m c).data.ck n j := by
  have e : (data m c).ck n j = (V m c main_v22 : Vec Ideal S8192x2560 .f32) (ix2 n ⟨256 + j.val, by omega⟩) := rfl
  rw [e]
  exact h_v22 m c n ⟨256 + j.val, by omega⟩ (by show 256 + j.val < 384; omega)
theorem h_gq (j : Fin 256) : (data m c).gq j = (args m c).data.gq j := by
  have e : (data m c).gq j = (V m c main_v35 : Vec Ideal S1x256 .f32) (ix2 0 j) := rfl
  rw [e]
  exact h_v35 m c j
theorem h_gk (j : Fin 128) : (data m c).gk j = (args m c).data.gk j := by
  have e : (data m c).gk j = (V m c main_v36 : Vec Ideal S1x128 .f32) (ix2 0 j) := rfl
  rw [e]
  exact h_v36 m c j
theorem h_rest (n : Fin 8192) (e : Fin 2048) : (data m c).rest n e = (args m c).data.rest n e := by
  have e' : (data m c).rest n e = (V m c main_v37 : Vec Ideal S8192x2048 .bf16) (ix2 n e) := rfl
  rw [e']
  exact h_v37 m c n e
theorem h_w (d : Fin 1024) (e : Fin 2560) : (data m c).w d e = (args m c).data.w d e := by
  have e' : (data m c).w d e = (V m c main_v15 : Vec Ideal S1024x2560 .bf16) (ix2 d e) := rfl
  rw [e']
  exact h_v15 m c d e
theorem data_ext (D E : Cert.Tail.Data) (e0 : D.C = E.C) (e1 : D.S = E.S) (e2 : D.tq = E.tq) (e3 : D.tk = E.tk) (e4 : D.tv = E.tv) (e5 : D.Wq = E.Wq) (e6 : D.Wk = E.Wk) (e7 : D.cq = E.cq) (e8 : D.gq = E.gq) (e9 : D.ck = E.ck) (e10 : D.gk = E.gk) (e11 : D.x = E.x) (e12 : D.dr = E.dr) (e13 : D.rest = E.rest) (e14 : D.w = E.w) : D = E := by
  cases D; cases E
  simp only at e0 e1 e2 e3 e4 e5 e6 e7 e8 e9 e10 e11 e12 e13 e14
  subst e0 e1 e2 e3 e4 e5 e6 e7 e8 e9 e10 e11 e12 e13 e14
  rfl
/-- The data the kernel finds is the data of the arguments. -/
theorem data_eq : data m c = (args m c).data := by
  have e1 : (data m c).C = (args m c).data.C := funext fun n => funext fun k => h_C m c n k
  have e2 : (data m c).S = (args m c).data.S := funext fun n => funext fun k => h_S m c n k
  have e3 : (data m c).tq = (args m c).data.tq := funext fun n => funext fun h => funext fun l => h_v30 m c h l n
  have e4 : (data m c).tk = (args m c).data.tk := funext fun n => funext fun h => funext fun l => h_v32 m c h l n
  have e5 : (data m c).tv = (args m c).data.tv := funext fun n => funext fun h => funext fun l => h_v34 m c h l n
  have e6 : (data m c).Wq = (args m c).data.Wq := funext fun h => funext fun j => funext fun l => h_Wq m c h j l
  have e7 : (data m c).Wk = (args m c).data.Wk := funext fun h => funext fun j => funext fun l => h_Wk m c h j l
  have e8 : (data m c).cq = (args m c).data.cq := funext fun n => funext fun j => h_cq m c n j
  have e9 : (data m c).gq = (args m c).data.gq := funext fun j => h_gq m c j
  have e10 : (data m c).ck = (args m c).data.ck := funext fun n => funext fun j => h_ck m c n j
  have e11 : (data m c).gk = (args m c).data.gk := funext fun j => h_gk m c j
  have e12 : (data m c).x = (args m c).data.x := funext fun n => funext fun d => h_x m c n d
  have e13 : (data m c).dr = (args m c).data.dr := funext fun n => funext fun d => h_dr m c n d
  have e14 : (data m c).rest = (args m c).data.rest := funext fun n => funext fun e => h_rest m c n e
  have e15 : (data m c).w = (args m c).data.w := funext fun d => funext fun e => h_w m c d e
  exact data_ext _ _ e1 e2 e3 e4 e5 e6 e7 e8 e9 e10 e11 e12 e13 e14 e15
end Cert.KernelIdeal.Tail
-- ==== Proof.Outs.lean ====
module
public import proofs.«01_k».proof.Proof.Accum
public import proofs.«01_k».proof.Proof.Gen.KernelIdeal.Value
@[expose] public section
set_option maxRecDepth 16384
noncomputable section
namespace Cert.KernelIdeal.Tail
open Cert.KernelIdeal Cert.KernelIdeal.Gen Idealize.ShloMosaic Idealize.ShloMosaic.TcCoe Idealize.SL.Sem
variable (m : (ℓ : Loc nD τ sig) → Buf (Elt Ideal) ℓ) (c : Dev nD)

/-! The five result arrays after the run. -/

def heads (D : Cert.Tail.Data) (h : Fin 8) (j : Fin 384) (l : Fin 128) : EReal :=
  if hj : j.val < 256 then D.wq h ⟨j.val, hj⟩ l else D.wkv h ⟨j.val - 256, by omega⟩ l

theorem t_last (t : Fin cfg0.N) (h : t.val % 16 = 15) : t = ⟨15, by decide⟩ :=
  Fin.ext (by have := t.isLt; have h2 : cfg0.N = 16 := rfl; show t.val = 15; omega)

theorem heads_of (D : Cert.Tail.Data) (o : Vec Ideal S8x384x128 .f32)
    (hq : ∀ (h : Fin 8) (j : Fin 256) (l : Fin 128), o (ix3 h ⟨j.val, by omega⟩ l) = D.wq h j l)
    (hk : ∀ (h : Fin 8) (j : Fin 128) (l : Fin 128), o (ix3 h ⟨256 + j.val, by omega⟩ l) = D.wkv h j l)
    (h : Fin 8) (j : Fin 384) (l : Fin 128) : o (ix3 h j l) = heads D h j l := by
  unfold heads
  by_cases hj : j.val < 256
  · rw [dif_pos hj, ← hq h ⟨j.val, hj⟩ l]
  · rw [dif_neg hj, ← hk h ⟨j.val - 256, by omega⟩ l]
    exact congrArg (fun q => o (ix3 h q l)) (Fin.ext (by show j.val = 256 + (j.val - 256); omega))

theorem last15 (h : Fin 8) (j : Fin 384) (l : Fin 128) : (outsAt0 m c 15 (by decide)).2.2.1 (ix3 h j l) = heads (data m c) h j l :=
  heads_of _ _ (last15_q m c) (last15_k m c) h j l

theorem final13 : (dats m 0 c).arrAt 13 cfg0.N = fun y => (data m c).gx (y 0) (y 1) := by
  refine (dats m 0 c).arrAt_eq_of_covers 13 _ (by decide +kernel) fun t hf y => ?_
  have e0 : ((cfg0.win 13).blk t).view.emb y 0 = grow t (y 0) := Fin.ext (by blk_simp [idx_t t]; rfl)
  have e1 : ((cfg0.win 13).blk t).view.emb y 1 = y 1 := Fin.ext (by blk_simp [idx_t t])
  beta_reduce
  rw [e0, e1]
  blk_simp [idx_t t]
  rw [after0_13]
  exact (congrArg (outsAt0 m c t.val t.isLt).1 (show y = ix2 (y 0) (y 1) from funext fun a => match a with | ⟨0, _⟩ => rfl | ⟨1, _⟩ => rfl)).trans (pt13 m c t (y 0) (y 1))
theorem win14 (t : Fin cfg0.N) (hf : (cfg0.win 14).flush t = true) (d : Fin 1024) (e : Fin 2560) :
    (outsAt0 m c t.val t.isLt).2.1 (ix2 d e) = (data m c).win d e := by
  obtain rfl := t_last t ((flush0_14 t).mp hf); exact last14 m c d e
theorem win15 (t : Fin cfg0.N) (hf : (cfg0.win 15).flush t = true) (h : Fin 8) (j : Fin 384) (l : Fin 128) :
    (outsAt0 m c t.val t.isLt).2.2.1 (ix3 h j l) = heads (data m c) h j l := by
  obtain rfl := t_last t ((flush0_15 t).mp hf); exact last15 m c h j l
theorem win16 (t : Fin cfg0.N) (hf : (cfg0.win 16).flush t = true) (j : Fin 256) :
    (outsAt0 m c t.val t.isLt).2.2.2.1 (ix2 0 j) = (data m c).qg j := by
  obtain rfl := t_last t ((flush0_16 t).mp hf); exact last16 m c j
theorem win17 (t : Fin cfg0.N) (hf : (cfg0.win 17).flush t = true) (j : Fin 128) :
    (outsAt0 m c t.val t.isLt).2.2.2.2 (ix2 0 j) = (data m c).kvg j := by
  obtain rfl := t_last t ((flush0_17 t).mp hf); exact last17 m c j

theorem final14 : (dats m 0 c).arrAt 14 cfg0.N = fun y => (data m c).win (y 0) (y 1) := by
  refine (dats m 0 c).arrAt_eq_of_covers 14 _ (by decide +kernel) fun t hf y => ?_
  have e0 : ((cfg0.win 14).blk t).view.emb y 0 = y 0 := Fin.ext (by blk_simp [idx_t t])
  have e1 : ((cfg0.win 14).blk t).view.emb y 1 = y 1 := Fin.ext (by blk_simp [idx_t t])
  beta_reduce
  rw [e0, e1]
  blk_simp [idx_t t]
  rw [after0_14]
  exact (congrArg (outsAt0 m c t.val t.isLt).2.1 (show y = ix2 (y 0) (y 1) from funext fun a => match a with | ⟨0, _⟩ => rfl | ⟨1, _⟩ => rfl)).trans (win14 m c t hf (y 0) (y 1))
theorem final15 : (dats m 0 c).arrAt 15 cfg0.N = fun y => heads (data m c) (y 0) (y 1) (y 2) := by
  refine (dats m 0 c).arrAt_eq_of_covers 15 _ (by decide +kernel) fun t hf y => ?_
  have e0 : ((cfg0.win 15).blk t).view.emb y 0 = y 0 := Fin.ext (by blk_simp [idx_t t])
  have e1 : ((cfg0.win 15).blk t).view.emb y 1 = y 1 := Fin.ext (by blk_simp [idx_t t])
  have e2 : ((cfg0.win 15).blk t).view.emb y 2 = y 2 := Fin.ext (by blk_simp [idx_t t])
  beta_reduce
  rw [e0, e1, e2]
  blk_simp [idx_t t]
  rw [after0_15]
  exact (congrArg (outsAt0 m c t.val t.isLt).2.2.1 (show y = ix3 (y 0) (y 1) (y 2) from funext fun a => match a with | ⟨0, _⟩ => rfl | ⟨1, _⟩ => rfl | ⟨2, _⟩ => rfl)).trans (win15 m c t hf (y 0) (y 1) (y 2))
theorem final16 : (dats m 0 c).arrAt 16 cfg0.N = fun y => (data m c).qg (y 1) := by
  refine (dats m 0 c).arrAt_eq_of_covers 16 _ (by decide +kernel) fun t hf y => ?_
  have e1 : ((cfg0.win 16).blk t).view.emb y 1 = y 1 := Fin.ext (by blk_simp [idx_t t])
  beta_reduce
  rw [e1]
  blk_simp [idx_t t]
  rw [after0_16]
  exact (congrArg (outsAt0 m c t.val t.isLt).2.2.2.1 (show y = ix2 0 (y 1) from funext fun a => match a with | ⟨0, _⟩ => Subsingleton.elim (α := Fin 1) _ _ | ⟨1, _⟩ => rfl)).trans (win16 m c t hf (y 1))
theorem final17 : (dats m 0 c).arrAt 17 cfg0.N = fun y => (data m c).kvg (y 1) := by
  refine (dats m 0 c).arrAt_eq_of_covers 17 _ (by decide +kernel) fun t hf y => ?_
  have e1 : ((cfg0.win 17).blk t).view.emb y 1 = y 1 := Fin.ext (by blk_simp [idx_t t])
  beta_reduce
  rw [e1]
  blk_simp [idx_t t]
  rw [after0_17]
  exact (congrArg (outsAt0 m c t.val t.isLt).2.2.2.2 (show y = ix2 0 (y 1) from funext fun a => match a with | ⟨0, _⟩ => Subsingleton.elim (α := Fin 1) _ _ | ⟨1, _⟩ => rfl)).trans (win17 m c t hf (y 1))
end Cert.KernelIdeal.Tail
-- ==== Proof.Ref2.lean ====
module
public import proofs.«01_k».proof.Proof.Ref1
@[expose] public section
set_option maxRecDepth 16384
noncomputable section
namespace Cert.ReferenceIdeal.Tail
open Cert.ReferenceIdeal Cert.ReferenceIdeal.Gen Cert.ReferenceIdeal.Read Idealize.ShloMosaic Idealize.ShloMosaic.TcCoe Idealize.SL.Sem
/-! The cotangents of the heads. -/
variable (x0 : Vec Ideal S8192x1024 .f32) (x1 : Vec Ideal S8192 .i32) (x2 : Vec Ideal S1024x2464 .f32) (x3 : Vec Ideal S256 .f32) (x4 : Vec Ideal S256x768 .f32)
  (x5 : Vec Ideal S128 .f32) (x6 : Vec Ideal S128x1024 .f32) (x7 x8 : Vec Ideal S8192x8x96 .f32) (x9 : Vec Ideal S8192x8x64 .f32) (x10 : Vec Ideal S8192x1024 .f32)
  (x11 : Vec Ideal S8192x2048 .f32)

/-- The data of the call out of the arguments. -/
def dat : Cert.Tail.Data := (args x0 x1 x2 x3 x4 x5 x6 x7 x8 x9 x10 x11).data

theorem r112 (n : Fin 8192) (h : Fin 8) (l : Fin 96) : val_main_v112 x7 (ix3 n h l) = x7 (ix3 n h l) * Cert.Tail.scaleC := by
  pointwise [val_main_v112, val_main_v111, val_main_cst_16]
  rfl
theorem r115 (n : Fin 8192) (h : Fin 8) (l : Fin 64) : val_main_v115 x7 (ix3 n h l) = x7 (ix3 n h ⟨l.val, by omega⟩) * Cert.Tail.scaleC := by
  pointwise [val_main_v115]
  rw [r112]
theorem r159 (n : Fin 8192) (h : Fin 8) (l : Fin 16) : val_main_v159 x7 (ix3 n h l) = x7 (ix3 n h ⟨64 + l.val, by omega⟩) * Cert.Tail.scaleC := by
  pointwise [val_main_v159, val_main_v116]
  rw [r112]
theorem r160 (n : Fin 8192) (h : Fin 8) (l : Fin 16) : val_main_v160 x7 (ix3 n h l) = x7 (ix3 n h ⟨80 + l.val, by omega⟩) * Cert.Tail.scaleC := by
  pointwise [val_main_v160, val_main_v116]
  rw [r112]
  congr 3; apply Fin.ext; show 64 + (16 + l.val) = 80 + l.val; omega
theorem r168 (n : Fin 8192) (h : Fin 8) (l : Fin 16) : val_main_v168 x1 x7 (ix3 n h l) =
    val_main_v160 x7 (ix3 n h l) * val_main_v39 x1 (ix3 n 0 l) + -val_main_v159 x7 (ix3 n h l) * val_main_v41 x1 (ix3 n 0 l) := by
  pointwise [val_main_v168, val_main_v162, val_main_v161, val_main_v167, val_main_v166, val_main_v165]
theorem r171 (n : Fin 8192) (h : Fin 8) (l : Fin 16) : val_main_v171 x1 x7 (ix3 n h l) =
    val_main_v160 x7 (ix3 n h l) * val_main_v41 x1 (ix3 n 0 l) + val_main_v159 x7 (ix3 n h l) * val_main_v39 x1 (ix3 n 0 l) := by
  pointwise [val_main_v171, val_main_v164, val_main_v163, val_main_v170, val_main_v169]
/-- The cotangent of the queries, lane by lane. -/
theorem r177 (n : Fin 8192) (h : Fin 8) (l : Fin 96) : val_main_v177 x1 x7 (ix3 n h l) =
    Cert.Tail.dq ((dat x0 x1 x2 x3 x4 x5 x6 x7 x8 x9 x10 x11).C n) ((dat x0 x1 x2 x3 x4 x5 x6 x7 x8 x9 x10 x11).S n) ((dat x0 x1 x2 x3 x4 x5 x6 x7 x8 x9 x10 x11).tq n) h ⟨l.val, by omega⟩ := by
  have tq : ∀ (k : ℕ) (hk : k < 96), (dat x0 x1 x2 x3 x4 x5 x6 x7 x8 x9 x10 x11).tq n h ⟨k, by omega⟩ = x7 (ix3 n h ⟨k, hk⟩) := fun k hk => dif_pos hk
  pointwise [val_main_v177, val_main_v176, val_main_v175, val_main_v174, val_main_v173, val_main_v172, val_main_cst_28, val_main_cst_29, val_main_cst_30, val_main_cst_31]
  unfold Cert.Tail.dq Cert.Tail.rot
  dsimp only
  obtain ⟨l, hl⟩ := l
  dsimp only
  by_cases h1 : l < 64
  · rw [dif_neg (show ¬(64 ≤ l ∧ l - 64 < 32) by omega), dif_pos h1, dif_pos h1, r115, zero_add, tq l hl]
  · rw [dif_pos (show 64 ≤ l ∧ l - 64 < 32 by omega), dif_neg h1, dif_neg h1, add_zero]
    by_cases h2 : l - 64 < 16
    · rw [dif_neg (show ¬(16 ≤ l - 64 ∧ l - 64 - 16 < 16) by omega), dif_pos h2, dif_pos h2, r171 x1 x7 n h ⟨l - 64, h2⟩, r159 x7 n h ⟨l - 64, h2⟩, r160 x7 n h ⟨l - 64, h2⟩, r39 x1 n 0 ⟨l - 64, h2⟩, r41 x1 n 0 ⟨l - 64, h2⟩, zero_add, tq l hl, tq (l + 16) (by omega), add_comm]
      have e1 : (⟨64 + (l - 64), by omega⟩ : Fin 96) = ⟨l, hl⟩ := Fin.ext (by show 64 + (l - 64) = l; omega)
      have e2 : (⟨80 + (l - 64), by omega⟩ : Fin 96) = ⟨l + 16, by omega⟩ := Fin.ext (by show 80 + (l - 64) = l + 16; omega)
      rw [e1, e2]; rfl
    · have c1 : 16 ≤ l - 64 ∧ l - 64 - 16 < 16 := by omega
      have c2 : l - 64 - 16 < 16 := c1.2
      simp only [dif_pos c1, dif_neg h2, dif_pos c2]
      rw [r168 x1 x7 n h ⟨l - 64 - 16, by omega⟩, r159 x7 n h ⟨l - 64 - 16, by omega⟩, r160 x7 n h ⟨l - 64 - 16, by omega⟩, r39 x1 n 0 ⟨l - 64 - 16, by omega⟩, r41 x1 n 0 ⟨l - 64 - 16, by omega⟩, add_zero, tq l hl, tq (l - 16) (by omega), neg_mul, ← sub_eq_add_neg]
      have e1 : (⟨64 + (l - 64 - 16), by omega⟩ : Fin 96) = ⟨l - 16, by omega⟩ := Fin.ext (by show 64 + (l - 64 - 16) = l - 16; omega)
      have e2 : (⟨80 + (l - 64 - 16), by omega⟩ : Fin 96) = ⟨l, hl⟩ := Fin.ext (by show 80 + (l - 64 - 16) = l; omega)
      rw [e1, e2]; rfl
/-- The cotangent of the keys and values, lane by lane. -/
theorem r134 (n : Fin 8192) (h : Fin 8) (l : Fin 128) : val_main_v134 x8 x9 (ix3 n h l) = Cert.Tail.dkv ((dat x0 x1 x2 x3 x4 x5 x6 x7 x8 x9 x10 x11).tk n) ((dat x0 x1 x2 x3 x4 x5 x6 x7 x8 x9 x10 x11).tv n) h l := by
  pointwise [val_main_v134, val_main_v133, val_main_v132, val_main_v113, val_main_cst_21, val_main_cst_22]
  unfold Cert.Tail.dkv
  obtain ⟨l, hl⟩ := l
  dsimp only
  by_cases h1 : l < 64
  · rw [dif_neg (show ¬(64 ≤ l ∧ l - 64 < 64) by omega), dif_pos h1, if_pos h1, zero_add]
    have e : (dat x0 x1 x2 x3 x4 x5 x6 x7 x8 x9 x10 x11).tk n h ⟨l, hl⟩ = if h' : l < 96 then x8 (ix3 n h ⟨l, h'⟩) else 0 := rfl
    rw [e, dif_pos (show l < 96 by omega)]
  · rw [dif_pos (show 64 ≤ l ∧ l - 64 < 64 by omega), dif_neg h1, if_neg h1, add_zero]
    have e : (dat x0 x1 x2 x3 x4 x5 x6 x7 x8 x9 x10 x11).tv n h ⟨l, hl⟩ = if h' : 64 ≤ l then x9 (ix3 n h ⟨l - 64, by omega⟩) else 0 := rfl
    rw [e, dif_pos (show 64 ≤ l by omega)]
theorem r118 (n : Fin 8192) (z : Fin 1) (l : Fin 32) : val_main_v118 x8 (ix3 n z l) = ∑ h : Fin 8, x8 (ix3 n h ⟨64 + l.val, by omega⟩) := by
  pointwise [val_main_v118, val_main_v117, val_main_v114, val_main_cst_17]
/-- The cotangent of the shared rotated key. -/
theorem r131 (n : Fin 8192) (l : Fin 32) : val_main_v131 x1 x8 (ix2 n l) = Cert.Tail.dkr ((dat x0 x1 x2 x3 x4 x5 x6 x7 x8 x9 x10 x11).C n) ((dat x0 x1 x2 x3 x4 x5 x6 x7 x8 x9 x10 x11).S n) ((dat x0 x1 x2 x3 x4 x5 x6 x7 x8 x9 x10 x11).tk n) ⟨64 + l.val, by omega⟩ := by
  have tk : ∀ (k : ℕ) (hk : k < 96), ∑ h, (dat x0 x1 x2 x3 x4 x5 x6 x7 x8 x9 x10 x11).tk n h ⟨k, by omega⟩ = ∑ h, x8 (ix3 n h ⟨k, hk⟩) := fun k hk => Finset.sum_congr rfl fun h _ => dif_pos hk
  pointwise [val_main_v131, val_main_v130, val_main_v129, val_main_v128, val_main_v127, val_main_v126, val_main_v125, val_main_v124, val_main_v123, val_main_v122, val_main_v121, val_main_v120, val_main_v119, val_main_cst_18, val_main_cst_19, val_main_cst_20]
  rw [Fin.sum_univ_one]
  unfold Cert.Tail.dkr Cert.Tail.rot
  obtain ⟨l, hl⟩ := l
  dsimp only
  rw [if_pos (show 64 ≤ 64 + l ∧ 64 + l < 96 by omega), dif_neg (show ¬(64 + l < 64) by omega)]
  by_cases h2 : l < 16
  · rw [dif_neg (show ¬(16 ≤ l ∧ l - 16 < 16) by omega), dif_pos h2, dif_pos (show 64 + l - 64 < 16 by omega), r118, r118, r90, r92, zero_add, tk (64 + l) (by omega), tk (64 + l + 16) (by omega), add_comm]
    have e1 : (⟨64 + (16 + l), by omega⟩ : Fin 96) = ⟨64 + l + 16, by omega⟩ := Fin.ext (by show 64 + (16 + l) = 64 + l + 16; omega)
    have e2 : (⟨64 + l - 64, by omega⟩ : Fin 16) = ⟨l, h2⟩ := Fin.ext (by show 64 + l - 64 = l; omega)
    dsimp only
    rw [e1, e2]; rfl
  · rw [dif_pos (show 16 ≤ l ∧ l - 16 < 16 by omega), dif_neg h2, dif_neg (show ¬(64 + l - 64 < 16) by omega), dif_pos (show 64 + l - 64 - 16 < 16 by omega), r118, r118, r90, r92, add_zero, tk (64 + l) (by omega), tk (64 + l - 16) (by omega), neg_mul, ← sub_eq_add_neg]
    have e1 : (⟨64 + (16 + (l - 16)), by omega⟩ : Fin 96) = ⟨64 + l, by omega⟩ := Fin.ext (by show 64 + (16 + (l - 16)) = 64 + l; omega)
    have e3 : (⟨64 + (l - 16), by omega⟩ : Fin 96) = ⟨64 + l - 16, by omega⟩ := Fin.ext (by show 64 + (l - 16) = 64 + l - 16; omega)
    have e2 : (⟨64 + l - 64 - 16, by omega⟩ : Fin 16) = ⟨l - 16, by omega⟩ := Fin.ext (by show 64 + l - 64 - 16 = l - 16; omega)
    dsimp only
    rw [e1, e2, e3]; rfl
theorem r135 (n : Fin 8192) (h : Fin 8) (l : Fin 128) : val_main_v135 x8 x9 (ix2 n ⟨h.val * 128 + l.val, by omega⟩) = val_main_v134 x8 x9 (ix3 n h l) := by
  pointwise [val_main_v135]
theorem r178 (n : Fin 8192) (h : Fin 8) (l : Fin 96) : val_main_v178 x1 x7 (ix2 n ⟨h.val * 96 + l.val, by omega⟩) = val_main_v177 x1 x7 (ix3 n h l) := by
  pointwise [val_main_v178]
theorem r181 (n : Fin 8192) (j : Fin 256) : val_main_v181 x1 x4 x7 (ix2 n j) = ∑ k : Fin 768, val_main_v178 x1 x7 (ix2 n k) * x4 (ix2 j k) := by
  pointwise [val_main_v181]
theorem r138 (n : Fin 8192) (j : Fin 128) : val_main_v138 x6 x8 x9 (ix2 n j) = ∑ k : Fin 1024, val_main_v135 x8 x9 (ix2 n k) * x6 (ix2 j k) := by
  pointwise [val_main_v138]

/-- A sum over lanes of which the last 32 carry nothing. -/
theorem cut96 (f : Fin 128 → EReal) (hf : ∀ l, ¬ l.val < 96 → f l = 0) : ∑ l, f l = ∑ l : Fin 96, f ⟨l.val, by omega⟩ := by
  refine (Fin.sum_univ_add (a := 96) (b := 32) f).trans ?_
  have e : ∑ i : Fin 32, f (Fin.natAdd 96 i) = 0 := Finset.sum_eq_zero fun i _ => hf _ (by show ¬ 96 + i.val < 96; omega)
  rw [e, add_zero]; rfl
/-- The cotangent of the scaled normalised queries. -/
theorem q181 (n : Fin 8192) (j : Fin 256) : val_main_v181 x1 x4 x7 (ix2 n j) = Cert.Tail.dcq ((dat x0 x1 x2 x3 x4 x5 x6 x7 x8 x9 x10 x11).C n) ((dat x0 x1 x2 x3 x4 x5 x6 x7 x8 x9 x10 x11).S n) ((dat x0 x1 x2 x3 x4 x5 x6 x7 x8 x9 x10 x11).tq n) (dat x0 x1 x2 x3 x4 x5 x6 x7 x8 x9 x10 x11).Wq j := by
  have w : ∀ (h : Fin 8) (l : Fin 128), (dat x0 x1 x2 x3 x4 x5 x6 x7 x8 x9 x10 x11).Wq h j l = if hl : l.val < 96 then x4 (ix2 j ⟨h.val * 96 + l.val, by omega⟩) else 0 := fun _ _ => rfl
  rw [r181, Fin.sum_univ_tiles 8 96 (by decide)]
  unfold Cert.Tail.dcq
  refine Finset.sum_congr rfl fun h _ => ?_
  rw [cut96]
  · refine Finset.sum_congr rfl fun l _ => ?_
    rw [r178, r177 x0 x1 x2 x3 x4 x5 x6 x7 x8 x9 x10 x11, w, dif_pos l.isLt]
  · intro l hl
    rw [w, dif_neg hl, mul_zero]
theorem q138 (n : Fin 8192) (j : Fin 128) : val_main_v138 x6 x8 x9 (ix2 n j) = Cert.Tail.dckv ((dat x0 x1 x2 x3 x4 x5 x6 x7 x8 x9 x10 x11).tk n) ((dat x0 x1 x2 x3 x4 x5 x6 x7 x8 x9 x10 x11).tv n) (dat x0 x1 x2 x3 x4 x5 x6 x7 x8 x9 x10 x11).Wk j := by
  have w : ∀ (h : Fin 8) (l : Fin 128), (dat x0 x1 x2 x3 x4 x5 x6 x7 x8 x9 x10 x11).Wk h j l = x6 (ix2 j ⟨h.val * 128 + l.val, by omega⟩) := fun _ _ => rfl
  rw [r138, Fin.sum_univ_tiles 8 128 (by decide)]
  unfold Cert.Tail.dckv
  refine Finset.sum_congr rfl fun h _ => Finset.sum_congr rfl fun l _ => ?_
  rw [r135, r134 x0 x1 x2 x3 x4 x5 x6 x7 x8 x9 x10 x11, w]
end Cert.ReferenceIdeal.Tail
-- ==== Proof.Ref3.lean ====
module
public import proofs.«01_k».proof.Proof.Ref2
public import proofs.«01_k».proof.Proof.Norm
@[expose] public section
set_option maxRecDepth 16384
noncomputable section
namespace Cert.ReferenceIdeal.Tail
open Cert.ReferenceIdeal Cert.ReferenceIdeal.Gen Cert.ReferenceIdeal.Read Idealize.ShloMosaic Idealize.ShloMosaic.TcCoe Idealize.SL.Sem
open Cert.Tail (Fnt)
/-! The five results. -/
variable (x0 : Vec Ideal S8192x1024 .f32) (x1 : Vec Ideal S8192 .i32) (x2 : Vec Ideal S1024x2464 .f32) (x3 : Vec Ideal S256 .f32) (x4 : Vec Ideal S256x768 .f32)
  (x5 : Vec Ideal S128 .f32) (x6 : Vec Ideal S128x1024 .f32) (x7 x8 : Vec Ideal S8192x8x96 .f32) (x9 : Vec Ideal S8192x8x64 .f32) (x10 : Vec Ideal S8192x1024 .f32)
  (x11 : Vec Ideal S8192x2048 .f32)

theorem r196 (n : Fin 8192) : val_main_v196 x0 x1 x2 x3 x4 x7 (ix1 n) = Cert.Tail.normW Cert.Tail.n256 (fun j => val_main_v1 x0 x2 (ix2 n j)) (fun j => x3 (ix1 j)) (fun j => val_main_v181 x1 x4 x7 (ix2 n j)) := by
  pointwise [val_main_v196, val_main_v195, val_main_v194, val_main_v193, val_main_v190, val_main_v189, val_main_v188, val_main_v186, val_main_v185, val_main_v18, val_main_cst_34, val_main_cst_35, val_main_cst_36]
  rw [Fin.sum_univ_one, r15]; rfl
theorem r153 (n : Fin 8192) : val_main_v153 x0 x2 x5 x6 x8 x9 (ix1 n) = Cert.Tail.normW Cert.Tail.n128 (fun j => val_main_v2 x0 x2 (ix2 n j)) (fun j => x5 (ix1 j)) (fun j => val_main_v138 x6 x8 x9 (ix2 n j)) := by
  pointwise [val_main_v153, val_main_v152, val_main_v151, val_main_v150, val_main_v147, val_main_v146, val_main_v145, val_main_v143, val_main_v142, val_main_v68, val_main_cst_25, val_main_cst_26, val_main_cst_27]
  rw [Fin.sum_univ_one, r65]; rfl
theorem r201 (n : Fin 8192) (j : Fin 256) : val_main_v201 x0 x1 x2 x3 x4 x7 (ix2 n j) =
    val_main_v181 x1 x4 x7 (ix2 n j) * x3 (ix1 j) * val_main_v12 x0 x2 (ix2 n 0) + val_main_v1 x0 x2 (ix2 n j) * val_main_v196 x0 x1 x2 x3 x4 x7 (ix1 n)
      + val_main_v196 x0 x1 x2 x3 x4 x7 (ix1 n) * val_main_v1 x0 x2 (ix2 n j) := by
  pointwise [val_main_v201, val_main_v200, val_main_v199, val_main_v198, val_main_v197, val_main_v192, val_main_v191, val_main_v186, val_main_v185, val_main_v18]
theorem r158 (n : Fin 8192) (j : Fin 128) : val_main_v158 x0 x2 x5 x6 x8 x9 (ix2 n j) =
    val_main_v138 x6 x8 x9 (ix2 n j) * x5 (ix1 j) * val_main_v62 x0 x2 (ix2 n 0) + val_main_v2 x0 x2 (ix2 n j) * val_main_v153 x0 x2 x5 x6 x8 x9 (ix1 n)
      + val_main_v153 x0 x2 x5 x6 x8 x9 (ix1 n) * val_main_v2 x0 x2 (ix2 n j) := by
  pointwise [val_main_v158, val_main_v157, val_main_v156, val_main_v155, val_main_v154, val_main_v149, val_main_v148, val_main_v143, val_main_v142, val_main_v68]
theorem r202 (n : Fin 8192) (e : Fin 2464) : val_main_v202 x0 x1 x2 x3 x4 x5 x6 x7 x8 x9 x11 (ix2 n e) =
    if h : e.val < 256 then val_main_v201 x0 x1 x2 x3 x4 x7 (ix2 n ⟨e.val, h⟩) else if h : e.val - 256 < 128 then val_main_v158 x0 x2 x5 x6 x8 x9 (ix2 n ⟨e.val - 256, h⟩)
    else if h : e.val - 256 - 128 < 32 then val_main_v131 x1 x8 (ix2 n ⟨e.val - 256 - 128, h⟩) else x11 (ix2 n ⟨e.val - 256 - 128 - 32, by omega⟩) := by
  pointwise [val_main_v202]
theorem r206 (n : Fin 8192) (d : Fin 1024) : val_main_v206 x0 x1 x2 x3 x4 x5 x6 x7 x8 x9 x10 x11 (ix2 n d) =
    Cert.Tail.alphaC * x10 (ix2 n d) + ∑ e : Fin 2464, val_main_v202 x0 x1 x2 x3 x4 x5 x6 x7 x8 x9 x11 (ix2 n e) * x2 (ix2 d e) := by
  pointwise [val_main_v206, val_main_v205, val_main_v110, val_main_v109, val_main_cst_15]
  rfl
theorem r204 (d : Fin 1024) (e : Fin 2464) : val_main_v204 x0 x1 x2 x3 x4 x5 x6 x7 x8 x9 x11 (ix2 d e) =
    ∑ n : Fin 8192, val_main_v202 x0 x1 x2 x3 x4 x5 x6 x7 x8 x9 x11 (ix2 n e) * x0 (ix2 n d) := by
  pointwise [val_main_v204, val_main_v203]
theorem r212 (d : Fin 1024) (e : Fin 2560) : val_main_v212 x0 x1 x2 x3 x4 x5 x6 x7 x8 x9 x11 (ix2 d e) =
    if h : e.val < 384 then val_main_v204 x0 x1 x2 x3 x4 x5 x6 x7 x8 x9 x11 (ix2 d ⟨e.val, by omega⟩) else if h : e.val - 384 < 64 then 0
    else if h : e.val - 384 - 64 < 32 then val_main_v204 x0 x1 x2 x3 x4 x5 x6 x7 x8 x9 x11 (ix2 d ⟨384 + (e.val - 384 - 64), by omega⟩) else if h : e.val - 384 - 64 - 32 < 32 then 0
    else val_main_v204 x0 x1 x2 x3 x4 x5 x6 x7 x8 x9 x11 (ix2 d ⟨416 + (e.val - 384 - 64 - 32 - 32), by omega⟩) := by
  pointwise [val_main_v212, val_main_v207, val_main_v208, val_main_v209, val_main_v210, val_main_v211, val_main_cst_37, val_main_cst_38]
theorem r180 (j : Fin 256) (l : Fin 768) : val_main_v180 x0 x1 x2 x3 x7 (ix2 j l) = ∑ n : Fin 8192, val_main_v178 x1 x7 (ix2 n l) * val_main_v20 x0 x2 x3 (ix2 n j) := by
  pointwise [val_main_v180, val_main_v179]
theorem r137 (j : Fin 128) (l : Fin 1024) : val_main_v137 x0 x2 x5 x8 x9 (ix2 j l) = ∑ n : Fin 8192, val_main_v135 x8 x9 (ix2 n l) * val_main_v70 x0 x2 x5 (ix2 n j) := by
  pointwise [val_main_v137, val_main_v136]
theorem r214 (j : Fin 256) (h : Fin 8) (l : Fin 128) : val_main_v214 x0 x1 x2 x3 x7 (ix3 j h l) =
    if hl : l.val < 96 then val_main_v180 x0 x1 x2 x3 x7 (ix2 j ⟨h.val * 96 + l.val, by omega⟩) else FloatOps.sitofp (F := Ideal) FTy.f32 0#32 := by
  pointwise [val_main_v214, val_main_call0_v0, val_main_c, val_main_v213]
theorem r217 (h : Fin 8) (j : Fin 384) (l : Fin 128) : val_main_v217 x0 x1 x2 x3 x5 x7 x8 x9 (ix3 h j l) =
    if hj : j.val < 256 then val_main_v214 x0 x1 x2 x3 x7 (ix3 ⟨j.val, hj⟩ h l)
    else val_main_v137 x0 x2 x5 x8 x9 (ix2 ⟨j.val - 256, by omega⟩ ⟨h.val * 128 + l.val, by omega⟩) := by
  pointwise [val_main_v217, val_main_v216, val_main_v215]
theorem r218 (z : Fin 1) (j : Fin 256) : val_main_v218 x0 x1 x2 x4 x7 (ix2 z j) = ∑ n : Fin 8192, val_main_v17 x0 x2 (ix2 n j) * val_main_v181 x1 x4 x7 (ix2 n j) := by
  pointwise [val_main_v218, val_main_v187, val_main_v184, val_main_v183, val_main_v182, val_main_cst_32, val_main_cst_33]
  rw [Fin.sum_univ_one]
theorem r219 (z : Fin 1) (j : Fin 128) : val_main_v219 x0 x2 x6 x8 x9 (ix2 z j) = ∑ n : Fin 8192, val_main_v67 x0 x2 (ix2 n j) * val_main_v138 x6 x8 x9 (ix2 n j) := by
  pointwise [val_main_v219, val_main_v144, val_main_v141, val_main_v140, val_main_v139, val_main_cst_23, val_main_cst_24]
  rw [Fin.sum_univ_one]
end Cert.ReferenceIdeal.Tail
-- ==== Proof.Ref4.lean ====
module
public import proofs.«01_k».proof.Proof.Ref3
@[expose] public section
set_option maxRecDepth 16384
noncomputable section
namespace Cert.ReferenceIdeal.Tail
open Cert.ReferenceIdeal Cert.ReferenceIdeal.Gen Cert.ReferenceIdeal.Read Idealize.ShloMosaic Idealize.ShloMosaic.TcCoe Idealize.SL.Sem
open Cert.Tail (Fnt)
/-! The five results are those of the call's data. -/
variable (x0 : Vec Ideal S8192x1024 .f32) (x1 : Vec Ideal S8192 .i32) (x2 : Vec Ideal S1024x2464 .f32) (x3 : Vec Ideal S256 .f32) (x4 : Vec Ideal S256x768 .f32)
  (x5 : Vec Ideal S128 .f32) (x6 : Vec Ideal S128x1024 .f32) (x7 x8 : Vec Ideal S8192x8x96 .f32) (x9 : Vec Ideal S8192x8x64 .f32) (x10 : Vec Ideal S8192x1024 .f32)
  (x11 : Vec Ideal S8192x2048 .f32)

theorem cq_eq (n : Fin 8192) : (fun j => val_main_v1 x0 x2 (ix2 n j)) = (dat x0 x1 x2 x3 x4 x5 x6 x7 x8 x9 x10 x11).cq n := funext fun j => r1 x0 x2 n j
theorem ck_eq (n : Fin 8192) : (fun j => val_main_v2 x0 x2 (ix2 n j)) = (dat x0 x1 x2 x3 x4 x5 x6 x7 x8 x9 x10 x11).ck n := funext fun j => r2 x0 x2 n j

theorem qg_eq (z : Fin 1) (j : Fin 256) : val_main_v218 x0 x1 x2 x4 x7 (ix2 z j) = (dat x0 x1 x2 x3 x4 x5 x6 x7 x8 x9 x10 x11).qg j := by
  rw [r218]
  refine Finset.sum_congr rfl fun n _ => ?_
  rw [r17, cq_eq x0 x1 x2 x3 x4 x5 x6 x7 x8 x9 x10 x11, q181 x0 x1 x2 x3 x4 x5 x6 x7 x8 x9 x10 x11, mul_comm]
theorem kvg_eq (z : Fin 1) (j : Fin 128) : val_main_v219 x0 x2 x6 x8 x9 (ix2 z j) = (dat x0 x1 x2 x3 x4 x5 x6 x7 x8 x9 x10 x11).kvg j := by
  rw [r219]
  refine Finset.sum_congr rfl fun n _ => ?_
  rw [r67, ck_eq x0 x1 x2 x3 x4 x5 x6 x7 x8 x9 x10 x11, q138 x0 x1 x2 x3 x4 x5 x6 x7 x8 x9 x10 x11, mul_comm]
/-- The lanes past the 96 of a head carry no cotangent. -/
theorem dq_zero (n : Fin 8192) (h : Fin 8) (l : Fin 128) (hl : ¬ l.val < 96) :
    Cert.Tail.dq ((dat x0 x1 x2 x3 x4 x5 x6 x7 x8 x9 x10 x11).C n) ((dat x0 x1 x2 x3 x4 x5 x6 x7 x8 x9 x10 x11).S n) ((dat x0 x1 x2 x3 x4 x5 x6 x7 x8 x9 x10 x11).tq n) h l = 0 := by
  have e : (dat x0 x1 x2 x3 x4 x5 x6 x7 x8 x9 x10 x11).tq n h l = if hl : l.val < 96 then x7 (ix3 n h ⟨l.val, hl⟩) else 0 := rfl
  unfold Cert.Tail.dq Cert.Tail.rot
  have c1 : ¬ l.val < 64 := by omega
  have c2 : ¬ l.val - 64 < 16 := by omega
  have c3 : ¬ l.val - 64 - 16 < 16 := by omega
  simp only [dif_neg c1, dif_neg c2, dif_neg c3]
  rw [e, dif_neg hl, zero_mul]
theorem wq_eq (h : Fin 8) (j : Fin 256) (l : Fin 128) : val_main_v214 x0 x1 x2 x3 x7 (ix3 j h l) = (dat x0 x1 x2 x3 x4 x5 x6 x7 x8 x9 x10 x11).wq h j l := by
  rw [r214]
  split
  · rename_i hl
    rw [r180]
    refine Finset.sum_congr rfl fun n _ => ?_
    rw [r178 x1 x7 n h ⟨l.val, hl⟩, r177 x0 x1 x2 x3 x4 x5 x6 x7 x8 x9 x10 x11, r20, cq_eq x0 x1 x2 x3 x4 x5 x6 x7 x8 x9 x10 x11, mul_comm]
    rfl
  · rename_i hl
    have z : FloatOps.sitofp (F := Ideal) FTy.f32 0#32 = (0 : EReal) := by
      show (((0#32).toInt : ℝ) : EReal) = 0
      simp
    rw [z]
    refine (Finset.sum_eq_zero fun n _ => ?_).symm
    rw [dq_zero x0 x1 x2 x3 x4 x5 x6 x7 x8 x9 x10 x11 n h l hl, mul_zero]
theorem wkv_eq (h : Fin 8) (j : Fin 128) (l : Fin 128) : val_main_v137 x0 x2 x5 x8 x9 (ix2 j ⟨h.val * 128 + l.val, by omega⟩) = (dat x0 x1 x2 x3 x4 x5 x6 x7 x8 x9 x10 x11).wkv h j l := by
  rw [r137]
  refine Finset.sum_congr rfl fun n _ => ?_
  rw [r135, r134 x0 x1 x2 x3 x4 x5 x6 x7 x8 x9 x10 x11, r70, ck_eq x0 x1 x2 x3 x4 x5 x6 x7 x8 x9 x10 x11, mul_comm]
  rfl
theorem heads_eq (h : Fin 8) (j : Fin 384) (l : Fin 128) : val_main_v217 x0 x1 x2 x3 x5 x7 x8 x9 (ix3 h j l) =
    if hj : j.val < 256 then (dat x0 x1 x2 x3 x4 x5 x6 x7 x8 x9 x10 x11).wq h ⟨j.val, hj⟩ l else (dat x0 x1 x2 x3 x4 x5 x6 x7 x8 x9 x10 x11).wkv h ⟨j.val - 256, by omega⟩ l := by
  rw [r217]
  split
  · rw [wq_eq x0 x1 x2 x3 x4 x5 x6 x7 x8 x9 x10 x11]
  · rw [wkv_eq x0 x1 x2 x3 x4 x5 x6 x7 x8 x9 x10 x11]

/-! The gradient of the projection's row. -/
variable (H : (args x0 x1 x2 x3 x4 x5 x6 x7 x8 x9 x10 x11).Ok)
include H
theorem nq_eq (n : Fin 8192) (j : Fin 256) : val_main_v201 x0 x1 x2 x3 x4 x7 (ix2 n j) =
    Cert.Tail.normBack Cert.Tail.n256 ((dat x0 x1 x2 x3 x4 x5 x6 x7 x8 x9 x10 x11).cq n) (dat x0 x1 x2 x3 x4 x5 x6 x7 x8 x9 x10 x11).gq (Cert.Tail.dcq ((dat x0 x1 x2 x3 x4 x5 x6 x7 x8 x9 x10 x11).C n) ((dat x0 x1 x2 x3 x4 x5 x6 x7 x8 x9 x10 x11).S n) ((dat x0 x1 x2 x3 x4 x5 x6 x7 x8 x9 x10 x11).tq n) (dat x0 x1 x2 x3 x4 x5 x6 x7 x8 x9 x10 x11).Wq) j := by
  have e1 : val_main_v1 x0 x2 (ix2 n j) = (dat x0 x1 x2 x3 x4 x5 x6 x7 x8 x9 x10 x11).cq n j := congrFun (cq_eq x0 x1 x2 x3 x4 x5 x6 x7 x8 x9 x10 x11 n) j
  have e2 : (fun j => val_main_v181 x1 x4 x7 (ix2 n j)) = Cert.Tail.dcq ((dat x0 x1 x2 x3 x4 x5 x6 x7 x8 x9 x10 x11).C n) ((dat x0 x1 x2 x3 x4 x5 x6 x7 x8 x9 x10 x11).S n) ((dat x0 x1 x2 x3 x4 x5 x6 x7 x8 x9 x10 x11).tq n) (dat x0 x1 x2 x3 x4 x5 x6 x7 x8 x9 x10 x11).Wq := funext fun j => q181 x0 x1 x2 x3 x4 x5 x6 x7 x8 x9 x10 x11 n j
  rw [r201, r12, r196, e1, q181 x0 x1 x2 x3 x4 x5 x6 x7 x8 x9 x10 x11 n j, cq_eq x0 x1 x2 x3 x4 x5 x6 x7 x8 x9 x10 x11, e2, Cert.Tail.n256_eq]
  exact Cert.Tail.norm_eq 256 (by norm_num) ((dat x0 x1 x2 x3 x4 x5 x6 x7 x8 x9 x10 x11).cq n) (dat x0 x1 x2 x3 x4 x5 x6 x7 x8 x9 x10 x11).gq _ (fun j => H.proj n _) (fun j => H.qg j) (fun j => H.dcq n j) j
theorem nkv_eq (n : Fin 8192) (j : Fin 128) : val_main_v158 x0 x2 x5 x6 x8 x9 (ix2 n j) =
    Cert.Tail.normBack Cert.Tail.n128 ((dat x0 x1 x2 x3 x4 x5 x6 x7 x8 x9 x10 x11).ck n) (dat x0 x1 x2 x3 x4 x5 x6 x7 x8 x9 x10 x11).gk (Cert.Tail.dckv ((dat x0 x1 x2 x3 x4 x5 x6 x7 x8 x9 x10 x11).tk n) ((dat x0 x1 x2 x3 x4 x5 x6 x7 x8 x9 x10 x11).tv n) (dat x0 x1 x2 x3 x4 x5 x6 x7 x8 x9 x10 x11).Wk) j := by
  have e1 : val_main_v2 x0 x2 (ix2 n j) = (dat x0 x1 x2 x3 x4 x5 x6 x7 x8 x9 x10 x11).ck n j := congrFun (ck_eq x0 x1 x2 x3 x4 x5 x6 x7 x8 x9 x10 x11 n) j
  have e2 : (fun j => val_main_v138 x6 x8 x9 (ix2 n j)) = Cert.Tail.dckv ((dat x0 x1 x2 x3 x4 x5 x6 x7 x8 x9 x10 x11).tk n) ((dat x0 x1 x2 x3 x4 x5 x6 x7 x8 x9 x10 x11).tv n) (dat x0 x1 x2 x3 x4 x5 x6 x7 x8 x9 x10 x11).Wk := funext fun j => q138 x0 x1 x2 x3 x4 x5 x6 x7 x8 x9 x10 x11 n j
  rw [r158, r62, r153, e1, q138 x0 x1 x2 x3 x4 x5 x6 x7 x8 x9 x10 x11 n j, ck_eq x0 x1 x2 x3 x4 x5 x6 x7 x8 x9 x10 x11, e2, Cert.Tail.n128_eq]
  exact Cert.Tail.norm_eq 128 (by norm_num) ((dat x0 x1 x2 x3 x4 x5 x6 x7 x8 x9 x10 x11).ck n) (dat x0 x1 x2 x3 x4 x5 x6 x7 x8 x9 x10 x11).gk _ (fun j => H.proj n _) (fun j => H.kg j) (fun j => H.dckv n j) j
omit H in
/-- A row's cotangent, at each kind of column. -/
theorem dproj_q (n : Fin 8192) (e : ℕ) (he : e < 256) : (dat x0 x1 x2 x3 x4 x5 x6 x7 x8 x9 x10 x11).dproj n ⟨e, by omega⟩ =
    Cert.Tail.normBack Cert.Tail.n256 ((dat x0 x1 x2 x3 x4 x5 x6 x7 x8 x9 x10 x11).cq n) (dat x0 x1 x2 x3 x4 x5 x6 x7 x8 x9 x10 x11).gq (Cert.Tail.dcq ((dat x0 x1 x2 x3 x4 x5 x6 x7 x8 x9 x10 x11).C n) ((dat x0 x1 x2 x3 x4 x5 x6 x7 x8 x9 x10 x11).S n) ((dat x0 x1 x2 x3 x4 x5 x6 x7 x8 x9 x10 x11).tq n) (dat x0 x1 x2 x3 x4 x5 x6 x7 x8 x9 x10 x11).Wq) ⟨e, he⟩ := by
  unfold Cert.Tail.Data.dproj Cert.Tail.Data.dhRow Cert.Tail.dh
  have c : e < 512 := by omega
  simp only [dif_pos c, dif_pos he]
omit H in
theorem dproj_kv (n : Fin 8192) (e : ℕ) (h1 : ¬ e < 256) (h2 : e - 256 < 128) : (dat x0 x1 x2 x3 x4 x5 x6 x7 x8 x9 x10 x11).dproj n ⟨e, by omega⟩ =
    Cert.Tail.normBack Cert.Tail.n128 ((dat x0 x1 x2 x3 x4 x5 x6 x7 x8 x9 x10 x11).ck n) (dat x0 x1 x2 x3 x4 x5 x6 x7 x8 x9 x10 x11).gk (Cert.Tail.dckv ((dat x0 x1 x2 x3 x4 x5 x6 x7 x8 x9 x10 x11).tk n) ((dat x0 x1 x2 x3 x4 x5 x6 x7 x8 x9 x10 x11).tv n) (dat x0 x1 x2 x3 x4 x5 x6 x7 x8 x9 x10 x11).Wk) ⟨e - 256, h2⟩ := by
  unfold Cert.Tail.Data.dproj Cert.Tail.Data.dhRow Cert.Tail.dh
  have c : e < 512 := by omega
  simp only [dif_pos c, dif_neg h1, dif_pos h2]
omit H in
theorem dproj_kr (n : Fin 8192) (e : ℕ) (h1 : ¬ e < 384) (h2 : e < 512) : (dat x0 x1 x2 x3 x4 x5 x6 x7 x8 x9 x10 x11).dproj n ⟨e, by omega⟩ =
    Cert.Tail.dkr ((dat x0 x1 x2 x3 x4 x5 x6 x7 x8 x9 x10 x11).C n) ((dat x0 x1 x2 x3 x4 x5 x6 x7 x8 x9 x10 x11).S n) ((dat x0 x1 x2 x3 x4 x5 x6 x7 x8 x9 x10 x11).tk n) ⟨e - 256 - 128, by omega⟩ := by
  unfold Cert.Tail.Data.dproj Cert.Tail.Data.dhRow Cert.Tail.dh
  have c1 : ¬ e < 256 := by omega
  have c2 : ¬ e - 256 < 128 := by omega
  simp only [dif_pos h2, dif_neg c1, dif_neg c2]
omit H in
theorem dproj_zero (n : Fin 8192) (e : ℕ) (h1 : ¬ e < 384) (h2 : e < 512) (h3 : ¬ (448 ≤ e ∧ e < 480)) : (dat x0 x1 x2 x3 x4 x5 x6 x7 x8 x9 x10 x11).dproj n ⟨e, by omega⟩ = 0 := by
  rw [dproj_kr x0 x1 x2 x3 x4 x5 x6 x7 x8 x9 x10 x11 n e h1 h2]
  unfold Cert.Tail.dkr
  exact if_neg (by show ¬ (64 ≤ e - 256 - 128 ∧ e - 256 - 128 < 96); omega)
omit H in
theorem dproj_rest (n : Fin 8192) (e : ℕ) (h1 : ¬ e < 512) (h2 : e < 2560) : (dat x0 x1 x2 x3 x4 x5 x6 x7 x8 x9 x10 x11).dproj n ⟨e, h2⟩ = x11 (ix2 n ⟨e - 512, by omega⟩) := by
  unfold Cert.Tail.Data.dproj
  simp only [dif_neg h1]
  rfl
/-- The reference's row is the kernel's, less the columns that carry nothing. -/
theorem row_lo (n : Fin 8192) (e : ℕ) (he : e < 384) : val_main_v202 x0 x1 x2 x3 x4 x5 x6 x7 x8 x9 x11 (ix2 n ⟨e, by omega⟩) = (dat x0 x1 x2 x3 x4 x5 x6 x7 x8 x9 x10 x11).dproj n ⟨e, by omega⟩ := by
  rw [r202]
  dsimp only
  by_cases h1 : e < 256
  · rw [dif_pos h1, dproj_q x0 x1 x2 x3 x4 x5 x6 x7 x8 x9 x10 x11 n e h1, nq_eq x0 x1 x2 x3 x4 x5 x6 x7 x8 x9 x10 x11 H]
  · have h2 : e - 256 < 128 := by omega
    rw [dif_neg h1, dif_pos h2, dproj_kv x0 x1 x2 x3 x4 x5 x6 x7 x8 x9 x10 x11 n e h1 h2, nkv_eq x0 x1 x2 x3 x4 x5 x6 x7 x8 x9 x10 x11 H]
omit H in
theorem row_mid (n : Fin 8192) (e : ℕ) (he : ¬ e < 384) (he' : e < 416) : val_main_v202 x0 x1 x2 x3 x4 x5 x6 x7 x8 x9 x11 (ix2 n ⟨e, by omega⟩) = (dat x0 x1 x2 x3 x4 x5 x6 x7 x8 x9 x10 x11).dproj n ⟨e + 64, by omega⟩ := by
  rw [r202]
  dsimp only
  have h1 : ¬ e < 256 := by omega
  have h2 : ¬ e - 256 < 128 := by omega
  have h3 : e - 256 - 128 < 32 := by omega
  simp only [dif_neg h1, dif_neg h2, dif_pos h3]
  rw [dproj_kr x0 x1 x2 x3 x4 x5 x6 x7 x8 x9 x10 x11 n (e + 64) (by omega) (by omega), r131 x0 x1 x2 x3 x4 x5 x6 x7 x8 x9 x10 x11]
  congr 1; apply Fin.ext; show 64 + (e - 256 - 128) = e + 64 - 256 - 128; omega
omit H in
theorem row_hi (n : Fin 8192) (e : ℕ) (he : ¬ e < 416) (he' : e < 2464) : val_main_v202 x0 x1 x2 x3 x4 x5 x6 x7 x8 x9 x11 (ix2 n ⟨e, by omega⟩) = (dat x0 x1 x2 x3 x4 x5 x6 x7 x8 x9 x10 x11).dproj n ⟨e + 96, by omega⟩ := by
  rw [r202]
  dsimp only
  have h1 : ¬ e < 256 := by omega
  have h2 : ¬ e - 256 < 128 := by omega
  have h3 : ¬ e - 256 - 128 < 32 := by omega
  simp only [dif_neg h1, dif_neg h2, dif_neg h3]
  rw [dproj_rest x0 x1 x2 x3 x4 x5 x6 x7 x8 x9 x10 x11 n (e + 96) (by omega) (by omega)]
  have c : (⟨e - 256 - 128 - 32, by omega⟩ : Fin 2048) = ⟨e + 96 - 512, by omega⟩ := Fin.ext (by show e - 256 - 128 - 32 = e + 96 - 512; omega)
  rw [c]
theorem win_eq (d : Fin 1024) (e : Fin 2560) : val_main_v212 x0 x1 x2 x3 x4 x5 x6 x7 x8 x9 x11 (ix2 d e) = (dat x0 x1 x2 x3 x4 x5 x6 x7 x8 x9 x10 x11).win d e := by
  obtain ⟨e, he⟩ := e
  rw [r212]
  dsimp only
  unfold Cert.Tail.Data.win
  have zero : ∀ (_ : ¬ e < 384) (_ : e < 512) (_ : ¬ (448 ≤ e ∧ e < 480)), ∑ n, (dat x0 x1 x2 x3 x4 x5 x6 x7 x8 x9 x10 x11).x n d * (dat x0 x1 x2 x3 x4 x5 x6 x7 x8 x9 x10 x11).dproj n ⟨e, he⟩ = 0 := fun a b c =>
    Finset.sum_eq_zero fun n _ => by rw [dproj_zero x0 x1 x2 x3 x4 x5 x6 x7 x8 x9 x10 x11 n e a b c, mul_zero]
  by_cases h1 : e < 384
  · rw [dif_pos h1, r204]
    refine Finset.sum_congr rfl fun n _ => ?_
    rw [row_lo x0 x1 x2 x3 x4 x5 x6 x7 x8 x9 x10 x11 H n e h1, mul_comm]; rfl
  rw [dif_neg h1]
  by_cases h2 : e - 384 < 64
  · rw [dif_pos h2, zero (by omega) (by omega) (by omega)]
  rw [dif_neg h2]
  by_cases h3 : e - 384 - 64 < 32
  · rw [dif_pos h3, r204]
    refine Finset.sum_congr rfl fun n _ => ?_
    have c : (⟨384 + (e - 384 - 64) + 64, by omega⟩ : Fin 2560) = ⟨e, he⟩ := Fin.ext (by show 384 + (e - 384 - 64) + 64 = e; omega)
    rw [row_mid x0 x1 x2 x3 x4 x5 x6 x7 x8 x9 x10 x11 n (384 + (e - 384 - 64)) (by omega) (by omega), mul_comm, c]; rfl
  rw [dif_neg h3]
  by_cases h4 : e - 384 - 64 - 32 < 32
  · rw [dif_pos h4, zero (by omega) (by omega) (by omega)]
  rw [dif_neg h4, r204]
  refine Finset.sum_congr rfl fun n _ => ?_
  have c : (⟨416 + (e - 384 - 64 - 32 - 32) + 96, by omega⟩ : Fin 2560) = ⟨e, he⟩ := Fin.ext (by show 416 + (e - 384 - 64 - 32 - 32) + 96 = e; omega)
  rw [row_hi x0 x1 x2 x3 x4 x5 x6 x7 x8 x9 x10 x11 n (416 + (e - 384 - 64 - 32 - 32)) (by omega) (by omega), mul_comm, c]; rfl
omit H in
theorem w_lo (d : Fin 1024) (e : ℕ) (h1 : e < 384) : (dat x0 x1 x2 x3 x4 x5 x6 x7 x8 x9 x10 x11).w d ⟨e, by omega⟩ = x2 (ix2 d ⟨e, by omega⟩) := dif_pos h1
omit H in
theorem w_mid (d : Fin 1024) (e : ℕ) (h1 : ¬ e < 384) (h2 : 448 ≤ e ∧ e < 480) : (dat x0 x1 x2 x3 x4 x5 x6 x7 x8 x9 x10 x11).w d ⟨e, by omega⟩ = x2 (ix2 d ⟨e - 64, by omega⟩) := (dif_neg h1).trans (dif_pos h2)
omit H in
theorem w_zero (d : Fin 1024) (e : ℕ) (h1 : ¬ e < 384) (h2 : ¬ (448 ≤ e ∧ e < 480)) (h3 : e < 512) : (dat x0 x1 x2 x3 x4 x5 x6 x7 x8 x9 x10 x11).w d ⟨e, by omega⟩ = 0 :=
  (dif_neg h1).trans ((dif_neg h2).trans (dif_neg (by show ¬ 512 ≤ e; omega)))
omit H in
theorem w_hi (d : Fin 1024) (e : ℕ) (h1 : 512 ≤ e) (h2 : e < 2560) : (dat x0 x1 x2 x3 x4 x5 x6 x7 x8 x9 x10 x11).w d ⟨e, h2⟩ = x2 (ix2 d ⟨e - 96, by omega⟩) :=
  (dif_neg (by show ¬ e < 384; omega)).trans ((dif_neg (by show ¬ (448 ≤ e ∧ e < 480); omega)).trans (dif_pos h1))
omit H in
/-- A sum over the reference's columns, in its three stretches. -/
theorem sum2464 (f : Fin 2464 → EReal) : ∑ e, f e = (∑ e : Fin 384, f ⟨e.val, by omega⟩ + ∑ e : Fin 32, f ⟨384 + e.val, by omega⟩) + ∑ e : Fin 2048, f ⟨416 + e.val, by omega⟩ := by
  refine (Fin.sum_univ_add (a := 416) (b := 2048) f).trans ?_
  congr 1
  exact Fin.sum_univ_add (a := 384) (b := 32) fun i => f (Fin.castAdd 2048 i)
omit H in
/-- A sum over the kernel's first columns, in its four stretches. -/
theorem sum512 (f : Fin 512 → EReal) : ∑ e, f e = (∑ e : Fin 384, f ⟨e.val, by omega⟩ + ∑ e : Fin 64, f ⟨384 + e.val, by omega⟩) + (∑ e : Fin 32, f ⟨448 + e.val, by omega⟩ + ∑ e : Fin 32, f ⟨480 + e.val, by omega⟩) := by
  refine (Fin.sum_univ_add (a := 448) (b := 64) f).trans ?_
  congr 1
  · exact Fin.sum_univ_add (a := 384) (b := 64) fun i => f (Fin.castAdd 64 i)
  · exact Fin.sum_univ_add (a := 32) (b := 32) fun i => f (Fin.natAdd 448 i)
theorem gx_eq (n : Fin 8192) (d : Fin 1024) : val_main_v206 x0 x1 x2 x3 x4 x5 x6 x7 x8 x9 x10 x11 (ix2 n d) = (dat x0 x1 x2 x3 x4 x5 x6 x7 x8 x9 x10 x11).gx n d := by
  have dh : ∀ (e : ℕ) (he : e < 512), (dat x0 x1 x2 x3 x4 x5 x6 x7 x8 x9 x10 x11).dhRow n ⟨e, he⟩ = (dat x0 x1 x2 x3 x4 x5 x6 x7 x8 x9 x10 x11).dproj n ⟨e, by omega⟩ := fun e he => by
    unfold Cert.Tail.Data.dproj
    simp only [dif_pos he]
  have z1 : ∑ e : Fin 64, (dat x0 x1 x2 x3 x4 x5 x6 x7 x8 x9 x10 x11).dhRow n ⟨384 + e.val, by omega⟩ * (dat x0 x1 x2 x3 x4 x5 x6 x7 x8 x9 x10 x11).w d ⟨384 + e.val, by omega⟩ = 0 :=
    Finset.sum_eq_zero fun e _ => by rw [w_zero x0 x1 x2 x3 x4 x5 x6 x7 x8 x9 x10 x11 d (384 + e.val) (by omega) (by omega) (by omega), mul_zero]
  have z2 : ∑ e : Fin 32, (dat x0 x1 x2 x3 x4 x5 x6 x7 x8 x9 x10 x11).dhRow n ⟨480 + e.val, by omega⟩ * (dat x0 x1 x2 x3 x4 x5 x6 x7 x8 x9 x10 x11).w d ⟨480 + e.val, by omega⟩ = 0 :=
    Finset.sum_eq_zero fun e _ => by rw [w_zero x0 x1 x2 x3 x4 x5 x6 x7 x8 x9 x10 x11 d (480 + e.val) (by omega) (by omega) (by omega), mul_zero]
  have a1 : ∑ e : Fin 384, (dat x0 x1 x2 x3 x4 x5 x6 x7 x8 x9 x10 x11).dhRow n ⟨e.val, by omega⟩ * (dat x0 x1 x2 x3 x4 x5 x6 x7 x8 x9 x10 x11).w d ⟨e.val, by omega⟩ =
      ∑ e : Fin 384, val_main_v202 x0 x1 x2 x3 x4 x5 x6 x7 x8 x9 x11 (ix2 n ⟨e.val, by omega⟩) * x2 (ix2 d ⟨e.val, by omega⟩) :=
    Finset.sum_congr rfl fun e _ => by rw [dh e.val (by omega), w_lo x0 x1 x2 x3 x4 x5 x6 x7 x8 x9 x10 x11 d e.val e.isLt, row_lo x0 x1 x2 x3 x4 x5 x6 x7 x8 x9 x10 x11 H n e.val e.isLt]
  have a2 : ∑ e : Fin 32, (dat x0 x1 x2 x3 x4 x5 x6 x7 x8 x9 x10 x11).dhRow n ⟨448 + e.val, by omega⟩ * (dat x0 x1 x2 x3 x4 x5 x6 x7 x8 x9 x10 x11).w d ⟨448 + e.val, by omega⟩ =
      ∑ e : Fin 32, val_main_v202 x0 x1 x2 x3 x4 x5 x6 x7 x8 x9 x11 (ix2 n ⟨384 + e.val, by omega⟩) * x2 (ix2 d ⟨384 + e.val, by omega⟩) :=
    Finset.sum_congr rfl fun e _ => by
      have c1 : (⟨448 + e.val - 64, by omega⟩ : Fin 2464) = ⟨384 + e.val, by omega⟩ := Fin.ext (by show 448 + e.val - 64 = 384 + e.val; omega)
      have c2 : (⟨384 + e.val + 64, by omega⟩ : Fin 2560) = ⟨448 + e.val, by omega⟩ := Fin.ext (by show 384 + e.val + 64 = 448 + e.val; omega)
      rw [dh (448 + e.val) (by omega), w_mid x0 x1 x2 x3 x4 x5 x6 x7 x8 x9 x10 x11 d (448 + e.val) (by omega) (by omega), row_mid x0 x1 x2 x3 x4 x5 x6 x7 x8 x9 x10 x11 n (384 + e.val) (by omega) (by omega), c1, c2]
  have a3 : ∑ e : Fin 2048, (dat x0 x1 x2 x3 x4 x5 x6 x7 x8 x9 x10 x11).rest n e * (dat x0 x1 x2 x3 x4 x5 x6 x7 x8 x9 x10 x11).w d ⟨512 + e.val, by omega⟩ =
      ∑ e : Fin 2048, val_main_v202 x0 x1 x2 x3 x4 x5 x6 x7 x8 x9 x11 (ix2 n ⟨416 + e.val, by omega⟩) * x2 (ix2 d ⟨416 + e.val, by omega⟩) :=
    Finset.sum_congr rfl fun e _ => by
      have c1 : (⟨512 + e.val - 96, by omega⟩ : Fin 2464) = ⟨416 + e.val, by omega⟩ := Fin.ext (by show 512 + e.val - 96 = 416 + e.val; omega)
      have c2 : (⟨416 + e.val + 96 - 512, by omega⟩ : Fin 2048) = e := Fin.ext (by show 416 + e.val + 96 - 512 = e.val; omega)
      rw [w_hi x0 x1 x2 x3 x4 x5 x6 x7 x8 x9 x10 x11 d (512 + e.val) (by omega) (by omega), row_hi x0 x1 x2 x3 x4 x5 x6 x7 x8 x9 x10 x11 n (416 + e.val) (by omega) (by omega), dproj_rest x0 x1 x2 x3 x4 x5 x6 x7 x8 x9 x10 x11 n (416 + e.val + 96) (by omega) (by omega), c1, c2]
      rfl
  rw [r206, sum2464]
  unfold Cert.Tail.Data.gx
  rw [sum512, z1, z2, a1, a2, a3, add_zero, add_zero]
  have sw : ∀ a b c : EReal, a + (b + c) = a + c + b := fun a b c => by rw [add_comm b c, add_assoc]
  rw [sw]
  rfl
end Cert.ReferenceIdeal.Tail
-- ==== Proof.Final.lean ====
module
public import proofs.«01_k».proof.Proof.Pre
public import proofs.«01_k».proof.Proof.Host
public import proofs.«01_k».proof.Proof.Outs
public import proofs.«01_k».proof.Proof.Gen.ReferenceIdeal.Run
public import proofs.«01_k».proof.Proof.Ref4
@[expose] public section
set_option maxRecDepth 16384
noncomputable section
namespace Cert.Tail
open Idealize.ShloMosaic Idealize.ShloMosaic.TcCoe Idealize.SL.Sem

/-! The five results of the reference are those of the kernel. -/

section
open Cert.ReferenceIdeal Cert.ReferenceIdeal.Read Cert.ReferenceIdeal.Tail
variable (x0 : Vec Ideal S8192x1024 .f32) (x1 : Vec Ideal S8192 .i32) (x2 : Vec Ideal S1024x2464 .f32) (x3 : Vec Ideal S256 .f32) (x4 : Vec Ideal S256x768 .f32)
  (x5 : Vec Ideal S128 .f32) (x6 : Vec Ideal S128x1024 .f32) (x7 x8 : Vec Ideal S8192x8x96 .f32) (x9 : Vec Ideal S8192x8x64 .f32) (x10 : Vec Ideal S8192x1024 .f32)
  (x11 : Vec Ideal S8192x2048 .f32)

theorem ix2_eta {a b : ℕ} (y : (⟨2, ![a, b]⟩ : Shape).Idx) : y = ix2 (y 0) (y 1) := funext fun i => match i with | ⟨0, _⟩ => rfl | ⟨1, _⟩ => rfl
theorem ix3_eta {a b c : ℕ} (y : (⟨3, ![a, b, c]⟩ : Shape).Idx) : y = ix3 (y 0) (y 1) (y 2) := funext fun i => match i with | ⟨0, _⟩ => rfl | ⟨1, _⟩ => rfl | ⟨2, _⟩ => rfl

theorem ref0 (H : (args x0 x1 x2 x3 x4 x5 x6 x7 x8 x9 x10 x11).Ok) : val_main_v206 x0 x1 x2 x3 x4 x5 x6 x7 x8 x9 x10 x11 = fun y => (args x0 x1 x2 x3 x4 x5 x6 x7 x8 x9 x10 x11).data.gx (y 0) (y 1) :=
  funext fun y => (congrArg (val_main_v206 x0 x1 x2 x3 x4 x5 x6 x7 x8 x9 x10 x11) (ix2_eta y)).trans (gx_eq x0 x1 x2 x3 x4 x5 x6 x7 x8 x9 x10 x11 H (y 0) (y 1))
theorem ref1 (H : (args x0 x1 x2 x3 x4 x5 x6 x7 x8 x9 x10 x11).Ok) : val_main_v212 x0 x1 x2 x3 x4 x5 x6 x7 x8 x9 x11 = fun y => (args x0 x1 x2 x3 x4 x5 x6 x7 x8 x9 x10 x11).data.win (y 0) (y 1) :=
  funext fun y => (congrArg (val_main_v212 x0 x1 x2 x3 x4 x5 x6 x7 x8 x9 x11) (ix2_eta y)).trans (win_eq x0 x1 x2 x3 x4 x5 x6 x7 x8 x9 x10 x11 H (y 0) (y 1))
theorem ref2 (x0 : Vec Ideal S8192x1024 .f32) (x1 : Vec Ideal S8192 .i32) (x2 : Vec Ideal S1024x2464 .f32) (x3 : Vec Ideal S256 .f32) (x4 : Vec Ideal S256x768 .f32)
  (x5 : Vec Ideal S128 .f32) (x6 : Vec Ideal S128x1024 .f32) (x7 x8 : Vec Ideal S8192x8x96 .f32) (x9 : Vec Ideal S8192x8x64 .f32) (x10 : Vec Ideal S8192x1024 .f32)
  (x11 : Vec Ideal S8192x2048 .f32) : val_main_v217 x0 x1 x2 x3 x5 x7 x8 x9 = fun y => Cert.KernelIdeal.Tail.heads (args x0 x1 x2 x3 x4 x5 x6 x7 x8 x9 x10 x11).data (y 0) (y 1) (y 2) :=
  funext fun y => (congrArg (val_main_v217 x0 x1 x2 x3 x5 x7 x8 x9) (ix3_eta y)).trans (heads_eq x0 x1 x2 x3 x4 x5 x6 x7 x8 x9 x10 x11 (y 0) (y 1) (y 2))
theorem ref3 (x0 : Vec Ideal S8192x1024 .f32) (x1 : Vec Ideal S8192 .i32) (x2 : Vec Ideal S1024x2464 .f32) (x3 : Vec Ideal S256 .f32) (x4 : Vec Ideal S256x768 .f32)
  (x5 : Vec Ideal S128 .f32) (x6 : Vec Ideal S128x1024 .f32) (x7 x8 : Vec Ideal S8192x8x96 .f32) (x9 : Vec Ideal S8192x8x64 .f32) (x10 : Vec Ideal S8192x1024 .f32)
  (x11 : Vec Ideal S8192x2048 .f32) : val_main_v218 x0 x1 x2 x4 x7 = fun y => (args x0 x1 x2 x3 x4 x5 x6 x7 x8 x9 x10 x11).data.qg (y 1) :=
  funext fun y => (congrArg (val_main_v218 x0 x1 x2 x4 x7) (ix2_eta y)).trans (qg_eq x0 x1 x2 x3 x4 x5 x6 x7 x8 x9 x10 x11 (y 0) (y 1))
theorem ref4 (x0 : Vec Ideal S8192x1024 .f32) (x1 : Vec Ideal S8192 .i32) (x2 : Vec Ideal S1024x2464 .f32) (x3 : Vec Ideal S256 .f32) (x4 : Vec Ideal S256x768 .f32)
  (x5 : Vec Ideal S128 .f32) (x6 : Vec Ideal S128x1024 .f32) (x7 x8 : Vec Ideal S8192x8x96 .f32) (x9 : Vec Ideal S8192x8x64 .f32) (x10 : Vec Ideal S8192x1024 .f32)
  (x11 : Vec Ideal S8192x2048 .f32) : val_main_v219 x0 x2 x6 x8 x9 = fun y => (args x0 x1 x2 x3 x4 x5 x6 x7 x8 x9 x10 x11).data.kvg (y 1) :=
  funext fun y => (congrArg (val_main_v219 x0 x2 x6 x8 x9) (ix2_eta y)).trans (kvg_eq x0 x1 x2 x3 x4 x5 x6 x7 x8 x9 x10 x11 (y 0) (y 1))
end

section
open Cert.KernelIdeal
variable (m : (ℓ : Loc nD τ sig) → Buf (Elt Ideal) ℓ) (c : Dev nD)

/-- The arguments as both programs take them. -/
theorem args_eq : Cert.KernelIdeal.Tail.args m c = Cert.ReferenceIdeal.Tail.args
    (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11)) := rfl
end

section
open Cert.ReferenceIdeal Cert.ReferenceIdeal.Gen Cert.ReferenceIdeal.Read Cert.ReferenceIdeal.Tail
variable (m' : (ℓ : Loc nD τ sig) → Buf (Elt Ideal) ℓ) (c : Dev nD)

/-- The reference's arguments. -/
def rargs : Cert.Tail.Args := args (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
theorem rres0 (H : (rargs m' c).Ok) : val_main_v206 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) = fun y => (rargs m' c).data.gx (y 0) (y 1) :=
  ref0 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) H
theorem rres1 (H : (rargs m' c).Ok) : val_main_v212 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg11)) = fun y => (rargs m' c).data.win (y 0) (y 1) :=
  ref1 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) H
theorem rres2 : val_main_v217 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg5)) (m' ((c.tc : Thread nD τ).loc main_arg7)) (m' ((c.tc : Thread nD τ).loc main_arg8)) (m' ((c.tc : Thread nD τ).loc main_arg9)) = fun y => Cert.KernelIdeal.Tail.heads (rargs m' c).data (y 0) (y 1) (y 2) :=
  ref2 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
theorem rres3 : val_main_v218 (F := Ideal) (m' ((c.tc : Thread nD τ).loc main_arg0)) (m' ((c.tc : Thread nD τ).loc main_arg1)) (m' ((c.tc : Thread nD τ).loc main_arg2)) (m' ((c.tc : Thread nD τ).loc main_arg4)) (m' ((c.tc : Thread nD τ).loc main_arg7)) = fun y => (rargs m' c).data.qg (y 1) :=
  ref3 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
theorem rres4 : val_main_v219 (F := Ideal) (m' ((c.tc : Thread nD τ).loc main_arg0)) (m' ((c.tc : Thread nD τ).loc main_arg2)) (m' ((c.tc : Thread nD τ).loc main_arg6)) (m' ((c.tc : Thread nD τ).loc main_arg8)) (m' ((c.tc : Thread nD τ).loc main_arg9)) = fun y => (rargs m' c).data.kvg (y 1) :=
  ref4 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
end

theorem algebraic [Cert.Pre_finite.Facts] : Cert.algebraic_KernelIdeal_ReferenceIdeal_pre_finite := by
  intro m g m' g' hpre hm
  let D : (c : Dev Cert.KernelIdeal.nD) → Cert.Tail.Data := fun c => (Cert.KernelIdeal.Tail.args m c).data
  have hA : ∀ c : Dev Cert.KernelIdeal.nD, rargs m' c = Cert.KernelIdeal.Tail.args m c := by
    intro c
    obtain ⟨a0, a1, a2, a3, a4, a5, a6, a7, a8, a9, a10, a11⟩ := hm c
    rw [args_eq, ← a0, ← a1, ← a2, ← a3, ← a4, ← a5, ← a6, ← a7, ← a8, ← a9, ← a10, ← a11]
    rfl
  have hD : ∀ c : Dev Cert.KernelIdeal.nD, D c = (rargs m' c).data := fun c => congrArg Cert.Tail.Args.data (hA c).symm
  have hok : ∀ c : Dev Cert.KernelIdeal.nD, (rargs m' c).Ok := fun c => by
    rw [hA c, args_eq]
    exact Cert.Pre_finite.Tail.ok _ _ _ _ _ _ _ _ _ _ _ _ (hpre c)
  refine ⟨fun c y => (D c).gx (y 0) (y 1), fun c y => (D c).win (y 0) (y 1), fun c y => Cert.KernelIdeal.Tail.heads (D c) (y 0) (y 1) (y 2), fun c y => (D c).qg (y 1), fun c y => (D c).kvg (y 1), ?_, ?_⟩
  · refine (θ_run _ _ _).mono (fun r h c => ?_) (Cert.KernelIdeal.Value.run_blocks m g)
    obtain ⟨h0, h1, h2, h3, h4, h5⟩ := h c
    rw [Cert.KernelIdeal.Tail.final13, Cert.KernelIdeal.Tail.data_eq] at h0
    rw [Cert.KernelIdeal.Tail.final14, Cert.KernelIdeal.Tail.data_eq] at h1
    rw [Cert.KernelIdeal.Tail.final15, Cert.KernelIdeal.Tail.data_eq] at h2
    rw [Cert.KernelIdeal.Tail.final16, Cert.KernelIdeal.Tail.data_eq] at h3
    rw [Cert.KernelIdeal.Tail.final17, Cert.KernelIdeal.Tail.data_eq] at h4
    exact ⟨h0, h1, h2, h3, h4, h5⟩
  · refine (θ_run _ _ _).mono (fun r h c => ?_) (Cert.ReferenceIdeal.Value.run (F := Ideal) m' g')
    obtain ⟨h0, h1, h2, h3, h4, h5⟩ := h c
    dsimp only
    rw [hD c]
    refine ⟨?_, ?_, ?_, ?_, ?_, h5⟩
    · exact h0.trans ((Cert.ReferenceIdeal.Read.val_main_v206_eq (StableHlo.launchContents m' c)).trans (rres0 m' c (hok c)))
    · exact h1.trans ((Cert.ReferenceIdeal.Read.val_main_v212_eq (StableHlo.launchContents m' c)).trans (rres1 m' c (hok c)))
    · exact h2.trans ((Cert.ReferenceIdeal.Read.val_main_v217_eq (StableHlo.launchContents m' c)).trans (rres2 m' c))
    · exact h3.trans ((Cert.ReferenceIdeal.Read.val_main_v218_eq (StableHlo.launchContents m' c)).trans (rres3 m' c))
    · exact h4.trans ((Cert.ReferenceIdeal.Read.val_main_v219_eq (StableHlo.launchContents m' c)).trans (rres4 m' c))
end Cert.Tail
-- ==== Proof.VRead.lean ====
module
public import proofs.«01_k».proof.Proof.ILoop
public import Idealize.ShloMosaic.Lib.Pipeline.ReadBack
public import Idealize.ShloMosaic.Lib.Pointwise
public import Idealize.ShloMosaic.Lib.WholeRead
public import Idealize.ShloMosaic.PureOps.Ideal
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! A point's inputs by the place of a query or of a key, and what has been stored in a table or in a sum. -/

/-- A row of the queries or of the cotangent. -/
def qAt (X : Vec Ideal S1x8192x128 .bf16) (q : ℕ) (d : Fin 128) : EReal := if h : q < 8192 then X (ix3 0 ⟨q, h⟩ d) else 0
/-- A row of the point's keys. -/
def kAt (X : Vec Ideal S1x2048x128 .bf16) (κ : ℕ) (d : Fin 128) : EReal := if h : κ < 2048 then X (ix3 0 ⟨κ, h⟩ d) else 0
/-- A query's logarithm. -/
def lAt (X : Vec Ideal S1x1x8192 .f32) (q : ℕ) : EReal := if h : q < 8192 then X (ix3 0 0 ⟨q, h⟩) else 0

theorem qAt_idx (X : Vec Ideal S1x8192x128 .bf16) (i : S1x8192x128.Idx) (n : ℕ) (d : Fin 128) (h1 : (i 1).val = n) (h2 : (i 2).val = d.val) :
    X i = qAt X n d := by
  subst h1
  unfold qAt
  rw [dif_pos (show (i 1).val < 8192 from (i 1).isLt)]
  refine congrArg X (funext fun a => Fin.ext ?_)
  match a with
  | ⟨0, _⟩ => have : (i 0).val < 1 := (i 0).isLt; show (i 0).val = 0; omega
  | ⟨1, _⟩ => rfl
  | ⟨2, _⟩ => exact h2
theorem kAt_idx (X : Vec Ideal S1x2048x128 .bf16) (i : S1x2048x128.Idx) (n : ℕ) (d : Fin 128) (h1 : (i 1).val = n) (h2 : (i 2).val = d.val) :
    X i = kAt X n d := by
  subst h1
  unfold kAt
  rw [dif_pos (show (i 1).val < 2048 from (i 1).isLt)]
  refine congrArg X (funext fun a => Fin.ext ?_)
  match a with
  | ⟨0, _⟩ => have : (i 0).val < 1 := (i 0).isLt; show (i 0).val = 0; omega
  | ⟨1, _⟩ => rfl
  | ⟨2, _⟩ => exact h2
theorem lAt_idx (X : Vec Ideal S1x1x8192 .f32) (i : S1x1x8192.Idx) (n : ℕ) (h : (i 2).val = n) : X i = lAt X n := by
  subst h
  unfold lAt
  rw [dif_pos (show (i 2).val < 8192 from (i 2).isLt)]
  refine congrArg X (funext fun a => Fin.ext ?_)
  match a with
  | ⟨0, _⟩ => have : (i 0).val < 1 := (i 0).isLt; show (i 0).val = 0; omega
  | ⟨1, _⟩ => have : (i 1).val < 1 := (i 1).isLt; show (i 1).val = 0; omega
  | ⟨2, _⟩ => rfl

section Reads
variable {sig : RefSig} {κ : Kind} {sp : Space}

theorem rdQ {m : Memref sig κ sp S1x8192x128 .bf16} (h : m.IsWhole) (X : Vec Ideal S1x8192x128 .bf16) {off size : Fin 3 → ℕ} {inb}
    (x : (Rect.unit (s := S1x8192x128) off size inb).toLoadRect.shape.Idx) (n : ℕ) (d : Fin 128)
    (h1 : off 1 + (x 1).val = n) (h2 : off 2 + (x 2).val = d.val) :
    View.readAt (Elt Ideal) m.view (Rect.unit (s := S1x8192x128) off size inb).toLoadRect (h.unread X) x = qAt X n d :=
  (Memref.IsWhole.readAt_unread h X _ x).trans (qAt_idx X _ n d (by show off 1 + 1 * (x 1).val = n; omega) (by show off 2 + 1 * (x 2).val = d.val; omega))
theorem rdK {m : Memref sig κ sp S1x2048x128 .bf16} (h : m.IsWhole) (X : Vec Ideal S1x2048x128 .bf16) {off size : Fin 3 → ℕ} {inb}
    (x : (Rect.unit (s := S1x2048x128) off size inb).toLoadRect.shape.Idx) (n : ℕ) (d : Fin 128)
    (h1 : off 1 + (x 1).val = n) (h2 : off 2 + (x 2).val = d.val) :
    View.readAt (Elt Ideal) m.view (Rect.unit (s := S1x2048x128) off size inb).toLoadRect (h.unread X) x = kAt X n d :=
  (Memref.IsWhole.readAt_unread h X _ x).trans (kAt_idx X _ n d (by show off 1 + 1 * (x 1).val = n; omega) (by show off 2 + 1 * (x 2).val = d.val; omega))
theorem rdL {m : Memref sig κ sp S1x1x8192 .f32} (h : m.IsWhole) (X : Vec Ideal S1x1x8192 .f32) {off size : Fin 3 → ℕ} {inb}
    (x : (Rect.unit (s := S1x1x8192) off size inb).toLoadRect.shape.Idx) (n : ℕ)
    (h1 : off 2 + (x 2).val = n) :
    View.readAt (Elt Ideal) m.view (Rect.unit (s := S1x1x8192) off size inb).toLoadRect (h.unread X) x = lAt X n :=
  (Memref.IsWhole.readAt_unread h X _ x).trans (lAt_idx X _ n (by show off 2 + 1 * (x 2).val = n; omega))

/-- A table holds `G` at the places in `D`. -/
def Ok {e : EltTy} (L : List (View.Piece (Elt Ideal) S2048x512 e)) (D : ℕ → ℕ → Prop) (G : ℕ → ℕ → Elt Ideal e) : Prop :=
  ∀ y : S2048x512.Idx, D (y 0).val (y 1).val → View.canon L y = G (y 0).val (y 1).val

theorem Ok.none {e : EltTy} (L : List (View.Piece (Elt Ideal) S2048x512 e)) (G : ℕ → ℕ → Elt Ideal e) : Ok L (fun _ _ => False) G :=
  fun _ h => h.elim

theorem mem2 {a b m n : ℕ} {inb} (y : S2048x512.Idx) : y ∈ (Rect.unit (s := S2048x512) ![a, b] ![m, n] inb).set ↔
    a ≤ (y 0).val ∧ (y 0).val < a + m ∧ b ≤ (y 1).val ∧ (y 1).val < b + n := by
  rw [Rect.mem_set_unit]
  constructor
  · intro h
    exact ⟨(h 0).1, (h 0).2, (h 1).1, (h 1).2⟩
  · intro h a
    match a with
    | ⟨0, _⟩ => exact ⟨h.1, h.2.1⟩
    | ⟨1, _⟩ => exact h.2.2

/-- One more store, of `G`'s values on a rectangle. -/
theorem Ok.add {e : EltTy} {L : List (View.Piece (Elt Ideal) S2048x512 e)} {D : ℕ → ℕ → Prop} {G : ℕ → ℕ → Elt Ideal e} {a b m n : ℕ} {inb}
    {w : (⟨2, ![m, n]⟩ : Shape).Idx → Elt Ideal e} (h : Ok L D G) (hw : ∀ (r : Fin m) (c : Fin n), w (ix2 r c) = G (a + r.val) (b + c.val)) :
    Ok ((⟨Rect.unit (s := S2048x512) ![a, b] ![m, n] inb, w⟩ : View.Piece (Elt Ideal) S2048x512 e) :: L)
      (fun κ c => (a ≤ κ ∧ κ < a + m ∧ b ≤ c ∧ c < b + n) ∨ D κ c) G := by
  intro y hy
  by_cases hm : y ∈ (Rect.unit (s := S2048x512) ![a, b] ![m, n] inb).set
  · have h1 := (mem2 y).mp hm
    obtain ⟨k, hk⟩ : ∃ k : Fin m, (y 0).val = a + k.val := ⟨⟨(y 0).val - a, by omega⟩, by show (y 0).val = a + ((y 0).val - a); omega⟩
    obtain ⟨l, hl⟩ : ∃ l : Fin n, (y 1).val = b + l.val := ⟨⟨(y 1).val - b, by omega⟩, by show (y 1).val = b + ((y 1).val - b); omega⟩
    have e : (Rect.unit (s := S2048x512) ![a, b] ![m, n] inb).emb (ix2 k l) = y := funext fun t => Fin.ext (by
      match t with
      | ⟨0, _⟩ => show a + 1 * k.val = (y 0).val; omega
      | ⟨1, _⟩ => show b + 1 * l.val = (y 1).val; omega)
    rw [hk, hl, ← hw k l, ← e]
    exact View.canon_cons_emb (Val := Elt Ideal) (Rect.unit (s := S2048x512) ![a, b] ![m, n] inb) w L (ix2 k l)
  · refine (View.canon_cons_of_not_mem (Val := Elt Ideal) ⟨Rect.unit (s := S2048x512) ![a, b] ![m, n] inb, w⟩ L hm).trans ?_
    exact h y (hy.resolve_left fun h1 => hm ((mem2 y).mpr h1))

theorem Ok.mono {e : EltTy} {L : List (View.Piece (Elt Ideal) S2048x512 e)} {D D' : ℕ → ℕ → Prop} {G : ℕ → ℕ → Elt Ideal e} (h : Ok L D G)
    (hD : ∀ κ c, κ < 2048 → c < 512 → D' κ c → D κ c) : Ok L D' G :=
  fun y hy => h y (hD _ _ (y 0).isLt (y 1).isLt hy)

/-- A load reads the table's values. -/
theorem Ok.rd {e : EltTy} {L : List (View.Piece (Elt Ideal) S2048x512 e)} {D : ℕ → ℕ → Prop} {G : ℕ → ℕ → Elt Ideal e} (h : Ok L D G) (v : View sig κ sp S2048x512 e)
    {a b m n : ℕ} {inb} (r : Fin m) (c : Fin n) (hD : D (a + r.val) (b + c.val)) :
    v.readCov L (Rect.unit (s := S2048x512) ![a, b] ![m, n] inb).toLoadRect (ix2 r c) = G (a + r.val) (b + c.val) := by
  rw [View.readCov_eq_canon']
  have e0 : (((Rect.unit (s := S2048x512) ![a, b] ![m, n] inb).toLoadRect.idx (ix2 r c)) 0).val = a + r.val := by
    show a + 1 * r.val = _; omega
  have e1 : (((Rect.unit (s := S2048x512) ![a, b] ![m, n] inb).toLoadRect.idx (ix2 r c)) 1).val = b + c.val := by
    show b + 1 * c.val = _; omega
  refine (h _ (by rw [e0, e1]; exact hD)).trans (congrArg₂ G e0 e1)

/-- A sum holds `G`. -/
def Ok3 (L : List (View.Piece (Elt Ideal) S1x2048x128 .f32)) (G : ℕ → Fin 128 → EReal) : Prop :=
  ∀ (r : Fin 2048) (d : Fin 128), View.canon L (ix3 0 r d) = G r.val d

theorem mem3 {a m : ℕ} {inb} (r : Fin 2048) (d : Fin 128) : (ix3 0 r d : S1x2048x128.Idx) ∈ (Rect.unit (s := S1x2048x128) ![0, a, 0] ![1, m, 128] inb).set ↔
    a ≤ r.val ∧ r.val < a + m := by
  rw [Rect.mem_set_unit]
  constructor
  · intro h
    exact h 1
  · intro h a
    match a with
    | ⟨0, _⟩ => exact ⟨Nat.le_refl _, Nat.lt_add_one _⟩
    | ⟨1, _⟩ => exact h
    | ⟨2, _⟩ => exact ⟨Nat.zero_le _, by show d.val < 0 + 128; omega⟩

/-- A store that adds `T` to rows of the sum. -/
theorem Ok3.add {L : List (View.Piece (Elt Ideal) S1x2048x128 .f32)} {G G' T : ℕ → Fin 128 → EReal} (v : View sig κ sp S1x2048x128 .f32) {a m : ℕ} {inb inb'}
    {w : (⟨3, ![1, m, 128]⟩ : Shape).Idx → EReal} (h : Ok3 L G)
    (hw : ∀ (r : Fin m) (d : Fin 128), w (ix3 0 r d) = v.readCov L (Rect.unit (s := S1x2048x128) ![0, a, 0] ![1, m, 128] inb').toLoadRect (ix3 0 r d) + T (a + r.val) d)
    (hin : ∀ κ d, a ≤ κ → κ < a + m → G' κ d = G κ d + T κ d) (hout : ∀ κ d, κ < 2048 → ¬ (a ≤ κ ∧ κ < a + m) → G' κ d = G κ d) :
    Ok3 ((⟨Rect.unit (s := S1x2048x128) ![0, a, 0] ![1, m, 128] inb, w⟩ : View.Piece (Elt Ideal) S1x2048x128 .f32) :: L) G' := by
  intro r d
  by_cases hm : a ≤ r.val ∧ r.val < a + m
  · obtain ⟨k, hk⟩ : ∃ k : Fin m, r.val = a + k.val := ⟨⟨r.val - a, by omega⟩, by show r.val = a + (r.val - a); omega⟩
    have e : (Rect.unit (s := S1x2048x128) ![0, a, 0] ![1, m, 128] inb).emb (ix3 0 k d) = ix3 0 r d := funext fun t => Fin.ext (by
      match t with
      | ⟨0, _⟩ => rfl
      | ⟨1, _⟩ => show a + 1 * k.val = r.val; omega
      | ⟨2, _⟩ => show 0 + 1 * d.val = d.val; omega)
    have h1 := (View.canon_cons_emb (Val := Elt Ideal) (e := .f32) (Rect.unit (s := S1x2048x128) ![0, a, 0] ![1, m, 128] inb) w L (ix3 0 k d)).trans (hw k d)
    rw [e] at h1
    rw [h1, View.readCov_eq_canon', hin _ _ hm.1 hm.2, ← hk]
    exact congrArg (· + T r.val d) ((congrArg (View.canon L) e).trans (h r d))
  · have h1 : (ix3 0 r d : S1x2048x128.Idx) ∉ (Rect.unit (s := S1x2048x128) ![0, a, 0] ![1, m, 128] inb).set := fun h1 => hm ((mem3 r d).mp h1)
    refine (View.canon_cons_of_not_mem (Val := Elt Ideal) (e := .f32) ⟨Rect.unit (s := S1x2048x128) ![0, a, 0] ![1, m, 128] inb, w⟩ L h1).trans ?_
    exact (h r d).trans (hout _ _ r.isLt hm).symm
end Reads
end Cert.Kernel2Ideal.Bwd
-- ==== Proof.VPay.lean ====
module
public import proofs.«01_k».proof.Proof.ILoop
public import Idealize.ShloMosaic.Lib.Pipeline.ReadBack
public import Idealize.ShloMosaic.Lib.Pointwise
public import Idealize.ShloMosaic.Lib.WholeRead
public import Idealize.ShloMosaic.Lib.WordCmp
public import Idealize.ShloMosaic.PureOps.Ideal
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! The vectors a point stores, read at an index. -/

/-- The weight of a key and a query, from their score and the query's logarithm: 0 if the query comes before the key. -/
def pe (κ q : ℕ) (s l : EReal) : EReal := if κ ≤ q then FloatOps.exp2 (F := Ideal) (φ := .f32) (s - l : EReal) else 0

theorem msk (r c a b : ℕ) (h : r + a < 2 ^ 31) (h' : c + b < 2 ^ 31) (s l : EReal) :
    Scalar.select (α := EReal) (IntOp.cmpi .sge (IntOp.addi (BitVec.ofNat 32 c) (BitVec.ofNat 32 b)) (IntOp.addi (BitVec.ofNat 32 r) (BitVec.ofNat 32 a)))
      (FloatOps.exp2 (F := Ideal) (φ := .f32) (s - l : EReal)) (0 : EReal) = pe (r + a) (c + b) s l := by
  rw [show IntOp.addi (BitVec.ofNat 32 c) (BitVec.ofNat 32 b) = BitVec.ofNat 32 (c + b) from (BitVec.ofNat_add c b).symm,
    show IntOp.addi (BitVec.ofNat 32 r) (BitVec.ofNat 32 a) = BitVec.ofNat 32 (r + a) from (BitVec.ofNat_add r a).symm,
    WordCmp.cmpi_sge_ofNat h' h]
  unfold pe
  by_cases h0 : r + a ≤ c + b
  · rw [if_pos h0, decide_eq_true h0]; rfl
  · rw [if_neg h0, decide_eq_false h0]; rfl

/-! Scores of keys and queries. -/

theorem pay81_apply (a : Vec Ideal S1x256x128 .bf16) (b : Vec Ideal S1x512x128 .bf16) (r : Fin 256) (c : Fin 512) :
    k0_pay81 (k0_pay80 a b) (ix2 r c) = ∑ d : Fin 128, a (ix3 0 r d) * b (ix3 0 c d) := by
  pointwise [k0_pay81, k0_pay80]

theorem pay83_apply (a : Vec Ideal S1x256x128 .bf16) (b : Vec Ideal S1x256x128 .bf16) (r : Fin 256) (c : Fin 256) :
    k0_pay83 a b (ix2 r c) = ∑ d : Fin 128, a (ix3 0 r d) * b (ix3 0 c d) := by
  pointwise [k0_pay83]

theorem pay86_apply (a : Vec Ideal S1x768x128 .bf16) (b : Vec Ideal S1x512x128 .bf16) (r : Fin 768) (c : Fin 512) :
    k0_pay86 a b (ix2 r c) = ∑ d : Fin 128, a (ix3 0 r d) * b (ix3 0 c d) := by
  pointwise [k0_pay86]

theorem pay89_apply (a : Vec Ideal S1x256x128 .bf16) (b : Vec Ideal S1x256x128 .bf16) (r : Fin 256) (c : Fin 256) :
    k0_pay89 a b (ix2 r c) = ∑ d : Fin 128, a (ix3 0 r d) * b (ix3 0 c d) := by
  pointwise [k0_pay89]

theorem pay102_apply (a : Vec Ideal S1x256x128 .bf16) (b : Vec Ideal S1x256x128 .bf16) (r : Fin 256) (c : Fin 256) :
    k0_pay102 a b (ix2 r c) = ∑ d : Fin 128, a (ix3 0 r d) * b (ix3 0 c d) := by
  pointwise [k0_pay102]

theorem pay133_apply (a : Vec Ideal S1x1792x128 .bf16) (b : Vec Ideal S1x512x128 .bf16) (r : Fin 1792) (c : Fin 512) :
    k0_pay133 a b (ix2 r c) = ∑ d : Fin 128, a (ix3 0 r d) * b (ix3 0 c d) := by
  pointwise [k0_pay133]

theorem pay136_apply (a : Vec Ideal S1x256x128 .bf16) (b : Vec Ideal S1x256x128 .bf16) (r : Fin 256) (c : Fin 256) :
    k0_pay136 a b (ix2 r c) = ∑ d : Fin 128, a (ix3 0 r d) * b (ix3 0 c d) := by
  pointwise [k0_pay136]

theorem pay172_apply (a : Vec Ideal S1x2048x128 .bf16) (b : Vec Ideal S1x512x128 .bf16) (r : Fin 2048) (c : Fin 512) :
    k0_pay172 a b (ix2 r c) = ∑ d : Fin 128, a (ix3 0 r d) * b (ix3 0 c d) := by
  pointwise [k0_pay172]

theorem pay100_apply (a : Vec Ideal S1x1280x128 .bf16) (b : Vec Ideal S1x512x128 .bf16) (r : Fin 1280) (c : Fin 512) :
    k0_pay100 (k0_pay99 a) b (ix2 r c) = ∑ d : Fin 128, a (ix3 0 r d) * b (ix3 0 c d) := by
  pointwise [k0_pay100, k0_pay99]

/-! Weights under the mask. -/

theorem pay93_apply (l : Vec Ideal S1x1x512 .f32) (s : Vec Ideal S256x512 .f32) (r : Fin 256) (c : Fin 512) :
    k0_pay93 (k0_pay91 l) s (ix2 r c) = pe (r.val + 0) (c.val + 0) (s (ix2 r c)) (l (ix3 0 0 c)) := by
  pointwise [k0_pay93, k0_pay92, k0_pay91]
  exact msk r.val c.val 0 0 (by omega) (by omega) _ _

theorem pay97_apply (l : Vec Ideal S1x1x256 .f32) (s : Vec Ideal S256x256 .f32) (r : Fin 256) (c : Fin 256) :
    k0_pay97 (k0_pay95 l) s (ix2 r c) = pe (r.val + 256) (c.val + 256) (s (ix2 r c)) (l (ix3 0 0 c)) := by
  pointwise [k0_pay97, k0_pay96, k0_pay95]
  exact msk r.val c.val 256 256 (by omega) (by omega) _ _

theorem pay116_apply (l : Vec Ideal S1x1x512 .f32) (s : Vec Ideal S256x512 .f32) (r : Fin 256) (c : Fin 512) :
    k0_pay116 l s (ix2 r c) = pe (r.val + 0) (c.val + 512) (s (ix2 r c)) (l (ix3 0 0 c)) := by
  pointwise [k0_pay116, k0_pay115, k0_pay113]
  exact msk r.val c.val 0 512 (by omega) (by omega) _ _

theorem pay119_apply (l : Vec Ideal S1x1x512 .f32) (s : Vec Ideal S256x512 .f32) (r : Fin 256) (c : Fin 512) :
    k0_pay119 (k0_pay113 l) s (ix2 r c) = pe (r.val + 256) (c.val + 512) (s (ix2 r c)) (l (ix3 0 0 c)) := by
  pointwise [k0_pay119, k0_pay118, k0_pay113]
  exact msk r.val c.val 256 512 (by omega) (by omega) _ _

theorem pay124_apply (l : Vec Ideal S1x1x512 .f32) (s : Vec Ideal S256x512 .f32) (r : Fin 256) (c : Fin 512) :
    k0_pay124 (k0_pay121 (k0_pay113 l) s) k0_pay122 (iota .tc S256x512 32 [1] iota_S256x512_d1_w32) 512#32 (ix2 r c) = pe (r.val + 512) (c.val + 512) (s (ix2 r c)) (l (ix3 0 0 c)) := by
  pointwise [k0_pay124, k0_pay123, k0_pay122, k0_pay121, k0_pay113]
  exact msk r.val c.val 512 512 (by omega) (by omega) _ _

theorem pay131_apply (l : Vec Ideal S1x1x256 .f32) (s : Vec Ideal S256x256 .f32) (r : Fin 256) (c : Fin 256) :
    k0_pay131 (k0_pay127 l s) k0_pay128 k0_pay129 (ix2 r c) = pe (r.val + 768) (c.val + 768) (s (ix2 r c)) (l (ix3 0 0 c)) := by
  pointwise [k0_pay131, k0_pay130, k0_pay127, k0_pay128, k0_pay129]
  exact msk r.val c.val 768 768 (by omega) (by omega) _ _

theorem pay149_apply (l : Vec Ideal S1x1x512 .f32) (s : Vec Ideal S256x512 .f32) (r : Fin 256) (c : Fin 512) :
    k0_pay149 l s (ix2 r c) = pe (r.val + 0) (c.val + 1024) (s (ix2 r c)) (l (ix3 0 0 c)) := by
  pointwise [k0_pay149, k0_pay148, k0_pay146]
  exact msk r.val c.val 0 1024 (by omega) (by omega) _ _

theorem pay154_apply (l : Vec Ideal S1x1x512 .f32) (s : Vec Ideal S256x512 .f32) (r : Fin 256) (c : Fin 512) :
    k0_pay154 (k0_pay151 l s) k0_pay152 (ix2 r c) = pe (r.val + 256) (c.val + 1024) (s (ix2 r c)) (l (ix3 0 0 c)) := by
  pointwise [k0_pay154, k0_pay153, k0_pay151, k0_pay152, k0_pay146]
  exact msk r.val c.val 256 1024 (by omega) (by omega) _ _

theorem pay157_apply (l : Vec Ideal S1x1x512 .f32) (s : Vec Ideal S256x512 .f32) (r : Fin 256) (c : Fin 512) :
    k0_pay157 (k0_pay146 l) s (ix2 r c) = pe (r.val + 512) (c.val + 1024) (s (ix2 r c)) (l (ix3 0 0 c)) := by
  pointwise [k0_pay157, k0_pay156, k0_pay146]
  exact msk r.val c.val 512 1024 (by omega) (by omega) _ _

theorem pay161_apply (l : Vec Ideal S1x1x512 .f32) (s : Vec Ideal S256x512 .f32) (r : Fin 256) (c : Fin 512) :
    k0_pay161 (k0_pay146 l) s (ix2 r c) = pe (r.val + 768) (c.val + 1024) (s (ix2 r c)) (l (ix3 0 0 c)) := by
  pointwise [k0_pay161, k0_pay160, k0_pay146]
  exact msk r.val c.val 768 1024 (by omega) (by omega) _ _

theorem pay166_apply (l : Vec Ideal S1x1x512 .f32) (s : Vec Ideal S256x512 .f32) (r : Fin 256) (c : Fin 512) :
    k0_pay166 (k0_pay163 (k0_pay146 l) s) k0_pay164 (FloatOps.ofBits .f32 0#32) (ix2 r c) = pe (r.val + 1024) (c.val + 1024) (s (ix2 r c)) (l (ix3 0 0 c)) := by
  pointwise [k0_pay166, k0_pay165, k0_pay163, k0_pay164, k0_pay146]
  exact msk r.val c.val 1024 1024 (by omega) (by omega) _ _

theorem pay170_apply (l : Vec Ideal S1x1x256 .f32) (s : Vec Ideal S256x256 .f32) (r : Fin 256) (c : Fin 256) :
    k0_pay170 (k0_pay169 l s) (ix2 r c) = pe (r.val + 1280) (c.val + 1280) (s (ix2 r c)) (l (ix3 0 0 c)) := by
  pointwise [k0_pay170, k0_pay169]
  exact msk r.val c.val 1280 1280 (by omega) (by omega) _ _

theorem pay186_apply (l : Vec Ideal S1x1x512 .f32) (s : Vec Ideal S256x512 .f32) (r : Fin 256) (c : Fin 512) :
    k0_pay186 l s (ix2 r c) = pe (r.val + 0) (c.val + 1536) (s (ix2 r c)) (l (ix3 0 0 c)) := by
  pointwise [k0_pay186, k0_pay185, k0_pay183]
  exact msk r.val c.val 0 1536 (by omega) (by omega) _ _

theorem pay189_apply (l : Vec Ideal S1x1x512 .f32) (s : Vec Ideal S256x512 .f32) (r : Fin 256) (c : Fin 512) :
    k0_pay189 (k0_pay183 l) s (ix2 r c) = pe (r.val + 256) (c.val + 1536) (s (ix2 r c)) (l (ix3 0 0 c)) := by
  pointwise [k0_pay189, k0_pay188, k0_pay183]
  exact msk r.val c.val 256 1536 (by omega) (by omega) _ _

theorem pay193_apply (l : Vec Ideal S1x1x512 .f32) (s : Vec Ideal S256x512 .f32) (r : Fin 256) (c : Fin 512) :
    k0_pay193 (k0_pay192 (k0_pay183 l) s) (ix2 r c) = pe (r.val + 512) (c.val + 1536) (s (ix2 r c)) (l (ix3 0 0 c)) := by
  pointwise [k0_pay193, k0_pay192, k0_pay191, k0_pay183]
  exact msk r.val c.val 512 1536 (by omega) (by omega) _ _

theorem pay196_apply (l : Vec Ideal S1x1x512 .f32) (s : Vec Ideal S256x512 .f32) (r : Fin 256) (c : Fin 512) :
    k0_pay196 (k0_pay183 l) s (ix2 r c) = pe (r.val + 768) (c.val + 1536) (s (ix2 r c)) (l (ix3 0 0 c)) := by
  pointwise [k0_pay196, k0_pay195, k0_pay183]
  exact msk r.val c.val 768 1536 (by omega) (by omega) _ _

theorem pay200_apply (l : Vec Ideal S1x1x512 .f32) (s : Vec Ideal S256x512 .f32) (r : Fin 256) (c : Fin 512) :
    k0_pay200 (k0_pay198 (k0_pay183 l) s) (ix2 r c) = pe (r.val + 1024) (c.val + 1536) (s (ix2 r c)) (l (ix3 0 0 c)) := by
  pointwise [k0_pay200, k0_pay199, k0_pay198, k0_pay183]
  exact msk r.val c.val 1024 1536 (by omega) (by omega) _ _

theorem pay203_apply (l : Vec Ideal S1x1x512 .f32) (s : Vec Ideal S256x512 .f32) (r : Fin 256) (c : Fin 512) :
    k0_pay203 (k0_pay183 l) s (ix2 r c) = pe (r.val + 1280) (c.val + 1536) (s (ix2 r c)) (l (ix3 0 0 c)) := by
  pointwise [k0_pay203, k0_pay202, k0_pay183]
  exact msk r.val c.val 1280 1536 (by omega) (by omega) _ _

theorem pay206_apply (l : Vec Ideal S1x1x512 .f32) (s : Vec Ideal S256x512 .f32) (r : Fin 256) (c : Fin 512) :
    k0_pay206 (k0_pay183 l) s (ix2 r c) = pe (r.val + 1536) (c.val + 1536) (s (ix2 r c)) (l (ix3 0 0 c)) := by
  pointwise [k0_pay206, k0_pay205, k0_pay183]
  exact msk r.val c.val 1536 1536 (by omega) (by omega) _ _

theorem pay210_apply (l : Vec Ideal S1x1x256 .f32) (s : Vec Ideal S256x256 .f32) (r : Fin 256) (c : Fin 256) :
    k0_pay210 (k0_pay208 l) s (ix2 r c) = pe (r.val + 1792) (c.val + 1792) (s (ix2 r c)) (l (ix3 0 0 c)) := by
  pointwise [k0_pay210, k0_pay209, k0_pay208]
  exact msk r.val c.val 1792 1792 (by omega) (by omega) _ _

theorem pay212_apply (r c : Fin 256) : k0_pay212 (F := Ideal) (ix2 r c) = (0 : EReal) := by
  pointwise [k0_pay212]

/-! The gradient of the values. -/
theorem pay79_apply (r : Fin 2048) (d : Fin 128) : k0_pay79 (F := Ideal) (ix3 0 r d) = (0 : EReal) := by
  pointwise [k0_pay79]

theorem pay104_apply (a : Vec Ideal S1x256x128 .f32) (p : Vec Ideal S256x512 .bf16) (b : Vec Ideal S1x512x128 .bf16) (r : Fin 256) (d : Fin 128) :
    k0_pay104 a p b (ix3 0 r d) = a (ix3 0 r d) + ∑ c : Fin 512, p (ix2 r c) * b (ix3 0 c d) := by
  pointwise [k0_pay104]

theorem pay109_apply (a : Vec Ideal S1x256x128 .f32) (p : Vec Ideal S256x256 .bf16) (b : Vec Ideal S1x256x128 .bf16) (r : Fin 256) (d : Fin 128) :
    k0_pay109 (k0_pay108 a) p b (ix3 0 r d) = a (ix3 0 r d) + ∑ c : Fin 256, p (ix2 r c) * b (ix3 0 c d) := by
  pointwise [k0_pay109, k0_pay108]

theorem pay139_apply (a : Vec Ideal S1x768x128 .f32) (p : Vec Ideal S768x512 .bf16) (b : Vec Ideal S1x512x128 .bf16) (r : Fin 768) (d : Fin 128) :
    k0_pay139 a p b (ix3 0 r d) = a (ix3 0 r d) + ∑ c : Fin 512, p (ix2 r c) * b (ix3 0 c d) := by
  pointwise [k0_pay139]

theorem pay143_apply (a : Vec Ideal S1x256x128 .f32) (p : Vec Ideal S256x256 .bf16) (b : Vec Ideal S1x256x128 .bf16) (r : Fin 256) (d : Fin 128) :
    k0_pay143 a p b (ix3 0 r d) = a (ix3 0 r d) + ∑ c : Fin 256, p (ix2 r c) * b (ix3 0 c d) := by
  pointwise [k0_pay143]

theorem pay175_apply (a : Vec Ideal S1x1280x128 .f32) (p : Vec Ideal S1280x512 .bf16) (b : Vec Ideal S1x512x128 .bf16) (r : Fin 1280) (d : Fin 128) :
    k0_pay175 a p b (ix3 0 r d) = a (ix3 0 r d) + ∑ c : Fin 512, p (ix2 r c) * b (ix3 0 c d) := by
  pointwise [k0_pay175]

theorem pay180_apply (a : Vec Ideal S1x256x128 .f32) (p : Vec Ideal S256x256 .bf16) (b : Vec Ideal S1x256x128 .bf16) (r : Fin 256) (d : Fin 128) :
    k0_pay180 (k0_pay179 a p b) (ix3 0 r d) = a (ix3 0 r d) + ∑ c : Fin 256, p (ix2 r c) * b (ix3 0 c d) := by
  pointwise [k0_pay180, k0_pay179]

theorem pay227_apply (a : Vec Ideal S1x2048x128 .f32) (p : Vec Ideal S2048x512 .bf16) (b : Vec Ideal S1x512x128 .bf16) (r : Fin 2048) (d : Fin 128) :
    k0_pay227 (k0_pay225 a) p (k0_pay226 b) (constant S2048x128 .f32 0#32) (ix3 0 r d) = a (ix3 0 r d) + ∑ c : Fin 512, p (ix2 r c) * b (ix3 0 c d) := by
  pointwise [k0_pay227, k0_pay225, k0_pay226]

theorem pay4_apply (a : Vec Ideal S1x2048x128 .f32) (p : Vec Ideal S2048x512 .bf16) (b : Vec Ideal S1x512x128 .bf16) (r : Fin 2048) (d : Fin 128) :
    k0_pay4 a p b (ix3 0 r d) = a (ix3 0 r d) + ∑ c : Fin 512, p (ix2 r c) * b (ix3 0 c d) := by
  pointwise [k0_pay4]

theorem pay25_apply (a : Vec Ideal S1x2048x128 .f32) (p : Vec Ideal S2048x512 .bf16) (b : Vec Ideal S1x512x128 .bf16) (r : Fin 2048) (d : Fin 128) :
    k0_pay25 a p b (ix3 0 r d) = a (ix3 0 r d) + ∑ c : Fin 512, p (ix2 r c) * b (ix3 0 c d) := by
  pointwise [k0_pay25]

end Cert.Kernel2Ideal.Bwd
-- ==== Proof.VPre.lean ====
module
public import proofs.«01_k».proof.Proof.VRead
public import proofs.«01_k».proof.Proof.VPay
public import proofs.«01_k».proof.Proof.IPointA
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! The tables and the sum before a point's loop. -/

theorem off1_eq : ∀ i : grid0.Coords, k0_off1 i = ![0, 2048 * (i 1).val, 0] := by decide +kernel
theorem off2_eq : ∀ i : grid0.Coords, k0_off2 i = ![0, 2048 * (i 1).val + 256, 0] := by decide +kernel
theorem off3_eq : ∀ i : grid0.Coords, k0_off3 i = ![0, 2048 * (i 1).val + 512, 0] := by decide +kernel
theorem off4_eq : ∀ i : grid0.Coords, k0_off4 i = ![0, 2048 * (i 1).val + 768, 0] := by decide +kernel
theorem off5_eq : ∀ i : grid0.Coords, k0_off5 i = ![0, 0, 2048 * (i 1).val] := by decide +kernel
theorem off6_eq : ∀ i : grid0.Coords, k0_off6 i = ![0, 0, 2048 * (i 1).val + 256] := by decide +kernel
theorem off7_eq : ∀ (i : grid0.Coords) (r : Fin 3), k0_off7 i (BitVec.ofNat 32 (1 + r.val)) = ![0, 512 * min (4 * (i 1).val + (r.val + 2)) 15, 0] := by decide +kernel
theorem off7a_eq : ∀ (i : grid0.Coords) (r : Fin 2), k0_off7 i (BitVec.ofNat 32 (1 + r.val)) = ![0, 2048 * (i 1).val + 512 * (r.val + 2), 0] := by decide +kernel
theorem off8_eq : ∀ (i : grid0.Coords) (r : Fin 2), k0_off8 i (BitVec.ofNat 32 (1 + r.val)) = ![0, 2048 * (i 1).val + 512 * (r.val + 2) + 256, 0] := by decide +kernel
theorem off9_eq : ∀ (i : grid0.Coords) (r : Fin 3), k0_off9 i (BitVec.ofNat 32 (1 + r.val)) = ![0, 2048 * (i 1).val + 512 * r.val, 0] := by decide +kernel
theorem off11_eq : ∀ (i : grid0.Coords) (r : Fin 3), k0_off11 i (BitVec.ofNat 32 (1 + r.val)) = ![0, 2048 * (i 1).val + 512 * r.val + 256, 0] := by decide +kernel
theorem off13_eq : ∀ (i : grid0.Coords) (r : Fin 3), k0_off13 i (BitVec.ofNat 32 (1 + r.val)) = ![0, 0, 2048 * (i 1).val + 512 * (r.val + 1)] := by decide +kernel
theorem off14_eq : ∀ (i : grid0.Coords) (r : Fin 3), k0_off14 i (BitVec.ofNat 32 (1 + r.val)) = ![0, 0, 2048 * (i 1).val + 512 * (r.val + 1) + 256] := by decide +kernel

section Spec
variable (Q DO : Vec Ideal S1x8192x128 .bf16) (K : Vec Ideal S1x2048x128 .bf16) (L : Vec Ideal S1x1x8192 .f32) (j : ℕ)

/-- The score of a key of the block and a query. -/
def sc (κ q : ℕ) : EReal := ∑ d : Fin 128, kAt K κ d * qAt Q q d
/-- The scores of the block's `u`th tile of queries. -/
def ST (u κ c : ℕ) : EReal := sc Q K κ (2048 * j + (512 * u + c))
/-- The weight of a key and of the `n`th query from the block's first. -/
def pr (κ n : ℕ) : EReal := pe κ n (sc Q K κ (2048 * j + n)) (lAt L (2048 * j + n))
/-- The weights of the `u`th tile. -/
def PT (u κ c : ℕ) : EReal := pr Q K L j κ (512 * u + c)
/-- What some of the `u`th tile's queries add to the gradient of the values. -/
def dvP (b n u κ : ℕ) (d : Fin 128) : EReal := ∑ c : Fin n, PT Q K L j u κ (b + c.val) * qAt DO (2048 * j + (512 * u + (b + c.val))) d
/-- What the `u`th tile adds. -/
def dvT (u κ : ℕ) (d : Fin 128) : EReal := dvP Q DO K L j 0 512 u κ d

theorem PT_zero (u κ c : ℕ) (h : 512 * u + c < κ) : PT Q K L j u κ c = 0 := if_neg (by omega)
theorem dvT_zero (u κ : ℕ) (d : Fin 128) (h : 512 * u + 512 ≤ κ) : dvT Q DO K L j u κ d = 0 := by
  unfold dvT dvP
  refine Finset.sum_eq_zero fun c _ => ?_
  rw [PT_zero Q K L j u κ _ (by omega), zero_mul]
theorem dvT_half (u κ : ℕ) (d : Fin 128) (h : 512 * u + 256 ≤ κ) : dvT Q DO K L j u κ d = dvP Q DO K L j 256 256 u κ d := by
  unfold dvT dvP
  rw [show (512 : ℕ) = 256 + 256 from rfl, Fin.sum_univ_add]
  rw [Finset.sum_eq_zero (s := Finset.univ) (f := fun c : Fin 256 => _) fun c _ => ?_, zero_add]
  · refine Finset.sum_congr rfl fun c _ => ?_
    rw [show 0 + (Fin.natAdd 256 c).val = 256 + c.val by show 0 + (256 + c.val) = _; omega]
  · have hc : 0 + (Fin.castAdd 256 c).val = c.val := by show 0 + c.val = _; omega
    rw [hc, PT_zero Q K L j u κ _ (by omega), zero_mul]

section Pieces
variable {sig : RefSig} {κ : Kind} {sp : Space}
variable {m n a b u : ℕ} {off : Fin 3 → ℕ} {inb inb'}

theorem sc_piece {a2 : Memref sig κ sp S1x8192x128 .bf16} (h2 : a2.IsWhole) {a3 : Memref sig κ sp S1x2048x128 .bf16} (h3 : a3.IsWhole) (q : ℕ)
    (h1 : off 1 = q + b) (h0 : off 2 = 0) (w : (⟨2, ![m, n]⟩ : Shape).Idx → EReal)
    (hw : ∀ (r : Fin m) (c : Fin n), w (ix2 r c) = ∑ d : Fin 128,
      View.readAt (Elt Ideal) a3.view (Rect.unit (s := S1x2048x128) ![0, a, 0] ![1, m, 128] inb).toLoadRect (h3.unread K) (ix3 0 r d)
        * View.readAt (Elt Ideal) a2.view (Rect.unit (s := S1x8192x128) off ![1, n, 128] inb').toLoadRect (h2.unread Q) (ix3 0 c d)) (r : Fin m) (c : Fin n) :
    w (ix2 r c) = sc Q K (a + r.val) (q + (b + c.val)) :=
  (hw r c).trans (Finset.sum_congr rfl fun d _ => congrArg₂ (· * ·) (rdK h3 K _ _ d rfl (by show 0 + d.val = _; omega))
    (rdQ h2 Q _ _ d (by rw [h1]; show q + b + c.val = _; omega) (by rw [h0]; show 0 + d.val = _; omega)))

theorem st_piece {a2 : Memref sig κ sp S1x8192x128 .bf16} (h2 : a2.IsWhole) {a3 : Memref sig κ sp S1x2048x128 .bf16} (h3 : a3.IsWhole)
    (h1 : off 1 = 2048 * j + 512 * u + b) (h0 : off 2 = 0) (w : (⟨2, ![m, n]⟩ : Shape).Idx → EReal)
    (hw : ∀ (r : Fin m) (c : Fin n), w (ix2 r c) = ∑ d : Fin 128,
      View.readAt (Elt Ideal) a3.view (Rect.unit (s := S1x2048x128) ![0, a, 0] ![1, m, 128] inb).toLoadRect (h3.unread K) (ix3 0 r d)
        * View.readAt (Elt Ideal) a2.view (Rect.unit (s := S1x8192x128) off ![1, n, 128] inb').toLoadRect (h2.unread Q) (ix3 0 c d)) (r : Fin m) (c : Fin n) :
    w (ix2 r c) = ST Q K j u (a + r.val) (b + c.val) :=
  (sc_piece Q K h2 h3 (2048 * j + 512 * u) h1 h0 w hw r c).trans (congrArg (sc Q K _) (Nat.add_assoc _ _ _))

theorem pe_piece {a6 : Memref sig κ sp S1x1x8192 .f32} (h6 : a6.IsWhole) {Ls : List (View.Piece (Elt Ideal) S2048x512 .f32)} {D : ℕ → ℕ → Prop}
    (hs : Ok Ls D (ST Q K j u)) {v : View sig κ sp S2048x512 .f32} (h1 : off 2 = 2048 * j + 512 * u + b) (hD : ∀ (r : Fin m) (c : Fin n), D (a + r.val) (b + c.val))
    (w : (⟨2, ![m, n]⟩ : Shape).Idx → EReal)
    (hw : ∀ (r : Fin m) (c : Fin n), w (ix2 r c) = pe (r.val + a) (c.val + (512 * u + b))
      (v.readCov Ls (Rect.unit (s := S2048x512) ![a, b] ![m, n] inb).toLoadRect (ix2 r c))
      (View.readAt (Elt Ideal) a6.view (Rect.unit (s := S1x1x8192) off ![1, 1, n] inb').toLoadRect (h6.unread L) (ix3 0 0 c))) (r : Fin m) (c : Fin n) :
    w (ix2 r c) = PT Q K L j u (a + r.val) (b + c.val) := by
  refine (hw r c).trans ?_
  unfold PT pr
  rw [hs.rd v r c (hD r c), rdL h6 L _ (2048 * j + (512 * u + (b + c.val))) (by rw [h1]; show 2048 * j + 512 * u + b + c.val = _; omega),
    Nat.add_comm r.val a, show c.val + (512 * u + b) = 512 * u + (b + c.val) by omega]
  rfl

theorem dv_piece {a5 : Memref sig κ sp S1x8192x128 .bf16} (h5 : a5.IsWhole) {Lp : List (View.Piece (Elt Ideal) S2048x512 .bf16)} {D : ℕ → ℕ → Prop}
    (hp : Ok Lp D (PT Q K L j u)) {v : View sig κ sp S2048x512 .bf16} (h1 : off 1 = 2048 * j + 512 * u + b) (h0 : off 2 = 0) (hD : ∀ (r : Fin m) (c : Fin n), D (a + r.val) (b + c.val))
    (w : (⟨3, ![1, m, 128]⟩ : Shape).Idx → EReal) (o : (⟨3, ![1, m, 128]⟩ : Shape).Idx → EReal)
    (hw : ∀ (r : Fin m) (d : Fin 128), w (ix3 0 r d) = o (ix3 0 r d) + ∑ c : Fin n,
      v.readCov Lp (Rect.unit (s := S2048x512) ![a, b] ![m, n] inb).toLoadRect (ix2 r c)
        * View.readAt (Elt Ideal) a5.view (Rect.unit (s := S1x8192x128) off ![1, n, 128] inb').toLoadRect (h5.unread DO) (ix3 0 c d)) (r : Fin m) (d : Fin 128) :
    w (ix3 0 r d) = o (ix3 0 r d) + dvP Q DO K L j b n u (a + r.val) d :=
  (hw r d).trans (congrArg (o (ix3 0 r d) + ·) (Finset.sum_congr rfl fun c _ => congrArg₂ (· * ·) (hp.rd v r c (hD r c))
    (rdQ h5 DO _ _ d (by rw [h1]; show 2048 * j + 512 * u + b + c.val = _; omega) (by rw [h0]; show 0 + d.val = _; omega))))
/-- The two stores that add the `u`th tile to the sum. -/
theorem Ok3.tile {L10 : List (View.Piece (Elt Ideal) S1x2048x128 .f32)} {G : ℕ → Fin 128 → EReal} (v v' : View sig κ sp S1x2048x128 .f32) (ha : a = 512 * u + 256)
    {inb1 inb2 inb3 inb4} {w1 : (⟨3, ![1, a, 128]⟩ : Shape).Idx → EReal} {w2 : (⟨3, ![1, 256, 128]⟩ : Shape).Idx → EReal} (h : Ok3 L10 G)
    (hw1 : ∀ (r : Fin a) (d : Fin 128), w1 (ix3 0 r d) = v.readCov L10 (Rect.unit (s := S1x2048x128) ![0, 0, 0] ![1, a, 128] inb1).toLoadRect (ix3 0 r d)
      + dvP Q DO K L j 0 512 u (0 + r.val) d)
    (hw2 : ∀ (r : Fin 256) (d : Fin 128), w2 (ix3 0 r d) = v'.readCov ((⟨Rect.unit (s := S1x2048x128) ![0, 0, 0] ![1, a, 128] inb2, w1⟩ : View.Piece (Elt Ideal) S1x2048x128 .f32) :: L10)
      (Rect.unit (s := S1x2048x128) ![0, a, 0] ![1, 256, 128] inb3).toLoadRect (ix3 0 r d) + dvP Q DO K L j 256 256 u (a + r.val) d) :
    Ok3 ((⟨Rect.unit (s := S1x2048x128) ![0, a, 0] ![1, 256, 128] inb4, w2⟩ : View.Piece (Elt Ideal) S1x2048x128 .f32) ::
      (⟨Rect.unit (s := S1x2048x128) ![0, 0, 0] ![1, a, 128] inb2, w1⟩ : View.Piece (Elt Ideal) S1x2048x128 .f32) :: L10)
      (fun κ d => G κ d + dvT Q DO K L j u κ d) := by
  have h1 := Ok3.add (G' := fun κ d => G κ d + if κ < a then dvT Q DO K L j u κ d else 0) (T := dvP Q DO K L j 0 512 u) v (inb := inb2) h hw1
    (fun κ d _ h1 => by rw [if_pos (by omega)]; rfl) (fun κ d _ h1 => by rw [if_neg (by omega), add_zero])
  refine Ok3.add (T := dvP Q DO K L j 256 256 u) v' h1 hw2 (fun κ d h2 _ => ?_) (fun κ d _ h2 => ?_)
  · rw [if_neg (by omega), add_zero, dvT_half Q DO K L j u κ d (by omega)]
  · by_cases h3 : κ < a
    · rw [if_pos h3]
    · rw [if_neg h3, dvT_zero Q DO K L j u κ d (by omega)]
end Pieces
end Spec

variable (c : Dev nD) (i : grid0.Coords)
  {a2 : Memref sig .tc .vmem S1x8192x128 .bf16} (h2 : a2.IsWhole) {a3 : Memref sig .tc .vmem S1x2048x128 .bf16} (h3 : a3.IsWhole)
  {a5 : Memref sig .tc .vmem S1x8192x128 .bf16} (h5 : a5.IsWhole) {a6 : Memref sig .tc .vmem S1x1x8192 .f32} (h6 : a6.IsWhole)
  (a10 : Memref sig .tc .vmem S1x2048x128 .f32) (a11 a12 : Memref sig .tc .vmem S2048x512 .f32) (a15 a16 : Memref sig .tc .vmem S2048x512 .bf16)
  (Q DO : Vec Ideal S1x8192x128 .bf16) (K : Vec Ideal S1x2048x128 .bf16) (L : Vec Ideal S1x1x8192 .f32)

/-- The places of the `u`th tile that the first passes fill. -/
def ar (u κ c : ℕ) : Prop := κ < 512 * u + 256 ∨ (κ < 512 * u + 512 ∧ 256 ≤ c)

theorem s0_ok : Ok (e := .f32) (point_A.sl.H11_2 c i a2 h2 a3 h3 Q K) (ar 0) (ST Q K (i 1).val 0) := by
  unfold point_A.sl.H11_2 point_A.sl.r
  refine (((Ok.none (e := .f32) [] (ST Q K (i 1).val 0)).add (st_piece Q K _ h2 h3 (congrFun (off1_eq i) 1) (congrFun (off1_eq i) 2) _ (pay81_apply _ _))).add (st_piece Q K _ h2 h3 (congrFun (off2_eq i) 1) (congrFun (off2_eq i) 2) _ (pay83_apply _ _))).mono ?_
  intro κ c _ _ h; unfold ar at h; beta_reduce; omega

theorem s1_ok : Ok (e := .f32) (point_A.sl.H12_2 c i a2 h2 a3 h3 Q K) (ar 1) (ST Q K (i 1).val 1) := by
  unfold point_A.sl.H12_2
  refine (((Ok.none (e := .f32) [] (ST Q K (i 1).val 1)).add (st_piece Q K _ h2 h3 (congrFun (off3_eq i) 1) (congrFun (off3_eq i) 2) _ (pay86_apply _ _))).add (st_piece Q K _ h2 h3 (congrFun (off4_eq i) 1) (congrFun (off4_eq i) 2) _ (pay89_apply _ _))).mono ?_
  intro κ c _ _ h; unfold ar at h; beta_reduce; omega

theorem s2_ok : Ok (e := .f32) (point_A.sl.H11_4 c i a2 h2 a3 h3 Q K) (ar 2) (ST Q K (i 1).val 2) := by
  unfold point_A.sl.H11_4 point_A.sl.r_6
  refine (((Ok.none (e := .f32) (point_A.sl.H11_2 c i a2 h2 a3 h3 Q K) (ST Q K (i 1).val 2)).add (st_piece Q K _ h2 h3 (congrFun (off7a_eq i 0) 1) (congrFun (off7a_eq i 0) 2) _ (pay100_apply _ _))).add (st_piece Q K _ h2 h3 (congrFun (off8_eq i 0) 1) (congrFun (off8_eq i 0) 2) _ (pay102_apply _ _))).mono ?_
  intro κ c _ _ h; unfold ar at h; beta_reduce; omega

theorem s3_ok : Ok (e := .f32) (point_A.sl.H12_4 c i a2 h2 a3 h3 Q K) (ar 3) (ST Q K (i 1).val 3) := by
  unfold point_A.sl.H12_4
  refine (((Ok.none (e := .f32) (point_A.sl.H12_2 c i a2 h2 a3 h3 Q K) (ST Q K (i 1).val 3)).add (st_piece Q K _ h2 h3 (congrFun (off7a_eq i 1) 1) (congrFun (off7a_eq i 1) 2) _ (pay133_apply _ _))).add (st_piece Q K _ h2 h3 (congrFun (off8_eq i 1) 1) (congrFun (off8_eq i 1) 2) _ (pay136_apply _ _))).mono ?_
  intro κ c _ _ h; unfold ar at h; beta_reduce; omega

theorem s4_ok : Ok (e := .f32) (point_A.sl.H11_5 c i a2 h2 a3 h3 Q K) (fun _ _ => True) (fun κ c => sc Q K κ (512 * min (4 * (i 1).val + 4) 15 + c)) := by
  unfold point_A.sl.H11_5
  refine ((Ok.none (e := .f32) _ (fun κ c => sc Q K κ (512 * min (4 * (i 1).val + 4) 15 + c))).add ?_).mono ?_
  · intro r c
    refine (sc_piece (b := 0) Q K h2 h3 (512 * min (4 * (i 1).val + 4) 15) (congrFun (off7_eq i 2) 1) (congrFun (off7_eq i 2) 2) _ (pay172_apply _ _) r c).trans ?_
    exact congrArg (fun t => sc Q K (0 + r.val) (512 * min (4 * (i 1).val + 4) 15 + t)) rfl
  · intro κ c _ _ _; beta_reduce; omega

theorem p0_ok : Ok (e := .bf16) (point_A.sl.H15_2 c i a2 h2 a3 h3 a6 h6 a11 Q K L) (ar 0) (PT Q K L (i 1).val 0) := by
  unfold point_A.sl.H15_2 point_A.sl.r_4 point_A.sl.r_5 point_A.sl.v127 point_A.sl.v164
  refine (((Ok.none (e := .bf16) [] (PT Q K L (i 1).val 0)).add (pe_piece Q K L _ h6 (s0_ok c i h2 h3 Q K) (congrFun (off5_eq i) 2) (by intro r c; unfold ar; omega) _ (pay93_apply _ _))).add (pe_piece Q K L _ h6 (s0_ok c i h2 h3 Q K) (congrFun (off6_eq i) 2) (by intro r c; unfold ar; omega) _ (pay97_apply _ _))).mono ?_
  intro κ c _ _ h; unfold ar at h; beta_reduce; omega

theorem p1_ok : Ok (e := .bf16) (point_A.sl.H16_4 c i a2 h2 a3 h3 a6 h6 a12 Q K L) (ar 1) (PT Q K L (i 1).val 1) := by
  unfold point_A.sl.H16_4 point_A.sl.r_15 point_A.sl.r_13 point_A.sl.r_10 point_A.sl.v426 point_A.sl.v389 point_A.sl.v364 point_A.sl.v339 point_A.sl.v396
  refine (((((Ok.none (e := .bf16) [] (PT Q K L (i 1).val 1)).add (pe_piece Q K L _ h6 (s1_ok c i h2 h3 Q K) (congrFun (off13_eq i 0) 2) (by intro r c; unfold ar; omega) _ (pay116_apply _ _))).add (pe_piece Q K L _ h6 (s1_ok c i h2 h3 Q K) (congrFun (off13_eq i 0) 2) (by intro r c; unfold ar; omega) _ (pay119_apply _ _))).add (pe_piece Q K L _ h6 (s1_ok c i h2 h3 Q K) (congrFun (off13_eq i 0) 2) (by intro r c; unfold ar; omega) _ (pay124_apply _ _))).add (pe_piece Q K L _ h6 (s1_ok c i h2 h3 Q K) (congrFun (off14_eq i 0) 2) (by intro r c; unfold ar; omega) _ (pay131_apply _ _))).mono ?_
  intro κ c _ _ h; unfold ar at h; beta_reduce; omega

theorem p2_ok : Ok (e := .bf16) (point_A.sl.H15_8 c i a2 h2 a3 h3 a6 h6 a11 Q K L) (ar 2) (PT Q K L (i 1).val 2) := by
  unfold point_A.sl.H15_8 point_A.sl.r_25 point_A.sl.r_23 point_A.sl.r_21 point_A.sl.r_19 point_A.sl.v738 point_A.sl.v701 point_A.sl.v676 point_A.sl.v651 point_A.sl.v626 point_A.sl.v601 point_A.sl.cst_476
  refine (((((((Ok.none (e := .bf16) (point_A.sl.H15_2 c i a2 h2 a3 h3 a6 h6 a11 Q K L) (PT Q K L (i 1).val 2)).add (pe_piece Q K L _ h6 (s2_ok c i h2 h3 Q K) (congrFun (off13_eq i 1) 2) (by intro r c; unfold ar; omega) _ (pay149_apply _ _))).add (pe_piece Q K L _ h6 (s2_ok c i h2 h3 Q K) (congrFun (off13_eq i 1) 2) (by intro r c; unfold ar; omega) _ (pay154_apply _ _))).add (pe_piece Q K L _ h6 (s2_ok c i h2 h3 Q K) (congrFun (off13_eq i 1) 2) (by intro r c; unfold ar; omega) _ (pay157_apply _ _))).add (pe_piece Q K L _ h6 (s2_ok c i h2 h3 Q K) (congrFun (off13_eq i 1) 2) (by intro r c; unfold ar; omega) _ (pay161_apply _ _))).add (pe_piece Q K L _ h6 (s2_ok c i h2 h3 Q K) (congrFun (off13_eq i 1) 2) (by intro r c; unfold ar; omega) _ (pay166_apply _ _))).add (pe_piece Q K L _ h6 (s2_ok c i h2 h3 Q K) (congrFun (off14_eq i 1) 2) (by intro r c; unfold ar; omega) _ (pay170_apply _ _))).mono ?_
  intro κ c _ _ h; unfold ar at h; beta_reduce; omega

theorem p3_ok : Ok (e := .bf16) (point_A.sl.H16_13 c i a2 h2 a3 h3 a6 h6 a12 Q K L) (fun _ _ => True) (PT Q K L (i 1).val 3) := by
  unfold point_A.sl.H16_13 point_A.sl.H16_6 point_A.sl.r_35 point_A.sl.r_33 point_A.sl.r_32 point_A.sl.r_29 point_A.sl.v1076 point_A.sl.v1039 point_A.sl.v1014 point_A.sl.v989 point_A.sl.v964 point_A.sl.v939 point_A.sl.v914 point_A.sl.v889
  refine ((((((((((Ok.none (e := .bf16) (point_A.sl.H16_4 c i a2 h2 a3 h3 a6 h6 a12 Q K L) (PT Q K L (i 1).val 3)).add (pe_piece Q K L _ h6 (s3_ok c i h2 h3 Q K) (congrFun (off13_eq i 2) 2) (by intro r c; unfold ar; omega) _ (pay186_apply _ _))).add (pe_piece Q K L _ h6 (s3_ok c i h2 h3 Q K) (congrFun (off13_eq i 2) 2) (by intro r c; unfold ar; omega) _ (pay189_apply _ _))).add (pe_piece Q K L _ h6 (s3_ok c i h2 h3 Q K) (congrFun (off13_eq i 2) 2) (by intro r c; unfold ar; omega) _ (pay193_apply _ _))).add (pe_piece Q K L _ h6 (s3_ok c i h2 h3 Q K) (congrFun (off13_eq i 2) 2) (by intro r c; unfold ar; omega) _ (pay196_apply _ _))).add (pe_piece Q K L _ h6 (s3_ok c i h2 h3 Q K) (congrFun (off13_eq i 2) 2) (by intro r c; unfold ar; omega) _ (pay200_apply _ _))).add (pe_piece Q K L _ h6 (s3_ok c i h2 h3 Q K) (congrFun (off13_eq i 2) 2) (by intro r c; unfold ar; omega) _ (pay203_apply _ _))).add (pe_piece Q K L _ h6 (s3_ok c i h2 h3 Q K) (congrFun (off13_eq i 2) 2) (by intro r c; unfold ar; omega) _ (pay206_apply _ _))).add (pe_piece Q K L _ h6 (s3_ok c i h2 h3 Q K) (congrFun (off14_eq i 2) 2) (by intro r c; unfold ar; omega) _ (pay210_apply _ _))).add (fun r c => (pay212_apply r c).trans (PT_zero Q K L _ _ _ _ (by omega)).symm)).mono ?_
  intro κ c _ _ h; beta_reduce; omega

theorem d0_ok : Ok3 (point_A.sl.H10_1 (F := Ideal)) (fun κ d => ∑ t ∈ Finset.range 0, dvT Q DO K L (i 1).val t κ d) := by
  unfold point_A.sl.H10_1
  intro r d
  refine (congrFun (View.canon_cons_unit_lit (Val := Elt Ideal) (S := S1x2048x128) _ _ [] (by decide)) _).trans ?_
  exact pay79_apply r d

theorem d1_ok : Ok3 (point_A.sl.H10_3 c i a2 h2 a3 h3 a5 h5 a6 h6 a10 a11 a15 Q K DO L) (fun κ d => ∑ t ∈ Finset.range 1, dvT Q DO K L (i 1).val t κ d) := by
  unfold point_A.sl.H10_3 point_A.sl.r_8 point_A.sl.v284 point_A.sl.v286 point_A.sl.H10_2 point_A.sl.v242 point_A.sl.v244
  have e : (fun κ d => ∑ t ∈ Finset.range 1, dvT Q DO K L (i 1).val t κ d) = fun κ d => (∑ t ∈ Finset.range 0, dvT Q DO K L (i 1).val t κ d) + dvT Q DO K L (i 1).val 0 κ d :=
    funext fun κ => funext fun d => Finset.sum_range_succ _ _
  rw [e]
  exact Ok3.tile Q DO K L (i 1).val (u := 0) a10.view a10.view rfl (d0_ok i Q DO K L)
    (dv_piece Q DO K L _ h5 (p0_ok c i h2 h3 h6 a11 Q K L) (congrFun (off9_eq i 0) 1) (congrFun (off9_eq i 0) 2) (by intro r c; unfold ar; omega) _ _ (pay104_apply _ _ _))
    (dv_piece Q DO K L _ h5 (p0_ok c i h2 h3 h6 a11 Q K L) (congrFun (off11_eq i 0) 1) (congrFun (off11_eq i 0) 2) (by intro r c; unfold ar; omega) _ _ (pay109_apply _ _ _))

theorem d2_ok : Ok3 (point_A.sl.H10_5 c i a2 h2 a3 h3 a5 h5 a6 h6 a10 a11 a12 a15 a16 Q K DO L) (fun κ d => ∑ t ∈ Finset.range 2, dvT Q DO K L (i 1).val t κ d) := by
  unfold point_A.sl.H10_5 point_A.sl.v546 point_A.sl.v548 point_A.sl.H10_4 point_A.sl.v504 point_A.sl.v506
  have e : (fun κ d => ∑ t ∈ Finset.range 2, dvT Q DO K L (i 1).val t κ d) = fun κ d => (∑ t ∈ Finset.range 1, dvT Q DO K L (i 1).val t κ d) + dvT Q DO K L (i 1).val 1 κ d :=
    funext fun κ => funext fun d => Finset.sum_range_succ _ _
  rw [e]
  exact Ok3.tile Q DO K L (i 1).val (u := 1) a10.view a10.view rfl (d1_ok c i h2 h3 h5 h6 a10 a11 a15 Q DO K L)
    (dv_piece Q DO K L _ h5 (p1_ok c i h2 h3 h6 a12 Q K L) (congrFun (off9_eq i 1) 1) (congrFun (off9_eq i 1) 2) (by intro r c; unfold ar; omega) _ _ (pay139_apply _ _ _))
    (dv_piece Q DO K L _ h5 (p1_ok c i h2 h3 h6 a12 Q K L) (congrFun (off11_eq i 1) 1) (congrFun (off11_eq i 1) 2) (by intro r c; unfold ar; omega) _ _ (pay143_apply _ _ _))

theorem d3_ok : Ok3 (point_A.sl.H10_7 c i a2 h2 a3 h3 a5 h5 a6 h6 a10 a11 a12 a15 a16 Q K DO L) (fun κ d => ∑ t ∈ Finset.range 3, dvT Q DO K L (i 1).val t κ d) := by
  unfold point_A.sl.H10_7 point_A.sl.r_28 point_A.sl.v834 point_A.sl.v836 point_A.sl.H10_6 point_A.sl.v792 point_A.sl.v794
  have e : (fun κ d => ∑ t ∈ Finset.range 3, dvT Q DO K L (i 1).val t κ d) = fun κ d => (∑ t ∈ Finset.range 2, dvT Q DO K L (i 1).val t κ d) + dvT Q DO K L (i 1).val 2 κ d :=
    funext fun κ => funext fun d => Finset.sum_range_succ _ _
  rw [e]
  exact Ok3.tile Q DO K L (i 1).val (u := 2) a10.view a10.view rfl (d2_ok c i h2 h3 h5 h6 a10 a11 a12 a15 a16 Q DO K L)
    (dv_piece Q DO K L _ h5 (p2_ok c i h2 h3 h6 a11 Q K L) (congrFun (off9_eq i 2) 1) (congrFun (off9_eq i 2) 2) (by intro r c; unfold ar; omega) _ _ (pay175_apply _ _ _))
    (dv_piece Q DO K L _ h5 (p2_ok c i h2 h3 h6 a11 Q K L) (congrFun (off11_eq i 2) 1) (congrFun (off11_eq i 2) 2) (by intro r c; unfold ar; omega) _ _ (pay180_apply _ _ _))

end Cert.Kernel2Ideal.Bwd
-- ==== Proof.VTrip.lean ====
module
public import proofs.«01_k».proof.Proof.VPre
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! One trip of a point's loop, on the tables and the sum the gradient of the values needs. -/

theorem off15_eq : ∀ (i : grid0.Coords) (k : Fin (k0_t1_loop i).trips), k0_off15 i k = ![0, 2048 * (i 1).val + 512 * (5 + 2 * k.val), 0] := by decide +kernel
theorem off16_eq : ∀ (i : grid0.Coords) (k : Fin (k0_t1_loop i).trips), k0_off16 i k = ![0, 2048 * (i 1).val + 512 * (3 + 2 * k.val), 0] := by decide +kernel
theorem off18_eq : ∀ (i : grid0.Coords) (k : Fin (k0_t1_loop i).trips), k0_off18 i k = ![0, 0, 2048 * (i 1).val + 512 * (4 + 2 * k.val)] := by decide +kernel
theorem off19_eq : ∀ (i : grid0.Coords) (k : Fin (k0_t1_loop i).trips), k0_off19 i k = ![0, 512 * min (4 * (i 1).val + (6 + 2 * k.val)) 15, 0] := by decide +kernel
theorem off20_eq : ∀ (i : grid0.Coords) (k : Fin (k0_t1_loop i).trips), k0_off20 i k = ![0, 2048 * (i 1).val + 512 * (4 + 2 * k.val), 0] := by decide +kernel
theorem off22_eq : ∀ (i : grid0.Coords) (k : Fin (k0_t1_loop i).trips), k0_off22 i k = ![0, 0, 2048 * (i 1).val + 512 * (5 + 2 * k.val)] := by decide +kernel
theorem trips_eq : ∀ i : grid0.Coords, (k0_t1_loop i).trips = 6 - 2 * (i 1).val := by decide +kernel

theorem pay2_apply (a : Vec Ideal S1x2048x128 .bf16) (b : Vec Ideal S1x512x128 .bf16) (r : Fin 2048) (c : Fin 512) :
    k0_pay2 a b (ix2 r c) = ∑ d : Fin 128, a (ix3 0 r d) * b (ix3 0 c d) := by
  pointwise [k0_pay2]
theorem pay22_apply (a : Vec Ideal S1x2048x128 .bf16) (b : Vec Ideal S1x512x128 .bf16) (r : Fin 2048) (c : Fin 512) :
    k0_pay22 a b (ix2 r c) = ∑ d : Fin 128, a (ix3 0 r d) * b (ix3 0 c d) := by
  pointwise [k0_pay22]

theorem pay10_apply (l : Vec Ideal S1x1x512 .f32) (s : Vec Ideal S512x512 .f32) (r c : Fin 512) :
    k0_pay10 l s (ix2 r c) = FloatOps.exp2 (F := Ideal) (φ := .f32) (s (ix2 r c) - l (ix3 0 0 c) : EReal) := by
  pointwise [k0_pay10, k0_pay9, k0_pay8, k0_pay7]

theorem pay14_apply (l : Vec Ideal S1x1x512 .f32) (s : Vec Ideal S512x512 .f32) (r c : Fin 512) :
    k0_pay14 (k0_pay7 l) s (ix2 r c) = FloatOps.exp2 (F := Ideal) (φ := .f32) (s (ix2 r c) - l (ix3 0 0 c) : EReal) := by
  pointwise [k0_pay14, k0_pay13, k0_pay12, k0_pay7]

theorem pay17_apply (l : Vec Ideal S1x1x512 .f32) (s : Vec Ideal S512x512 .f32) (r c : Fin 512) :
    k0_pay17 (k0_pay7 l) s (ix2 r c) = FloatOps.exp2 (F := Ideal) (φ := .f32) (s (ix2 r c) - l (ix3 0 0 c) : EReal) := by
  pointwise [k0_pay17, k0_pay16, k0_pay15, k0_pay7]

theorem pay20_apply (l : Vec Ideal S1x1x512 .f32) (s : Vec Ideal S512x512 .f32) (r c : Fin 512) :
    k0_pay20 (k0_pay7 l) s (ix2 r c) = FloatOps.exp2 (F := Ideal) (φ := .f32) (s (ix2 r c) - l (ix3 0 0 c) : EReal) := by
  pointwise [k0_pay20, k0_pay19, k0_pay18, k0_pay7]

theorem pay32_apply (l : Vec Ideal S1x1x512 .f32) (s : Vec Ideal S512x512 .f32) (r c : Fin 512) :
    k0_pay32 (k0_pay29 l) s (ix2 r c) = FloatOps.exp2 (F := Ideal) (φ := .f32) (s (ix2 r c) - l (ix3 0 0 c) : EReal) := by
  pointwise [k0_pay32, k0_pay31, k0_pay30, k0_pay29]

theorem pay35_apply (l : Vec Ideal S1x1x512 .f32) (s : Vec Ideal S512x512 .f32) (r c : Fin 512) :
    k0_pay35 (k0_pay29 l) s (ix2 r c) = FloatOps.exp2 (F := Ideal) (φ := .f32) (s (ix2 r c) - l (ix3 0 0 c) : EReal) := by
  pointwise [k0_pay35, k0_pay34, k0_pay33, k0_pay29]

theorem pay215_apply (l : Vec Ideal S1x1x512 .f32) (s : Vec Ideal S512x512 .f32) (r c : Fin 512) :
    k0_pay215 (k0_pay38 (k0_pay29 l) s) (ix2 r c) = FloatOps.exp2 (F := Ideal) (φ := .f32) (s (ix2 r c) - l (ix3 0 0 c) : EReal) := by
  pointwise [k0_pay215, k0_pay38, k0_pay37, k0_pay36, k0_pay29]

theorem pay218_apply (l : Vec Ideal S1x1x512 .f32) (s : Vec Ideal S512x512 .f32) (r c : Fin 512) :
    k0_pay218 (k0_pay29 l) s (ix2 r c) = FloatOps.exp2 (F := Ideal) (φ := .f32) (s (ix2 r c) - l (ix3 0 0 c) : EReal) := by
  pointwise [k0_pay218, k0_pay217, k0_pay29]

section Generic
variable {sig : RefSig} {κ : Kind} {sp : Space}

/-- A load of a whole table reads its contents. -/
theorem rd2 {e : EltTy} {m : Memref sig κ sp S2048x512 e} (h : m.IsWhole) (X : Vec Ideal S2048x512 e) {a b p q : ℕ} {inb} (r : Fin p) (c : Fin q)
    (G : ℕ → ℕ → Elt Ideal e) (hX : ∀ (r : Fin 2048) (c : Fin 512), X (ix2 r c) = G r.val c.val) :
    View.readAt (Elt Ideal) m.view (Rect.unit (s := S2048x512) ![a, b] ![p, q] inb).toLoadRect (h.unread X) (ix2 r c) = G (a + r.val) (b + c.val) := by
  refine (Memref.IsWhole.readAt_unread h X (Rect.unit (s := S2048x512) ![a, b] ![p, q] inb).toLoadRect (ix2 r c)).trans ?_
  have h0 : a + p ≤ 2048 := inb 0
  have h1 : b + q ≤ 512 := inb 1
  have e : (Rect.unit (s := S2048x512) ![a, b] ![p, q] inb).toLoadRect.idx (ix2 r c)
      = ix2 (⟨a + r.val, by omega⟩ : Fin 2048) (⟨b + c.val, by omega⟩ : Fin 512) := funext fun t => Fin.ext (by
    match t with
    | ⟨0, _⟩ => show a + 1 * r.val = a + r.val; omega
    | ⟨1, _⟩ => show b + 1 * c.val = b + c.val; omega)
  rw [e]
  exact hX _ _

theorem rd3 {m : Memref sig κ sp S1x2048x128 .f32} (h : m.IsWhole) (X : Vec Ideal S1x2048x128 .f32) {inb} (r : Fin 2048) (d : Fin 128) :
    View.readAt (Elt Ideal) m.view (Rect.unit (s := S1x2048x128) ![0, 0, 0] ![1, 2048, 128] inb).toLoadRect (h.unread X) (ix3 0 r d) = X (ix3 0 r d) := by
  refine (Memref.IsWhole.readAt_unread h X (Rect.unit (s := S1x2048x128) ![0, 0, 0] ![1, 2048, 128] inb).toLoadRect (ix3 0 r d)).trans (congrArg X (funext fun t => Fin.ext ?_))
  match t with
  | ⟨0, _⟩ => rfl
  | ⟨1, _⟩ => show 0 + 1 * r.val = r.val; omega
  | ⟨2, _⟩ => show 0 + 1 * d.val = d.val; omega

/-- A weight no mask is applied to. -/
theorem pr_exp2 (Q : Vec Ideal S1x8192x128 .bf16) (K : Vec Ideal S1x2048x128 .bf16) (L : Vec Ideal S1x1x8192 .f32) (j u κ c : ℕ) (h : κ < 2048) (h4 : 4 ≤ u) :
    PT Q K L j u κ c = FloatOps.exp2 (F := Ideal) (φ := .f32) (sc Q K κ (2048 * j + (512 * u + c)) - lAt L (2048 * j + (512 * u + c)) : EReal) :=
  if_pos (by omega)

theorem px_piece (Q : Vec Ideal S1x8192x128 .bf16) (K : Vec Ideal S1x2048x128 .bf16) (L : Vec Ideal S1x1x8192 .f32) (j u : ℕ) (h4 : 4 ≤ u)
    {a6 : Memref sig κ sp S1x1x8192 .f32} (h6 : a6.IsWhole) {a : ℕ} (ha : a ≤ 1536) {off : Fin 3 → ℕ} {inb'}
    (h1 : off 2 = 2048 * j + 512 * u) (w s : (⟨2, ![512, 512]⟩ : Shape).Idx → EReal)
    (hs : ∀ r c : Fin 512, s (ix2 r c) = sc Q K (a + r.val) (2048 * j + (512 * u + (0 + c.val))))
    (hw : ∀ r c : Fin 512, w (ix2 r c) = FloatOps.exp2 (F := Ideal) (φ := .f32) (s (ix2 r c)
      - View.readAt (Elt Ideal) a6.view (Rect.unit (s := S1x1x8192) off ![1, 1, 512] inb').toLoadRect (h6.unread L) (ix3 0 0 c) : EReal)) (r c : Fin 512) :
    w (ix2 r c) = PT Q K L j u (a + r.val) (0 + c.val) := by
  rw [pr_exp2 Q K L j u _ _ (by omega) h4, hw, hs, rdL h6 L _ (2048 * j + (512 * u + (0 + c.val))) (by rw [h1]; show 2048 * j + 512 * u + c.val = _; omega)]
end Generic

/-- The tables and the sum before a trip: the `v`th tile's weights, the next tile's scores, and the sum over the tiles before. -/
structure Inv (Q DO : Vec Ideal S1x8192x128 .bf16) (K : Vec Ideal S1x2048x128 .bf16) (L : Vec Ideal S1x1x8192 .f32) (j v : ℕ) (s : St Ideal) : Prop where
  h11 : ∀ (r : Fin 2048) (c : Fin 512), s.d11 (ix2 r c) = sc Q K r.val (512 * min (4 * j + (v + 1)) 15 + c.val)
  h16 : ∀ (r : Fin 2048) (c : Fin 512), s.d16 (ix2 r c) = PT Q K L j v r.val c.val
  h10 : ∀ (r : Fin 2048) (d : Fin 128), s.d10 (ix3 0 r d) = ∑ t ∈ Finset.range v, dvT Q DO K L j t r.val d

variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

theorem t15_ok (k : Fin (k0_t1_loop i).trips) (d11 : Vec Ideal S2048x512 .f32)
    (hd : ∀ (r : Fin 2048) (c : Fin 512), d11 (ix2 r c) = sc Q K r.val (512 * min (4 * (i 1).val + (4 + 2 * k.val)) 15 + c.val)) :
    Ok (e := .bf16) (trip.sl.H15_4 c i a6 h6 a11 h11 L k d11) (fun _ _ => True) (PT Q K L (i 1).val (4 + 2 * k.val)) := by
  have hk : k.val < 6 - 2 * (i 1).val := Nat.lt_of_lt_of_eq k.isLt (trips_eq i)
  have e : ∀ (r : Fin 2048) (c : Fin 512), d11 (ix2 r c) = sc Q K r.val (2048 * (i 1).val + (512 * (4 + 2 * k.val) + c.val)) := fun r c =>
    (hd r c).trans (congrArg (sc Q K _) (by omega))
  unfold trip.sl.H15_4 trip.sl.r
  refine ((((((Ok.none (e := .bf16) [] (PT Q K L (i 1).val (4 + 2 * k.val))).add ?_).add ?_).add ?_).add ?_).mono ?_)
  · exact px_piece Q K L (i 1).val (4 + 2 * k.val) (by omega) h6 (a := 0) (by omega) (congrFun (off18_eq i k) 2) _ _ (fun r c => rd2 h11 d11 r c (fun r c => sc Q K r (2048 * (i 1).val + (512 * (4 + 2 * k.val) + c))) e) (pay10_apply _ _)
  · exact px_piece Q K L (i 1).val (4 + 2 * k.val) (by omega) h6 (a := 512) (by omega) (congrFun (off18_eq i k) 2) _ _ (fun r c => rd2 h11 d11 r c (fun r c => sc Q K r (2048 * (i 1).val + (512 * (4 + 2 * k.val) + c))) e) (pay14_apply _ _)
  · exact px_piece Q K L (i 1).val (4 + 2 * k.val) (by omega) h6 (a := 1024) (by omega) (congrFun (off18_eq i k) 2) _ _ (fun r c => rd2 h11 d11 r c (fun r c => sc Q K r (2048 * (i 1).val + (512 * (4 + 2 * k.val) + c))) e) (pay17_apply _ _)
  · exact px_piece Q K L (i 1).val (4 + 2 * k.val) (by omega) h6 (a := 1536) (by omega) (congrFun (off18_eq i k) 2) _ _ (fun r c => rd2 h11 d11 r c (fun r c => sc Q K r (2048 * (i 1).val + (512 * (4 + 2 * k.val) + c))) e) (pay20_apply _ _)
  · intro κ c _ _ _; beta_reduce; omega

theorem t12_ok (k : Fin (k0_t1_loop i).trips) : Ok (e := .f32) (trip.sl.H12_1 c i a2 h2 a3 h3 Q K k) (fun _ _ => True) (ST Q K (i 1).val (5 + 2 * k.val)) := by
  unfold trip.sl.H12_1
  refine ((Ok.none (e := .f32) [] (ST Q K (i 1).val (5 + 2 * k.val))).add (st_piece (b := 0) Q K (i 1).val h2 h3 (congrFun (off15_eq i k) 1) (congrFun (off15_eq i k) 2) _ (pay2_apply _ _))).mono ?_
  intro κ c _ _ _; beta_reduce; omega

end Cert.Kernel2Ideal.Bwd
-- ==== Proof.VNext.lean ====
module
public import proofs.«01_k».proof.Proof.VTrip
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! What a trip leaves. -/

variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

theorem next_d11 (k : Fin (k0_t1_loop i).trips) (s : St Ideal) : (nextSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT k s).d11 =
    a11.view.read (Elt Ideal) (a11.view.writes (Elt Ideal) (h11.unread s.d11)
      [⟨Rect.unit (s := S2048x512) ![0, 0] S2048x512.size inb_S2048x512_S2048x512_0_0,
      k0_pay22
        (View.readAt (Elt Ideal) a3.view (Rect.unit (s := S1x2048x128) ![0, 0, 0] S1x2048x128.size inb_S1x2048x128_S1x2048x128_0_0_0).toLoadRect (h3.unread K))
        (View.readAt (Elt Ideal) a2.view (Rect.unit (s := S1x8192x128) (k0_off19 i k) S1x512x128.size (k0_off19_inb i k)).toLoadRect (h2.unread Q))⟩]) := by
  delta nextSt trip; with_reducible rfl

theorem next_d16 (k : Fin (k0_t1_loop i).trips) (s : St Ideal) : (nextSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT k s).d16 =
    a16.view.read (Elt Ideal) (a16.view.writes (Elt Ideal) (h16.unread s.d16)
      [⟨Rect.unit (s := S2048x512) ![1536, 0] ![512, 512] inb_S2048x512_S512x512_1536_0, k0_pay218 (trip.sl.r_5 c i a6 h6 L k) (trip.sl.v1457 c i a2 h2 a3 h3 a12 Q K k)⟩,
        ⟨Rect.unit (s := S2048x512) ![1024, 0] ![512, 512] inb_S2048x512_S512x512_1024_0, k0_pay215 (trip.sl.r_8 c i a2 h2 a3 h3 a6 h6 a12 Q K L k)⟩,
        ⟨Rect.unit (s := S2048x512) ![512, 0] S512x512.size inb_S2048x512_S512x512_512_0, k0_pay35 (trip.sl.r_5 c i a6 h6 L k) (trip.sl.v1425 c i a2 h2 a3 h3 a12 Q K k)⟩,
        ⟨Rect.unit (s := S2048x512) ![0, 0] S512x512.size inb_S2048x512_S512x512_0_0, k0_pay32 (trip.sl.r_5 c i a6 h6 L k) (trip.sl.v1409 c i a2 h2 a3 h3 a12 Q K k)⟩]) := by
  delta nextSt trip; with_reducible rfl

theorem next_d10 (k : Fin (k0_t1_loop i).trips) (s : St Ideal) : (nextSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT k s).d10 =
    a10.view.read (Elt Ideal) (a10.view.writes (Elt Ideal) (h10.unread s.d10)
      (⟨Rect.unit (s := S1x2048x128) ![0, 0, 0] S1x2048x128.size inb_S1x2048x128_S1x2048x128_0_0_0,
      k0_pay25 (trip.sl.v1355 c i a5 h5 a10 h10 a16 h16 DO k s.d10 s.d16) (trip.sl.v1357 c i a6 h6 a11 h11 a15 L k s.d11)
        (View.readAt (Elt Ideal) a5.view (Rect.unit (s := S1x8192x128) (k0_off20 i k) S1x512x128.size (k0_off20_inb i k)).toLoadRect (h5.unread DO))⟩ ::
      trip.sl.H10_1 c i a5 h5 a10 h10 a16 h16 DO k s.d10 s.d16)) := by
  delta nextSt trip; with_reducible rfl

end Cert.Kernel2Ideal.Bwd
-- ==== Proof.VS10.lean ====
module
public import proofs.«01_k».proof.Proof.VTrip
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! What a trip leaves in one table. -/

variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

theorem step10a (k : Fin (k0_t1_loop i).trips) (d10 : Vec Ideal S1x2048x128 .f32) (d16 : Vec Ideal S2048x512 .bf16)
    (H16 : ∀ (r : Fin 2048) (c : Fin 512), d16 (ix2 r c) = PT Q K L (i 1).val (3 + 2 * k.val) r.val c.val)
    (H10 : ∀ (r : Fin 2048) (d : Fin 128), d10 (ix3 0 r d) = ∑ t ∈ Finset.range (3 + 2 * k.val), dvT Q DO K L (i 1).val t r.val d) (r : Fin 2048) (d : Fin 128) :
    trip.sl.v1355 c i a5 h5 a10 h10 a16 h16 DO k d10 d16 (ix3 0 r d) = ∑ t ∈ Finset.range (3 + 2 * k.val + 1), dvT Q DO K L (i 1).val t r.val d := by
  unfold trip.sl.v1355 trip.sl.H10_1
  rw [View.readCov_full, pay4_apply, Finset.sum_range_succ, rd3 h10 d10, H10]
  refine congrArg _ ?_
  unfold dvT dvP
  refine Finset.sum_congr rfl fun e _ => congrArg₂ (· * ·) ?_ ?_
  · exact (rd2 h16 d16 r e _ H16).trans (congrArg (fun n => PT Q K L (i 1).val (3 + 2 * k.val) n (0 + e.val)) (Nat.zero_add _))
  · exact rdQ h5 DO _ _ d (by rw [congrFun (off16_eq i k) 1]; show 2048 * (i 1).val + 512 * (3 + 2 * k.val) + e.val = _; omega) (by rw [congrFun (off16_eq i k) 2]; show 0 + d.val = _; omega)

theorem step10 (k : Fin (k0_t1_loop i).trips) (d10 : Vec Ideal S1x2048x128 .f32) (d11 : Vec Ideal S2048x512 .f32) (d16 : Vec Ideal S2048x512 .bf16)
    (H11 : ∀ (r : Fin 2048) (c : Fin 512), d11 (ix2 r c) = sc Q K r.val (512 * min (4 * (i 1).val + (3 + 2 * k.val + 1)) 15 + c.val))
    (H16 : ∀ (r : Fin 2048) (c : Fin 512), d16 (ix2 r c) = PT Q K L (i 1).val (3 + 2 * k.val) r.val c.val)
    (H10 : ∀ (r : Fin 2048) (d : Fin 128), d10 (ix3 0 r d) = ∑ t ∈ Finset.range (3 + 2 * k.val), dvT Q DO K L (i 1).val t r.val d) (r : Fin 2048) (d : Fin 128) :
    (a10.view.read (Elt Ideal) (a10.view.writes (Elt Ideal) (h10.unread d10)
      (⟨Rect.unit (s := S1x2048x128) ![0, 0, 0] S1x2048x128.size inb_S1x2048x128_S1x2048x128_0_0_0,
      k0_pay25 (trip.sl.v1355 c i a5 h5 a10 h10 a16 h16 DO k d10 d16) (trip.sl.v1357 c i a6 h6 a11 h11 a15 L k d11)
        (View.readAt (Elt Ideal) a5.view (Rect.unit (s := S1x8192x128) (k0_off20 i k) S1x512x128.size (k0_off20_inb i k)).toLoadRect (h5.unread DO))⟩ ::
      trip.sl.H10_1 c i a5 h5 a10 h10 a16 h16 DO k d10 d16))) (ix3 0 r d) = ∑ t ∈ Finset.range (3 + 2 * (k.val + 1)), dvT Q DO K L (i 1).val t r.val d := by
  rw [View.read_writes_full]
  unfold trip.sl.v1357
  refine (dv_piece (a := 0) (b := 0) Q DO K L (i 1).val h5 (t15_ok c i a6 h6 a11 h11 Q K L k d11 (fun r c => (H11 r c).trans (by rw [show 3 + 2 * k.val + 1 = 4 + 2 * k.val by omega]))) (congrFun (off20_eq i k) 1) (congrFun (off20_eq i k) 2) (fun _ _ => trivial) _
    (trip.sl.v1355 c i a5 h5 a10 h10 a16 h16 DO k d10 d16) (pay25_apply _ _ _) r d).trans ?_
  rw [step10a c i a5 h5 a10 h10 a16 h16 Q K DO L k d10 d16 H16 H10, show 3 + 2 * (k.val + 1) = 3 + 2 * k.val + 1 + 1 by omega, Finset.sum_range_succ _ (3 + 2 * k.val + 1), Nat.zero_add, show 3 + 2 * k.val + 1 = 4 + 2 * k.val by omega]
  rfl
end Cert.Kernel2Ideal.Bwd
-- ==== Proof.VS11.lean ====
module
public import proofs.«01_k».proof.Proof.VTrip
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! What a trip leaves in one table. -/

variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

theorem step11 (k : Fin (k0_t1_loop i).trips) (d : Vec Ideal S2048x512 .f32) (r : Fin 2048) (e : Fin 512) :
    (a11.view.read (Elt Ideal) (a11.view.writes (Elt Ideal) (h11.unread d)
      [⟨Rect.unit (s := S2048x512) ![0, 0] S2048x512.size inb_S2048x512_S2048x512_0_0,
      k0_pay22
        (View.readAt (Elt Ideal) a3.view (Rect.unit (s := S1x2048x128) ![0, 0, 0] S1x2048x128.size inb_S1x2048x128_S1x2048x128_0_0_0).toLoadRect (h3.unread K))
        (View.readAt (Elt Ideal) a2.view (Rect.unit (s := S1x8192x128) (k0_off19 i k) S1x512x128.size (k0_off19_inb i k)).toLoadRect (h2.unread Q))⟩])) (ix2 r e) = sc Q K r.val (512 * min (4 * (i 1).val + (3 + 2 * (k.val + 1) + 1)) 15 + e.val) := by
  rw [View.read_writes_full]
  exact (sc_piece (a := 0) (b := 0) Q K h2 h3 (512 * min (4 * (i 1).val + (6 + 2 * k.val)) 15) (congrFun (off19_eq i k) 1) (congrFun (off19_eq i k) 2) _ (pay22_apply _ _) r e).trans
    (congrArg₂ (sc Q K) (by omega) (by rw [show 3 + 2 * (k.val + 1) + 1 = 6 + 2 * k.val by omega, Nat.zero_add]))
end Cert.Kernel2Ideal.Bwd
-- ==== Proof.VS16.lean ====
module
public import proofs.«01_k».proof.Proof.VTrip
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! What a trip leaves in one table. -/

variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

theorem step16_ok (k : Fin (k0_t1_loop i).trips) : Ok (e := .bf16) ([⟨Rect.unit (s := S2048x512) ![1536, 0] ![512, 512] inb_S2048x512_S512x512_1536_0, k0_pay218 (trip.sl.r_5 c i a6 h6 L k) (trip.sl.v1457 c i a2 h2 a3 h3 a12 Q K k)⟩,
        ⟨Rect.unit (s := S2048x512) ![1024, 0] ![512, 512] inb_S2048x512_S512x512_1024_0, k0_pay215 (trip.sl.r_8 c i a2 h2 a3 h3 a6 h6 a12 Q K L k)⟩,
        ⟨Rect.unit (s := S2048x512) ![512, 0] S512x512.size inb_S2048x512_S512x512_512_0, k0_pay35 (trip.sl.r_5 c i a6 h6 L k) (trip.sl.v1425 c i a2 h2 a3 h3 a12 Q K k)⟩,
        ⟨Rect.unit (s := S2048x512) ![0, 0] S512x512.size inb_S2048x512_S512x512_0_0, k0_pay32 (trip.sl.r_5 c i a6 h6 L k) (trip.sl.v1409 c i a2 h2 a3 h3 a12 Q K k)⟩] : List (View.Piece (Elt Ideal) S2048x512 .bf16)) (fun _ _ => True) (PT Q K L (i 1).val (5 + 2 * k.val)) := by
  unfold trip.sl.r_8 trip.sl.r_5 trip.sl.v1457 trip.sl.v1441 trip.sl.v1425 trip.sl.v1409
  refine ((((((Ok.none (e := .bf16) [] (PT Q K L (i 1).val (5 + 2 * k.val))).add ?_).add ?_).add ?_).add ?_).mono ?_)
  · exact px_piece Q K L (i 1).val (5 + 2 * k.val) (by omega) h6 (a := 0) (by omega) (congrFun (off22_eq i k) 2) _ _ (fun r e => (t12_ok c i a2 h2 a3 h3 Q K k).rd a12.view r e trivial) (pay32_apply _ _)
  · exact px_piece Q K L (i 1).val (5 + 2 * k.val) (by omega) h6 (a := 512) (by omega) (congrFun (off22_eq i k) 2) _ _ (fun r e => (t12_ok c i a2 h2 a3 h3 Q K k).rd a12.view r e trivial) (pay35_apply _ _)
  · exact px_piece Q K L (i 1).val (5 + 2 * k.val) (by omega) h6 (a := 1024) (by omega) (congrFun (off22_eq i k) 2) _ _ (fun r e => (t12_ok c i a2 h2 a3 h3 Q K k).rd a12.view r e trivial) (pay215_apply _ _)
  · exact px_piece Q K L (i 1).val (5 + 2 * k.val) (by omega) h6 (a := 1536) (by omega) (congrFun (off22_eq i k) 2) _ _ (fun r e => (t12_ok c i a2 h2 a3 h3 Q K k).rd a12.view r e trivial) (pay218_apply _ _)
  · intro κ c _ _ _; beta_reduce; omega

theorem step16 (k : Fin (k0_t1_loop i).trips) (d : Vec Ideal S2048x512 .bf16) (r : Fin 2048) (e : Fin 512) :
    (a16.view.read (Elt Ideal) (a16.view.writes (Elt Ideal) (h16.unread d)
      [⟨Rect.unit (s := S2048x512) ![1536, 0] ![512, 512] inb_S2048x512_S512x512_1536_0, k0_pay218 (trip.sl.r_5 c i a6 h6 L k) (trip.sl.v1457 c i a2 h2 a3 h3 a12 Q K k)⟩,
        ⟨Rect.unit (s := S2048x512) ![1024, 0] ![512, 512] inb_S2048x512_S512x512_1024_0, k0_pay215 (trip.sl.r_8 c i a2 h2 a3 h3 a6 h6 a12 Q K L k)⟩,
        ⟨Rect.unit (s := S2048x512) ![512, 0] S512x512.size inb_S2048x512_S512x512_512_0, k0_pay35 (trip.sl.r_5 c i a6 h6 L k) (trip.sl.v1425 c i a2 h2 a3 h3 a12 Q K k)⟩,
        ⟨Rect.unit (s := S2048x512) ![0, 0] S512x512.size inb_S2048x512_S512x512_0_0, k0_pay32 (trip.sl.r_5 c i a6 h6 L k) (trip.sl.v1409 c i a2 h2 a3 h3 a12 Q K k)⟩])) (ix2 r e) = PT Q K L (i 1).val (3 + 2 * (k.val + 1)) r.val e.val := by
  rw [View.read_writes_apply_eq_canon]
  · rw [step16_ok c i a2 h2 a3 h3 a6 h6 a12 Q K L k (ix2 r e) trivial, show 3 + 2 * (k.val + 1) = 5 + 2 * k.val by omega]; rfl
  · have hr := r.isLt
    have hc := e.isLt
    rcases (by omega : r.val < 512 ∨ (512 ≤ r.val ∧ r.val < 1024) ∨ (1024 ≤ r.val ∧ r.val < 1536) ∨ 1536 ≤ r.val) with h0 | h0 | h0 | h0
    · exact ⟨_, .tail _ (.tail _ (.tail _ (.head _))), (mem2 (a := 0) (b := 0) (m := 512) (n := 512) (inb := inb_S2048x512_S512x512_0_0) (ix2 r e)).mpr ⟨by omega, by show r.val < _; omega, by omega, by show e.val < _; omega⟩⟩
    · exact ⟨_, .tail _ (.tail _ (.head _)), (mem2 (a := 512) (b := 0) (m := 512) (n := 512) (inb := inb_S2048x512_S512x512_512_0) (ix2 r e)).mpr ⟨h0.1, h0.2, by omega, by show e.val < _; omega⟩⟩
    · exact ⟨_, .tail _ (.head _), (mem2 (a := 1024) (b := 0) (m := 512) (n := 512) (inb := inb_S2048x512_S512x512_1024_0) (ix2 r e)).mpr ⟨h0.1, h0.2, by omega, by show e.val < _; omega⟩⟩
    · exact ⟨_, .head _, (mem2 (a := 1536) (b := 0) (m := 512) (n := 512) (inb := inb_S2048x512_S512x512_1536_0) (ix2 r e)).mpr ⟨h0, hr, by omega, by show e.val < _; omega⟩⟩
end Cert.Kernel2Ideal.Bwd
-- ==== Proof.VStep.lean ====
module
public import proofs.«01_k».proof.Proof.VNext
public import proofs.«01_k».proof.Proof.VS10
public import proofs.«01_k».proof.Proof.VS11
public import proofs.«01_k».proof.Proof.VS16
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! A trip, and the loop, as steps of the tables and the sum. -/

variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

/-- A trip takes the tables two tiles on. -/
theorem Inv.step (k : Fin (k0_t1_loop i).trips) (s : St Ideal) (h : Inv Q DO K L (i 1).val (3 + 2 * k.val) s) :
    Inv Q DO K L (i 1).val (3 + 2 * (k.val + 1)) (nextSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT k s) where
  h11 r e := by rw [next_d11]; exact step11 i a2 h2 a3 h3 a11 h11 Q K k s.d11 r e
  h16 r e := by rw [next_d16]; exact step16 c i a2 h2 a3 h3 a6 h6 a12 a16 h16 Q K L k s.d16 r e
  h10 r d := by rw [next_d10]; exact step10 c i a5 h5 a6 h6 a10 h10 a11 h11 a15 a16 h16 Q K DO L k s.d10 s.d11 s.d16 h.h11 h.h16 h.h10 r d

/-- Before trip `n`. -/
theorem Inv.loop (s : St Ideal) (h : Inv Q DO K L (i 1).val 3 s) : ∀ n, n ≤ 6 - 2 * (i 1).val →
    Inv Q DO K L (i 1).val (3 + 2 * n) (loopSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s n)
  | 0, _ => h
  | n + 1, hn => by
    have ht : n < (k0_t1_loop i).trips := Nat.lt_of_lt_of_eq (by omega) (trips_eq i).symm
    unfold loopSt
    rw [dif_pos ht]
    exact Inv.step c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT ⟨n, ht⟩ _ (Inv.loop s h n (by omega))

end Cert.Kernel2Ideal.Bwd
-- ==== Proof.VPoint.lean ====
module
public import proofs.«01_k».proof.Proof.VStep
public import proofs.«01_k».proof.Proof.IFrame
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! A point's gradient of the values. -/

section Point
variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

/-- The sum after a point's loop and its last tile. -/
theorem dv_final (s : St Ideal) (h : Inv Q DO K L (i 1).val 3 s) (n : ℕ) (hn : n = (k0_t1_loop i).trips) {inb1 inb2 inb3} (r : Fin 2048) (d : Fin 128) :
    k0_pay227 (k0_pay225 (View.readAt (Elt Ideal) a10.view (Rect.unit (s := S1x2048x128) ![0, 0, 0] ![1, 2048, 128] inb1).toLoadRect (h10.unread (loopSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s n).d10)))
      (View.readAt (Elt Ideal) a16.view (Rect.unit (s := S2048x512) ![0, 0] ![2048, 512] inb2).toLoadRect (h16.unread (loopSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s n).d16))
      (k0_pay226 (View.readAt (Elt Ideal) a5.view (Rect.unit (s := S1x8192x128) ![0, 7680, 0] ![1, 512, 128] inb3).toLoadRect (h5.unread DO)))
      (constant S2048x128 .f32 0#32) (ix3 0 r d) = ∑ t ∈ Finset.range (16 - 4 * (i 1).val), dvT Q DO K L (i 1).val t r.val d := by
  have hj : (i 1).val < 4 := (i 1).isLt
  rw [trips_eq] at hn
  have hv := Inv.loop c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s h n (by omega)
  have e : 16 - 4 * (i 1).val = (3 + 2 * n) + 1 := by omega
  rw [pay227_apply, rd3 h10, hv.h10, e, Finset.sum_range_succ]
  refine congrArg _ ?_
  unfold dvT dvP
  refine Finset.sum_congr rfl fun x _ => congrArg₂ (· * ·) ?_ ?_
  · exact (rd2 h16 _ r x _ hv.h16).trans (congrArg (fun a => PT Q K L (i 1).val (3 + 2 * n) a (0 + x.val)) (Nat.zero_add _))
  · exact rdQ h5 DO _ _ d (by show 7680 + x.val = _; omega) (by show 0 + d.val = _; omega)

/-- The tables before a point's loop. -/
theorem inv_A (s : St Ideal) (e10 : s.d10 = a10.view.read (Elt Ideal) (a10.view.writes (Elt Ideal) a10.view.junk (point_A.sl.H10_7 c i a2 h2 a3 h3 a5 h5 a6 h6 a10 a11 a12 a15 a16 Q K DO L)))
    (e11 : s.d11 = a11.view.read (Elt Ideal) (a11.view.writes (Elt Ideal) a11.view.junk (point_A.sl.H11_5 c i a2 h2 a3 h3 Q K)))
    (e16 : s.d16 = a16.view.read (Elt Ideal) (a16.view.writes (Elt Ideal) a16.view.junk (point_A.sl.H16_13 c i a2 h2 a3 h3 a6 h6 a12 Q K L))) :
    Inv Q DO K L (i 1).val 3 s where
  h11 r x := by rw [e11, View.read_writes_junk_eq_canon]; exact s4_ok c i h2 h3 Q K (ix2 r x) trivial
  h16 r x := by rw [e16, View.read_writes_junk_eq_canon]; exact p3_ok c i h2 h3 h6 a12 Q K L (ix2 r x) trivial
  h10 r d := by rw [e10, View.read_writes_junk_eq_canon]; exact d3_ok c i h2 h3 h5 h6 a10 a11 a12 a15 a16 Q DO K L r d

/-- What a point that starts a head's block leaves in the gradient of the values. -/
theorem dv_A (r : Fin 2048) (d : Fin 128) :
    a10.view.read (Elt Ideal) (a10.view.writes (Elt Ideal) a10.view.junk (point_A.sl.H10_1_1 c i a2 h2 a3 h3 a4 h4 a5 h5 a6 h6 a7 h7 a8 h8 a9 h9 a10 h10 a11 h11 a12 h12 a13 h13 a14 h14 a15 h15 a16 h16 a17 h17 a18 h18 a19 h19 Q K W DO L D7)) (ix3 0 r d)
      = ∑ t ∈ Finset.range (16 - 4 * (i 1).val), dvT Q DO K L (i 1).val t r.val d := by
  delta point_A.sl.H10_1_1 point_A.sl.r_36 point_A.sl.v1136 point_A.sl.v1138 point_A.sl.r_37 point_A.sl.cst_729
  rw [View.read_writes_full]
  refine dv_final c i a2 h2 a3 h3 a4 h4 a5 h5 a6 h6 a7 h7 a8 h8 a9 h9 a10 h10 a11 h11 a12 h12 a13 h13 a14 h14 a15 h15 a16 h16 a17 h17 a18 h18 a19 h19 _ Q K W DO L D7 _ _ (inv_A c i a2 h2 a3 h3 a5 h5 a6 h6 a10 a11 a12 a15 a16 Q K DO L _ rfl rfl rfl) _ rfl r d

variable {D8 : Vec Ideal S1x128x8192 .f32}
/-- What a point that adds to a head's block leaves in the gradient of the values. -/
theorem dv_B (r : Fin 2048) (d : Fin 128) :
    a10.view.read (Elt Ideal) (a10.view.writes (Elt Ideal) a10.view.junk (point_B.sl.H10_1_1 c i a2 h2 a3 h3 a4 h4 a5 h5 a6 h6 a7 h7 a8 h8 a9 h9 a10 h10 a11 h11 a12 h12 a13 h13 a14 h14 a15 h15 a16 h16 a17 h17 a18 h18 a19 h19 Q K W DO L D7 D8)) (ix3 0 r d)
      = ∑ t ∈ Finset.range (16 - 4 * (i 1).val), dvT Q DO K L (i 1).val t r.val d := by
  delta point_B.sl.H10_1_1 point_B.sl.r_36 point_B.sl.v1136 point_B.sl.v1138 point_B.sl.r_37 point_B.sl.cst_729
  rw [View.read_writes_full]
  refine dv_final c i a2 h2 a3 h3 a4 h4 a5 h5 a6 h6 a7 h7 a8 h8 a9 h9 a10 h10 a11 h11 a12 h12 a13 h13 a14 h14 a15 h15 a16 h16 a17 h17 a18 h18 a19 h19 _ Q K W DO L D7 _ _ (inv_A c i a2 h2 a3 h3 a5 h5 a6 h6 a10 a11 a12 a15 a16 Q K DO L _ rfl rfl rfl) _ rfl r d

end Point

variable (m : (ℓ : Loc nD τ sig) → Buf (Elt Ideal) ℓ)
/-- The gradient of the values among a point's results. -/
theorem outA_dv (c : Dev nD) (t : Fin cfg0.N) (h : t.val % 4 = 0) :
   (outA m c t h).2.2 = (ms0_8 t).view.read (Elt Ideal) ((ms0_8 t).view.writes (Elt Ideal) (ms0_8 t).view.junk (point_A.sl.H10_1_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t))) := by
  delta outA runA point_A
  with_reducible rfl
/-- The gradient of the values among a point's results. -/
theorem outB_dv (c : Dev nD) (t : Fin cfg0.N) (h : ¬ t.val % 4 = 0) (D8) :
   (outB m c t h D8).2.2 = (ms0_8 t).view.read (Elt Ideal) ((ms0_8 t).view.writes (Elt Ideal) (ms0_8 t).view.junk (point_B.sl.H10_1_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) D8)) := by
  delta outB runB point_B
  with_reducible rfl

/-- What a point leaves in the gradient of the values. -/
theorem outs_dv (c : Dev nD) (t : Fin cfg0.N) (r : Fin 2048) (d : Fin 128) :
    (outsAt0 m c t.val t.isLt).2.2 (ix3 0 r d)
      = ∑ u ∈ Finset.range (16 - 4 * (grid0.coords t 1).val), dvT (iblk m c 0 t) (iblk m c 3 t) (iblk m c 1 t) (iblk m c 4 t) (grid0.coords t 1).val u r.val d := by
  by_cases h : t.val % 4 = 0
  · exact (congrFun ((congrArg (·.2.2) (outsAt0_A m c t h)).trans (outA_dv m c t h)) _).trans (dv_A ..)
  · exact (congrFun ((congrArg (·.2.2) (outsAt0_B m c t h)).trans (outB_dv m c t h _)) _).trans (dv_B ..)
end Cert.Kernel2Ideal.Bwd
-- ==== Proof.VBlk.lean ====
module
public import proofs.«01_k».proof.Proof.VPoint
public import Idealize.ShloMosaic.Lib.Pipeline.ValueKit.Geometry
@[expose] public section
set_option maxRecDepth 16384
noncomputable section
namespace Cert.Kernel2Ideal.Bwd
open Cert.Kernel2Ideal Cert.Kernel2Ideal.Gen Idealize.ShloMosaic Idealize.ShloMosaic.TcCoe Idealize.SL.Sem
/-! The gradient of the values after the run. -/

/-- A sum over tiles is the sum over their entries. -/
theorem sum_tiles {A : Type} [AddCommMonoid A] (f : ℕ → A) (m : ℕ) :
    ∑ u ∈ Finset.range m, ∑ c : Fin 512, f (512 * u + c.val) = ∑ n ∈ Finset.range (512 * m), f n := by
  induction m with
  | zero => simp
  | succ m ih => rw [Finset.sum_range_succ, ih, Nat.mul_succ, Finset.sum_range_add, Finset.sum_range (n := 512)]
/-- A sum whose first terms are 0 is the sum of the others. -/
theorem sum_tail {A : Type} [AddCommMonoid A] (f : ℕ → A) (a b : ℕ) (h : ∀ n < a, f n = 0) :
    ∑ n ∈ Finset.range b, f (a + n) = ∑ n ∈ Finset.range (a + b), f n := by
  rw [Finset.sum_range_add, Finset.sum_eq_zero (s := Finset.range a) fun n hn => h n (Finset.mem_range.mp hn), zero_add]

/-- A sum over tiles, each a sum over its entries, is the sum over all places where the places before the first tile add nothing. -/
theorem sum_all {A : Type} [AddCommMonoid A] (T f g : ℕ → A) (a n N : ℕ) (hN : a + 512 * n = N) (hT : ∀ u, T u = ∑ c : Fin 512, f (512 * u + c.val))
    (h0 : ∀ n < a, g n = 0) (hf : ∀ n, f n = g (a + n)) : ∑ u ∈ Finset.range n, T u = ∑ q : Fin N, g q.val := by
  rw [Finset.sum_congr rfl fun u _ => hT u, sum_tiles, Finset.sum_congr rfl fun n _ => hf n, sum_tail g a _ h0, hN, Finset.sum_range]

theorem dv_all (Q DO : Vec Ideal S1x8192x128 .bf16) (K : Vec Ideal S1x2048x128 .bf16) (L : Vec Ideal S1x1x8192 .f32) (j : ℕ) (hj : j < 4) (r : ℕ) (d : Fin 128) :
    ∑ u ∈ Finset.range (16 - 4 * j), dvT Q DO K L j u r d
      = ∑ q : Fin 8192, (if q.val < 2048 * j + r then 0 else Ideal.exp2 (sc Q K r q.val - lAt L q.val)) * qAt DO q.val d := by
  refine sum_all (A := EReal) (fun u => dvT Q DO K L j u r d) (fun n => pr Q K L j r n * qAt DO (2048 * j + n) d)
    (fun q => (if q < 2048 * j + r then 0 else Ideal.exp2 (sc Q K r q - lAt L q)) * qAt DO q d) (2048 * j) (16 - 4 * j) 8192 (by omega) (fun u => ?_) (fun n hn => ?_) (fun n => ?_)
  · unfold dvT dvP PT
    simp only [Nat.zero_add]
  · beta_reduce
    rw [if_pos (by omega), zero_mul]
  · refine congrArg (fun a : EReal => a * qAt DO (2048 * j + n) d) ?_
    show (if r ≤ n then Ideal.exp2 (sc Q K r (2048 * j + n) - lAt L (2048 * j + n)) else 0 : EReal) = if 2048 * j + n < 2048 * j + r then (0 : EReal) else Ideal.exp2 (sc Q K r (2048 * j + n) - lAt L (2048 * j + n))
    by_cases hn : r ≤ n
    · rw [if_pos hn, if_neg (by omega)]
    · rw [if_neg hn, if_pos (by omega)]

variable (m : (ℓ : Loc nD τ sig) → Buf (Elt Ideal) ℓ) (c : Dev nD)
theorem idx_t : ∀ t : Fin cfg0.N, win0_0.index t = ![t.val / 4, 0, 0] ∧ win0_1.index t = ![t.val / 4, t.val % 4, 0] ∧ win0_3.index t = ![t.val / 4, 0, 0]
    ∧ win0_4.index t = ![t.val / 4, 0, 0] ∧ win0_8.index t = ![t.val / 4, t.val % 4, 0] ∧ (grid0.coords t 1).val = t.val % 4 :=
  (by decide +kernel : ∀ t : Fin grid0.N, _)
/-- A point's head. -/
def hd (t : Fin cfg0.N) : Fin 8 := ⟨t.val / 4, by have := t.isLt; have : cfg0.N = 32 := rfl; omega⟩
/-- A point's key. -/
def key (t : Fin cfg0.N) (r : Fin 2048) : Fin 8192 := ⟨t.val % 4 * 2048 + r.val, by omega⟩
theorem blk0 (t : Fin cfg0.N) (q : Fin 8192) (d : Fin 128) : iblk m c 0 t (ix3 0 q d) = V m c main_v37 (ix3 (hd t) q d) := by
  blk_ext [iblk, hd, idx_t t]
theorem blk1 (t : Fin cfg0.N) (r : Fin 2048) (d : Fin 128) : iblk m c 1 t (ix3 0 r d) = V m c main_v40 (ix3 (hd t) (key t r) d) := by
  blk_ext [iblk, hd, key, idx_t t]
theorem blk3 (t : Fin cfg0.N) (q : Fin 8192) (d : Fin 128) : iblk m c 3 t (ix3 0 q d) = V m c main_v46 (ix3 (hd t) q d) := by
  blk_ext [iblk, hd, idx_t t]
theorem blk4 (t : Fin cfg0.N) (q : Fin 8192) : iblk m c 4 t (ix3 0 0 q) = V m c main_v24 (ix3 (hd t) 0 q) := by
  blk_ext [iblk, hd, idx_t t]

/-- The queries the call finds. -/
def cq (h : Fin 8) (q : Fin 8192) (d : Fin 128) : EReal := V m c main_v37 (ix3 h q d)
/-- The keys the call finds. -/
def ck (h : Fin 8) (q : Fin 8192) (d : Fin 128) : EReal := V m c main_v40 (ix3 h q d)
/-- The cotangents the call finds. -/
def cc (h : Fin 8) (q : Fin 8192) (d : Fin 128) : EReal := V m c main_v46 (ix3 h q d)
/-- The logarithms the call finds. -/
def cl (h : Fin 8) (q : Fin 8192) : EReal := V m c main_v24 (ix3 h 0 q)

/-- The gradient of the values from what the call finds. -/
def dvK (h : Fin 8) (k : Fin 8192) (d : Fin 128) : EReal :=
  ∑ q : Fin 8192, (if q.val < k.val then 0 else Ideal.exp2 ((∑ e : Fin 128, ck m c h k e * cq m c h q e) - cl m c h q)) * cc m c h q d

theorem qAt_val (X : Vec Ideal S1x8192x128 .bf16) (q : Fin 8192) (d : Fin 128) : qAt X q.val d = X (ix3 0 q d) := dif_pos q.isLt
theorem kAt_val (X : Vec Ideal S1x2048x128 .bf16) (r : Fin 2048) (d : Fin 128) : kAt X r.val d = X (ix3 0 r d) := dif_pos r.isLt
theorem lAt_val (X : Vec Ideal S1x1x8192 .f32) (q : Fin 8192) : lAt X q.val = X (ix3 0 0 q) := dif_pos q.isLt

theorem outs_dvK (t : Fin cfg0.N) (r : Fin 2048) (d : Fin 128) : (outsAt0 m c t.val t.isLt).2.2 (ix3 0 r d) = dvK m c (hd t) (key t r) d := by
  refine (outs_dv m c t r d).trans ((dv_all _ _ _ _ _ (grid0.coords t 1).isLt _ _).trans ?_)
  have ej := (idx_t t).2.2.2.2.2
  unfold dvK
  refine Finset.sum_congr rfl fun q _ => ?_
  have e3 : (qAt (iblk m c 3 t) q.val d : EReal) = cc m c (hd t) q d := (qAt_val _ _ _).trans (blk3 m c t q d)
  have e4 : (lAt (iblk m c 4 t) q.val : EReal) = cl m c (hd t) q := (lAt_val _ _).trans (blk4 m c t q)
  have es : (sc (iblk m c 0 t) (iblk m c 1 t) r.val q.val : EReal) = ∑ e : Fin 128, ck m c (hd t) (key t r) e * cq m c (hd t) q e :=
    Finset.sum_congr rfl fun x _ => congrArg₂ (fun a b : EReal => a * b) ((kAt_val _ _ _).trans (blk1 m c t r x)) ((qAt_val _ _ _).trans (blk0 m c t q x))
  refine congrArg₂ (fun a b : EReal => a * b) ?_ e3
  rw [e4, es, ej]
  refine if_congr ?_ rfl rfl
  show _ ↔ q.val < t.val % 4 * 2048 + r.val
  omega

theorem final8 : (dats m 0 c).arrAt 8 cfg0.N = fun y => dvK m c (y 0) (y 1) (y 2) := by
  refine (dats m 0 c).arrAt_eq_of_covers 8 _ (by decide +kernel) fun t hf y => ?_
  have e0 : ((cfg0.win 8).blk t).view.emb y 0 = hd t := Fin.ext (by blk_simp [idx_t t]; try rfl)
  have e1 : ((cfg0.win 8).blk t).view.emb y 1 = key t (y 1) := Fin.ext (by blk_simp [idx_t t]; try rfl)
  have e2 : ((cfg0.win 8).blk t).view.emb y 2 = y 2 := Fin.ext (by blk_simp [idx_t t])
  beta_reduce
  rw [e0, e1, e2]
  blk_simp [idx_t t]
  rw [after0_8]
  exact (congrArg (outsAt0 m c t.val t.isLt).2.2 (show y = ix3 0 (y 1) (y 2) from funext fun a => match a with | ⟨0, _⟩ => Subsingleton.elim (α := Fin 1) _ _ | ⟨1, _⟩ => rfl | ⟨2, _⟩ => rfl)).trans (outs_dvK m c t (y 1) (y 2))
end Cert.Kernel2Ideal.Bwd
-- ==== Proof.VHost.lean ====
module
public import proofs.«01_k».proof.Proof.Gen.Kernel2Ideal.Frame

public import Idealize.ShloMosaic.Lib.Pointwise
public import Idealize.ShloMosaic.Lib.Claim
public import Idealize.ShloMosaic.Lib.Pipeline.ValueKit.Geometry
@[expose] public section
set_option maxRecDepth 16384
noncomputable section
namespace Cert.Kernel2Ideal.Bwd
open Cert.Kernel2Ideal Cert.Kernel2Ideal.Gen Idealize.ShloMosaic Idealize.ShloMosaic.TcCoe Idealize.SL.Sem
/-! What the host makes of the arguments before the call. -/
variable (m : (ℓ : Loc nD τ sig) → Buf (Elt Ideal) ℓ) (c : Dev nD)

/-- The argument `q`. -/
abbrev aq : Vec Ideal S8192x8x96 .f32 := m (c, Proc.tc.devRef main_arg0)
/-- The argument `k`. -/
abbrev ak : Vec Ideal S8192x8x96 .f32 := m (c, Proc.tc.devRef main_arg1)
/-- The argument `ct`. -/
abbrev ac : Vec Ideal S8192x8x64 .f32 := m (c, Proc.tc.devRef main_arg3)

theorem sitofp_zero : FloatOps.sitofp (F := Ideal) FTy.f32 0#32 = (0 : EReal) := by
  show ((((0#32 : BitVec 32).toInt : ℤ) : ℝ) : EReal) = 0
  simp

theorem h_v37 (h : Fin 8) (q : Fin 8192) (d : Fin 128) : V m c main_v37 (ix3 h q d) = (if hd : d.val < 96 then
      Ideal.div (Ideal.div (aq m c (ix3 q h ⟨d.val, hd⟩)) (Ideal.sqrt (Ideal.ofBits .f32 0x42C00000#32))) (Ideal.log (Ideal.ofBits .f32 0x40000000#32)) else 0 : EReal) := by
  simp only [V, List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  entry_read
  try simp only [StableHlo.TRef.toBuf, StableHlo.TRef.ofBuf, cast_eq]
  pointwise
  rw [sitofp_zero]
theorem h_v40 (h : Fin 8) (k : Fin 8192) (d : Fin 128) : V m c main_v40 (ix3 h k d) = (if hd : d.val < 96 then ak m c (ix3 k h ⟨d.val, hd⟩) else 0 : EReal) := by
  simp only [V, List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  entry_read
  try simp only [StableHlo.TRef.toBuf, StableHlo.TRef.ofBuf, cast_eq]
  pointwise
  rw [sitofp_zero]
theorem h_v46 (h : Fin 8) (q : Fin 8192) (d : Fin 128) : V m c main_v46 (ix3 h q d) = (if hd : 64 ≤ d.val then ac m c (ix3 q h ⟨d.val - 64, by omega⟩) else 0 : EReal) := by
  simp only [V, List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  entry_read
  try simp only [StableHlo.TRef.toBuf, StableHlo.TRef.ofBuf, cast_eq]
  pointwise
  rw [sitofp_zero]
  have hp : (64 ≤ d.val ∧ d.val - 64 < 64) = (64 ≤ d.val) := propext ⟨And.left, fun h => ⟨h, by omega⟩⟩
  simp only [hp]
end Cert.Kernel2Ideal.Bwd
-- ==== Proof.VLse.lean ====
module
public import proofs.«01_k».proof.Proof.VHost
public import proofs.«01_k».proof.Proof.Gen.Reference2Ideal.Read
@[expose] public section
set_option maxRecDepth 16384
noncomputable section
namespace Cert.Kernel2Ideal.Bwd
open Cert.Kernel2Ideal Cert.Kernel2Ideal.Gen Idealize.ShloMosaic Idealize.ShloMosaic.TcCoe Idealize.SL.Sem
/-! The logarithms of the sums the host makes. -/

/-- The largest score of each query. -/
def mxS (S : FVec Ideal S8x8192x8192 .f32) : FVec Ideal S8x8192 .f32 :=
  Host.reduce FloatOps.maximumf S (constant S_ .f32 0xFF800000#32) reducesTo_S8x8192x8192_S8x8192_d2 h_S_
/-- The logarithms from the scores and the largest of each query. -/
def lseS (S : FVec Ideal S8x8192x8192 .f32) (M : FVec Ideal S8x8192 .f32) : FVec Ideal S8x1x8192 .f32 :=
  shapeCast S8x1x8192 (Host.divf (addf (broadcastInDim S8x8192x1 ![0, 1] bcast_S8x8192_S8x8192x1_0_1 M)
    (Host.log (broadcastInDim S8x8192x1 ![0, 1] bcast_S8x8192_S8x8192x1_0_1
      (Host.reduceAdd (Host.exp (subf S (broadcastInDim S8x8192x8192 ![0, 1, 2] bcast_S8x8192x1_S8x8192x8192_0_1_2 (broadcastInDim S8x8192x1 ![0, 1] bcast_S8x8192_S8x8192x1_0_1 M))))
        (constant S_ .f32 0x00000000#32) reducesTo_S8x8192x8192_S8x8192_d2 h_S_))))
    (broadcastInDim S8x8192x1 ![] bcast_S_S8x8192x1 (Host.log (constant S_ .f32 0x40000000#32)))) shapeCasts_S8x8192x1_S8x1x8192

theorem lseS_apply (S : FVec Ideal S8x8192x8192 .f32) (M : FVec Ideal S8x8192 .f32) (h : Fin 8) (q : Fin 8192) :
    lseS S M (ix3 h 0 q) = Ideal.div (M (ix2 h q) + Ideal.log (∑ k : Fin 8192, Ideal.exp (S (ix3 h q k) - M (ix2 h q)))) (Ideal.log (Ideal.ofBits .f32 0x40000000#32)) := by
  pointwise [lseS]
  try rfl

variable (m : (ℓ : Loc nD τ sig) → Buf (Elt Ideal) ℓ) (c : Dev nD)
theorem v24_eq : (V m c main_v24 : Vec Ideal S8x1x8192 .f32) = lseS (Cert.Reference2Ideal.Read.val_main_v11_0 (F := Ideal) (aq m c) (ak m c)) (mxS (Cert.Reference2Ideal.Read.val_main_v11_0 (F := Ideal) (aq m c) (ak m c))) := by
  simp only [V, List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  entry_read
  try simp only [StableHlo.TRef.toBuf, StableHlo.TRef.ofBuf, cast_eq]
  rfl

/-- A left fold by the larger of two meets all its values. -/
theorem foldl_max {ι : Type} (f : ι → EReal) (b : EReal) : ∀ (l : List ι) (a : EReal), a ≤ l.foldl (fun r n => max r (f n)) a ∧ (∀ n ∈ l, f n ≤ l.foldl (fun r n => max r (f n)) a)
    ∧ (a < b → (∀ n ∈ l, f n < b) → l.foldl (fun r n => max r (f n)) a < b)
  | [], a => ⟨le_refl _, (fun _ h => absurd h (List.not_mem_nil)), fun h _ => h⟩
  | x :: l, a => by
    obtain ⟨h1, h2, h3⟩ := foldl_max f b l (max a (f x))
    refine ⟨(le_max_left _ _).trans h1, fun n hn => ?_, fun ha hf => h3 (max_lt ha (hf x (List.mem_cons_self ..))) fun n hn => hf n (List.mem_cons_of_mem _ hn)⟩
    rcases List.mem_cons.1 hn with rfl | hn
    exacts [(le_max_right _ _).trans h1, h2 n hn]

theorem ofBits_bot : Ideal.ofBits FTy.f32 0xFF800000#32 = (⊥ : EReal) := by simp [Ideal.ofBits, Ideal.ieee]

theorem mxS_le (S : FVec Ideal S8x8192x8192 .f32) (h : Fin 8) (q k : Fin 8192) : S (ix3 h q k) ≤ mxS S (ix2 h q) := by
  unfold mxS
  rw [Host.reduce_eq_foldl]
  refine (foldl_max S ⊤ _ _).2.1 (ix3 h q k) ?_
  rw [List.mem_filter]
  refine ⟨List.mem_map.2 ⟨S8x8192x8192.rowMajor (ix3 h q k), List.mem_finRange _, Equiv.symm_apply_apply _ _⟩, ?_⟩
  simp only [decide_eq_true_eq]
  funext a
  match a with
  | ⟨0, _⟩ => rfl
  | ⟨1, _⟩ => rfl
theorem mxS_lt (S : FVec Ideal S8x8192x8192 .f32) (hS : ∀ i, S i < ⊤) (j : S8x8192.Idx) : mxS S j < ⊤ := by
  unfold mxS
  rw [Host.reduce_eq_foldl]
  refine (foldl_max S ⊤ _ _).2.2 ?_ fun n _ => hS n
  show Ideal.ofBits FTy.f32 0xFF800000#32 < ⊤
  rw [ofBits_bot]; exact bot_lt_top
end Cert.Kernel2Ideal.Bwd
-- ==== Proof.VAlg.lean ====
module
public import proofs.«01_k».proof.Proof.Norm
@[expose] public section
noncomputable section
namespace Cert.Tail
open Idealize.ShloMosaic

/-! A softmax's weight from the logarithm of its sum, to the base two. -/

theorem exp2_real (x : ℝ) : Ideal.exp2 ((x / Real.log 2 : ℝ) : EReal) = ((Real.exp x : ℝ) : EReal) := by
  show ((Real.rpow 2 (x / Real.log 2) : ℝ) : EReal) = _
  have h2 : Real.log 2 ≠ 0 := (Real.log_pos (by norm_num)).ne'
  have e : Real.rpow 2 (x / Real.log 2) = Real.exp x := by
    show (2 : ℝ) ^ (x / Real.log 2) = _
    rw [Real.rpow_def_of_pos (by norm_num)]
    congr 1
    field_simp
  rw [e]
theorem two_eq : Ideal.ofBits FTy.f32 0x40000000#32 = ((2 : ℝ) : EReal) := by
  simp [Ideal.ofBits, Ideal.ieee, -EReal.coe_mul]; norm_num
theorem log_two : Ideal.log (Ideal.ofBits FTy.f32 0x40000000#32) = ((Real.log 2 : ℝ) : EReal) := by
  rw [two_eq]
  show (if (2 : ℝ) ≤ 0 then (⊥ : EReal) else _) = _
  rw [if_neg (by norm_num)]
theorem root_eq : ∃ r : ℝ, r ≠ 0 ∧ Ideal.sqrt (Ideal.ofBits FTy.f32 0x42C00000#32) = (r : EReal) := by
  have e : Ideal.ofBits FTy.f32 0x42C00000#32 = ((96 : ℝ) : EReal) := by
    simp [Ideal.ofBits, Ideal.ieee, -EReal.coe_mul]; norm_num
  refine ⟨Real.sqrt 96, (Real.sqrt_pos.mpr (by norm_num)).ne', ?_⟩
  rw [e]
  show (if (96 : ℝ) < 0 then (⊥ : EReal) else _) = _
  rw [if_neg (by norm_num)]

/-- Weights of one query: the scores after the query are out, the largest is met from above and is not infinite. -/
theorem soft_eq {n : ℕ} (q : Fin n) (s : Fin n → ℝ) (S : Fin n → EReal) (hS : ∀ k, S k = if q.val < k.val then ⊥ else (s k : EReal))
    (M : EReal) (hM : ∀ k, S k ≤ M) (ht : M < ⊤) (k : Fin n) :
    (if q.val < k.val then (0 : EReal) else Ideal.exp2 (((s k / Real.log 2 : ℝ) : EReal) - Ideal.div (M + Ideal.log (∑ j, Ideal.exp (S j - M))) ((Real.log 2 : ℝ) : EReal)))
      = Ideal.div (Ideal.exp (S k - M)) (∑ j, Ideal.exp (S j - M)) := by
  have h2 : Real.log 2 ≠ 0 := (Real.log_pos (by norm_num)).ne'
  obtain ⟨μ, rfl⟩ : ∃ μ : ℝ, M = (μ : EReal) := by
    have hq := hM q
    rw [hS q, if_neg (lt_irrefl _)] at hq
    induction M using EReal.rec with
    | bot => exact absurd (le_bot_iff.1 hq) (EReal.coe_ne_bot _)
    | coe r => exact ⟨r, rfl⟩
    | top => exact absurd ht (lt_irrefl _)
  have hw : ∀ j, Ideal.exp (S j - (μ : EReal)) = (((if q.val < j.val then 0 else Real.exp (s j - μ)) : ℝ) : EReal) := fun j => by
    rw [hS j]
    split_ifs
    · rw [EReal.bot_sub]; rfl
    · rw [← EReal.coe_sub]; rfl
  have hT : ∑ j, Ideal.exp (S j - (μ : EReal)) = ((∑ j, (if q.val < j.val then 0 else Real.exp (s j - μ)) : ℝ) : EReal) := by
    rw [coe_sum]; exact Finset.sum_congr rfl fun j _ => hw j
  have hp : 0 < ∑ j, (if q.val < j.val then 0 else Real.exp (s j - μ)) := by
    refine Finset.sum_pos' (fun j _ => ?_) ⟨q, Finset.mem_univ _, ?_⟩
    · split_ifs
      exacts [le_refl _, (Real.exp_pos _).le]
    · rw [if_neg (lt_irrefl _)]; exact Real.exp_pos _
  rw [hT, hw k]
  generalize (∑ j, (if q.val < j.val then 0 else Real.exp (s j - μ))) = T at hp
  have hl : Ideal.log (T : EReal) = ((Real.log T : ℝ) : EReal) := by
    show (if T ≤ 0 then (⊥ : EReal) else _) = _
    rw [if_neg (not_le.2 hp)]
  rw [hl, Ideal.div_coe h2, Ideal.div_coe hp.ne']
  split_ifs
  · simp
  · rw [← EReal.coe_add, ← EReal.coe_mul, ← EReal.coe_sub, ← EReal.coe_mul]
    rw [show s k / Real.log 2 - (μ + Real.log T) * (1 / Real.log 2) = (s k - μ - Real.log T) / Real.log 2 by ring, exp2_real]
    congr 1
    rw [Real.exp_sub, Real.exp_log hp]
    ring

/-- A sum of products whose last terms are 0. -/
theorem sum_96 (f : Fin 96 → EReal) : ∑ e : Fin 128, (if h : e.val < 96 then f ⟨e.val, h⟩ else 0) = ∑ e : Fin 96, f e := by
  rw [Fin.sum_univ_eq_sum_range (fun e => if h : e < 96 then f ⟨e, h⟩ else 0) 128, show 128 = 96 + 32 from rfl, Finset.sum_range_add,
    Finset.sum_eq_zero (s := Finset.range 32) (fun n _ => dif_neg (by omega)), add_zero, Finset.sum_range]
  exact Finset.sum_congr rfl fun e _ => dif_pos e.isLt

/-- The score to the base two over the padded entries. -/
theorem score_eq (x k : Fin 96 → EReal) (hx : ∀ e, Fnt (x e)) (hk : ∀ e, Fnt (k e)) : ∃ s : ℝ,
    (∑ e, Ideal.div (x e) (Ideal.sqrt (Ideal.ofBits FTy.f32 0x42C00000#32)) * k e = (s : EReal)) ∧
    (∑ e : Fin 128, (if h : e.val < 96 then k ⟨e.val, h⟩ else 0) * (if h : e.val < 96 then
      Ideal.div (Ideal.div (x ⟨e.val, h⟩) (Ideal.sqrt (Ideal.ofBits FTy.f32 0x42C00000#32))) (Ideal.log (Ideal.ofBits FTy.f32 0x40000000#32)) else 0)
      = ((s / Real.log 2 : ℝ) : EReal)) := by
  choose x' hx using hx
  choose k' hk using hk
  obtain rfl : x = fun j => (x' j : EReal) := funext hx
  obtain rfl : k = fun j => (k' j : EReal) := funext hk
  have h2 : Real.log 2 ≠ 0 := (Real.log_pos (by norm_num)).ne'
  obtain ⟨r, hr, er⟩ := root_eq
  rw [er, log_two]
  refine ⟨∑ e, x' e * (1 / r) * k' e, ?_, ?_⟩
  · rw [coe_sum]
    exact Finset.sum_congr rfl fun e _ => by rw [Ideal.div_coe hr, ← EReal.coe_mul, ← EReal.coe_mul]
  · refine (Finset.sum_congr rfl fun e _ => ?_).trans ((sum_96 fun e => ((x' e * (1 / r) * k' e / Real.log 2 : ℝ) : EReal)).trans ?_)
    · split_ifs
      · rw [Ideal.div_coe hr, ← EReal.coe_mul, Ideal.div_coe h2, ← EReal.coe_mul, ← EReal.coe_mul]
        congr 1; ring
      · rw [zero_mul]
    · rw [← coe_sum, Finset.sum_div]
end Cert.Tail
-- ==== Proof.VRef.lean ====
module
public import proofs.«01_k».proof.Proof.VLse
public import proofs.«01_k».proof.Proof.VAlg
@[expose] public section
set_option maxRecDepth 16384
noncomputable section
namespace Cert.Reference2Ideal.Bwd
open Cert.Reference2Ideal Cert.Reference2Ideal.Gen Cert.Reference2Ideal.Read Idealize.ShloMosaic Idealize.ShloMosaic.TcCoe Idealize.SL.Sem
open Cert.Kernel2Ideal.Bwd (mxS mxS_le mxS_lt ofBits_bot sitofp_zero)
/-! The reference's gradient of the values at an index. -/
variable (x0 x1 : FVec Ideal S8192x8x96 .f32) (x3 : FVec Ideal S8192x8x64 .f32)

/-- The scores with the later keys taken out. -/
abbrev scS : FVec Ideal S8x8192x8192 .f32 := val_main_v11_0 (F := Ideal) x0 x1

theorem i3 {a b c : ℕ} (i : (⟨3, ![a, b, c]⟩ : Shape).Idx) (x : Fin a) (y : Fin b) (z : Fin c) (h0 : (i 0).val = x.val) (h1 : (i 1).val = y.val) (h2 : (i 2).val = z.val) : i = ix3 x y z :=
  funext fun d => match d with
    | ⟨0, _⟩ => Fin.ext h0
    | ⟨1, _⟩ => Fin.ext h1
    | ⟨2, _⟩ => Fin.ext h2

theorem mask_eq (q k : Fin 8192) (a b : EReal) : Scalar.select (IntOp.cmpi .sle (BitVec.ofNat 32 k.val) (BitVec.ofNat 32 q.val)) a b = if q.val < k.val then b else a := by
  have hn : ∀ x : Fin 8192, (BitVec.ofNat 32 x.val).toInt = (x.val : ℤ) := fun x => by
    have e : (BitVec.ofNat 32 x.val).toNat = x.val := by rw [BitVec.toNat_ofNat]; exact Nat.mod_eq_of_lt (by omega)
    rw [BitVec.toInt_eq_toNat_of_lt (by rw [e]; omega), e]
  have e : (IntOp.cmpi .sle (BitVec.ofNat 32 k.val) (BitVec.ofNat 32 q.val)) = BitVec.ofBool (decide ((k.val : ℤ) ≤ (q.val : ℤ))) := by
    rw [← hn k, ← hn q]; rfl
  rw [e]
  by_cases h : q.val < k.val
  · rw [if_pos h, decide_eq_false (by omega)]; rfl
  · rw [if_neg h, decide_eq_true (by omega)]; rfl

theorem sc_apply (h : Fin 8) (q k : Fin 8192) : scS x0 x1 (ix3 h q k)
    = if q.val < k.val then (⊥ : EReal) else ∑ e : Fin 96, Ideal.div (x0 (ix3 q h e)) (Ideal.sqrt (Ideal.ofBits .f32 0x42C00000#32)) * x1 (ix3 k h e) := by
  show val_main_v11_0 (F := Ideal) x0 x1 (ix3 h q k) = _
  rw [val_main_v11_0_apply, val_main_v11_1_apply, val_main_v10_apply, val_main_v9_apply, val_main_v7_apply, val_main_v5_apply, val_main_v4_apply, val_main_v8_apply, val_main_v6_apply, val_main_v4_apply,
    val_main_call0_v2_apply, val_main_call0_v0_apply, val_main_cst_0_apply, val_main_v3_apply]
  refine (mask_eq q k _ _).trans ?_
  refine if_congr Iff.rfl ofBits_bot (Finset.sum_congr rfl fun e _ => ?_)
  rw [val_main_v2_apply, val_main_v1_apply, val_main_v0_apply, val_main_cst_apply]
  exact congrArg₂ (fun a b : EReal => Ideal.div a (Ideal.sqrt (Ideal.ofBits .f32 0x42C00000#32)) * b) (congrArg x0 (i3 _ q h e rfl rfl rfl)) (congrArg x1 (i3 _ k h e rfl rfl rfl))

theorem v19_eq (j : S8x8192.Idx) : val_main_v19 (F := Ideal) x0 x1 j = mxS (scS x0 x1) j := by
  rw [val_main_v19_apply, val_main_v18_apply]
  show max (Ideal.ofBits FTy.f32 0xFF800000#32) (mxS (scS x0 x1) j) = _
  rw [ofBits_bot]
  exact max_eq_right bot_le
theorem v32_eq (h : Fin 8) (q k : Fin 8192) : val_main_v32 (F := Ideal) x0 x1 (ix3 h q k) = Ideal.exp (scS x0 x1 (ix3 h q k) - mxS (scS x0 x1) (ix2 h q)) := by
  rw [val_main_v32_apply, val_main_v31_apply, val_main_v30_apply, val_main_v29_apply, v19_eq]
  exact congrArg (fun j => Ideal.exp (scS x0 x1 (ix3 h q k) - mxS (scS x0 x1) j)) (funext fun a => match a with | ⟨0, _⟩ => rfl | ⟨1, _⟩ => rfl)
theorem v36_eq (h : Fin 8) (q k : Fin 8192) : val_main_v36 (F := Ideal) x0 x1 (ix3 h q k)
    = Ideal.div (Ideal.exp (scS x0 x1 (ix3 h q k) - mxS (scS x0 x1) (ix2 h q))) (∑ l : Fin 8192, Ideal.exp (scS x0 x1 (ix3 h q l) - mxS (scS x0 x1) (ix2 h q))) := by
  rw [val_main_v36_apply, v32_eq, val_main_v35_apply, val_main_v34_apply, val_main_v33_apply]
  refine congrArg (Ideal.div _) ?_
  have e : (val_main_cst_9 (F := Ideal)) (Shape.Idx.first h_S_) = (0 : EReal) := by
    show Ideal.ofBits FTy.f32 0x00000000#32 = 0
    simp [Ideal.ofBits, Ideal.ieee]
  rw [e, zero_add]
  exact Finset.sum_congr rfl fun l _ => (congrArg (val_main_v32 (F := Ideal) x0 x1) (i3 _ h q l rfl rfl rfl)).trans (v32_eq x0 x1 h q l)
theorem v44_eq (h : Fin 8) (e : Fin 64) (k : Fin 8192) : val_main_v44 (F := Ideal) x0 x1 x3 (ix3 h e k) = ∑ q : Fin 8192, x3 (ix3 q h e) * val_main_v36 (F := Ideal) x0 x1 (ix3 h q k) := by
  rw [val_main_v44_apply]
  refine Finset.sum_congr rfl fun q _ => ?_
  rw [val_main_v42_apply]
  exact congrArg₂ (fun a b : EReal => a * b) (congrArg x3 (i3 _ q h e rfl rfl rfl)) (congrArg (val_main_v36 (F := Ideal) x0 x1) (i3 _ h q k rfl rfl rfl))
theorem v68_eq (h : Fin 8) (k : Fin 8192) (d : Fin 128) : val_main_v68 (F := Ideal) x0 x1 x3 (ix3 h k d) = (if hd : 64 ≤ d.val then val_main_v44 (F := Ideal) x0 x1 x3 (ix3 h ⟨d.val - 64, by omega⟩ k) else 0 : EReal) := by
  unfold val_main_v68 val_main_v67 val_main_v45 val_main_call4_v0 val_main_c_14
  generalize val_main_v44 (F := Ideal) x0 x1 x3 = y
  pointwise
  rw [sitofp_zero]
  have hp : (64 ≤ d.val ∧ d.val - 64 < 64) = (64 ≤ d.val) := propext ⟨And.left, fun h => ⟨h, by omega⟩⟩
  simp only [hp]
end Cert.Reference2Ideal.Bwd
-- ==== Proof.VEq.lean ====
module
public import proofs.«01_k».proof.Proof.VBlk
public import proofs.«01_k».proof.Proof.VRef
@[expose] public section
set_option maxRecDepth 16384
noncomputable section
namespace Cert.Kernel2Ideal.Bwd
open Cert.Kernel2Ideal Cert.Kernel2Ideal.Gen Idealize.ShloMosaic Idealize.ShloMosaic.TcCoe Idealize.SL.Sem
open Cert.Reference2Ideal.Bwd (scS sc_apply v36_eq v44_eq v68_eq)
open Cert.Tail (Fnt soft_eq score_eq log_two)
/-! The two gradients of the values are one. -/
variable (m : (ℓ : Loc nD τ sig) → Buf (Elt Ideal) ℓ) (c : Dev nD)

theorem cl_eq (h : Fin 8) (q : Fin 8192) : cl m c h q = Ideal.div (mxS (scS (aq m c) (ak m c)) (ix2 h q)
    + Ideal.log (∑ k : Fin 8192, Ideal.exp (scS (aq m c) (ak m c) (ix3 h q k) - mxS (scS (aq m c) (ak m c)) (ix2 h q)))) (Ideal.log (Ideal.ofBits .f32 0x40000000#32)) :=
  (congrFun (v24_eq m c) (ix3 h 0 q)).trans (lseS_apply _ _ h q)

theorem weight_eq (hq : ∀ i, Fnt (aq m c i)) (hk : ∀ i, Fnt (ak m c i)) (h : Fin 8) (q k : Fin 8192) :
    (if q.val < k.val then (0 : EReal) else Ideal.exp2 ((∑ e : Fin 128, ck m c h k e * cq m c h q e) - cl m c h q)) = Cert.Reference2Ideal.Read.val_main_v36 (F := Ideal) (aq m c) (ak m c) (ix3 h q k) := by
  rw [v36_eq, cl_eq]
  choose s h1 h2 using fun k : Fin 8192 => score_eq (fun e => aq m c (ix3 q h e)) (fun e => ak m c (ix3 k h e)) (fun e => hq _) (fun e => hk _)
  have hs : ∀ k, scS (aq m c) (ak m c) (ix3 h q k) = if q.val < k.val then (⊥ : EReal) else (s k : EReal) := fun k => by
    rw [sc_apply, h1 k]
  have hl : ∀ i, scS (aq m c) (ak m c) i < (⊤ : EReal) := fun i => by
    obtain ⟨x, y, z, rfl⟩ : ∃ x y z, i = ix3 x y z := ⟨i 0, i 1, i 2, Cert.Reference2Ideal.Bwd.i3 i _ _ _ rfl rfl rfl⟩
    rw [sc_apply]
    obtain ⟨s', h1', -⟩ := score_eq (fun e => aq m c (ix3 y x e)) (fun e => ak m c (ix3 z x e)) (fun e => hq _) (fun e => hk _)
    rw [h1']
    split_ifs
    exacts [bot_lt_top, EReal.coe_lt_top _]
  have e : (∑ e : Fin 128, ck m c h k e * cq m c h q e : EReal) = ((s k / Real.log 2 : ℝ) : EReal) :=
    (Finset.sum_congr rfl fun e _ => congrArg₂ (fun a b : EReal => a * b) (h_v40 m c h k e) (h_v37 m c h q e)).trans (h2 k)
  rw [e, log_two]
  exact soft_eq q s (fun k => scS (aq m c) (ak m c) (ix3 h q k)) hs _ (fun k => mxS_le _ h q k) (mxS_lt _ hl _) k

theorem dv_eq (hq : ∀ i, Fnt (aq m c i)) (hk : ∀ i, Fnt (ak m c i)) (h : Fin 8) (k : Fin 8192) (d : Fin 128) :
    dvK m c h k d = Cert.Reference2Ideal.Read.val_main_v68 (F := Ideal) (aq m c) (ak m c) (ac m c) (ix3 h k d) := by
  rw [v68_eq]
  have e : ∀ q, cc m c h q d = (if hd : 64 ≤ d.val then ac m c (ix3 q h ⟨d.val - 64, by omega⟩) else 0 : EReal) := fun q => h_v46 m c h q d
  unfold dvK
  by_cases hd : 64 ≤ d.val
  · rw [dif_pos hd, v44_eq]
    refine Finset.sum_congr rfl fun q _ => ?_
    rw [weight_eq m c hq hk, e, dif_pos hd]
    exact mul_comm _ _
  · rw [dif_neg hd]
    refine Finset.sum_eq_zero fun q _ => ?_
    rw [e, dif_neg hd, mul_zero]
end Cert.Kernel2Ideal.Bwd
-- ==== Proof.VPre2.lean ====
module
public import proofs.«01_k».proof.Proof.Pre
public import proofs.«01_k».proof.Proof.Gen.Pre_finite2
@[expose] public section
noncomputable section
namespace Cert.Pre_finite2.Bwd
open Cert.Pre_finite2 Idealize.ShloMosaic Idealize.ShloMosaic.TcCoe Idealize.SL.Sem
open Cert.Tail (Fnt)
/-! What the precondition says of the arguments: every entry of `q` and `k` is a real number. -/
theorem ok (x0 x1 : FVec Ideal S8192x8x96 .f32) (x2 x3 : FVec Ideal S8192x8x64 .f32) (h : fn (F := Ideal) x0 x1 x2 x3 = fun _ => 1#1) : (∀ i, Fnt (x0 i)) ∧ ∀ i, Fnt (x1 i) := by
  have j : S_.Idx := fun i => i.elim0
  have h := congrFun h j
  dsimp only [fn] at h
  obtain ⟨h0, h1⟩ := Cert.Pre_finite.Tail.andi_split _ _ _ h
  exact ⟨fun i => Cert.Pre_finite.Tail.fnt_of_all x0 _ _ _ _ j h0 i, fun i => Cert.Pre_finite.Tail.fnt_of_all x1 _ _ _ _ j h1 i⟩
end Cert.Pre_finite2.Bwd
-- ==== Proof.VFin.lean ====
module
public import proofs.«01_k».proof.Proof.VEq
public import proofs.«01_k».proof.Proof.VPre2
public import proofs.«01_k».proof.Proof.Gen.On_values_grad
@[expose] public section
set_option maxRecDepth 16384
noncomputable section
namespace Cert.Kernel2Ideal.Bwd
open Cert.Kernel2Ideal Cert.Kernel2Ideal.Gen Idealize.ShloMosaic Idealize.ShloMosaic.TcCoe Idealize.SL.Sem
open Cert.Tail (Fnt)
/-! The claim of the gradient of the values. -/

/-- Nothing is asked of a result the mask leaves out. -/
theorem no (p : Prop) (h : (0#1 : BitVec 1) = 1#1) : p := absurd h (by decide)

/-- The gradient of the values after the call, of every head, key and entry, is the reference's. -/
theorem algebraic : Cert.algebraic_Kernel2Ideal_Reference2Ideal_on_values_grad_pre_finite2 := by
  intro m g m' g' hpre hm
  have hok := fun c : Dev nD => Cert.Pre_finite2.Bwd.ok _ _ _ _ (hpre c)
  refine ⟨fun _ _ => (0 : EReal), fun _ _ => (0 : EReal), fun c => Cert.Reference2Ideal.Read.val_main_v68 (F := Ideal) (aq m c) (ak m c) (ac m c), ?_, ?_⟩
  · refine (θ_run _ _ _).mono (fun r h c => ?_) (θ_run_and (unchanged m g) (run_main m g))
    refine ⟨fun i hi => no _ hi, fun i hi => no _ hi, fun i _ => ?_, h.1 c⟩
    refine (congrFun (((h.2 c).1 8).trans (final8 m c)) i).trans ((dv_eq m c (hok c).1 (hok c).2 (i 0) (i 1) (i 2)).trans ?_)
    exact congrArg (Cert.Reference2Ideal.Read.val_main_v68 (F := Ideal) (aq m c) (ak m c) (ac m c)) (Cert.Reference2Ideal.Bwd.i3 i _ _ _ rfl rfl rfl).symm
  · refine (θ_run _ _ _).mono (fun r h c => ?_) (Cert.Reference2Ideal.Value.run (F := Ideal) m' g')
    obtain ⟨-, -, h2, h3⟩ := h c
    obtain ⟨a0, a1, a2, a3⟩ := hm c
    refine ⟨fun i hi => no _ hi, fun i hi => no _ hi, fun i _ => congrFun ?_ i, h3⟩
    refine h2.trans ((Cert.Reference2Ideal.Read.val_main_v68_eq m' c).trans ?_)
    rw [a0, a1, a3]
end Cert.Kernel2Ideal.Bwd
-- ==== Proof.VPay2.lean ====
module
public import proofs.«01_k».proof.Proof.VPay
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! The vectors the gradient of the keys is made of, read at an index. -/

theorem msk2 (r c a b : ℕ) (h : r + a < 2 ^ 31) (h' : c + b < 2 ^ 31) (s l y : EReal) :
    Scalar.select (α := EReal) (IntOp.cmpi .sge (IntOp.addi (BitVec.ofNat 32 c) (BitVec.ofNat 32 b)) (IntOp.addi (BitVec.ofNat 32 r) (BitVec.ofNat 32 a)))
      (FloatOps.exp2 (F := Ideal) (φ := .f32) (s - l : EReal) * y : EReal) (0 : EReal) = pe (r + a) (c + b) s l * y := by
  rw [← msk r c a b h h']
  unfold Scalar.select
  split_ifs
  · rfl
  · exact (zero_mul y).symm

theorem pay82_apply (a : Vec Ideal S1x256x128 .bf16) (b : Vec Ideal S1x512x128 .bf16) (r : Fin 256) (c : Fin 512) :
    k0_pay82 a b (ix2 r c) = ∑ d : Fin 128, a (ix3 0 r d) * b (ix3 0 c d) := by
  pointwise [k0_pay82]

theorem pay85_apply (a : Vec Ideal S1x256x128 .bf16) (b : Vec Ideal S1x256x128 .bf16) (r : Fin 256) (c : Fin 256) :
    k0_pay85 (k0_pay84 a) b (ix2 r c) = ∑ d : Fin 128, a (ix3 0 r d) * b (ix3 0 c d) := by
  pointwise [k0_pay85, k0_pay84]

theorem pay88_apply (a : Vec Ideal S1x768x128 .bf16) (b : Vec Ideal S1x512x128 .bf16) (r : Fin 768) (c : Fin 512) :
    k0_pay88 (k0_pay87 a b) (ix2 r c) = ∑ d : Fin 128, a (ix3 0 r d) * b (ix3 0 c d) := by
  pointwise [k0_pay88, k0_pay87]

theorem pay90_apply (a : Vec Ideal S1x256x128 .bf16) (b : Vec Ideal S1x256x128 .bf16) (r : Fin 256) (c : Fin 256) :
    k0_pay90 a b (ix2 r c) = ∑ d : Fin 128, a (ix3 0 r d) * b (ix3 0 c d) := by
  pointwise [k0_pay90]

theorem pay101_apply (a : Vec Ideal S1x1280x128 .bf16) (b : Vec Ideal S1x512x128 .bf16) (r : Fin 1280) (c : Fin 512) :
    k0_pay101 a b (ix2 r c) = ∑ d : Fin 128, a (ix3 0 r d) * b (ix3 0 c d) := by
  pointwise [k0_pay101]

theorem pay103_apply (a : Vec Ideal S1x256x128 .bf16) (b : Vec Ideal S1x256x128 .bf16) (r : Fin 256) (c : Fin 256) :
    k0_pay103 a b (ix2 r c) = ∑ d : Fin 128, a (ix3 0 r d) * b (ix3 0 c d) := by
  pointwise [k0_pay103]

theorem pay135_apply (a : Vec Ideal S1x1792x128 .bf16) (b : Vec Ideal S1x512x128 .bf16) (r : Fin 1792) (c : Fin 512) :
    k0_pay135 (k0_pay134 a) b (ix2 r c) = ∑ d : Fin 128, a (ix3 0 r d) * b (ix3 0 c d) := by
  pointwise [k0_pay135, k0_pay134]

theorem pay138_apply (a : Vec Ideal S1x256x128 .bf16) (b : Vec Ideal S1x256x128 .bf16) (r : Fin 256) (c : Fin 256) :
    k0_pay138 (k0_pay137 a b) (ix2 r c) = ∑ d : Fin 128, a (ix3 0 r d) * b (ix3 0 c d) := by
  pointwise [k0_pay138, k0_pay137]

theorem pay174_apply (a : Vec Ideal S1x2048x128 .bf16) (b : Vec Ideal S1x512x128 .bf16) (r : Fin 2048) (c : Fin 512) :
    k0_pay174 (k0_pay173 a) b (ix2 r c) = ∑ d : Fin 128, a (ix3 0 r d) * b (ix3 0 c d) := by
  pointwise [k0_pay174, k0_pay173]

theorem pay3_apply (a : Vec Ideal S1x2048x128 .bf16) (b : Vec Ideal S1x512x128 .bf16) (r : Fin 2048) (c : Fin 512) :
    k0_pay3 a b (ix2 r c) = ∑ d : Fin 128, a (ix3 0 r d) * b (ix3 0 c d) := by
  pointwise [k0_pay3]

theorem pay24_apply (a : Vec Ideal S1x2048x128 .bf16) (b : Vec Ideal S1x512x128 .bf16) (r : Fin 2048) (c : Fin 512) :
    k0_pay24 (k0_pay23 a) b (ix2 r c) = ∑ d : Fin 128, a (ix3 0 r d) * b (ix3 0 c d) := by
  pointwise [k0_pay24, k0_pay23]

theorem pay94_apply (l z : Vec Ideal S1x1x512 .f32) (s e : Vec Ideal S256x512 .f32) (r : Fin 256) (c : Fin 512) :
    k0_pay94 (k0_pay91 l) z s e (ix2 r c) = (pe (r.val + 0) (c.val + 0) (s (ix2 r c)) (l (ix3 0 0 c)) * (e (ix2 r c) - z (ix3 0 0 c)) : EReal) := by
  pointwise [k0_pay94, k0_pay91, k0_pay92]
  exact msk2 r.val c.val 0 0 (by omega) (by omega) _ _ _

theorem pay98_apply (l z : Vec Ideal S1x1x256 .f32) (s e : Vec Ideal S256x256 .f32) (r : Fin 256) (c : Fin 256) :
    k0_pay98 (k0_pay95 l) z s e (ix2 r c) = (pe (r.val + 256) (c.val + 256) (s (ix2 r c)) (l (ix3 0 0 c)) * (e (ix2 r c) - z (ix3 0 0 c)) : EReal) := by
  pointwise [k0_pay98, k0_pay95, k0_pay96]
  exact msk2 r.val c.val 256 256 (by omega) (by omega) _ _ _

theorem pay117_apply (l z : Vec Ideal S1x1x512 .f32) (s e : Vec Ideal S256x512 .f32) (r : Fin 256) (c : Fin 512) :
    k0_pay117 (k0_pay114 z) (k0_pay115 l s) e (ix2 r c) = (pe (r.val + 0) (c.val + 512) (s (ix2 r c)) (l (ix3 0 0 c)) * (e (ix2 r c) - z (ix3 0 0 c)) : EReal) := by
  pointwise [k0_pay117, k0_pay114, k0_pay115, k0_pay113]
  exact msk2 r.val c.val 0 512 (by omega) (by omega) _ _ _

theorem pay120_apply (l z : Vec Ideal S1x1x512 .f32) (s e : Vec Ideal S256x512 .f32) (r : Fin 256) (c : Fin 512) :
    k0_pay120 (k0_pay113 l) (k0_pay114 z) s e (ix2 r c) = (pe (r.val + 256) (c.val + 512) (s (ix2 r c)) (l (ix3 0 0 c)) * (e (ix2 r c) - z (ix3 0 0 c)) : EReal) := by
  pointwise [k0_pay120, k0_pay113, k0_pay114, k0_pay118]
  exact msk2 r.val c.val 256 512 (by omega) (by omega) _ _ _

theorem pay125_apply (l z : Vec Ideal S1x1x512 .f32) (s e : Vec Ideal S256x512 .f32) (r : Fin 256) (c : Fin 512) :
    k0_pay125 (k0_pay114 z) (k0_pay121 (k0_pay113 l) s) k0_pay122 (iota .tc S256x512 32 [1] iota_S256x512_d1_w32) 512#32 e (ix2 r c) = (pe (r.val + 512) (c.val + 512) (s (ix2 r c)) (l (ix3 0 0 c)) * (e (ix2 r c) - z (ix3 0 0 c)) : EReal) := by
  pointwise [k0_pay125, k0_pay114, k0_pay121, k0_pay113, k0_pay122, k0_pay123]
  exact msk2 r.val c.val 512 512 (by omega) (by omega) _ _ _

theorem pay132_apply (l z : Vec Ideal S1x1x256 .f32) (s e : Vec Ideal S256x256 .f32) (r : Fin 256) (c : Fin 256) :
    k0_pay132 (k0_pay126 z) (k0_pay127 l s) k0_pay128 k0_pay129 e (ix2 r c) = (pe (r.val + 768) (c.val + 768) (s (ix2 r c)) (l (ix3 0 0 c)) * (e (ix2 r c) - z (ix3 0 0 c)) : EReal) := by
  pointwise [k0_pay132, k0_pay126, k0_pay127, k0_pay128, k0_pay129, k0_pay130]
  exact msk2 r.val c.val 768 768 (by omega) (by omega) _ _ _

theorem pay150_apply (l z : Vec Ideal S1x1x512 .f32) (s e : Vec Ideal S256x512 .f32) (r : Fin 256) (c : Fin 512) :
    k0_pay150 l z s e (ix2 r c) = (pe (r.val + 0) (c.val + 1024) (s (ix2 r c)) (l (ix3 0 0 c)) * (e (ix2 r c) - z (ix3 0 0 c)) : EReal) := by
  pointwise [k0_pay150, k0_pay147, k0_pay148, k0_pay146]
  exact msk2 r.val c.val 0 1024 (by omega) (by omega) _ _ _

theorem pay155_apply (l z : Vec Ideal S1x1x512 .f32) (s e : Vec Ideal S256x512 .f32) (r : Fin 256) (c : Fin 512) :
    k0_pay155 (k0_pay147 z) (k0_pay151 l s) k0_pay152 e (ix2 r c) = (pe (r.val + 256) (c.val + 1024) (s (ix2 r c)) (l (ix3 0 0 c)) * (e (ix2 r c) - z (ix3 0 0 c)) : EReal) := by
  pointwise [k0_pay155, k0_pay147, k0_pay151, k0_pay152, k0_pay153, k0_pay146]
  exact msk2 r.val c.val 256 1024 (by omega) (by omega) _ _ _

theorem pay159_apply (l z : Vec Ideal S1x1x512 .f32) (s e : Vec Ideal S256x512 .f32) (r : Fin 256) (c : Fin 512) :
    k0_pay159 (k0_pay158 (k0_pay146 l) (k0_pay147 z) s e) (ix2 r c) = (pe (r.val + 512) (c.val + 1024) (s (ix2 r c)) (l (ix3 0 0 c)) * (e (ix2 r c) - z (ix3 0 0 c)) : EReal) := by
  pointwise [k0_pay159, k0_pay158, k0_pay146, k0_pay147, k0_pay156]
  exact msk2 r.val c.val 512 1024 (by omega) (by omega) _ _ _

theorem pay162_apply (l z : Vec Ideal S1x1x512 .f32) (s e : Vec Ideal S256x512 .f32) (r : Fin 256) (c : Fin 512) :
    k0_pay162 (k0_pay146 l) (k0_pay147 z) s e (ix2 r c) = (pe (r.val + 768) (c.val + 1024) (s (ix2 r c)) (l (ix3 0 0 c)) * (e (ix2 r c) - z (ix3 0 0 c)) : EReal) := by
  pointwise [k0_pay162, k0_pay146, k0_pay147, k0_pay160]
  exact msk2 r.val c.val 768 1024 (by omega) (by omega) _ _ _

theorem pay167_apply (l z : Vec Ideal S1x1x512 .f32) (s e : Vec Ideal S256x512 .f32) (r : Fin 256) (c : Fin 512) :
    k0_pay167 (k0_pay147 z) (k0_pay163 (k0_pay146 l) s) k0_pay164 (FloatOps.ofBits .f32 0#32) e (ix2 r c) = (pe (r.val + 1024) (c.val + 1024) (s (ix2 r c)) (l (ix3 0 0 c)) * (e (ix2 r c) - z (ix3 0 0 c)) : EReal) := by
  pointwise [k0_pay167, k0_pay147, k0_pay163, k0_pay146, k0_pay164, k0_pay165]
  exact msk2 r.val c.val 1024 1024 (by omega) (by omega) _ _ _

theorem pay171_apply (l z : Vec Ideal S1x1x256 .f32) (s e : Vec Ideal S256x256 .f32) (r : Fin 256) (c : Fin 256) :
    k0_pay171 (k0_pay168 z) (k0_pay169 l s) e (ix2 r c) = (pe (r.val + 1280) (c.val + 1280) (s (ix2 r c)) (l (ix3 0 0 c)) * (e (ix2 r c) - z (ix3 0 0 c)) : EReal) := by
  pointwise [k0_pay171, k0_pay168, k0_pay169]
  exact msk2 r.val c.val 1280 1280 (by omega) (by omega) _ _ _

theorem pay187_apply (l z : Vec Ideal S1x1x512 .f32) (s e : Vec Ideal S256x512 .f32) (r : Fin 256) (c : Fin 512) :
    k0_pay187 l z s e (ix2 r c) = (pe (r.val + 0) (c.val + 1536) (s (ix2 r c)) (l (ix3 0 0 c)) * (e (ix2 r c) - z (ix3 0 0 c)) : EReal) := by
  pointwise [k0_pay187, k0_pay184, k0_pay185, k0_pay183]
  exact msk2 r.val c.val 0 1536 (by omega) (by omega) _ _ _

theorem pay190_apply (l z : Vec Ideal S1x1x512 .f32) (s e : Vec Ideal S256x512 .f32) (r : Fin 256) (c : Fin 512) :
    k0_pay190 (k0_pay183 l) (k0_pay184 z) s e (ix2 r c) = (pe (r.val + 256) (c.val + 1536) (s (ix2 r c)) (l (ix3 0 0 c)) * (e (ix2 r c) - z (ix3 0 0 c)) : EReal) := by
  pointwise [k0_pay190, k0_pay183, k0_pay184, k0_pay188]
  exact msk2 r.val c.val 256 1536 (by omega) (by omega) _ _ _

theorem pay194_apply (l z : Vec Ideal S1x1x512 .f32) (s e : Vec Ideal S256x512 .f32) (r : Fin 256) (c : Fin 512) :
    k0_pay194 (k0_pay184 z) (k0_pay191 (k0_pay183 l) s) e (ix2 r c) = (pe (r.val + 512) (c.val + 1536) (s (ix2 r c)) (l (ix3 0 0 c)) * (e (ix2 r c) - z (ix3 0 0 c)) : EReal) := by
  pointwise [k0_pay194, k0_pay184, k0_pay191, k0_pay183]
  exact msk2 r.val c.val 512 1536 (by omega) (by omega) _ _ _

theorem pay197_apply (l z : Vec Ideal S1x1x512 .f32) (s e : Vec Ideal S256x512 .f32) (r : Fin 256) (c : Fin 512) :
    k0_pay197 (k0_pay183 l) (k0_pay184 z) s e (ix2 r c) = (pe (r.val + 768) (c.val + 1536) (s (ix2 r c)) (l (ix3 0 0 c)) * (e (ix2 r c) - z (ix3 0 0 c)) : EReal) := by
  pointwise [k0_pay197, k0_pay183, k0_pay184, k0_pay195]
  exact msk2 r.val c.val 768 1536 (by omega) (by omega) _ _ _

theorem pay201_apply (l z : Vec Ideal S1x1x512 .f32) (s e : Vec Ideal S256x512 .f32) (r : Fin 256) (c : Fin 512) :
    k0_pay201 (k0_pay184 z) (k0_pay198 (k0_pay183 l) s) e (ix2 r c) = (pe (r.val + 1024) (c.val + 1536) (s (ix2 r c)) (l (ix3 0 0 c)) * (e (ix2 r c) - z (ix3 0 0 c)) : EReal) := by
  pointwise [k0_pay201, k0_pay184, k0_pay198, k0_pay183, k0_pay199]
  exact msk2 r.val c.val 1024 1536 (by omega) (by omega) _ _ _

theorem pay204_apply (l z : Vec Ideal S1x1x512 .f32) (s e : Vec Ideal S256x512 .f32) (r : Fin 256) (c : Fin 512) :
    k0_pay204 (k0_pay184 z) (k0_pay202 (k0_pay183 l) s) e (ix2 r c) = (pe (r.val + 1280) (c.val + 1536) (s (ix2 r c)) (l (ix3 0 0 c)) * (e (ix2 r c) - z (ix3 0 0 c)) : EReal) := by
  pointwise [k0_pay204, k0_pay184, k0_pay202, k0_pay183]
  exact msk2 r.val c.val 1280 1536 (by omega) (by omega) _ _ _

theorem pay207_apply (l z : Vec Ideal S1x1x512 .f32) (s e : Vec Ideal S256x512 .f32) (r : Fin 256) (c : Fin 512) :
    k0_pay207 (k0_pay183 l) (k0_pay184 z) s e (ix2 r c) = (pe (r.val + 1536) (c.val + 1536) (s (ix2 r c)) (l (ix3 0 0 c)) * (e (ix2 r c) - z (ix3 0 0 c)) : EReal) := by
  pointwise [k0_pay207, k0_pay183, k0_pay184, k0_pay205]
  exact msk2 r.val c.val 1536 1536 (by omega) (by omega) _ _ _

theorem pay211_apply (l z : Vec Ideal S1x1x256 .f32) (s e : Vec Ideal S256x256 .f32) (r : Fin 256) (c : Fin 256) :
    k0_pay211 (k0_pay208 l) z s e (ix2 r c) = (pe (r.val + 1792) (c.val + 1792) (s (ix2 r c)) (l (ix3 0 0 c)) * (e (ix2 r c) - z (ix3 0 0 c)) : EReal) := by
  pointwise [k0_pay211, k0_pay208, k0_pay209]
  exact msk2 r.val c.val 1792 1792 (by omega) (by omega) _ _ _

theorem pay214_apply (r c : Fin 256) : k0_pay214 (k0_pay213 (F := Ideal)) (ix2 r c) = (0 : EReal) := by
  pointwise [k0_pay214, k0_pay213]
theorem pay78_apply (r : Fin 2048) (d : Fin 128) : k0_pay78 (F := Ideal) (ix3 0 r d) = (0 : EReal) := by
  pointwise [k0_pay78]
theorem pay1_apply (a : Vec Ideal S1x2048x128 .f32) (r : Fin 2048) (d : Fin 128) : k0_pay1 (F := Ideal) a (ix3 0 r d) = (a (ix3 0 r d) * ((Real.log 2 : ℝ) : EReal) : EReal) := by
  pointwise [k0_pay1]
  rfl

theorem pay106_apply (a : Vec Ideal S1x256x128 .f32) (p : Vec Ideal S256x512 .bf16) (b : Vec Ideal S1x512x128 .bf16) (r : Fin 256) (d : Fin 128) :
    k0_pay106 (k0_pay105 a) p b (ix3 0 r d) = a (ix3 0 r d) + ∑ c : Fin 512, p (ix2 r c) * b (ix3 0 c d) := by
  pointwise [k0_pay106, k0_pay105]

theorem pay110_apply (a : Vec Ideal S1x256x128 .f32) (p : Vec Ideal S256x256 .bf16) (b : Vec Ideal S1x256x128 .bf16) (r : Fin 256) (d : Fin 128) :
    k0_pay110 a p b (ix3 0 r d) = a (ix3 0 r d) + ∑ c : Fin 256, p (ix2 r c) * b (ix3 0 c d) := by
  pointwise [k0_pay110]

theorem pay141_apply (a : Vec Ideal S1x768x128 .f32) (p : Vec Ideal S768x512 .bf16) (b : Vec Ideal S1x512x128 .bf16) (r : Fin 768) (d : Fin 128) :
    k0_pay141 (k0_pay140 a p b) (ix3 0 r d) = a (ix3 0 r d) + ∑ c : Fin 512, p (ix2 r c) * b (ix3 0 c d) := by
  pointwise [k0_pay141, k0_pay140]

theorem pay144_apply (a : Vec Ideal S1x256x128 .f32) (p : Vec Ideal S256x256 .bf16) (b : Vec Ideal S1x256x128 .bf16) (r : Fin 256) (d : Fin 128) :
    k0_pay144 a p b (ix3 0 r d) = a (ix3 0 r d) + ∑ c : Fin 256, p (ix2 r c) * b (ix3 0 c d) := by
  pointwise [k0_pay144]

theorem pay177_apply (a : Vec Ideal S1x1280x128 .f32) (p : Vec Ideal S1280x512 .bf16) (b : Vec Ideal S1x512x128 .bf16) (r : Fin 1280) (d : Fin 128) :
    k0_pay177 (k0_pay176 a) p b (ix3 0 r d) = a (ix3 0 r d) + ∑ c : Fin 512, p (ix2 r c) * b (ix3 0 c d) := by
  pointwise [k0_pay177, k0_pay176]

theorem pay181_apply (a : Vec Ideal S1x256x128 .f32) (p : Vec Ideal S256x256 .bf16) (b : Vec Ideal S1x256x128 .bf16) (r : Fin 256) (d : Fin 128) :
    k0_pay181 a p b (ix3 0 r d) = a (ix3 0 r d) + ∑ c : Fin 256, p (ix2 r c) * b (ix3 0 c d) := by
  pointwise [k0_pay181]

theorem pay5_apply (a : Vec Ideal S1x2048x128 .f32) (p : Vec Ideal S2048x512 .bf16) (b : Vec Ideal S1x512x128 .bf16) (r : Fin 2048) (d : Fin 128) :
    k0_pay5 a p b (ix3 0 r d) = a (ix3 0 r d) + ∑ c : Fin 512, p (ix2 r c) * b (ix3 0 c d) := by
  pointwise [k0_pay5]

theorem pay27_apply (a : Vec Ideal S1x2048x128 .f32) (p : Vec Ideal S2048x512 .bf16) (b : Vec Ideal S1x512x128 .bf16) (r : Fin 2048) (d : Fin 128) :
    k0_pay27 (k0_pay26 a) p b (ix3 0 r d) = a (ix3 0 r d) + ∑ c : Fin 512, p (ix2 r c) * b (ix3 0 c d) := by
  pointwise [k0_pay27, k0_pay26]

theorem pay228_apply (a : Vec Ideal S1x2048x128 .f32) (p : Vec Ideal S2048x512 .bf16) (b : Vec Ideal S1x512x128 .bf16) (r : Fin 2048) (d : Fin 128) :
    k0_pay228 a p b (ix3 0 r d) = a (ix3 0 r d) + ∑ c : Fin 512, p (ix2 r c) * b (ix3 0 c d) := by
  pointwise [k0_pay228]

theorem pay11_apply (l z : Vec Ideal S1x1x512 .f32) (s e : Vec Ideal S512x512 .f32) (r c : Fin 512) :
    k0_pay11 l z s e (ix2 r c) = (FloatOps.exp2 (F := Ideal) (φ := .f32) (s (ix2 r c) - l (ix3 0 0 c) : EReal) * (e (ix2 r c) - z (ix3 0 0 c)) : EReal) := by
  pointwise [k0_pay11, k0_pay8, k0_pay9, k0_pay7]

theorem pay15_apply (l z : Vec Ideal S1x1x512 .f32) (s e : Vec Ideal S512x512 .f32) (r c : Fin 512) :
    k0_pay15 (k0_pay7 l) (k0_pay8 z) s e (ix2 r c) = (FloatOps.exp2 (F := Ideal) (φ := .f32) (s (ix2 r c) - l (ix3 0 0 c) : EReal) * (e (ix2 r c) - z (ix3 0 0 c)) : EReal) := by
  pointwise [k0_pay15, k0_pay7, k0_pay8, k0_pay13]

theorem pay18_apply (l z : Vec Ideal S1x1x512 .f32) (s e : Vec Ideal S512x512 .f32) (r c : Fin 512) :
    k0_pay18 (k0_pay7 l) (k0_pay8 z) s e (ix2 r c) = (FloatOps.exp2 (F := Ideal) (φ := .f32) (s (ix2 r c) - l (ix3 0 0 c) : EReal) * (e (ix2 r c) - z (ix3 0 0 c)) : EReal) := by
  pointwise [k0_pay18, k0_pay7, k0_pay8, k0_pay16]

theorem pay21_apply (l z : Vec Ideal S1x1x512 .f32) (s e : Vec Ideal S512x512 .f32) (r c : Fin 512) :
    k0_pay21 (k0_pay7 l) (k0_pay8 z) s e (ix2 r c) = (FloatOps.exp2 (F := Ideal) (φ := .f32) (s (ix2 r c) - l (ix3 0 0 c) : EReal) * (e (ix2 r c) - z (ix3 0 0 c)) : EReal) := by
  pointwise [k0_pay21, k0_pay7, k0_pay8, k0_pay19]

theorem pay33_apply (l z : Vec Ideal S1x1x512 .f32) (s e : Vec Ideal S512x512 .f32) (r c : Fin 512) :
    k0_pay33 (k0_pay29 l) (k0_pay30 z) s e (ix2 r c) = (FloatOps.exp2 (F := Ideal) (φ := .f32) (s (ix2 r c) - l (ix3 0 0 c) : EReal) * (e (ix2 r c) - z (ix3 0 0 c)) : EReal) := by
  pointwise [k0_pay33, k0_pay29, k0_pay30, k0_pay31]

theorem pay36_apply (l z : Vec Ideal S1x1x512 .f32) (s e : Vec Ideal S512x512 .f32) (r c : Fin 512) :
    k0_pay36 (k0_pay29 l) (k0_pay30 z) s e (ix2 r c) = (FloatOps.exp2 (F := Ideal) (φ := .f32) (s (ix2 r c) - l (ix3 0 0 c) : EReal) * (e (ix2 r c) - z (ix3 0 0 c)) : EReal) := by
  pointwise [k0_pay36, k0_pay29, k0_pay30, k0_pay34]

theorem pay216_apply (l z : Vec Ideal S1x1x512 .f32) (s e : Vec Ideal S512x512 .f32) (r c : Fin 512) :
    k0_pay216 (k0_pay30 z) (k0_pay37 (k0_pay29 l) s) e (ix2 r c) = (FloatOps.exp2 (F := Ideal) (φ := .f32) (s (ix2 r c) - l (ix3 0 0 c) : EReal) * (e (ix2 r c) - z (ix3 0 0 c)) : EReal) := by
  pointwise [k0_pay216, k0_pay30, k0_pay37, k0_pay29]

theorem pay219_apply (l z : Vec Ideal S1x1x512 .f32) (s e : Vec Ideal S512x512 .f32) (r c : Fin 512) :
    k0_pay219 (k0_pay29 l) (k0_pay30 z) s e (ix2 r c) = (FloatOps.exp2 (F := Ideal) (φ := .f32) (s (ix2 r c) - l (ix3 0 0 c) : EReal) * (e (ix2 r c) - z (ix3 0 0 c)) : EReal) := by
  pointwise [k0_pay219, k0_pay29, k0_pay30, k0_pay217]

end Cert.Kernel2Ideal.Bwd
-- ==== Proof.VGen.lean ====
module
public import proofs.«01_k».proof.Proof.VTrip
public import proofs.«01_k».proof.Proof.VPay2
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! The sum over the queries of a table's entries times a row, and the table whose sum is the gradient of the keys. -/

section Spec
variable (G : ℕ → ℕ → ℕ → EReal) (X : Vec Ideal S1x8192x128 .bf16) (j : ℕ)

/-- What some of the `u`th tile's queries add. -/
def wP (b n u κ : ℕ) (d : Fin 128) : EReal := ∑ c : Fin n, G u κ (b + c.val) * qAt X (2048 * j + (512 * u + (b + c.val))) d
/-- What the `u`th tile adds. -/
def wT (u κ : ℕ) (d : Fin 128) : EReal := wP G X j 0 512 u κ d

theorem wT_zero (hz : ∀ u κ c, 512 * u + c < κ → G u κ c = 0) (u κ : ℕ) (d : Fin 128) (h : 512 * u + 512 ≤ κ) : wT G X j u κ d = 0 := by
  unfold wT wP
  refine Finset.sum_eq_zero fun c _ => ?_
  rw [hz u κ _ (by omega), zero_mul]
theorem wT_half (hz : ∀ u κ c, 512 * u + c < κ → G u κ c = 0) (u κ : ℕ) (d : Fin 128) (h : 512 * u + 256 ≤ κ) : wT G X j u κ d = wP G X j 256 256 u κ d := by
  unfold wT wP
  rw [show (512 : ℕ) = 256 + 256 from rfl, Fin.sum_univ_add]
  rw [Finset.sum_eq_zero (s := Finset.univ) (f := fun c : Fin 256 => _) fun c _ => ?_, zero_add]
  · refine Finset.sum_congr rfl fun c _ => ?_
    rw [show 0 + (Fin.natAdd 256 c).val = 256 + c.val by show 0 + (256 + c.val) = _; omega]
  · have hc : 0 + (Fin.castAdd 256 c).val = c.val := by show 0 + c.val = _; omega
    rw [hc, hz u κ _ (by omega), zero_mul]

section Pieces
variable {sig : RefSig} {κ : Kind} {sp : Space}
variable {m n a b u : ℕ} {off : Fin 3 → ℕ} {inb inb'}

theorem w_piece {a5 : Memref sig κ sp S1x8192x128 .bf16} (h5 : a5.IsWhole) {Lp : List (View.Piece (Elt Ideal) S2048x512 .bf16)} {D : ℕ → ℕ → Prop}
    (hp : Ok Lp D (G u)) {v : View sig κ sp S2048x512 .bf16} (h1 : off 1 = 2048 * j + 512 * u + b) (h0 : off 2 = 0) (hD : ∀ (r : Fin m) (c : Fin n), D (a + r.val) (b + c.val))
    (w : (⟨3, ![1, m, 128]⟩ : Shape).Idx → EReal) (o : (⟨3, ![1, m, 128]⟩ : Shape).Idx → EReal)
    (hw : ∀ (r : Fin m) (d : Fin 128), w (ix3 0 r d) = o (ix3 0 r d) + ∑ c : Fin n,
      v.readCov Lp (Rect.unit (s := S2048x512) ![a, b] ![m, n] inb).toLoadRect (ix2 r c)
        * View.readAt (Elt Ideal) a5.view (Rect.unit (s := S1x8192x128) off ![1, n, 128] inb').toLoadRect (h5.unread X) (ix3 0 c d)) (r : Fin m) (d : Fin 128) :
    w (ix3 0 r d) = o (ix3 0 r d) + wP G X j b n u (a + r.val) d :=
  (hw r d).trans (congrArg (o (ix3 0 r d) + ·) (Finset.sum_congr rfl fun c _ => congrArg₂ (· * ·) (hp.rd v r c (hD r c))
    (rdQ h5 X _ _ d (by rw [h1]; show 2048 * j + 512 * u + b + c.val = _; omega) (by rw [h0]; show 0 + d.val = _; omega))))

/-- The two stores that add the `u`th tile to the sum. -/
theorem Ok3.wtile (hz : ∀ u κ c, 512 * u + c < κ → G u κ c = 0) {L10 : List (View.Piece (Elt Ideal) S1x2048x128 .f32)} {G' : ℕ → Fin 128 → EReal} (v v' : View sig κ sp S1x2048x128 .f32) (ha : a = 512 * u + 256)
    {inb1 inb2 inb3 inb4} {w1 : (⟨3, ![1, a, 128]⟩ : Shape).Idx → EReal} {w2 : (⟨3, ![1, 256, 128]⟩ : Shape).Idx → EReal} (h : Ok3 L10 G')
    (hw1 : ∀ (r : Fin a) (d : Fin 128), w1 (ix3 0 r d) = v.readCov L10 (Rect.unit (s := S1x2048x128) ![0, 0, 0] ![1, a, 128] inb1).toLoadRect (ix3 0 r d)
      + wP G X j 0 512 u (0 + r.val) d)
    (hw2 : ∀ (r : Fin 256) (d : Fin 128), w2 (ix3 0 r d) = v'.readCov ((⟨Rect.unit (s := S1x2048x128) ![0, 0, 0] ![1, a, 128] inb2, w1⟩ : View.Piece (Elt Ideal) S1x2048x128 .f32) :: L10)
      (Rect.unit (s := S1x2048x128) ![0, a, 0] ![1, 256, 128] inb3).toLoadRect (ix3 0 r d) + wP G X j 256 256 u (a + r.val) d) :
    Ok3 ((⟨Rect.unit (s := S1x2048x128) ![0, a, 0] ![1, 256, 128] inb4, w2⟩ : View.Piece (Elt Ideal) S1x2048x128 .f32) ::
      (⟨Rect.unit (s := S1x2048x128) ![0, 0, 0] ![1, a, 128] inb2, w1⟩ : View.Piece (Elt Ideal) S1x2048x128 .f32) :: L10)
      (fun κ d => G' κ d + wT G X j u κ d) := by
  have h1 := Ok3.add (G' := fun κ d => G' κ d + if κ < a then wT G X j u κ d else 0) (T := wP G X j 0 512 u) v (inb := inb2) h hw1
    (fun κ d _ h1 => by rw [if_pos (by omega)]; rfl) (fun κ d _ h1 => by rw [if_neg (by omega), add_zero])
  refine Ok3.add (T := wP G X j 256 256 u) v' h1 hw2 (fun κ d h2 _ => ?_) (fun κ d _ h2 => ?_)
  · rw [if_neg (by omega), add_zero, wT_half G X j hz u κ d (by omega)]
  · by_cases h3 : κ < a
    · rw [if_pos h3]
    · rw [if_neg h3, wT_zero G X j hz u κ d (by omega)]
end Pieces
end Spec

section Table
variable (Q DO : Vec Ideal S1x8192x128 .bf16) (K W : Vec Ideal S1x2048x128 .bf16) (L D7 : Vec Ideal S1x1x8192 .f32) (j : ℕ)
/-- A weight times what its product with the values exceeds the row's mean by, in the `u`th tile. -/
def GT (u κ c : ℕ) : EReal := PT Q K L j u κ c * (ST DO W j u κ c - lAt D7 (2048 * j + (512 * u + c)))
theorem GT_zero (u κ c : ℕ) (h : 512 * u + c < κ) : GT Q DO K W L D7 j u κ c = 0 := by
  unfold GT; rw [PT_zero Q K L j u κ c h, zero_mul]

variable {sig : RefSig} {κ : Kind} {sp : Space}
variable {m n a b u : ℕ} {off : Fin 3 → ℕ} {inb inb' inb'' inb₂}
theorem ge_piece {a6 : Memref sig κ sp S1x1x8192 .f32} (h6 : a6.IsWhole) {a7 : Memref sig κ sp S1x1x8192 .f32} (h7 : a7.IsWhole) {Ls Le : List (View.Piece (Elt Ideal) S2048x512 .f32)} {D D' : ℕ → ℕ → Prop}
    (hs : Ok Ls D (ST Q K j u)) (he : Ok Le D' (ST DO W j u)) {v v' : View sig κ sp S2048x512 .f32} (h1 : off 2 = 2048 * j + 512 * u + b)
    (hD : ∀ (r : Fin m) (c : Fin n), D (a + r.val) (b + c.val)) (hD' : ∀ (r : Fin m) (c : Fin n), D' (a + r.val) (b + c.val))
    (w : (⟨2, ![m, n]⟩ : Shape).Idx → EReal)
    (hw : ∀ (r : Fin m) (c : Fin n), w (ix2 r c) = (pe (r.val + a) (c.val + (512 * u + b))
      (v.readCov Ls (Rect.unit (s := S2048x512) ![a, b] ![m, n] inb).toLoadRect (ix2 r c))
      (View.readAt (Elt Ideal) a6.view (Rect.unit (s := S1x1x8192) off ![1, 1, n] inb').toLoadRect (h6.unread L) (ix3 0 0 c))
      * (v'.readCov Le (Rect.unit (s := S2048x512) ![a, b] ![m, n] inb₂).toLoadRect (ix2 r c)
        - View.readAt (Elt Ideal) a7.view (Rect.unit (s := S1x1x8192) off ![1, 1, n] inb'').toLoadRect (h7.unread D7) (ix3 0 0 c)) : EReal)) (r : Fin m) (c : Fin n) :
    w (ix2 r c) = GT Q DO K W L D7 j u (a + r.val) (b + c.val) := by
  refine (hw r c).trans ?_
  unfold GT PT pr
  rw [hs.rd v r c (hD r c), he.rd v' r c (hD' r c), rdL h6 L _ (2048 * j + (512 * u + (b + c.val))) (by rw [h1]; show 2048 * j + 512 * u + b + c.val = _; omega),
    rdL h7 D7 _ (2048 * j + (512 * u + (b + c.val))) (by rw [h1]; show 2048 * j + 512 * u + b + c.val = _; omega),
    Nat.add_comm r.val a, show c.val + (512 * u + b) = 512 * u + (b + c.val) by omega]
  rfl

theorem gx_piece (h4 : 4 ≤ u)
    {a6 : Memref sig κ sp S1x1x8192 .f32} (h6 : a6.IsWhole) {a7 : Memref sig κ sp S1x1x8192 .f32} (h7 : a7.IsWhole) (ha : a ≤ 1536)
    (h1 : off 2 = 2048 * j + 512 * u) (w s e : (⟨2, ![512, 512]⟩ : Shape).Idx → EReal)
    (hs : ∀ r c : Fin 512, s (ix2 r c) = sc Q K (a + r.val) (2048 * j + (512 * u + (0 + c.val))))
    (he : ∀ r c : Fin 512, e (ix2 r c) = sc DO W (a + r.val) (2048 * j + (512 * u + (0 + c.val))))
    (hw : ∀ r c : Fin 512, w (ix2 r c) = (FloatOps.exp2 (F := Ideal) (φ := .f32) (s (ix2 r c)
      - View.readAt (Elt Ideal) a6.view (Rect.unit (s := S1x1x8192) off ![1, 1, 512] inb').toLoadRect (h6.unread L) (ix3 0 0 c) : EReal)
      * (e (ix2 r c) - View.readAt (Elt Ideal) a7.view (Rect.unit (s := S1x1x8192) off ![1, 1, 512] inb'').toLoadRect (h7.unread D7) (ix3 0 0 c)) : EReal)) (r c : Fin 512) :
    w (ix2 r c) = GT Q DO K W L D7 j u (a + r.val) (0 + c.val) := by
  unfold GT
  rw [pr_exp2 Q K L j u _ _ (by omega) h4, hw, hs, he, rdL h6 L _ (2048 * j + (512 * u + (0 + c.val))) (by rw [h1]; show 2048 * j + 512 * u + c.val = _; omega),
    rdL h7 D7 _ (2048 * j + (512 * u + (0 + c.val))) (by rw [h1]; show 2048 * j + 512 * u + c.val = _; omega)]
  rfl
end Table
end Cert.Kernel2Ideal.Bwd
-- ==== Proof.VNextK.lean ====
module
public import proofs.«01_k».proof.Proof.VGen
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! What a trip leaves, for the gradient of the keys. -/

variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

theorem next_d13 (k : Fin (k0_t1_loop i).trips) (s : St Ideal) : (nextSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT k s).d13 =
    a13.view.read (Elt Ideal) (a13.view.writes (Elt Ideal) (h13.unread s.d13)
      [⟨Rect.unit (s := S2048x512) ![0, 0] S2048x512.size inb_S2048x512_S2048x512_0_0, k0_pay24 (trip.sl.r_3 c a4 h4 W)
        (View.readAt (Elt Ideal) a5.view (Rect.unit (s := S1x8192x128) (k0_off19 i k) S1x512x128.size (k0_off19_inb i k)).toLoadRect (h5.unread DO))⟩]) := by
  delta nextSt trip; with_reducible rfl

theorem next_d18 (k : Fin (k0_t1_loop i).trips) (s : St Ideal) : (nextSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT k s).d18 =
    a18.view.read (Elt Ideal) (a18.view.writes (Elt Ideal) (h18.unread s.d18)
      [⟨Rect.unit (s := S2048x512) ![1536, 0] ![512, 512] inb_S2048x512_S512x512_1536_0, k0_pay219 (trip.sl.r_5 c i a6 h6 L k) (trip.sl.r_6 c i a7 h7 D7 k) (trip.sl.v1457 c i a2 h2 a3 h3 a12 Q K k) (trip.sl.v1465 c i a4 h4 a5 h5 a14 W DO k)⟩,
        ⟨Rect.unit (s := S2048x512) ![1024, 0] ![512, 512] inb_S2048x512_S512x512_1024_0, k0_pay216 (trip.sl.r_6 c i a7 h7 D7 k) (trip.sl.r_7 c i a2 h2 a3 h3 a6 h6 a12 Q K L k) (trip.sl.v1449 c i a4 h4 a5 h5 a14 W DO k)⟩,
        ⟨Rect.unit (s := S2048x512) ![512, 0] S512x512.size inb_S2048x512_S512x512_512_0, k0_pay36 (trip.sl.r_5 c i a6 h6 L k) (trip.sl.r_6 c i a7 h7 D7 k) (trip.sl.v1425 c i a2 h2 a3 h3 a12 Q K k) (trip.sl.v1433 c i a4 h4 a5 h5 a14 W DO k)⟩,
        ⟨Rect.unit (s := S2048x512) ![0, 0] S512x512.size inb_S2048x512_S512x512_0_0, k0_pay33 (trip.sl.r_5 c i a6 h6 L k) (trip.sl.r_6 c i a7 h7 D7 k) (trip.sl.v1409 c i a2 h2 a3 h3 a12 Q K k) (trip.sl.v1417 c i a4 h4 a5 h5 a14 W DO k)⟩]) := by
  delta nextSt trip; with_reducible rfl

theorem next_d9 (k : Fin (k0_t1_loop i).trips) (s : St Ideal) : (nextSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT k s).d9 =
    a9.view.read (Elt Ideal) (a9.view.writes (Elt Ideal) (h9.unread s.d9)
      (⟨Rect.unit (s := S1x2048x128) ![0, 0, 0] S1x2048x128.size inb_S1x2048x128_S1x2048x128_0_0_0,
      k0_pay27 (trip.sl.r_4 c i a2 h2 a9 h9 a18 h18 Q k s.d9 s.d18) (trip.sl.v1371 c i a6 h6 a7 h7 a11 h11 a13 h13 a17 L D7 k s.d11 s.d13)
        (View.readAt (Elt Ideal) a2.view (Rect.unit (s := S1x8192x128) (k0_off20 i k) S1x512x128.size (k0_off20_inb i k)).toLoadRect (h2.unread Q))⟩ ::
      trip.sl.H9_1 c i a2 h2 a9 h9 a18 h18 Q k s.d9 s.d18)) := by
  delta nextSt trip; with_reducible rfl

end Cert.Kernel2Ideal.Bwd
-- ==== Proof.VTripK.lean ====
module
public import proofs.«01_k».proof.Proof.VGen
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! One trip of a point's loop, on the tables and the sum the gradient of the keys needs. -/

theorem pay12_apply (l z : Vec Ideal S1x1x512 .f32) (s e : Vec Ideal S512x512 .f32) (r c : Fin 512) :
    k0_pay12 (k0_pay11 l z s e) (ix2 r c) = (FloatOps.exp2 (F := Ideal) (φ := .f32) (s (ix2 r c) - l (ix3 0 0 c) : EReal) * (e (ix2 r c) - z (ix3 0 0 c)) : EReal) := by
  pointwise [k0_pay12, k0_pay11, k0_pay8, k0_pay9, k0_pay7]

/-- The tables and the sum before a trip. -/
structure InvK (Q DO : Vec Ideal S1x8192x128 .bf16) (K W : Vec Ideal S1x2048x128 .bf16) (L D7 : Vec Ideal S1x1x8192 .f32) (j v : ℕ) (s : St Ideal) : Prop where
  h11 : ∀ (r : Fin 2048) (c : Fin 512), s.d11 (ix2 r c) = sc Q K r.val (512 * min (4 * j + (v + 1)) 15 + c.val)
  h13 : ∀ (r : Fin 2048) (c : Fin 512), s.d13 (ix2 r c) = sc DO W r.val (512 * min (4 * j + (v + 1)) 15 + c.val)
  h18 : ∀ (r : Fin 2048) (c : Fin 512), s.d18 (ix2 r c) = GT Q DO K W L D7 j v r.val c.val
  h9 : ∀ (r : Fin 2048) (d : Fin 128), s.d9 (ix3 0 r d) = ∑ t ∈ Finset.range v, wT (GT Q DO K W L D7 j) Q j t r.val d

variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

theorem t14_ok (k : Fin (k0_t1_loop i).trips) : Ok (e := .f32) (trip.sl.H14_1 c i a4 h4 a5 h5 W DO k) (fun _ _ => True) (ST DO W (i 1).val (5 + 2 * k.val)) := by
  unfold trip.sl.H14_1
  refine ((Ok.none (e := .f32) [] (ST DO W (i 1).val (5 + 2 * k.val))).add (st_piece (b := 0) DO W (i 1).val h5 h4 (congrFun (off15_eq i k) 1) (congrFun (off15_eq i k) 2) _ (pay3_apply _ _))).mono ?_
  intro κ c _ _ _; beta_reduce; omega

theorem t17_ok (k : Fin (k0_t1_loop i).trips) (d11 d13 : Vec Ideal S2048x512 .f32)
    (hd : ∀ (r : Fin 2048) (c : Fin 512), d11 (ix2 r c) = sc Q K r.val (512 * min (4 * (i 1).val + (4 + 2 * k.val)) 15 + c.val))
    (he : ∀ (r : Fin 2048) (c : Fin 512), d13 (ix2 r c) = sc DO W r.val (512 * min (4 * (i 1).val + (4 + 2 * k.val)) 15 + c.val)) :
    Ok (e := .bf16) (trip.sl.H17_4 c i a6 h6 a7 h7 a11 h11 a13 h13 L D7 k d11 d13) (fun _ _ => True) (GT Q DO K W L D7 (i 1).val (4 + 2 * k.val)) := by
  have hk : k.val < 6 - 2 * (i 1).val := Nat.lt_of_lt_of_eq k.isLt (trips_eq i)
  have f : ∀ (r : Fin 2048) (c : Fin 512), d11 (ix2 r c) = sc Q K r.val (2048 * (i 1).val + (512 * (4 + 2 * k.val) + c.val)) := fun r c =>
    (hd r c).trans (congrArg (sc Q K _) (by omega))
  have g : ∀ (r : Fin 2048) (c : Fin 512), d13 (ix2 r c) = sc DO W r.val (2048 * (i 1).val + (512 * (4 + 2 * k.val) + c.val)) := fun r c =>
    (he r c).trans (congrArg (sc DO W _) (by omega))
  unfold trip.sl.H17_4 trip.sl.r trip.sl.r_1 trip.sl.r_2
  refine ((((((Ok.none (e := .bf16) [] (GT Q DO K W L D7 (i 1).val (4 + 2 * k.val))).add ?_).add ?_).add ?_).add ?_).mono ?_)
  · exact gx_piece Q DO K W L D7 (i 1).val (u := (4 + 2 * k.val)) (by omega) h6 h7 (a := 0) (by omega) (congrFun (off18_eq i k) 2) _ _ _ (fun r c => rd2 h11 d11 r c (fun r c => sc Q K r (2048 * (i 1).val + (512 * (4 + 2 * k.val) + c))) f) (fun r c => rd2 h13 d13 r c (fun r c => sc DO W r (2048 * (i 1).val + (512 * (4 + 2 * k.val) + c))) g) (pay12_apply _ _ _ _)
  · exact gx_piece Q DO K W L D7 (i 1).val (u := (4 + 2 * k.val)) (by omega) h6 h7 (a := 512) (by omega) (congrFun (off18_eq i k) 2) _ _ _ (fun r c => rd2 h11 d11 r c (fun r c => sc Q K r (2048 * (i 1).val + (512 * (4 + 2 * k.val) + c))) f) (fun r c => rd2 h13 d13 r c (fun r c => sc DO W r (2048 * (i 1).val + (512 * (4 + 2 * k.val) + c))) g) (pay15_apply _ _ _ _)
  · exact gx_piece Q DO K W L D7 (i 1).val (u := (4 + 2 * k.val)) (by omega) h6 h7 (a := 1024) (by omega) (congrFun (off18_eq i k) 2) _ _ _ (fun r c => rd2 h11 d11 r c (fun r c => sc Q K r (2048 * (i 1).val + (512 * (4 + 2 * k.val) + c))) f) (fun r c => rd2 h13 d13 r c (fun r c => sc DO W r (2048 * (i 1).val + (512 * (4 + 2 * k.val) + c))) g) (pay18_apply _ _ _ _)
  · exact gx_piece Q DO K W L D7 (i 1).val (u := (4 + 2 * k.val)) (by omega) h6 h7 (a := 1536) (by omega) (congrFun (off18_eq i k) 2) _ _ _ (fun r c => rd2 h11 d11 r c (fun r c => sc Q K r (2048 * (i 1).val + (512 * (4 + 2 * k.val) + c))) f) (fun r c => rd2 h13 d13 r c (fun r c => sc DO W r (2048 * (i 1).val + (512 * (4 + 2 * k.val) + c))) g) (pay21_apply _ _ _ _)
  · intro κ c _ _ _; beta_reduce; omega

end Cert.Kernel2Ideal.Bwd
-- ==== Proof.VS18.lean ====
module
public import proofs.«01_k».proof.Proof.VTripK
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! What a trip leaves in two tables. -/

variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

theorem step13 (k : Fin (k0_t1_loop i).trips) (d : Vec Ideal S2048x512 .f32) (r : Fin 2048) (e : Fin 512) :
    (a13.view.read (Elt Ideal) (a13.view.writes (Elt Ideal) (h13.unread d)
      [⟨Rect.unit (s := S2048x512) ![0, 0] S2048x512.size inb_S2048x512_S2048x512_0_0, k0_pay24 (trip.sl.r_3 c a4 h4 W)
        (View.readAt (Elt Ideal) a5.view (Rect.unit (s := S1x8192x128) (k0_off19 i k) S1x512x128.size (k0_off19_inb i k)).toLoadRect (h5.unread DO))⟩])) (ix2 r e) = sc DO W r.val (512 * min (4 * (i 1).val + (3 + 2 * (k.val + 1) + 1)) 15 + e.val) := by
  rw [View.read_writes_full]
  unfold trip.sl.r_3
  exact (sc_piece (a := 0) (b := 0) DO W h5 h4 (512 * min (4 * (i 1).val + (6 + 2 * k.val)) 15) (congrFun (off19_eq i k) 1) (congrFun (off19_eq i k) 2) _ (pay24_apply _ _) r e).trans
    (congrArg₂ (sc DO W) (by omega) (by rw [show 3 + 2 * (k.val + 1) + 1 = 6 + 2 * k.val by omega, Nat.zero_add]))

theorem step18_ok (k : Fin (k0_t1_loop i).trips) : Ok (e := .bf16) ([⟨Rect.unit (s := S2048x512) ![1536, 0] ![512, 512] inb_S2048x512_S512x512_1536_0, k0_pay219 (trip.sl.r_5 c i a6 h6 L k) (trip.sl.r_6 c i a7 h7 D7 k) (trip.sl.v1457 c i a2 h2 a3 h3 a12 Q K k) (trip.sl.v1465 c i a4 h4 a5 h5 a14 W DO k)⟩,
        ⟨Rect.unit (s := S2048x512) ![1024, 0] ![512, 512] inb_S2048x512_S512x512_1024_0, k0_pay216 (trip.sl.r_6 c i a7 h7 D7 k) (trip.sl.r_7 c i a2 h2 a3 h3 a6 h6 a12 Q K L k) (trip.sl.v1449 c i a4 h4 a5 h5 a14 W DO k)⟩,
        ⟨Rect.unit (s := S2048x512) ![512, 0] S512x512.size inb_S2048x512_S512x512_512_0, k0_pay36 (trip.sl.r_5 c i a6 h6 L k) (trip.sl.r_6 c i a7 h7 D7 k) (trip.sl.v1425 c i a2 h2 a3 h3 a12 Q K k) (trip.sl.v1433 c i a4 h4 a5 h5 a14 W DO k)⟩,
        ⟨Rect.unit (s := S2048x512) ![0, 0] S512x512.size inb_S2048x512_S512x512_0_0, k0_pay33 (trip.sl.r_5 c i a6 h6 L k) (trip.sl.r_6 c i a7 h7 D7 k) (trip.sl.v1409 c i a2 h2 a3 h3 a12 Q K k) (trip.sl.v1417 c i a4 h4 a5 h5 a14 W DO k)⟩] : List (View.Piece (Elt Ideal) S2048x512 .bf16)) (fun _ _ => True) (GT Q DO K W L D7 (i 1).val (5 + 2 * k.val)) := by
  unfold trip.sl.r_7 trip.sl.r_5 trip.sl.r_6 trip.sl.v1457 trip.sl.v1441 trip.sl.v1425 trip.sl.v1409 trip.sl.v1465 trip.sl.v1449 trip.sl.v1433 trip.sl.v1417
  refine ((((((Ok.none (e := .bf16) [] (GT Q DO K W L D7 (i 1).val (5 + 2 * k.val))).add ?_).add ?_).add ?_).add ?_).mono ?_)
  · exact gx_piece Q DO K W L D7 (i 1).val (u := (5 + 2 * k.val)) (by omega) h6 h7 (a := 0) (by omega) (congrFun (off22_eq i k) 2) _ _ _ (fun r e => (t12_ok c i a2 h2 a3 h3 Q K k).rd a12.view r e trivial) (fun r e => (t14_ok c i a4 h4 a5 h5 W DO k).rd a14.view r e trivial) (pay33_apply _ _ _ _)
  · exact gx_piece Q DO K W L D7 (i 1).val (u := (5 + 2 * k.val)) (by omega) h6 h7 (a := 512) (by omega) (congrFun (off22_eq i k) 2) _ _ _ (fun r e => (t12_ok c i a2 h2 a3 h3 Q K k).rd a12.view r e trivial) (fun r e => (t14_ok c i a4 h4 a5 h5 W DO k).rd a14.view r e trivial) (pay36_apply _ _ _ _)
  · exact gx_piece Q DO K W L D7 (i 1).val (u := (5 + 2 * k.val)) (by omega) h6 h7 (a := 1024) (by omega) (congrFun (off22_eq i k) 2) _ _ _ (fun r e => (t12_ok c i a2 h2 a3 h3 Q K k).rd a12.view r e trivial) (fun r e => (t14_ok c i a4 h4 a5 h5 W DO k).rd a14.view r e trivial) (pay216_apply _ _ _ _)
  · exact gx_piece Q DO K W L D7 (i 1).val (u := (5 + 2 * k.val)) (by omega) h6 h7 (a := 1536) (by omega) (congrFun (off22_eq i k) 2) _ _ _ (fun r e => (t12_ok c i a2 h2 a3 h3 Q K k).rd a12.view r e trivial) (fun r e => (t14_ok c i a4 h4 a5 h5 W DO k).rd a14.view r e trivial) (pay219_apply _ _ _ _)
  · intro κ c _ _ _; beta_reduce; omega

theorem step18 (k : Fin (k0_t1_loop i).trips) (d : Vec Ideal S2048x512 .bf16) (r : Fin 2048) (e : Fin 512) :
    (a18.view.read (Elt Ideal) (a18.view.writes (Elt Ideal) (h18.unread d)
      [⟨Rect.unit (s := S2048x512) ![1536, 0] ![512, 512] inb_S2048x512_S512x512_1536_0, k0_pay219 (trip.sl.r_5 c i a6 h6 L k) (trip.sl.r_6 c i a7 h7 D7 k) (trip.sl.v1457 c i a2 h2 a3 h3 a12 Q K k) (trip.sl.v1465 c i a4 h4 a5 h5 a14 W DO k)⟩,
        ⟨Rect.unit (s := S2048x512) ![1024, 0] ![512, 512] inb_S2048x512_S512x512_1024_0, k0_pay216 (trip.sl.r_6 c i a7 h7 D7 k) (trip.sl.r_7 c i a2 h2 a3 h3 a6 h6 a12 Q K L k) (trip.sl.v1449 c i a4 h4 a5 h5 a14 W DO k)⟩,
        ⟨Rect.unit (s := S2048x512) ![512, 0] S512x512.size inb_S2048x512_S512x512_512_0, k0_pay36 (trip.sl.r_5 c i a6 h6 L k) (trip.sl.r_6 c i a7 h7 D7 k) (trip.sl.v1425 c i a2 h2 a3 h3 a12 Q K k) (trip.sl.v1433 c i a4 h4 a5 h5 a14 W DO k)⟩,
        ⟨Rect.unit (s := S2048x512) ![0, 0] S512x512.size inb_S2048x512_S512x512_0_0, k0_pay33 (trip.sl.r_5 c i a6 h6 L k) (trip.sl.r_6 c i a7 h7 D7 k) (trip.sl.v1409 c i a2 h2 a3 h3 a12 Q K k) (trip.sl.v1417 c i a4 h4 a5 h5 a14 W DO k)⟩])) (ix2 r e) = GT Q DO K W L D7 (i 1).val (3 + 2 * (k.val + 1)) r.val e.val := by
  rw [View.read_writes_apply_eq_canon]
  · rw [step18_ok c i a2 h2 a3 h3 a4 h4 a5 h5 a6 h6 a7 h7 a12 a14 Q K W DO L D7 k (ix2 r e) trivial, show 3 + 2 * (k.val + 1) = 5 + 2 * k.val by omega]; rfl
  · have hr := r.isLt
    have hc := e.isLt
    rcases (by omega : r.val < 512 ∨ (512 ≤ r.val ∧ r.val < 1024) ∨ (1024 ≤ r.val ∧ r.val < 1536) ∨ 1536 ≤ r.val) with h0 | h0 | h0 | h0
    · exact ⟨_, .tail _ (.tail _ (.tail _ (.head _))), (mem2 (a := 0) (b := 0) (m := 512) (n := 512) (inb := inb_S2048x512_S512x512_0_0) (ix2 r e)).mpr ⟨by omega, by show r.val < _; omega, by omega, by show e.val < _; omega⟩⟩
    · exact ⟨_, .tail _ (.tail _ (.head _)), (mem2 (a := 512) (b := 0) (m := 512) (n := 512) (inb := inb_S2048x512_S512x512_512_0) (ix2 r e)).mpr ⟨h0.1, h0.2, by omega, by show e.val < _; omega⟩⟩
    · exact ⟨_, .tail _ (.head _), (mem2 (a := 1024) (b := 0) (m := 512) (n := 512) (inb := inb_S2048x512_S512x512_1024_0) (ix2 r e)).mpr ⟨h0.1, h0.2, by omega, by show e.val < _; omega⟩⟩
    · exact ⟨_, .head _, (mem2 (a := 1536) (b := 0) (m := 512) (n := 512) (inb := inb_S2048x512_S512x512_1536_0) (ix2 r e)).mpr ⟨h0, hr, by omega, by show e.val < _; omega⟩⟩
end Cert.Kernel2Ideal.Bwd
-- ==== Proof.VS9.lean ====
module
public import proofs.«01_k».proof.Proof.VTripK
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! What a trip leaves in the sum for the gradient of the keys. -/

variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

theorem step9a (k : Fin (k0_t1_loop i).trips) (d9 : Vec Ideal S1x2048x128 .f32) (d18 : Vec Ideal S2048x512 .bf16)
    (H18 : ∀ (r : Fin 2048) (c : Fin 512), d18 (ix2 r c) = GT Q DO K W L D7 (i 1).val (3 + 2 * k.val) r.val c.val)
    (H9 : ∀ (r : Fin 2048) (d : Fin 128), d9 (ix3 0 r d) = ∑ t ∈ Finset.range (3 + 2 * k.val), wT (GT Q DO K W L D7 (i 1).val) Q (i 1).val t r.val d) (r : Fin 2048) (d : Fin 128) :
    trip.sl.v1369 c i a2 h2 a9 h9 a18 h18 Q k d9 d18 (ix3 0 r d) = ∑ t ∈ Finset.range (3 + 2 * k.val + 1), wT (GT Q DO K W L D7 (i 1).val) Q (i 1).val t r.val d := by
  unfold trip.sl.v1369 trip.sl.H9_1
  rw [View.readCov_full, pay5_apply, Finset.sum_range_succ, rd3 h9 d9, H9]
  refine congrArg _ ?_
  unfold wT wP
  refine Finset.sum_congr rfl fun e _ => congrArg₂ (· * ·) ?_ ?_
  · exact (rd2 h18 d18 r e _ H18).trans (congrArg (fun n => GT Q DO K W L D7 (i 1).val (3 + 2 * k.val) n (0 + e.val)) (Nat.zero_add _))
  · exact rdQ h2 Q _ _ d (by rw [congrFun (off16_eq i k) 1]; show 2048 * (i 1).val + 512 * (3 + 2 * k.val) + e.val = _; omega) (by rw [congrFun (off16_eq i k) 2]; show 0 + d.val = _; omega)

theorem step9 (k : Fin (k0_t1_loop i).trips) (d9 : Vec Ideal S1x2048x128 .f32) (d11 d13 : Vec Ideal S2048x512 .f32) (d18 : Vec Ideal S2048x512 .bf16)
    (H11 : ∀ (r : Fin 2048) (c : Fin 512), d11 (ix2 r c) = sc Q K r.val (512 * min (4 * (i 1).val + (3 + 2 * k.val + 1)) 15 + c.val))
    (H13 : ∀ (r : Fin 2048) (c : Fin 512), d13 (ix2 r c) = sc DO W r.val (512 * min (4 * (i 1).val + (3 + 2 * k.val + 1)) 15 + c.val))
    (H18 : ∀ (r : Fin 2048) (c : Fin 512), d18 (ix2 r c) = GT Q DO K W L D7 (i 1).val (3 + 2 * k.val) r.val c.val)
    (H9 : ∀ (r : Fin 2048) (d : Fin 128), d9 (ix3 0 r d) = ∑ t ∈ Finset.range (3 + 2 * k.val), wT (GT Q DO K W L D7 (i 1).val) Q (i 1).val t r.val d) (r : Fin 2048) (d : Fin 128) :
    (a9.view.read (Elt Ideal) (a9.view.writes (Elt Ideal) (h9.unread d9)
      (⟨Rect.unit (s := S1x2048x128) ![0, 0, 0] S1x2048x128.size inb_S1x2048x128_S1x2048x128_0_0_0,
      k0_pay27 (trip.sl.r_4 c i a2 h2 a9 h9 a18 h18 Q k d9 d18) (trip.sl.v1371 c i a6 h6 a7 h7 a11 h11 a13 h13 a17 L D7 k d11 d13)
        (View.readAt (Elt Ideal) a2.view (Rect.unit (s := S1x8192x128) (k0_off20 i k) S1x512x128.size (k0_off20_inb i k)).toLoadRect (h2.unread Q))⟩ ::
      trip.sl.H9_1 c i a2 h2 a9 h9 a18 h18 Q k d9 d18))) (ix3 0 r d) = ∑ t ∈ Finset.range (3 + 2 * (k.val + 1)), wT (GT Q DO K W L D7 (i 1).val) Q (i 1).val t r.val d := by
  rw [View.read_writes_full]
  unfold trip.sl.v1371 trip.sl.r_4
  have e4 : 3 + 2 * k.val + 1 = 4 + 2 * k.val := by omega
  refine (w_piece (a := 0) (b := 0) (GT Q DO K W L D7 (i 1).val) Q (i 1).val h2 (t17_ok c i a6 h6 a7 h7 a11 h11 a13 h13 Q K W DO L D7 k d11 d13 (fun r c => (H11 r c).trans (by rw [e4])) (fun r c => (H13 r c).trans (by rw [e4])))
    (congrFun (off20_eq i k) 1) (congrFun (off20_eq i k) 2) (fun _ _ => trivial) _
    (trip.sl.v1369 c i a2 h2 a9 h9 a18 h18 Q k d9 d18) (pay27_apply _ _ _) r d).trans ?_
  rw [step9a c i a2 h2 a9 h9 a18 h18 Q K W DO L D7 k d9 d18 H18 H9, show 3 + 2 * (k.val + 1) = 3 + 2 * k.val + 1 + 1 by omega, Finset.sum_range_succ _ (3 + 2 * k.val + 1), Nat.zero_add, e4]
  rfl
end Cert.Kernel2Ideal.Bwd
-- ==== Proof.VStepK.lean ====
module
public import proofs.«01_k».proof.Proof.VNext
public import proofs.«01_k».proof.Proof.VNextK
public import proofs.«01_k».proof.Proof.VS11
public import proofs.«01_k».proof.Proof.VS18
public import proofs.«01_k».proof.Proof.VS9
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! A trip, and the loop, as steps of the tables and the sum for the gradient of the keys. -/

variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

/-- A trip takes the tables two tiles on. -/
theorem InvK.step (k : Fin (k0_t1_loop i).trips) (s : St Ideal) (h : InvK Q DO K W L D7 (i 1).val (3 + 2 * k.val) s) :
    InvK Q DO K W L D7 (i 1).val (3 + 2 * (k.val + 1)) (nextSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT k s) where
  h11 r e := by rw [next_d11]; exact step11 i a2 h2 a3 h3 a11 h11 Q K k s.d11 r e
  h13 r e := by rw [next_d13]; exact step13 c i a4 h4 a5 h5 a13 h13 W DO k s.d13 r e
  h18 r e := by rw [next_d18]; exact step18 c i a2 h2 a3 h3 a4 h4 a5 h5 a6 h6 a7 h7 a12 a14 a18 h18 Q K W DO L D7 k s.d18 r e
  h9 r d := by rw [next_d9]; exact step9 c i a2 h2 a6 h6 a7 h7 a9 h9 a11 h11 a13 h13 a17 a18 h18 Q K W DO L D7 k s.d9 s.d11 s.d13 s.d18 h.h11 h.h13 h.h18 h.h9 r d

/-- Before trip `n`. -/
theorem InvK.loop (s : St Ideal) (h : InvK Q DO K W L D7 (i 1).val 3 s) : ∀ n, n ≤ 6 - 2 * (i 1).val →
    InvK Q DO K W L D7 (i 1).val (3 + 2 * n) (loopSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s n)
  | 0, _ => h
  | n + 1, hn => by
    have ht : n < (k0_t1_loop i).trips := Nat.lt_of_lt_of_eq (by omega) (trips_eq i).symm
    unfold loopSt
    rw [dif_pos ht]
    exact InvK.step c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT ⟨n, ht⟩ _ (InvK.loop s h n (by omega))

end Cert.Kernel2Ideal.Bwd
-- ==== Proof.VPreK.lean ====
module
public import proofs.«01_k».proof.Proof.VGen
@[expose] public section
set_option maxRecDepth 16384
set_option maxHeartbeats 1600000
noncomputable section
namespace Cert.Kernel2Ideal.Bwd
open Cert.Kernel2Ideal Cert.Kernel2Ideal.Gen Idealize.ShloMosaic Idealize.ShloMosaic.TcCoe Idealize.SL.Sem

/-! The tables and the sum of the gradient of the keys before a point's loop. -/

variable (c : Dev nD) (i : grid0.Coords)
  {a2 : Memref sig .tc .vmem S1x8192x128 .bf16} (h2 : a2.IsWhole) {a3 : Memref sig .tc .vmem S1x2048x128 .bf16} (h3 : a3.IsWhole) {a4 : Memref sig .tc .vmem S1x2048x128 .bf16} (h4 : a4.IsWhole)
  {a5 : Memref sig .tc .vmem S1x8192x128 .bf16} (h5 : a5.IsWhole) {a6 : Memref sig .tc .vmem S1x1x8192 .f32} (h6 : a6.IsWhole) {a7 : Memref sig .tc .vmem S1x1x8192 .f32} (h7 : a7.IsWhole)
  (a9 : Memref sig .tc .vmem S1x2048x128 .f32) (a11 a12 a13 a14 : Memref sig .tc .vmem S2048x512 .f32) (a17 a18 : Memref sig .tc .vmem S2048x512 .bf16)
  (Q DO : Vec Ideal S1x8192x128 .bf16) (K W : Vec Ideal S1x2048x128 .bf16) (L D7 : Vec Ideal S1x1x8192 .f32)

theorem e0_ok : Ok (e := .f32) (point_A.sl.H13_2 c i a4 h4 a5 h5 W DO) (ar 0) (ST DO W (i 1).val 0) := by
  unfold point_A.sl.H13_2 point_A.sl.r_2
  refine (((Ok.none (e := .f32) [] (ST DO W (i 1).val 0)).add (st_piece DO W _ h5 h4 (congrFun (off1_eq i) 1) (congrFun (off1_eq i) 2) _ (pay82_apply _ _))).add (st_piece DO W _ h5 h4 (congrFun (off2_eq i) 1) (congrFun (off2_eq i) 2) _ (pay85_apply _ _))).mono ?_
  intro κ c _ _ h; unfold ar at h; beta_reduce; omega

theorem e1_ok : Ok (e := .f32) (point_A.sl.H14_2 c i a4 h4 a5 h5 W DO) (ar 1) (ST DO W (i 1).val 1) := by
  unfold point_A.sl.H14_2 point_A.sl.r_3
  refine (((Ok.none (e := .f32) [] (ST DO W (i 1).val 1)).add (st_piece DO W _ h5 h4 (congrFun (off3_eq i) 1) (congrFun (off3_eq i) 2) _ (pay88_apply _ _))).add (st_piece DO W _ h5 h4 (congrFun (off4_eq i) 1) (congrFun (off4_eq i) 2) _ (pay90_apply _ _))).mono ?_
  intro κ c _ _ h; unfold ar at h; beta_reduce; omega

theorem e2_ok : Ok (e := .f32) (point_A.sl.H13_4 c i a4 h4 a5 h5 W DO) (ar 2) (ST DO W (i 1).val 2) := by
  unfold point_A.sl.H13_4
  refine (((Ok.none (e := .f32) (point_A.sl.H13_2 c i a4 h4 a5 h5 W DO) (ST DO W (i 1).val 2)).add (st_piece DO W _ h5 h4 (congrFun (off7a_eq i 0) 1) (congrFun (off7a_eq i 0) 2) _ (pay101_apply _ _))).add (st_piece DO W _ h5 h4 (congrFun (off8_eq i 0) 1) (congrFun (off8_eq i 0) 2) _ (pay103_apply _ _))).mono ?_
  intro κ c _ _ h; unfold ar at h; beta_reduce; omega

theorem e3_ok : Ok (e := .f32) (point_A.sl.H14_4 c i a4 h4 a5 h5 W DO) (ar 3) (ST DO W (i 1).val 3) := by
  unfold point_A.sl.H14_4 point_A.sl.r_17 point_A.sl.r_16
  refine (((Ok.none (e := .f32) (point_A.sl.H14_2 c i a4 h4 a5 h5 W DO) (ST DO W (i 1).val 3)).add (st_piece DO W _ h5 h4 (congrFun (off7a_eq i 1) 1) (congrFun (off7a_eq i 1) 2) _ (pay135_apply _ _))).add (st_piece DO W _ h5 h4 (congrFun (off8_eq i 1) 1) (congrFun (off8_eq i 1) 2) _ (pay138_apply _ _))).mono ?_
  intro κ c _ _ h; unfold ar at h; beta_reduce; omega

theorem e4_ok : Ok (e := .f32) (point_A.sl.H13_5 c i a4 h4 a5 h5 W DO) (fun _ _ => True) (fun κ c => sc DO W κ (512 * min (4 * (i 1).val + 4) 15 + c)) := by
  unfold point_A.sl.H13_5 point_A.sl.r_26
  refine ((Ok.none (e := .f32) _ (fun κ c => sc DO W κ (512 * min (4 * (i 1).val + 4) 15 + c))).add ?_).mono ?_
  · intro r c
    refine (sc_piece (b := 0) DO W h5 h4 (512 * min (4 * (i 1).val + 4) 15) (congrFun (off7_eq i 2) 1) (congrFun (off7_eq i 2) 2) _ (pay174_apply _ _) r c).trans ?_
    exact congrArg (fun t => sc DO W (0 + r.val) (512 * min (4 * (i 1).val + 4) 15 + t)) rfl
  · intro κ c _ _ _; beta_reduce; omega

theorem g0_ok : Ok (e := .bf16) (point_A.sl.H17_2 c i a2 h2 a3 h3 a4 h4 a5 h5 a6 h6 a7 h7 a11 a13 Q K W DO L D7) (ar 0) (GT Q DO K W L D7 (i 1).val 0) := by
  unfold point_A.sl.H17_2 point_A.sl.r_5 point_A.sl.v164 point_A.sl.v181 point_A.sl.r_4 point_A.sl.v127 point_A.sl.v144
  refine (((Ok.none (e := .bf16) [] (GT Q DO K W L D7 (i 1).val 0)).add (ge_piece Q DO K W L D7 _ h6 h7 (s0_ok c i h2 h3 Q K) (e0_ok c i h4 h5 DO W) (congrFun (off5_eq i) 2) (by intro r c; unfold ar; omega) (by intro r c; unfold ar; omega) _ (pay94_apply _ _ _ _))).add (ge_piece Q DO K W L D7 _ h6 h7 (s0_ok c i h2 h3 Q K) (e0_ok c i h4 h5 DO W) (congrFun (off6_eq i) 2) (by intro r c; unfold ar; omega) (by intro r c; unfold ar; omega) _ (pay98_apply _ _ _ _))).mono ?_
  intro κ c _ _ h; unfold ar at h; beta_reduce; omega

theorem g1_ok : Ok (e := .bf16) (point_A.sl.H18_4 c i a2 h2 a3 h3 a4 h4 a5 h5 a6 h6 a7 h7 a12 a14 Q K W DO L D7) (ar 1) (GT Q DO K W L D7 (i 1).val 1) := by
  unfold point_A.sl.H18_4 point_A.sl.r_14 point_A.sl.r_15 point_A.sl.v426 point_A.sl.v443 point_A.sl.r_11 point_A.sl.r_13 point_A.sl.r_10 point_A.sl.v389 point_A.sl.v396 point_A.sl.v406 point_A.sl.v364 point_A.sl.v381 point_A.sl.r_12 point_A.sl.v339 point_A.sl.v356
  refine (((((Ok.none (e := .bf16) [] (GT Q DO K W L D7 (i 1).val 1)).add (ge_piece Q DO K W L D7 _ h6 h7 (s1_ok c i h2 h3 Q K) (e1_ok c i h4 h5 DO W) (congrFun (off13_eq i 0) 2) (by intro r c; unfold ar; omega) (by intro r c; unfold ar; omega) _ (pay117_apply _ _ _ _))).add (ge_piece Q DO K W L D7 _ h6 h7 (s1_ok c i h2 h3 Q K) (e1_ok c i h4 h5 DO W) (congrFun (off13_eq i 0) 2) (by intro r c; unfold ar; omega) (by intro r c; unfold ar; omega) _ (pay120_apply _ _ _ _))).add (ge_piece Q DO K W L D7 _ h6 h7 (s1_ok c i h2 h3 Q K) (e1_ok c i h4 h5 DO W) (congrFun (off13_eq i 0) 2) (by intro r c; unfold ar; omega) (by intro r c; unfold ar; omega) _ (pay125_apply _ _ _ _))).add (ge_piece Q DO K W L D7 _ h6 h7 (s1_ok c i h2 h3 Q K) (e1_ok c i h4 h5 DO W) (congrFun (off14_eq i 0) 2) (by intro r c; unfold ar; omega) (by intro r c; unfold ar; omega) _ (pay132_apply _ _ _ _))).mono ?_
  intro κ c _ _ h; unfold ar at h; beta_reduce; omega

theorem g2_ok : Ok (e := .bf16) (point_A.sl.H17_8 c i a2 h2 a3 h3 a4 h4 a5 h5 a6 h6 a7 h7 a11 a13 Q K W DO L D7) (ar 2) (GT Q DO K W L D7 (i 1).val 2) := by
  unfold point_A.sl.H17_8 point_A.sl.r_24 point_A.sl.r_25 point_A.sl.v738 point_A.sl.v755 point_A.sl.r_20 point_A.sl.r_23 point_A.sl.r_19 point_A.sl.v701 point_A.sl.cst_476 point_A.sl.v718 point_A.sl.v676 point_A.sl.v693 point_A.sl.r_22 point_A.sl.v651 point_A.sl.v668 point_A.sl.r_21 point_A.sl.v626 point_A.sl.v643 point_A.sl.v601 point_A.sl.v618
  refine (((((((Ok.none (e := .bf16) (point_A.sl.H17_2 c i a2 h2 a3 h3 a4 h4 a5 h5 a6 h6 a7 h7 a11 a13 Q K W DO L D7) (GT Q DO K W L D7 (i 1).val 2)).add (ge_piece Q DO K W L D7 _ h6 h7 (s2_ok c i h2 h3 Q K) (e2_ok c i h4 h5 DO W) (congrFun (off13_eq i 1) 2) (by intro r c; unfold ar; omega) (by intro r c; unfold ar; omega) _ (pay150_apply _ _ _ _))).add (ge_piece Q DO K W L D7 _ h6 h7 (s2_ok c i h2 h3 Q K) (e2_ok c i h4 h5 DO W) (congrFun (off13_eq i 1) 2) (by intro r c; unfold ar; omega) (by intro r c; unfold ar; omega) _ (pay155_apply _ _ _ _))).add (ge_piece Q DO K W L D7 _ h6 h7 (s2_ok c i h2 h3 Q K) (e2_ok c i h4 h5 DO W) (congrFun (off13_eq i 1) 2) (by intro r c; unfold ar; omega) (by intro r c; unfold ar; omega) _ (pay159_apply _ _ _ _))).add (ge_piece Q DO K W L D7 _ h6 h7 (s2_ok c i h2 h3 Q K) (e2_ok c i h4 h5 DO W) (congrFun (off13_eq i 1) 2) (by intro r c; unfold ar; omega) (by intro r c; unfold ar; omega) _ (pay162_apply _ _ _ _))).add (ge_piece Q DO K W L D7 _ h6 h7 (s2_ok c i h2 h3 Q K) (e2_ok c i h4 h5 DO W) (congrFun (off13_eq i 1) 2) (by intro r c; unfold ar; omega) (by intro r c; unfold ar; omega) _ (pay167_apply _ _ _ _))).add (ge_piece Q DO K W L D7 _ h6 h7 (s2_ok c i h2 h3 Q K) (e2_ok c i h4 h5 DO W) (congrFun (off14_eq i 1) 2) (by intro r c; unfold ar; omega) (by intro r c; unfold ar; omega) _ (pay171_apply _ _ _ _))).mono ?_
  intro κ c _ _ h; unfold ar at h; beta_reduce; omega

theorem g3_ok : Ok (e := .bf16) (point_A.sl.H18_13 c i a2 h2 a3 h3 a4 h4 a5 h5 a6 h6 a7 h7 a12 a14 Q K W DO L D7) (fun _ _ => True) (GT Q DO K W L D7 (i 1).val 3) := by
  unfold point_A.sl.H18_13 point_A.sl.r_35 point_A.sl.v1076 point_A.sl.v1093 point_A.sl.r_29 point_A.sl.r_30 point_A.sl.v1039 point_A.sl.v1056 point_A.sl.r_34 point_A.sl.v1014 point_A.sl.v1031 point_A.sl.r_33 point_A.sl.v989 point_A.sl.v1006 point_A.sl.v964 point_A.sl.v981 point_A.sl.r_31 point_A.sl.v939 point_A.sl.v956 point_A.sl.v914 point_A.sl.v931 point_A.sl.v889 point_A.sl.v906
  refine ((((((((((Ok.none (e := .bf16) (point_A.sl.H18_4 c i a2 h2 a3 h3 a4 h4 a5 h5 a6 h6 a7 h7 a12 a14 Q K W DO L D7) (GT Q DO K W L D7 (i 1).val 3)).add (ge_piece Q DO K W L D7 _ h6 h7 (s3_ok c i h2 h3 Q K) (e3_ok c i h4 h5 DO W) (congrFun (off13_eq i 2) 2) (by intro r c; unfold ar; omega) (by intro r c; unfold ar; omega) _ (pay187_apply _ _ _ _))).add (ge_piece Q DO K W L D7 _ h6 h7 (s3_ok c i h2 h3 Q K) (e3_ok c i h4 h5 DO W) (congrFun (off13_eq i 2) 2) (by intro r c; unfold ar; omega) (by intro r c; unfold ar; omega) _ (pay190_apply _ _ _ _))).add (ge_piece Q DO K W L D7 _ h6 h7 (s3_ok c i h2 h3 Q K) (e3_ok c i h4 h5 DO W) (congrFun (off13_eq i 2) 2) (by intro r c; unfold ar; omega) (by intro r c; unfold ar; omega) _ (pay194_apply _ _ _ _))).add (ge_piece Q DO K W L D7 _ h6 h7 (s3_ok c i h2 h3 Q K) (e3_ok c i h4 h5 DO W) (congrFun (off13_eq i 2) 2) (by intro r c; unfold ar; omega) (by intro r c; unfold ar; omega) _ (pay197_apply _ _ _ _))).add (ge_piece Q DO K W L D7 _ h6 h7 (s3_ok c i h2 h3 Q K) (e3_ok c i h4 h5 DO W) (congrFun (off13_eq i 2) 2) (by intro r c; unfold ar; omega) (by intro r c; unfold ar; omega) _ (pay201_apply _ _ _ _))).add (ge_piece Q DO K W L D7 _ h6 h7 (s3_ok c i h2 h3 Q K) (e3_ok c i h4 h5 DO W) (congrFun (off13_eq i 2) 2) (by intro r c; unfold ar; omega) (by intro r c; unfold ar; omega) _ (pay204_apply _ _ _ _))).add (ge_piece Q DO K W L D7 _ h6 h7 (s3_ok c i h2 h3 Q K) (e3_ok c i h4 h5 DO W) (congrFun (off13_eq i 2) 2) (by intro r c; unfold ar; omega) (by intro r c; unfold ar; omega) _ (pay207_apply _ _ _ _))).add (ge_piece Q DO K W L D7 _ h6 h7 (s3_ok c i h2 h3 Q K) (e3_ok c i h4 h5 DO W) (congrFun (off14_eq i 2) 2) (by intro r c; unfold ar; omega) (by intro r c; unfold ar; omega) _ (pay211_apply _ _ _ _))).add (fun r c => (pay214_apply r c).trans (GT_zero Q DO K W L D7 _ _ _ _ (by omega)).symm)).mono ?_
  intro κ c _ _ _; beta_reduce; omega

theorem k0_ok : Ok3 (point_A.sl.H9_1 (F := Ideal)) (fun κ d => ∑ t ∈ Finset.range 0, wT (GT Q DO K W L D7 (i 1).val) Q (i 1).val t κ d) := by
  unfold point_A.sl.H9_1
  intro r d
  refine (congrFun (View.canon_cons_unit_lit (Val := Elt Ideal) (S := S1x2048x128) _ _ [] (by decide)) _).trans ?_
  exact pay78_apply r d

theorem k1_ok : Ok3 (point_A.sl.H9_3 c i a2 h2 a3 h3 a4 h4 a5 h5 a6 h6 a7 h7 a9 a11 a13 a17 Q K W DO L D7) (fun κ d => ∑ t ∈ Finset.range 1, wT (GT Q DO K W L D7 (i 1).val) Q (i 1).val t κ d) := by
  unfold point_A.sl.H9_3 point_A.sl.v298 point_A.sl.H9_2 point_A.sl.r_7 point_A.sl.v256 point_A.sl.v258 point_A.sl.v300
  have e : (fun κ d => ∑ t ∈ Finset.range 1, wT (GT Q DO K W L D7 (i 1).val) Q (i 1).val t κ d) = fun κ d => (∑ t ∈ Finset.range 0, wT (GT Q DO K W L D7 (i 1).val) Q (i 1).val t κ d) + wT (GT Q DO K W L D7 (i 1).val) Q (i 1).val 0 κ d :=
    funext fun κ => funext fun d => Finset.sum_range_succ _ _
  rw [e]
  exact Ok3.wtile (GT Q DO K W L D7 (i 1).val) Q (i 1).val (u := 0) (GT_zero Q DO K W L D7 (i 1).val) a9.view a9.view rfl (k0_ok i Q DO K W L D7)
    (w_piece (GT Q DO K W L D7 (i 1).val) Q _ h2 (g0_ok c i h2 h3 h4 h5 h6 h7 a11 a13 Q DO K W L D7) (congrFun (off9_eq i 0) 1) (congrFun (off9_eq i 0) 2) (by intro r c; unfold ar; omega) _ _ (pay106_apply _ _ _))
    (w_piece (GT Q DO K W L D7 (i 1).val) Q _ h2 (g0_ok c i h2 h3 h4 h5 h6 h7 a11 a13 Q DO K W L D7) (congrFun (off11_eq i 0) 1) (congrFun (off11_eq i 0) 2) (by intro r c; unfold ar; omega) _ _ (pay110_apply _ _ _))

theorem k2_ok : Ok3 (point_A.sl.H9_5 c i a2 h2 a3 h3 a4 h4 a5 h5 a6 h6 a7 h7 a9 a11 a12 a13 a14 a17 a18 Q K W DO L D7) (fun κ d => ∑ t ∈ Finset.range 2, wT (GT Q DO K W L D7 (i 1).val) Q (i 1).val t κ d) := by
  unfold point_A.sl.H9_5 point_A.sl.v point_A.sl.H9_4 point_A.sl.r_18 point_A.sl.v518 point_A.sl.v520 point_A.sl.v562
  have e : (fun κ d => ∑ t ∈ Finset.range 2, wT (GT Q DO K W L D7 (i 1).val) Q (i 1).val t κ d) = fun κ d => (∑ t ∈ Finset.range 1, wT (GT Q DO K W L D7 (i 1).val) Q (i 1).val t κ d) + wT (GT Q DO K W L D7 (i 1).val) Q (i 1).val 1 κ d :=
    funext fun κ => funext fun d => Finset.sum_range_succ _ _
  rw [e]
  exact Ok3.wtile (GT Q DO K W L D7 (i 1).val) Q (i 1).val (u := 1) (GT_zero Q DO K W L D7 (i 1).val) a9.view a9.view rfl (k1_ok c i h2 h3 h4 h5 h6 h7 a9 a11 a13 a17 Q DO K W L D7)
    (w_piece (GT Q DO K W L D7 (i 1).val) Q _ h2 (g1_ok c i h2 h3 h4 h5 h6 h7 a12 a14 Q DO K W L D7) (congrFun (off9_eq i 1) 1) (congrFun (off9_eq i 1) 2) (by intro r c; unfold ar; omega) _ _ (pay141_apply _ _ _))
    (w_piece (GT Q DO K W L D7 (i 1).val) Q _ h2 (g1_ok c i h2 h3 h4 h5 h6 h7 a12 a14 Q DO K W L D7) (congrFun (off11_eq i 1) 1) (congrFun (off11_eq i 1) 2) (by intro r c; unfold ar; omega) _ _ (pay144_apply _ _ _))

theorem k3_ok : Ok3 (point_A.sl.H9_7 c i a2 h2 a3 h3 a4 h4 a5 h5 a6 h6 a7 h7 a9 a11 a12 a13 a14 a17 a18 Q K W DO L D7) (fun κ d => ∑ t ∈ Finset.range 3, wT (GT Q DO K W L D7 (i 1).val) Q (i 1).val t κ d) := by
  unfold point_A.sl.H9_7 point_A.sl.v848 point_A.sl.H9_6 point_A.sl.r_27 point_A.sl.v806 point_A.sl.v808 point_A.sl.v850
  have e : (fun κ d => ∑ t ∈ Finset.range 3, wT (GT Q DO K W L D7 (i 1).val) Q (i 1).val t κ d) = fun κ d => (∑ t ∈ Finset.range 2, wT (GT Q DO K W L D7 (i 1).val) Q (i 1).val t κ d) + wT (GT Q DO K W L D7 (i 1).val) Q (i 1).val 2 κ d :=
    funext fun κ => funext fun d => Finset.sum_range_succ _ _
  rw [e]
  exact Ok3.wtile (GT Q DO K W L D7 (i 1).val) Q (i 1).val (u := 2) (GT_zero Q DO K W L D7 (i 1).val) a9.view a9.view rfl (k2_ok c i h2 h3 h4 h5 h6 h7 a9 a11 a12 a13 a14 a17 a18 Q DO K W L D7)
    (w_piece (GT Q DO K W L D7 (i 1).val) Q _ h2 (g2_ok c i h2 h3 h4 h5 h6 h7 a11 a13 Q DO K W L D7) (congrFun (off9_eq i 2) 1) (congrFun (off9_eq i 2) 2) (by intro r c; unfold ar; omega) _ _ (pay177_apply _ _ _))
    (w_piece (GT Q DO K W L D7 (i 1).val) Q _ h2 (g2_ok c i h2 h3 h4 h5 h6 h7 a11 a13 Q DO K W L D7) (congrFun (off11_eq i 2) 1) (congrFun (off11_eq i 2) 2) (by intro r c; unfold ar; omega) _ _ (pay181_apply _ _ _))

end Cert.Kernel2Ideal.Bwd
-- ==== Proof.VPointK.lean ====
module
public import proofs.«01_k».proof.Proof.VStepK
public import proofs.«01_k».proof.Proof.VPreK
public import proofs.«01_k».proof.Proof.IFrame
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! A point's gradient of the keys. -/

section Point
variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

/-- The sum after a point's loop and its last tile. -/
theorem dk_final (s : St Ideal) (h : InvK Q DO K W L D7 (i 1).val 3 s) (n : ℕ) (hn : n = (k0_t1_loop i).trips) {inb1 inb2 inb3} (r : Fin 2048) (d : Fin 128) :
    k0_pay228 (View.readAt (Elt Ideal) a9.view (Rect.unit (s := S1x2048x128) ![0, 0, 0] ![1, 2048, 128] inb1).toLoadRect (h9.unread (loopSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s n).d9))
      (View.readAt (Elt Ideal) a18.view (Rect.unit (s := S2048x512) ![0, 0] ![2048, 512] inb2).toLoadRect (h18.unread (loopSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s n).d18))
      (View.readAt (Elt Ideal) a2.view (Rect.unit (s := S1x8192x128) ![0, 7680, 0] ![1, 512, 128] inb3).toLoadRect (h2.unread Q)) (ix3 0 r d) = ∑ t ∈ Finset.range (16 - 4 * (i 1).val), wT (GT Q DO K W L D7 (i 1).val) Q (i 1).val t r.val d := by
  have hj : (i 1).val < 4 := (i 1).isLt
  rw [trips_eq] at hn
  have hv := InvK.loop c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s h n (by omega)
  have e : 16 - 4 * (i 1).val = (3 + 2 * n) + 1 := by omega
  rw [pay228_apply, rd3 h9, hv.h9, e, Finset.sum_range_succ]
  refine congrArg _ ?_
  unfold wT wP
  refine Finset.sum_congr rfl fun x _ => congrArg₂ (· * ·) ?_ ?_
  · exact (rd2 h18 _ r x _ hv.h18).trans (congrArg (fun a => GT Q DO K W L D7 (i 1).val (3 + 2 * n) a (0 + x.val)) (Nat.zero_add _))
  · exact rdQ h2 Q _ _ d (by show 7680 + x.val = _; omega) (by show 0 + d.val = _; omega)

/-- The tables before a point's loop. -/
theorem invK_A (s : St Ideal)
    (e9 : s.d9 = a9.view.read (Elt Ideal) (a9.view.writes (Elt Ideal) a9.view.junk (point_A.sl.H9_7 c i a2 h2 a3 h3 a4 h4 a5 h5 a6 h6 a7 h7 a9 a11 a12 a13 a14 a17 a18 Q K W DO L D7)))
    (e11 : s.d11 = a11.view.read (Elt Ideal) (a11.view.writes (Elt Ideal) a11.view.junk (point_A.sl.H11_5 c i a2 h2 a3 h3 Q K)))
    (e13 : s.d13 = a13.view.read (Elt Ideal) (a13.view.writes (Elt Ideal) a13.view.junk (point_A.sl.H13_5 c i a4 h4 a5 h5 W DO)))
    (e18 : s.d18 = a18.view.read (Elt Ideal) (a18.view.writes (Elt Ideal) a18.view.junk (point_A.sl.H18_13 c i a2 h2 a3 h3 a4 h4 a5 h5 a6 h6 a7 h7 a12 a14 Q K W DO L D7))) :
    InvK Q DO K W L D7 (i 1).val 3 s where
  h11 r x := by rw [e11, View.read_writes_junk_eq_canon]; exact s4_ok c i h2 h3 Q K (ix2 r x) trivial
  h13 r x := by rw [e13, View.read_writes_junk_eq_canon]; exact e4_ok c i h4 h5 DO W (ix2 r x) trivial
  h18 r x := by rw [e18, View.read_writes_junk_eq_canon]; exact g3_ok c i h2 h3 h4 h5 h6 h7 a12 a14 Q DO K W L D7 (ix2 r x) trivial
  h9 r d := by rw [e9, View.read_writes_junk_eq_canon]; exact k3_ok c i h2 h3 h4 h5 h6 h7 a9 a11 a12 a13 a14 a17 a18 Q DO K W L D7 r d

/-- What a point that starts a head's block leaves in the gradient of the keys. -/
theorem dk_A (r : Fin 2048) (d : Fin 128) :
    a9.view.read (Elt Ideal) (a9.view.writes (Elt Ideal) a9.view.junk (point_A.sl.H9_2_1 c i a2 h2 a3 h3 a4 h4 a5 h5 a6 h6 a7 h7 a8 h8 a9 h9 a10 h10 a11 h11 a12 h12 a13 h13 a14 h14 a15 h15 a16 h16 a17 h17 a18 h18 a19 h19 Q K W DO L D7)) (ix3 0 r d)
      = ((∑ t ∈ Finset.range (16 - 4 * (i 1).val), wT (GT Q DO K W L D7 (i 1).val) Q (i 1).val t r.val d) * ((Real.log 2 : ℝ) : EReal) : EReal) := by
  delta point_A.sl.H9_2_1 point_A.sl.v1172 point_A.sl.H9_1_1 point_A.sl.v1148 point_A.sl.v1150
  rw [View.read_writes_full, pay1_apply, View.readCov_full]
  refine congrArg (fun a : EReal => a * ((Real.log 2 : ℝ) : EReal)) ?_
  refine dk_final c i a2 h2 a3 h3 a4 h4 a5 h5 a6 h6 a7 h7 a8 h8 a9 h9 a10 h10 a11 h11 a12 h12 a13 h13 a14 h14 a15 h15 a16 h16 a17 h17 a18 h18 a19 h19 _ Q K W DO L D7 _ _ (invK_A c i a2 h2 a3 h3 a4 h4 a5 h5 a6 h6 a7 h7 a9 a11 a12 a13 a14 a17 a18 Q K W DO L D7 _ rfl rfl rfl rfl) _ rfl r d

variable {D8 : Vec Ideal S1x128x8192 .f32}
/-- What a point that adds to a head's block leaves in the gradient of the keys. -/
theorem dk_B (r : Fin 2048) (d : Fin 128) :
    a9.view.read (Elt Ideal) (a9.view.writes (Elt Ideal) a9.view.junk (point_B.sl.H9_2_1 c i a2 h2 a3 h3 a4 h4 a5 h5 a6 h6 a7 h7 a8 h8 a9 h9 a10 h10 a11 h11 a12 h12 a13 h13 a14 h14 a15 h15 a16 h16 a17 h17 a18 h18 a19 h19 Q K W DO L D7 D8)) (ix3 0 r d)
      = ((∑ t ∈ Finset.range (16 - 4 * (i 1).val), wT (GT Q DO K W L D7 (i 1).val) Q (i 1).val t r.val d) * ((Real.log 2 : ℝ) : EReal) : EReal) := by
  delta point_B.sl.H9_2_1 point_B.sl.v1172 point_B.sl.H9_1_1 point_B.sl.v1148 point_B.sl.v1150
  rw [View.read_writes_full, pay1_apply, View.readCov_full]
  refine congrArg (fun a : EReal => a * ((Real.log 2 : ℝ) : EReal)) ?_
  refine dk_final c i a2 h2 a3 h3 a4 h4 a5 h5 a6 h6 a7 h7 a8 h8 a9 h9 a10 h10 a11 h11 a12 h12 a13 h13 a14 h14 a15 h15 a16 h16 a17 h17 a18 h18 a19 h19 _ Q K W DO L D7 _ _ (invK_A c i a2 h2 a3 h3 a4 h4 a5 h5 a6 h6 a7 h7 a9 a11 a12 a13 a14 a17 a18 Q K W DO L D7 _ rfl rfl rfl rfl) _ rfl r d

end Point

variable (m : (ℓ : Loc nD τ sig) → Buf (Elt Ideal) ℓ)
/-- The gradient of the keys among a point's results. -/
theorem outA_dk (c : Dev nD) (t : Fin cfg0.N) (h : t.val % 4 = 0) :
   (outA m c t h).2.1 = (ms0_7 t).view.read (Elt Ideal) ((ms0_7 t).view.writes (Elt Ideal) (ms0_7 t).view.junk (point_A.sl.H9_2_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t))) := by
  delta outA runA point_A
  with_reducible rfl
/-- The gradient of the keys among a point's results. -/
theorem outB_dk (c : Dev nD) (t : Fin cfg0.N) (h : ¬ t.val % 4 = 0) (D8) :
   (outB m c t h D8).2.1 = (ms0_7 t).view.read (Elt Ideal) ((ms0_7 t).view.writes (Elt Ideal) (ms0_7 t).view.junk (point_B.sl.H9_2_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) D8)) := by
  delta outB runB point_B
  with_reducible rfl

/-- What a point leaves in the gradient of the keys. -/
theorem outs_dk (c : Dev nD) (t : Fin cfg0.N) (r : Fin 2048) (d : Fin 128) :
    (outsAt0 m c t.val t.isLt).2.1 (ix3 0 r d)
      = ((∑ u ∈ Finset.range (16 - 4 * (grid0.coords t 1).val), wT (GT (iblk m c 0 t) (iblk m c 3 t) (iblk m c 1 t) (iblk m c 2 t) (iblk m c 4 t) (iblk m c 5 t) (grid0.coords t 1).val) (iblk m c 0 t) (grid0.coords t 1).val u r.val d) * ((Real.log 2 : ℝ) : EReal) : EReal) := by
  by_cases h : t.val % 4 = 0
  · exact (congrFun ((congrArg (·.2.1) (outsAt0_A m c t h)).trans (outA_dk m c t h)) _).trans (dk_A ..)
  · exact (congrFun ((congrArg (·.2.1) (outsAt0_B m c t h)).trans (outB_dk m c t h _)) _).trans (dk_B ..)
end Cert.Kernel2Ideal.Bwd
-- ==== Proof.VBlkK.lean ====
module
public import proofs.«01_k».proof.Proof.VBlk
public import proofs.«01_k».proof.Proof.VPointK
@[expose] public section
set_option maxRecDepth 16384
noncomputable section
namespace Cert.Kernel2Ideal.Bwd
open Cert.Kernel2Ideal Cert.Kernel2Ideal.Gen Idealize.ShloMosaic Idealize.ShloMosaic.TcCoe Idealize.SL.Sem
/-! The gradient of the keys after the run. -/

theorem dk_all (Q DO : Vec Ideal S1x8192x128 .bf16) (K W : Vec Ideal S1x2048x128 .bf16) (L D7 : Vec Ideal S1x1x8192 .f32) (j : ℕ) (hj : j < 4) (r : ℕ) (d : Fin 128) :
    ∑ u ∈ Finset.range (16 - 4 * j), wT (GT Q DO K W L D7 j) Q j u r d
      = ∑ q : Fin 8192, (if q.val < 2048 * j + r then 0 else Ideal.exp2 (sc Q K r q.val - lAt L q.val)) * (sc DO W r q.val - lAt D7 q.val) * qAt Q q.val d := by
  refine sum_all (A := EReal) (fun u => wT (GT Q DO K W L D7 j) Q j u r d) (fun n => pr Q K L j r n * (sc DO W r (2048 * j + n) - lAt D7 (2048 * j + n)) * qAt Q (2048 * j + n) d)
    (fun q => (if q < 2048 * j + r then 0 else Ideal.exp2 (sc Q K r q - lAt L q)) * (sc DO W r q - lAt D7 q) * qAt Q q d) (2048 * j) (16 - 4 * j) 8192 (by omega) (fun u => ?_) (fun n hn => ?_) (fun n => ?_)
  · unfold wT wP GT PT ST
    simp only [Nat.zero_add]
  · beta_reduce
    rw [if_pos (by omega), zero_mul, zero_mul]
  · refine congrArg (fun a : EReal => a * (sc DO W r (2048 * j + n) - lAt D7 (2048 * j + n)) * qAt Q (2048 * j + n) d) ?_
    show (if r ≤ n then Ideal.exp2 (sc Q K r (2048 * j + n) - lAt L (2048 * j + n)) else 0 : EReal) = if 2048 * j + n < 2048 * j + r then (0 : EReal) else Ideal.exp2 (sc Q K r (2048 * j + n) - lAt L (2048 * j + n))
    by_cases hn : r ≤ n
    · rw [if_pos hn, if_neg (by omega)]
    · rw [if_neg hn, if_pos (by omega)]

variable (m : (ℓ : Loc nD τ sig) → Buf (Elt Ideal) ℓ) (c : Dev nD)
theorem idx_k : ∀ t : Fin cfg0.N, win0_2.index t = ![t.val / 4, t.val % 4, 0] ∧ win0_5.index t = ![t.val / 4, 0, 0] ∧ win0_7.index t = ![t.val / 4, t.val % 4, 0] :=
  (by decide +kernel : ∀ t : Fin grid0.N, _)
theorem blk2 (t : Fin cfg0.N) (r : Fin 2048) (d : Fin 128) : iblk m c 2 t (ix3 0 r d) = V m c main_v43 (ix3 (hd t) (key t r) d) := by
  blk_ext [iblk, hd, key, idx_k t]
theorem blk5 (t : Fin cfg0.N) (q : Fin 8192) : iblk m c 5 t (ix3 0 0 q) = V m c main_v32 (ix3 (hd t) 0 q) := by
  blk_ext [iblk, hd, idx_k t]

/-- The values the call finds. -/
def cv (h : Fin 8) (k : Fin 8192) (d : Fin 128) : EReal := V m c main_v43 (ix3 h k d)
/-- The products of the cotangents and the outputs the call finds. -/
def cp (h : Fin 8) (q : Fin 8192) : EReal := V m c main_v32 (ix3 h 0 q)

/-- The gradient of the keys from what the call finds. -/
def dkK (h : Fin 8) (k : Fin 8192) (d : Fin 128) : EReal :=
  (∑ q : Fin 8192, (if q.val < k.val then 0 else Ideal.exp2 ((∑ e : Fin 128, ck m c h k e * cq m c h q e) - cl m c h q))
    * ((∑ e : Fin 128, cv m c h k e * cc m c h q e) - cp m c h q) * cq m c h q d) * ((Real.log 2 : ℝ) : EReal)

theorem outs_dkK (t : Fin cfg0.N) (r : Fin 2048) (d : Fin 128) : (outsAt0 m c t.val t.isLt).2.1 (ix3 0 r d) = dkK m c (hd t) (key t r) d := by
  refine (outs_dk m c t r d).trans (congrArg (fun a : EReal => a * ((Real.log 2 : ℝ) : EReal)) ((dk_all _ _ _ _ _ _ _ (grid0.coords t 1).isLt _ _).trans ?_))
  have ej := (idx_t t).2.2.2.2.2
  refine Finset.sum_congr rfl fun q _ => ?_
  have e0 : ∀ x, (qAt (iblk m c 0 t) q.val x : EReal) = cq m c (hd t) q x := fun x => (qAt_val _ _ _).trans (blk0 m c t q x)
  have e4 : (lAt (iblk m c 4 t) q.val : EReal) = cl m c (hd t) q := (lAt_val _ _).trans (blk4 m c t q)
  have e5 : (lAt (iblk m c 5 t) q.val : EReal) = cp m c (hd t) q := (lAt_val _ _).trans (blk5 m c t q)
  have es : (sc (iblk m c 0 t) (iblk m c 1 t) r.val q.val : EReal) = ∑ e : Fin 128, ck m c (hd t) (key t r) e * cq m c (hd t) q e :=
    Finset.sum_congr rfl fun x _ => congrArg₂ (fun a b : EReal => a * b) ((kAt_val _ _ _).trans (blk1 m c t r x)) (e0 x)
  have ev : (sc (iblk m c 3 t) (iblk m c 2 t) r.val q.val : EReal) = ∑ e : Fin 128, cv m c (hd t) (key t r) e * cc m c (hd t) q e :=
    Finset.sum_congr rfl fun x _ => congrArg₂ (fun a b : EReal => a * b) ((kAt_val _ _ _).trans (blk2 m c t r x)) ((qAt_val _ _ _).trans (blk3 m c t q x))
  refine congrArg₂ (fun a b : EReal => a * b) ?_ (e0 d)
  rw [e4, e5, es, ev, ej]
  refine congrArg (fun a : EReal => a * _) (if_congr ?_ rfl rfl)
  show _ ↔ q.val < t.val % 4 * 2048 + r.val
  omega

theorem final7 : (dats m 0 c).arrAt 7 cfg0.N = fun y => dkK m c (y 0) (y 1) (y 2) := by
  refine (dats m 0 c).arrAt_eq_of_covers 7 _ (by decide +kernel) fun t hf y => ?_
  have e0 : ((cfg0.win 7).blk t).view.emb y 0 = hd t := Fin.ext (by blk_simp [idx_k t]; try rfl)
  have e1 : ((cfg0.win 7).blk t).view.emb y 1 = key t (y 1) := Fin.ext (by blk_simp [idx_k t]; try rfl)
  have e2 : ((cfg0.win 7).blk t).view.emb y 2 = y 2 := Fin.ext (by blk_simp [idx_k t])
  beta_reduce
  rw [e0, e1, e2]
  blk_simp [idx_k t]
  rw [after0_7]
  exact (congrArg (outsAt0 m c t.val t.isLt).2.1 (show y = ix3 0 (y 1) (y 2) from funext fun a => match a with | ⟨0, _⟩ => Subsingleton.elim (α := Fin 1) _ _ | ⟨1, _⟩ => rfl | ⟨2, _⟩ => rfl)).trans (outs_dkK m c t (y 1) (y 2))
end Cert.Kernel2Ideal.Bwd
-- ==== Proof.VHostK.lean ====
module
public import proofs.«01_k».proof.Proof.VRef
@[expose] public section
set_option maxRecDepth 16384
noncomputable section
namespace Cert.Kernel2Ideal.Bwd
open Cert.Kernel2Ideal Cert.Kernel2Ideal.Gen Idealize.ShloMosaic Idealize.ShloMosaic.TcCoe Idealize.SL.Sem
/-! What the host makes of the values and of the cotangents. -/
variable (m : (ℓ : Loc nD τ sig) → Buf (Elt Ideal) ℓ) (c : Dev nD)

/-- The argument `v`. -/
abbrev av : Vec Ideal S8192x8x64 .f32 := m (c, Proc.tc.devRef main_arg2)

theorem h_v43 (h : Fin 8) (k : Fin 8192) (d : Fin 128) : V m c main_v43 (ix3 h k d) = (if hd : 64 ≤ d.val then av m c (ix3 k h ⟨d.val - 64, by omega⟩) else 0 : EReal) := by
  simp only [V, List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  entry_read
  try simp only [StableHlo.TRef.toBuf, StableHlo.TRef.ofBuf, cast_eq]
  pointwise
  rw [sitofp_zero]
  have hp : (64 ≤ d.val ∧ d.val - 64 < 64) = (64 ≤ d.val) := propext ⟨And.left, fun h => ⟨h, by omega⟩⟩
  simp only [hp]

/-- The products of the cotangents and of the outputs, from the outputs. -/
def outS (x : FVec Ideal S8192x8x64 .f32) (o : FVec Ideal S8x64x8192 .f32) : FVec Ideal S8x1x8192 .f32 :=
  shapeCast S8x1x8192 (transpose S8x8192 [1, 0] (Host.reduceAdd (mulf x (transpose S8192x8x64 [2, 0, 1] o transposes_S8x64x8192_S8192x8x64_2_0_1))
    (constant S_ .f32 0x00000000#32) reducesTo_S8192x8x64_S8192x8_d2 h_S_) transposes_S8192x8_S8x8192_1_0) shapeCasts_S8x8192_S8x1x8192
theorem outS_apply (x : FVec Ideal S8192x8x64 .f32) (o : FVec Ideal S8x64x8192 .f32) (h : Fin 8) (q : Fin 8192) :
    outS x o (ix3 h 0 q) = (∑ e : Fin 64, x (ix3 q h e) * o (ix3 h e q) : EReal) := by
  pointwise [outS]
  try rfl
/-- The weights from the scores and the largest of each query. -/
def weS (S : FVec Ideal S8x8192x8192 .f32) (M : FVec Ideal S8x8192 .f32) : FVec Ideal S8x8192x8192 .f32 :=
  Host.divf (Host.exp (subf S (broadcastInDim S8x8192x8192 ![0, 1, 2] bcast_S8x8192x1_S8x8192x8192_0_1_2 (broadcastInDim S8x8192x1 ![0, 1] bcast_S8x8192_S8x8192x1_0_1 M))))
    (broadcastInDim S8x8192x8192 ![0, 1, 2] bcast_S8x8192x1_S8x8192x8192_0_1_2 (broadcastInDim S8x8192x1 ![0, 1] bcast_S8x8192_S8x8192x1_0_1
      (Host.reduceAdd (Host.exp (subf S (broadcastInDim S8x8192x8192 ![0, 1, 2] bcast_S8x8192x1_S8x8192x8192_0_1_2 (broadcastInDim S8x8192x1 ![0, 1] bcast_S8x8192_S8x8192x1_0_1 M))))
        (constant S_ .f32 0x00000000#32) reducesTo_S8x8192x8192_S8x8192_d2 h_S_)))
theorem weS_apply (S : FVec Ideal S8x8192x8192 .f32) (M : FVec Ideal S8x8192 .f32) (h : Fin 8) (q k : Fin 8192) :
    weS S M (ix3 h q k) = Ideal.div (Ideal.exp (S (ix3 h q k) - M (ix2 h q))) (∑ l : Fin 8192, Ideal.exp (S (ix3 h q l) - M (ix2 h q))) := by
  pointwise [weS]
  try rfl
open Cert.Reference2Ideal.Bwd (scS v36_eq i3)
theorem weS_eq (x0 x1 : FVec Ideal S8192x8x96 .f32) : weS (scS x0 x1) (mxS (scS x0 x1)) = Cert.Reference2Ideal.Read.val_main_v36 (F := Ideal) x0 x1 :=
  funext fun i => by
    obtain ⟨x, y, z, rfl⟩ : ∃ x y z, i = ix3 x y z := ⟨i 0, i 1, i 2, i3 i _ _ _ rfl rfl rfl⟩
    rw [weS_apply, v36_eq]
/-- The outputs from the values and the weights. -/
def outO (v : FVec Ideal S8192x8x64 .f32) (w : FVec Ideal S8x8192x8192 .f32) : FVec Ideal S8x64x8192 .f32 :=
  Host.dotGeneral dot_S8192x8x64_S8x8192x8192_S8x64x8192_0_2_2_1_1_0 none v w
theorem v32_val : (V m c main_v32 : Vec Ideal S8x1x8192 .f32) = outS (ac m c) (outO (av m c) (weS (scS (aq m c) (ak m c)) (mxS (scS (aq m c) (ak m c))))) := by
  simp only [V, List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  entry_read
  try simp only [StableHlo.TRef.toBuf, StableHlo.TRef.ofBuf, cast_eq]
  rfl
theorem h_v32 (h : Fin 8) (q : Fin 8192) : V m c main_v32 (ix3 h 0 q)
    = (∑ e : Fin 64, ac m c (ix3 q h e) * ∑ k : Fin 8192, av m c (ix3 k h e) * Cert.Reference2Ideal.Read.val_main_v36 (F := Ideal) (aq m c) (ak m c) (ix3 h q k) : EReal) := by
  refine (congrFun (v32_val m c) (ix3 h 0 q)).trans ((outS_apply _ _ h q).trans (Finset.sum_congr rfl fun e _ => congrArg (fun a : EReal => ac m c (ix3 q h e) * a) ?_))
  rw [weS_eq]
  refine (Cert.Reference2Ideal.Read.val_main_v40_apply (aq m c) (ak m c) (av m c) (ix3 h e q)).trans (Finset.sum_congr rfl fun k _ => ?_)
  exact congrArg₂ (fun a b : EReal => a * b) (congrArg (av m c) (i3 _ k h e rfl rfl rfl)) (congrArg (Cert.Reference2Ideal.Read.val_main_v36 (F := Ideal) (aq m c) (ak m c)) (i3 _ h q k rfl rfl rfl))
end Cert.Kernel2Ideal.Bwd
-- ==== Proof.VRefK.lean ====
module
public import proofs.«01_k».proof.Proof.VRef
@[expose] public section
set_option maxRecDepth 16384
noncomputable section
namespace Cert.Reference2Ideal.Bwd
open Cert.Reference2Ideal Cert.Reference2Ideal.Gen Cert.Reference2Ideal.Read Idealize.ShloMosaic Idealize.ShloMosaic.TcCoe Idealize.SL.Sem
open Cert.Kernel2Ideal.Bwd (mxS sitofp_zero)
/-! The reference's gradient of the keys at an index. -/
variable (x0 x1 : FVec Ideal S8192x8x96 .f32) (x2 x3 : FVec Ideal S8192x8x64 .f32)

/-- The exponential of a score less the largest. -/
def ex (h : Fin 8) (q k : Fin 8192) : EReal := Ideal.exp (scS x0 x1 (ix3 h q k) - mxS (scS x0 x1) (ix2 h q))
/-- The sum of a query's exponentials. -/
def tot (h : Fin 8) (q : Fin 8192) : EReal := ∑ l : Fin 8192, ex x0 x1 h q l
/-- The gradient of a weight. -/
def gw (h : Fin 8) (q k : Fin 8192) : EReal := ∑ e : Fin 64, x3 (ix3 q h e) * x2 (ix3 k h e)

theorem ofBits_zero : Ideal.ofBits FTy.f32 0x00000000#32 = (0 : EReal) := by simp [Ideal.ofBits, Ideal.ieee]
theorem ofBits_one : Ideal.ofBits FTy.f32 0x3F800000#32 = (1 : EReal) := by
  simp [Ideal.ofBits, Ideal.ieee, -EReal.coe_mul]; norm_num
theorem v34_eq (h : Fin 8) (q : Fin 8192) : val_main_v34 (F := Ideal) x0 x1 (ix3 h q 0) = tot x0 x1 h q := by
  rw [val_main_v34_apply, val_main_v33_apply]
  have e : (val_main_cst_9 (F := Ideal)) (Shape.Idx.first h_S_) = (0 : EReal) := ofBits_zero
  rw [e, zero_add]
  exact Finset.sum_congr rfl fun l _ => (congrArg (val_main_v32 (F := Ideal) x0 x1) (i3 _ h q l rfl rfl rfl)).trans (v32_eq x0 x1 h q l)
theorem v43_eq (h : Fin 8) (q k : Fin 8192) : val_main_v43 (F := Ideal) x2 x3 (ix3 h q k) = gw x2 x3 h q k := by
  rw [val_main_v43_apply]
  refine Finset.sum_congr rfl fun e _ => ?_
  rw [val_main_v42_apply]
  exact congrArg₂ (fun a b : EReal => a * b) (congrArg x3 (i3 _ q h e rfl rfl rfl)) (congrArg x2 (i3 _ k h e rfl rfl rfl))
theorem v48_eq (h : Fin 8) (q k : Fin 8192) : val_main_v48 (F := Ideal) x0 x1 x2 x3 (ix3 h q k)
    = gw x2 x3 h q k * Ideal.div 1 (tot x0 x1 h q * tot x0 x1 h q) * ex x0 x1 h q k := by
  rw [val_main_v48_apply, val_main_v47_apply, v43_eq, v32_eq, val_main_v46_apply, val_main_v39_apply, val_main_v38_apply, val_main_cst_10_apply, val_main_v37_apply]
  have e : val_main_v34 (F := Ideal) x0 x1 (idx_main_v46 (ix3 h q k)) = tot x0 x1 h q := (congrArg (val_main_v34 (F := Ideal) x0 x1) (i3 _ h q 0 rfl rfl rfl)).trans (v34_eq x0 x1 h q)
  rw [e]
  show gw x2 x3 h q k * Ideal.div (Ideal.ofBits FTy.f32 0x3F800000#32) _ * _ = _
  rw [ofBits_one]
  rfl
theorem v54_eq (h : Fin 8) (q : Fin 8192) : val_main_v54 (F := Ideal) x0 x1 x2 x3 (ix2 h q)
    = -∑ k : Fin 8192, gw x2 x3 h q k * Ideal.div 1 (tot x0 x1 h q * tot x0 x1 h q) * ex x0 x1 h q k := by
  rw [val_main_v54_apply]
  have e : (val_main_cst_12 (F := Ideal)) (Shape.Idx.first h_S_) = (0 : EReal) := ofBits_zero
  have e' : (val_main_cst_11 (F := Ideal)) (Shape.Idx.first h_S_) = (0 : EReal) := ofBits_zero
  rw [e, zero_add]
  refine (Fin.sum_univ_one _).trans ?_
  rw [val_main_v51_apply, val_main_v50_apply, val_main_v49_apply, e']
  refine congrArg (fun a : EReal => -a) ((zero_add _).trans (Finset.sum_congr rfl fun k _ => ?_))
  exact (congrArg (val_main_v48 (F := Ideal) x0 x1 x2 x3) (i3 _ h q k (by show ((h.val * 8192 + q.val) * 1 + 0) / 8192 = h.val; omega) (by show ((h.val * 8192 + q.val) * 1 + 0) % 8192 = q.val; omega) rfl)).trans (v48_eq x0 x1 x2 x3 h q k)
theorem v58_eq (h : Fin 8) (q k : Fin 8192) : val_main_v58 (F := Ideal) x0 x1 x2 x3 (ix3 h q k)
    = (if q.val < k.val then 0 else (Ideal.div (gw x2 x3 h q k) (tot x0 x1 h q)
      + -∑ j : Fin 8192, gw x2 x3 h q j * Ideal.div 1 (tot x0 x1 h q * tot x0 x1 h q) * ex x0 x1 h q j) * ex x0 x1 h q k : EReal) := by
  rw [val_main_v58_apply, val_main_v11_1_apply, val_main_v10_apply, val_main_v9_apply, val_main_v7_apply, val_main_v5_apply, val_main_v4_apply, val_main_v8_apply, val_main_v6_apply, val_main_v4_apply,
    val_main_call1_v0_apply, val_main_call1_cst_apply, val_main_v57_apply, val_main_v56_apply, val_main_v53_apply, val_main_v55_apply, val_main_v52_apply, v43_eq, v32_eq]
  refine (mask_eq q k _ _).trans ?_
  refine if_congr Iff.rfl ofBits_zero ?_
  have e : val_main_v34 (F := Ideal) x0 x1 (idx_main_v52 (ix3 h q k)) = tot x0 x1 h q := (congrArg (val_main_v34 (F := Ideal) x0 x1) (i3 _ h q 0 rfl rfl rfl)).trans (v34_eq x0 x1 h q)
  have e' : idx_main_v55 (ix3 h q k) = ix2 h q := funext fun a => match a with | ⟨0, _⟩ => rfl | ⟨1, _⟩ => rfl
  rw [e, e', v54_eq]
  rfl
/-- The gradient of a score. -/
abbrev gs : FVec Ideal S8x8192x8192 .f32 := val_main_v58 (F := Ideal) x0 x1 x2 x3
theorem v59_eq (h : Fin 8) (k : Fin 8192) (d : Fin 96) : val_main_v59 (F := Ideal) x0 x1 x2 x3 (ix3 h k d)
    = ∑ q : Fin 8192, gs x0 x1 x2 x3 (ix3 h q k) * Ideal.div (x0 (ix3 q h d)) (Ideal.sqrt (Ideal.ofBits .f32 0x42C00000#32)) := by
  rw [val_main_v59_apply]
  refine Finset.sum_congr rfl fun q _ => ?_
  rw [val_main_v2_apply, val_main_v1_apply, val_main_v0_apply, val_main_cst_apply]
  exact congrArg₂ (fun a b : EReal => a * Ideal.div b (Ideal.sqrt (Ideal.ofBits .f32 0x42C00000#32))) (congrArg (gs x0 x1 x2 x3) (i3 _ h q k rfl rfl rfl)) (congrArg x0 (i3 _ q h d rfl rfl rfl))
theorem v66_eq (h : Fin 8) (k : Fin 8192) (d : Fin 128) : val_main_v66 (F := Ideal) x0 x1 x2 x3 (ix3 h k d) = (if hd : d.val < 96 then val_main_v59 (F := Ideal) x0 x1 x2 x3 (ix3 h k ⟨d.val, hd⟩) else 0 : EReal) := by
  unfold val_main_v66 val_main_v65 val_main_v60 val_main_call3_v0 val_main_c_13
  generalize val_main_v59 (F := Ideal) x0 x1 x2 x3 = y
  pointwise
  rw [sitofp_zero]
end Cert.Reference2Ideal.Bwd
-- ==== Proof.VAlgK.lean ====
module
public import proofs.«01_k».proof.Proof.VAlg
@[expose] public section
noncomputable section
namespace Cert.Tail
open Idealize.ShloMosaic

/-! The gradient of a softmax's scores. -/

/-- The exponentials of one query are real numbers and their sum is not 0. -/
theorem soft_real {n : ℕ} (q : Fin n) (s : Fin n → ℝ) (S : Fin n → EReal) (hS : ∀ k, S k = if q.val < k.val then ⊥ else (s k : EReal))
    (M : EReal) (hM : ∀ k, S k ≤ M) (ht : M < ⊤) : ∃ (E : Fin n → ℝ) (T : ℝ), T ≠ 0 ∧ (∀ j, Ideal.exp (S j - M) = (E j : EReal)) ∧ ∑ j, Ideal.exp (S j - M) = (T : EReal)
      ∧ ∀ j, q.val < j.val → E j = 0 := by
  obtain ⟨μ, rfl⟩ : ∃ μ : ℝ, M = (μ : EReal) := by
    have hq := hM q
    rw [hS q, if_neg (lt_irrefl _)] at hq
    induction M using EReal.rec with
    | bot => exact absurd (le_bot_iff.1 hq) (EReal.coe_ne_bot _)
    | coe r => exact ⟨r, rfl⟩
    | top => exact absurd ht (lt_irrefl _)
  have hw : ∀ j, Ideal.exp (S j - (μ : EReal)) = (((if q.val < j.val then 0 else Real.exp (s j - μ)) : ℝ) : EReal) := fun j => by
    rw [hS j]
    split_ifs
    · rw [EReal.bot_sub]; rfl
    · rw [← EReal.coe_sub]; rfl
  refine ⟨fun j => if q.val < j.val then 0 else Real.exp (s j - μ), ∑ j, if q.val < j.val then 0 else Real.exp (s j - μ), ?_, hw, ?_, fun j hj => if_pos hj⟩
  · refine (Finset.sum_pos' (fun j _ => ?_) ⟨q, Finset.mem_univ _, ?_⟩).ne'
    · split_ifs
      exacts [le_refl _, (Real.exp_pos _).le]
    · rw [if_neg (lt_irrefl _)]; exact Real.exp_pos _
  · rw [coe_sum]; exact Finset.sum_congr rfl fun j _ => hw j

/-- A sum of products whose first terms are 0. -/
theorem sum_64 (f : Fin 64 → EReal) : ∑ e : Fin 128, (if h : 64 ≤ e.val then f ⟨e.val - 64, by omega⟩ else 0) = ∑ e : Fin 64, f e := by
  refine (Fin.sum_univ_add (a := 64) (b := 64) _).trans ?_
  rw [Finset.sum_eq_zero (s := (Finset.univ : Finset (Fin 64))) fun n _ => dif_neg (by show ¬64 ≤ n.val; omega), zero_add]
  exact Finset.sum_congr rfl fun e _ => (dif_pos (by show 64 ≤ 64 + e.val; omega)).trans (congrArg f (Fin.ext (by show 64 + e.val - 64 = e.val; omega)))

/-- The gradient of a score: the weight times what the weight's gradient has over the mean, or the rule of the quotient. -/
theorem grad_eq {n : ℕ} (k : Fin n) (E : Fin n → ℝ) (T : ℝ) (hT : T ≠ 0) (p : Prop) [Decidable p] (hp : p → E k = 0) (x : Fin 64 → EReal) (v : Fin n → Fin 64 → EReal) (hx : ∀ e, Fnt (x e)) (hv : ∀ j e, Fnt (v j e)) : ∃ r : ℝ,
    Ideal.div (E k : EReal) (T : EReal) * ((∑ e, v k e * x e) - ∑ e, x e * ∑ j, v j e * Ideal.div (E j : EReal) (T : EReal)) = (r : EReal) ∧
    (if p then (0 : EReal) else (Ideal.div (∑ e, x e * v k e) (T : EReal) + -∑ j, (∑ e, x e * v j e) * Ideal.div 1 ((T : EReal) * (T : EReal)) * (E j : EReal)) * (E k : EReal)) = (r : EReal) := by
  choose x' hx using hx
  choose v' hv using hv
  obtain rfl : x = fun e => (x' e : EReal) := funext hx
  obtain rfl : v = fun j e => (v' j e : EReal) := funext fun j => funext (hv j)
  have hg : ∀ j, (∑ e, (x' e : EReal) * (v' j e : EReal)) = ((∑ e, x' e * v' j e : ℝ) : EReal) := fun j => by
    rw [coe_sum]; exact Finset.sum_congr rfl fun e _ => (EReal.coe_mul _ _).symm
  have hg' : (∑ e, (v' k e : EReal) * (x' e : EReal)) = ((∑ e, x' e * v' k e : ℝ) : EReal) := (Finset.sum_congr rfl fun e _ => mul_comm _ _).trans (hg k)
  have hd : (∑ e, (x' e : EReal) * ∑ j, (v' j e : EReal) * Ideal.div (E j : EReal) (T : EReal)) = ((∑ e, x' e * ∑ j, v' j e * (E j * (1 / T)) : ℝ) : EReal) := by
    rw [coe_sum]
    refine Finset.sum_congr rfl fun e _ => ?_
    rw [EReal.coe_mul, coe_sum]
    exact congrArg _ (Finset.sum_congr rfl fun j _ => by rw [Ideal.div_coe hT, ← EReal.coe_mul, ← EReal.coe_mul])
  have hs : (∑ j, (∑ e, (x' e : EReal) * (v' j e : EReal)) * Ideal.div 1 ((T : EReal) * (T : EReal)) * (E j : EReal)) = ((∑ j, (∑ e, x' e * v' j e) * (1 * (1 / (T * T))) * E j : ℝ) : EReal) := by
    rw [coe_sum]
    refine Finset.sum_congr rfl fun j _ => ?_
    rw [hg j, ← EReal.coe_mul T T, ← EReal.coe_one, Ideal.div_coe (mul_ne_zero hT hT), ← EReal.coe_mul, ← EReal.coe_mul, ← EReal.coe_mul]
  have he : ∑ j, (∑ e, x' e * v' j e) * (1 * (1 / (T * T))) * E j = (∑ e, x' e * ∑ j, v' j e * (E j * (1 / T))) * (1 / T) := by
    simp only [Finset.sum_mul, Finset.mul_sum]
    rw [Finset.sum_comm]
    exact Finset.sum_congr rfl fun e _ => Finset.sum_congr rfl fun j _ => by field_simp
  beta_reduce
  rw [hg', hg k, hd, hs, he]
  refine ⟨E k * (1 / T) * ((∑ e, x' e * v' k e) - ∑ e, x' e * ∑ j, v' j e * (E j * (1 / T))), ?_, ?_⟩
  · rw [Ideal.div_coe hT, ← EReal.coe_mul, ← EReal.coe_sub, ← EReal.coe_mul]
  · split_ifs with h
    · rw [hp h, zero_mul, zero_mul, EReal.coe_zero]
    · rw [Ideal.div_coe hT, ← EReal.coe_mul, ← EReal.coe_neg, ← EReal.coe_add, ← EReal.coe_mul]
      congr 1; ring

/-- The logarithm of two the entries are divided by meets the one the sum is multiplied by. -/
theorem scale_eq {n : ℕ} (r : Fin n → ℝ) (x : Fin n → EReal) (hx : ∀ q, Fnt (x q)) :
    (∑ q, (r q : EReal) * Ideal.div (Ideal.div (x q) (Ideal.sqrt (Ideal.ofBits FTy.f32 0x42C00000#32))) (Ideal.log (Ideal.ofBits FTy.f32 0x40000000#32))) * ((Real.log 2 : ℝ) : EReal)
      = ∑ q, (r q : EReal) * Ideal.div (x q) (Ideal.sqrt (Ideal.ofBits FTy.f32 0x42C00000#32)) := by
  choose x' hx using hx
  obtain rfl : x = fun j => (x' j : EReal) := funext hx
  have h2 : Real.log 2 ≠ 0 := (Real.log_pos (by norm_num)).ne'
  obtain ⟨ρ, hr, er⟩ := root_eq
  rw [er, log_two]
  have h1 : ∀ q, (r q : EReal) * Ideal.div (Ideal.div (x' q : EReal) (ρ : EReal)) ((Real.log 2 : ℝ) : EReal) = ((r q * (x' q * (1 / ρ) * (1 / Real.log 2)) : ℝ) : EReal) := fun q => by
    rw [Ideal.div_coe hr, ← EReal.coe_mul, Ideal.div_coe h2, ← EReal.coe_mul, ← EReal.coe_mul]
  have h3 : ∀ q, (r q : EReal) * Ideal.div (x' q : EReal) (ρ : EReal) = ((r q * (x' q * (1 / ρ)) : ℝ) : EReal) := fun q => by
    rw [Ideal.div_coe hr, ← EReal.coe_mul, ← EReal.coe_mul]
  rw [Finset.sum_congr rfl fun q _ => h1 q, Finset.sum_congr rfl fun q _ => h3 q, ← coe_sum, ← coe_sum, ← EReal.coe_mul, Finset.sum_mul]
  congr 1
  exact Finset.sum_congr rfl fun q _ => by field_simp
end Cert.Tail
-- ==== Proof.VEqK.lean ====
module
public import proofs.«01_k».proof.Proof.VEq
public import proofs.«01_k».proof.Proof.VBlkK
public import proofs.«01_k».proof.Proof.VHostK
public import proofs.«01_k».proof.Proof.VRefK
public import proofs.«01_k».proof.Proof.VAlgK
@[expose] public section
set_option maxRecDepth 16384
noncomputable section
namespace Cert.Kernel2Ideal.Bwd
open Cert.Kernel2Ideal Cert.Kernel2Ideal.Gen Idealize.ShloMosaic Idealize.ShloMosaic.TcCoe Idealize.SL.Sem
open Cert.Reference2Ideal.Bwd (scS sc_apply ex tot gw gs v36_eq v58_eq v59_eq v66_eq)
open Cert.Tail (Fnt score_eq soft_real grad_eq scale_eq sum_64)
/-! The two gradients of the keys are one. -/
variable (m : (ℓ : Loc nD τ sig) → Buf (Elt Ideal) ℓ) (c : Dev nD)

theorem soft_fnt (hq : ∀ i, Fnt (aq m c i)) (hk : ∀ i, Fnt (ak m c i)) (h : Fin 8) (q : Fin 8192) : ∃ (E : Fin 8192 → ℝ) (T : ℝ), T ≠ 0 ∧ (∀ j, ex (aq m c) (ak m c) h q j = (E j : EReal))
    ∧ tot (aq m c) (ak m c) h q = (T : EReal) ∧ ∀ j, q.val < j.val → E j = 0 := by
  choose s h1 h2 using fun k : Fin 8192 => score_eq (fun e => aq m c (ix3 q h e)) (fun e => ak m c (ix3 k h e)) (fun e => hq _) (fun e => hk _)
  have hs : ∀ k, scS (aq m c) (ak m c) (ix3 h q k) = if q.val < k.val then (⊥ : EReal) else (s k : EReal) := fun k => by
    rw [sc_apply, h1 k]
  have hl : ∀ i, scS (aq m c) (ak m c) i < (⊤ : EReal) := fun i => by
    obtain ⟨x, y, z, rfl⟩ : ∃ x y z, i = ix3 x y z := ⟨i 0, i 1, i 2, Cert.Reference2Ideal.Bwd.i3 i _ _ _ rfl rfl rfl⟩
    rw [sc_apply]
    obtain ⟨s', h1', -⟩ := score_eq (fun e => aq m c (ix3 y x e)) (fun e => ak m c (ix3 z x e)) (fun e => hq _) (fun e => hk _)
    rw [h1']
    split_ifs
    exacts [bot_lt_top, EReal.coe_lt_top _]
  exact soft_real q s (fun k => scS (aq m c) (ak m c) (ix3 h q k)) hs _ (fun k => mxS_le _ h q k) (mxS_lt _ hl _)

theorem val_eq (h : Fin 8) (q k : Fin 8192) : (∑ e : Fin 128, cv m c h k e * cc m c h q e : EReal) = ∑ e : Fin 64, av m c (ix3 k h e) * ac m c (ix3 q h e) := by
  refine (Finset.sum_congr rfl fun e _ => ?_).trans (sum_64 fun e => av m c (ix3 k h e) * ac m c (ix3 q h e))
  refine (congrArg₂ (fun a b : EReal => a * b) (h_v43 m c h k e) (h_v46 m c h q e)).trans ?_
  split_ifs
  exacts [rfl, zero_mul _]

theorem dk_eq (hq : ∀ i, Fnt (aq m c i)) (hk : ∀ i, Fnt (ak m c i)) (hv : ∀ i, Fnt (av m c i)) (hc : ∀ i, Fnt (ac m c i)) (h : Fin 8) (k : Fin 8192) (d : Fin 128) :
    dkK m c h k d = Cert.Reference2Ideal.Read.val_main_v66 (F := Ideal) (aq m c) (ak m c) (av m c) (ac m c) (ix3 h k d) := by
  rw [v66_eq]
  have e : ∀ q, cq m c h q d = _ := fun q => h_v37 m c h q d
  have hr : ∀ q : Fin 8192, ∃ r : ℝ, (if q.val < k.val then 0 else Ideal.exp2 ((∑ e : Fin 128, ck m c h k e * cq m c h q e) - cl m c h q))
      * ((∑ e : Fin 128, cv m c h k e * cc m c h q e) - cp m c h q) = (r : EReal) ∧ gs (aq m c) (ak m c) (av m c) (ac m c) (ix3 h q k) = (r : EReal) := fun q => by
    obtain ⟨E, T, hT, hE, hs, h0⟩ := soft_fnt m c hq hk h q
    obtain ⟨r, h1, h2⟩ := grad_eq k E T hT (q.val < k.val) (h0 k) (fun e => ac m c (ix3 q h e)) (fun j e => av m c (ix3 j h e)) (fun e => hc _) (fun j e => hv _)
    have hw : ∀ j, Cert.Reference2Ideal.Read.val_main_v36 (F := Ideal) (aq m c) (ak m c) (ix3 h q j) = Ideal.div (E j : EReal) (T : EReal) := fun j => by
      rw [← hE j, ← hs]; exact v36_eq _ _ h q j
    refine ⟨r, ?_, ?_⟩
    · rw [weight_eq m c hq hk, hw k, val_eq]
      have ep : cp m c h q = _ := h_v32 m c h q
      rw [ep, Finset.sum_congr rfl fun e _ => congrArg (fun a : EReal => ac m c (ix3 q h e) * a) (Finset.sum_congr rfl fun j _ => congrArg (fun a : EReal => av m c (ix3 j h e) * a) (hw j))]
      exact h1
    · refine (v58_eq _ _ _ _ h q k).trans ?_
      rw [hs, hE k, Finset.sum_congr rfl fun j _ => congrArg (fun a : EReal => gw (av m c) (ac m c) h q j * _ * a) (hE j)]
      exact h2
  choose r h1 h2 using hr
  unfold dkK
  rw [Finset.sum_congr rfl fun q _ => congrArg (fun a : EReal => a * cq m c h q d) (h1 q)]
  by_cases hd : d.val < 96
  · rw [dif_pos hd, v59_eq, Finset.sum_congr rfl fun q _ => congrArg (fun a : EReal => a * _) (h2 q), ← scale_eq r (fun q => aq m c (ix3 q h ⟨d.val, hd⟩)) fun q => hq _]
    refine congrArg (fun a : EReal => a * _) (Finset.sum_congr rfl fun q _ => ?_)
    rw [e, dif_pos hd]
  · rw [dif_neg hd, Finset.sum_eq_zero fun q _ => ?_, zero_mul]
    rw [e, dif_neg hd, mul_zero]
end Cert.Kernel2Ideal.Bwd
-- ==== Proof.VPayQ.lean ====
module
public import proofs.«01_k».proof.Proof.VPay
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! The vectors the gradient of the queries is made of, read at an index. -/

theorem pay77_apply (a : Vec Ideal S1x2048x128 .bf16) (d : Fin 128) (r : Fin 2048) :
    k0_pay77 a (ix2 d r) = a (ix3 0 r d) := by
  pointwise [k0_pay77]
theorem pay76_apply (d : Fin 128) (q : Fin 8192) : k0_pay76 (F := Ideal) (ix3 0 d q) = (0 : EReal) := by
  show Ideal.ofBits .f32 0x00000000#32 = 0
  simp [Ideal.ofBits, Ideal.ieee]

theorem pay107_apply (o : Vec Ideal S1x128x512 .f32) (a : Vec Ideal S128x256 .bf16) (b : Vec Ideal S256x512 .bf16) (d : Fin 128) (c : Fin 512) :
    k0_pay107 o a b (ix3 0 d c) = o (ix3 0 d c) + ∑ r : Fin 256, a (ix2 d r) * b (ix2 r c) := by
  pointwise [k0_pay107]

theorem pay142_apply (o : Vec Ideal S1x128x512 .f32) (a : Vec Ideal S128x768 .bf16) (b : Vec Ideal S768x512 .bf16) (d : Fin 128) (c : Fin 512) :
    k0_pay142 o a b (ix3 0 d c) = o (ix3 0 d c) + ∑ r : Fin 768, a (ix2 d r) * b (ix2 r c) := by
  pointwise [k0_pay142]

theorem pay178_apply (o : Vec Ideal S1x128x512 .f32) (a : Vec Ideal S128x1280 .bf16) (b : Vec Ideal S1280x512 .bf16) (d : Fin 128) (c : Fin 512) :
    k0_pay178 o a b (ix3 0 d c) = o (ix3 0 d c) + ∑ r : Fin 1280, a (ix2 d r) * b (ix2 r c) := by
  pointwise [k0_pay178]

theorem pay145_apply (o : Vec Ideal S1x128x256 .f32) (a : Vec Ideal S128x256 .bf16) (b : Vec Ideal S256x256 .bf16) (d : Fin 128) (c : Fin 256) :
    k0_pay145 o a b (ix3 0 d c) = o (ix3 0 d c) + ∑ r : Fin 256, a (ix2 d r) * b (ix2 r c) := by
  pointwise [k0_pay145]

theorem pay182_apply (o : Vec Ideal S1x128x256 .f32) (a : Vec Ideal S128x256 .bf16) (b : Vec Ideal S256x256 .bf16) (d : Fin 128) (c : Fin 256) :
    k0_pay182 o a b (ix3 0 d c) = o (ix3 0 d c) + ∑ r : Fin 256, a (ix2 d r) * b (ix2 r c) := by
  pointwise [k0_pay182]

theorem pay229_apply (o : Vec Ideal S1x128x512 .f32) (a : Vec Ideal S128x2048 .bf16) (b : Vec Ideal S2048x512 .bf16) (d : Fin 128) (c : Fin 512) :
    k0_pay229 o a b (ix3 0 d c) = o (ix3 0 d c) + ∑ r : Fin 2048, a (ix2 d r) * b (ix2 r c) := by
  pointwise [k0_pay229]

theorem pay6_apply (o : Vec Ideal S1x128x512 .f32) (a : Vec Ideal S128x2048 .bf16) (b : Vec Ideal S2048x512 .bf16) (d : Fin 128) (c : Fin 512) :
    k0_pay6 o a b (ix3 0 d c) = o (ix3 0 d c) + ∑ r : Fin 2048, a (ix2 d r) * b (ix2 r c) := by
  pointwise [k0_pay6]

theorem pay28_apply (o : Vec Ideal S1x128x512 .f32) (a : Vec Ideal S128x2048 .bf16) (b : Vec Ideal S2048x512 .bf16) (d : Fin 128) (c : Fin 512) :
    k0_pay28 o a b (ix3 0 d c) = o (ix3 0 d c) + ∑ r : Fin 2048, a (ix2 d r) * b (ix2 r c) := by
  pointwise [k0_pay28]

theorem pay112_apply (o : Vec Ideal S1x128x256 .f32) (a : Vec Ideal S128x256 .bf16) (b : Vec Ideal S256x256 .bf16) (d : Fin 128) (c : Fin 256) :
    k0_pay112 (k0_pay111 o) a b (ix3 0 d c) = o (ix3 0 d c) + ∑ r : Fin 256, a (ix2 d r) * b (ix2 r c) := by
  pointwise [k0_pay112, k0_pay111]
end Cert.Kernel2Ideal.Bwd
-- ==== Proof.VGenQ.lean ====
module
public import proofs.«01_k».proof.Proof.VGen
public import proofs.«01_k».proof.Proof.VPayQ
public import Idealize.ShloMosaic.Lib.WritesUnit
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! The gradient of the queries as a sum over the tiles of a block. -/

section Spec
variable (Q DO : Vec Ideal S1x8192x128 .bf16) (K W : Vec Ideal S1x2048x128 .bf16) (L D7 : Vec Ideal S1x1x8192 .f32) (j : ℕ)
/-- The gradient of the score of a key and of the `n`th query from the block's first. -/
def gq (κ n : ℕ) : EReal := pr Q K L j κ n * (sc DO W κ (2048 * j + n) - lAt D7 (2048 * j + n))
/-- What the block's keys add to the gradient of the `n`th query from the block's first. -/
def wQ (n : ℕ) (d : Fin 128) : EReal := ∑ κ : Fin 2048, kAt K κ.val d * gq Q DO K W L D7 j κ.val n
theorem gq_zero (κ n : ℕ) (h : n < κ) : gq Q DO K W L D7 j κ n = 0 := by
  unfold gq pr pe
  rw [if_neg (by omega), zero_mul]
/-- The keys after the query add nothing. -/
theorem wQ_cut (n m : ℕ) (d : Fin 128) (h : n < m) (hm : m ≤ 2048) : wQ Q DO K W L D7 j n d = ∑ r : Fin m, kAt K r.val d * gq Q DO K W L D7 j r.val n := by
  unfold wQ
  rw [← Finset.sum_range (n := 2048) fun κ => kAt K κ d * gq Q DO K W L D7 j κ n, ← Finset.sum_range (n := m) fun κ => kAt K κ d * gq Q DO K W L D7 j κ n]
  refine (Finset.sum_subset (Finset.range_subset_range.2 hm) fun κ _ hκ => ?_).symm
  rw [gq_zero Q DO K W L D7 j κ n (by rw [Finset.mem_range] at hκ; omega), mul_zero]
end Spec

section Sum
variable {sig : RefSig} {κ : Kind} {sp : Space}
/-- A store of some queries' entries, read at a query. -/
theorem rdw8 (v : View sig κ sp S1x128x8192 .f32) (f) (H : List (View.Piece (Elt Ideal) S1x128x8192 .f32)) {o n : ℕ} {off : Fin 3 → ℕ} {inb} (ho : off = ![0, 0, o])
    (w : (⟨3, ![1, 128, n]⟩ : Shape).Idx → EReal) (d : Fin 128) (q : Fin 8192) :
    v.read (Elt Ideal) (v.writes (Elt Ideal) f ((⟨Rect.unit (s := S1x128x8192) off ![1, 128, n] inb, w⟩ : View.Piece (Elt Ideal) S1x128x8192 .f32) :: H)) (ix3 0 d q)
      = if h : o ≤ q.val ∧ q.val < o + n then w (ix3 0 d ⟨q.val - o, by omega⟩) else v.read (Elt Ideal) (v.writes (Elt Ideal) f H) (ix3 0 d q) := by
  split_ifs with h
  · refine View.read_writes_cons_unit_of_mem (Val := Elt Ideal) v f inb w H (ix3 0 d q) (ix3 0 d ⟨q.val - o, by omega⟩) ho fun a => ?_
    match a with
    | ⟨0, _⟩ => rfl
    | ⟨1, _⟩ => show d.val = 0 + d.val; omega
    | ⟨2, _⟩ => show q.val = o + (q.val - o); omega
  · refine View.read_writes_cons_unit_of_not_mem (Val := Elt Ideal) v f inb w H (ix3 0 d q) ho 2 ?_
    show q.val < o ∨ o + n ≤ q.val
    omega

variable (T : ℕ → Fin 128 → EReal) (D0 : ℕ → Fin 128 → EReal) (j : ℕ)
/-- The queries' sums after the first `n` tiles of a block have been added to `D0`. -/
def Sum8 (X : S1x128x8192.Idx → EReal) (n : ℕ) : Prop := ∀ (d : Fin 128) (q : Fin 8192),
  X (ix3 0 d q) = D0 q.val d + if 2048 * j ≤ q.val ∧ q.val < 2048 * j + 512 * n then T (q.val - 2048 * j) d else 0

variable {T D0 j}
/-- A load of a tile not yet added. -/
theorem Sum8.rd {X : S1x128x8192.Idx → EReal} {n : ℕ} (h : Sum8 T D0 j X n) {u w : ℕ} (hu : n ≤ u) {off : Fin 3 → ℕ} {inb} (ho : off = ![0, 0, 2048 * j + 512 * u])
    (d : Fin 128) (c : Fin w) : X ((Rect.unit (s := S1x128x8192) off ![1, 128, w] inb).toLoadRect.idx (ix3 0 d c)) = D0 (2048 * j + 512 * u + c.val) d := by
  subst ho
  have hb : 2048 * j + 512 * u + w ≤ 8192 := inb 2
  have e : (Rect.unit (s := S1x128x8192) ![0, 0, 2048 * j + 512 * u] ![1, 128, w] inb).toLoadRect.idx (ix3 0 d c) = ix3 0 d ⟨2048 * j + 512 * u + c.val, by omega⟩ :=
    funext fun a => Fin.ext (match a with
      | ⟨0, _⟩ => rfl
      | ⟨1, _⟩ => by show 0 + 1 * d.val = d.val; omega
      | ⟨2, _⟩ => by show 2048 * j + 512 * u + 1 * c.val = 2048 * j + 512 * u + c.val; omega)
  rw [e, h, if_neg (by show ¬(_ ∧ 2048 * j + 512 * u + c.val < _); omega), add_zero]

/-- A store of a whole tile. -/
theorem Sum8.full {v : View sig κ sp S1x128x8192 .f32} {f} {H : List (View.Piece (Elt Ideal) S1x128x8192 .f32)} {n : ℕ} {off : Fin 3 → ℕ} {inb}
    (h : Sum8 T D0 j (v.read (Elt Ideal) (v.writes (Elt Ideal) f H)) n) (ho : off = ![0, 0, 2048 * j + 512 * n])
    {w : (⟨3, ![1, 128, 512]⟩ : Shape).Idx → EReal} (hw : ∀ (d : Fin 128) (c : Fin 512), w (ix3 0 d c) = D0 (2048 * j + 512 * n + c.val) d + T (512 * n + c.val) d) :
    Sum8 T D0 j (v.read (Elt Ideal) (v.writes (Elt Ideal) f ((⟨Rect.unit (s := S1x128x8192) off ![1, 128, 512] inb, w⟩ : View.Piece (Elt Ideal) S1x128x8192 .f32) :: H))) (n + 1) := by
  intro d q
  rw [rdw8 v f H ho w d q]
  split_ifs with h1 h2 h2
  · rw [hw]
    refine congrArg₂ (fun a b : EReal => a + b) (congrArg (fun x => D0 x d) ?_) (congrArg (fun x => T x d) ?_)
    · show 2048 * j + 512 * n + (q.val - (2048 * j + 512 * n)) = _; omega
    · show 512 * n + (q.val - (2048 * j + 512 * n)) = _; omega
  · omega
  · rw [h, if_pos (by omega)]
  · rw [h, if_neg (by omega)]

/-- The two stores of a tile, the second of its later half. -/
theorem Sum8.half {v : View sig κ sp S1x128x8192 .f32} {f} {H : List (View.Piece (Elt Ideal) S1x128x8192 .f32)} {n : ℕ} {off off' : Fin 3 → ℕ} {inb inb'}
    (h : Sum8 T D0 j (v.read (Elt Ideal) (v.writes (Elt Ideal) f H)) n) (ho : off = ![0, 0, 2048 * j + 512 * n]) (ho' : off' = ![0, 0, 2048 * j + 512 * n + 256])
    {w : (⟨3, ![1, 128, 512]⟩ : Shape).Idx → EReal} (hw : ∀ (d : Fin 128) (c : Fin 512), c.val < 256 → w (ix3 0 d c) = D0 (2048 * j + 512 * n + c.val) d + T (512 * n + c.val) d)
    {w' : (⟨3, ![1, 128, 256]⟩ : Shape).Idx → EReal} (hw' : ∀ (d : Fin 128) (c : Fin 256), w' (ix3 0 d c) = D0 (2048 * j + 512 * n + (256 + c.val)) d + T (512 * n + (256 + c.val)) d) :
    Sum8 T D0 j (v.read (Elt Ideal) (v.writes (Elt Ideal) f ((⟨Rect.unit (s := S1x128x8192) off' ![1, 128, 256] inb', w'⟩ : View.Piece (Elt Ideal) S1x128x8192 .f32) ::
      (⟨Rect.unit (s := S1x128x8192) off ![1, 128, 512] inb, w⟩ : View.Piece (Elt Ideal) S1x128x8192 .f32) :: H))) (n + 1) := by
  intro d q
  rw [rdw8 v f _ ho' w' d q, rdw8 v f H ho w d q]
  split_ifs with h0 h1 h1 h1 h1
  · rw [hw']
    refine congrArg₂ (fun a b : EReal => a + b) (congrArg (fun x => D0 x d) ?_) (congrArg (fun x => T x d) ?_)
    · show 2048 * j + 512 * n + (256 + (q.val - (2048 * j + 512 * n + 256))) = _; omega
    · show 512 * n + (256 + (q.val - (2048 * j + 512 * n + 256))) = _; omega
  · omega
  · rw [hw _ _ (by show q.val - (2048 * j + 512 * n) < 256; omega)]
    refine congrArg₂ (fun a b : EReal => a + b) (congrArg (fun x => D0 x d) ?_) (congrArg (fun x => T x d) ?_)
    · show 2048 * j + 512 * n + (q.val - (2048 * j + 512 * n)) = _; omega
    · show 512 * n + (q.val - (2048 * j + 512 * n)) = _; omega
  · omega
  · rw [h, if_pos (by omega)]
  · rw [h, if_neg (by omega)]

/-- A load of the later half of the tile stored last. -/
theorem rdh8 (v : View sig κ sp S1x128x8192 .f32) (H : List (View.Piece (Elt Ideal) S1x128x8192 .f32)) {o : ℕ} {off off' : Fin 3 → ℕ} {inb inb'} (ho : off = ![0, 0, o]) (ho' : off' = ![0, 0, o + 256])
    (w : (⟨3, ![1, 128, 512]⟩ : Shape).Idx → EReal) (d : Fin 128) (c : Fin 256) :
    v.readCov ((⟨Rect.unit (s := S1x128x8192) off ![1, 128, 512] inb, w⟩ : View.Piece (Elt Ideal) S1x128x8192 .f32) :: H) (Rect.unit (s := S1x128x8192) off' ![1, 128, 256] inb').toLoadRect (ix3 0 d c)
      = w (ix3 0 d ⟨256 + c.val, by omega⟩) := by
  subst ho ho'
  rw [View.readCov_eq_canon']
  have e : (Rect.unit (s := S1x128x8192) ![0, 0, o + 256] ![1, 128, 256] inb').toLoadRect.idx (ix3 0 d c) = (Rect.unit (s := S1x128x8192) ![0, 0, o] ![1, 128, 512] inb).emb (ix3 0 d ⟨256 + c.val, by omega⟩) :=
    funext fun a => Fin.ext (match a with
      | ⟨0, _⟩ => rfl
      | ⟨1, _⟩ => rfl
      | ⟨2, _⟩ => by show o + 256 + 1 * c.val = o + 1 * (256 + c.val); omega)
  refine (congrArg (View.canon _) e).trans ?_
  exact View.canon_cons_emb (Val := Elt Ideal) (Rect.unit (s := S1x128x8192) ![0, 0, o] ![1, 128, 512] inb) w H _

section Add
variable {Q DO : Vec Ideal S1x8192x128 .bf16} {K W : Vec Ideal S1x2048x128 .bf16} {L D7 : Vec Ideal S1x1x8192 .f32}
/-- A whole tile added. -/
theorem Sum8.addFull {v : View sig κ sp S1x128x8192 .f32} {f} {H : List (View.Piece (Elt Ideal) S1x128x8192 .f32)} {n : ℕ} {off : Fin 3 → ℕ} {inb}
    (h : Sum8 (wQ Q DO K W L D7 j) D0 j (v.read (Elt Ideal) (v.writes (Elt Ideal) f H)) n) (ho : off = ![0, 0, 2048 * j + 512 * n])
    {w o : (⟨3, ![1, 128, 512]⟩ : Shape).Idx → EReal} {A : (⟨2, ![128, 2048]⟩ : Shape).Idx → EReal} {B : (⟨2, ![2048, 512]⟩ : Shape).Idx → EReal}
    (hw : ∀ (d : Fin 128) (c : Fin 512), w (ix3 0 d c) = o (ix3 0 d c) + ∑ r : Fin 2048, A (ix2 d r) * B (ix2 r c))
    (h1 : ∀ (d : Fin 128) (c : Fin 512), o (ix3 0 d c) = D0 (2048 * j + 512 * n + c.val) d)
    (ha : ∀ (d : Fin 128) (r : Fin 2048), A (ix2 d r) = kAt K (0 + r.val) d) (hb : ∀ (r : Fin 2048) (c : Fin 512), B (ix2 r c) = GT Q DO K W L D7 j n (0 + r.val) (0 + c.val)) :
    Sum8 (wQ Q DO K W L D7 j) D0 j (v.read (Elt Ideal) (v.writes (Elt Ideal) f ((⟨Rect.unit (s := S1x128x8192) off ![1, 128, 512] inb, w⟩ : View.Piece (Elt Ideal) S1x128x8192 .f32) :: H))) (n + 1) := by
  refine h.full ho fun d c => (hw d c).trans (congrArg₂ (fun a b : EReal => a + b) (h1 d c) (Finset.sum_congr rfl fun r _ => ?_))
  rw [ha, hb, Nat.zero_add, Nat.zero_add]
  rfl

/-- A tile added in two stores. -/
theorem Sum8.addHalf {v v' : View sig κ sp S1x128x8192 .f32} {f} {H : List (View.Piece (Elt Ideal) S1x128x8192 .f32)} {n m : ℕ} {off off' : Fin 3 → ℕ} {inb inb' inb''} (hn : n < 3) (hm : m = 512 * n + 256)
    (h : Sum8 (wQ Q DO K W L D7 j) D0 j (v.read (Elt Ideal) (v.writes (Elt Ideal) f H)) n) (ho : off = ![0, 0, 2048 * j + 512 * n]) (ho' : off' = ![0, 0, 2048 * j + 512 * n + 256])
    {w o : (⟨3, ![1, 128, 512]⟩ : Shape).Idx → EReal} {A : (⟨2, ![128, m]⟩ : Shape).Idx → EReal} {B : (⟨2, ![m, 512]⟩ : Shape).Idx → EReal}
    {w' : (⟨3, ![1, 128, 256]⟩ : Shape).Idx → EReal} {A' : (⟨2, ![128, 256]⟩ : Shape).Idx → EReal} {B' : (⟨2, ![256, 256]⟩ : Shape).Idx → EReal}
    (hw : ∀ (d : Fin 128) (c : Fin 512), w (ix3 0 d c) = o (ix3 0 d c) + ∑ r : Fin m, A (ix2 d r) * B (ix2 r c))
    (hw' : ∀ (d : Fin 128) (c : Fin 256), w' (ix3 0 d c) = v'.readCov ((⟨Rect.unit (s := S1x128x8192) off ![1, 128, 512] inb, w⟩ : View.Piece (Elt Ideal) S1x128x8192 .f32) :: H)
      (Rect.unit (s := S1x128x8192) off' ![1, 128, 256] inb').toLoadRect (ix3 0 d c) + ∑ r : Fin 256, A' (ix2 d r) * B' (ix2 r c))
    (h1 : ∀ (d : Fin 128) (c : Fin 512), o (ix3 0 d c) = D0 (2048 * j + 512 * n + c.val) d)
    (ha : ∀ (d : Fin 128) (r : Fin m), A (ix2 d r) = kAt K (0 + r.val) d) (hb : ∀ (r : Fin m) (c : Fin 512), B (ix2 r c) = GT Q DO K W L D7 j n (0 + r.val) (0 + c.val))
    (ha' : ∀ (d : Fin 128) (r : Fin 256), A' (ix2 d r) = kAt K (m + r.val) d) (hb' : ∀ (r : Fin 256) (c : Fin 256), B' (ix2 r c) = GT Q DO K W L D7 j n (m + r.val) (256 + c.val)) :
    Sum8 (wQ Q DO K W L D7 j) D0 j (v.read (Elt Ideal) (v.writes (Elt Ideal) f ((⟨Rect.unit (s := S1x128x8192) off' ![1, 128, 256] inb'', w'⟩ : View.Piece (Elt Ideal) S1x128x8192 .f32) ::
      (⟨Rect.unit (s := S1x128x8192) off ![1, 128, 512] inb, w⟩ : View.Piece (Elt Ideal) S1x128x8192 .f32) :: H))) (n + 1) := by
  have e : ∀ (d : Fin 128) (c : Fin 512), w (ix3 0 d c) = D0 (2048 * j + 512 * n + c.val) d + ∑ r : Fin m, kAt K r.val d * gq Q DO K W L D7 j r.val (512 * n + c.val) := fun d c =>
    (hw d c).trans (congrArg₂ (fun a b : EReal => a + b) (h1 d c) (Finset.sum_congr rfl fun r _ => by rw [ha, hb, Nat.zero_add, Nat.zero_add]; rfl))
  refine h.half ho ho' (fun d c hc => ?_) fun d c => ?_
  · rw [e, wQ_cut Q DO K W L D7 j _ m d (by omega) (by omega)]
  · rw [hw', rdh8 v' H ho ho' w d c, e, wQ_cut Q DO K W L D7 j _ (m + 256) d (by omega) (by omega), Fin.sum_univ_add, add_assoc]
    refine congrArg (fun a : EReal => _ + (_ + a)) (Finset.sum_congr rfl fun r _ => ?_)
    rw [ha', hb']
    rfl
end Add
end Sum
end Cert.Kernel2Ideal.Bwd
-- ==== Proof.VStepQ.lean ====
module
public import proofs.«01_k».proof.Proof.VGenQ
public import proofs.«01_k».proof.Proof.VStepK
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! The loop of a point, on the sum for the gradient of the queries. -/

theorem off10_eq : ∀ (i : grid0.Coords) (r : Fin 3), k0_off10 i (BitVec.ofNat 32 (1 + r.val)) = ![0, 0, 2048 * (i 1).val + 512 * r.val] := by decide +kernel
theorem off12_eq : ∀ (i : grid0.Coords) (r : Fin 3), k0_off12 i (BitVec.ofNat 32 (1 + r.val)) = ![0, 0, 2048 * (i 1).val + 512 * r.val + 256] := by decide +kernel
theorem off17_eq : ∀ (i : grid0.Coords) (k : Fin (k0_t1_loop i).trips), k0_off17 i k = ![0, 0, 2048 * (i 1).val + 512 * (3 + 2 * k.val)] := by decide +kernel
theorem off21_eq : ∀ (i : grid0.Coords) (k : Fin (k0_t1_loop i).trips), k0_off21 i k = ![0, 0, 2048 * (i 1).val + 512 * (3 + 2 * k.val + 1)] := by decide +kernel

variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (v15 : BitVec 32) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32) (KT : Vec Ideal S128x2048 .bf16)

theorem next_d8 (k : Fin (k0_t1_loop i).trips) (s : St Ideal) : (nextSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT k s).d8 =
    a8.view.read (Elt Ideal) (a8.view.writes (Elt Ideal) (h8.unread s.d8)
      [⟨Rect.unit (s := S1x128x8192) (k0_off21 i k) S1x128x512.size (k0_off21_inb i k), k0_pay28 (trip.sl.v1387 c i a8 h8 k s.d8) (View.readAt (Elt Ideal) a19.view (Rect.unit (s := S128x2048) ![0, 0] S128x2048.size inb_S128x2048_S128x2048_0_0).toLoadRect (h19.unread KT)) (trip.sl.v1371 c i a6 h6 a7 h7 a11 h11 a13 h13 a17 L D7 k s.d11 s.d13)⟩,
        ⟨Rect.unit (s := S1x128x8192) (k0_off17 i k) S1x128x512.size (k0_off17_inb i k), k0_pay6 (View.readAt (Elt Ideal) a8.view (Rect.unit (s := S1x128x8192) (k0_off17 i k) S1x128x512.size (k0_off17_inb i k)).toLoadRect (h8.unread s.d8)) (View.readAt (Elt Ideal) a19.view (Rect.unit (s := S128x2048) ![0, 0] S128x2048.size inb_S128x2048_S128x2048_0_0).toLoadRect (h19.unread KT))
          (View.readAt (Elt Ideal) a18.view (Rect.unit (s := S2048x512) ![0, 0] S2048x512.size inb_S2048x512_S2048x512_0_0).toLoadRect (h18.unread s.d18))⟩]) := by
  delta nextSt trip; with_reducible rfl

/-- A load of the whole table of keys. -/
theorem rdKT {sig : RefSig} {κ : Kind} {sp : Space} {m : Memref sig κ sp S128x2048 .bf16} (h : m.IsWhole) (KT : Vec Ideal S128x2048 .bf16) (hK : ∀ (d : Fin 128) (r : Fin 2048), KT (ix2 d r) = kAt K (0 + r.val) d) {inb} (d : Fin 128) (r : Fin 2048) :
    View.readAt (Elt Ideal) m.view (Rect.unit (s := S128x2048) ![0, 0] ![128, 2048] inb).toLoadRect (h.unread KT) (ix2 d r) = kAt K (0 + r.val) d := by
  refine (Memref.IsWhole.readAt_unread h KT (Rect.unit (s := S128x2048) ![0, 0] ![128, 2048] inb).toLoadRect (ix2 d r)).trans ((congrArg KT (funext fun t => Fin.ext ?_)).trans (hK d r))
  match t with
  | ⟨0, _⟩ => show 0 + 1 * d.val = d.val; omega
  | ⟨1, _⟩ => show 0 + 1 * r.val = r.val; omega
/-- A load of a tile not yet added, from the sum's own contents. -/
theorem Sum8.rdU {sig : RefSig} {κ : Kind} {sp : Space} {m : Memref sig κ sp S1x128x8192 .f32} (hm : m.IsWhole) {T D0 : ℕ → Fin 128 → EReal} {j : ℕ} {X : Vec Ideal S1x128x8192 .f32} {n : ℕ} (h : Sum8 T D0 j X n) {u w : ℕ} (hu : n ≤ u)
    {off : Fin 3 → ℕ} {inb} (ho : off = ![0, 0, 2048 * j + 512 * u]) (d : Fin 128) (x : Fin w) :
    View.readAt (Elt Ideal) m.view (Rect.unit (s := S1x128x8192) off ![1, 128, w] inb).toLoadRect (hm.unread X) (ix3 0 d x) = D0 (2048 * j + 512 * u + x.val) d :=
  (Memref.IsWhole.readAt_unread hm X (Rect.unit (s := S1x128x8192) off ![1, 128, w] inb).toLoadRect (ix3 0 d x)).trans (h.rd hu ho d x)
theorem Sum8.nil {sig : RefSig} {κ : Kind} {sp : Space} {m : Memref sig κ sp S1x128x8192 .f32} (hm : m.IsWhole) {T D0 : ℕ → Fin 128 → EReal} {j : ℕ} {X : Vec Ideal S1x128x8192 .f32} {n : ℕ} (h : Sum8 T D0 j X n) :
    Sum8 T D0 j (m.view.read (Elt Ideal) (m.view.writes (Elt Ideal) (hm.unread X) [])) n := by
  intro d q
  exact (congrFun (Memref.IsWhole.read_unread hm X) _).trans (h d q)

variable {D0 : ℕ → Fin 128 → EReal}
/-- A trip adds two tiles. -/
theorem step8 (k : Fin (k0_t1_loop i).trips) (hK : ∀ (d : Fin 128) (r : Fin 2048), KT (ix2 d r) = kAt K (0 + r.val) d) (s : St Ideal) (h : InvK Q DO K W L D7 (i 1).val (3 + 2 * k.val) s) (h0 : Sum8 (wQ Q DO K W L D7 (i 1).val) D0 (i 1).val s.d8 (3 + 2 * k.val)) :
    Sum8 (wQ Q DO K W L D7 (i 1).val) D0 (i 1).val (nextSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT k s).d8 (3 + 2 * (k.val + 1)) := by
  have e4 : 3 + 2 * k.val + 1 = 4 + 2 * k.val := by omega
  rw [next_d8, show 3 + 2 * (k.val + 1) = 3 + 2 * k.val + 1 + 1 by omega]
  refine Sum8.addFull (Sum8.addFull (h0.nil h8) (off17_eq i k) (pay6_apply _ _ _) (h0.rdU h8 (le_refl _) (off17_eq i k)) (rdKT K h19 KT hK) ?_) (off21_eq i k) (pay28_apply _ _ _) ?_ (rdKT K h19 KT hK) ?_
  · exact fun r x => rd2 h18 s.d18 r x _ h.h18
  · unfold trip.sl.v1387
    exact h0.rdU h8 (by omega) (off21_eq i k)
  · unfold trip.sl.v1371
    intro r x
    refine ((t17_ok c i a6 h6 a7 h7 a11 h11 a13 h13 Q K W DO L D7 k s.d11 s.d13 (fun r c => (h.h11 r c).trans (by rw [e4])) (fun r c => (h.h13 r c).trans (by rw [e4]))).rd a17.view r x trivial).trans ?_
    rw [e4]

/-- The sum before trip `n`. -/
theorem loop8 (hK : ∀ (d : Fin 128) (r : Fin 2048), KT (ix2 d r) = kAt K (0 + r.val) d) (s : St Ideal) (h : InvK Q DO K W L D7 (i 1).val 3 s) (h0 : Sum8 (wQ Q DO K W L D7 (i 1).val) D0 (i 1).val s.d8 3) : ∀ n, n ≤ 6 - 2 * (i 1).val →
    Sum8 (wQ Q DO K W L D7 (i 1).val) D0 (i 1).val (loopSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s n).d8 (3 + 2 * n)
  | 0, _ => h0
  | n + 1, hn => by
    have ht : n < (k0_t1_loop i).trips := Nat.lt_of_lt_of_eq (by omega) (trips_eq i).symm
    have hi := InvK.loop c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s h n (by omega)
    have hl := loop8 hK s h h0 n (by omega)
    unfold loopSt
    rw [dif_pos ht]
    exact step8 c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT ⟨n, ht⟩ hK _ hi hl

/-- The sum after a point's loop and its last tile. -/
theorem dq_final (hK : ∀ (d : Fin 128) (r : Fin 2048), KT (ix2 d r) = kAt K (0 + r.val) d) (s : St Ideal) (h : InvK Q DO K W L D7 (i 1).val 3 s) (h0 : Sum8 (wQ Q DO K W L D7 (i 1).val) D0 (i 1).val s.d8 3) (n : ℕ) (hn : n = (k0_t1_loop i).trips) {inb1 inb2 inb3 inb4} :
    Sum8 (wQ Q DO K W L D7 (i 1).val) D0 (i 1).val (a8.view.read (Elt Ideal) (a8.view.writes (Elt Ideal) (h8.unread (loopSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s n).d8)
      [⟨Rect.unit (s := S1x128x8192) ![0, 0, 7680] ![1, 128, 512] inb1, k0_pay229 (View.readAt (Elt Ideal) a8.view (Rect.unit (s := S1x128x8192) ![0, 0, 7680] ![1, 128, 512] inb2).toLoadRect (h8.unread (loopSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s n).d8))
        (View.readAt (Elt Ideal) a19.view (Rect.unit (s := S128x2048) ![0, 0] ![128, 2048] inb3).toLoadRect (h19.unread KT))
        (View.readAt (Elt Ideal) a18.view (Rect.unit (s := S2048x512) ![0, 0] ![2048, 512] inb4).toLoadRect (h18.unread (loopSt c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s n).d18))⟩])) (16 - 4 * (i 1).val) := by
  have hj : (i 1).val < 4 := (i 1).isLt
  rw [trips_eq] at hn
  have hi := InvK.loop c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT s h n (by omega)
  have hl := loop8 c i a2 h2 a3 h3 a4 h4 a5 h5 a6 h6 a7 h7 a8 h8 a9 h9 a10 h10 a11 h11 a12 h12 a13 h13 a14 h14 a15 h15 a16 h16 a17 h17 a18 h18 a19 h19 v15 Q K W DO L D7 KT hK s h h0 n (by omega)
  have ho : (![0, 0, 7680] : Fin 3 → ℕ) = ![0, 0, 2048 * (i 1).val + 512 * (3 + 2 * n)] := by rw [show 7680 = 2048 * (i 1).val + 512 * (3 + 2 * n) by omega]
  rw [show 16 - 4 * (i 1).val = (3 + 2 * n) + 1 by omega]
  exact Sum8.addFull (hl.nil h8) ho (pay229_apply _ _ _) (hl.rdU h8 (le_refl _) ho) (rdKT K h19 KT hK) fun r x => rd2 h18 _ r x _ hi.h18

end Cert.Kernel2Ideal.Bwd
-- ==== Proof.VPreQ.lean ====
module
public import proofs.«01_k».proof.Proof.VStepQ
public import proofs.«01_k».proof.Proof.VPreK
public import proofs.«01_k».proof.Proof.IPointB
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! A block's first three tiles, in the sum for the gradient of the queries. -/

theorem kAt_val' (X : Vec Ideal S1x2048x128 .bf16) (r : Fin 2048) (d : Fin 128) : kAt X r.val d = X (ix3 0 r d) := dif_pos r.isLt
theorem rdk3 {sig : RefSig} {κ : Kind} {sp : Space} {m : Memref sig κ sp S1x2048x128 .bf16} (h : m.IsWhole) (X : Vec Ideal S1x2048x128 .bf16) {inb} (r : Fin 2048) (d : Fin 128) :
    View.readAt (Elt Ideal) m.view (Rect.unit (s := S1x2048x128) ![0, 0, 0] ![1, 2048, 128] inb).toLoadRect (h.unread X) (ix3 0 r d) = X (ix3 0 r d) := by
  refine (Memref.IsWhole.readAt_unread h X (Rect.unit (s := S1x2048x128) ![0, 0, 0] ![1, 2048, 128] inb).toLoadRect (ix3 0 r d)).trans (congrArg X (funext fun t => Fin.ext ?_))
  match t with
  | ⟨0, _⟩ => rfl
  | ⟨1, _⟩ => show 0 + 1 * r.val = r.val; omega
  | ⟨2, _⟩ => show 0 + 1 * d.val = d.val; omega
/-- A load of the table of keys. -/
theorem kt_rd (c : Dev nD) {a3 : Memref sig .tc .vmem S1x2048x128 .bf16} (h3 : a3.IsWhole) (a19 : Memref sig .tc .vmem S128x2048 .bf16) (K : Vec Ideal S1x2048x128 .bf16) {b n : ℕ} {inb} (d : Fin 128) (r : Fin n) :
    a19.view.readCov (point_A.sl.H19_1 c a3 h3 K) (Rect.unit (s := S128x2048) ![0, b] ![128, n] inb).toLoadRect (ix2 d r) = kAt K (b + r.val) d := by
  have hb : b + n ≤ 2048 := inb 1
  have e : (Rect.unit (s := S128x2048) ![0, b] ![128, n] inb).toLoadRect.idx (ix2 d r) = ix2 d ⟨b + r.val, by omega⟩ := funext fun t => Fin.ext (match t with
    | ⟨0, _⟩ => by show 0 + 1 * d.val = d.val; omega
    | ⟨1, _⟩ => by show b + 1 * r.val = b + r.val; omega)
  show a19.view.read (Elt Ideal) (a19.view.writes (Elt Ideal) a19.view.junk (point_A.sl.H19_1 c a3 h3 K)) ((Rect.unit (s := S128x2048) ![0, b] ![128, n] inb).toLoadRect.idx (ix2 d r)) = _
  rw [e]
  unfold point_A.sl.H19_1
  rw [View.read_writes_full, pay77_apply, rdk3 h3 K]
  exact (kAt_val' K ⟨b + r.val, by omega⟩ d).symm
variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32)

theorem q0_A : Sum8 (wQ Q DO K W L D7 (i 1).val) (fun _ _ => 0) (i 1).val (a8.view.read (Elt Ideal) (a8.view.writes (Elt Ideal) a8.view.junk (point_A.sl.H8_1 (F := Ideal)))) 0 := by
  intro d q
  unfold point_A.sl.H8_1
  rw [View.read_writes_full, pay76_apply, if_neg (by omega), zero_add]

theorem q1_A : Sum8 (wQ Q DO K W L D7 (i 1).val) (fun _ _ => 0) (i 1).val (a8.view.read (Elt Ideal) (a8.view.writes (Elt Ideal) a8.view.junk (point_A.sl.H8_3 c i a2 h2 a3 h3 a4 h4 a5 h5 a6 h6 a7 h7 a8 a11 a13 a17 a19 Q K W DO L D7))) 1 := by
  have hp := q0_A (i := i) (a8 := a8) (Q := Q) (K := K) (W := W) (DO := DO) (L := L) (D7 := D7)
  have gk := (g0_ok c i h2 h3 h4 h5 h6 h7 a11 a13 Q DO K W L D7)
  unfold point_A.sl.H8_3 point_A.sl.H8_2 point_A.sl.r_9 point_A.sl.v316
  refine Sum8.addHalf (v' := a8.view) (m := 256) (by decide) rfl hp (off10_eq i 0) (off12_eq i 0) (pay107_apply _ _ _) (pay112_apply _ _ _) (fun d x => Sum8.rd hp (le_refl _) (off10_eq i 0) d x) ?_ ?_ ?_ ?_
  · exact fun d r => (kt_rd c h3 a19 K d r).trans (by rw [Nat.zero_add])
  · exact fun r x => gk.rd a17.view r x (by unfold ar; omega)
  · exact fun d r => kt_rd c h3 a19 K d r
  · exact fun r x => gk.rd a17.view r x (by unfold ar; omega)

theorem q2_A : Sum8 (wQ Q DO K W L D7 (i 1).val) (fun _ _ => 0) (i 1).val (a8.view.read (Elt Ideal) (a8.view.writes (Elt Ideal) a8.view.junk (point_A.sl.H8_5 c i a2 h2 a3 h3 a4 h4 a5 h5 a6 h6 a7 h7 a8 a11 a12 a13 a14 a17 a18 a19 Q K W DO L D7))) 2 := by
  have hp := q1_A c i a2 h2 a3 h3 a4 h4 a5 h5 a6 h6 a7 h7 a8 a11 a13 a17 a19 Q K W DO L D7
  have gk := (g1_ok c i h2 h3 h4 h5 h6 h7 a12 a14 Q DO K W L D7)
  unfold point_A.sl.H8_5 point_A.sl.v578 point_A.sl.H8_4
  refine Sum8.addHalf (v' := a8.view) (m := 768) (by decide) rfl hp (off10_eq i 1) (off12_eq i 1) (pay142_apply _ _ _) (pay145_apply _ _ _) (fun d x => Sum8.rd hp (le_refl _) (off10_eq i 1) d x) ?_ ?_ ?_ ?_
  · exact fun d r => (kt_rd c h3 a19 K d r).trans (by rw [Nat.zero_add])
  · exact fun r x => gk.rd a18.view r x (by unfold ar; omega)
  · exact fun d r => kt_rd c h3 a19 K d r
  · exact fun r x => gk.rd a18.view r x (by unfold ar; omega)

theorem q3_A : Sum8 (wQ Q DO K W L D7 (i 1).val) (fun _ _ => 0) (i 1).val (a8.view.read (Elt Ideal) (a8.view.writes (Elt Ideal) a8.view.junk ((⟨Rect.unit (s := S1x128x8192) (k0_off12 i 3#32) S1x128x256.size (k0_off12_inb i 2), k0_pay182 (point_A.sl.v866 c i a2 h2 a3 h3 a4 h4 a5 h5 a6 h6 a7 h7 a8 a11 a12 a13 a14 a17 a18 a19 Q K W DO L D7) (point_A.sl.v868 c a3 h3 a19 K) (point_A.sl.v850 c i a2 h2 a3 h3 a4 h4 a5 h5 a6 h6 a7 h7 a11 a13 a17 Q K W DO L D7)⟩ :: point_A.sl.H8_6 c i a2 h2 a3 h3 a4 h4 a5 h5 a6 h6 a7 h7 a8 a11 a12 a13 a14 a17 a18 a19 Q K W DO L D7 : List (View.Piece (Elt Ideal) S1x128x8192 .f32))))) 3 := by
  have hp := q2_A c i a2 h2 a3 h3 a4 h4 a5 h5 a6 h6 a7 h7 a8 a11 a12 a13 a14 a17 a18 a19 Q K W DO L D7
  have gk := (g2_ok c i h2 h3 h4 h5 h6 h7 a11 a13 Q DO K W L D7)
  unfold point_A.sl.v866 point_A.sl.H8_6
  refine Sum8.addHalf (v' := a8.view) (m := 1280) (by decide) rfl hp (off10_eq i 2) (off12_eq i 2) (pay178_apply _ _ _) (pay182_apply _ _ _) (fun d x => Sum8.rd hp (le_refl _) (off10_eq i 2) d x) ?_ ?_ ?_ ?_
  · exact fun d r => (kt_rd c h3 a19 K d r).trans (by rw [Nat.zero_add])
  · exact fun r x => gk.rd a17.view r x (by unfold ar; omega)
  · exact fun d r => kt_rd c h3 a19 K d r
  · exact fun r x => gk.rd a17.view r x (by unfold ar; omega)

variable {D8 : Vec Ideal S1x128x8192 .f32} {D0 : ℕ → Fin 128 → EReal}
theorem q1_B (h0 : Sum8 (wQ Q DO K W L D7 (i 1).val) D0 (i 1).val D8 0) : Sum8 (wQ Q DO K W L D7 (i 1).val) D0 (i 1).val (a8.view.read (Elt Ideal) (a8.view.writes (Elt Ideal) (h8.unread D8) ((⟨Rect.unit (s := S1x128x8192) (k0_off12 i 1#32) S1x128x256.size (k0_off12_inb i 0), k0_pay112 (point_B.sl.r_9 c i a2 h2 a3 h3 a4 h4 a5 h5 a6 h6 a7 h7 a8 h8 a11 a13 a17 a19 Q K W DO L D7 D8) (point_B.sl.v318 c a3 h3 a19 K) (point_B.sl.v300 c i a2 h2 a3 h3 a4 h4 a5 h5 a6 h6 a7 h7 a11 a13 a17 Q K W DO L D7)⟩ :: point_B.sl.H8_1 c i a2 h2 a3 h3 a4 h4 a5 h5 a6 h6 a7 h7 a8 h8 a11 a13 a17 a19 Q K W DO L D7 D8 : List (View.Piece (Elt Ideal) S1x128x8192 .f32))))) 1 := by
  have hp := h0.nil h8
  have gk := (g0_ok c i h2 h3 h4 h5 h6 h7 a11 a13 Q DO K W L D7)
  unfold point_B.sl.r_9 point_B.sl.v316 point_B.sl.H8_1
  refine Sum8.addHalf (v' := a8.view) (m := 256) (by decide) rfl hp (off10_eq i 0) (off12_eq i 0) (pay107_apply _ _ _) (pay112_apply _ _ _) (h0.rdU h8 (Nat.zero_le _) (off10_eq i 0)) ?_ ?_ ?_ ?_
  · exact fun d r => (kt_rd c h3 a19 K d r).trans (by rw [Nat.zero_add])
  · exact fun r x => gk.rd a17.view r x (by unfold ar; omega)
  · exact fun d r => kt_rd c h3 a19 K d r
  · exact fun r x => gk.rd a17.view r x (by unfold ar; omega)

theorem q2_B (h0 : Sum8 (wQ Q DO K W L D7 (i 1).val) D0 (i 1).val D8 0) : Sum8 (wQ Q DO K W L D7 (i 1).val) D0 (i 1).val (a8.view.read (Elt Ideal) (a8.view.writes (Elt Ideal) (h8.unread D8) ((⟨Rect.unit (s := S1x128x8192) (k0_off12 i 2#32) S1x128x256.size (k0_off12_inb i 1), k0_pay145 (point_B.sl.v578 c i a2 h2 a3 h3 a4 h4 a5 h5 a6 h6 a7 h7 a8 h8 a11 a12 a13 a14 a17 a18 a19 Q K W DO L D7 D8) (point_B.sl.v580 c a3 h3 a19 K) (point_B.sl.v562 c i a2 h2 a3 h3 a4 h4 a5 h5 a6 h6 a7 h7 a12 a14 a18 Q K W DO L D7)⟩ :: point_B.sl.H8_3 c i a2 h2 a3 h3 a4 h4 a5 h5 a6 h6 a7 h7 a8 h8 a11 a12 a13 a14 a17 a18 a19 Q K W DO L D7 D8 : List (View.Piece (Elt Ideal) S1x128x8192 .f32))))) 2 := by
  have hp := q1_B c i a2 h2 a3 h3 a4 h4 a5 h5 a6 h6 a7 h7 a8 h8 a11 a13 a17 a19 Q K W DO L D7 h0
  have gk := (g1_ok c i h2 h3 h4 h5 h6 h7 a12 a14 Q DO K W L D7)
  unfold point_B.sl.v578 point_B.sl.H8_3 point_B.sl.v536
  refine Sum8.addHalf (v' := a8.view) (m := 768) (by decide) rfl hp (off10_eq i 1) (off12_eq i 1) (pay142_apply _ _ _) (pay145_apply _ _ _) (h0.rdU h8 (Nat.zero_le _) (off10_eq i 1)) ?_ ?_ ?_ ?_
  · exact fun d r => (kt_rd c h3 a19 K d r).trans (by rw [Nat.zero_add])
  · exact fun r x => gk.rd a18.view r x (by unfold ar; omega)
  · exact fun d r => kt_rd c h3 a19 K d r
  · exact fun r x => gk.rd a18.view r x (by unfold ar; omega)

theorem q3_B (h0 : Sum8 (wQ Q DO K W L D7 (i 1).val) D0 (i 1).val D8 0) : Sum8 (wQ Q DO K W L D7 (i 1).val) D0 (i 1).val (a8.view.read (Elt Ideal) (a8.view.writes (Elt Ideal) (h8.unread D8) ((⟨Rect.unit (s := S1x128x8192) (k0_off12 i 3#32) S1x128x256.size (k0_off12_inb i 2), k0_pay182 (point_B.sl.v866 c i a2 h2 a3 h3 a4 h4 a5 h5 a6 h6 a7 h7 a8 h8 a11 a12 a13 a14 a17 a18 a19 Q K W DO L D7 D8) (point_B.sl.v868 c a3 h3 a19 K) (point_B.sl.v850 c i a2 h2 a3 h3 a4 h4 a5 h5 a6 h6 a7 h7 a11 a13 a17 Q K W DO L D7)⟩ :: point_B.sl.H8_5 c i a2 h2 a3 h3 a4 h4 a5 h5 a6 h6 a7 h7 a8 h8 a11 a12 a13 a14 a17 a18 a19 Q K W DO L D7 D8 : List (View.Piece (Elt Ideal) S1x128x8192 .f32))))) 3 := by
  have hp := q2_B c i a2 h2 a3 h3 a4 h4 a5 h5 a6 h6 a7 h7 a8 h8 a11 a12 a13 a14 a17 a18 a19 Q K W DO L D7 h0
  have gk := (g2_ok c i h2 h3 h4 h5 h6 h7 a11 a13 Q DO K W L D7)
  unfold point_B.sl.v866 point_B.sl.H8_5 point_B.sl.v824
  refine Sum8.addHalf (v' := a8.view) (m := 1280) (by decide) rfl hp (off10_eq i 2) (off12_eq i 2) (pay178_apply _ _ _) (pay182_apply _ _ _) (h0.rdU h8 (Nat.zero_le _) (off10_eq i 2)) ?_ ?_ ?_ ?_
  · exact fun d r => (kt_rd c h3 a19 K d r).trans (by rw [Nat.zero_add])
  · exact fun r x => gk.rd a17.view r x (by unfold ar; omega)
  · exact fun d r => kt_rd c h3 a19 K d r
  · exact fun r x => gk.rd a17.view r x (by unfold ar; omega)

end Cert.Kernel2Ideal.Bwd
-- ==== Proof.VPointQ.lean ====
module
public import proofs.«01_k».proof.Proof.VPreQ
public import proofs.«01_k».proof.Proof.VPointK
public import Idealize.ShloMosaic.Lib.VecWindow
@[expose] public section
set_option maxRecDepth 16384
noncomputable section
namespace Cert.Kernel2Ideal.Bwd
open Cert.Kernel2Ideal Cert.Kernel2Ideal.Gen Idealize.ShloMosaic Idealize.ShloMosaic.TcCoe Idealize.SL.Sem

/-! A point's gradient of the queries. -/

/-- The table of keys. -/
theorem kt_all (c : Dev nD) {a3 : Memref sig .tc .vmem S1x2048x128 .bf16} (h3 : a3.IsWhole) (a19 : Memref sig .tc .vmem S128x2048 .bf16) (K : Vec Ideal S1x2048x128 .bf16) (d : Fin 128) (r : Fin 2048) :
    a19.view.read (Elt Ideal) (a19.view.writes (Elt Ideal) a19.view.junk (point_A.sl.H19_1 c a3 h3 K)) (ix2 d r) = kAt K (0 + r.val) d := by
  unfold point_A.sl.H19_1
  rw [View.read_writes_full, pay77_apply, rdk3 h3 K, Nat.zero_add]
  exact (kAt_val' K r d).symm

section Point
variable (c : Dev nD) (i : grid0.Coords) (a2 : Memref sig .tc .vmem S1x8192x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S1x8192x128 .bf16) (h5 : a5.IsWhole) (a6 : Memref sig .tc .vmem S1x1x8192 .f32) (h6 : a6.IsWhole) (a7 : Memref sig .tc .vmem S1x1x8192 .f32) (h7 : a7.IsWhole) (a8 : Memref sig .tc .vmem S1x128x8192 .f32) (h8 : a8.IsWhole) (a9 : Memref sig .tc .vmem S1x2048x128 .f32) (h9 : a9.IsWhole) (a10 : Memref sig .tc .vmem S1x2048x128 .f32) (h10 : a10.IsWhole) (a11 : Memref sig .tc .vmem S2048x512 .f32) (h11 : a11.IsWhole) (a12 : Memref sig .tc .vmem S2048x512 .f32) (h12 : a12.IsWhole) (a13 : Memref sig .tc .vmem S2048x512 .f32) (h13 : a13.IsWhole) (a14 : Memref sig .tc .vmem S2048x512 .f32) (h14 : a14.IsWhole) (a15 : Memref sig .tc .vmem S2048x512 .bf16) (h15 : a15.IsWhole) (a16 : Memref sig .tc .vmem S2048x512 .bf16) (h16 : a16.IsWhole) (a17 : Memref sig .tc .vmem S2048x512 .bf16) (h17 : a17.IsWhole) (a18 : Memref sig .tc .vmem S2048x512 .bf16) (h18 : a18.IsWhole) (a19 : Memref sig .tc .vmem S128x2048 .bf16) (h19 : a19.IsWhole) (Q : Vec Ideal S1x8192x128 .bf16) (K : Vec Ideal S1x2048x128 .bf16) (W : Vec Ideal S1x2048x128 .bf16) (DO : Vec Ideal S1x8192x128 .bf16) (L : Vec Ideal S1x1x8192 .f32) (D7 : Vec Ideal S1x1x8192 .f32)

/-- The tables before the loop of a point. -/
abbrev stA : St Ideal := ⟨a8.view.read (Elt Ideal) (a8.view.writes (Elt Ideal) a8.view.junk (⟨Rect.unit (s := S1x128x8192) (k0_off12 i 3#32) S1x128x256.size (k0_off12_inb i 2), k0_pay182 (point_A.sl.v866 c i a2 h2 a3 h3 a4 h4 a5 h5 a6 h6 a7 h7 a8 a11 a12 a13 a14 a17 a18 a19 Q K W DO L D7) (point_A.sl.v868 c a3 h3 a19 K) (point_A.sl.v850 c i a2 h2 a3 h3 a4 h4 a5 h5 a6 h6 a7 h7 a11 a13 a17 Q K W DO L D7)⟩ :: point_A.sl.H8_6 c i a2 h2 a3 h3 a4 h4 a5 h5 a6 h6 a7 h7 a8 a11 a12 a13 a14 a17 a18 a19 Q K W DO L D7)),
  a9.view.read (Elt Ideal) (a9.view.writes (Elt Ideal) a9.view.junk (point_A.sl.H9_7 c i a2 h2 a3 h3 a4 h4 a5 h5 a6 h6 a7 h7 a9 a11 a12 a13 a14 a17 a18 Q K W DO L D7)),
  a10.view.read (Elt Ideal) (a10.view.writes (Elt Ideal) a10.view.junk (point_A.sl.H10_7 c i a2 h2 a3 h3 a5 h5 a6 h6 a10 a11 a12 a15 a16 Q K DO L)),
  a11.view.read (Elt Ideal) (a11.view.writes (Elt Ideal) a11.view.junk (point_A.sl.H11_5 c i a2 h2 a3 h3 Q K)),
  a13.view.read (Elt Ideal) (a13.view.writes (Elt Ideal) a13.view.junk (point_A.sl.H13_5 c i a4 h4 a5 h5 W DO)),
  a16.view.read (Elt Ideal) (a16.view.writes (Elt Ideal) a16.view.junk (point_A.sl.H16_13 c i a2 h2 a3 h3 a6 h6 a12 Q K L)),
  a18.view.read (Elt Ideal) (a18.view.writes (Elt Ideal) a18.view.junk (point_A.sl.H18_13 c i a2 h2 a3 h3 a4 h4 a5 h5 a6 h6 a7 h7 a12 a14 Q K W DO L D7))⟩
/-- What a point leaves in the gradient of the queries. -/
abbrev resA : Vec Ideal S1x128x8192 .f32 := a8.view.read (Elt Ideal) (a8.view.writes (Elt Ideal) (h8.unread (loopSt c i a2 h2 a3 h3 a4 h4 a5 h5 a6 h6 a7 h7 a8 h8 a9 h9 a10 h10 a11 h11 a12 h12 a13 h13 a14 h14 a15 h15 a16 h16 a17 h17 a18 h18 a19 h19 (Scalar.muli 4#32 (BitVec.ofNat 32 (i 1).val)) Q K W DO L D7 (a19.view.read (Elt Ideal) (a19.view.writes (Elt Ideal) a19.view.junk (point_A.sl.H19_1 c a3 h3 K))) (stA c i a2 h2 a3 h3 a4 h4 a5 h5 a6 h6 a7 h7 a8 a9 a10 a11 a12 a13 a14 a15 a16 a17 a18 a19 Q K W DO L D7) (k0_t1_loop i).trips).d8)
      [⟨Rect.unit (s := S1x128x8192) ![0, 0, 7680] S1x128x512.size inb_S1x128x8192_S1x128x512_0_0_7680, k0_pay229 (point_A.sl.v1162 c i a2 h2 a3 h3 a4 h4 a5 h5 a6 h6 a7 h7 a8 h8 a9 h9 a10 h10 a11 h11 a12 h12 a13 h13 a14 h14 a15 h15 a16 h16 a17 h17 a18 h18 a19 h19 Q K W DO L D7) (point_A.sl.v1164 c a3 h3 a19 h19 K) (point_A.sl.v1150 c i a2 h2 a3 h3 a4 h4 a5 h5 a6 h6 a7 h7 a8 h8 a9 h9 a10 h10 a11 h11 a12 h12 a13 h13 a14 h14 a15 h15 a16 h16 a17 h17 a18 h18 a19 h19 Q K W DO L D7)⟩])
theorem dq_A : Sum8 (wQ Q DO K W L D7 (i 1).val) (fun _ _ => 0) (i 1).val (resA c i a2 h2 a3 h3 a4 h4 a5 h5 a6 h6 a7 h7 a8 h8 a9 h9 a10 h10 a11 h11 a12 h12 a13 h13 a14 h14 a15 h15 a16 h16 a17 h17 a18 h18 a19 h19 Q K W DO L D7) (16 - 4 * (i 1).val) := by
  delta resA point_A.sl.v1162 point_A.sl.v1164 point_A.sl.v1150
  exact dq_final c i a2 h2 a3 h3 a4 h4 a5 h5 a6 h6 a7 h7 a8 h8 a9 h9 a10 h10 a11 h11 a12 h12 a13 h13 a14 h14 a15 h15 a16 h16 a17 h17 a18 h18 a19 h19 _ Q K W DO L D7 _ (kt_all c h3 a19 K) _ (invK_A c i a2 h2 a3 h3 a4 h4 a5 h5 a6 h6 a7 h7 a9 a11 a12 a13 a14 a17 a18 Q K W DO L D7 _ rfl rfl rfl rfl) (q3_A c i a2 h2 a3 h3 a4 h4 a5 h5 a6 h6 a7 h7 a8 a11 a12 a13 a14 a17 a18 a19 Q K W DO L D7) _ rfl

variable (D8 : Vec Ideal S1x128x8192 .f32) {D0 : ℕ → Fin 128 → EReal}
/-- The tables before the loop of a point. -/
abbrev stB : St Ideal := ⟨a8.view.read (Elt Ideal) (a8.view.writes (Elt Ideal) (h8.unread D8) (⟨Rect.unit (s := S1x128x8192) (k0_off12 i 3#32) S1x128x256.size (k0_off12_inb i 2), k0_pay182 (point_B.sl.v866 c i a2 h2 a3 h3 a4 h4 a5 h5 a6 h6 a7 h7 a8 h8 a11 a12 a13 a14 a17 a18 a19 Q K W DO L D7 D8) (point_B.sl.v868 c a3 h3 a19 K) (point_B.sl.v850 c i a2 h2 a3 h3 a4 h4 a5 h5 a6 h6 a7 h7 a11 a13 a17 Q K W DO L D7)⟩ :: point_B.sl.H8_5 c i a2 h2 a3 h3 a4 h4 a5 h5 a6 h6 a7 h7 a8 h8 a11 a12 a13 a14 a17 a18 a19 Q K W DO L D7 D8)),
  a9.view.read (Elt Ideal) (a9.view.writes (Elt Ideal) a9.view.junk (point_B.sl.H9_7 c i a2 h2 a3 h3 a4 h4 a5 h5 a6 h6 a7 h7 a9 a11 a12 a13 a14 a17 a18 Q K W DO L D7)),
  a10.view.read (Elt Ideal) (a10.view.writes (Elt Ideal) a10.view.junk (point_B.sl.H10_7 c i a2 h2 a3 h3 a5 h5 a6 h6 a10 a11 a12 a15 a16 Q K DO L)),
  a11.view.read (Elt Ideal) (a11.view.writes (Elt Ideal) a11.view.junk (point_B.sl.H11_5 c i a2 h2 a3 h3 Q K)),
  a13.view.read (Elt Ideal) (a13.view.writes (Elt Ideal) a13.view.junk (point_B.sl.H13_5 c i a4 h4 a5 h5 W DO)),
  a16.view.read (Elt Ideal) (a16.view.writes (Elt Ideal) a16.view.junk (point_B.sl.H16_13 c i a2 h2 a3 h3 a6 h6 a12 Q K L)),
  a18.view.read (Elt Ideal) (a18.view.writes (Elt Ideal) a18.view.junk (point_B.sl.H18_13 c i a2 h2 a3 h3 a4 h4 a5 h5 a6 h6 a7 h7 a12 a14 Q K W DO L D7))⟩
/-- What a point leaves in the gradient of the queries. -/
abbrev resB : Vec Ideal S1x128x8192 .f32 := a8.view.read (Elt Ideal) (a8.view.writes (Elt Ideal) (h8.unread (loopSt c i a2 h2 a3 h3 a4 h4 a5 h5 a6 h6 a7 h7 a8 h8 a9 h9 a10 h10 a11 h11 a12 h12 a13 h13 a14 h14 a15 h15 a16 h16 a17 h17 a18 h18 a19 h19 (Scalar.muli 4#32 (BitVec.ofNat 32 (i 1).val)) Q K W DO L D7 (a19.view.read (Elt Ideal) (a19.view.writes (Elt Ideal) a19.view.junk (point_B.sl.H19_1 c a3 h3 K))) (stB c i a2 h2 a3 h3 a4 h4 a5 h5 a6 h6 a7 h7 a8 h8 a9 a10 a11 a12 a13 a14 a15 a16 a17 a18 a19 Q K W DO L D7 D8) (k0_t1_loop i).trips).d8)
      [⟨Rect.unit (s := S1x128x8192) ![0, 0, 7680] S1x128x512.size inb_S1x128x8192_S1x128x512_0_0_7680, k0_pay229 (point_B.sl.v1162 c i a2 h2 a3 h3 a4 h4 a5 h5 a6 h6 a7 h7 a8 h8 a9 h9 a10 h10 a11 h11 a12 h12 a13 h13 a14 h14 a15 h15 a16 h16 a17 h17 a18 h18 a19 h19 Q K W DO L D7 D8) (point_B.sl.v1164 c a3 h3 a19 h19 K) (point_B.sl.v1150 c i a2 h2 a3 h3 a4 h4 a5 h5 a6 h6 a7 h7 a8 h8 a9 h9 a10 h10 a11 h11 a12 h12 a13 h13 a14 h14 a15 h15 a16 h16 a17 h17 a18 h18 a19 h19 Q K W DO L D7 D8)⟩])
theorem dq_B (h0 : Sum8 (wQ Q DO K W L D7 (i 1).val) D0 (i 1).val D8 0): Sum8 (wQ Q DO K W L D7 (i 1).val) D0 (i 1).val (resB c i a2 h2 a3 h3 a4 h4 a5 h5 a6 h6 a7 h7 a8 h8 a9 h9 a10 h10 a11 h11 a12 h12 a13 h13 a14 h14 a15 h15 a16 h16 a17 h17 a18 h18 a19 h19 Q K W DO L D7 D8) (16 - 4 * (i 1).val) := by
  delta resB point_B.sl.v1162 point_B.sl.v1164 point_B.sl.v1150
  exact dq_final c i a2 h2 a3 h3 a4 h4 a5 h5 a6 h6 a7 h7 a8 h8 a9 h9 a10 h10 a11 h11 a12 h12 a13 h13 a14 h14 a15 h15 a16 h16 a17 h17 a18 h18 a19 h19 _ Q K W DO L D7 _ (kt_all c h3 a19 K) _ (invK_A c i a2 h2 a3 h3 a4 h4 a5 h5 a6 h6 a7 h7 a9 a11 a12 a13 a14 a17 a18 Q K W DO L D7 _ rfl rfl rfl rfl) (q3_B c i a2 h2 a3 h3 a4 h4 a5 h5 a6 h6 a7 h7 a8 h8 a11 a12 a13 a14 a17 a18 a19 Q K W DO L D7 h0) _ rfl

end Point

variable (m : (ℓ : Loc nD τ sig) → Buf (Elt Ideal) ℓ)
/-- The gradient of the queries among a point's results. -/
theorem outA_dq (c : Dev nD) (t : Fin cfg0.N) (h : t.val % 4 = 0) : (outA m c t h).1 = resA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) := by
  delta outA runA point_A
  with_reducible rfl
/-- The gradient of the queries among a point's results. -/
theorem outB_dq (c : Dev nD) (t : Fin cfg0.N) (h : ¬ t.val % 4 = 0) (D8) : (outB m c t h D8).1 = resB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) D8 := by
  delta outB runB point_B
  with_reducible rfl

/-- A point's keys, as the parts of a query's gradient. -/
def wP8 (c : Dev nD) (t : Fin cfg0.N) : ℕ → Fin 128 → EReal := wQ (iblk m c 0 t) (iblk m c 3 t) (iblk m c 1 t) (iblk m c 2 t) (iblk m c 4 t) (iblk m c 5 t) (grid0.coords t 1).val
/-- What the first point of a head leaves in the gradient of the queries. -/
theorem outs_dqA (c : Dev nD) (t : Fin cfg0.N) (h : t.val % 4 = 0) :
    Sum8 (wP8 m c t) (fun _ _ => 0) (grid0.coords t 1).val (outsAt0 m c t.val t.isLt).1 (16 - 4 * (grid0.coords t 1).val) := by
  rw [outsAt0_A m c t h, outA_dq m c t h]
  exact fun d q => dq_A ..
/-- What a later point of a head leaves in the gradient of the queries. -/
theorem outs_dqB (c : Dev nD) (t : Fin cfg0.N) (h : ¬ t.val % 4 = 0) {D0 : ℕ → Fin 128 → EReal}
    (h0 : Sum8 (wP8 m c t) D0 (grid0.coords t 1).val (outsAt0 m c (t.val - 1) (Nat.lt_of_le_of_lt (Nat.sub_le _ _) t.isLt)).1 0) :
    Sum8 (wP8 m c t) D0 (grid0.coords t 1).val (outsAt0 m c t.val t.isLt).1 (16 - 4 * (grid0.coords t 1).val) := by
  rw [outsAt0_B m c t h, outB_dq m c t h]
  exact fun d q => dq_B (h0 := h0) ..
end Cert.Kernel2Ideal.Bwd
-- ==== Proof.VBlkQ.lean ====
module
public import proofs.«01_k».proof.Proof.VBlkK
public import proofs.«01_k».proof.Proof.VPointQ
@[expose] public section
set_option maxRecDepth 16384
noncomputable section
namespace Cert.Kernel2Ideal.Bwd
open Cert.Kernel2Ideal Cert.Kernel2Ideal.Gen Idealize.ShloMosaic Idealize.ShloMosaic.TcCoe Idealize.SL.Sem
/-! The gradient of the queries after the run. -/
variable (m : (ℓ : Loc nD τ sig) → Buf (Elt Ideal) ℓ) (c : Dev nD)

/-- The gradient of a score from what the call finds. -/
def gK (h : Fin 8) (k q : Fin 8192) : EReal := (if q.val < k.val then 0 else Ideal.exp2 ((∑ e : Fin 128, ck m c h k e * cq m c h q e) - cl m c h q))
    * ((∑ e : Fin 128, cv m c h k e * cc m c h q e) - cp m c h q)
/-- A key's part of a query's gradient. -/
def tK (h : Fin 8) (d : Fin 128) (q : Fin 8192) (k : ℕ) : EReal := if hk : k < 8192 then ck m c h ⟨k, hk⟩ d * gK m c h ⟨k, hk⟩ q else 0
/-- The gradient of the queries from what the call finds. -/
def dqK (h : Fin 8) (d : Fin 128) (q : Fin 8192) : EReal := ∑ k : Fin 8192, ck m c h k d * gK m c h k q

/-- What a point adds to a query's gradient. -/
theorem part_eq (t : Fin cfg0.N) (d : Fin 128) (q : Fin 8192) :
    (if 2048 * (grid0.coords t 1).val ≤ q.val ∧ q.val < 2048 * (grid0.coords t 1).val + 512 * (16 - 4 * (grid0.coords t 1).val) then wP8 m c t (q.val - 2048 * (grid0.coords t 1).val) d else 0 : EReal)
      = ∑ r ∈ Finset.range 2048, tK m c (hd t) d q (2048 * (t.val % 4) + r) := by
  have ej := (idx_t t).2.2.2.2.2
  have hj : (grid0.coords t 1).val < 4 := (grid0.coords t 1).isLt
  rw [Finset.sum_range]
  have e4 : (lAt (iblk m c 4 t) q.val : EReal) = cl m c (hd t) q := (lAt_val _ _).trans (blk4 m c t q)
  have e5 : (lAt (iblk m c 5 t) q.val : EReal) = cp m c (hd t) q := (lAt_val _ _).trans (blk5 m c t q)
  have ek : ∀ r : Fin 2048, tK m c (hd t) d q (2048 * (t.val % 4) + r.val) = ck m c (hd t) (key t r) d * gK m c (hd t) (key t r) q := fun r => by
    unfold tK
    rw [dif_pos (by omega)]
    have : (⟨2048 * (t.val % 4) + r.val, by omega⟩ : Fin 8192) = key t r := Fin.ext (by show 2048 * (t.val % 4) + r.val = t.val % 4 * 2048 + r.val; omega)
    rw [this]
  by_cases hq : 2048 * (grid0.coords t 1).val ≤ q.val
  · rw [if_pos ⟨hq, by omega⟩]
    unfold wP8 wQ
    refine Finset.sum_congr rfl fun r _ => ((congrArg₂ (fun a b : EReal => a * b) ((kAt_val _ _ _).trans (blk1 m c t r d)) ?_).trans (ek r).symm)
    have es : (sc (iblk m c 0 t) (iblk m c 1 t) r.val q.val : EReal) = ∑ e : Fin 128, ck m c (hd t) (key t r) e * cq m c (hd t) q e :=
      Finset.sum_congr rfl fun x _ => congrArg₂ (fun a b : EReal => a * b) ((kAt_val _ _ _).trans (blk1 m c t r x)) ((qAt_val _ _ _).trans (blk0 m c t q x))
    have ev : (sc (iblk m c 3 t) (iblk m c 2 t) r.val q.val : EReal) = ∑ e : Fin 128, cv m c (hd t) (key t r) e * cc m c (hd t) q e :=
      Finset.sum_congr rfl fun x _ => congrArg₂ (fun a b : EReal => a * b) ((kAt_val _ _ _).trans (blk2 m c t r x)) ((qAt_val _ _ _).trans (blk3 m c t q x))
    unfold gq pr pe
    rw [show 2048 * (grid0.coords t 1).val + (q.val - 2048 * (grid0.coords t 1).val) = q.val by omega, e4, e5, es, ev]
    unfold gK
    refine congrArg (fun a : EReal => a * _) ?_
    show (if r.val ≤ q.val - 2048 * (grid0.coords t 1).val then Ideal.exp2 _ else 0 : EReal) = if q.val < t.val % 4 * 2048 + r.val then (0 : EReal) else Ideal.exp2 _
    by_cases hr : r.val ≤ q.val - 2048 * (grid0.coords t 1).val
    · rw [if_pos hr, if_neg (by omega)]
    · rw [if_neg hr, if_pos (by omega)]
  · rw [if_neg fun h => hq h.1]
    refine (Finset.sum_eq_zero fun r _ => ?_).symm
    rw [ek]
    unfold gK
    rw [if_pos (by show q.val < t.val % 4 * 2048 + r.val; omega), zero_mul, mul_zero]

/-- The gradient of the queries after a point. -/
theorem outs_dq : ∀ (n : ℕ) (hn : n < cfg0.N) (d : Fin 128) (q : Fin 8192), (outsAt0 m c n hn).1 (ix3 0 d q) = ∑ k ∈ Finset.range (2048 * (n % 4 + 1)), tK m c (hd ⟨n, hn⟩) d q k := by
  intro n
  induction n using Nat.strong_induction_on with
  | _ n ih =>
    intro hn d q
    by_cases h : n % 4 = 0
    · have h1 := outs_dqA m c ⟨n, hn⟩ h d q
      rw [part_eq] at h1
      refine h1.trans ?_
      rw [zero_add]
      show ∑ r ∈ Finset.range 2048, tK m c (hd ⟨n, hn⟩) d q (2048 * (n % 4) + r) = _
      rw [h, show 2048 * (0 + 1) = 2048 from rfl]
      exact Finset.sum_congr rfl fun r _ => by rw [show 2048 * 0 + r = r by omega]
    · have hp := ih (n - 1) (by omega) (by omega)
      have h1 := outs_dqB m c ⟨n, hn⟩ h (D0 := fun q d => if hq : q < 8192 then (outsAt0 m c (n - 1) (by omega)).1 (ix3 0 d ⟨q, hq⟩) else 0) (fun d q => by
        beta_reduce
        rw [dif_pos q.isLt, if_neg (by omega), add_zero]) d q
      beta_reduce at h1
      rw [part_eq, dif_pos q.isLt] at h1
      refine h1.trans ?_
      rw [show (⟨q.val, q.isLt⟩ : Fin 8192) = q from rfl, hp d q, show 2048 * (n % 4 + 1) = 2048 * (n % 4) + 2048 by omega, Finset.sum_range_add,
        show (n - 1) % 4 + 1 = n % 4 by omega, show hd ⟨n - 1, by omega⟩ = hd ⟨n, hn⟩ from Fin.ext (by show (n - 1) / 4 = n / 4; omega)]

theorem idx_q : ∀ t : Fin cfg0.N, win0_6.index t = ![t.val / 4, 0, 0] := (by decide +kernel : ∀ t : Fin grid0.N, _)
theorem flush_q : ∀ t : Fin cfg0.N, (cfg0.win 6).flush t = true → t.val % 4 = 3 := (by decide +kernel : ∀ t : Fin grid0.N, _)

theorem final6 : (dats m 0 c).arrAt 6 cfg0.N = fun y => dqK m c (y 0) (y 1) (y 2) := by
  refine (dats m 0 c).arrAt_eq_of_covers 6 _ (by decide +kernel) fun t hf y => ?_
  have e0 : ((cfg0.win 6).blk t).view.emb y 0 = hd t := Fin.ext (by blk_simp [idx_q t]; try rfl)
  have e1 : ((cfg0.win 6).blk t).view.emb y 1 = y 1 := Fin.ext (by blk_simp [idx_q t])
  have e2 : ((cfg0.win 6).blk t).view.emb y 2 = y 2 := Fin.ext (by blk_simp [idx_q t])
  beta_reduce
  rw [e0, e1, e2]
  blk_simp [idx_q t]
  rw [after0_6]
  refine (congrArg (outsAt0 m c t.val t.isLt).1 (show y = ix3 0 (y 1) (y 2) from funext fun a => match a with | ⟨0, _⟩ => Subsingleton.elim (α := Fin 1) _ _ | ⟨1, _⟩ => rfl | ⟨2, _⟩ => rfl)).trans ((outs_dq m c t.val t.isLt (y 1) (y 2)).trans ?_)
  rw [flush_q t hf, Finset.sum_range]
  exact Finset.sum_congr rfl fun k _ => dif_pos k.isLt
end Cert.Kernel2Ideal.Bwd
-- ==== Proof.VRefQ.lean ====
module
public import proofs.«01_k».proof.Proof.VRefK
@[expose] public section
set_option maxRecDepth 16384
noncomputable section
namespace Cert.Reference2Ideal.Bwd
open Cert.Reference2Ideal Cert.Reference2Ideal.Gen Cert.Reference2Ideal.Read Idealize.ShloMosaic Idealize.ShloMosaic.TcCoe Idealize.SL.Sem
open Cert.Kernel2Ideal.Bwd (sitofp_zero)
/-! The reference's gradient of the queries at an index. -/
variable (x0 x1 : FVec Ideal S8192x8x96 .f32) (x2 x3 : FVec Ideal S8192x8x64 .f32)

theorem v61_eq (h : Fin 8) (q : Fin 8192) (d : Fin 96) : val_main_v61 (F := Ideal) x0 x1 x2 x3 (ix3 h q d)
    = ∑ k : Fin 8192, gs x0 x1 x2 x3 (ix3 h q k) * x1 (ix3 k h d) := by
  rw [val_main_v61_apply]
  refine Finset.sum_congr rfl fun k _ => ?_
  exact congrArg₂ (fun a b : EReal => a * b) (congrArg (gs x0 x1 x2 x3) (i3 _ h q k rfl rfl rfl)) (congrArg x1 (i3 _ k h d rfl rfl rfl))
theorem v64_eq (h : Fin 8) (d : Fin 128) (q : Fin 8192) : val_main_v64 (F := Ideal) x0 x1 x2 x3 (ix3 h d q) = (if hd : d.val < 96 then val_main_v61 (F := Ideal) x0 x1 x2 x3 (ix3 h q ⟨d.val, hd⟩) else 0 : EReal) := by
  unfold val_main_v64 val_main_v63 val_main_v62 val_main_call2_v0 val_main_c
  generalize val_main_v61 (F := Ideal) x0 x1 x2 x3 = y
  pointwise
  rw [sitofp_zero]
end Cert.Reference2Ideal.Bwd
-- ==== Proof.VEqQ.lean ====
module
public import proofs.«01_k».proof.Proof.VEqK
public import proofs.«01_k».proof.Proof.VBlkQ
public import proofs.«01_k».proof.Proof.VRefQ
@[expose] public section
set_option maxRecDepth 16384
noncomputable section
namespace Cert.Kernel2Ideal.Bwd
open Cert.Kernel2Ideal Cert.Kernel2Ideal.Gen Idealize.ShloMosaic Idealize.ShloMosaic.TcCoe Idealize.SL.Sem
open Cert.Reference2Ideal.Bwd (gs gw v36_eq v58_eq v61_eq v64_eq)
open Cert.Tail (Fnt grad_eq)
/-! The two gradients of the queries are one. -/
variable (m : (ℓ : Loc nD τ sig) → Buf (Elt Ideal) ℓ) (c : Dev nD)

/-- The two gradients of a score are one. -/
theorem gK_eq (hq : ∀ i, Fnt (aq m c i)) (hk : ∀ i, Fnt (ak m c i)) (hv : ∀ i, Fnt (av m c i)) (hc : ∀ i, Fnt (ac m c i)) (h : Fin 8) (k q : Fin 8192) :
    gK m c h k q = gs (aq m c) (ak m c) (av m c) (ac m c) (ix3 h q k) := by
  obtain ⟨E, T, hT, hE, hs, h0⟩ := soft_fnt m c hq hk h q
  obtain ⟨r, h1, h2⟩ := grad_eq k E T hT (q.val < k.val) (h0 k) (fun e => ac m c (ix3 q h e)) (fun j e => av m c (ix3 j h e)) (fun e => hc _) (fun j e => hv _)
  have hw : ∀ j, Cert.Reference2Ideal.Read.val_main_v36 (F := Ideal) (aq m c) (ak m c) (ix3 h q j) = Ideal.div (E j : EReal) (T : EReal) := fun j => by
    rw [← hE j, ← hs]; exact v36_eq _ _ h q j
  refine Eq.trans (b := (r : EReal)) ?_ (Eq.symm ?_)
  · unfold gK
    rw [weight_eq m c hq hk, hw k, val_eq]
    have ep : cp m c h q = _ := h_v32 m c h q
    rw [ep, Finset.sum_congr rfl fun e _ => congrArg (fun a : EReal => ac m c (ix3 q h e) * a) (Finset.sum_congr rfl fun j _ => congrArg (fun a : EReal => av m c (ix3 j h e) * a) (hw j))]
    exact h1
  · refine (v58_eq _ _ _ _ h q k).trans ?_
    rw [hs, hE k, Finset.sum_congr rfl fun j _ => congrArg (fun a : EReal => gw (av m c) (ac m c) h q j * _ * a) (hE j)]
    exact h2

theorem dq_eq (hq : ∀ i, Fnt (aq m c i)) (hk : ∀ i, Fnt (ak m c i)) (hv : ∀ i, Fnt (av m c i)) (hc : ∀ i, Fnt (ac m c i)) (h : Fin 8) (d : Fin 128) (q : Fin 8192) :
    dqK m c h d q = Cert.Reference2Ideal.Read.val_main_v64 (F := Ideal) (aq m c) (ak m c) (av m c) (ac m c) (ix3 h d q) := by
  rw [v64_eq]
  unfold dqK
  have e : ∀ k, ck m c h k d = _ := fun k => h_v40 m c h k d
  by_cases hd : d.val < 96
  · rw [dif_pos hd, v61_eq]
    refine Finset.sum_congr rfl fun k _ => ?_
    rw [e, dif_pos hd, gK_eq m c hq hk hv hc, mul_comm]
  · rw [dif_neg hd]
    refine Finset.sum_eq_zero fun k _ => ?_
    rw [e, dif_neg hd, zero_mul]
end Cert.Kernel2Ideal.Bwd
-- ==== Proof.VPre3.lean ====
module
public import proofs.«01_k».proof.Proof.Pre
public import proofs.«01_k».proof.Proof.Gen.Pre_finite3
@[expose] public section
noncomputable section
namespace Cert.Pre_finite3.Bwd
open Cert.Pre_finite3 Idealize.ShloMosaic Idealize.ShloMosaic.TcCoe Idealize.SL.Sem
open Cert.Tail (Fnt)
/-! What the precondition says of the arguments: every entry of the four is a real number. -/
theorem ok (x0 x1 : FVec Ideal S8192x8x96 .f32) (x2 x3 : FVec Ideal S8192x8x64 .f32) (h : fn (F := Ideal) x0 x1 x2 x3 = fun _ => 1#1) : ((∀ i, Fnt (x0 i)) ∧ ∀ i, Fnt (x1 i)) ∧ (∀ i, Fnt (x2 i)) ∧ ∀ i, Fnt (x3 i) := by
  have j : S_.Idx := fun i => i.elim0
  have h := congrFun h j
  dsimp only [fn, fn_part1] at h
  obtain ⟨h, h3⟩ := Cert.Pre_finite.Tail.andi_split _ _ _ h
  obtain ⟨h, h2⟩ := Cert.Pre_finite.Tail.andi_split _ _ _ h
  obtain ⟨h0, h1⟩ := Cert.Pre_finite.Tail.andi_split _ _ _ h
  exact ⟨⟨fun i => Cert.Pre_finite.Tail.fnt_of_all x0 _ _ _ _ j h0 i, fun i => Cert.Pre_finite.Tail.fnt_of_all x1 _ _ _ _ j h1 i⟩,
    fun i => Cert.Pre_finite.Tail.fnt_of_all x2 _ _ _ _ j h2 i, fun i => Cert.Pre_finite.Tail.fnt_of_all x3 _ _ _ _ j h3 i⟩
end Cert.Pre_finite3.Bwd
-- ==== Proof.VFinW.lean ====
module
public import proofs.«01_k».proof.Proof.VEqK
public import proofs.«01_k».proof.Proof.VEqQ
public import proofs.«01_k».proof.Proof.VFin
public import proofs.«01_k».proof.Proof.VPre3
@[expose] public section
set_option maxRecDepth 16384
noncomputable section
namespace Cert.Kernel2Ideal.Bwd
open Cert.Kernel2Ideal Cert.Kernel2Ideal.Gen Idealize.ShloMosaic Idealize.ShloMosaic.TcCoe Idealize.SL.Sem
open Cert.Reference2Ideal.Read (val_main_v64 val_main_v66 val_main_v68)
/-! The claim of the whole call. -/

/-- The gradients of the queries, of the keys and of the values after the call are the reference's. -/
theorem algebraicAll : Cert.algebraic_Kernel2Ideal_Reference2Ideal_pre_finite3 := by
  intro m g m' g' hpre hm
  have hok := fun c : Dev nD => Cert.Pre_finite3.Bwd.ok _ _ _ _ (hpre c)
  refine ⟨fun c => val_main_v64 (F := Ideal) (aq m c) (ak m c) (av m c) (ac m c),
    fun c => val_main_v66 (F := Ideal) (aq m c) (ak m c) (av m c) (ac m c),
    fun c => val_main_v68 (F := Ideal) (aq m c) (ak m c) (ac m c), ?_, ?_⟩
  · refine (θ_run _ _ _).mono (fun r h c => ?_) (θ_run_and (unchanged m g) (run_main m g))
    obtain ⟨⟨hq, hk⟩, hv, hc⟩ := hok c
    refine ⟨funext fun i => ?_, funext fun i => ?_, funext fun i => ?_, h.1 c⟩
    · refine (congrFun (((h.2 c).1 6).trans (final6 m c)) i).trans ((dq_eq m c hq hk hv hc (i 0) (i 1) (i 2)).trans ?_)
      exact congrArg (val_main_v64 (F := Ideal) (aq m c) (ak m c) (av m c) (ac m c)) (Cert.Reference2Ideal.Bwd.i3 i _ _ _ rfl rfl rfl).symm
    · refine (congrFun (((h.2 c).1 7).trans (final7 m c)) i).trans ((dk_eq m c hq hk hv hc (i 0) (i 1) (i 2)).trans ?_)
      exact congrArg (val_main_v66 (F := Ideal) (aq m c) (ak m c) (av m c) (ac m c)) (Cert.Reference2Ideal.Bwd.i3 i _ _ _ rfl rfl rfl).symm
    · refine (congrFun (((h.2 c).1 8).trans (final8 m c)) i).trans ((dv_eq m c hq hk (i 0) (i 1) (i 2)).trans ?_)
      exact congrArg (val_main_v68 (F := Ideal) (aq m c) (ak m c) (ac m c)) (Cert.Reference2Ideal.Bwd.i3 i _ _ _ rfl rfl rfl).symm
  · refine (θ_run _ _ _).mono (fun r h c => ?_) (Cert.Reference2Ideal.Value.run (F := Ideal) m' g')
    obtain ⟨h0, h1, h2, h3⟩ := h c
    obtain ⟨a0, a1, a2, a3⟩ := hm c
    refine ⟨h0.trans ((Cert.Reference2Ideal.Read.val_main_v64_eq m' c).trans ?_),
      h1.trans ((Cert.Reference2Ideal.Read.val_main_v66_eq m' c).trans ?_),
      h2.trans ((Cert.Reference2Ideal.Read.val_main_v68_eq m' c).trans ?_), h3⟩
    · rw [a0, a1, a2, a3]
    · rw [a0, a1, a2, a3]
    · rw [a0, a1, a3]
end Cert.Kernel2Ideal.Bwd
-- ==== Proof.WTrip.lean ====
/-
  One trip of the pair of passes, and the loop as a sequence of states.
-/
module

public import proofs.«01_k».proof.Proof.Gen.Kernel3Ideal.Frame
public import proofs.«01_k».proof.Proof.Gen.Kernel3Ideal.Loops
public import Idealize.ShloMosaic.Lib.LoopRemainder

@[expose] public section

set_option maxRecDepth 16384

noncomputable section

namespace Cert.Kernel3Ideal.Fwd

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A buffer's contents. -/
abbrev B (F : FTy → Type) (c : Dev nD) {s : Shape} {e : EltTy} (a : Memref sig .tc .vmem s e) := Buf (Elt F) (a.view.loc (c : Thread nD τ))

/-- A buffer held at some contents is owned at what it reads. -/
theorem owns_read (c : Dev nD) {s : Shape} {e : EltTy} (a : Memref sig .tc .vmem s e) (f : B F c a) : (a.view.loc (c : Thread nD τ) ↦[a.view.set]{fullShare} f : sProp 𝕄) ⊢ owns (c : Thread nD τ) a fullShare (a.view.read (Elt F) f) := by
  unfold owns
  iintro H
  iexists _
  isplitr
  · ipureintro; rfl
  iexact H

variable (c : Dev nD) (i : grid0.Coords)
  (a2 : Memref sig .tc .vmem S1x2048x128 .bf16) (h2 : a2.IsWhole)
  (a3 : Memref sig .tc .vmem S1x8192x128 .bf16) (h3 : a3.IsWhole)
  (a4 : Memref sig .tc .vmem S1x128x8192 .bf16) (h4 : a4.IsWhole)
  (a5 : Memref sig .tc .vmem S1x2048x128 .f32) (h5 : a5.IsWhole)
  (a6 : Memref sig .tc .vmem S1x1x2048 .f32) (h6 : a6.IsWhole)
  (a7 : Memref sig .tc .vmem S512x2048 .f32) (h7 : a7.IsWhole)
  (a8 : Memref sig .tc .vmem S512x2048 .f32) (h8 : a8.IsWhole)
  (a9 : Memref sig .tc .vmem S512x2048 .bf16) (h9 : a9.IsWhole)
  (a10 : Memref sig .tc .vmem S512x2048 .bf16) (h10 : a10.IsWhole)
  (a11 : Memref sig .tc .vmem S1x2048 .f32) (h11 : a11.IsWhole)
  (a12 : Memref sig .tc .vmem S1x2048 .f32) (h12 : a12.IsWhole)
  (a13 : Memref sig .tc .vmem S1x2048 .f32) (h13 : a13.IsWhole)
  (a14 : Memref sig .tc .vmem S1x2048 .f32) (h14 : a14.IsWhole)
  (a15 : Memref sig .tc .vmem S80x2048 .f32) (h15 : a15.IsWhole)

set_option maxHeartbeats 4000000 in
/-- What one trip leaves in the tables the next trip reads. The inputs stay; the other tables may hold anything. -/
noncomputable def trip (x2 : Vec F S1x2048x128 .bf16) (x3 : Vec F S1x8192x128 .bf16) (x4 : Vec F S1x128x8192 .bf16) (k : Fin (k0_t1_loop i).trips) (d7 : Vec F S512x2048 .f32) (d10 : Vec F S512x2048 .bf16) (d11 : Vec F S1x2048 .f32) (d13 : Vec F S1x2048 .f32) (d14 : Vec F S1x2048 .f32) (d15 : Vec F S80x2048 .f32) :
    Σ' (g7 : B F c a7), Σ' (g10 : B F c a10), Σ' (g11 : B F c a11), Σ' (g13 : B F c a13), Σ' (g14 : B F c a14), { g15 : B F c a15 //
      ∀ (v : BitVec 32) (v27 : FVec F S80x2048 .f32) (v28 : Vec F S80x2048 .f32) (acc : BitVec 32) (E : Set ℕ) (K : BitVec 32 → sProp 𝕄),
        iprop(owns (c : Thread nD τ) a2 fullShare x2 ∗ owns (c : Thread nD τ) a3 fullShare x3 ∗ owns (c : Thread nD τ) a4 fullShare x4 ∗ owns (c : Thread nD τ) a7 fullShare d7 ∗ owns (c : Thread nD τ) a10 fullShare d10 ∗ owns (c : Thread nD τ) a11 fullShare d11 ∗ owns (c : Thread nD τ) a13 fullShare d13 ∗ owns (c : Thread nD τ) a14 fullShare d14 ∗ owns (c : Thread nD τ) a15 fullShare d15 ∗ (∃ f, (a8.view.loc (c : Thread nD τ) ↦[a8.view.set]{fullShare} f)) ∗ (∃ f, (a9.view.loc (c : Thread nD τ) ↦[a9.view.set]{fullShare} f)) ∗ (∃ f, (a12.view.loc (c : Thread nD τ) ↦[a12.view.set]{fullShare} f))
            ∗ (∀ a, iprop(owns (c : Thread nD τ) a2 fullShare x2 ∗ owns (c : Thread nD τ) a3 fullShare x3 ∗ owns (c : Thread nD τ) a4 fullShare x4 ∗ (a7.view.loc (c : Thread nD τ) ↦[a7.view.set]{fullShare} g7) ∗ (a10.view.loc (c : Thread nD τ) ↦[a10.view.set]{fullShare} g10) ∗ (a11.view.loc (c : Thread nD τ) ↦[a11.view.set]{fullShare} g11) ∗ (a13.view.loc (c : Thread nD τ) ↦[a13.view.set]{fullShare} g13) ∗ (a14.view.loc (c : Thread nD τ) ↦[a14.view.set]{fullShare} g14) ∗ (a15.view.loc (c : Thread nD τ) ↦[a15.view.set]{fullShare} g15) ∗ (∃ f, (a8.view.loc (c : Thread nD τ) ↦[a8.view.set]{fullShare} f)) ∗ (∃ f, (a9.view.loc (c : Thread nD τ) ↦[a9.view.set]{fullShare} f)) ∗ (∃ f, (a12.view.loc (c : Thread nD τ) ↦[a12.view.set]{fullShare} f))) -∗ K a))
          ⊢ wp frame (wpE (defs₀ (F := F)) Variants.none c none) E (k0_t1_body (F := F) i a2 h2 a3 h3 a4 h4 a5 h5 a6 h6 a7 h7 a8 h8 a9 h9 a10 h10 a11 h11 a12 h12 a13 h13 a14 h14 a15 h15 v v27 v28 k acc) K } := by
  refine ⟨?_, ?_, ?_, ?_, ?_, ?_, fun v v27 v28 acc E K => ?run⟩
  case run =>
    unfold k0_t1_body
    simp only [k0_part1_eq_skeleton, k0_part2_eq_skeleton, k0_part3_eq_skeleton]
    unfold owns
    iintro ⟨⟨%f2, %e2, H2⟩, ⟨%f3, %e3, H3⟩, ⟨%f4, %e4, H4⟩, ⟨%f7, %e7, H7⟩, ⟨%f10, %e10, H10⟩, ⟨%f11, %e11, H11⟩, ⟨%f13, %e13, H13⟩, ⟨%f14, %e14, H14⟩, ⟨%f15, %e15, H15⟩, ⟨%f8, H8⟩, ⟨%f9, H9⟩, ⟨%f12, H12⟩, Hk⟩
    obtain rfl := h2.eq_unread e2; obtain rfl := h3.eq_unread e3; obtain rfl := h4.eq_unread e4; obtain rfl := h7.eq_unread e7; obtain rfl := h10.eq_unread e10; obtain rfl := h11.eq_unread e11; obtain rfl := h13.eq_unread e13; obtain rfl := h14.eq_unread e14; obtain rfl := h15.eq_unread e15
    sl_exec
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H7]; · iexact H7
    isplitl [H10]; · iexact H10
    isplitl [H11]; · iexact H11
    isplitl [H13]; · iexact H13
    isplitl [H14]; · iexact H14
    isplitl [H15]; · iexact H15
    isplitl [H8]; · iexists _; iexact H8
    isplitl [H9]; · iexists _; iexact H9
    iexists _; iexact H12

/-- What a trip finds and leaves in the tables it reads. -/
structure St (F : FTy → Type) where
  d7 : Vec F S512x2048 .f32
  d10 : Vec F S512x2048 .bf16
  d11 : Vec F S1x2048 .f32
  d13 : Vec F S1x2048 .f32
  d14 : Vec F S1x2048 .f32
  d15 : Vec F S80x2048 .f32

/-- The state after trip `k`. -/
def nextSt (x2 : Vec F S1x2048x128 .bf16) (x3 : Vec F S1x8192x128 .bf16) (x4 : Vec F S1x128x8192 .bf16) (k : Fin (k0_t1_loop i).trips) (s : St F) : St F :=
  let r := trip c i a2 h2 a3 h3 a4 h4 a5 h5 a6 h6 a7 h7 a8 h8 a9 h9 a10 h10 a11 h11 a12 h12 a13 h13 a14 h14 a15 h15 x2 x3 x4 k s.d7 s.d10 s.d11 s.d13 s.d14 s.d15
  ⟨a7.view.read (Elt F) r.1, a10.view.read (Elt F) r.2.1, a11.view.read (Elt F) r.2.2.1, a13.view.read (Elt F) r.2.2.2.1, a14.view.read (Elt F) r.2.2.2.2.1, a15.view.read (Elt F) r.2.2.2.2.2.1⟩

/-- The state before trip `n`, from the state before the first. -/
def loopSt (x2 : Vec F S1x2048x128 .bf16) (x3 : Vec F S1x8192x128 .bf16) (x4 : Vec F S1x128x8192 .bf16) (s : St F) : ℕ → St F
  | 0 => s
  | n + 1 => if h : n < (k0_t1_loop i).trips then nextSt c i a2 h2 a3 h3 a4 h4 a5 h5 a6 h6 a7 h7 a8 h8 a9 h9 a10 h10 a11 h11 a12 h12 a13 h13 a14 h14 a15 h15 x2 x3 x4 ⟨n, h⟩ (loopSt x2 x3 x4 s n) else loopSt x2 x3 x4 s n

/-- The buffers at a state: the inputs at their contents, the other tables at anything. -/
def inv (x2 : Vec F S1x2048x128 .bf16) (x3 : Vec F S1x8192x128 .bf16) (x4 : Vec F S1x128x8192 .bf16) (s : St F) : sProp 𝕄 :=
  iprop(owns (c : Thread nD τ) a2 fullShare x2 ∗ owns (c : Thread nD τ) a3 fullShare x3 ∗ owns (c : Thread nD τ) a4 fullShare x4 ∗ owns (c : Thread nD τ) a7 fullShare s.d7 ∗ owns (c : Thread nD τ) a10 fullShare s.d10 ∗ owns (c : Thread nD τ) a11 fullShare s.d11 ∗ owns (c : Thread nD τ) a13 fullShare s.d13 ∗ owns (c : Thread nD τ) a14 fullShare s.d14 ∗ owns (c : Thread nD τ) a15 fullShare s.d15 ∗ (∃ f, (a8.view.loc (c : Thread nD τ) ↦[a8.view.set]{fullShare} f)) ∗ (∃ f, (a9.view.loc (c : Thread nD τ) ↦[a9.view.set]{fullShare} f)) ∗ (∃ f, (a12.view.loc (c : Thread nD τ) ↦[a12.view.set]{fullShare} f)))

set_option maxHeartbeats 1000000 in
/-- One trip takes the buffers from the state before it to the state after it. -/
theorem loop_step (v : BitVec 32) (v27 : FVec F S80x2048 .f32) (v28 : Vec F S80x2048 .f32) (x2 : Vec F S1x2048x128 .bf16) (x3 : Vec F S1x8192x128 .bf16) (x4 : Vec F S1x128x8192 .bf16) (s : St F) (k : Fin (k0_t1_loop i).trips) (acc : BitVec 32) (E : Set ℕ) :
    inv c a2 a3 a4 a7 a8 a9 a10 a11 a12 a13 a14 a15 x2 x3 x4 (loopSt c i a2 h2 a3 h3 a4 h4 a5 h5 a6 h6 a7 h7 a8 h8 a9 h9 a10 h10 a11 h11 a12 h12 a13 h13 a14 h14 a15 h15 x2 x3 x4 s k.val) ⊢ wp frame (wpE (defs₀ (F := F)) Variants.none c none) E (k0_t1_body (F := F) i a2 h2 a3 h3 a4 h4 a5 h5 a6 h6 a7 h7 a8 h8 a9 h9 a10 h10 a11 h11 a12 h12 a13 h13 a14 h14 a15 h15 v v27 v28 k acc)
      (fun _ => inv c a2 a3 a4 a7 a8 a9 a10 a11 a12 a13 a14 a15 x2 x3 x4 (loopSt c i a2 h2 a3 h3 a4 h4 a5 h5 a6 h6 a7 h7 a8 h8 a9 h9 a10 h10 a11 h11 a12 h12 a13 h13 a14 h14 a15 h15 x2 x3 x4 s (k.val + 1))) := by
  have e : loopSt c i a2 h2 a3 h3 a4 h4 a5 h5 a6 h6 a7 h7 a8 h8 a9 h9 a10 h10 a11 h11 a12 h12 a13 h13 a14 h14 a15 h15 x2 x3 x4 s (k.val + 1) = nextSt c i a2 h2 a3 h3 a4 h4 a5 h5 a6 h6 a7 h7 a8 h8 a9 h9 a10 h10 a11 h11 a12 h12 a13 h13 a14 h14 a15 h15 x2 x3 x4 k (loopSt c i a2 h2 a3 h3 a4 h4 a5 h5 a6 h6 a7 h7 a8 h8 a9 h9 a10 h10 a11 h11 a12 h12 a13 h13 a14 h14 a15 h15 x2 x3 x4 s k.val) := by rw [loopSt, dif_pos k.isLt]
  rw [e]
  generalize loopSt c i a2 h2 a3 h3 a4 h4 a5 h5 a6 h6 a7 h7 a8 h8 a9 h9 a10 h10 a11 h11 a12 h12 a13 h13 a14 h14 a15 h15 x2 x3 x4 s k.val = s
  refine BIBase.Entails.trans ?_ ((trip c i a2 h2 a3 h3 a4 h4 a5 h5 a6 h6 a7 h7 a8 h8 a9 h9 a10 h10 a11 h11 a12 h12 a13 h13 a14 h14 a15 h15 x2 x3 x4 k s.d7 s.d10 s.d11 s.d13 s.d14 s.d15).2.2.2.2.2.2 v v27 v28 acc E _)
  unfold inv
  iintro ⟨H2, H3, H4, H7, H10, H11, H13, H14, H15, H8, H9, H12⟩
  isplitl [H2]; · iexact H2
  isplitl [H3]; · iexact H3
  isplitl [H4]; · iexact H4
  isplitl [H7]; · iexact H7
  isplitl [H10]; · iexact H10
  isplitl [H11]; · iexact H11
  isplitl [H13]; · iexact H13
  isplitl [H14]; · iexact H14
  isplitl [H15]; · iexact H15
  isplitl [H8]; · iexact H8
  isplitl [H9]; · iexact H9
  isplitl [H12]; · iexact H12
  iintro %a ⟨H2, H3, H4, H7, H10, H11, H13, H14, H15, H8, H9, H12⟩
  isplitl [H2]; · iexact H2
  isplitl [H3]; · iexact H3
  isplitl [H4]; · iexact H4
  isplitl [H7]; · iapply (owns_read c a7 _) $$ H7
  isplitl [H10]; · iapply (owns_read c a10 _) $$ H10
  isplitl [H11]; · iapply (owns_read c a11 _) $$ H11
  isplitl [H13]; · iapply (owns_read c a13 _) $$ H13
  isplitl [H14]; · iapply (owns_read c a14 _) $$ H14
  isplitl [H15]; · iapply (owns_read c a15 _) $$ H15
  isplitl [H8]; · iexact H8
  isplitl [H9]; · iexact H9
  iexact H12

end Cert.Kernel3Ideal.Fwd

end
-- ==== Proof.WPoint.lean ====
/-
  The whole body at a point, as found by its run.
-/
module

public import proofs.«01_k».proof.Proof.WTrip

@[expose] public section

set_option maxRecDepth 16384

noncomputable section

namespace Cert.Kernel3Ideal.Fwd

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (a2 : Memref sig .tc .vmem S1x2048x128 .bf16) (h2 : a2.IsWhole)
  (a3 : Memref sig .tc .vmem S1x8192x128 .bf16) (h3 : a3.IsWhole)
  (a4 : Memref sig .tc .vmem S1x128x8192 .bf16) (h4 : a4.IsWhole)
  (a5 : Memref sig .tc .vmem S1x2048x128 .f32) (h5 : a5.IsWhole)
  (a6 : Memref sig .tc .vmem S1x1x2048 .f32) (h6 : a6.IsWhole)
  (a7 : Memref sig .tc .vmem S512x2048 .f32) (h7 : a7.IsWhole)
  (a8 : Memref sig .tc .vmem S512x2048 .f32) (h8 : a8.IsWhole)
  (a9 : Memref sig .tc .vmem S512x2048 .bf16) (h9 : a9.IsWhole)
  (a10 : Memref sig .tc .vmem S512x2048 .bf16) (h10 : a10.IsWhole)
  (a11 : Memref sig .tc .vmem S1x2048 .f32) (h11 : a11.IsWhole)
  (a12 : Memref sig .tc .vmem S1x2048 .f32) (h12 : a12.IsWhole)
  (a13 : Memref sig .tc .vmem S1x2048 .f32) (h13 : a13.IsWhole)
  (a14 : Memref sig .tc .vmem S1x2048 .f32) (h14 : a14.IsWhole)
  (a15 : Memref sig .tc .vmem S80x2048 .f32) (h15 : a15.IsWhole)

set_option maxHeartbeats 8000000 in
/-- What the body has in the tables before its loop and leaves in the two results at a point. -/
noncomputable def point (x2 : Vec F S1x2048x128 .bf16) (x3 : Vec F S1x8192x128 .bf16) (x4 : Vec F S1x128x8192 .bf16) :
    Σ' (p7 : B F c a7), Σ' (p10 : B F c a10), Σ' (p11 : B F c a11), Σ' (p13 : B F c a13), Σ' (p14 : B F c a14), Σ' (p15 : B F c a15), Σ' (g5 : B F c a5), { g6 : B F c a6 //
      ∀ (E : Set ℕ) (K : PUnit → sProp 𝕄),
        iprop(owns (c : Thread nD τ) a2 fullShare x2 ∗ owns (c : Thread nD τ) a3 fullShare x3 ∗ owns (c : Thread nD τ) a4 fullShare x4 ∗ (∃ f, (a5.view.loc (c : Thread nD τ) ↦[a5.view.set]{fullShare} f)) ∗ (∃ f, (a6.view.loc (c : Thread nD τ) ↦[a6.view.set]{fullShare} f)) ∗ (∃ f, (a7.view.loc (c : Thread nD τ) ↦[a7.view.set]{fullShare} f)) ∗ (∃ f, (a8.view.loc (c : Thread nD τ) ↦[a8.view.set]{fullShare} f)) ∗ (∃ f, (a9.view.loc (c : Thread nD τ) ↦[a9.view.set]{fullShare} f)) ∗ (∃ f, (a10.view.loc (c : Thread nD τ) ↦[a10.view.set]{fullShare} f)) ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f))
            ∗ (iprop(owns (c : Thread nD τ) a2 fullShare x2 ∗ owns (c : Thread nD τ) a3 fullShare x3 ∗ owns (c : Thread nD τ) a4 fullShare x4 ∗ (a5.view.loc (c : Thread nD τ) ↦[a5.view.set]{fullShare} g5) ∗ (a6.view.loc (c : Thread nD τ) ↦[a6.view.set]{fullShare} g6) ∗ (∃ f, (a7.view.loc (c : Thread nD τ) ↦[a7.view.set]{fullShare} f)) ∗ (∃ f, (a8.view.loc (c : Thread nD τ) ↦[a8.view.set]{fullShare} f)) ∗ (∃ f, (a9.view.loc (c : Thread nD τ) ↦[a9.view.set]{fullShare} f)) ∗ (∃ f, (a10.view.loc (c : Thread nD τ) ↦[a10.view.set]{fullShare} f)) ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f))) -∗ K ⟨⟩))
          ⊢ wp frame (wpE (defs₀ (F := F)) Variants.none c none) E (cc0_attn_fwd (F := F) i a2 h2 a3 h3 a4 h4 a5 h5 a6 h6 a7 h7 a8 h8 a9 h9 a10 h10 a11 h11 a12 h12 a13 h13 a14 h14 a15 h15) K } := by
  refine ⟨?p7, ?p10, ?p11, ?p13, ?p14, ?p15, ?_, ?_, fun E K => ?run⟩
  case run =>
    simp only [cc0_attn_fwd_eq_skeleton]; unfold cc0_attn_fwd_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f2, %e2, H2⟩, ⟨%f3, %e3, H3⟩, ⟨%f4, %e4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, Hk⟩
    obtain rfl := h2.eq_unread e2; obtain rfl := h3.eq_unread e3; obtain rfl := h4.eq_unread e4
    sl_exec!
    sl_for (fun n _ => inv c a2 a3 a4 a7 a8 a9 a10 a11 a12 a13 a14 a15 x2 x3 x4 (loopSt c i a2 h2 a3 h3 a4 h4 a5 h5 a6 h6 a7 h7 a8 h8 a9 h9 a10 h10 a11 h11 a12 h12 a13 h13 a14 h14 a15 h15 x2 x3 x4 ⟨a7.view.read (Elt F) ?p7, a10.view.read (Elt F) ?p10, a11.view.read (Elt F) ?p11, a13.view.read (Elt F) ?p13, a14.view.read (Elt F) ?p14, a15.view.read (Elt F) ?p15⟩ n)) $$ [H2 H3 H4 H7 H10 H11 H13 H14 H15 H8 H9 H12]
    rotate_left
    · unfold inv
      isplitl [H2]
      · unfold owns; iexists _; isplitr; · ipureintro; exact h2.read_unread _
        iexact H2
      isplitl [H3]
      · unfold owns; iexists _; isplitr; · ipureintro; exact h3.read_unread _
        iexact H3
      isplitl [H4]
      · unfold owns; iexists _; isplitr; · ipureintro; exact h4.read_unread _
        iexact H4
      isplitl [H7]; · iapply (owns_read c a7 ?p7) $$ H7
      isplitl [H10]; · iapply (owns_read c a10 ?p10) $$ H10
      isplitl [H11]; · iapply (owns_read c a11 ?p11) $$ H11
      isplitl [H13]; · iapply (owns_read c a13 ?p13) $$ H13
      isplitl [H14]; · iapply (owns_read c a14 ?p14) $$ H14
      isplitl [H15]; · iapply (owns_read c a15 ?p15) $$ H15
      isplitl [H8]; · iexists _; iexact H8
      isplitl [H9]; · iexists _; iexact H9
      iexists _; iexact H12
    · unfold inv owns
      iintro %acc ⟨⟨%y2, %e2, H2⟩, ⟨%y3, %e3, H3⟩, ⟨%y4, %e4, H4⟩, ⟨%y7, %e7, H7⟩, ⟨%y10, %e10, H10⟩, ⟨%y11, %e11, H11⟩, ⟨%y13, %e13, H13⟩, ⟨%y14, %e14, H14⟩, ⟨%y15, %e15, H15⟩, ⟨%y8, H8⟩, ⟨%y9, H9⟩, ⟨%y12, H12⟩⟩
      obtain rfl := h2.eq_unread e2; obtain rfl := h3.eq_unread e3; obtain rfl := h4.eq_unread e4; obtain rfl := h7.eq_unread e7; obtain rfl := h10.eq_unread e10; obtain rfl := h11.eq_unread e11; obtain rfl := h13.eq_unread e13; obtain rfl := h14.eq_unread e14; obtain rfl := h15.eq_unread e15
      sl_exec!
      sl_step
      iapply Hk
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      iexists _; iexact H15
    · intro k acc
      sl_respell []
      exact loop_step c i a2 h2 a3 h3 a4 h4 a5 h5 a6 h6 a7 h7 a8 h8 a9 h9 a10 h10 a11 h11 a12 h12 a13 h13 a14 h14 a15 h15 _ _ _ x2 x3 x4 _ k acc E

end Cert.Kernel3Ideal.Fwd

end
-- ==== Proof.WFrame.lean ====
/-
  What the results hold point by point, the body obligation, the run and the frame claim.
-/
module

public import proofs.«01_k».proof.Proof.WPoint
public import Idealize.ShloMosaic.Lib.Claim

@[expose] public section

set_option maxRecDepth 16384

noncomputable section

namespace Cert.Kernel3Ideal.Fwd

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
abbrev sc0 : Memref sig .tc .vmem S512x2048 .f32 := Memref.whole cc0_scratch0
abbrev sc1 : Memref sig .tc .vmem S512x2048 .f32 := Memref.whole cc0_scratch1
abbrev sc2 : Memref sig .tc .vmem S512x2048 .bf16 := Memref.whole cc0_scratch2
abbrev sc3 : Memref sig .tc .vmem S512x2048 .bf16 := Memref.whole cc0_scratch3
abbrev sc4 : Memref sig .tc .vmem S1x2048 .f32 := Memref.whole cc0_scratch4
abbrev sc5 : Memref sig .tc .vmem S1x2048 .f32 := Memref.whole cc0_scratch5
abbrev sc6 : Memref sig .tc .vmem S1x2048 .f32 := Memref.whole cc0_scratch6
abbrev sc7 : Memref sig .tc .vmem S1x2048 .f32 := Memref.whole cc0_scratch7
abbrev sc8 : Memref sig .tc .vmem S80x2048 .f32 := Memref.whole cc0_scratch8

/-- The invariant of the call with each scratch buffer owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d)) ∗ (∃ r, prngReg c r)) := by
  unfold Pipeline.ΦA; rw [scopedRest0_eq]; simp only [sc0, sc1, sc2, sc3, sc4, sc5, sc6, sc7, sc8, owns_whole]; try rfl

/-- A memref owned at some contents has its elements at some buffer contents. -/
theorem owns_pt {sp : Space} {sh : Shape} {e : EltTy} (c : Dev nD) (M : Memref sig .tc sp sh e) (X : sh.Idx → Elt F e) :
    (owns (c : Thread nD τ) M fullShare X : sProp 𝕄) ⊢ iprop(∃ f, (M.view.loc (c : Thread nD τ) ↦[M.view.set]{fullShare} f)) := by
  unfold owns; iintro ⟨%f, %hf, H⟩; iexists f; iexact H

/-- And back. -/
theorem pt_owns {sp : Space} {sh : Shape} {e : EltTy} (c : Dev nD) (M : Memref sig .tc sp sh e) (f : Buf (Elt F) (M.view.loc (c : Thread nD τ))) :
    ((M.view.loc (c : Thread nD τ) ↦[M.view.set]{fullShare} f) : sProp 𝕄) ⊢ iprop(∃ d, owns (c : Thread nD τ) M fullShare d) := by
  iintro H; iexists _; iapply (owns_intro (c : Thread nD τ) M fullShare f); iexact H

/-- The body's run at a point. -/
noncomputable def run (c : Dev nD) (t : Fin cfg0.N) :=
  point c (grid0.coords t) (ms0_0 t) (hs0_0 t) (ms0_1 t) (hs0_1 t) (ms0_2 t) (hs0_2 t) (ms0_3 t) (hs0_3 t) (ms0_4 t) (hs0_4 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t)
/-- What that run leaves in the outputs. -/
noncomputable def outO (c : Dev nD) (t : Fin cfg0.N) : Vec F S1x2048x128 .f32 := (ms0_3 t).view.read (Elt F) (run m c t).2.2.2.2.2.2.1
/-- What that run leaves in the log-sums. -/
noncomputable def outL (c : Dev nD) (t : Fin cfg0.N) : Vec F S1x1x2048 .f32 := (ms0_4 t).view.read (Elt F) (run m c t).2.2.2.2.2.2.2.1

/-- The proof data of the call: each input's buffer at its block, the results' at what the run leaves. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO m c t
    | ⟨4, _⟩ => outL m c t
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outO m c t := by dsimp only [dats]
theorem after0_4 (c : Dev nD) (t : Fin cfg0.N) : (dats m 0 c).after 4 t = outL m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    PhiA0_eq, after0_0, after0_1, after0_2, after0_3, after0_4]
  unfold outO outL
  iintro ⟨⟨⟨⟨%y0, S0⟩, ⟨%y1, S1⟩, ⟨%y2, S2⟩, ⟨%y3, S3⟩, ⟨%y4, S4⟩, ⟨%y5, S5⟩, ⟨%y6, S6⟩, ⟨%y7, S7⟩, ⟨%y8, S8⟩⟩, Hr⟩, Ho, ⟨%d0, H0⟩, ⟨%d1, H1⟩, ⟨%d2, H2⟩, ⟨%d3, H3⟩, ⟨%d4, H4⟩⟩
  iapply ((run m c t).2.2.2.2.2.2.2.2 Set.univ _)
  isplitl [H0]; · iexact H0
  isplitl [H1]; · iexact H1
  isplitl [H2]; · iexact H2
  isplitl [H3]; · iapply (owns_pt c (ms0_3 t) _) $$ H3
  isplitl [H4]; · iapply (owns_pt c (ms0_4 t) _) $$ H4
  isplitl [S0]; · iapply (owns_pt c sc0 _) $$ S0
  isplitl [S1]; · iapply (owns_pt c sc1 _) $$ S1
  isplitl [S2]; · iapply (owns_pt c sc2 _) $$ S2
  isplitl [S3]; · iapply (owns_pt c sc3 _) $$ S3
  isplitl [S4]; · iapply (owns_pt c sc4 _) $$ S4
  isplitl [S5]; · iapply (owns_pt c sc5 _) $$ S5
  isplitl [S6]; · iapply (owns_pt c sc6 _) $$ S6
  isplitl [S7]; · iapply (owns_pt c sc7 _) $$ S7
  isplitl [S8]; · iapply (owns_pt c sc8 _) $$ S8
  iintro ⟨H0, H1, H2, H3, H4, ⟨%z0, S0⟩, ⟨%z1, S1⟩, ⟨%z2, S2⟩, ⟨%z3, S3⟩, ⟨%z4, S4⟩, ⟨%z5, S5⟩, ⟨%z6, S6⟩, ⟨%z7, S7⟩, ⟨%z8, S8⟩⟩
  isplitl [Hr S0 S1 S2 S3 S4 S5 S6 S7 S8]
  · isplitl [S0 S1 S2 S3 S4 S5 S6 S7 S8]
    · isplitl [S0]; · iapply (pt_owns c sc0 _) $$ S0
      isplitl [S1]; · iapply (pt_owns c sc1 _) $$ S1
      isplitl [S2]; · iapply (pt_owns c sc2 _) $$ S2
      isplitl [S3]; · iapply (pt_owns c sc3 _) $$ S3
      isplitl [S4]; · iapply (pt_owns c sc4 _) $$ S4
      isplitl [S5]; · iapply (pt_owns c sc5 _) $$ S5
      isplitl [S6]; · iapply (pt_owns c sc6 _) $$ S6
      isplitl [S7]; · iapply (pt_owns c sc7 _) $$ S7
      iapply (pt_owns c sc8 _) $$ S8
    iexact Hr
  isplitl [Ho]; · iexact Ho
  isplitl [H0]; · iexact H0
  isplitl [H1]; · iexact H1
  isplitl [H2]; · iexact H2
  isplitl [H3]; · iapply (owns_intro (c : Thread nD τ) (ms0_3 t) fullShare _) $$ H3
  iapply (owns_intro (c : Thread nD τ) (ms0_4 t) fullShare _) $$ H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: the arrays at what the proof data gives, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim, at any element values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel3Ideal.Fwd

end
-- ==== Proof.BitsFrame3.lean ====
module
public import proofs.«01_k».proof.Proof.WFrame
public import proofs.«01_k».proof.Defs
public import proofs.«01_k».proof.Proof.Gen.Kernel3
@[expose] public section
set_option maxRecDepth 65536
noncomputable section
namespace Cert.Kernel3.Fwd
open Idealize.ShloMosaic Idealize.SL.Sem

/-! The frame in the machine's numbers, from the one run over any numbers. -/

/-- A named constant is its word, in the machine's numbers. -/
local instance : Named Bits := ⟨fun _ _ {φ} bits => Scalar.ofBits φ bits⟩

/-- With each named constant read as its word, the two programs are one. -/
theorem run_eq (m : (ℓ : Loc Cert.Kernel3.nD Cert.Kernel3.τ Cert.Kernel3.sig) → Buf (Elt Bits) ℓ) (g : Dev Cert.Kernel3.nD → PrngReg) (Q : _ → Prop) :
    θ_run (Cert.Kernel3.defs (F := Bits)) (onTc (τ := Cert.Kernel3.τ) (Cert.Kernel3.main (F := Bits))) ⟨m, fun _ => 0, g⟩ Q
      = θ_run (Cert.Kernel3Ideal.defs (F := Bits)) (onTc (τ := Cert.Kernel3Ideal.τ) (Cert.Kernel3Ideal.main (F := Bits))) ⟨m, fun _ => 0, g⟩ Q := by
  sl_kernel_rfl

/-- The attention forward call leaves its arguments as they were, in the machine's numbers. -/
theorem frame : Cert.quiescent_Kernel3 := fun m g _ =>
  (run_eq m g _).mpr (Cert.Kernel3Ideal.Fwd.frame (F := Bits) m g)

end Cert.Kernel3.Fwd
-- ==== Proof.WPay.lean ====
module
public import proofs.«01_k».proof.Proof.WPoint
public import Idealize.ShloMosaic.Lib.Pipeline.ReadBack
public import Idealize.ShloMosaic.Lib.Pointwise
public import Idealize.ShloMosaic.Lib.WholeRead
public import Idealize.ShloMosaic.Lib.WordCmp
public import Idealize.ShloMosaic.PureOps.Ideal
@[expose] public section
set_option maxRecDepth 16384
noncomputable section
namespace Cert.Kernel3Ideal.Fwd
open Cert.Kernel3Ideal Cert.Kernel3Ideal.Gen Idealize.ShloMosaic Idealize.ShloMosaic.TcCoe Idealize.SL.Sem

/-! The largest of a column, and a column with the keys after the query taken out. -/

theorem bot_bits : Ideal.ofBits FTy.f32 0xFF800000#32 = (⊥ : EReal) := by simp [Ideal.ofBits, Ideal.ieee]
/-- The largest of a column. -/
def mx (f : Fin 512 → EReal) : EReal := Finset.univ.fold max ⊥ f
/-- A score where the key is not after the query. -/
def mk (q r : ℕ) (s : EReal) : EReal := if r ≤ q then s else ⊥
theorem mk_sel (q r : ℕ) (h : q < 2 ^ 31) (h' : r < 2 ^ 31) (s : EReal) :
    Scalar.select (α := EReal) (IntOp.cmpi .sge (BitVec.ofNat 32 q) (IntOp.addi (BitVec.ofNat 32 r) 0#32)) s (Ideal.ofBits FTy.f32 0xFF800000#32) = mk q r s := by
  rw [show IntOp.addi (BitVec.ofNat 32 r) 0#32 = BitVec.ofNat 32 r from BitVec.add_zero _, WordCmp.cmpi_sge_ofNat h h', bot_bits]
  unfold mk
  by_cases h0 : r ≤ q
  · rw [if_pos h0, decide_eq_true h0]; rfl
  · rw [if_neg h0, decide_eq_false h0]; rfl

/-! The vectors a trip stores, read at an index. -/

theorem pay3_apply (a : Vec Ideal S1x512x128 .bf16) (b : Vec Ideal S1x2048x128 .bf16) (r : Fin 512) (q : Fin 2048) :
    k0_pay3 a b (ix2 r q) = ∑ e : Fin 128, a (ix3 0 r e) * b (ix3 0 q e) := by
  pointwise [k0_pay3, k0_pay2]
theorem pay15_apply (a : Vec Ideal S1x512x128 .bf16) (b : Vec Ideal S1x2048x128 .bf16) (r : Fin 512) (q : Fin 2048) :
    k0_pay15 (k0_pay12 a) (k0_pay13 b) (ix2 r q) = ∑ e : Fin 128, a (ix3 0 r e) * b (ix3 0 q e) := by
  pointwise [k0_pay15, k0_pay14, k0_pay12, k0_pay13]
theorem pay39_apply (a : Vec Ideal S1x512x128 .bf16) (b : Vec Ideal S1x2048x128 .bf16) (r : Fin 512) (q : Fin 2048) :
    k0_pay39 a b (ix2 r q) = ∑ e : Fin 128, a (ix3 0 r e) * b (ix3 0 q e) := by
  pointwise [k0_pay39, k0_pay38]
theorem pay52_apply (a : Vec Ideal S1x512x128 .bf16) (b : Vec Ideal S1x1536x128 .bf16) (r : Fin 512) (q : Fin 1536) :
    k0_pay52 a b (ix2 r q) = ∑ e : Fin 128, a (ix3 0 r e) * b (ix3 0 q e) := by
  pointwise [k0_pay52]
theorem pay59_apply (a : Vec Ideal S1x512x128 .bf16) (b : Vec Ideal S1x1024x128 .bf16) (r : Fin 512) (q : Fin 1024) :
    k0_pay59 a b (ix2 r q) = ∑ e : Fin 128, a (ix3 0 r e) * b (ix3 0 q e) := by
  pointwise [k0_pay59]
theorem pay66_apply (a : Vec Ideal S1x512x128 .bf16) (b : Vec Ideal S1x512x128 .bf16) (r : Fin 512) (q : Fin 512) :
    k0_pay66 a b (ix2 r q) = ∑ e : Fin 128, a (ix3 0 r e) * b (ix3 0 q e) := by
  pointwise [k0_pay66]
theorem pay4_apply (a : Vec Ideal S1x512x128 .bf16) (b : Vec Ideal S1x2048x128 .bf16) (q : Fin 2048) :
    k0_pay4 a b (ix2 0 q) = mx fun r => ∑ e : Fin 128, a (ix3 0 r e) * b (ix3 0 q e) := by
  pointwise [k0_pay4, k0_pay2]
  rw [bot_bits]
  rfl
theorem pay16_apply (a : Vec Ideal S1x512x128 .bf16) (b : Vec Ideal S1x2048x128 .bf16) (q : Fin 2048) :
    k0_pay16 (k0_pay12 a) (k0_pay13 b) (ix2 0 q) = mx fun r => ∑ e : Fin 128, a (ix3 0 r e) * b (ix3 0 q e) := by
  pointwise [k0_pay16, k0_pay14, k0_pay12, k0_pay13]
  rw [bot_bits]
  rfl
theorem pay40_apply (a : Vec Ideal S1x512x128 .bf16) (b : Vec Ideal S1x2048x128 .bf16) (q : Fin 2048) :
    k0_pay40 a b (ix2 0 q) = mx fun r => ∑ e : Fin 128, a (ix3 0 r e) * b (ix3 0 q e) := by
  pointwise [k0_pay40, k0_pay38]
  rw [bot_bits]
  rfl
theorem pay17_apply (a : Vec Ideal S1x2048 .f32) (b : Vec Ideal S80x2048 .f32) (v : Vec Ideal S1x80x512 .bf16) (p : Vec Ideal S512x2048 .bf16) (w : Fin 80) (q : Fin 2048) :
    k0_pay17 a b v p (ix2 w q) = a (ix2 0 q) * b (ix2 w q) + ∑ r : Fin 512, v (ix3 0 w r) * p (ix2 r q) := by
  pointwise [k0_pay17]
theorem pay7_apply (a : Vec Ideal S1x2048 .f32) (b : Vec Ideal S80x2048 .f32) (v : Vec Ideal S1x80x512 .bf16) (p : Vec Ideal S512x2048 .bf16) (w : Fin 80) (q : Fin 2048) :
    k0_pay7 (k0_pay5 a b) (k0_pay6 v p) (ix2 w q) = a (ix2 0 q) * b (ix2 w q) + ∑ r : Fin 512, v (ix3 0 w r) * p (ix2 r q) := by
  pointwise [k0_pay7, k0_pay5, k0_pay6]
theorem pay54_apply (a : Vec Ideal S1x2048 .f32) (b : Vec Ideal S80x2048 .f32) (v : Vec Ideal S1x80x512 .bf16) (p : Vec Ideal S512x2048 .bf16) (w : Fin 80) (q : Fin 2048) :
    k0_pay54 (k0_pay53 a b) v p (ix2 w q) = a (ix2 0 q) * b (ix2 w q) + ∑ r : Fin 512, v (ix3 0 w r) * p (ix2 r q) := by
  pointwise [k0_pay54, k0_pay53]
theorem pay61_apply (a : Vec Ideal S1x2048 .f32) (b : Vec Ideal S80x2048 .f32) (v : Vec Ideal S1x80x512 .bf16) (p : Vec Ideal S512x2048 .bf16) (w : Fin 80) (q : Fin 2048) :
    k0_pay61 (k0_pay60 a b v p) (ix2 w q) = a (ix2 0 q) * b (ix2 w q) + ∑ r : Fin 512, v (ix3 0 w r) * p (ix2 r q) := by
  pointwise [k0_pay61, k0_pay60]
theorem pay67_apply (a : Vec Ideal S1x1536 .f32) (b : Vec Ideal S80x1536 .f32) (v : Vec Ideal S1x80x512 .bf16) (p : Vec Ideal S512x1536 .bf16) (w : Fin 80) (q : Fin 1536) :
    k0_pay67 a b v p (ix2 w q) = a (ix2 0 q) * b (ix2 w q) + ∑ r : Fin 512, v (ix3 0 w r) * p (ix2 r q) := by
  pointwise [k0_pay67]
theorem pay79_apply (a : Vec Ideal S1x512 .f32) (b : Vec Ideal S80x512 .f32) (v : Vec Ideal S1x80x512 .bf16) (p : Vec Ideal S512x512 .bf16) (w : Fin 80) (q : Fin 512) :
    k0_pay79 a b v p (ix2 w q) = a (ix2 0 q) * b (ix2 w q) + ∑ r : Fin 512, v (ix3 0 w r) * p (ix2 r q) := by
  pointwise [k0_pay79]
theorem pay9_apply (x m : Vec Ideal S1x2048 .f32) (s : Vec Ideal S512x2048 .f32) (r : Fin 512) (q : Fin 2048) :
    k0_pay9 x m s (ix2 r q) = Ideal.exp2 (s (ix2 r q) - max (m (ix2 0 q)) (x (ix2 0 q)) : EReal) := by
  pointwise [k0_pay9, k0_pay8]
  rfl
theorem pay46_apply (x m : Vec Ideal S1x2048 .f32) (s : Vec Ideal S512x2048 .f32) (r : Fin 512) (q : Fin 2048) :
    k0_pay46 (k0_pay18 x m) s (ix2 r q) = Ideal.exp2 (s (ix2 r q) - max (m (ix2 0 q)) (x (ix2 0 q)) : EReal) := by
  pointwise [k0_pay46, k0_pay18]
  rfl
theorem pay10_apply (x m : Vec Ideal S1x2048 .f32) (q : Fin 2048) :
    k0_pay10 x m (ix2 0 q) = max (m (ix2 0 q)) (x (ix2 0 q)) := by
  pointwise [k0_pay10, k0_pay8]
theorem pay47_apply (x m : Vec Ideal S1x2048 .f32) (q : Fin 2048) :
    k0_pay47 (k0_pay18 x m) (ix2 0 q) = max (m (ix2 0 q)) (x (ix2 0 q)) := by
  pointwise [k0_pay47, k0_pay18]
theorem pay11_apply (x m : Vec Ideal S1x2048 .f32) (q : Fin 2048) :
    k0_pay11 x m (ix2 0 q) = Ideal.exp2 (m (ix2 0 q) - max (m (ix2 0 q)) (x (ix2 0 q)) : EReal) := by
  pointwise [k0_pay11, k0_pay8]
  rfl
theorem pay48_apply (x m : Vec Ideal S1x2048 .f32) (q : Fin 2048) :
    k0_pay48 (k0_pay19 x m) (ix2 0 q) = Ideal.exp2 (m (ix2 0 q) - max (m (ix2 0 q)) (x (ix2 0 q)) : EReal) := by
  pointwise [k0_pay48, k0_pay19, k0_pay18]
  rfl
end Cert.Kernel3Ideal.Fwd
-- ==== Proof.WRead.lean ====
module
public import proofs.«01_k».proof.Proof.WPoint
public import Idealize.ShloMosaic.Lib.Pipeline.ReadBack
public import Idealize.ShloMosaic.Lib.Pointwise
public import Idealize.ShloMosaic.Lib.WholeRead
public import Idealize.ShloMosaic.PureOps.Ideal
@[expose] public section
set_option maxRecDepth 16384
noncomputable section
namespace Cert.Kernel3Ideal.Fwd
open Cert.Kernel3Ideal Cert.Kernel3Ideal.Gen Idealize.ShloMosaic Idealize.ShloMosaic.TcCoe Idealize.SL.Sem

/-! What has been stored in a table, read at a place. -/

/-- A place in a table of 2048 columns. -/
theorem cn_hit {R b n : ℕ} {e : EltTy} {inb} (w : (⟨2, ![R, n]⟩ : Shape).Idx → Elt Ideal e) (L : List (View.Piece (Elt Ideal) ⟨2, ![R, 2048]⟩ e)) (r : Fin R) (c : Fin n) (q : Fin 2048)
    (hq : q.val = b + c.val) :
    View.canon ((⟨Rect.unit (s := ⟨2, ![R, 2048]⟩) ![0, b] ![R, n] inb, w⟩ : View.Piece (Elt Ideal) ⟨2, ![R, 2048]⟩ e) :: L) (ix2 r q) = w (ix2 r c) := by
  have e1 : (Rect.unit (s := ⟨2, ![R, 2048]⟩) ![0, b] ![R, n] inb).emb (ix2 r c) = ix2 r q := funext fun t => Fin.ext (by
    match t with
    | ⟨0, _⟩ => show 0 + 1 * r.val = r.val; omega
    | ⟨1, _⟩ => show b + 1 * c.val = q.val; omega)
  rw [← e1]
  exact View.canon_cons_emb (Val := Elt Ideal) (Rect.unit (s := ⟨2, ![R, 2048]⟩) ![0, b] ![R, n] inb) w L (ix2 r c)
/-- The same where the last store fills the table. -/
theorem cn_all {R : ℕ} {e : EltTy} {inb} (w : (⟨2, ![R, 2048]⟩ : Shape).Idx → Elt Ideal e) (L : List (View.Piece (Elt Ideal) ⟨2, ![R, 2048]⟩ e)) (r : Fin R) (q : Fin 2048) :
    View.canon ((⟨Rect.unit (s := ⟨2, ![R, 2048]⟩) ![0, 0] ![R, 2048] inb, w⟩ : View.Piece (Elt Ideal) ⟨2, ![R, 2048]⟩ e) :: L) (ix2 r q) = w (ix2 r q) :=
  cn_hit w L r q q (Nat.zero_add _).symm
/-- The same at a column before the last store. -/
theorem cn_miss {R b n : ℕ} {e : EltTy} {inb} (w : (⟨2, ![R, n]⟩ : Shape).Idx → Elt Ideal e) (L : List (View.Piece (Elt Ideal) ⟨2, ![R, 2048]⟩ e)) (r : Fin R) (q : Fin 2048) (hq : q.val < b) :
    View.canon ((⟨Rect.unit (s := ⟨2, ![R, 2048]⟩) ![0, b] ![R, n] inb, w⟩ : View.Piece (Elt Ideal) ⟨2, ![R, 2048]⟩ e) :: L) (ix2 r q) = View.canon L (ix2 r q) := by
  refine View.canon_cons_of_not_mem (Val := Elt Ideal) ⟨Rect.unit (s := ⟨2, ![R, 2048]⟩) ![0, b] ![R, n] inb, w⟩ L fun h => ?_
  have h' : (ix2 r q : (⟨2, ![R, 2048]⟩ : Shape).Idx) ∈ (Rect.unit (s := ⟨2, ![R, 2048]⟩) ![0, b] ![R, n] inb).set := h
  rw [Rect.mem_set_unit] at h'
  exact absurd (show b ≤ q.val from (h' 1).1) (by omega)

section Reads
variable {sig : RefSig} {κ : Kind} {sp : Space}
/-- A load reads what has been stored. -/
theorem rdc {R a b m n : ℕ} {e : EltTy} {inb} (v : View sig κ sp ⟨2, ![R, 2048]⟩ e) (L : List (View.Piece (Elt Ideal) ⟨2, ![R, 2048]⟩ e)) (r : Fin m) (c : Fin n) (r' : Fin R) (q : Fin 2048)
    (hr : r'.val = a + r.val) (hq : q.val = b + c.val) :
    v.readCov L (Rect.unit (s := ⟨2, ![R, 2048]⟩) ![a, b] ![m, n] inb).toLoadRect (ix2 r c) = View.canon L (ix2 r' q) := by
  rw [View.readCov_eq_canon']
  refine congrArg (View.canon L) (funext fun t => Fin.ext ?_)
  match t with
  | ⟨0, _⟩ => show a + 1 * r.val = r'.val; omega
  | ⟨1, _⟩ => show b + 1 * c.val = q.val; omega
/-- A load of a whole table that holds `X`. -/
theorem rdw {R : ℕ} {e : EltTy} {inb} {m : Memref sig κ sp ⟨2, ![R, 2048]⟩ e} (h : m.IsWhole) (X : Vec Ideal ⟨2, ![R, 2048]⟩ e) (r : Fin R) (q : Fin 2048) :
    View.readAt (Elt Ideal) m.view (Rect.unit (s := ⟨2, ![R, 2048]⟩) ![0, 0] ![R, 2048] inb).toLoadRect (h.unread X) (ix2 r q) = X (ix2 r q) := by
  refine (Memref.IsWhole.readAt_unread h X _ _).trans (congrArg X (funext fun t => Fin.ext ?_))
  match t with
  | ⟨0, _⟩ => show 0 + 1 * r.val = r.val; omega
  | ⟨1, _⟩ => show 0 + 1 * q.val = q.val; omega
end Reads

/-- A key's entry. -/
def kAt (X : Vec Ideal S1x8192x128 .bf16) (k : ℕ) (d : Fin 128) : EReal := if h : k < 8192 then X (ix3 0 ⟨k, h⟩ d) else 0
/-- A value's entry. -/
def va (X : Vec Ideal S1x128x8192 .bf16) (w : Fin 80) (k : ℕ) : EReal := if h : k < 8192 then X (ix3 0 ⟨48 + w.val, by omega⟩ ⟨k, h⟩) else 0
/-- A key's score with a query. -/
def sg (Q : Vec Ideal S1x2048x128 .bf16) (K : Vec Ideal S1x8192x128 .bf16) (k : ℕ) (q : Fin 2048) : EReal := ∑ e : Fin 128, kAt K k e * Q (ix3 0 q e)

section Reads
variable {sig : RefSig} {κ : Kind} {sp : Space}
theorem rdK {m : Memref sig κ sp S1x8192x128 .bf16} (h : m.IsWhole) (X : Vec Ideal S1x8192x128 .bf16) {off : Fin 3 → ℕ} {inb} (b : ℕ) (h1 : off 1 = b) (h2 : off 2 = 0) (r : Fin 512) (d : Fin 128) :
    View.readAt (Elt Ideal) m.view (Rect.unit (s := S1x8192x128) off S1x512x128.size inb).toLoadRect (h.unread X) (ix3 0 r d) = kAt X (b + r.val) d := by
  subst h1
  refine (Memref.IsWhole.readAt_unread h X _ _).trans ?_
  have hb : off 1 + 512 ≤ 8192 := inb 1
  unfold kAt
  rw [dif_pos (by omega)]
  refine congrArg X (funext fun t => Fin.ext ?_)
  match t with
  | ⟨0, _⟩ => have h0 : off 0 + 1 ≤ 1 := inb 0; show off 0 + 1 * 0 = 0; omega
  | ⟨1, _⟩ => show off 1 + 1 * r.val = off 1 + r.val; omega
  | ⟨2, _⟩ => show off 2 + 1 * d.val = d.val; omega
theorem rdV {m : Memref sig κ sp S1x128x8192 .bf16} (h : m.IsWhole) (X : Vec Ideal S1x128x8192 .bf16) {off : Fin 3 → ℕ} {inb} (b : ℕ) (h1 : off 2 = b) (h2 : off 1 = 48) (w : Fin 80) (r : Fin 512) :
    View.readAt (Elt Ideal) m.view (Rect.unit (s := S1x128x8192) off S1x80x512.size inb).toLoadRect (h.unread X) (ix3 0 w r) = va X w (b + r.val) := by
  subst h1
  refine (Memref.IsWhole.readAt_unread h X _ _).trans ?_
  have hb : off 2 + 512 ≤ 8192 := inb 2
  unfold va
  rw [dif_pos (by omega)]
  refine congrArg X (funext fun t => Fin.ext ?_)
  match t with
  | ⟨0, _⟩ => have h0 : off 0 + 1 ≤ 1 := inb 0; show off 0 + 1 * 0 = 0; omega
  | ⟨1, _⟩ => show off 1 + 1 * w.val = 48 + w.val; omega
  | ⟨2, _⟩ => show off 2 + 1 * r.val = off 2 + r.val; omega
theorem rdQ {m : Memref sig κ sp S1x2048x128 .bf16} (h : m.IsWhole) (X : Vec Ideal S1x2048x128 .bf16) {b n : ℕ} {inb} (c : Fin n) (q : Fin 2048) (hq : q.val = b + c.val) (d : Fin 128) :
    View.readAt (Elt Ideal) m.view (Rect.unit (s := S1x2048x128) ![0, b, 0] ![1, n, 128] inb).toLoadRect (h.unread X) (ix3 0 c d) = X (ix3 0 q d) := by
  refine (Memref.IsWhole.readAt_unread h X _ _).trans (congrArg X (funext fun t => Fin.ext ?_))
  match t with
  | ⟨0, _⟩ => rfl
  | ⟨1, _⟩ => show b + 1 * c.val = q.val; omega
  | ⟨2, _⟩ => show 0 + 1 * d.val = d.val; omega
end Reads

/-! The blocks of keys a trip and a point read. -/
theorem off1_eq : ∀ (i : grid0.Coords) (k : Fin (k0_t1_loop i).trips), k0_off1 i k 1 = 512 * (2 * k.val + 1) ∧ k0_off1 i k 2 = 0 := by decide +kernel
theorem off2_eq : ∀ (i : grid0.Coords) (k : Fin (k0_t1_loop i).trips), k0_off2 i k 2 = 512 * (2 * k.val - 1) ∧ k0_off2 i k 1 = 48 := by decide +kernel
theorem off3_eq : ∀ (i : grid0.Coords) (k : Fin (k0_t1_loop i).trips), k0_off3 i k 1 = 512 * (2 * k.val + 2) ∧ k0_off3 i k 2 = 0 := by decide +kernel
theorem off4_eq : ∀ (i : grid0.Coords) (k : Fin (k0_t1_loop i).trips), k0_off4 i k 2 = 512 * (2 * k.val) ∧ k0_off4 i k 1 = 48 := by decide +kernel
theorem off9_eq : ∀ (i : grid0.Coords), (k0_off9 i 0#32 1 = 512 * (4 * (i 1).val + 1) ∧ k0_off9 i 0#32 2 = 0) ∧ (k0_off9 i 1#32 1 = 512 * (4 * (i 1).val + 2) ∧ k0_off9 i 1#32 2 = 0) ∧ (k0_off9 i 2#32 1 = 512 * (4 * (i 1).val + 3) ∧ k0_off9 i 2#32 2 = 0) := by decide +kernel
theorem off10_eq : ∀ (i : grid0.Coords), (k0_off10 i 0#32 2 = 512 * (4 * (i 1).val - 1) ∧ k0_off10 i 0#32 1 = 48) ∧ (k0_off10 i 1#32 2 = 512 * (4 * (i 1).val) ∧ k0_off10 i 1#32 1 = 48) ∧ (k0_off10 i 2#32 2 = 512 * (4 * (i 1).val + 1) ∧ k0_off10 i 2#32 1 = 48)
    ∧ (k0_off10 i 3#32 2 = 512 * (4 * (i 1).val + 2) ∧ k0_off10 i 3#32 1 = 48) ∧ (k0_off10 i 4#32 2 = 512 * (4 * (i 1).val + 3) ∧ k0_off10 i 4#32 1 = 48) := by decide +kernel
theorem trips_eq : ∀ i : grid0.Coords, (k0_t1_loop i).trips = 2 * (i 1).val := by decide +kernel
end Cert.Kernel3Ideal.Fwd
-- ==== Proof.WAlg.lean ====
module
public import proofs.«01_k».proof.Proof.VAlg
@[expose] public section
noncomputable section
namespace Cert.Kernel3Ideal.Fwd
open Idealize.ShloMosaic Cert.Tail

/-! One query's sums over its keys as the tables hold them: the weights are to the base 2, relative to a number that grows. -/

/-- The sums `G` over the first `n` keys, relative to `m`. -/
def Col (v : Fin 80 → ℕ → EReal) (T : ℕ → EReal) (n : ℕ) (m : EReal) (G : Fin 80 → EReal) : Prop :=
  (n = 0 ∧ m = ⊥ ∧ ∀ w, G w = 0) ∨ ∃ μ : ℝ, m = (μ : EReal) ∧ ∀ w, G w = ∑ k ∈ Finset.range n, v w k * Ideal.exp2 (T k - (μ : EReal))

theorem exp2_coe (x : ℝ) : Ideal.exp2 (x : EReal) = (((2 : ℝ) ^ x : ℝ) : EReal) := rfl
theorem exp2_bot : Ideal.exp2 (⊥ : EReal) = 0 := rfl

theorem term_eq (t : EReal) (ht : t ≠ ⊤) (μ ν : ℝ) : ∃ a b : ℝ, Ideal.exp2 (t - (μ : EReal)) = (a : EReal) ∧ Ideal.exp2 (t - (ν : EReal)) = (b : EReal) ∧ (2 : ℝ) ^ (μ - ν) * a = b := by
  induction t using EReal.rec with
  | bot => exact ⟨0, 0, by rw [EReal.bot_sub, exp2_bot]; rfl, by rw [EReal.bot_sub, exp2_bot]; rfl, mul_zero _⟩
  | coe t =>
    refine ⟨2 ^ (t - μ), 2 ^ (t - ν), by rw [← EReal.coe_sub, exp2_coe], by rw [← EReal.coe_sub, exp2_coe], ?_⟩
    rw [← Real.rpow_add (by norm_num)]
    congr 1; ring
  | top => exact absurd rfl ht

theorem sum_coe {ι : Type} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, EReal.coe_add, ih]

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- One block of keys more. -/
theorem Col.step {v : Fin 80 → ℕ → EReal} {T : ℕ → EReal} {n : ℕ} {m x : EReal} {G : Fin 80 → EReal} (hv : ∀ w k, ∃ r : ℝ, v w k = (r : EReal)) (hT : ∀ k, T k ≠ ⊤)
    (hx : ∃ r : ℝ, x = (r : EReal)) (h : Col v T n m G) :
    Col v T (n + 512) (max m x) (fun w => Ideal.exp2 (m - max m x) * G w + ∑ r : Fin 512, v w (n + r.val) * Ideal.exp2 (T (n + r.val) - max m x)) := by
  obtain ⟨ξ, rfl⟩ := hx
  right
  rcases h with ⟨rfl, rfl, hG⟩ | ⟨μ, rfl, hG⟩
  · refine ⟨ξ, max_eq_right bot_le, fun w => ?_⟩
    beta_reduce
    rw [hG w, mul_zero, zero_add, max_eq_right bot_le, Finset.sum_range_add, Finset.sum_range_zero, zero_add, Finset.sum_range]
  · refine ⟨max μ ξ, coe_max _ _, fun w => ?_⟩
    beta_reduce
    rw [hG w, coe_max, Finset.sum_range_add, Finset.sum_range (n := 512)]
    congr 1
    choose u hu using hv w
    choose a b ha hb hab using fun k => term_eq (T k) (hT k) μ (max μ ξ)
    have e1 : ∑ k ∈ Finset.range n, v w k * Ideal.exp2 (T k - (μ : EReal)) = ((∑ k ∈ Finset.range n, u k * a k : ℝ) : EReal) :=
      (Finset.sum_congr rfl fun k _ => by rw [hu k, ha k, EReal.coe_mul]).trans (sum_coe _ fun k => u k * a k)
    have e2 : ∑ k ∈ Finset.range n, v w k * Ideal.exp2 (T k - ((max μ ξ : ℝ) : EReal)) = ((∑ k ∈ Finset.range n, u k * b k : ℝ) : EReal) :=
      (Finset.sum_congr rfl fun k _ => by rw [hu k, hb k, EReal.coe_mul]).trans (sum_coe _ fun k => u k * b k)
    rw [e1, e2, ← EReal.coe_sub, exp2_coe, ← EReal.coe_mul, Finset.mul_sum]
    exact congrArg _ (Finset.sum_congr rfl fun k _ => by rw [← hab k]; ring)

/-- Only the first `n` keys count. -/
theorem Col.congr {v : Fin 80 → ℕ → EReal} {T T' : ℕ → EReal} {n : ℕ} {m : EReal} {G : Fin 80 → EReal} (hT : ∀ k, k < n → T k = T' k) (h : Col v T n m G) : Col v T' n m G := by
  rcases h with h | ⟨μ, hm, hG⟩
  · exact Or.inl h
  · exact Or.inr ⟨μ, hm, fun w => (hG w).trans (Finset.sum_congr rfl fun k hk => by rw [hT k (Finset.mem_range.mp hk)])⟩

theorem log_coe {x : ℝ} (h : 0 < x) : Ideal.log (x : EReal) = ((Real.log x : ℝ) : EReal) := by
  show (if x ≤ 0 then (⊥ : EReal) else _) = _
  rw [if_neg (not_le.2 h)]

theorem pow_eq (σ μ : ℝ) : (2 : ℝ) ^ (σ - μ) = Real.exp (σ * Real.log 2) * Real.exp (-(μ * Real.log 2)) := by
  rw [Real.rpow_def_of_pos (by norm_num), ← Real.exp_add]
  congr 1; ring

/-- After the last block: the quotient and the logarithm. -/
theorem Col.fin {v : Fin 80 → ℕ → EReal} {n lim : ℕ} {m : EReal} {G : Fin 80 → EReal} (hn : lim < n) (σ : ℕ → ℝ) (u : Fin 80 → ℕ → ℝ) (hu : ∀ w k, v w k = (u w k : EReal))
    (z : Fin 80) (h1 : ∀ k, k ≤ lim → u z k = 1) (h : Col v (fun k => if k ≤ lim then (σ k : EReal) else ⊥) n m G) :
    m + Ideal.log (G z) * ((1 / Real.log 2 : ℝ) : EReal) = ((Real.log (∑ k ∈ Finset.range (lim + 1), Real.exp (σ k * Real.log 2)) / Real.log 2 : ℝ) : EReal)
    ∧ ∀ w, Ideal.div (G w) (G z) = (((∑ k ∈ Finset.range (lim + 1), u w k * Real.exp (σ k * Real.log 2)) / (∑ k ∈ Finset.range (lim + 1), Real.exp (σ k * Real.log 2)) : ℝ) : EReal) := by
  have h2 : Real.log 2 ≠ 0 := (Real.log_pos (by norm_num)).ne'
  rcases h with ⟨rfl, _, _⟩ | ⟨μ, rfl, hG⟩
  · exact absurd hn (Nat.not_lt_zero _)
  have e : ∀ w, G w = (((∑ k ∈ Finset.range (lim + 1), u w k * Real.exp (σ k * Real.log 2)) * Real.exp (-(μ * Real.log 2)) : ℝ) : EReal) := fun w => by
    obtain ⟨r, rfl⟩ : ∃ r, n = lim + 1 + r := ⟨n - (lim + 1), by omega⟩
    rw [hG w, Finset.sum_range_add, Finset.sum_eq_zero (s := Finset.range r) fun k _ => by beta_reduce; rw [if_neg (by omega), EReal.bot_sub, exp2_bot, mul_zero], add_zero, Finset.sum_mul, ← sum_coe]
    refine Finset.sum_congr rfl fun k hk => ?_
    beta_reduce
    rw [if_pos (by have := Finset.mem_range.mp hk; omega), ← EReal.coe_sub, exp2_coe, hu w k, ← EReal.coe_mul, pow_eq, mul_assoc]
  have ez : (∑ k ∈ Finset.range (lim + 1), u z k * Real.exp (σ k * Real.log 2)) = ∑ k ∈ Finset.range (lim + 1), Real.exp (σ k * Real.log 2) :=
    Finset.sum_congr rfl fun k hk => by rw [h1 k (by have := Finset.mem_range.mp hk; omega), one_mul]
  have hp : 0 < ∑ k ∈ Finset.range (lim + 1), Real.exp (σ k * Real.log 2) := Finset.sum_pos (fun _ _ => Real.exp_pos _) ⟨0, Finset.mem_range.mpr (by omega)⟩
  have he := Real.exp_pos (-(μ * Real.log 2))
  refine ⟨?_, fun w => ?_⟩
  · rw [e z, ez, log_coe (mul_pos hp he), ← EReal.coe_mul, ← EReal.coe_add, Real.log_mul hp.ne' he.ne', Real.log_exp]
    have key : ∀ L l : ℝ, l ≠ 0 → μ + (L + -(μ * l)) * (1 / l) = L / l := fun L l h => by field_simp; ring
    exact congrArg _ (key _ _ h2)
  · rw [e z, ez, e w, Ideal.div_coe (mul_pos hp he).ne', ← EReal.coe_mul]
    have key : ∀ A Z E : ℝ, Z ≠ 0 → E ≠ 0 → A * E * (1 / (Z * E)) = A / Z := fun A Z E h h' => by field_simp
    exact congrArg _ (key _ _ _ hp.ne' he.ne')
end Cert.Kernel3Ideal.Fwd
-- ==== Proof.WStep.lean ====
module
public import proofs.«01_k».proof.Proof.WPay
public import proofs.«01_k».proof.Proof.WRead
public import proofs.«01_k».proof.Proof.WAlg
public import Idealize.ShloMosaic.Lib.VecWindow
@[expose] public section
set_option maxRecDepth 16384
noncomputable section
namespace Cert.Kernel3Ideal.Fwd
open Cert.Kernel3Ideal Cert.Kernel3Ideal.Gen Idealize.ShloMosaic Idealize.ShloMosaic.TcCoe Idealize.SL.Sem

/-! A trip of the loop as two steps of every query's sums. -/

variable (c : Dev nD) (i : grid0.Coords) (a2 : Memref sig .tc .vmem S1x2048x128 .bf16) (h2 : a2.IsWhole) (a3 : Memref sig .tc .vmem S1x8192x128 .bf16) (h3 : a3.IsWhole) (a4 : Memref sig .tc .vmem S1x128x8192 .bf16) (h4 : a4.IsWhole) (a5 : Memref sig .tc .vmem S1x2048x128 .f32) (h5 : a5.IsWhole) (a6 : Memref sig .tc .vmem S1x1x2048 .f32) (h6 : a6.IsWhole) (a7 : Memref sig .tc .vmem S512x2048 .f32) (h7 : a7.IsWhole) (a8 : Memref sig .tc .vmem S512x2048 .f32) (h8 : a8.IsWhole) (a9 : Memref sig .tc .vmem S512x2048 .bf16) (h9 : a9.IsWhole) (a10 : Memref sig .tc .vmem S512x2048 .bf16) (h10 : a10.IsWhole) (a11 : Memref sig .tc .vmem S1x2048 .f32) (h11 : a11.IsWhole) (a12 : Memref sig .tc .vmem S1x2048 .f32) (h12 : a12.IsWhole) (a13 : Memref sig .tc .vmem S1x2048 .f32) (h13 : a13.IsWhole) (a14 : Memref sig .tc .vmem S1x2048 .f32) (h14 : a14.IsWhole) (a15 : Memref sig .tc .vmem S80x2048 .f32) (h15 : a15.IsWhole) (Q : Vec Ideal S1x2048x128 .bf16) (K : Vec Ideal S1x8192x128 .bf16) (V : Vec Ideal S1x128x8192 .bf16)
variable (k : Fin (k0_t1_loop i).trips) (d7 : Vec Ideal S512x2048 .f32) (d10 : Vec Ideal S512x2048 .bf16) (d11 d13 d14 : Vec Ideal S1x2048 .f32) (d15 : Vec Ideal S80x2048 .f32)
theorem t_H8_1 (r : Fin 512) (q : Fin 2048) : View.canon (trip.sl.H8_1 c i a2 h2 a3 h3 Q K k) (ix2 r q) = sg Q K (512 * (2 * k.val + 1) + r.val) q := by
  delta trip.sl.H8_1
  refine (cn_all _ _ _ _).trans ?_
  refine (pay3_apply _ _ _ _).trans (Finset.sum_congr rfl fun e _ => congrArg₂ (fun a b : EReal => a * b) (rdK h3 K _ (off1_eq i k).1 (off1_eq i k).2 r e) (rdQ h2 Q q q (Nat.zero_add _).symm e))
theorem t_H12_1 (q : Fin 2048) : View.canon (trip.sl.H12_1 c i a2 h2 a3 h3 Q K k) (ix2 0 q) = mx fun r => sg Q K (512 * (2 * k.val + 1) + r.val) q := by
  delta trip.sl.H12_1
  refine (cn_all _ _ _ _).trans ?_
  refine (pay4_apply _ _ _).trans (congrArg mx (funext fun r => Finset.sum_congr rfl fun e _ => congrArg₂ (fun a b : EReal => a * b) (rdK h3 K _ (off1_eq i k).1 (off1_eq i k).2 r e) (rdQ h2 Q q q (Nat.zero_add _).symm e)))
theorem t_H15_1 (w : Fin 80) (q : Fin 2048) : View.canon (trip.sl.H15_1 c i a4 h4 a10 h10 a14 h14 a15 h15 V k d10 d14 d15) (ix2 w q) = d14 (ix2 0 q) * d15 (ix2 w q) + ∑ r : Fin 512, va V w (512 * (2 * k.val - 1) + r.val) * d10 (ix2 r q) := by
  delta trip.sl.H15_1
  refine (cn_all _ _ _ _).trans ?_
  delta trip.sl.r trip.sl.r_1
  refine (pay7_apply _ _ _ _ _ _).trans (congrArg₂ (fun a b : EReal => a + b) (congrArg₂ (fun a b : EReal => a * b) (rdw h14 d14 0 q) (rdw h15 d15 w q)) (Finset.sum_congr rfl fun r _ => ?_))
  exact congrArg₂ (fun a b : EReal => a * b) (rdV h4 V _ (off2_eq i k).1 (off2_eq i k).2 w r) (rdw h10 d10 r q)
theorem t_H13_1 (q : Fin 2048) : View.canon (trip.sl.H13_1 c a11 h11 a13 h13 d11 d13) (ix2 0 q) = max (d13 (ix2 0 q)) (d11 (ix2 0 q)) := by
  delta trip.sl.H13_1
  refine (cn_all _ _ _ _).trans ?_
  exact (pay10_apply _ _ _).trans (congrArg₂ (fun a b : EReal => max a b) (rdw h13 d13 0 q) (rdw h11 d11 0 q))
theorem t_H14_1 (q : Fin 2048) : View.canon (trip.sl.H14_1 c a11 h11 a13 h13 d11 d13) (ix2 0 q) = Ideal.exp2 (d13 (ix2 0 q) - max (d13 (ix2 0 q)) (d11 (ix2 0 q)) : EReal) := by
  delta trip.sl.H14_1
  refine (cn_all _ _ _ _).trans ?_
  exact (pay11_apply _ _ _).trans (congrArg₂ (fun a b : EReal => Ideal.exp2 (a - max a b)) (rdw h13 d13 0 q) (rdw h11 d11 0 q))
theorem t_H9_1 (r : Fin 512) (q : Fin 2048) : View.canon (trip.sl.H9_1 c a7 h7 a11 h11 a13 h13 d7 d11 d13) (ix2 r q) = Ideal.exp2 (d7 (ix2 r q) - max (d13 (ix2 0 q)) (d11 (ix2 0 q)) : EReal) := by
  delta trip.sl.H9_1
  refine (cn_all _ _ _ _).trans ?_
  exact (pay9_apply _ _ _ _ _).trans (congrArg₂ (fun a b : EReal => Ideal.exp2 (a - b)) (rdw h7 d7 r q) (congrArg₂ (fun a b : EReal => max a b) (rdw h13 d13 0 q) (rdw h11 d11 0 q)))
theorem t_v384 (q : Fin 2048) : (trip.sl.v384 c a11 h11 a13 h13 a14 d11 d13) (ix2 0 q) = Ideal.exp2 (d13 (ix2 0 q) - max (d13 (ix2 0 q)) (d11 (ix2 0 q)) : EReal) := by
  delta trip.sl.v384
  exact (rdc _ _ 0 q 0 q (Nat.zero_add _).symm (Nat.zero_add _).symm).trans (t_H14_1 ..)
theorem t_v385 (w : Fin 80) (q : Fin 2048) : (trip.sl.v385 c i a4 h4 a10 h10 a14 h14 a15 h15 V k d10 d14 d15) (ix2 w q) = d14 (ix2 0 q) * d15 (ix2 w q) + ∑ r : Fin 512, va V w (512 * (2 * k.val - 1) + r.val) * d10 (ix2 r q) := by
  delta trip.sl.v385
  exact (rdc _ _ w q w q (Nat.zero_add _).symm (Nat.zero_add _).symm).trans (t_H15_1 ..)
theorem t_v395 (r : Fin 512) (q : Fin 2048) : (trip.sl.v395 c a7 h7 a9 a11 h11 a13 h13 d7 d11 d13) (ix2 r q) = Ideal.exp2 (d7 (ix2 r q) - max (d13 (ix2 0 q)) (d11 (ix2 0 q)) : EReal) := by
  delta trip.sl.v395
  exact (rdc _ _ r q r q (Nat.zero_add _).symm (Nat.zero_add _).symm).trans (t_H9_1 ..)
theorem t_v401 (q : Fin 2048) : (trip.sl.v401 c i a2 h2 a3 h3 a12 Q K k) (ix2 0 q) = mx fun r => sg Q K (512 * (2 * k.val + 1) + r.val) q := by
  delta trip.sl.v401
  exact (rdc _ _ 0 q 0 q (Nat.zero_add _).symm (Nat.zero_add _).symm).trans (t_H12_1 ..)
theorem t_v402 (q : Fin 2048) : (trip.sl.v402 c a11 h11 a13 h13 d11 d13) (ix2 0 q) = max (d13 (ix2 0 q)) (d11 (ix2 0 q)) := by
  delta trip.sl.v402
  exact (rdc _ _ 0 q 0 q (Nat.zero_add _).symm (Nat.zero_add _).symm).trans (t_H13_1 ..)
theorem t_v406 (r : Fin 512) (q : Fin 2048) : (trip.sl.v406 c i a2 h2 a3 h3 a8 Q K k) (ix2 r q) = sg Q K (512 * (2 * k.val + 1) + r.val) q := by
  delta trip.sl.v406
  exact (rdc _ _ r q r q (Nat.zero_add _).symm (Nat.zero_add _).symm).trans (t_H8_1 ..)

variable (s : St Ideal)
theorem n_d7 (r : Fin 512) (q : Fin 2048) : (nextSt c i a2 h2 a3 h3 a4 h4 a5 h5 a6 h6 a7 h7 a8 h8 a9 h9 a10 h10 a11 h11 a12 h12 a13 h13 a14 h14 a15 h15 Q K V k s).d7 (ix2 r q) = sg Q K (512 * (2 * k.val + 2) + r.val) q := by
  have e : (nextSt c i a2 h2 a3 h3 a4 h4 a5 h5 a6 h6 a7 h7 a8 h8 a9 h9 a10 h10 a11 h11 a12 h12 a13 h13 a14 h14 a15 h15 Q K V k s).d7 = a7.view.read (Elt Ideal) (a7.view.writes (Elt Ideal) (h7.unread s.d7) (⟨Rect.unit (s := S512x2048) ![0, 0] S512x2048.size inb_S512x2048_S512x2048_0_0, k0_pay15 (trip.sl.r_2 c i a3 h3 K k) (trip.sl.r_3 c a2 h2 Q)⟩ :: [])) := by
    delta nextSt trip; with_reducible rfl
  rw [e, View.read_writes_full]
  delta trip.sl.r_2 trip.sl.r_3
  refine (pay15_apply _ _ _ _).trans (Finset.sum_congr rfl fun e _ => congrArg₂ (fun a b : EReal => a * b) (rdK h3 K _ (off3_eq i k).1 (off3_eq i k).2 r e) (rdQ h2 Q q q (Nat.zero_add _).symm e))
theorem n_d11 (q : Fin 2048) : (nextSt c i a2 h2 a3 h3 a4 h4 a5 h5 a6 h6 a7 h7 a8 h8 a9 h9 a10 h10 a11 h11 a12 h12 a13 h13 a14 h14 a15 h15 Q K V k s).d11 (ix2 0 q) = mx fun r => sg Q K (512 * (2 * k.val + 2) + r.val) q := by
  have e : (nextSt c i a2 h2 a3 h3 a4 h4 a5 h5 a6 h6 a7 h7 a8 h8 a9 h9 a10 h10 a11 h11 a12 h12 a13 h13 a14 h14 a15 h15 Q K V k s).d11 = a11.view.read (Elt Ideal) (a11.view.writes (Elt Ideal) (h11.unread s.d11) (⟨Rect.unit (s := S1x2048) ![0, 0] S1x2048.size inb_S1x2048_S1x2048_0_0, k0_pay16 (trip.sl.r_2 c i a3 h3 K k) (trip.sl.r_3 c a2 h2 Q)⟩ :: [])) := by
    delta nextSt trip; with_reducible rfl
  rw [e, View.read_writes_full]
  delta trip.sl.r_2 trip.sl.r_3
  refine (pay16_apply _ _ _).trans (congrArg mx (funext fun r => Finset.sum_congr rfl fun e _ => congrArg₂ (fun a b : EReal => a * b) (rdK h3 K _ (off3_eq i k).1 (off3_eq i k).2 r e) (rdQ h2 Q q q (Nat.zero_add _).symm e)))
theorem n_d13 (q : Fin 2048) : (nextSt c i a2 h2 a3 h3 a4 h4 a5 h5 a6 h6 a7 h7 a8 h8 a9 h9 a10 h10 a11 h11 a12 h12 a13 h13 a14 h14 a15 h15 Q K V k s).d13 (ix2 0 q) = max (max (s.d13 (ix2 0 q)) (s.d11 (ix2 0 q))) (mx fun r => sg Q K (512 * (2 * k.val + 1) + r.val) q) := by
  have e : (nextSt c i a2 h2 a3 h3 a4 h4 a5 h5 a6 h6 a7 h7 a8 h8 a9 h9 a10 h10 a11 h11 a12 h12 a13 h13 a14 h14 a15 h15 Q K V k s).d13 = a13.view.read (Elt Ideal) (a13.view.writes (Elt Ideal) (h13.unread s.d13) (⟨Rect.unit (s := S1x2048) ![0, 0] S1x2048.size inb_S1x2048_S1x2048_0_0, k0_pay47 (trip.sl.r_4 c i a2 h2 a3 h3 a11 h11 a12 a13 h13 Q K k s.d11 s.d13)⟩ :: (trip.sl.H13_1 c a11 h11 a13 h13 s.d11 s.d13))) := by
    delta nextSt trip; with_reducible rfl
  rw [e, View.read_writes_full]
  delta trip.sl.r_4
  exact (pay47_apply _ _ _).trans (congrArg₂ (fun a b : EReal => max a b) (t_v402 ..) (t_v401 ..))
theorem n_d14 (q : Fin 2048) : (nextSt c i a2 h2 a3 h3 a4 h4 a5 h5 a6 h6 a7 h7 a8 h8 a9 h9 a10 h10 a11 h11 a12 h12 a13 h13 a14 h14 a15 h15 Q K V k s).d14 (ix2 0 q) = Ideal.exp2 (max (s.d13 (ix2 0 q)) (s.d11 (ix2 0 q)) - max (max (s.d13 (ix2 0 q)) (s.d11 (ix2 0 q))) (mx fun r => sg Q K (512 * (2 * k.val + 1) + r.val) q) : EReal) := by
  have e : (nextSt c i a2 h2 a3 h3 a4 h4 a5 h5 a6 h6 a7 h7 a8 h8 a9 h9 a10 h10 a11 h11 a12 h12 a13 h13 a14 h14 a15 h15 Q K V k s).d14 = a14.view.read (Elt Ideal) (a14.view.writes (Elt Ideal) (h14.unread s.d14) (⟨Rect.unit (s := S1x2048) ![0, 0] S1x2048.size inb_S1x2048_S1x2048_0_0, k0_pay48 (trip.sl.r_5 c i a2 h2 a3 h3 a11 h11 a12 a13 h13 Q K k s.d11 s.d13)⟩ :: (trip.sl.H14_1 c a11 h11 a13 h13 s.d11 s.d13))) := by
    delta nextSt trip; with_reducible rfl
  rw [e, View.read_writes_full]
  delta trip.sl.r_5
  exact (pay48_apply _ _ _).trans (congrArg₂ (fun a b : EReal => Ideal.exp2 (a - max a b)) (t_v402 ..) (t_v401 ..))
theorem n_d10 (r : Fin 512) (q : Fin 2048) : (nextSt c i a2 h2 a3 h3 a4 h4 a5 h5 a6 h6 a7 h7 a8 h8 a9 h9 a10 h10 a11 h11 a12 h12 a13 h13 a14 h14 a15 h15 Q K V k s).d10 (ix2 r q) = Ideal.exp2 (sg Q K (512 * (2 * k.val + 1) + r.val) q - max (max (s.d13 (ix2 0 q)) (s.d11 (ix2 0 q))) (mx fun r => sg Q K (512 * (2 * k.val + 1) + r.val) q) : EReal) := by
  have e : (nextSt c i a2 h2 a3 h3 a4 h4 a5 h5 a6 h6 a7 h7 a8 h8 a9 h9 a10 h10 a11 h11 a12 h12 a13 h13 a14 h14 a15 h15 Q K V k s).d10 = a10.view.read (Elt Ideal) (a10.view.writes (Elt Ideal) (h10.unread s.d10) (⟨Rect.unit (s := S512x2048) ![0, 0] S512x2048.size inb_S512x2048_S512x2048_0_0, k0_pay46 (trip.sl.r_4 c i a2 h2 a3 h3 a11 h11 a12 a13 h13 Q K k s.d11 s.d13) (trip.sl.v406 c i a2 h2 a3 h3 a8 Q K k)⟩ :: [])) := by
    delta nextSt trip; with_reducible rfl
  rw [e, View.read_writes_full]
  delta trip.sl.r_4
  exact (pay46_apply _ _ _ _ _).trans (congrArg₂ (fun a b : EReal => Ideal.exp2 (a - b)) (t_v406 ..) (congrArg₂ (fun a b : EReal => max a b) (t_v402 ..) (t_v401 ..)))
theorem n_d15 (w : Fin 80) (q : Fin 2048) : (nextSt c i a2 h2 a3 h3 a4 h4 a5 h5 a6 h6 a7 h7 a8 h8 a9 h9 a10 h10 a11 h11 a12 h12 a13 h13 a14 h14 a15 h15 Q K V k s).d15 (ix2 w q) = Ideal.exp2 (s.d13 (ix2 0 q) - max (s.d13 (ix2 0 q)) (s.d11 (ix2 0 q)) : EReal) * (s.d14 (ix2 0 q) * s.d15 (ix2 w q) + ∑ r : Fin 512, va V w (512 * (2 * k.val - 1) + r.val) * s.d10 (ix2 r q)) + ∑ r : Fin 512, va V w (512 * (2 * k.val) + r.val) * Ideal.exp2 (s.d7 (ix2 r q) - max (s.d13 (ix2 0 q)) (s.d11 (ix2 0 q)) : EReal) := by
  have e : (nextSt c i a2 h2 a3 h3 a4 h4 a5 h5 a6 h6 a7 h7 a8 h8 a9 h9 a10 h10 a11 h11 a12 h12 a13 h13 a14 h14 a15 h15 Q K V k s).d15 = a15.view.read (Elt Ideal) (a15.view.writes (Elt Ideal) (h15.unread s.d15) (⟨Rect.unit (s := S80x2048) ![0, 0] S80x2048.size inb_S80x2048_S80x2048_0_0, k0_pay17 (trip.sl.v384 c a11 h11 a13 h13 a14 s.d11 s.d13) (trip.sl.v385 c i a4 h4 a10 h10 a14 h14 a15 h15 V k s.d10 s.d14 s.d15) (View.readAt (Elt Ideal) a4.view (Rect.unit (s := S1x128x8192) (k0_off4 i k) S1x80x512.size (k0_off4_inb i k)).toLoadRect (h4.unread V)) (trip.sl.v395 c a7 h7 a9 a11 h11 a13 h13 s.d7 s.d11 s.d13)⟩ :: (trip.sl.H15_1 c i a4 h4 a10 h10 a14 h14 a15 h15 V k s.d10 s.d14 s.d15))) := by
    delta nextSt trip; with_reducible rfl
  rw [e, View.read_writes_full]
  refine (pay17_apply _ _ _ _ _ _).trans (congrArg₂ (fun a b : EReal => a + b) (congrArg₂ (fun a b : EReal => a * b) (t_v384 ..) (t_v385 ..)) (Finset.sum_congr rfl fun r _ => ?_))
  exact congrArg₂ (fun a b : EReal => a * b) (rdV h4 V _ (off4_eq i k).1 (off4_eq i k).2 w r) (t_v395 ..)

/-- What the tables hold before a trip: the scores of the next block of keys, a number of each query, and every query's sums over the blocks before. -/
structure Inv (n : ℕ) (s : St Ideal) : Prop where
  h7 : ∀ (r : Fin 512) (q : Fin 2048), s.d7 (ix2 r q) = sg Q K (512 * (2 * n) + r.val) q
  h11 : ∀ q : Fin 2048, ∃ x : ℝ, s.d11 (ix2 0 q) = (x : EReal)
  hc : ∀ q : Fin 2048, Col (va V) (fun k => sg Q K k q) (512 * (2 * n)) (s.d13 (ix2 0 q)) (fun w => s.d14 (ix2 0 q) * s.d15 (ix2 w q) + ∑ r : Fin 512, va V w (512 * (2 * n - 1) + r.val) * s.d10 (ix2 r q))

theorem mx_real (f : Fin 512 → EReal) (h : ∀ r, f r ≠ ⊤) (h0 : f 0 ≠ ⊥) : ∃ x : ℝ, mx f = (x : EReal) := by
  have h1 : mx f < ⊤ := by
    unfold mx
    exact (Finset.fold_max_lt _).2 ⟨bot_lt_top, fun r _ => lt_top_iff_ne_top.2 (h r)⟩
  have h2 : f 0 ≤ mx f := by
    unfold mx
    exact (Finset.le_fold_max _).2 (Or.inr ⟨0, Finset.mem_univ _, le_refl _⟩)
  generalize mx f = M at h1 h2
  induction M using EReal.rec with
  | bot => exact absurd (le_bot_iff.1 h2) h0
  | coe r => exact ⟨r, rfl⟩
  | top => exact absurd h1 (lt_irrefl _)
theorem mx_coe (f : Fin 512 → EReal) (h : ∀ r, ∃ x : ℝ, f r = (x : EReal)) : ∃ x : ℝ, mx f = (x : EReal) := by
  refine mx_real f (fun r => ?_) ?_
  · obtain ⟨x, hx⟩ := h r; rw [hx]; exact EReal.coe_ne_top _
  · obtain ⟨x, hx⟩ := h 0; rw [hx]; exact EReal.coe_ne_bot _

/-- A trip takes the tables two blocks on. -/
theorem Inv.step (hV : ∀ w k, ∃ x : ℝ, va V w k = (x : EReal)) (hS : ∀ k q, ∃ x : ℝ, sg Q K k q = (x : EReal)) (h : Inv Q K V k.val s) :
    Inv Q K V (k.val + 1) (nextSt c i a2 h2 a3 h3 a4 h4 a5 h5 a6 h6 a7 h7 a8 h8 a9 h9 a10 h10 a11 h11 a12 h12 a13 h13 a14 h14 a15 h15 Q K V k s) where
  h7 r q := (n_d7 ..).trans (by rw [show 2 * (k.val + 1) = 2 * k.val + 2 by omega])
  h11 q := by rw [n_d11]; exact mx_coe _ fun r => hS _ _
  hc q := by
    have hT : ∀ k, sg Q K k q ≠ ⊤ := fun k => by obtain ⟨x, hx⟩ := hS k q; rw [hx]; exact EReal.coe_ne_top _
    have h1 := Col.step hV hT (h.h11 q) (h.hc q)
    have h2 := Col.step hV hT (mx_coe (fun r => sg Q K (512 * (2 * k.val + 1) + r.val) q) fun r => hS _ _) h1
    have e1 : 512 * (2 * k.val) + 512 = 512 * (2 * k.val + 1) := by omega
    rw [e1] at h2
    rw [show 512 * (2 * (k.val + 1)) = 512 * (2 * k.val + 1) + 512 by omega, show 2 * (k.val + 1) - 1 = 2 * k.val + 1 by omega, n_d13, n_d14]
    refine Eq.mp (congrArg (Col _ _ _ _) (funext fun w => ?_)) h2
    beta_reduce
    rw [n_d15]
    refine congrArg₂ (fun a b : EReal => a + b) (congrArg (fun b : EReal => _ * b) (congrArg (fun b : EReal => _ + b) (Finset.sum_congr rfl fun r _ => ?_))) (Finset.sum_congr rfl fun r _ => ?_)
    · rw [h.h7]
    · rw [n_d10]

/-- Before trip `n`. -/
theorem Inv.loop (hV : ∀ w k, ∃ x : ℝ, va V w k = (x : EReal)) (hS : ∀ k q, ∃ x : ℝ, sg Q K k q = (x : EReal)) (h : Inv Q K V 0 s) : ∀ n, n ≤ 2 * (i 1).val →
    Inv Q K V n (loopSt c i a2 h2 a3 h3 a4 h4 a5 h5 a6 h6 a7 h7 a8 h8 a9 h9 a10 h10 a11 h11 a12 h12 a13 h13 a14 h14 a15 h15 Q K V s n)
  | 0, _ => h
  | n + 1, hn => by
    have ht : n < (k0_t1_loop i).trips := Nat.lt_of_lt_of_eq (by omega) (trips_eq i).symm
    unfold loopSt
    rw [dif_pos ht]
    exact Inv.step c i a2 h2 a3 h3 a4 h4 a5 h5 a6 h6 a7 h7 a8 h8 a9 h9 a10 h10 a11 h11 a12 h12 a13 h13 a14 h14 a15 h15 Q K V ⟨n, ht⟩ _ hV hS (Inv.loop hV hS h n (by omega))
end Cert.Kernel3Ideal.Fwd
-- ==== Proof.WPayD.lean ====
module
public import proofs.«01_k».proof.Proof.WPay
public import Idealize.ShloMosaic.Lib.Pipeline.ReadBack
public import Idealize.ShloMosaic.Lib.Pointwise
public import Idealize.ShloMosaic.Lib.WholeRead
public import Idealize.ShloMosaic.Lib.WordCmp
public import Idealize.ShloMosaic.PureOps.Ideal
@[expose] public section
set_option maxRecDepth 16384
noncomputable section
namespace Cert.Kernel3Ideal.Fwd
open Cert.Kernel3Ideal Cert.Kernel3Ideal.Gen Idealize.ShloMosaic Idealize.ShloMosaic.TcCoe Idealize.SL.Sem

/-! The vectors a point stores before and after its loop, read at an index. -/

theorem pay41_apply (r : Fin 512) (q : Fin 2048) : k0_pay41 (F := Ideal) (ix2 r q) = (0 : EReal) := by
  pointwise [k0_pay41]
theorem pay42_apply (q : Fin 2048) : k0_pay42 (F := Ideal) (ix2 0 q) = (1 : EReal) := by
  pointwise [k0_pay42]
theorem pay43_apply (q : Fin 2048) : k0_pay43 (F := Ideal) (ix2 0 q) = (⊥ : EReal) := by
  pointwise [k0_pay43]
  exact bot_bits
theorem pay45_apply (w : Fin 80) (q : Fin 2048) : k0_pay45 (k0_pay44 (F := Ideal)) (ix2 w q) = (0 : EReal) := by
  pointwise [k0_pay45, k0_pay44]
theorem mx2048_apply (s : Vec Ideal S512x2048 .f32) (m : Vec Ideal S1x2048 .f32) (q : Fin 2048) : k0_pay55 s m (ix2 0 q) = max (m (ix2 0 q)) (mx fun r => mk q.val r.val (s (ix2 r q))) := by
  pointwise [k0_pay55]
  refine congrArg (max (m (ix2 0 q))) ?_
  rw [bot_bits]
  refine congrArg (fun f => Finset.univ.fold max (⊥ : EReal) f) (funext fun r => ?_)
  have h := mk_sel q.val r.val (by omega) (by omega) (s (ix2 r q))
  rw [bot_bits] at h
  exact h
theorem m2048_apply (s : Vec Ideal S512x2048 .f32) (m : Vec Ideal S1x2048 .f32) (q : Fin 2048) : k0_pay58 (k0_pay55 s m) (ix2 0 q) = max (m (ix2 0 q)) (mx fun r => mk q.val r.val (s (ix2 r q))) := by
  rw [← mx2048_apply s m q]
  pointwise [k0_pay58]
theorem p2048_apply (s : Vec Ideal S512x2048 .f32) (m : Vec Ideal S1x2048 .f32) (r : Fin 512) (q : Fin 2048) :
    k0_pay57 s m s (ix2 r q) = Ideal.exp2 (mk q.val r.val (s (ix2 r q)) - max (m (ix2 0 q)) (mx fun r => mk q.val r.val (s (ix2 r q))) : EReal) := by
  rw [← mx2048_apply s m q, ← mk_sel q.val r.val (by omega) (by omega)]
  pointwise [k0_pay57]
  rfl
theorem a2048_apply (s : Vec Ideal S512x2048 .f32) (m : Vec Ideal S1x2048 .f32) (q : Fin 2048) : k0_pay56 s m (ix2 0 q) = Ideal.exp2 (m (ix2 0 q) - max (m (ix2 0 q)) (mx fun r => mk q.val r.val (s (ix2 r q))) : EReal) := by
  rw [← mx2048_apply s m q]
  pointwise [k0_pay56]
  rfl
theorem mx1536_apply (s : Vec Ideal S512x1536 .f32) (m : Vec Ideal S1x1536 .f32) (q : Fin 1536) : k0_pay62 s m (ix2 0 q) = max (m (ix2 0 q)) (mx fun r => mk q.val r.val (s (ix2 r q))) := by
  pointwise [k0_pay62]
  refine congrArg (max (m (ix2 0 q))) ?_
  rw [bot_bits]
  refine congrArg (fun f => Finset.univ.fold max (⊥ : EReal) f) (funext fun r => ?_)
  have h := mk_sel q.val r.val (by omega) (by omega) (s (ix2 r q))
  rw [bot_bits] at h
  exact h
theorem m1536_apply (s : Vec Ideal S512x1536 .f32) (m : Vec Ideal S1x1536 .f32) (q : Fin 1536) : k0_pay65 s m (ix2 0 q) = max (m (ix2 0 q)) (mx fun r => mk q.val r.val (s (ix2 r q))) := by
  rw [← mx1536_apply s m q]
  pointwise [k0_pay65]
theorem p1536_apply (s : Vec Ideal S512x1536 .f32) (m : Vec Ideal S1x1536 .f32) (r : Fin 512) (q : Fin 1536) :
    k0_pay64 s m s (ix2 r q) = Ideal.exp2 (mk q.val r.val (s (ix2 r q)) - max (m (ix2 0 q)) (mx fun r => mk q.val r.val (s (ix2 r q))) : EReal) := by
  rw [← mx1536_apply s m q, ← mk_sel q.val r.val (by omega) (by omega)]
  pointwise [k0_pay64]
  rfl
theorem a1536_apply (s : Vec Ideal S512x1536 .f32) (m : Vec Ideal S1x1536 .f32) (q : Fin 1536) : k0_pay63 s m (ix2 0 q) = Ideal.exp2 (m (ix2 0 q) - max (m (ix2 0 q)) (mx fun r => mk q.val r.val (s (ix2 r q))) : EReal) := by
  rw [← mx1536_apply s m q]
  pointwise [k0_pay63]
  rfl
theorem mx1024_apply (s : Vec Ideal S512x1024 .f32) (m : Vec Ideal S1x1024 .f32) (q : Fin 1024) : k0_pay69 (k0_pay68 s) m (ix2 0 q) = max (m (ix2 0 q)) (mx fun r => mk q.val r.val (s (ix2 r q))) := by
  pointwise [k0_pay69, k0_pay68]
  refine congrArg (max (m (ix2 0 q))) ?_
  rw [bot_bits]
  refine congrArg (fun f => Finset.univ.fold max (⊥ : EReal) f) (funext fun r => ?_)
  have h := mk_sel q.val r.val (by omega) (by omega) (s (ix2 r q))
  rw [bot_bits] at h
  exact h
theorem m1024_apply (s : Vec Ideal S512x1024 .f32) (m : Vec Ideal S1x1024 .f32) (q : Fin 1024) : k0_pay71 (k0_pay68 s) m (ix2 0 q) = max (m (ix2 0 q)) (mx fun r => mk q.val r.val (s (ix2 r q))) := by
  rw [← mx1024_apply s m q]
  pointwise [k0_pay71]
theorem p1024_apply (s : Vec Ideal S512x1024 .f32) (m : Vec Ideal S1x1024 .f32) (r : Fin 512) (q : Fin 1024) :
    k0_pay70 (k0_pay68 s) m s (ix2 r q) = Ideal.exp2 (mk q.val r.val (s (ix2 r q)) - max (m (ix2 0 q)) (mx fun r => mk q.val r.val (s (ix2 r q))) : EReal) := by
  rw [← mx1024_apply s m q, ← mk_sel q.val r.val (by omega) (by omega)]
  pointwise [k0_pay70]
  rfl
theorem pay74_apply (s : Vec Ideal S512x1024 .f32) (m : Vec Ideal S1x1024 .f32) (b : Vec Ideal S80x1024 .f32) (v : Vec Ideal S1x80x512 .bf16) (p : Vec Ideal S512x1024 .bf16) (w : Fin 80) (q : Fin 1024) :
    k0_pay74 (k0_pay72 (k0_pay68 s) m b) (k0_pay73 v) p (constant S80x1024 .f32 0x00000000#32) (ix2 w q) = Ideal.exp2 (m (ix2 0 q) - max (m (ix2 0 q)) (mx fun r => mk q.val r.val (s (ix2 r q))) : EReal) * b (ix2 w q) + ∑ r : Fin 512, v (ix3 0 w r) * p (ix2 r q) := by
  rw [← mx1024_apply s m q]
  pointwise [k0_pay74, k0_pay72, k0_pay73]
  rfl
theorem mx512_apply (s : Vec Ideal S512x512 .f32) (m : Vec Ideal S1x512 .f32) (q : Fin 512) : k0_pay75 s m (ix2 0 q) = max (m (ix2 0 q)) (mx fun r => mk q.val r.val (s (ix2 r q))) := by
  pointwise [k0_pay75]
  refine congrArg (max (m (ix2 0 q))) ?_
  rw [bot_bits]
  refine congrArg (fun f => Finset.univ.fold max (⊥ : EReal) f) (funext fun r => ?_)
  have h := mk_sel q.val r.val (by omega) (by omega) (s (ix2 r q))
  rw [bot_bits] at h
  exact h
theorem m512_apply (s : Vec Ideal S512x512 .f32) (m : Vec Ideal S1x512 .f32) (q : Fin 512) : k0_pay78 s m (ix2 0 q) = max (m (ix2 0 q)) (mx fun r => mk q.val r.val (s (ix2 r q))) := by
  rw [← mx512_apply s m q]
  pointwise [k0_pay78]
theorem p512_apply (s : Vec Ideal S512x512 .f32) (m : Vec Ideal S1x512 .f32) (r : Fin 512) (q : Fin 512) :
    k0_pay77 s m s (ix2 r q) = Ideal.exp2 (mk q.val r.val (s (ix2 r q)) - max (m (ix2 0 q)) (mx fun r => mk q.val r.val (s (ix2 r q))) : EReal) := by
  rw [← mx512_apply s m q, ← mk_sel q.val r.val (by omega) (by omega)]
  pointwise [k0_pay77]
  rfl
theorem a512_apply (s : Vec Ideal S512x512 .f32) (m : Vec Ideal S1x512 .f32) (q : Fin 512) : k0_pay76 s m (ix2 0 q) = Ideal.exp2 (m (ix2 0 q) - max (m (ix2 0 q)) (mx fun r => mk q.val r.val (s (ix2 r q))) : EReal) := by
  rw [← mx512_apply s m q]
  pointwise [k0_pay76]
  rfl
theorem pay80_apply (a : Vec Ideal S1x2048 .f32) (b : Vec Ideal S64x2048 .f32) (q : Fin 2048) (d : Fin 128) :
    k0_pay80 a b (ix3 0 q d) = if h : 64 ≤ d.val then Ideal.div (b (ix2 ⟨d.val - 64, by omega⟩ q)) (a (ix2 0 q)) else 0 := by
  pointwise [k0_pay80]
  by_cases h : d.val < 64
  · rw [dif_pos h, dif_neg (by omega)]
  · rw [dif_neg h, dif_pos (by omega)]
theorem pay81_apply (a m : Vec Ideal S1x2048 .f32) (q : Fin 2048) :
    k0_pay1 (k0_pay81 a m) (ix3 0 0 q) = (m (ix2 0 q) + Ideal.log (a (ix2 0 q)) * Named.named (F := Ideal) (φ := .f32) Cert.Kernel3Ideal.κ "log2e" 0x3FB8AA3B#32 : EReal) := by
  pointwise [k0_pay1, k0_pay81]
end Cert.Kernel3Ideal.Fwd
-- ==== Proof.WEnd.lean ====
module
public import proofs.«01_k».proof.Proof.WStep
public import proofs.«01_k».proof.Proof.WPayD
public import Idealize.ShloMosaic.Lib.Pipeline.FrameBody
@[expose] public section
set_option maxRecDepth 16384
noncomputable section
namespace Cert.Kernel3Ideal.Fwd
open Cert.Kernel3Ideal Cert.Kernel3Ideal.Gen Idealize.ShloMosaic Idealize.ShloMosaic.TcCoe Idealize.SL.Sem

/-! The blocks of keys on the diagonal, and what a point leaves in its results. -/

theorem stage {v : Fin 80 → ℕ → EReal} {T : ℕ → EReal} {n : ℕ} {m M : EReal} {C C' : Fin 80 → EReal} (hv : ∀ w k, ∃ r : ℝ, v w k = (r : EReal)) (hT : ∀ k, T k ≠ ⊤) (h0 : T n ≠ ⊥)
    (hM : M = max m (mx fun r => T (n + r.val)))
    (hC : ∀ w, C' w = Ideal.exp2 (m - max m (mx fun r => T (n + r.val))) * C w + ∑ r : Fin 512, v w (n + r.val) * Ideal.exp2 (T (n + r.val) - max m (mx fun r => T (n + r.val))))
    (h : Col v T n m C) : Col v T (n + 512) M C' := by
  obtain rfl := hM
  exact Eq.mp (congrArg (Col _ _ _ _) (funext fun w => (hC w).symm)) (Col.step hv hT (mx_real _ (fun r => hT _) h0) h)
variable (c : Dev nD) (i : grid0.Coords) (a2 : Memref sig .tc .vmem S1x2048x128 .bf16) (h2 : a2.IsWhole) (a3 : Memref sig .tc .vmem S1x8192x128 .bf16) (h3 : a3.IsWhole) (a4 : Memref sig .tc .vmem S1x128x8192 .bf16) (h4 : a4.IsWhole) (a5 : Memref sig .tc .vmem S1x2048x128 .f32) (h5 : a5.IsWhole) (a6 : Memref sig .tc .vmem S1x1x2048 .f32) (h6 : a6.IsWhole) (a7 : Memref sig .tc .vmem S512x2048 .f32) (h7 : a7.IsWhole) (a8 : Memref sig .tc .vmem S512x2048 .f32) (h8 : a8.IsWhole) (a9 : Memref sig .tc .vmem S512x2048 .bf16) (h9 : a9.IsWhole) (a10 : Memref sig .tc .vmem S512x2048 .bf16) (h10 : a10.IsWhole) (a11 : Memref sig .tc .vmem S1x2048 .f32) (h11 : a11.IsWhole) (a12 : Memref sig .tc .vmem S1x2048 .f32) (h12 : a12.IsWhole) (a13 : Memref sig .tc .vmem S1x2048 .f32) (h13 : a13.IsWhole) (a14 : Memref sig .tc .vmem S1x2048 .f32) (h14 : a14.IsWhole) (a15 : Memref sig .tc .vmem S80x2048 .f32) (h15 : a15.IsWhole) (Q : Vec Ideal S1x2048x128 .bf16) (K : Vec Ideal S1x8192x128 .bf16) (V : Vec Ideal S1x128x8192 .bf16)

/-- A query's scores with the later keys taken out, at the tile `I` of queries. -/
def Tq (I : ℕ) (q : Fin 2048) (k : ℕ) : EReal := if k ≤ 2048 * I + q.val then sg Q K k q else ⊥
theorem mk_T (u I c r : ℕ) (q : Fin 2048) (h : q.val = 512 * u + c) : mk c r (sg Q K (512 * (4 * I + u) + r) q) = Tq Q K I q (512 * (4 * I + u) + r) := by
  unfold mk Tq
  exact if_congr (by omega) rfl rfl

/-- The tables before the loop. -/
def S0 : St Ideal := ⟨a7.view.read (Elt Ideal) (a7.view.writes (Elt Ideal) a7.view.junk (point.sl.H7_1 c a2 h2 a3 h3 Q K)), a10.view.read (Elt Ideal) (a10.view.writes (Elt Ideal) a10.view.junk (point.sl.H10_1 (F := Ideal))),
  a11.view.read (Elt Ideal) (a11.view.writes (Elt Ideal) a11.view.junk (point.sl.H11_1 c a2 h2 a3 h3 Q K)), a13.view.read (Elt Ideal) (a13.view.writes (Elt Ideal) a13.view.junk (point.sl.H13_1 (F := Ideal))),
  a14.view.read (Elt Ideal) (a14.view.writes (Elt Ideal) a14.view.junk (point.sl.H14_1 (F := Ideal))), a15.view.read (Elt Ideal) (a15.view.writes (Elt Ideal) a15.view.junk (point.sl.H15_1 (F := Ideal)))⟩
/-- The tables after the loop. -/
def SE : St Ideal := loopSt c i a2 h2 a3 h3 a4 h4 a5 h5 a6 h6 a7 h7 a8 h8 a9 h9 a10 h10 a11 h11 a12 h12 a13 h13 a14 h14 a15 h15 Q K V (S0 c a2 h2 a3 h3 a7 a10 a11 a13 a14 a15 Q K) (k0_t1_loop i).trips

theorem S0_inv (hS : ∀ k q, ∃ x : ℝ, sg Q K k q = (x : EReal)) : Inv Q K V 0 (S0 c a2 h2 a3 h3 a7 a10 a11 a13 a14 a15 Q K) where
  h7 r q := by
    unfold S0
    delta point.sl.H7_1
    dsimp only
    rw [View.read_writes_full]
    exact (pay39_apply _ _ _ _).trans (Finset.sum_congr rfl fun e _ => congrArg₂ (fun a b : EReal => a * b) (rdK h3 K (512 * (2 * 0)) rfl rfl r e) (rdQ h2 Q q q (Nat.zero_add _).symm e))
  h11 q := by
    unfold S0
    delta point.sl.H11_1
    dsimp only
    rw [View.read_writes_full, pay40_apply]
    refine mx_coe _ fun r => ?_
    obtain ⟨x, hx⟩ := hS (512 * (2 * 0) + r.val) q
    exact ⟨x, (Finset.sum_congr rfl fun e _ => congrArg₂ (fun a b : EReal => a * b) (rdK h3 K (512 * (2 * 0)) rfl rfl r e) (rdQ h2 Q q q (Nat.zero_add _).symm e)).trans hx⟩
  hc q := by
    unfold S0
    delta point.sl.H10_1 point.sl.H13_1 point.sl.H14_1 point.sl.H15_1
    dsimp only
    rw [View.read_writes_full, View.read_writes_full, View.read_writes_full, View.read_writes_full]
    refine Or.inl ⟨rfl, pay43_apply q, fun w => ?_⟩
    beta_reduce
    rw [pay45_apply, mul_zero, zero_add]
    exact Finset.sum_eq_zero fun r _ => by rw [pay41_apply, mul_zero]
/-- What is named by the operands of a point. -/
local notation "AT " f:max => f c i a2 h2 a3 h3 a4 h4 a5 h5 a6 h6 a7 h7 a8 h8 a9 h9 a10 h10 a11 h11 a12 h12 a13 h13 a14 h14 a15 h15 Q K V
theorem SE_inv (hV : ∀ w k, ∃ x : ℝ, va V w k = (x : EReal)) (hS : ∀ k q, ∃ x : ℝ, sg Q K k q = (x : EReal)) : Inv Q K V (2 * (i 1).val) (AT SE) := by
  unfold SE
  rw [trips_eq i]
  exact (AT Inv.loop) _ hV hS (S0_inv c a2 h2 a3 h3 a7 a10 a11 a13 a14 a15 Q K V hS) _ (Nat.le_refl _)
theorem p_v40 (q : Fin 2048) : (AT point.sl.v40) (ix2 0 q) = (AT SE).d14 (ix2 0 q) := by
  delta point.sl.v40 SE S0
  exact rdw h14 _ 0 q
theorem p_v54 (w : Fin 80) (q : Fin 2048) : (AT point.sl.v54) (ix2 w q) = (AT SE).d15 (ix2 w q) := by
  delta point.sl.v54 SE S0
  exact rdw h15 _ w q
theorem p_v65 (r : Fin 512) (q : Fin 2048) : (AT point.sl.v65) (ix2 r q) = (AT SE).d10 (ix2 r q) := by
  delta point.sl.v65 SE S0
  exact rdw h10 _ r q
theorem p_v71 (r : Fin 512) (q : Fin 2048) : (AT point.sl.v71) (ix2 r q) = (AT SE).d7 (ix2 r q) := by
  delta point.sl.v71 SE S0
  exact rdw h7 _ r q
theorem p_v81 (q : Fin 2048) : (AT point.sl.v81) (ix2 0 q) = (AT SE).d13 (ix2 0 q) := by
  delta point.sl.v81 SE S0
  exact rdw h13 _ 0 q
theorem p_s0 (hV : ∀ w k, ∃ x : ℝ, va V w k = (x : EReal)) (hS : ∀ k q, ∃ x : ℝ, sg Q K k q = (x : EReal)) (r : Fin 512) (q : Fin 2048) : (AT point.sl.v71) (ix2 r q) = sg Q K (512 * (4 * (i 1).val + 0) + r.val) q := by
  rw [p_v71, ((AT SE_inv) hV hS).h7, show 2 * (2 * (i 1).val) = 4 * (i 1).val + 0 by omega]
theorem p_c1 (w : Fin 80) (q : Fin 2048) : View.canon (AT point.sl.H15_1_1) (ix2 w q) = (AT SE).d14 (ix2 0 q) * (AT SE).d15 (ix2 w q) + ∑ r : Fin 512, va V w (512 * (4 * (i 1).val - 1) + r.val) * (AT SE).d10 (ix2 r q) := by
  delta point.sl.H15_1_1 point.sl.r_1
  refine (cn_all _ _ _ _).trans ?_
  refine (pay54_apply _ _ _ _ _ _).trans (congrArg₂ (fun a b : EReal => a + b) (congrArg₂ (fun a b : EReal => a * b) (p_v40 ..) (p_v54 ..)) (Finset.sum_congr rfl fun r _ => ?_))
  exact congrArg₂ (fun a b : EReal => a * b) (rdV h4 V _ (off10_eq i).1.1 (off10_eq i).1.2 w r) (p_v65 ..)
theorem p_m1 (hV : ∀ w k, ∃ x : ℝ, va V w k = (x : EReal)) (hS : ∀ k q, ∃ x : ℝ, sg Q K k q = (x : EReal)) (q : Fin 2048) : View.canon (AT point.sl.H13_1_1) (ix2 0 q) = max ((AT SE).d13 (ix2 0 q)) (mx fun r => Tq Q K (i 1).val q (512 * (4 * (i 1).val + 0) + r.val)) := by
  delta point.sl.H13_1_1 point.sl.r_2
  refine (cn_all _ _ _ _).trans ((m2048_apply _ _ _).trans ?_)
  exact congrArg₂ (fun a b : EReal => max a b) (p_v81 ..) (congrArg mx (funext fun r => (congrArg (mk q.val r.val) ((AT p_s0) hV hS r q)).trans (mk_T Q K 0 _ _ _ q (by omega))))
theorem p_a1 (hV : ∀ w k, ∃ x : ℝ, va V w k = (x : EReal)) (hS : ∀ k q, ∃ x : ℝ, sg Q K k q = (x : EReal)) (q : Fin 2048) : (AT point.sl.r_3) (ix2 0 q) = Ideal.exp2 (((AT SE).d13 (ix2 0 q)) - max ((AT SE).d13 (ix2 0 q)) (mx fun r => Tq Q K (i 1).val q (512 * (4 * (i 1).val + 0) + r.val)) : EReal) := by
  delta point.sl.r_3
  refine (a2048_apply _ _ _).trans ?_
  exact congrArg₂ (fun a b : EReal => Ideal.exp2 (a - b)) (p_v81 ..) (congrArg₂ (fun a b : EReal => max a b) (p_v81 ..) (congrArg mx (funext fun r => (congrArg (mk q.val r.val) ((AT p_s0) hV hS r q)).trans (mk_T Q K 0 _ _ _ q (by omega)))))
theorem p_p1 (hV : ∀ w k, ∃ x : ℝ, va V w k = (x : EReal)) (hS : ∀ k q, ∃ x : ℝ, sg Q K k q = (x : EReal)) (r : Fin 512) (q : Fin 2048) : (AT point.sl.v127) (ix2 r q) = Ideal.exp2 (Tq Q K (i 1).val q (512 * (4 * (i 1).val + 0) + r.val) - max ((AT SE).d13 (ix2 0 q)) (mx fun r => Tq Q K (i 1).val q (512 * (4 * (i 1).val + 0) + r.val)) : EReal) := by
  delta point.sl.v127
  refine (rdc _ _ r q r q (Nat.zero_add _).symm (Nat.zero_add _).symm).trans ?_
  delta point.sl.H9_1 point.sl.r_4
  refine (cn_all _ _ _ _).trans ((p2048_apply _ _ _ _).trans ?_)
  exact congrArg₂ (fun a b : EReal => Ideal.exp2 (a - b)) ((congrArg (mk q.val r.val) ((AT p_s0) hV hS r q)).trans (mk_T Q K 0 _ _ _ q (by omega))) (congrArg₂ (fun a b : EReal => max a b) (p_v81 ..) (congrArg mx (funext fun r => (congrArg (mk q.val r.val) ((AT p_s0) hV hS r q)).trans (mk_T Q K 0 _ _ _ q (by omega)))))
theorem p_c2 (hV : ∀ w k, ∃ x : ℝ, va V w k = (x : EReal)) (hS : ∀ k q, ∃ x : ℝ, sg Q K k q = (x : EReal)) (w : Fin 80) (q : Fin 2048) : View.canon (AT point.sl.H15_2) (ix2 w q) = Ideal.exp2 (((AT SE).d13 (ix2 0 q)) - max ((AT SE).d13 (ix2 0 q)) (mx fun r => Tq Q K (i 1).val q (512 * (4 * (i 1).val + 0) + r.val)) : EReal) * View.canon (AT point.sl.H15_1_1) (ix2 w q) + ∑ r : Fin 512, va V w (512 * (4 * (i 1).val + 0) + r.val) * Ideal.exp2 (Tq Q K (i 1).val q (512 * (4 * (i 1).val + 0) + r.val) - max ((AT SE).d13 (ix2 0 q)) (mx fun r => Tq Q K (i 1).val q (512 * (4 * (i 1).val + 0) + r.val)) : EReal) := by
  delta point.sl.H15_2 point.sl.r_5
  refine (cn_all _ _ _ _).trans ((pay61_apply _ _ _ _ _ _).trans ?_)
  refine congrArg₂ (fun a b : EReal => a + b) (congrArg₂ (fun a b : EReal => a * b) ((AT p_a1) hV hS q) ?_) (Finset.sum_congr rfl fun r _ => congrArg₂ (fun a b : EReal => a * b) (rdV h4 V _ (off10_eq i).2.1.1 (off10_eq i).2.1.2 w r) ((AT p_p1) hV hS r q))
  delta point.sl.v116
  exact rdc _ _ w q w q (Nat.zero_add _).symm (Nat.zero_add _).symm
theorem T_top (hS : ∀ k q, ∃ x : ℝ, sg Q K k q = (x : EReal)) (I : ℕ) (q : Fin 2048) (k : ℕ) : Tq Q K I q k ≠ ⊤ := by
  unfold Tq
  split_ifs
  · obtain ⟨x, hx⟩ := hS k q; rw [hx]; exact EReal.coe_ne_top _
  · exact bot_ne_top
theorem T_bot (hS : ∀ k q, ∃ x : ℝ, sg Q K k q = (x : EReal)) (I : ℕ) (q : Fin 2048) (k : ℕ) (h : k ≤ 2048 * I + q.val) : Tq Q K I q k ≠ ⊥ := by
  unfold Tq
  rw [if_pos h]
  obtain ⟨x, hx⟩ := hS k q; rw [hx]; exact EReal.coe_ne_bot _
theorem col1 (hV : ∀ w k, ∃ x : ℝ, va V w k = (x : EReal)) (hS : ∀ k q, ∃ x : ℝ, sg Q K k q = (x : EReal)) (q : Fin 2048) : Col (va V) (Tq Q K (i 1).val q) (512 * (4 * (i 1).val + 1)) (View.canon (AT point.sl.H13_1_1) (ix2 0 q)) (fun w => View.canon (AT point.sl.H15_2) (ix2 w q)) := by
  have h := Col.congr (T' := Tq Q K (i 1).val q) (fun k hk => by unfold Tq; rw [if_pos (by omega)]) (((AT SE_inv) hV hS).hc q)
  rw [show 2 * (2 * (i 1).val) = 4 * (i 1).val + 0 by omega] at h
  refine stage (n := 512 * (4 * (i 1).val + 0)) hV (T_top Q K hS _ q) (T_bot Q K hS _ q _ (by omega)) ((AT p_m1) hV hS q) ((AT p_c2) hV hS · q) ?_
  exact Eq.mp (congrArg (Col _ _ _ _) (funext fun w => ((AT p_c1) w q).symm)) h
theorem s1_s (r : Fin 512) (c' : Fin 1536) (q : Fin 2048) (hq : q.val = 512 * 1 + c'.val) : (point.sl.v133 c i a2 h2 a3 h3 a8 Q K) (ix2 r c') = sg Q K (512 * (4 * (i 1).val + 1) + r.val) q := by
  delta point.sl.v133
  refine (rdc _ _ r c' r q (Nat.zero_add _).symm (show q.val = 512 + c'.val by omega)).trans ?_
  delta point.sl.H8_1
  refine (cn_hit _ _ r c' q (show q.val = 512 + c'.val by omega)).trans ((pay52_apply _ _ _ _).trans (Finset.sum_congr rfl fun e _ => congrArg₂ (fun a b : EReal => a * b) (rdK h3 K _ (off9_eq i).1.1 (off9_eq i).1.2 r e) (rdQ h2 Q c' q (show q.val = 512 + c'.val by omega) e)))
theorem s1_m (c' : Fin 1536) (q : Fin 2048) (hq : q.val = 512 * 1 + c'.val) : (AT point.sl.v143) (ix2 0 c') = View.canon (AT point.sl.H13_1_1) (ix2 0 q) := by
  delta point.sl.v143
  exact rdc _ _ 0 c' 0 q (Nat.zero_add _).symm (show q.val = 512 + c'.val by omega)
theorem s1_a (w : Fin 80) (c' : Fin 1536) (q : Fin 2048) (hq : q.val = 512 * 1 + c'.val) : (AT point.sl.v178) (ix2 w c') = View.canon (AT point.sl.H15_2) (ix2 w q) := by
  delta point.sl.v178
  exact rdc _ _ w c' w q (Nat.zero_add _).symm (show q.val = 512 + c'.val by omega)
theorem s1_M (c' : Fin 1536) (q : Fin 2048) (hq : q.val = 512 * 1 + c'.val) : View.canon (AT point.sl.H13_2) (ix2 0 q) = max (View.canon (AT point.sl.H13_1_1) (ix2 0 q) : EReal) (mx fun r => Tq Q K (i 1).val q (512 * (4 * (i 1).val + 1) + r.val)) := by
  delta point.sl.H13_2
  refine (cn_hit _ _ 0 c' q (show q.val = 512 + c'.val by omega)).trans ((m1536_apply _ _ _).trans ?_)
  exact congrArg₂ (fun a b : EReal => max a b) (s1_m (hq := hq) ..) (congrArg mx (funext fun r => (congrArg (mk c'.val r.val) (s1_s (hq := hq) ..)).trans (mk_T Q K 1 _ _ _ q hq)))
theorem s1_p (r : Fin 512) (c' : Fin 1536) (q : Fin 2048) (hq : q.val = 512 * 1 + c'.val) : (AT point.sl.v189) (ix2 r c') = Ideal.exp2 (Tq Q K (i 1).val q (512 * (4 * (i 1).val + 1) + r.val) - max (View.canon (AT point.sl.H13_1_1) (ix2 0 q) : EReal) (mx fun r => Tq Q K (i 1).val q (512 * (4 * (i 1).val + 1) + r.val)) : EReal) := by
  delta point.sl.v189
  refine (rdc _ _ r c' r q (Nat.zero_add _).symm (show q.val = 512 + c'.val by omega)).trans ?_
  delta point.sl.H10_1_1
  refine (cn_hit _ _ r c' q (show q.val = 512 + c'.val by omega)).trans ((p1536_apply _ _ _ _).trans ?_)
  exact congrArg₂ (fun a b : EReal => Ideal.exp2 (a - b)) ((congrArg (mk c'.val r.val) (s1_s (hq := hq) ..)).trans (mk_T Q K 1 _ _ _ q hq)) (congrArg₂ (fun a b : EReal => max a b) (s1_m (hq := hq) ..) (congrArg mx (funext fun r => (congrArg (mk c'.val r.val) (s1_s (hq := hq) ..)).trans (mk_T Q K 1 _ _ _ q hq))))
theorem s1_C (w : Fin 80) (c' : Fin 1536) (q : Fin 2048) (hq : q.val = 512 * 1 + c'.val) : View.canon (AT point.sl.H15_3) (ix2 w q) = Ideal.exp2 ((View.canon (AT point.sl.H13_1_1) (ix2 0 q) : EReal) - max (View.canon (AT point.sl.H13_1_1) (ix2 0 q) : EReal) (mx fun r => Tq Q K (i 1).val q (512 * (4 * (i 1).val + 1) + r.val)) : EReal) * View.canon (AT point.sl.H15_2) (ix2 w q) + ∑ r : Fin 512, va V w (512 * (4 * (i 1).val + 1) + r.val) * Ideal.exp2 (Tq Q K (i 1).val q (512 * (4 * (i 1).val + 1) + r.val) - max (View.canon (AT point.sl.H13_1_1) (ix2 0 q) : EReal) (mx fun r => Tq Q K (i 1).val q (512 * (4 * (i 1).val + 1) + r.val)) : EReal) := by
  delta point.sl.H15_3 point.sl.r_6
  refine (cn_hit _ _ w c' q (show q.val = 512 + c'.val by omega)).trans ((pay67_apply _ _ _ _ _ _).trans ?_)
  exact congrArg₂ (fun a b : EReal => a + b) (congrArg₂ (fun a b : EReal => a * b) ((a1536_apply _ _ _).trans (congrArg₂ (fun a b : EReal => Ideal.exp2 (a - b)) (s1_m (hq := hq) ..) (congrArg₂ (fun a b : EReal => max a b) (s1_m (hq := hq) ..) (congrArg mx (funext fun r => (congrArg (mk c'.val r.val) (s1_s (hq := hq) ..)).trans (mk_T Q K 1 _ _ _ q hq)))))) (s1_a (hq := hq) ..)) (Finset.sum_congr rfl fun r _ => congrArg₂ (fun a b : EReal => a * b) (rdV h4 V _ (off10_eq i).2.2.1.1 (off10_eq i).2.2.1.2 w r) (s1_p (hq := hq) ..))
theorem s1_Mm (q : Fin 2048) (hq : q.val < 512) : View.canon (AT point.sl.H13_2) (ix2 0 q) = (View.canon (AT point.sl.H13_1_1) (ix2 0 q) : EReal) := by
  delta point.sl.H13_2
  exact cn_miss _ _ 0 q hq
theorem s1_Cm (w : Fin 80) (q : Fin 2048) (hq : q.val < 512) : View.canon (AT point.sl.H15_3) (ix2 w q) = View.canon (AT point.sl.H15_2) (ix2 w q) := by
  delta point.sl.H15_3
  exact cn_miss _ _ w q hq
/-- After the diagonal's block 1. -/
theorem col2 (hV : ∀ w k, ∃ x : ℝ, va V w k = (x : EReal)) (hS : ∀ k q, ∃ x : ℝ, sg Q K k q = (x : EReal)) (q : Fin 2048) : ∃ n, 512 * (4 * (i 1).val) + min (512 * 2) (512 * (q.val / 512 + 1)) = n ∧ Col (va V) (Tq Q K (i 1).val q) n (View.canon (AT point.sl.H13_2) (ix2 0 q)) (fun w => View.canon (AT point.sl.H15_3) (ix2 w q)) := by
  have h := (AT col1) hV hS q
  by_cases hc : 512 ≤ q.val
  · have hq : q.val = 512 * 1 + (⟨q.val - 512, by omega⟩ : Fin 1536).val := by show q.val = 512 * 1 + (q.val - 512); omega
    refine ⟨512 * (4 * (i 1).val + 1) + 512, by omega, ?_⟩
    exact stage (n := 512 * (4 * (i 1).val + 1)) hV (T_top Q K hS _ q) (T_bot Q K hS _ q _ (by omega)) ((AT s1_M) _ q hq) ((AT s1_C) · _ q hq) h
  · refine ⟨512 * (4 * (i 1).val + 1), by omega, ?_⟩
    rw [(AT s1_Mm) q (by omega)]
    exact Eq.mp (congrArg (Col _ _ _ _) (funext fun w => ((AT s1_Cm) w q (by omega)).symm)) h
theorem s2_s (r : Fin 512) (c' : Fin 1024) (q : Fin 2048) (hq : q.val = 512 * 2 + c'.val) : (point.sl.v195 c i a2 h2 a3 h3 a7 Q K) (ix2 r c') = sg Q K (512 * (4 * (i 1).val + 2) + r.val) q := by
  delta point.sl.v195
  refine (rdc _ _ r c' r q (Nat.zero_add _).symm (show q.val = 1024 + c'.val by omega)).trans ?_
  delta point.sl.H7_1_1
  refine (cn_hit _ _ r c' q (show q.val = 1024 + c'.val by omega)).trans ((pay59_apply _ _ _ _).trans (Finset.sum_congr rfl fun e _ => congrArg₂ (fun a b : EReal => a * b) (rdK h3 K _ (off9_eq i).2.1.1 (off9_eq i).2.1.2 r e) (rdQ h2 Q c' q (show q.val = 1024 + c'.val by omega) e)))
theorem s2_m (c' : Fin 1024) (q : Fin 2048) (hq : q.val = 512 * 2 + c'.val) : (AT point.sl.v205) (ix2 0 c') = View.canon (AT point.sl.H13_2) (ix2 0 q) := by
  delta point.sl.v205
  exact rdc _ _ 0 c' 0 q (Nat.zero_add _).symm (show q.val = 1024 + c'.val by omega)
theorem s2_a (w : Fin 80) (c' : Fin 1024) (q : Fin 2048) (hq : q.val = 512 * 2 + c'.val) : (AT point.sl.v227) (ix2 w c') = View.canon (AT point.sl.H15_3) (ix2 w q) := by
  delta point.sl.v227
  exact rdc _ _ w c' w q (Nat.zero_add _).symm (show q.val = 1024 + c'.val by omega)
theorem s2_M (c' : Fin 1024) (q : Fin 2048) (hq : q.val = 512 * 2 + c'.val) : View.canon (AT point.sl.H13_3) (ix2 0 q) = max (View.canon (AT point.sl.H13_2) (ix2 0 q) : EReal) (mx fun r => Tq Q K (i 1).val q (512 * (4 * (i 1).val + 2) + r.val)) := by
  delta point.sl.H13_3 point.sl.r_7
  refine (cn_hit _ _ 0 c' q (show q.val = 1024 + c'.val by omega)).trans ((m1024_apply _ _ _).trans ?_)
  exact congrArg₂ (fun a b : EReal => max a b) (s2_m (hq := hq) ..) (congrArg mx (funext fun r => (congrArg (mk c'.val r.val) (s2_s (hq := hq) ..)).trans (mk_T Q K 2 _ _ _ q hq)))
theorem s2_p (r : Fin 512) (c' : Fin 1024) (q : Fin 2048) (hq : q.val = 512 * 2 + c'.val) : (AT point.sl.v238) (ix2 r c') = Ideal.exp2 (Tq Q K (i 1).val q (512 * (4 * (i 1).val + 2) + r.val) - max (View.canon (AT point.sl.H13_2) (ix2 0 q) : EReal) (mx fun r => Tq Q K (i 1).val q (512 * (4 * (i 1).val + 2) + r.val)) : EReal) := by
  delta point.sl.v238
  refine (rdc _ _ r c' r q (Nat.zero_add _).symm (show q.val = 1024 + c'.val by omega)).trans ?_
  delta point.sl.H9_2 point.sl.r_7
  refine (cn_hit _ _ r c' q (show q.val = 1024 + c'.val by omega)).trans ((p1024_apply _ _ _ _).trans ?_)
  exact congrArg₂ (fun a b : EReal => Ideal.exp2 (a - b)) ((congrArg (mk c'.val r.val) (s2_s (hq := hq) ..)).trans (mk_T Q K 2 _ _ _ q hq)) (congrArg₂ (fun a b : EReal => max a b) (s2_m (hq := hq) ..) (congrArg mx (funext fun r => (congrArg (mk c'.val r.val) (s2_s (hq := hq) ..)).trans (mk_T Q K 2 _ _ _ q hq))))
theorem s2_C (w : Fin 80) (c' : Fin 1024) (q : Fin 2048) (hq : q.val = 512 * 2 + c'.val) : View.canon (AT point.sl.H15_4) (ix2 w q) = Ideal.exp2 ((View.canon (AT point.sl.H13_2) (ix2 0 q) : EReal) - max (View.canon (AT point.sl.H13_2) (ix2 0 q) : EReal) (mx fun r => Tq Q K (i 1).val q (512 * (4 * (i 1).val + 2) + r.val)) : EReal) * View.canon (AT point.sl.H15_3) (ix2 w q) + ∑ r : Fin 512, va V w (512 * (4 * (i 1).val + 2) + r.val) * Ideal.exp2 (Tq Q K (i 1).val q (512 * (4 * (i 1).val + 2) + r.val) - max (View.canon (AT point.sl.H13_2) (ix2 0 q) : EReal) (mx fun r => Tq Q K (i 1).val q (512 * (4 * (i 1).val + 2) + r.val)) : EReal) := by
  delta point.sl.H15_4 point.sl.r_8 point.sl.r_9 point.sl.r_7 point.sl.cst_148
  refine (cn_hit _ _ w c' q (show q.val = 1024 + c'.val by omega)).trans ((pay74_apply _ _ _ _ _ _ _).trans ?_)
  exact congrArg₂ (fun a b : EReal => a + b) (congrArg₂ (fun a b : EReal => a * b) (congrArg₂ (fun a b : EReal => Ideal.exp2 (a - b)) (s2_m (hq := hq) ..) (congrArg₂ (fun a b : EReal => max a b) (s2_m (hq := hq) ..) (congrArg mx (funext fun r => (congrArg (mk c'.val r.val) (s2_s (hq := hq) ..)).trans (mk_T Q K 2 _ _ _ q hq))))) (s2_a (hq := hq) ..)) (Finset.sum_congr rfl fun r _ => congrArg₂ (fun a b : EReal => a * b) (rdV h4 V _ (off10_eq i).2.2.2.1.1 (off10_eq i).2.2.2.1.2 w r) (s2_p (hq := hq) ..))
theorem s2_Mm (q : Fin 2048) (hq : q.val < 1024) : View.canon (AT point.sl.H13_3) (ix2 0 q) = (View.canon (AT point.sl.H13_2) (ix2 0 q) : EReal) := by
  delta point.sl.H13_3
  exact cn_miss _ _ 0 q hq
theorem s2_Cm (w : Fin 80) (q : Fin 2048) (hq : q.val < 1024) : View.canon (AT point.sl.H15_4) (ix2 w q) = View.canon (AT point.sl.H15_3) (ix2 w q) := by
  delta point.sl.H15_4
  exact cn_miss _ _ w q hq
/-- After the diagonal's block 2. -/
theorem col3 (hV : ∀ w k, ∃ x : ℝ, va V w k = (x : EReal)) (hS : ∀ k q, ∃ x : ℝ, sg Q K k q = (x : EReal)) (q : Fin 2048) : ∃ n, 512 * (4 * (i 1).val) + min (512 * 3) (512 * (q.val / 512 + 1)) = n ∧ Col (va V) (Tq Q K (i 1).val q) n (View.canon (AT point.sl.H13_3) (ix2 0 q)) (fun w => View.canon (AT point.sl.H15_4) (ix2 w q)) := by
  have h := (AT col2) hV hS q
  obtain ⟨n, hn, h⟩ := h
  by_cases hc : 1024 ≤ q.val
  · have hq : q.val = 512 * 2 + (⟨q.val - 1024, by omega⟩ : Fin 1024).val := by show q.val = 512 * 2 + (q.val - 1024); omega
    refine ⟨512 * (4 * (i 1).val + 2) + 512, by omega, ?_⟩
    obtain rfl : n = 512 * (4 * (i 1).val + 2) := by omega
    exact stage (n := 512 * (4 * (i 1).val + 2)) hV (T_top Q K hS _ q) (T_bot Q K hS _ q _ (by omega)) ((AT s2_M) _ q hq) ((AT s2_C) · _ q hq) h
  · refine ⟨n, by omega, ?_⟩
    rw [(AT s2_Mm) q (by omega)]
    exact Eq.mp (congrArg (Col _ _ _ _) (funext fun w => ((AT s2_Cm) w q (by omega)).symm)) h
theorem s3_s (r : Fin 512) (c' : Fin 512) (q : Fin 2048) (hq : q.val = 512 * 3 + c'.val) : (point.sl.v244 c i a2 h2 a3 h3 a8 Q K) (ix2 r c') = sg Q K (512 * (4 * (i 1).val + 3) + r.val) q := by
  delta point.sl.v244
  refine (rdc _ _ r c' r q (Nat.zero_add _).symm (show q.val = 1536 + c'.val by omega)).trans ?_
  delta point.sl.H8_2
  refine (cn_hit _ _ r c' q (show q.val = 1536 + c'.val by omega)).trans ((pay66_apply _ _ _ _).trans (Finset.sum_congr rfl fun e _ => congrArg₂ (fun a b : EReal => a * b) (rdK h3 K _ (off9_eq i).2.2.1 (off9_eq i).2.2.2 r e) (rdQ h2 Q c' q (show q.val = 1536 + c'.val by omega) e)))
theorem s3_m (c' : Fin 512) (q : Fin 2048) (hq : q.val = 512 * 3 + c'.val) : (AT point.sl.v254) (ix2 0 c') = View.canon (AT point.sl.H13_3) (ix2 0 q) := by
  delta point.sl.v254
  exact rdc _ _ 0 c' 0 q (Nat.zero_add _).symm (show q.val = 1536 + c'.val by omega)
theorem s3_a (w : Fin 80) (c' : Fin 512) (q : Fin 2048) (hq : q.val = 512 * 3 + c'.val) : (AT point.sl.v276) (ix2 w c') = View.canon (AT point.sl.H15_4) (ix2 w q) := by
  delta point.sl.v276
  exact rdc _ _ w c' w q (Nat.zero_add _).symm (show q.val = 1536 + c'.val by omega)
theorem s3_M (c' : Fin 512) (q : Fin 2048) (hq : q.val = 512 * 3 + c'.val) : View.canon (AT point.sl.H13_4) (ix2 0 q) = max (View.canon (AT point.sl.H13_3) (ix2 0 q) : EReal) (mx fun r => Tq Q K (i 1).val q (512 * (4 * (i 1).val + 3) + r.val)) := by
  delta point.sl.H13_4
  refine (cn_hit _ _ 0 c' q (show q.val = 1536 + c'.val by omega)).trans ((m512_apply _ _ _).trans ?_)
  exact congrArg₂ (fun a b : EReal => max a b) (s3_m (hq := hq) ..) (congrArg mx (funext fun r => (congrArg (mk c'.val r.val) (s3_s (hq := hq) ..)).trans (mk_T Q K 3 _ _ _ q hq)))
theorem s3_p (r : Fin 512) (c' : Fin 512) (q : Fin 2048) (hq : q.val = 512 * 3 + c'.val) : (AT point.sl.v287) (ix2 r c') = Ideal.exp2 (Tq Q K (i 1).val q (512 * (4 * (i 1).val + 3) + r.val) - max (View.canon (AT point.sl.H13_3) (ix2 0 q) : EReal) (mx fun r => Tq Q K (i 1).val q (512 * (4 * (i 1).val + 3) + r.val)) : EReal) := by
  delta point.sl.v287
  refine (rdc _ _ r c' r q (Nat.zero_add _).symm (show q.val = 1536 + c'.val by omega)).trans ?_
  delta point.sl.H10_2
  refine (cn_hit _ _ r c' q (show q.val = 1536 + c'.val by omega)).trans ((p512_apply _ _ _ _).trans ?_)
  exact congrArg₂ (fun a b : EReal => Ideal.exp2 (a - b)) ((congrArg (mk c'.val r.val) (s3_s (hq := hq) ..)).trans (mk_T Q K 3 _ _ _ q hq)) (congrArg₂ (fun a b : EReal => max a b) (s3_m (hq := hq) ..) (congrArg mx (funext fun r => (congrArg (mk c'.val r.val) (s3_s (hq := hq) ..)).trans (mk_T Q K 3 _ _ _ q hq))))
theorem s3_C (w : Fin 80) (c' : Fin 512) (q : Fin 2048) (hq : q.val = 512 * 3 + c'.val) : View.canon (AT point.sl.H15_5) (ix2 w q) = Ideal.exp2 ((View.canon (AT point.sl.H13_3) (ix2 0 q) : EReal) - max (View.canon (AT point.sl.H13_3) (ix2 0 q) : EReal) (mx fun r => Tq Q K (i 1).val q (512 * (4 * (i 1).val + 3) + r.val)) : EReal) * View.canon (AT point.sl.H15_4) (ix2 w q) + ∑ r : Fin 512, va V w (512 * (4 * (i 1).val + 3) + r.val) * Ideal.exp2 (Tq Q K (i 1).val q (512 * (4 * (i 1).val + 3) + r.val) - max (View.canon (AT point.sl.H13_3) (ix2 0 q) : EReal) (mx fun r => Tq Q K (i 1).val q (512 * (4 * (i 1).val + 3) + r.val)) : EReal) := by
  delta point.sl.H15_5 point.sl.r_10
  refine (cn_hit _ _ w c' q (show q.val = 1536 + c'.val by omega)).trans ((pay79_apply _ _ _ _ _ _).trans ?_)
  exact congrArg₂ (fun a b : EReal => a + b) (congrArg₂ (fun a b : EReal => a * b) ((a512_apply _ _ _).trans (congrArg₂ (fun a b : EReal => Ideal.exp2 (a - b)) (s3_m (hq := hq) ..) (congrArg₂ (fun a b : EReal => max a b) (s3_m (hq := hq) ..) (congrArg mx (funext fun r => (congrArg (mk c'.val r.val) (s3_s (hq := hq) ..)).trans (mk_T Q K 3 _ _ _ q hq)))))) (s3_a (hq := hq) ..)) (Finset.sum_congr rfl fun r _ => congrArg₂ (fun a b : EReal => a * b) (rdV h4 V _ (off10_eq i).2.2.2.2.1 (off10_eq i).2.2.2.2.2 w r) (s3_p (hq := hq) ..))
theorem s3_Mm (q : Fin 2048) (hq : q.val < 1536) : View.canon (AT point.sl.H13_4) (ix2 0 q) = (View.canon (AT point.sl.H13_3) (ix2 0 q) : EReal) := by
  delta point.sl.H13_4
  exact cn_miss _ _ 0 q hq
theorem s3_Cm (w : Fin 80) (q : Fin 2048) (hq : q.val < 1536) : View.canon (AT point.sl.H15_5) (ix2 w q) = View.canon (AT point.sl.H15_4) (ix2 w q) := by
  delta point.sl.H15_5
  exact cn_miss _ _ w q hq
/-- After the diagonal's block 3. -/
theorem col4 (hV : ∀ w k, ∃ x : ℝ, va V w k = (x : EReal)) (hS : ∀ k q, ∃ x : ℝ, sg Q K k q = (x : EReal)) (q : Fin 2048) : ∃ n, 512 * (4 * (i 1).val) + min (512 * 4) (512 * (q.val / 512 + 1)) = n ∧ Col (va V) (Tq Q K (i 1).val q) n (View.canon (AT point.sl.H13_4) (ix2 0 q)) (fun w => View.canon (AT point.sl.H15_5) (ix2 w q)) := by
  have h := (AT col3) hV hS q
  obtain ⟨n, hn, h⟩ := h
  by_cases hc : 1536 ≤ q.val
  · have hq : q.val = 512 * 3 + (⟨q.val - 1536, by omega⟩ : Fin 512).val := by show q.val = 512 * 3 + (q.val - 1536); omega
    refine ⟨512 * (4 * (i 1).val + 3) + 512, by omega, ?_⟩
    obtain rfl : n = 512 * (4 * (i 1).val + 3) := by omega
    exact stage (n := 512 * (4 * (i 1).val + 3)) hV (T_top Q K hS _ q) (T_bot Q K hS _ q _ (by omega)) ((AT s3_M) _ q hq) ((AT s3_C) · _ q hq) h
  · refine ⟨n, by omega, ?_⟩
    rw [(AT s3_Mm) q (by omega)]
    exact Eq.mp (congrArg (Col _ _ _ _) (funext fun w => ((AT s3_Cm) w q (by omega)).symm)) h
/-- What a point leaves in the outputs. -/
theorem o_eq (q : Fin 2048) (d : Fin 128) : a5.view.read (Elt Ideal) (a5.view.writes (Elt Ideal) a5.view.junk (AT point.sl.H5_1)) (ix3 0 q d)
    = if h : 64 ≤ d.val then Ideal.div (View.canon (AT point.sl.H15_5) (ix2 ⟨16 + (d.val - 64), by omega⟩ q)) (View.canon (AT point.sl.H15_5) (ix2 15 q)) else 0 := by
  delta point.sl.H5_1
  rw [View.read_writes_full]
  refine (pay80_apply _ _ _ _).trans ?_
  have e1 : (AT point.sl.v293) (ix2 0 q) = View.canon (AT point.sl.H15_5) (ix2 15 q) := by
    delta point.sl.v293
    exact rdc _ _ 0 q 15 q rfl (Nat.zero_add _).symm
  have e2 : ∀ e : Fin 64, (AT point.sl.v294) (ix2 e q) = View.canon (AT point.sl.H15_5) (ix2 ⟨16 + e.val, by omega⟩ q) := fun e => by
    delta point.sl.v294
    exact rdc _ _ e q ⟨16 + e.val, by omega⟩ q rfl (Nat.zero_add _).symm
  by_cases h : 64 ≤ d.val
  · rw [dif_pos h, dif_pos h, e1, e2]
  · rw [dif_neg h, dif_neg h]
/-- What a point leaves in the log-sums. -/
theorem l_eq (q : Fin 2048) : a6.view.read (Elt Ideal) (a6.view.writes (Elt Ideal) a6.view.junk (AT point.sl.H6_1)) (ix3 0 0 q)
    = (View.canon (AT point.sl.H13_4) (ix2 0 q) + Ideal.log (View.canon (AT point.sl.H15_5) (ix2 15 q)) * Named.named (F := Ideal) (φ := .f32) Cert.Kernel3Ideal.κ "log2e" 0x3FB8AA3B#32 : EReal) := by
  delta point.sl.H6_1 point.sl.r_11
  rw [View.read_writes_full]
  refine (pay81_apply _ _ _).trans ?_
  have e1 : (AT point.sl.v293) (ix2 0 q) = View.canon (AT point.sl.H15_5) (ix2 15 q) := by
    delta point.sl.v293
    exact rdc _ _ 0 q 15 q rfl (Nat.zero_add _).symm
  have e2 : (AT point.sl.v303) (ix2 0 q) = View.canon (AT point.sl.H13_4) (ix2 0 q) := by
    delta point.sl.v303
    exact rdc _ _ 0 q 0 q rfl (Nat.zero_add _).symm
  rw [e1, e2]
end Cert.Kernel3Ideal.Fwd
-- ==== Proof.WOut.lean ====
module
public import proofs.«01_k».proof.Proof.WEnd
public import proofs.«01_k».proof.Proof.WFrame
public import Idealize.ShloMosaic.Lib.Pipeline.ValueKit.Geometry
@[expose] public section
set_option maxRecDepth 16384
noncomputable section
namespace Cert.Kernel3Ideal.Fwd
open Cert.Kernel3Ideal Cert.Kernel3Ideal.Gen Idealize.ShloMosaic Idealize.ShloMosaic.TcCoe Idealize.SL.Sem
/-! The blocks a point finds and leaves, and the call's results. -/
variable (m : (ℓ : Loc nD τ sig) → Buf (Elt Ideal) ℓ) (c : Dev nD)
theorem idx_t : ∀ t : Fin cfg0.N, win0_0.index t = ![t.val / 4, t.val % 4, 0] ∧ win0_1.index t = ![t.val / 4, 0, 0] ∧ win0_2.index t = ![t.val / 4, 0, 0]
    ∧ win0_3.index t = ![t.val / 4, t.val % 4, 0] ∧ win0_4.index t = ![t.val / 4, 0, t.val % 4] ∧ (grid0.coords t 1).val = t.val % 4 :=
  (by decide +kernel : ∀ t : Fin grid0.N, _)
/-- A point's head. -/
def hd (t : Fin cfg0.N) : Fin 8 := ⟨t.val / 4, by have := t.isLt; have : cfg0.N = 32 := rfl; omega⟩
/-- A point's query. -/
def qry (t : Fin cfg0.N) (r : Fin 2048) : Fin 8192 := ⟨t.val % 4 * 2048 + r.val, by omega⟩
theorem blk0 (t : Fin cfg0.N) (r : Fin 2048) (d : Fin 128) : iblk m c 0 t (ix3 0 r d) = V m c main_v14 (ix3 (hd t) (qry t r) d) := by
  blk_ext [iblk, hd, qry, idx_t t]
theorem blk1 (t : Fin cfg0.N) (k : Fin 8192) (d : Fin 128) : iblk m c 1 t (ix3 0 k d) = V m c main_v17 (ix3 (hd t) k d) := by
  blk_ext [iblk, hd, idx_t t]
theorem blk2 (t : Fin cfg0.N) (w : Fin 128) (k : Fin 8192) : iblk m c 2 t (ix3 0 w k) = V m c main_v19 (ix3 (hd t) w k) := by
  blk_ext [iblk, hd, idx_t t]

/-- The two numbers a query's column ends with. -/
theorem out_col (t : Fin cfg0.N) (r : Fin 2048) (hV : ∀ w k, ∃ x : ℝ, va (iblk m c 2 t) w k = (x : EReal)) (hS : ∀ k q, ∃ x : ℝ, sg (iblk m c 0 t) (iblk m c 1 t) k q = (x : EReal)) :
    ∃ (n : ℕ) (M : EReal) (G : Fin 80 → EReal), 2048 * (t.val % 4) + r.val < n ∧ Col (va (iblk m c 2 t)) (Tq (iblk m c 0 t) (iblk m c 1 t) (t.val % 4) r) n M G
      ∧ (∀ d : Fin 128, outO m c t (ix3 0 r d) = (if h : 64 ≤ d.val then Ideal.div (G ⟨16 + (d.val - 64), by omega⟩) (G 15) else 0 : EReal))
      ∧ outL m c t (ix3 0 0 r) = (M + Ideal.log (G 15) * Named.named (F := Ideal) (φ := .f32) Cert.Kernel3Ideal.κ "log2e" 0x3FB8AA3B#32 : EReal) := by
  obtain ⟨n, hn, h⟩ := col4 c (grid0.coords t) (ms0_0 t) (hs0_0 t) (ms0_1 t) (hs0_1 t) (ms0_2 t) (hs0_2 t) (ms0_3 t) (hs0_3 t) (ms0_4 t) (hs0_4 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t) hV hS r
  have ei := (idx_t t).2.2.2.2.2
  rw [ei] at hn h
  refine ⟨n, _, _, by omega, h, fun d => ?_, ?_⟩
  · refine (congrFun (?_ : outO m c t = _) _).trans (o_eq c (grid0.coords t) (ms0_0 t) (hs0_0 t) (ms0_1 t) (hs0_1 t) (ms0_2 t) (hs0_2 t) (ms0_3 t) (hs0_3 t) (ms0_4 t) (hs0_4 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t) r d)
    delta outO run point
    with_reducible rfl
  · refine (congrFun (?_ : outL m c t = _) _).trans (l_eq c (grid0.coords t) (ms0_0 t) (hs0_0 t) (ms0_1 t) (hs0_1 t) (ms0_2 t) (hs0_2 t) (ms0_3 t) (hs0_3 t) (ms0_4 t) (hs0_4 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t) r)
    delta outL run point
    with_reducible rfl

theorem final3 (X : Fin 8 → Fin 8192 → Fin 128 → EReal) (hX : ∀ (t : Fin cfg0.N) (r : Fin 2048) (d : Fin 128), outO m c t (ix3 0 r d) = X (hd t) (qry t r) d) :
    (dats m 0 c).arrAt 3 cfg0.N = fun y => X (y 0) (y 1) (y 2) := by
  refine (dats m 0 c).arrAt_eq_of_covers 3 _ (by decide +kernel) fun t hf y => ?_
  have e0 : ((cfg0.win 3).blk t).view.emb y 0 = hd t := Fin.ext (by blk_simp [idx_t t]; try rfl)
  have e1 : ((cfg0.win 3).blk t).view.emb y 1 = qry t (y 1) := Fin.ext (by blk_simp [idx_t t]; try rfl)
  have e2 : ((cfg0.win 3).blk t).view.emb y 2 = y 2 := Fin.ext (by blk_simp [idx_t t])
  beta_reduce
  rw [e0, e1, e2]
  blk_simp [idx_t t]
  rw [after0_3]
  exact (congrArg (outO m c t) (show y = ix3 0 (y 1) (y 2) from funext fun a => match a with | ⟨0, _⟩ => Subsingleton.elim (α := Fin 1) _ _ | ⟨1, _⟩ => rfl | ⟨2, _⟩ => rfl)).trans (hX t (y 1) (y 2))
theorem final4 (X : Fin 8 → Fin 8192 → EReal) (hX : ∀ (t : Fin cfg0.N) (r : Fin 2048), outL m c t (ix3 0 0 r) = X (hd t) (qry t r)) :
    (dats m 0 c).arrAt 4 cfg0.N = fun y => X (y 0) (y 2) := by
  refine (dats m 0 c).arrAt_eq_of_covers 4 _ (by decide +kernel) fun t hf y => ?_
  have e0 : ((cfg0.win 4).blk t).view.emb y 0 = hd t := Fin.ext (by blk_simp [idx_t t]; try rfl)
  have e2 : ((cfg0.win 4).blk t).view.emb y 2 = qry t (y 2) := Fin.ext (by blk_simp [idx_t t]; try rfl)
  beta_reduce
  rw [e0, e2]
  blk_simp [idx_t t]
  rw [after0_4]
  exact (congrArg (outL m c t) (show y = ix3 0 0 (y 2) from funext fun a => match a with | ⟨0, _⟩ => Subsingleton.elim (α := Fin 1) _ _ | ⟨1, _⟩ => Subsingleton.elim (α := Fin 1) _ _ | ⟨2, _⟩ => rfl)).trans (hX t (y 2))
end Cert.Kernel3Ideal.Fwd
-- ==== Proof.WHost.lean ====
module
public import proofs.«01_k».proof.Proof.Gen.Kernel3Ideal.Frame
public import Idealize.ShloMosaic.Lib.Pointwise
public import Idealize.ShloMosaic.Lib.Claim
public import Idealize.ShloMosaic.Lib.Pipeline.ValueKit.Geometry
@[expose] public section
set_option maxRecDepth 16384
noncomputable section
namespace Cert.Kernel3Ideal.Fwd
open Cert.Kernel3Ideal Cert.Kernel3Ideal.Gen Idealize.ShloMosaic Idealize.ShloMosaic.TcCoe Idealize.SL.Sem
/-! What the host makes of the arguments before the call. -/
variable (m : (ℓ : Loc nD τ sig) → Buf (Elt Ideal) ℓ) (c : Dev nD)

/-- The argument `q`. -/
abbrev aq : Vec Ideal S8192x8x96 .f32 := m (c, Proc.tc.devRef main_arg0)
/-- The argument `k`. -/
abbrev ak : Vec Ideal S8192x8x96 .f32 := m (c, Proc.tc.devRef main_arg1)
/-- The argument `v`. -/
abbrev av : Vec Ideal S8192x8x64 .f32 := m (c, Proc.tc.devRef main_arg2)

theorem sitofp_zero : FloatOps.sitofp (F := Ideal) FTy.f32 0#32 = (0 : EReal) := by
  show ((((0#32 : BitVec 32).toInt : ℤ) : ℝ) : EReal) = 0
  simp

theorem h_v14 (h : Fin 8) (q : Fin 8192) (d : Fin 128) : V m c main_v14 (ix3 h q d) = (if hd : d.val < 96 then
      Ideal.div (Ideal.div (aq m c (ix3 q h ⟨d.val, hd⟩)) (Ideal.sqrt (Ideal.ofBits .f32 0x42C00000#32))) (Ideal.log (Ideal.ofBits .f32 0x40000000#32)) else 0 : EReal) := by
  simp only [V, List.flatten_cons, List.flatten_nil, List.append_nil, hostOps0, hostOps0_1, hostOps0_2, hostOps0_3, hostOps0_4, hostOps0_5, hostOps0_6, List.cons_append, List.nil_append]
  entry_read
  try simp only [StableHlo.TRef.toBuf, StableHlo.TRef.ofBuf, cast_eq]
  pointwise
  rw [sitofp_zero]
theorem h_v17 (h : Fin 8) (k : Fin 8192) (d : Fin 128) : V m c main_v17 (ix3 h k d) = (if hd : d.val < 96 then ak m c (ix3 k h ⟨d.val, hd⟩) else 0 : EReal) := by
  simp only [V, List.flatten_cons, List.flatten_nil, List.append_nil, hostOps0, hostOps0_1, hostOps0_2, hostOps0_3, hostOps0_4, hostOps0_5, hostOps0_6, List.cons_append, List.nil_append]
  entry_read
  try simp only [StableHlo.TRef.toBuf, StableHlo.TRef.ofBuf, cast_eq]
  pointwise
  rw [sitofp_zero]
theorem h_v19 (h : Fin 8) (w : Fin 128) (k : Fin 8192) : V m c main_v19 (ix3 h w k) = Scalar.select (IntOp.cmpi .eq (BitVec.ofNat 32 w.val) 63#32) (Ideal.ofBits .f32 0x3F800000#32)
      (if hw : w.val < 64 then ak m c (ix3 k h ⟨w.val, by omega⟩) else av m c (ix3 k h ⟨w.val - 64, by omega⟩) : EReal) := by
  simp only [V, List.flatten_cons, List.flatten_nil, List.append_nil, hostOps0, hostOps0_1, hostOps0_2, hostOps0_3, hostOps0_4, hostOps0_5, hostOps0_6, List.cons_append, List.nil_append]
  entry_read
  try simp only [StableHlo.TRef.toBuf, StableHlo.TRef.ofBuf, cast_eq]
  pointwise
end Cert.Kernel3Ideal.Fwd
-- ==== Proof.WRef.lean ====
module
public import proofs.«01_k».proof.Proof.VRef
public import proofs.«01_k».proof.Proof.WAlg
public import proofs.«01_k».proof.Proof.Gen.Reference3Ideal.Read
@[expose] public section
set_option maxRecDepth 16384
noncomputable section
namespace Cert.Reference3Ideal.Fwd
open Cert.Reference3Ideal Cert.Reference3Ideal.Gen Cert.Reference3Ideal.Read Idealize.ShloMosaic Idealize.ShloMosaic.TcCoe Idealize.SL.Sem
open Cert.Kernel2Ideal.Bwd (mxS mxS_le mxS_lt ofBits_bot sitofp_zero)
open Cert.Reference2Ideal.Bwd (i3 mask_eq)
open Cert.Kernel3Ideal.Fwd (sum_coe log_coe)
/-! The reference's results at an index. -/
variable (x0 x1 : FVec Ideal S8192x8x96 .f32) (x2 : FVec Ideal S8192x8x64 .f32)

theorem sum_fin {n : ℕ} (q : Fin n) (f : ℕ → ℝ) : ∑ k : Fin n, (if q.val < k.val then 0 else f k.val) = ∑ k ∈ Finset.range (q.val + 1), f k := by
  rw [Fin.sum_univ_eq_sum_range (fun k => if q.val < k then 0 else f k) n]
  have hq := q.isLt
  generalize q.val = x at hq ⊢
  obtain ⟨a, ha⟩ : ∃ a, n = (x + 1) + a := ⟨n - (x + 1), by omega⟩
  rw [ha, Finset.sum_range_add, Finset.sum_eq_zero (s := Finset.range a) (fun k _ => if_pos (by omega)), add_zero]
  exact Finset.sum_congr rfl fun k hk => if_neg (by have := Finset.mem_range.mp hk; omega)

/-- A query's weights, as sums over the keys up to its own. -/
theorem soft {n : ℕ} (q : Fin n) (s : ℕ → ℝ) (S : Fin n → EReal) (hS : ∀ k, S k = if q.val < k.val then ⊥ else (s k.val : EReal))
    (M : EReal) (hM : ∀ k, S k ≤ M) (ht : M < ⊤) : (∃ μ : ℝ, M = (μ : EReal))
    ∧ (∃ x : ℝ, 0 < x ∧ ∑ j, Ideal.exp (S j - M) = (x : EReal))
    ∧ Ideal.div (Ideal.log (∑ j, Ideal.exp (S j - M)) + M) ((Real.log 2 : ℝ) : EReal) = ((Real.log (∑ k ∈ Finset.range (q.val + 1), Real.exp (s k)) / Real.log 2 : ℝ) : EReal)
    ∧ ∀ (v : Fin n → EReal) (u : ℕ → ℝ), (∀ k, v k = (u k.val : EReal)) → ∑ k, Ideal.div (Ideal.exp (S k - M)) (∑ j, Ideal.exp (S j - M)) * v k
        = (((∑ k ∈ Finset.range (q.val + 1), u k * Real.exp (s k)) / ∑ k ∈ Finset.range (q.val + 1), Real.exp (s k) : ℝ) : EReal) := by
  have h2 : Real.log 2 ≠ 0 := (Real.log_pos (by norm_num)).ne'
  obtain ⟨μ, rfl⟩ : ∃ μ : ℝ, M = (μ : EReal) := by
    have hq := hM q
    rw [hS q, if_neg (lt_irrefl _)] at hq
    induction M using EReal.rec with
    | bot => exact absurd (le_bot_iff.1 hq) (EReal.coe_ne_bot _)
    | coe r => exact ⟨r, rfl⟩
    | top => exact absurd ht (lt_irrefl _)
  have hw : ∀ j, Ideal.exp (S j - (μ : EReal)) = (((if q.val < j.val then 0 else Real.exp (s j.val - μ)) : ℝ) : EReal) := fun j => by
    rw [hS j]
    split_ifs
    · rw [EReal.bot_sub]; rfl
    · rw [← EReal.coe_sub]; rfl
  have hz : ∀ f : ℕ → ℝ, ∑ k ∈ Finset.range (q.val + 1), f k * Real.exp (s k - μ) = (∑ k ∈ Finset.range (q.val + 1), f k * Real.exp (s k)) * Real.exp (-μ) := fun f => by
    rw [Finset.sum_mul]
    exact Finset.sum_congr rfl fun k _ => by rw [sub_eq_add_neg, Real.exp_add, mul_assoc]
  have hz1 : ∑ k ∈ Finset.range (q.val + 1), Real.exp (s k - μ) = (∑ k ∈ Finset.range (q.val + 1), Real.exp (s k)) * Real.exp (-μ) := by
    rw [Finset.sum_mul]
    exact Finset.sum_congr rfl fun k _ => by rw [sub_eq_add_neg, Real.exp_add]
  have hp : 0 < ∑ k ∈ Finset.range (q.val + 1), Real.exp (s k) := Finset.sum_pos (fun k _ => Real.exp_pos _) ⟨0, Finset.mem_range.2 (Nat.succ_pos _)⟩
  have hT : ∑ j, Ideal.exp (S j - (μ : EReal)) = (((∑ k ∈ Finset.range (q.val + 1), Real.exp (s k)) * Real.exp (-μ) : ℝ) : EReal) := by
    rw [Finset.sum_congr rfl fun j _ => hw j, sum_coe, sum_fin q fun k => Real.exp (s k - μ), hz1]
  have he := Real.exp_pos (-μ)
  rw [hT]
  refine ⟨⟨μ, rfl⟩, ⟨_, mul_pos hp he, rfl⟩, ?_, fun v u hv => ?_⟩
  · rw [log_coe (mul_pos hp he), Ideal.div_coe h2, ← EReal.coe_add, ← EReal.coe_mul, Real.log_mul hp.ne' he.ne', Real.log_exp]
    congr 1
    ring
  · have e : ∀ k : Fin n, Ideal.div (Ideal.exp (S k - (μ : EReal))) (((∑ k ∈ Finset.range (q.val + 1), Real.exp (s k)) * Real.exp (-μ) : ℝ) : EReal) * v k
        = (((if q.val < k.val then 0 else u k.val * Real.exp (s k.val - μ) * (1 / ((∑ k ∈ Finset.range (q.val + 1), Real.exp (s k)) * Real.exp (-μ)))) : ℝ) : EReal) := fun k => by
      rw [hw k, hv k, Ideal.div_coe (mul_pos hp he).ne', ← EReal.coe_mul, ← EReal.coe_mul]
      congr 1
      split_ifs
      · ring
      · ring
    rw [Finset.sum_congr rfl fun k _ => e k, sum_coe, sum_fin q fun k => u k * Real.exp (s k - μ) * (1 / ((∑ k ∈ Finset.range (q.val + 1), Real.exp (s k)) * Real.exp (-μ))), ← Finset.sum_mul, hz u]
    congr 1
    have a1 := hp.ne'
    have a2 := he.ne'
    generalize (∑ k ∈ Finset.range (q.val + 1), Real.exp (s k)) = Z at a1
    generalize (∑ k ∈ Finset.range (q.val + 1), u k * Real.exp (s k)) = W
    generalize Real.exp (-μ) = E at a2
    field_simp

/-- The scores with the later keys taken out. -/
abbrev scS : FVec Ideal S8x8192x8192 .f32 := val_main_v11 (F := Ideal) x0 x1

theorem sc_apply (h : Fin 8) (q k : Fin 8192) : scS x0 x1 (ix3 h q k)
    = if q.val < k.val then (⊥ : EReal) else ∑ e : Fin 96, Ideal.div (x0 (ix3 q h e)) (Ideal.sqrt (Ideal.ofBits .f32 0x42C00000#32)) * x1 (ix3 k h e) := by
  show val_main_v11 (F := Ideal) x0 x1 (ix3 h q k) = _
  rw [val_main_v11_apply, val_main_call0_v1_apply, val_main_v10_apply, val_main_v9_apply, val_main_v7_apply, val_main_v5_apply, val_main_v4_apply, val_main_v8_apply, val_main_v6_apply, val_main_v4_apply,
    val_main_call0_v2_apply, val_main_call0_v0_apply, val_main_cst_0_apply, val_main_v3_apply]
  refine (mask_eq q k _ _).trans ?_
  refine if_congr Iff.rfl ofBits_bot (Finset.sum_congr rfl fun e _ => ?_)
  rw [val_main_v2_apply, val_main_v1_apply, val_main_v0_apply, val_main_cst_apply]
  exact congrArg₂ (fun a b : EReal => Ideal.div a (Ideal.sqrt (Ideal.ofBits .f32 0x42C00000#32)) * b) (congrArg x0 (i3 _ q h e rfl rfl rfl)) (congrArg x1 (i3 _ k h e rfl rfl rfl))
theorem v14_eq (j : S8x8192.Idx) : val_main_v14 (F := Ideal) x0 x1 j = mxS (scS x0 x1) j := by
  rw [val_main_v14_apply, val_main_v13_apply]
  show max (Ideal.ofBits FTy.f32 0xFF800000#32) (mxS (scS x0 x1) j) = _
  rw [ofBits_bot]
  exact max_eq_right bot_le
theorem v18_eq (h : Fin 8) (q k : Fin 8192) : val_main_v18 (F := Ideal) x0 x1 (ix3 h q k) = Ideal.exp (scS x0 x1 (ix3 h q k) - mxS (scS x0 x1) (ix2 h q)) := by
  rw [val_main_v18_apply, val_main_v17_apply, val_main_v16_apply, val_main_v15_apply, v14_eq]
  exact congrArg (fun j => Ideal.exp (scS x0 x1 (ix3 h q k) - mxS (scS x0 x1) j)) (funext fun a => match a with | ⟨0, _⟩ => rfl | ⟨1, _⟩ => rfl)
theorem zero_eq : Ideal.ofBits FTy.f32 0x00000000#32 = (0 : EReal) := by simp [Ideal.ofBits, Ideal.ieee]
/-- The sum of a query's weights. -/
abbrev zS (h : Fin 8) (q : Fin 8192) : EReal := ∑ l : Fin 8192, Ideal.exp (scS x0 x1 (ix3 h q l) - mxS (scS x0 x1) (ix2 h q))
theorem v22_eq (h : Fin 8) (q k : Fin 8192) : val_main_v22 (F := Ideal) x0 x1 (ix3 h q k) = Ideal.div (Ideal.exp (scS x0 x1 (ix3 h q k) - mxS (scS x0 x1) (ix2 h q))) (zS x0 x1 h q) := by
  rw [val_main_v22_apply, v18_eq, val_main_v21_apply, val_main_v20_apply, val_main_v19_apply]
  refine congrArg (Ideal.div _) ?_
  rw [show (val_main_cst_3 (F := Ideal)) (Shape.Idx.first h_S_) = (0 : EReal) from zero_eq, zero_add]
  exact Finset.sum_congr rfl fun l _ => (congrArg (val_main_v18 (F := Ideal) x0 x1) (i3 _ h q l rfl rfl rfl)).trans (v18_eq x0 x1 h q l)
theorem v23_eq (h : Fin 8) (q : Fin 8192) (d : Fin 64) : val_main_v23 (F := Ideal) x0 x1 x2 (ix3 h q d)
    = ∑ k : Fin 8192, Ideal.div (Ideal.exp (scS x0 x1 (ix3 h q k) - mxS (scS x0 x1) (ix2 h q))) (zS x0 x1 h q) * x2 (ix3 k h d) := by
  rw [val_main_v23_apply]
  exact Finset.sum_congr rfl fun k _ => congrArg₂ (fun a b : EReal => a * b) ((congrArg (val_main_v22 (F := Ideal) x0 x1) (i3 _ h q k rfl rfl rfl)).trans (v22_eq x0 x1 h q k)) (congrArg x2 (i3 _ k h d rfl rfl rfl))
theorem v36_eq (h : Fin 8) (q : Fin 8192) (d : Fin 128) : val_main_v36 (F := Ideal) x0 x1 x2 (ix3 h q d) = (if hd : 64 ≤ d.val then val_main_v23 (F := Ideal) x0 x1 x2 (ix3 h q ⟨d.val - 64, by omega⟩) else 0 : EReal) := by
  unfold val_main_v36 val_main_call1_v0 val_main_c
  generalize val_main_v23 (F := Ideal) x0 x1 x2 = y
  pointwise
  rw [sitofp_zero]
  have hp : (64 ≤ d.val ∧ d.val - 64 < 64) = (64 ≤ d.val) := propext ⟨And.left, fun h => ⟨h, by omega⟩⟩
  simp only [hp]
theorem v24_eq (j : S8x8192.Idx) : val_main_v24 (F := Ideal) x0 x1 j = mxS (scS x0 x1) j := rfl
theorem v28_eq (h : Fin 8) (q k : Fin 8192) : val_main_v28 (F := Ideal) x0 x1 (ix3 h q k) = Ideal.exp (scS x0 x1 (ix3 h q k) - mxS (scS x0 x1) (ix2 h q)) := by
  rw [val_main_v28_apply, val_main_v27_apply, val_main_v26_apply, val_main_v25_apply, v24_eq]
  exact congrArg (fun j => Ideal.exp (scS x0 x1 (ix3 h q k) - mxS (scS x0 x1) j)) (funext fun a => match a with | ⟨0, _⟩ => rfl | ⟨1, _⟩ => rfl)
theorem v29_eq (h : Fin 8) (q : Fin 8192) : val_main_v29 (F := Ideal) x0 x1 (ix2 h q) = zS x0 x1 h q := by
  rw [val_main_v29_apply, show (val_main_cst_5 (F := Ideal)) (Shape.Idx.first h_S_) = (0 : EReal) from zero_eq, zero_add]
  exact Finset.sum_congr rfl fun l _ => (congrArg (val_main_v28 (F := Ideal) x0 x1) (i3 _ h q l rfl rfl rfl)).trans (v28_eq x0 x1 h q l)
theorem v35_eq (h : Fin 8) (q : Fin 8192) : val_main_v35 (F := Ideal) x0 x1 (ix3 h q 0) = Ideal.div (Ideal.log (zS x0 x1 h q) + mxS (scS x0 x1) (ix2 h q)) (Ideal.log (Ideal.ofBits .f32 0x40000000#32)) := by
  have e1 : idx_main_v30 (ix3 h q 0) = ix2 h q := funext fun a => match a with | ⟨0, _⟩ => rfl | ⟨1, _⟩ => rfl
  have e2 : idx_main_v25 (ix3 h q 0) = ix2 h q := funext fun a => match a with | ⟨0, _⟩ => rfl | ⟨1, _⟩ => rfl
  rw [val_main_v35_apply, val_main_v34_apply, val_main_v33_apply, val_main_cst_6_apply, val_main_v32_apply, val_main_v31_apply, val_main_v30_apply, val_main_v25_apply, e1, e2, v24_eq, v29_eq]
  rfl
theorem v37_eq (h : Fin 8) (q : Fin 8192) : val_main_v37 (F := Ideal) x0 x1 (ix3 h 0 q) = Ideal.div (Ideal.log (zS x0 x1 h q) + mxS (scS x0 x1) (ix2 h q)) (Ideal.log (Ideal.ofBits .f32 0x40000000#32)) := by
  rw [← v35_eq]
  unfold val_main_v37
  generalize val_main_v35 (F := Ideal) x0 x1 = y
  pointwise
  try rfl
end Cert.Reference3Ideal.Fwd
-- ==== Proof.WPre4.lean ====
module
public import proofs.«01_k».proof.Proof.Pre
public import proofs.«01_k».proof.Proof.Gen.Pre_finite4
@[expose] public section
noncomputable section
namespace Cert.Pre_finite4.Fwd
open Cert.Pre_finite4 Idealize.ShloMosaic Idealize.ShloMosaic.TcCoe Idealize.SL.Sem
open Cert.Tail (Fnt)
/-! What the precondition says of the arguments: every entry of the three is a real number. -/
theorem ok (x0 x1 : FVec Ideal S8192x8x96 .f32) (x2 : FVec Ideal S8192x8x64 .f32) (h : fn (F := Ideal) x0 x1 x2 = fun _ => 1#1) : (∀ i, Fnt (x0 i)) ∧ (∀ i, Fnt (x1 i)) ∧ ∀ i, Fnt (x2 i) := by
  have j : S_.Idx := fun i => i.elim0
  have h := congrFun h j
  dsimp only [fn] at h
  obtain ⟨h, h2⟩ := Cert.Pre_finite.Tail.andi_split _ _ _ h
  obtain ⟨h0, h1⟩ := Cert.Pre_finite.Tail.andi_split _ _ _ h
  exact ⟨fun i => Cert.Pre_finite.Tail.fnt_of_all x0 _ _ _ _ j h0 i, fun i => Cert.Pre_finite.Tail.fnt_of_all x1 _ _ _ _ j h1 i, fun i => Cert.Pre_finite.Tail.fnt_of_all x2 _ _ _ _ j h2 i⟩
end Cert.Pre_finite4.Fwd
-- ==== Proof.WFin.lean ====
module
public import proofs.«01_k».proof.Proof.WOut
public import proofs.«01_k».proof.Proof.WHost
public import proofs.«01_k».proof.Proof.WRef
public import proofs.«01_k».proof.Proof.WPre4
@[expose] public section
set_option maxRecDepth 16384
noncomputable section
namespace Cert.Kernel3Ideal.Fwd
open Cert.Kernel3Ideal Cert.Kernel3Ideal.Gen Idealize.ShloMosaic Idealize.ShloMosaic.TcCoe Idealize.SL.Sem
open Cert.Tail (Fnt score_eq log_two root_eq)
open Cert.Reference3Ideal.Read (val_main_v36 val_main_v37)
open Cert.Kernel2Ideal.Bwd (mxS mxS_le mxS_lt)
open Cert.Reference3Ideal.Fwd (scS sc_apply soft v36_eq v23_eq v37_eq)
/-! The claim of the attention forward call. -/
variable (m : (ℓ : Loc nD τ sig) → Buf (Elt Ideal) ℓ) (c : Dev nD)

/-- A score of the reference. -/
def rs (h : Fin 8) (q k : Fin 8192) : EReal := ∑ e : Fin 96, Ideal.div (aq m c (ix3 q h e)) (Ideal.sqrt (Ideal.ofBits .f32 0x42C00000#32)) * ak m c (ix3 k h e)

theorem score (hq : ∀ i, Fnt (aq m c i)) (hk : ∀ i, Fnt (ak m c i)) (t : Fin cfg0.N) (r : Fin 2048) (k : ℕ) :
    ∃ s : ℝ, sg (iblk m c 0 t) (iblk m c 1 t) k r = ((s / Real.log 2 : ℝ) : EReal) ∧ ∀ h : k < 8192, rs m c (hd t) (qry t r) ⟨k, h⟩ = (s : EReal) := by
  by_cases h : k < 8192
  · obtain ⟨s, h1, h2⟩ := score_eq (fun e => aq m c (ix3 (qry t r) (hd t) e)) (fun e => ak m c (ix3 ⟨k, h⟩ (hd t) e)) (fun e => hq _) (fun e => hk _)
    refine ⟨s, Eq.trans ?_ h2, fun _ => h1⟩
    refine Finset.sum_congr rfl fun e _ => congrArg₂ (fun a b : EReal => a * b) ?_ ((blk0 m c t r e).trans (h_v14 m c _ _ e))
    unfold kAt
    rw [dif_pos h]
    exact (blk1 m c t ⟨k, h⟩ e).trans (h_v17 m c _ _ e)
  · refine ⟨0, ?_, fun h' => absurd h' h⟩
    rw [zero_div]
    refine Finset.sum_eq_zero fun e _ => ?_
    unfold kAt
    rw [dif_neg h, zero_mul]

theorem one_eq : Ideal.ofBits .f32 0x3F800000#32 = ((1 : ℝ) : EReal) := by
  simp [Ideal.ofBits, Ideal.ieee, -EReal.coe_mul]; norm_num
theorem sel63 (w : ℕ) (hw : w < 128) (a b : EReal) : Scalar.select (IntOp.cmpi .eq (BitVec.ofNat 32 w) 63#32) a b = if w = 63 then a else b := by
  have e : (IntOp.cmpi .eq (BitVec.ofNat 32 w) 63#32) = BitVec.ofBool (decide (w = 63)) := by
    show BitVec.ofBool (BitVec.ofNat 32 w == 63#32) = _
    congr 1
    rw [Bool.eq_iff_iff, beq_iff_eq, decide_eq_true_iff, ← BitVec.toNat_inj, BitVec.toNat_ofNat, Nat.mod_eq_of_lt (by omega)]
    rfl
  rw [e]
  by_cases h : w = 63
  · rw [if_pos h, decide_eq_true h]; rfl
  · rw [if_neg h, decide_eq_false h]; rfl

theorem value (hk : ∀ i, Fnt (ak m c i)) (hv : ∀ i, Fnt (av m c i)) (t : Fin cfg0.N) (w : Fin 80) (k : ℕ) :
    ∃ u : ℝ, va (iblk m c 2 t) w k = (u : EReal) ∧ (k < 8192 → w = 15 → u = 1) ∧ ∀ (h : k < 8192) (e : Fin 64), w.val = 16 + e.val → av m c (ix3 ⟨k, h⟩ (hd t) e) = (u : EReal) := by
  unfold va
  by_cases h : k < 8192
  · rw [dif_pos h, blk2 m c t, h_v19, sel63 _ (by show 48 + w.val < 128; omega), one_eq]
    by_cases h63 : w.val = 15
    · refine ⟨1, if_pos (by show 48 + w.val = 63; omega), fun _ _ => rfl, fun _ e he => by omega⟩
    · rw [if_neg (by show ¬ 48 + w.val = 63; omega)]
      by_cases h64 : 48 + w.val < 64
      · obtain ⟨u, hu⟩ := hk (ix3 ⟨k, h⟩ (hd t) ⟨48 + w.val, by omega⟩)
        exact ⟨u, (dif_pos h64).trans hu, fun _ hw => absurd (congrArg Fin.val hw) h63, fun _ e he => by omega⟩
      · obtain ⟨u, hu⟩ := hv (ix3 ⟨k, h⟩ (hd t) ⟨48 + w.val - 64, by omega⟩)
        refine ⟨u, (dif_neg h64).trans hu, fun _ hw => absurd (congrArg Fin.val hw) h63, fun _ e he => ?_⟩
        rw [← hu]
        exact congrArg (fun e => av m c (ix3 ⟨k, h⟩ (hd t) e)) (Fin.ext (by show e.val = 48 + w.val - 64; omega))
  · rw [dif_neg h]
    exact ⟨0, rfl, fun h' => absurd h' h, fun h' => absurd h' h⟩

theorem log2e_eq : Named.named (F := Ideal) (φ := .f32) Cert.Kernel3Ideal.κ "log2e" 0x3FB8AA3B#32 = ((1 / Real.log 2 : ℝ) : EReal) := by
  rw [one_div]; rfl

theorem out_eq (hq : ∀ i, Fnt (aq m c i)) (hk : ∀ i, Fnt (ak m c i)) (hv : ∀ i, Fnt (av m c i)) (t : Fin cfg0.N) (r : Fin 2048) :
    (∀ d : Fin 128, outO m c t (ix3 0 r d) = val_main_v36 (F := Ideal) (aq m c) (ak m c) (av m c) (ix3 (hd t) (qry t r) d))
      ∧ outL m c t (ix3 0 0 r) = val_main_v37 (F := Ideal) (aq m c) (ak m c) (ix3 (hd t) 0 (qry t r)) := by
  choose s hs1 hs2 using score m c hq hk t
  choose u hu1 hu2 hu3 using value m c hk hv t
  obtain ⟨n, M, G, hn, hc, hO, hL⟩ := out_col m c t r (fun w k => ⟨_, hu1 w k⟩) (fun k q => ⟨_, hs1 q k⟩)
  have hlim : 2048 * (t.val % 4) + r.val = (qry t r).val := by show _ = t.val % 4 * 2048 + r.val; omega
  have hT : Tq (iblk m c 0 t) (iblk m c 1 t) (t.val % 4) r = fun k => if k ≤ (qry t r).val then ((s r k / Real.log 2 : ℝ) : EReal) else ⊥ := by
    funext k
    unfold Tq
    rw [hs1 r k, hlim]
  rw [hlim] at hn
  rw [hT] at hc
  obtain ⟨f1, f2⟩ := Col.fin hn (fun k => s r k / Real.log 2) u hu1 15 (fun k hk => hu2 15 k (by omega) rfl) hc
  have h2 : Real.log 2 ≠ 0 := (Real.log_pos (by norm_num)).ne'
  simp only [div_mul_cancel₀ _ h2] at f1 f2
  have hS : ∀ k : Fin 8192, scS (aq m c) (ak m c) (ix3 (hd t) (qry t r) k) = if (qry t r).val < k.val then ⊥ else (s r k.val : EReal) := fun k => by
    rw [sc_apply]
    exact if_congr Iff.rfl rfl (hs2 r k.val k.isLt)
  have ht' : ∀ (h : Fin 8) (q k : Fin 8192), scS (aq m c) (ak m c) (ix3 h q k) < ⊤ := fun h q k => by
    rw [sc_apply]
    split_ifs
    · exact bot_lt_top
    · obtain ⟨x, hx, -⟩ := score_eq (fun e => aq m c (ix3 q h e)) (fun e => ak m c (ix3 k h e)) (fun e => hq _) (fun e => hk _)
      exact lt_of_eq_of_lt hx (EReal.coe_lt_top x)
  have ht : ∀ i, scS (aq m c) (ak m c) i < ⊤ := fun i =>
    lt_of_eq_of_lt (congrArg (scS (aq m c) (ak m c)) (Cert.Reference2Ideal.Bwd.i3 i (i 0) (i 1) (i 2) rfl rfl rfl)) (ht' _ _ _)
  obtain ⟨-, -, g1, g2⟩ := soft (qry t r) (s r) (fun k => scS (aq m c) (ak m c) (ix3 (hd t) (qry t r) k)) hS (mxS (scS (aq m c) (ak m c)) (ix2 (hd t) (qry t r)))
    (fun k => mxS_le _ _ _ k) (mxS_lt _ ht _)
  refine ⟨fun d => ?_, ?_⟩
  · rw [hO d, v36_eq]
    by_cases h : 64 ≤ d.val
    · rw [dif_pos h, dif_pos h, f2, v23_eq]
      exact (g2 (fun k => av m c (ix3 k (hd t) ⟨d.val - 64, by omega⟩)) _ fun k => hu3 _ k.val k.isLt _ rfl).symm
    · rw [dif_neg h, dif_neg h]
  · rw [hL, log2e_eq, f1, v37_eq, log_two]
    exact g1.symm

/-- The outputs and the log-sums after the call are the reference's. -/
theorem algebraic : Cert.algebraic_Kernel3Ideal_Reference3Ideal_pre_finite4 := by
  intro m g m' g' hpre hm
  have hok := fun c : Dev nD => Cert.Pre_finite4.Fwd.ok _ _ _ (hpre c)
  refine ⟨fun c => val_main_v36 (F := Ideal) (aq m c) (ak m c) (av m c), fun c => val_main_v37 (F := Ideal) (aq m c) (ak m c), ?_, ?_⟩
  · refine (θ_run _ _ _).mono (fun r h c => ?_) (θ_run_and (unchanged m g) (run_main m g))
    obtain ⟨hq, hk, hv⟩ := hok c
    refine ⟨funext fun i => ?_, funext fun i => ?_, h.1 c⟩
    · refine (congrFun (((h.2 c).1 3).trans (final3 m c (fun a b d => val_main_v36 (F := Ideal) (aq m c) (ak m c) (av m c) (ix3 a b d)) fun t r => (out_eq m c hq hk hv t r).1)) i).trans ?_
      exact congrArg (val_main_v36 (F := Ideal) (aq m c) (ak m c) (av m c)) (Cert.Reference2Ideal.Bwd.i3 i _ _ _ rfl rfl rfl).symm
    · refine (congrFun (((h.2 c).1 4).trans (final4 m c (fun a b => val_main_v37 (F := Ideal) (aq m c) (ak m c) (ix3 a 0 b)) fun t r => (out_eq m c hq hk hv t r).2)) i).trans ?_
      have e1 : (i 1).val = 0 := Nat.lt_one_iff.mp (i 1).isLt
      exact congrArg (val_main_v37 (F := Ideal) (aq m c) (ak m c)) (Cert.Reference2Ideal.Bwd.i3 i (i 0) 0 (i 2) rfl e1 rfl).symm
  · refine (θ_run _ _ _).mono (fun r h c => ?_) (Cert.Reference3Ideal.Value.run (F := Ideal) m' g')
    obtain ⟨h0, h1, h2⟩ := h c
    obtain ⟨a0, a1, a2⟩ := hm c
    have e0 := Cert.Reference3Ideal.Read.val_main_v36_eq (F := Ideal) m' c
    have e1 := h1.trans (Cert.Reference3Ideal.Read.val_main_v37_eq (F := Ideal) _ _)
    rw [a0, a1, a2] at e0
    rw [a0, a1] at e1
    refine ⟨?_, ?_, h2⟩
    · exact h0.trans e0
    · exact e1
end Cert.Kernel3Ideal.Fwd
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_finite
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Loops
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite4
public import proofs.«01_k».proof.Proof.Gen.Pre_finite2
public import proofs.«01_k».proof.Proof.Gen.Pre_finite3
public import proofs.«01_k».proof.Proof.BitsFrame
public import proofs.«01_k».proof.Proof.IFrame
public import proofs.«01_k».proof.Proof.Gen.On_values_grad
public import proofs.«01_k».proof.Proof.Final
public import proofs.«01_k».proof.Proof.VFin
public import proofs.«01_k».proof.Proof.VFinW
public import proofs.«01_k».proof.Proof.BitsFrame3
public import proofs.«01_k».proof.Proof.WFin
public import Idealize.ShloMosaic.Adequacy
public import Idealize.ShloMosaic.Init

@[expose] public section

noncomputable section

namespace Cert.Proof

open Idealize.ShloMosaic Idealize.SL.Sem

/-- The backward tail leaves its arguments as they were, in the machine's numbers. -/
theorem frame_kernel : Cert.quiescent_Kernel := fun m ρ _ => Cert.Kernel.Gen.frame m ρ

/-- The backward tail leaves its arguments as they were, over the extended reals. -/
theorem frame_kernelIdeal : Cert.quiescent_KernelIdeal := fun m ρ _ => Cert.KernelIdeal.Gen.frame m ρ

/-- The reference leaves its arguments as they were; it declares no semaphore. -/
theorem frame_referenceIdeal : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

theorem frame_kernelIdeal_finite : Cert.quiescent_KernelIdeal_pre_finite := fun m ρ _ => Cert.KernelIdeal.Gen.frame m ρ

theorem frame_referenceIdeal_finite : Cert.quiescent_ReferenceIdeal_pre_finite := fun m ρ _ => frame_referenceIdeal m ρ trivial

/-- The attention backward call leaves its arguments as they were, in the machine's numbers. -/
theorem frame_kernel2 : Cert.quiescent_Kernel2 := Cert.Kernel2.Bwd.frame

/-- The attention backward call leaves its arguments as they were, over the extended reals. -/
theorem frame_kernel2Ideal : Cert.quiescent_Kernel2Ideal := fun m ρ _ => Cert.Kernel2Ideal.Bwd.frame m ρ

theorem frame_kernel2Ideal_finite : Cert.quiescent_Kernel2Ideal_pre_finite2 := fun m ρ _ => Cert.Kernel2Ideal.Bwd.frame m ρ

theorem frame_kernel2Ideal_finite3 : Cert.quiescent_Kernel2Ideal_pre_finite3 := fun m ρ _ => Cert.Kernel2Ideal.Bwd.frame m ρ

theorem frame_reference2Ideal : Cert.quiescent_Reference2Ideal := fun m ρ _ =>
  (θ_run Cert.Reference2Ideal.defs _ _).mono
    (fun r h => ⟨fun c => (h c).2.2.2, sem_eq_zero_of_no_sems (by decide) r.2⟩)
    (Cert.Reference2Ideal.Value.run (F := Ideal) m ρ)

theorem frame_reference2Ideal_finite : Cert.quiescent_Reference2Ideal_pre_finite2 := fun m ρ _ => frame_reference2Ideal m ρ trivial

theorem frame_reference2Ideal_finite3 : Cert.quiescent_Reference2Ideal_pre_finite3 := fun m ρ _ => frame_reference2Ideal m ρ trivial

/-- The attention forward call leaves its arguments as they were, in the machine's numbers. -/
theorem frame_kernel3 : Cert.quiescent_Kernel3 := Cert.Kernel3.Fwd.frame

/-- The attention forward call leaves its arguments as they were, over the extended reals. -/
theorem frame_kernel3Ideal : Cert.quiescent_Kernel3Ideal := fun m ρ _ => Cert.Kernel3Ideal.Fwd.frame m ρ

theorem frame_kernel3Ideal_finite : Cert.quiescent_Kernel3Ideal_pre_finite4 := fun m ρ _ => Cert.Kernel3Ideal.Fwd.frame m ρ

theorem frame_reference3Ideal : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

theorem frame_reference3Ideal_finite : Cert.quiescent_Reference3Ideal_pre_finite4 := fun m ρ _ => frame_reference3Ideal m ρ trivial

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite.Gen.facts, Cert.Pre_finite2.Gen.facts, Cert.Pre_finite3.Gen.facts, Cert.Pre_finite4.Gen.facts, Cert.On_values_grad.Gen.facts,
    frame_kernel, frame_kernelIdeal, frame_kernelIdeal_finite, frame_referenceIdeal, frame_referenceIdeal_finite,
    frame_kernel2, frame_kernel2Ideal, frame_kernel2Ideal_finite, frame_kernel2Ideal_finite3, frame_reference2Ideal, frame_reference2Ideal_finite, frame_reference2Ideal_finite3,
    frame_kernel3, frame_kernel3Ideal, frame_kernel3Ideal_finite, frame_reference3Ideal, frame_reference3Ideal_finite, trivial, Cert.Tail.algebraic,
    IdealRules.named_const.statement Cert.Kernel2Ideal.κ "ln2" .f32 0x3F317218#32 ((Real.log 2 : ℝ) : EReal) rfl,
    Cert.Kernel2Ideal.Bwd.algebraic, Cert.Kernel2Ideal.Bwd.algebraicAll,
    IdealRules.named_const.statement Cert.Kernel3Ideal.κ "log2e" .f32 0x3FB8AA3B#32 (((Real.log 2)⁻¹ : ℝ) : EReal) rfl, Cert.Kernel3Ideal.Fwd.algebraic⟩

end Cert.Proof

end
